-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "q_scale" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  IdealRules.named_const.Statement Cert.Kernel3Ideal.κ "q_scale" .f32 0x3E0293EE#32 (((Real.sqrt 128)⁻¹ * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v21_0)) (v1 : (c : Dev Cert.Kernel3Ideal.nD) → Buf (Elt Ideal) ((c.tc : Thread Cert.Kernel3Ideal.nD Cert.Kernel3Ideal.τ).loc Cert.Kernel3Ideal.main_v21_1)) (v2 : (c : Dev Cert.Kernel3Ideal.nD) → Buf (Elt Ideal) ((c.tc : Thread Cert.Kernel3Ideal.nD Cert.Kernel3Ideal.τ).loc Cert.Kernel3Ideal.main_v21_2)) (v3 : (c : Dev Cert.Kernel3Ideal.nD) → Buf (Elt Ideal) ((c.tc : Thread Cert.Kernel3Ideal.nD Cert.Kernel3Ideal.τ).loc Cert.Kernel3Ideal.main_v21_3)) (v4 : (c : Dev Cert.Kernel3Ideal.nD) → Buf (Elt Ideal) ((c.tc : Thread Cert.Kernel3Ideal.nD Cert.Kernel3Ideal.τ).loc Cert.Kernel3Ideal.main_v21_4)) (v5 : (c : Dev Cert.Kernel3Ideal.nD) → Buf (Elt Ideal) ((c.tc : Thread Cert.Kernel3Ideal.nD Cert.Kernel3Ideal.τ).loc Cert.Kernel3Ideal.main_v21_5)) (v6 : (c : Dev Cert.Kernel3Ideal.nD) → Buf (Elt Ideal) ((c.tc : Thread Cert.Kernel3Ideal.nD Cert.Kernel3Ideal.τ).loc Cert.Kernel3Ideal.main_v21_6)) (v7 : (c : Dev Cert.Kernel3Ideal.nD) → Buf (Elt Ideal) ((c.tc : Thread Cert.Kernel3Ideal.nD Cert.Kernel3Ideal.τ).loc Cert.Kernel3Ideal.main_v21_7)) (v8 : (c : Dev Cert.Kernel3Ideal.nD) → Buf (Elt Ideal) ((c.tc : Thread Cert.Kernel3Ideal.nD Cert.Kernel3Ideal.τ).loc Cert.Kernel3Ideal.main_v21_8)) (v9 : (c : Dev Cert.Kernel3Ideal.nD) → Buf (Elt Ideal) ((c.tc : Thread Cert.Kernel3Ideal.nD Cert.Kernel3Ideal.τ).loc Cert.Kernel3Ideal.main_v21_9)) (v10 : (c : Dev Cert.Kernel3Ideal.nD) → Buf (Elt Ideal) ((c.tc : Thread Cert.Kernel3Ideal.nD Cert.Kernel3Ideal.τ).loc Cert.Kernel3Ideal.main_v21_10)) (v11 : (c : Dev Cert.Kernel3Ideal.nD) → Buf (Elt Ideal) ((c.tc : Thread Cert.Kernel3Ideal.nD Cert.Kernel3Ideal.τ).loc Cert.Kernel3Ideal.main_v21_11)) (v12 : (c : Dev Cert.Kernel3Ideal.nD) → Buf (Elt Ideal) ((c.tc : Thread Cert.Kernel3Ideal.nD Cert.Kernel3Ideal.τ).loc Cert.Kernel3Ideal.main_v21_12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_0) = v0 c
          ∧ r.2.mem ((c.tc : Thread Cert.Kernel3Ideal.nD Cert.Kernel3Ideal.τ).loc Cert.Kernel3Ideal.main_v21_1) = v1 c
          ∧ r.2.mem ((c.tc : Thread Cert.Kernel3Ideal.nD Cert.Kernel3Ideal.τ).loc Cert.Kernel3Ideal.main_v21_2) = v2 c
          ∧ r.2.mem ((c.tc : Thread Cert.Kernel3Ideal.nD Cert.Kernel3Ideal.τ).loc Cert.Kernel3Ideal.main_v21_3) = v3 c
          ∧ r.2.mem ((c.tc : Thread Cert.Kernel3Ideal.nD Cert.Kernel3Ideal.τ).loc Cert.Kernel3Ideal.main_v21_4) = v4 c
          ∧ r.2.mem ((c.tc : Thread Cert.Kernel3Ideal.nD Cert.Kernel3Ideal.τ).loc Cert.Kernel3Ideal.main_v21_5) = v5 c
          ∧ r.2.mem ((c.tc : Thread Cert.Kernel3Ideal.nD Cert.Kernel3Ideal.τ).loc Cert.Kernel3Ideal.main_v21_6) = v6 c
          ∧ r.2.mem ((c.tc : Thread Cert.Kernel3Ideal.nD Cert.Kernel3Ideal.τ).loc Cert.Kernel3Ideal.main_v21_7) = v7 c
          ∧ r.2.mem ((c.tc : Thread Cert.Kernel3Ideal.nD Cert.Kernel3Ideal.τ).loc Cert.Kernel3Ideal.main_v21_8) = v8 c
          ∧ r.2.mem ((c.tc : Thread Cert.Kernel3Ideal.nD Cert.Kernel3Ideal.τ).loc Cert.Kernel3Ideal.main_v21_9) = v9 c
          ∧ r.2.mem ((c.tc : Thread Cert.Kernel3Ideal.nD Cert.Kernel3Ideal.τ).loc Cert.Kernel3Ideal.main_v21_10) = v10 c
          ∧ r.2.mem ((c.tc : Thread Cert.Kernel3Ideal.nD Cert.Kernel3Ideal.τ).loc Cert.Kernel3Ideal.main_v21_11) = v11 c
          ∧ r.2.mem ((c.tc : Thread Cert.Kernel3Ideal.nD Cert.Kernel3Ideal.τ).loc Cert.Kernel3Ideal.main_v21_12) = v12 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v207) = v0 c
          ∧ r.2.mem ((c.tc : Thread Cert.Reference3Ideal.nD Cert.Reference3Ideal.τ).loc Cert.Reference3Ideal.main_v208) = v1 c
          ∧ r.2.mem ((c.tc : Thread Cert.Reference3Ideal.nD Cert.Reference3Ideal.τ).loc Cert.Reference3Ideal.main_v209) = v2 c
          ∧ r.2.mem ((c.tc : Thread Cert.Reference3Ideal.nD Cert.Reference3Ideal.τ).loc Cert.Reference3Ideal.main_v210) = v3 c
          ∧ r.2.mem ((c.tc : Thread Cert.Reference3Ideal.nD Cert.Reference3Ideal.τ).loc Cert.Reference3Ideal.main_v211) = v4 c
          ∧ r.2.mem ((c.tc : Thread Cert.Reference3Ideal.nD Cert.Reference3Ideal.τ).loc Cert.Reference3Ideal.main_v212) = v5 c
          ∧ r.2.mem ((c.tc : Thread Cert.Reference3Ideal.nD Cert.Reference3Ideal.τ).loc Cert.Reference3Ideal.main_v213) = v6 c
          ∧ r.2.mem ((c.tc : Thread Cert.Reference3Ideal.nD Cert.Reference3Ideal.τ).loc Cert.Reference3Ideal.main_v214) = v7 c
          ∧ r.2.mem ((c.tc : Thread Cert.Reference3Ideal.nD Cert.Reference3Ideal.τ).loc Cert.Reference3Ideal.main_v215) = v8 c
          ∧ r.2.mem ((c.tc : Thread Cert.Reference3Ideal.nD Cert.Reference3Ideal.τ).loc Cert.Reference3Ideal.main_v216) = v9 c
          ∧ r.2.mem ((c.tc : Thread Cert.Reference3Ideal.nD Cert.Reference3Ideal.τ).loc Cert.Reference3Ideal.main_v217) = v10 c
          ∧ r.2.mem ((c.tc : Thread Cert.Reference3Ideal.nD Cert.Reference3Ideal.τ).loc Cert.Reference3Ideal.main_v218) = v11 c
          ∧ r.2.mem ((c.tc : Thread Cert.Reference3Ideal.nD Cert.Reference3Ideal.τ).loc Cert.Reference3Ideal.main_v219) = v12 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S32x2048x8x128 : Shape := ⟨4, ![32, 2048, 8, 128]⟩
abbrev S32x2048x2x128 : Shape := ⟨4, ![32, 2048, 2, 128]⟩
abbrev S8 : Shape := ⟨1, ![8]⟩
abbrev S_ : Shape := ⟨0, ![]⟩

class Facts : Prop where
  bcast_S_S32x2048x8x128 : S_.BroadcastsInDim S32x2048x8x128 (![] : Fin 0 → Fin S32x2048x8x128.rank)
  bcast_S_S32x2048x2x128 : S_.BroadcastsInDim S32x2048x2x128 (![] : Fin 0 → Fin S32x2048x2x128.rank)
  bcast_S_S8 : S_.BroadcastsInDim S8 (![] : Fin 0 → Fin S8.rank)

variable [Facts]

def fn {F : FTy → Type} [FloatOps F] (main_arg0 : FVec F S32x2048x8x128 .f32) (main_arg1 : FVec F S32x2048x2x128 .f32) (main_arg2 : FVec F S32x2048x2x128 .f32) (main_arg3 : FVec F S8 .f32) : IVec S32x2048x8x128 1 × IVec S32x2048x2x128 1 × IVec S8 1 :=
  let main_v0 : FVec F S32x2048x8x128 .f32 := Host.absf main_arg0
  let main_cst : FVec F S_ .f32 := constant S_ .f32 0x7F800000#32
  let main_v1 : FVec F S32x2048x8x128 .f32 := broadcastInDim S32x2048x8x128 ![] bcast_S_S32x2048x8x128 main_cst
  let main_v2 : IVec S32x2048x8x128 1 := cmpf .olt main_v0 main_v1
  let main_v3 : FVec F S32x2048x2x128 .f32 := Host.absf main_arg1
  let main_cst_0 : FVec F S_ .f32 := constant S_ .f32 0x7F800000#32
  let main_v4 : FVec F S32x2048x2x128 .f32 := broadcastInDim S32x2048x2x128 ![] bcast_S_S32x2048x2x128 main_cst_0
  let main_v5 : IVec S32x2048x2x128 1 := cmpf .olt main_v3 main_v4
  let main_v6 : FVec F S8 .f32 := Host.absf main_arg3
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Kernel.lean ====
abbrev S32x2048x8x128 : Shape := ⟨4, ![32, 2048, 8, 128]⟩
abbrev S32x2048x2x128 : Shape := ⟨4, ![32, 2048, 2, 128]⟩
abbrev S8 : Shape := ⟨1, ![8]⟩
abbrev S65536x1024 : Shape := ⟨2, ![65536, 1024]⟩
abbrev S65536x256 : Shape := ⟨2, ![65536, 256]⟩
abbrev S32x2048x256 : Shape := ⟨3, ![32, 2048, 256]⟩
abbrev S32x256x2048 : Shape := ⟨3, ![32, 256, 2048]⟩
abbrev S32x2048x1024 : Shape := ⟨3, ![32, 2048, 1024]⟩
abbrev S384 : Shape := ⟨1, ![384]⟩
abbrev S1x384x1 : Shape := ⟨3, ![1, 384, 1]⟩
abbrev S128 : Shape := ⟨1, ![128]⟩
abbrev S1x1x128 : Shape := ⟨3, ![1, 1, 128]⟩
abbrev S1x384x128 : Shape := ⟨3, ![1, 384, 128]⟩
abbrev S3 : Shape := ⟨1, ![3]⟩
abbrev S3x1x1 : Shape := ⟨3, ![3, 1, 1]⟩
abbrev S_ : Shape := ⟨0, ![]⟩
abbrev S3x384x128 : Shape := ⟨3, ![3, 384, 128]⟩
abbrev S1x512x1024 : Shape := ⟨3, ![1, 512, 1024]⟩
abbrev S1x2048x256 : Shape := ⟨3, ![1, 2048, 256]⟩
abbrev S1x256x2048 : Shape := ⟨3, ![1, 256, 2048]⟩
abbrev S384x128 : Shape := ⟨2, ![384, 128]⟩
abbrev S1x128x128 : Shape := ⟨3, ![1, 128, 128]⟩
abbrev S128x128 : Shape := ⟨2, ![128, 128]⟩
abbrev S256x128 : Shape := ⟨2, ![256, 128]⟩
abbrev S384x256 : Shape := ⟨2, ![384, 256]⟩
abbrev S1 : Shape := ⟨1, ![1]⟩
abbrev S1x128 : Shape := ⟨2, ![1, 128]⟩
abbrev S1x256 : Shape := ⟨2, ![1, 256]⟩
abbrev S256 : Shape := ⟨1, ![256]⟩
abbrev S1x128x384 : Shape := ⟨3, ![1, 128, 384]⟩
abbrev S128x384 : Shape := ⟨2, ![128, 384]⟩
abbrev S128x256 : Shape := ⟨2, ![128, 256]⟩

abbrev nBuf : Space → Nat
  | .hbm => 38
  | .vmem => 9
  | .smem => 1
  | _ => 0

abbrev bufTy : (tb : Table) → Fin (tcTables nBuf tb) → BufTy
  | .hbm, ⟨0, _⟩ => ⟨S32x2048x8x128, .f32⟩
  | .hbm, ⟨1, _⟩ => ⟨S32x2048x2x128, .f32⟩
  | .hbm, ⟨2, _⟩ => ⟨S32x2048x2x128, .f32⟩
  | .hbm, ⟨3, _⟩ => ⟨S8, .f32⟩
  | .hbm, ⟨4, _⟩ => ⟨S65536x1024, .f32⟩
  | .hbm, ⟨5, _⟩ => ⟨S32x2048x2x128, .bf16⟩
  | .hbm, ⟨6, _⟩ => ⟨S65536x256, .bf16⟩
  | .hbm, ⟨7, _⟩ => ⟨S32x2048x256, .f32⟩
  | .hbm, ⟨8, _⟩ => ⟨S32x256x2048, .f32⟩
  | .hbm, ⟨9, _⟩ => ⟨S32x256x2048, .bf16⟩
  | .hbm, ⟨10, _⟩ => ⟨S32x2048x1024, .f32⟩
  | .hbm, ⟨11, _⟩ => ⟨S32x2048x256, .bf16⟩
  | .hbm, ⟨12, _⟩ => ⟨S384, .i32⟩
  | .hbm, ⟨13, _⟩ => ⟨S1x384x1, .i32⟩
  | .hbm, ⟨14, _⟩ => ⟨S128, .i32⟩
  | .hbm, ⟨15, _⟩ => ⟨S1x1x128, .i32⟩
  | .hbm, ⟨16, _⟩ => ⟨S1x384x128, .i32⟩
  | .hbm, ⟨17, _⟩ => ⟨S1x384x128, .i32⟩
  | .hbm, ⟨18, _⟩ => ⟨S1x384x128, .i32⟩
  | .hbm, ⟨19, _⟩ => ⟨S3, .i32⟩
  | .hbm, ⟨20, _⟩ => ⟨S3x1x1, .i32⟩
  | .hbm, ⟨21, _⟩ => ⟨S_, .i32⟩
  | .hbm, ⟨22, _⟩ => ⟨S3x1x1, .i32⟩
  | .hbm, ⟨23, _⟩ => ⟨S3x1x1, .i32⟩
  | .hbm, ⟨24, _⟩ => ⟨S3x384x128, .i32⟩
  | .hbm, ⟨25, _⟩ => ⟨S3x384x128, .i32⟩
  | .hbm, ⟨26, _⟩ => ⟨S3x384x128, .i32⟩
  | .hbm, ⟨27, _⟩ => ⟨S3x384x128, .i32⟩
  | .hbm, ⟨28, _⟩ => ⟨S_, .i32⟩
  | .hbm, ⟨29, _⟩ => ⟨S3x384x128, .i32⟩
  | .hbm, ⟨30, _⟩ => ⟨S3x384x128, .i1⟩
  | .hbm, ⟨31, _⟩ => ⟨S_, .f32⟩
  | .hbm, ⟨32, _⟩ => ⟨S_, .f32⟩
  | .hbm, ⟨33, _⟩ => ⟨S3x384x128, .f32⟩
  | .hbm, ⟨34, _⟩ => ⟨S3x384x128, .f32⟩
  | .hbm, ⟨35, _⟩ => ⟨S3x384x128, .f32⟩
  | .hbm, ⟨36, _⟩ => ⟨S3x384x128, .f32⟩
  | .hbm, ⟨37, _⟩ => ⟨S32x2048x1024, .bf16⟩
  | .local _ .vmem, ⟨0, _⟩ => ⟨S3x384x128, .f32⟩
  | .local _ .vmem, ⟨1, _⟩ => ⟨S1x512x1024, .f32⟩
  | .local _ .vmem, ⟨2, _⟩ => ⟨S1x512x1024, .f32⟩
  | .local _ .vmem, ⟨3, _⟩ => ⟨S1x2048x256, .bf16⟩
  | .local _ .vmem, ⟨4, _⟩ => ⟨S1x2048x256, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x512x1024, .bf16⟩
  | .local _ .vmem, ⟨8, _⟩ => ⟨S1x512x1024, .bf16⟩
  | .local _ .smem, ⟨0, _⟩ => ⟨S8, .f32⟩
  | _, _ => ⟨S32x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let c1664_i32 : BitVec 32 := 1664#32
  let c0_i32_0 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  let c128_i32 : BitVec 32 := 128#32
  let v2 : BitVec 32 := Scalar.subi v1 c128_i32
  let v3 : BitVec 32 := Scalar.maxsi c0_i32_0 v2
  let v4 : BitVec 32 := Scalar.minsi c1664_i32 v3
  v4
def k0_off1 (i : grid0.Coords) (c0_i32 : BitVec 32) : Fin 3 → Nat :=
  let c0 : Index := 0#32
  let c1664_i32 : BitVec 32 := 1664#32
  let c0_i32_0 : BitVec 32 := 0#32
  let arg1 : BitVec 32 := BitVec.ofNat 32 (i 1).val
  let c512_i32 : BitVec 32 := 512#32
  let v0 : BitVec 32 := Scalar.muli arg1 c512_i32
  let v1 : BitVec 32 := Scalar.addi v0 c0_i32
  let c128_i32 : BitVec 32 := 128#32
  let v2 : BitVec 32 := Scalar.subi v1 c128_i32
  let v3 : BitVec 32 := Scalar.maxsi c0_i32_0 v2
  let v4 : BitVec 32 := Scalar.minsi c1664_i32 v3
  let v5 : BitVec 32 := v4
  let v6 : Index := Scalar.indexCast v5
  let c0_1 : Index := 0#32
  ![0, v6.toNat, 0]
def k0_mult2 (i : grid0.Coords) : BitVec 32 :=
  let c1664_i32_12 : BitVec 32 := 1664#32
  let c0_i32_11 : BitVec 32 := 0#32
  let arg1 : BitVec 32 := BitVec.ofNat 32 (i 1).val
  let c512_i32 : BitVec 32 := 512#32
  let v0 : BitVec 32 := Scalar.muli arg1 c512_i32
  let c0_i32_9 : BitVec 32 := 0#32
  let v21 : BitVec 32 := Scalar.addi v0 c0_i32_9
  let c128_i32_10 : BitVec 32 := 128#32
  let v22 : BitVec 32 := Scalar.subi v21 c128_i32_10
  let v23 : BitVec 32 := Scalar.maxsi c0_i32_11 v22
  let v24 : BitVec 32 := Scalar.minsi c1664_i32_12 v23
  v24
def k0_mult3 (i : grid0.Coords) : BitVec 32 :=
  let c1664_i32_25 : BitVec 32 := 1664#32
  let c0_i32_24 : BitVec 32 := 0#32
  let arg1 : BitVec 32 := BitVec.ofNat 32 (i 1).val
  let c512_i32 : BitVec 32 := 512#32
  let v0 : BitVec 32 := Scalar.muli arg1 c512_i32
  let c0_i32_22 : BitVec 32 := 0#32
  let v41 : BitVec 32 := Scalar.addi v0 c0_i32_22
  let c128_i32_23 : BitVec 32 := 128#32
  let v42 : BitVec 32 := Scalar.subi v41 c128_i32_23
  let v43 : BitVec 32 := Scalar.maxsi c0_i32_24 v42
  let v44 : BitVec 32 := Scalar.minsi c1664_i32_25 v43
  v44
def k0_off2 (i : grid0.Coords) (c0_i32_22 : BitVec 32) : Fin 3 → Nat :=
  let arg1 : BitVec 32 := BitVec.ofNat 32 (i 1).val
  let c512_i32 : BitVec 32 := 512#32
  let v0 : BitVec 32 := Scalar.muli arg1 c512_i32
  let v41 : BitVec 32 := Scalar.addi v0 c0_i32_22
  let c1664_i32_25 : BitVec 32 := 1664#32
  let c0_i32_24 : BitVec 32 := 0#32
  let c128_i32_23 : BitVec 32 := 128#32
  let v42 : BitVec 32 := Scalar.subi v41 c128_i32_23
  let v43 : BitVec 32 := Scalar.maxsi c0_i32_24 v42
  let v44 : BitVec 32 := Scalar.minsi c1664_i32_25 v43
  let v45 : BitVec 32 := v44
  let v46 : BitVec 32 := Scalar.subi v41 v45
  let c0_i32_27 : BitVec 32 := 0#32
  let v48 : BitVec 1 := Scalar.cmpi .sgt v46 c0_i32_27
  let v49 : BitVec 32 := Scalar.extui v48
  let c0_i32_28 : BitVec 32 := 0#32
  let v50 : BitVec 1 := Scalar.cmpi .slt v46 c0_i32_28
  let v51 : BitVec 32 := Scalar.extui v50
  let v52 : BitVec 32 := Scalar.subi v49 v51
  let c128_i32_26 : BitVec 32 := 128#32
  let c0_i32_29 : BitVec 32 := 0#32
  let v53 : BitVec 1 := Scalar.cmpi .sgt c128_i32_26 c0_i32_29
  let v54 : BitVec 32 := Scalar.extui v53
  let c0_i32_30 : BitVec 32 := 0#32
  let v55 : BitVec 1 := Scalar.cmpi .slt c128_i32_26 c0_i32_30
  let v56 : BitVec 32 := Scalar.extui v55
  let v57 : BitVec 32 := Scalar.subi v54 v56
  let v58 : BitVec 1 := Scalar.cmpi .ne v52 v57
  let v59 : BitVec 32 := Scalar.remsi v46 c128_i32_26
  let c0_i32_31 : BitVec 32 := 0#32
  let v60 : BitVec 1 := Scalar.cmpi .ne v59 c0_i32_31
  let v61 : BitVec 1 := Scalar.andi v58 v60
  let v47 : BitVec 32 := Scalar.divsi v46 c128_i32_26
  let c1_i32 : BitVec 32 := 1#32
  let v62 : BitVec 32 := Scalar.subi v47 c1_i32
  let v63 : BitVec 32 := Scalar.select v61 v62 v47
  let v64 : Index := Scalar.indexCast v63
  let c0_32 : Index := 0#32
  let c0_33 : Index := 0#32
  ![v64.toNat, 0, 0]
def k0_mult4 (i : grid0.Coords) : BitVec 32 :=
  let c1664_i32_43 : BitVec 32 := 1664#32
  let c0_i32_42 : BitVec 32 := 0#32
  let arg1 : BitVec 32 := BitVec.ofNat 32 (i 1).val
  let c512_i32 : BitVec 32 := 512#32
  let v0 : BitVec 32 := Scalar.muli arg1 c512_i32
  let c0_i32_40 : BitVec 32 := 0#32
  let v90 : BitVec 32 := Scalar.addi v0 c0_i32_40
  let c128_i32_41 : BitVec 32 := 128#32
  let v91 : BitVec 32 := Scalar.subi v90 c128_i32_41
  let v92 : BitVec 32 := Scalar.maxsi c0_i32_42 v91
  let v93 : BitVec 32 := Scalar.minsi c1664_i32_43 v92
  v93
def k0_off3 (i : grid0.Coords) (c0_i32_40 : BitVec 32) : Fin 3 → Nat :=
  let c0_44 : Index := 0#32
  let c1664_i32_43 : BitVec 32 := 1664#32
  let c0_i32_42 : BitVec 32 := 0#32
  let arg1 : BitVec 32 := BitVec.ofNat 32 (i 1).val
  let c512_i32 : BitVec 32 := 512#32
  let v0 : BitVec 32 := Scalar.muli arg1 c512_i32
  let v90 : BitVec 32 := Scalar.addi v0 c0_i32_40
  let c128_i32_41 : BitVec 32 := 128#32
  let v91 : BitVec 32 := Scalar.subi v90 c128_i32_41
  let v92 : BitVec 32 := Scalar.maxsi c0_i32_42 v91
  let v93 : BitVec 32 := Scalar.minsi c1664_i32_43 v92
  let v94 : BitVec 32 := v93
  let v95 : Index := Scalar.indexCast v94
  let c128_45 : Index := 128#32
  ![0, v95.toNat, 128]
def k0_mult5 (i : grid0.Coords) : BitVec 32 :=
  let c1664_i32_56 : BitVec 32 := 1664#32
  let c0_i32_55 : BitVec 32 := 0#32
  let arg1 : BitVec 32 := BitVec.ofNat 32 (i 1).val
  let c512_i32 : BitVec 32 := 512#32
  let v0 : BitVec 32 := Scalar.muli arg1 c512_i32
  let c0_i32_53 : BitVec 32 := 0#32
  let v110 : BitVec 32 := Scalar.addi v0 c0_i32_53
  let c128_i32_54 : BitVec 32 := 128#32
  let v111 : BitVec 32 := Scalar.subi v110 c128_i32_54
  let v112 : BitVec 32 := Scalar.maxsi c0_i32_55 v111
  let v113 : BitVec 32 := Scalar.minsi c1664_i32_56 v112
  v113
def k0_mult6 (i : grid0.Coords) : BitVec 32 :=
  let c1664_i32_74 : BitVec 32 := 1664#32
  let c0_i32_73 : BitVec 32 := 0#32
  let arg1 : BitVec 32 := BitVec.ofNat 32 (i 1).val
  let c512_i32 : BitVec 32 := 512#32
  let v0 : BitVec 32 := Scalar.muli arg1 c512_i32
  let c0_i32_71 : BitVec 32 := 0#32
  let v159 : BitVec 32 := Scalar.addi v0 c0_i32_71
  let c128_i32_72 : BitVec 32 := 128#32
  let v160 : BitVec 32 := Scalar.subi v159 c128_i32_72
  let v161 : BitVec 32 := Scalar.maxsi c0_i32_73 v160
  let v162 : BitVec 32 := Scalar.minsi c1664_i32_74 v161
  v162
def k0_off4 (i : grid0.Coords) (c0_i32_71 : BitVec 32) : Fin 3 → Nat :=
  let c0_75 : Index := 0#32
  let c0_76 : Index := 0#32
  let c1664_i32_74 : BitVec 32 := 1664#32
  let c0_i32_73 : BitVec 32 := 0#32
  let arg1 : BitVec 32 := BitVec.ofNat 32 (i 1).val
  let c512_i32 : BitVec 32 := 512#32
  let v0 : BitVec 32 := Scalar.muli arg1 c512_i32
  let v159 : BitVec 32 := Scalar.addi v0 c0_i32_71
  let c128_i32_72 : BitVec 32 := 128#32
  let v160 : BitVec 32 := Scalar.subi v159 c128_i32_72
  let v161 : BitVec 32 := Scalar.maxsi c0_i32_73 v160
  let v162 : BitVec 32 := Scalar.minsi c1664_i32_74 v161
  let v163 : BitVec 32 := v162
  let v164 : Index := Scalar.indexCast v163
  ![0, 0, v164.toNat]
def k0_mult7 (i : grid0.Coords) : BitVec 32 :=
  let c1664_i32_87 : BitVec 32 := 1664#32
  let c0_i32_86 : BitVec 32 := 0#32
  let arg1 : BitVec 32 := BitVec.ofNat 32 (i 1).val
  let c512_i32 : BitVec 32 := 512#32
  let v0 : BitVec 32 := Scalar.muli arg1 c512_i32
  let c0_i32_84 : BitVec 32 := 0#32
  let v182 : BitVec 32 := Scalar.addi v0 c0_i32_84
  let c128_i32_85 : BitVec 32 := 128#32
  let v183 : BitVec 32 := Scalar.subi v182 c128_i32_85
  let v184 : BitVec 32 := Scalar.maxsi c0_i32_86 v183
  let v185 : BitVec 32 := Scalar.minsi c1664_i32_87 v184
  v185
def k0_mult8 (i : grid0.Coords) : BitVec 32 :=
  let c1664_i32_100 : BitVec 32 := 1664#32
  let c0_i32_99 : BitVec 32 := 0#32
  let arg1 : BitVec 32 := BitVec.ofNat 32 (i 1).val
  let c512_i32 : BitVec 32 := 512#32
  let v0 : BitVec 32 := Scalar.muli arg1 c512_i32
  let c0_i32_97 : BitVec 32 := 0#32
  let v202 : BitVec 32 := Scalar.addi v0 c0_i32_97
  let c128_i32_98 : BitVec 32 := 128#32
  let v203 : BitVec 32 := Scalar.subi v202 c128_i32_98
  let v204 : BitVec 32 := Scalar.maxsi c0_i32_99 v203
  let v205 : BitVec 32 := Scalar.minsi c1664_i32_100 v204
  v205
def k0_mult9 (i : grid0.Coords) : BitVec 32 :=
  let c1664_i32_118 : BitVec 32 := 1664#32
  let c0_i32_117 : BitVec 32 := 0#32
  let arg1 : BitVec 32 := BitVec.ofNat 32 (i 1).val
  let c512_i32 : BitVec 32 := 512#32
  let v0 : BitVec 32 := Scalar.muli arg1 c512_i32
  let c0_i32_115 : BitVec 32 := 0#32
  let v251 : BitVec 32 := Scalar.addi v0 c0_i32_115
  let c128_i32_116 : BitVec 32 := 128#32
  let v252 : BitVec 32 := Scalar.subi v251 c128_i32_116
  let v253 : BitVec 32 := Scalar.maxsi c0_i32_117 v252
  let v254 : BitVec 32 := Scalar.minsi c1664_i32_118 v253
  v254
def k0_mult10 (i : grid0.Coords) : BitVec 32 :=
  let c1664_i32_131 : BitVec 32 := 1664#32
  let c0_i32_130 : BitVec 32 := 0#32
  let arg1 : BitVec 32 := BitVec.ofNat 32 (i 1).val
  let c512_i32 : BitVec 32 := 512#32
  let v0 : BitVec 32 := Scalar.muli arg1 c512_i32
  let c128_i32_128 : BitVec 32 := 128#32
  let v274 : BitVec 32 := Scalar.addi v0 c128_i32_128
  let c128_i32_129 : BitVec 32 := 128#32
  let v275 : BitVec 32 := Scalar.subi v274 c128_i32_129
  let v276 : BitVec 32 := Scalar.maxsi c0_i32_130 v275
  let v277 : BitVec 32 := Scalar.minsi c1664_i32_131 v276
  v277
def k0_mult11 (i : grid0.Coords) : BitVec 32 :=
  let c1664_i32_146 : BitVec 32 := 1664#32
  let c0_i32_145 : BitVec 32 := 0#32
  let arg1 : BitVec 32 := BitVec.ofNat 32 (i 1).val
  let c512_i32 : BitVec 32 := 512#32
  let v0 : BitVec 32 := Scalar.muli arg1 c512_i32
  let c0_i32_143 : BitVec 32 := 0#32
  let v294 : BitVec 32 := Scalar.addi v0 c0_i32_143
  let c128_i32_144 : BitVec 32 := 128#32
  let v295 : BitVec 32 := Scalar.subi v294 c128_i32_144
  let v296 : BitVec 32 := Scalar.maxsi c0_i32_145 v295
  let v297 : BitVec 32 := Scalar.minsi c1664_i32_146 v296
  v297
def k0_mult12 (i : grid0.Coords) : BitVec 32 :=
  let c1664_i32_164 : BitVec 32 := 1664#32
  let c0_i32_163 : BitVec 32 := 0#32
  let arg1 : BitVec 32 := BitVec.ofNat 32 (i 1).val
  let c512_i32 : BitVec 32 := 512#32
  let v0 : BitVec 32 := Scalar.muli arg1 c512_i32
  let c0_i32_161 : BitVec 32 := 0#32
  let v343 : BitVec 32 := Scalar.addi v0 c0_i32_161
  let c128_i32_162 : BitVec 32 := 128#32
  let v344 : BitVec 32 := Scalar.subi v343 c128_i32_162
  let v345 : BitVec 32 := Scalar.maxsi c0_i32_163 v344
  let v346 : BitVec 32 := Scalar.minsi c1664_i32_164 v345
  v346
def k0_off5 (i : grid0.Coords) (c0_i32_161 : BitVec 32) : Fin 3 → Nat :=
  let c0_165 : Index := 0#32
  let c128_166 : Index := 128#32
  let c1664_i32_164 : BitVec 32 := 1664#32
  let c0_i32_163 : BitVec 32 := 0#32
  let arg1 : BitVec 32 := BitVec.ofNat 32 (i 1).val
  let c512_i32 : BitVec 32 := 512#32
  let v0 : BitVec 32 := Scalar.muli arg1 c512_i32
  let v343 : BitVec 32 := Scalar.addi v0 c0_i32_161
  let c128_i32_162 : BitVec 32 := 128#32
  let v344 : BitVec 32 := Scalar.subi v343 c128_i32_162
  let v345 : BitVec 32 := Scalar.maxsi c0_i32_163 v344
  let v346 : BitVec 32 := Scalar.minsi c1664_i32_164 v345
  let v347 : BitVec 32 := v346
  let v348 : Index := Scalar.indexCast v347
  ![0, 128, v348.toNat]
def k0_mult13 (i : grid0.Coords) : BitVec 32 :=
  let c1664_i32_177 : BitVec 32 := 1664#32
  let c0_i32_176 : BitVec 32 := 0#32
  let arg1 : BitVec 32 := BitVec.ofNat 32 (i 1).val
  let c512_i32 : BitVec 32 := 512#32
  let v0 : BitVec 32 := Scalar.muli arg1 c512_i32
  let c128_i32_174 : BitVec 32 := 128#32
  let v366 : BitVec 32 := Scalar.addi v0 c128_i32_174
  let c128_i32_175 : BitVec 32 := 128#32
  let v367 : BitVec 32 := Scalar.subi v366 c128_i32_175
  let v368 : BitVec 32 := Scalar.maxsi c0_i32_176 v367
  let v369 : BitVec 32 := Scalar.minsi c1664_i32_177 v368
  v369
def k0_mult14 (i : grid0.Coords) : BitVec 32 :=
  let c1664_i32_192 : BitVec 32 := 1664#32
  let c0_i32_191 : BitVec 32 := 0#32
  let arg1 : BitVec 32 := BitVec.ofNat 32 (i 1).val
  let c512_i32 : BitVec 32 := 512#32
  let v0 : BitVec 32 := Scalar.muli arg1 c512_i32
  let c128_i32_189 : BitVec 32 := 128#32
  let v386 : BitVec 32 := Scalar.addi v0 c128_i32_189
  let c128_i32_190 : BitVec 32 := 128#32
  let v387 : BitVec 32 := Scalar.subi v386 c128_i32_190
  let v388 : BitVec 32 := Scalar.maxsi c0_i32_191 v387
  let v389 : BitVec 32 := Scalar.minsi c1664_i32_192 v388
  v389
def k0_mult15 (i : grid0.Coords) : BitVec 32 :=
  let c1664_i32_212 : BitVec 32 := 1664#32
  let c0_i32_211 : BitVec 32 := 0#32
  let arg1 : BitVec 32 := BitVec.ofNat 32 (i 1).val
  let c512_i32 : BitVec 32 := 512#32
  let v0 : BitVec 32 := Scalar.muli arg1 c512_i32
  let c0_i32_209 : BitVec 32 := 0#32
  let v435 : BitVec 32 := Scalar.addi v0 c0_i32_209
  let c128_i32_210 : BitVec 32 := 128#32
  let v436 : BitVec 32 := Scalar.subi v435 c128_i32_210
  let v437 : BitVec 32 := Scalar.maxsi c0_i32_211 v436
  let v438 : BitVec 32 := Scalar.minsi c1664_i32_212 v437
  v438
def k0_mult16 (i : grid0.Coords) : BitVec 32 :=
  let c1664_i32_225 : BitVec 32 := 1664#32
  let c0_i32_224 : BitVec 32 := 0#32
  let arg1 : BitVec 32 := BitVec.ofNat 32 (i 1).val
  let c512_i32 : BitVec 32 := 512#32
  let v0 : BitVec 32 := Scalar.muli arg1 c512_i32
  let c128_i32_222 : BitVec 32 := 128#32
  let v458 : BitVec 32 := Scalar.addi v0 c128_i32_222
  let c128_i32_223 : BitVec 32 := 128#32
  let v459 : BitVec 32 := Scalar.subi v458 c128_i32_223
  let v460 : BitVec 32 := Scalar.maxsi c0_i32_224 v459
  let v461 : BitVec 32 := Scalar.minsi c1664_i32_225 v460
  v461
def k0_mult17 (i : grid0.Coords) : BitVec 32 :=
  let c1664_i32_240 : BitVec 32 := 1664#32
  let c0_i32_239 : BitVec 32 := 0#32
  let arg1 : BitVec 32 := BitVec.ofNat 32 (i 1).val
  let c512_i32 : BitVec 32 := 512#32
  let v0 : BitVec 32 := Scalar.muli arg1 c512_i32
  let c128_i32_237 : BitVec 32 := 128#32
  let v478 : BitVec 32 := Scalar.addi v0 c128_i32_237
  let c128_i32_238 : BitVec 32 := 128#32
  let v479 : BitVec 32 := Scalar.subi v478 c128_i32_238
  let v480 : BitVec 32 := Scalar.maxsi c0_i32_239 v479
  let v481 : BitVec 32 := Scalar.minsi c1664_i32_240 v480
  v481
def k0_mult18 (i : grid0.Coords) : BitVec 32 :=
  let c1664_i32_260 : BitVec 32 := 1664#32
  let c0_i32_259 : BitVec 32 := 0#32
  let arg1 : BitVec 32 := BitVec.ofNat 32 (i 1).val
  let c512_i32 : BitVec 32 := 512#32
  let v0 : BitVec 32 := Scalar.muli arg1 c512_i32
  let c128_i32_257 : BitVec 32 := 128#32
  let v527 : BitVec 32 := Scalar.addi v0 c128_i32_257
  let c128_i32_258 : BitVec 32 := 128#32
  let v528 : BitVec 32 := Scalar.subi v527 c128_i32_258
  let v529 : BitVec 32 := Scalar.maxsi c0_i32_259 v528
  let v530 : BitVec 32 := Scalar.minsi c1664_i32_260 v529
  v530
def k0_mult19 (i : grid0.Coords) : BitVec 32 :=
  let c1664_i32_273 : BitVec 32 := 1664#32
  let c0_i32_272 : BitVec 32 := 0#32
  let arg1 : BitVec 32 := BitVec.ofNat 32 (i 1).val
  let c512_i32 : BitVec 32 := 512#32
  let v0 : BitVec 32 := Scalar.muli arg1 c512_i32
  let c128_i32_270 : BitVec 32 := 128#32
  let v550 : BitVec 32 := Scalar.addi v0 c128_i32_270
  let c128_i32_271 : BitVec 32 := 128#32
  let v551 : BitVec 32 := Scalar.subi v550 c128_i32_271
  let v552 : BitVec 32 := Scalar.maxsi c0_i32_272 v551
  let v553 : BitVec 32 := Scalar.minsi c1664_i32_273 v552
  v553
def k0_mult20 (i : grid0.Coords) : BitVec 32 :=
  let c1664_i32_288 : BitVec 32 := 1664#32
  let c0_i32_287 : BitVec 32 := 0#32
  let arg1 : BitVec 32 := BitVec.ofNat 32 (i 1).val
  let c512_i32 : BitVec 32 := 512#32
  let v0 : BitVec 32 := Scalar.muli arg1 c512_i32
  let c128_i32_285 : BitVec 32 := 128#32
  let v570 : BitVec 32 := Scalar.addi v0 c128_i32_285
  let c128_i32_286 : BitVec 32 := 128#32
  let v571 : BitVec 32 := Scalar.subi v570 c128_i32_286
  let v572 : BitVec 32 := Scalar.maxsi c0_i32_287 v571
  let v573 : BitVec 32 := Scalar.minsi c1664_i32_288 v572
  v573
def k0_mult21 (i : grid0.Coords) : BitVec 32 :=
  let c1664_i32_308 : BitVec 32 := 1664#32
  let c0_i32_307 : BitVec 32 := 0#32
  let arg1 : BitVec 32 := BitVec.ofNat 32 (i 1).val
  let c512_i32 : BitVec 32 := 512#32
  let v0 : BitVec 32 := Scalar.muli arg1 c512_i32
  let c128_i32_305 : BitVec 32 := 128#32
  let v619 : BitVec 32 := Scalar.addi v0 c128_i32_305
  let c128_i32_306 : BitVec 32 := 128#32
  let v620 : BitVec 32 := Scalar.subi v619 c128_i32_306
  let v621 : BitVec 32 := Scalar.maxsi c0_i32_307 v620
  let v622 : BitVec 32 := Scalar.minsi c1664_i32_308 v621
  v622
def k0_mult22 (i : grid0.Coords) : BitVec 32 :=
  let c1664_i32_320 : BitVec 32 := 1664#32
  let c0_i32_319 : BitVec 32 := 0#32
  let arg1 : BitVec 32 := BitVec.ofNat 32 (i 1).val
  let c512_i32 : BitVec 32 := 512#32
  let v0 : BitVec 32 := Scalar.muli arg1 c512_i32
  let c256_i32 : BitVec 32 := 256#32
  let v642 : BitVec 32 := Scalar.addi v0 c256_i32
  let c128_i32_318 : BitVec 32 := 128#32
  let v643 : BitVec 32 := Scalar.subi v642 c128_i32_318
  let v644 : BitVec 32 := Scalar.maxsi c0_i32_319 v643
  let v645 : BitVec 32 := Scalar.minsi c1664_i32_320 v644
  v645
def k0_mult23 (i : grid0.Coords) : BitVec 32 :=
  let c1664_i32_335 : BitVec 32 := 1664#32
  let c0_i32_334 : BitVec 32 := 0#32
  let arg1 : BitVec 32 := BitVec.ofNat 32 (i 1).val
  let c512_i32 : BitVec 32 := 512#32
  let v0 : BitVec 32 := Scalar.muli arg1 c512_i32
  let c128_i32_332 : BitVec 32 := 128#32
  let v662 : BitVec 32 := Scalar.addi v0 c128_i32_332
  let c128_i32_333 : BitVec 32 := 128#32
  let v663 : BitVec 32 := Scalar.subi v662 c128_i32_333
  let v664 : BitVec 32 := Scalar.maxsi c0_i32_334 v663
  let v665 : BitVec 32 := Scalar.minsi c1664_i32_335 v664
  v665
def k0_mult24 (i : grid0.Coords) : BitVec 32 :=
  let c1664_i32_355 : BitVec 32 := 1664#32
  let c0_i32_354 : BitVec 32 := 0#32
  let arg1 : BitVec 32 := BitVec.ofNat 32 (i 1).val
  let c512_i32 : BitVec 32 := 512#32
  let v0 : BitVec 32 := Scalar.muli arg1 c512_i32
  let c128_i32_352 : BitVec 32 := 128#32
  let v711 : BitVec 32 := Scalar.addi v0 c128_i32_352
  let c128_i32_353 : BitVec 32 := 128#32
  let v712 : BitVec 32 := Scalar.subi v711 c128_i32_353
  let v713 : BitVec 32 := Scalar.maxsi c0_i32_354 v712
  let v714 : BitVec 32 := Scalar.minsi c1664_i32_355 v713
  v714
def k0_mult25 (i : grid0.Coords) : BitVec 32 :=
  let c1664_i32_368 : BitVec 32 := 1664#32
  let c0_i32_367 : BitVec 32 := 0#32
  let arg1 : BitVec 32 := BitVec.ofNat 32 (i 1).val
  let c512_i32 : BitVec 32 := 512#32
  let v0 : BitVec 32 := Scalar.muli arg1 c512_i32
  let c256_i32_365 : BitVec 32 := 256#32
  let v734 : BitVec 32 := Scalar.addi v0 c256_i32_365
  let c128_i32_366 : BitVec 32 := 128#32
  let v735 : BitVec 32 := Scalar.subi v734 c128_i32_366
  let v736 : BitVec 32 := Scalar.maxsi c0_i32_367 v735
  let v737 : BitVec 32 := Scalar.minsi c1664_i32_368 v736
  v737
def k0_mult26 (i : grid0.Coords) : BitVec 32 :=
  let c1664_i32_383 : BitVec 32 := 1664#32
  let c0_i32_382 : BitVec 32 := 0#32
  let arg1 : BitVec 32 := BitVec.ofNat 32 (i 1).val
  let c512_i32 : BitVec 32 := 512#32
  let v0 : BitVec 32 := Scalar.muli arg1 c512_i32
  let c256_i32_380 : BitVec 32 := 256#32
  let v754 : BitVec 32 := Scalar.addi v0 c256_i32_380
  let c128_i32_381 : BitVec 32 := 128#32
  let v755 : BitVec 32 := Scalar.subi v754 c128_i32_381
  let v756 : BitVec 32 := Scalar.maxsi c0_i32_382 v755
  let v757 : BitVec 32 := Scalar.minsi c1664_i32_383 v756
  v757
def k0_mult27 (i : grid0.Coords) : BitVec 32 :=
  let c1664_i32_403 : BitVec 32 := 1664#32
  let c0_i32_402 : BitVec 32 := 0#32
  let arg1 : BitVec 32 := BitVec.ofNat 32 (i 1).val
  let c512_i32 : BitVec 32 := 512#32
  let v0 : BitVec 32 := Scalar.muli arg1 c512_i32
  let c128_i32_400 : BitVec 32 := 128#32
  let v803 : BitVec 32 := Scalar.addi v0 c128_i32_400
  let c128_i32_401 : BitVec 32 := 128#32
  let v804 : BitVec 32 := Scalar.subi v803 c128_i32_401
  let v805 : BitVec 32 := Scalar.maxsi c0_i32_402 v804
  let v806 : BitVec 32 := Scalar.minsi c1664_i32_403 v805
  v806
def k0_mult28 (i : grid0.Coords) : BitVec 32 :=
  let c1664_i32_416 : BitVec 32 := 1664#32
  let c0_i32_415 : BitVec 32 := 0#32
  let arg1 : BitVec 32 := BitVec.ofNat 32 (i 1).val
  let c512_i32 : BitVec 32 := 512#32
  let v0 : BitVec 32 := Scalar.muli arg1 c512_i32
  let c256_i32_413 : BitVec 32 := 256#32
  let v826 : BitVec 32 := Scalar.addi v0 c256_i32_413
  let c128_i32_414 : BitVec 32 := 128#32
  let v827 : BitVec 32 := Scalar.subi v826 c128_i32_414
  let v828 : BitVec 32 := Scalar.maxsi c0_i32_415 v827
  let v829 : BitVec 32 := Scalar.minsi c1664_i32_416 v828
  v829
def k0_mult29 (i : grid0.Coords) : BitVec 32 :=
  let c1664_i32_431 : BitVec 32 := 1664#32
  let c0_i32_430 : BitVec 32 := 0#32
  let arg1 : BitVec 32 := BitVec.ofNat 32 (i 1).val
  let c512_i32 : BitVec 32 := 512#32
  let v0 : BitVec 32 := Scalar.muli arg1 c512_i32
  let c256_i32_428 : BitVec 32 := 256#32
  let v846 : BitVec 32 := Scalar.addi v0 c256_i32_428
  let c128_i32_429 : BitVec 32 := 128#32
  let v847 : BitVec 32 := Scalar.subi v846 c128_i32_429
  let v848 : BitVec 32 := Scalar.maxsi c0_i32_430 v847
  let v849 : BitVec 32 := Scalar.minsi c1664_i32_431 v848
  v849
def k0_mult30 (i : grid0.Coords) : BitVec 32 :=
  let c1664_i32_451 : BitVec 32 := 1664#32
  let c0_i32_450 : BitVec 32 := 0#32
  let arg1 : BitVec 32 := BitVec.ofNat 32 (i 1).val
  let c512_i32 : BitVec 32 := 512#32
  let v0 : BitVec 32 := Scalar.muli arg1 c512_i32
  let c256_i32_448 : BitVec 32 := 256#32
  let v895 : BitVec 32 := Scalar.addi v0 c256_i32_448
  let c128_i32_449 : BitVec 32 := 128#32
  let v896 : BitVec 32 := Scalar.subi v895 c128_i32_449
  let v897 : BitVec 32 := Scalar.maxsi c0_i32_450 v896
  let v898 : BitVec 32 := Scalar.minsi c1664_i32_451 v897
  v898
def k0_mult31 (i : grid0.Coords) : BitVec 32 :=
  let c1664_i32_464 : BitVec 32 := 1664#32
  let c0_i32_463 : BitVec 32 := 0#32
  let arg1 : BitVec 32 := BitVec.ofNat 32 (i 1).val
  let c512_i32 : BitVec 32 := 512#32
  let v0 : BitVec 32 := Scalar.muli arg1 c512_i32
  let c256_i32_461 : BitVec 32 := 256#32
  let v918 : BitVec 32 := Scalar.addi v0 c256_i32_461
  let c128_i32_462 : BitVec 32 := 128#32
  let v919 : BitVec 32 := Scalar.subi v918 c128_i32_462
  let v920 : BitVec 32 := Scalar.maxsi c0_i32_463 v919
  let v921 : BitVec 32 := Scalar.minsi c1664_i32_464 v920
  v921
def k0_mult32 (i : grid0.Coords) : BitVec 32 :=
  let c1664_i32_479 : BitVec 32 := 1664#32
  let c0_i32_478 : BitVec 32 := 0#32
  let arg1 : BitVec 32 := BitVec.ofNat 32 (i 1).val
  let c512_i32 : BitVec 32 := 512#32
  let v0 : BitVec 32 := Scalar.muli arg1 c512_i32
  let c256_i32_476 : BitVec 32 := 256#32
  let v938 : BitVec 32 := Scalar.addi v0 c256_i32_476
  let c128_i32_477 : BitVec 32 := 128#32
  let v939 : BitVec 32 := Scalar.subi v938 c128_i32_477
  let v940 : BitVec 32 := Scalar.maxsi c0_i32_478 v939
  let v941 : BitVec 32 := Scalar.minsi c1664_i32_479 v940
  v941
def k0_mult33 (i : grid0.Coords) : BitVec 32 :=
  let c1664_i32_499 : BitVec 32 := 1664#32
  let c0_i32_498 : BitVec 32 := 0#32
  let arg1 : BitVec 32 := BitVec.ofNat 32 (i 1).val
  let c512_i32 : BitVec 32 := 512#32
  let v0 : BitVec 32 := Scalar.muli arg1 c512_i32
  let c256_i32_496 : BitVec 32 := 256#32
  let v987 : BitVec 32 := Scalar.addi v0 c256_i32_496
  let c128_i32_497 : BitVec 32 := 128#32
  let v988 : BitVec 32 := Scalar.subi v987 c128_i32_497
  let v989 : BitVec 32 := Scalar.maxsi c0_i32_498 v988
  let v990 : BitVec 32 := Scalar.minsi c1664_i32_499 v989
  v990
def k0_mult34 (i : grid0.Coords) : BitVec 32 :=
  let c1664_i32_511 : BitVec 32 := 1664#32
  let c0_i32_510 : BitVec 32 := 0#32
  let arg1 : BitVec 32 := BitVec.ofNat 32 (i 1).val
  let c512_i32 : BitVec 32 := 512#32
  let v0 : BitVec 32 := Scalar.muli arg1 c512_i32
  let c384_i32 : BitVec 32 := 384#32
  let v1010 : BitVec 32 := Scalar.addi v0 c384_i32
  let c128_i32_509 : BitVec 32 := 128#32
  let v1011 : BitVec 32 := Scalar.subi v1010 c128_i32_509
  let v1012 : BitVec 32 := Scalar.maxsi c0_i32_510 v1011
  let v1013 : BitVec 32 := Scalar.minsi c1664_i32_511 v1012
  v1013
def k0_mult35 (i : grid0.Coords) : BitVec 32 :=
  let c1664_i32_526 : BitVec 32 := 1664#32
  let c0_i32_525 : BitVec 32 := 0#32
  let arg1 : BitVec 32 := BitVec.ofNat 32 (i 1).val
  let c512_i32 : BitVec 32 := 512#32
  let v0 : BitVec 32 := Scalar.muli arg1 c512_i32
  let c256_i32_523 : BitVec 32 := 256#32
  let v1030 : BitVec 32 := Scalar.addi v0 c256_i32_523
  let c128_i32_524 : BitVec 32 := 128#32
  let v1031 : BitVec 32 := Scalar.subi v1030 c128_i32_524
  let v1032 : BitVec 32 := Scalar.maxsi c0_i32_525 v1031
  let v1033 : BitVec 32 := Scalar.minsi c1664_i32_526 v1032
  v1033
def k0_mult36 (i : grid0.Coords) : BitVec 32 :=
  let c1664_i32_546 : BitVec 32 := 1664#32
  let c0_i32_545 : BitVec 32 := 0#32
  let arg1 : BitVec 32 := BitVec.ofNat 32 (i 1).val
  let c512_i32 : BitVec 32 := 512#32
  let v0 : BitVec 32 := Scalar.muli arg1 c512_i32
  let c256_i32_543 : BitVec 32 := 256#32
  let v1079 : BitVec 32 := Scalar.addi v0 c256_i32_543
  let c128_i32_544 : BitVec 32 := 128#32
  let v1080 : BitVec 32 := Scalar.subi v1079 c128_i32_544
  let v1081 : BitVec 32 := Scalar.maxsi c0_i32_545 v1080
  let v1082 : BitVec 32 := Scalar.minsi c1664_i32_546 v1081
  v1082
def k0_mult37 (i : grid0.Coords) : BitVec 32 :=
  let c1664_i32_559 : BitVec 32 := 1664#32
  let c0_i32_558 : BitVec 32 := 0#32
  let arg1 : BitVec 32 := BitVec.ofNat 32 (i 1).val
  let c512_i32 : BitVec 32 := 512#32
  let v0 : BitVec 32 := Scalar.muli arg1 c512_i32
  let c384_i32_556 : BitVec 32 := 384#32
  let v1102 : BitVec 32 := Scalar.addi v0 c384_i32_556
  let c128_i32_557 : BitVec 32 := 128#32
  let v1103 : BitVec 32 := Scalar.subi v1102 c128_i32_557
  let v1104 : BitVec 32 := Scalar.maxsi c0_i32_558 v1103
  let v1105 : BitVec 32 := Scalar.minsi c1664_i32_559 v1104
  v1105
def k0_mult38 (i : grid0.Coords) : BitVec 32 :=
  let c1664_i32_574 : BitVec 32 := 1664#32
  let c0_i32_573 : BitVec 32 := 0#32
  let arg1 : BitVec 32 := BitVec.ofNat 32 (i 1).val
  let c512_i32 : BitVec 32 := 512#32
  let v0 : BitVec 32 := Scalar.muli arg1 c512_i32
  let c384_i32_571 : BitVec 32 := 384#32
  let v1122 : BitVec 32 := Scalar.addi v0 c384_i32_571
  let c128_i32_572 : BitVec 32 := 128#32
  let v1123 : BitVec 32 := Scalar.subi v1122 c128_i32_572
  let v1124 : BitVec 32 := Scalar.maxsi c0_i32_573 v1123
  let v1125 : BitVec 32 := Scalar.minsi c1664_i32_574 v1124
  v1125
def k0_mult39 (i : grid0.Coords) : BitVec 32 :=
  let c1664_i32_594 : BitVec 32 := 1664#32
  let c0_i32_593 : BitVec 32 := 0#32
  let arg1 : BitVec 32 := BitVec.ofNat 32 (i 1).val
  let c512_i32 : BitVec 32 := 512#32
  let v0 : BitVec 32 := Scalar.muli arg1 c512_i32
  let c256_i32_591 : BitVec 32 := 256#32
  let v1171 : BitVec 32 := Scalar.addi v0 c256_i32_591
  let c128_i32_592 : BitVec 32 := 128#32
  let v1172 : BitVec 32 := Scalar.subi v1171 c128_i32_592
  let v1173 : BitVec 32 := Scalar.maxsi c0_i32_593 v1172
  let v1174 : BitVec 32 := Scalar.minsi c1664_i32_594 v1173
  v1174
def k0_mult40 (i : grid0.Coords) : BitVec 32 :=
  let c1664_i32_607 : BitVec 32 := 1664#32
  let c0_i32_606 : BitVec 32 := 0#32
  let arg1 : BitVec 32 := BitVec.ofNat 32 (i 1).val
  let c512_i32 : BitVec 32 := 512#32
  let v0 : BitVec 32 := Scalar.muli arg1 c512_i32
  let c384_i32_604 : BitVec 32 := 384#32
  let v1194 : BitVec 32 := Scalar.addi v0 c384_i32_604
  let c128_i32_605 : BitVec 32 := 128#32
  let v1195 : BitVec 32 := Scalar.subi v1194 c128_i32_605
  let v1196 : BitVec 32 := Scalar.maxsi c0_i32_606 v1195
  let v1197 : BitVec 32 := Scalar.minsi c1664_i32_607 v1196
  v1197
def k0_mult41 (i : grid0.Coords) : BitVec 32 :=
  let c1664_i32_622 : BitVec 32 := 1664#32
  let c0_i32_621 : BitVec 32 := 0#32
  let arg1 : BitVec 32 := BitVec.ofNat 32 (i 1).val
  let c512_i32 : BitVec 32 := 512#32
  let v0 : BitVec 32 := Scalar.muli arg1 c512_i32
  let c384_i32_619 : BitVec 32 := 384#32
  let v1214 : BitVec 32 := Scalar.addi v0 c384_i32_619
  let c128_i32_620 : BitVec 32 := 128#32
  let v1215 : BitVec 32 := Scalar.subi v1214 c128_i32_620
  let v1216 : BitVec 32 := Scalar.maxsi c0_i32_621 v1215
  let v1217 : BitVec 32 := Scalar.minsi c1664_i32_622 v1216
  v1217
def k0_mult42 (i : grid0.Coords) : BitVec 32 :=
  let c1664_i32_642 : BitVec 32 := 1664#32
  let c0_i32_641 : BitVec 32 := 0#32
  let arg1 : BitVec 32 := BitVec.ofNat 32 (i 1).val
  let c512_i32 : BitVec 32 := 512#32
  let v0 : BitVec 32 := Scalar.muli arg1 c512_i32
  let c384_i32_639 : BitVec 32 := 384#32
  let v1263 : BitVec 32 := Scalar.addi v0 c384_i32_639
  let c128_i32_640 : BitVec 32 := 128#32
  let v1264 : BitVec 32 := Scalar.subi v1263 c128_i32_640
  let v1265 : BitVec 32 := Scalar.maxsi c0_i32_641 v1264
  let v1266 : BitVec 32 := Scalar.minsi c1664_i32_642 v1265
  v1266
def k0_mult43 (i : grid0.Coords) : BitVec 32 :=
  let c1664_i32_655 : BitVec 32 := 1664#32
  let c0_i32_654 : BitVec 32 := 0#32
  let arg1 : BitVec 32 := BitVec.ofNat 32 (i 1).val
  let c512_i32 : BitVec 32 := 512#32
  let v0 : BitVec 32 := Scalar.muli arg1 c512_i32
  let c384_i32_652 : BitVec 32 := 384#32
  let v1286 : BitVec 32 := Scalar.addi v0 c384_i32_652
  let c128_i32_653 : BitVec 32 := 128#32
  let v1287 : BitVec 32 := Scalar.subi v1286 c128_i32_653
  let v1288 : BitVec 32 := Scalar.maxsi c0_i32_654 v1287
  let v1289 : BitVec 32 := Scalar.minsi c1664_i32_655 v1288
  v1289
def k0_mult44 (i : grid0.Coords) : BitVec 32 :=
  let c1664_i32_670 : BitVec 32 := 1664#32
  let c0_i32_669 : BitVec 32 := 0#32
  let arg1 : BitVec 32 := BitVec.ofNat 32 (i 1).val
  let c512_i32 : BitVec 32 := 512#32
  let v0 : BitVec 32 := Scalar.muli arg1 c512_i32
  let c384_i32_667 : BitVec 32 := 384#32
  let v1306 : BitVec 32 := Scalar.addi v0 c384_i32_667
  let c128_i32_668 : BitVec 32 := 128#32
  let v1307 : BitVec 32 := Scalar.subi v1306 c128_i32_668
  let v1308 : BitVec 32 := Scalar.maxsi c0_i32_669 v1307
  let v1309 : BitVec 32 := Scalar.minsi c1664_i32_670 v1308
  v1309
def k0_mult45 (i : grid0.Coords) : BitVec 32 :=
  let c1664_i32_690 : BitVec 32 := 1664#32
  let c0_i32_689 : BitVec 32 := 0#32
  let arg1 : BitVec 32 := BitVec.ofNat 32 (i 1).val
  let c512_i32 : BitVec 32 := 512#32
  let v0 : BitVec 32 := Scalar.muli arg1 c512_i32
  let c384_i32_687 : BitVec 32 := 384#32
  let v1355 : BitVec 32 := Scalar.addi v0 c384_i32_687
  let c128_i32_688 : BitVec 32 := 128#32
  let v1356 : BitVec 32 := Scalar.subi v1355 c128_i32_688
  let v1357 : BitVec 32 := Scalar.maxsi c0_i32_689 v1356
  let v1358 : BitVec 32 := Scalar.minsi c1664_i32_690 v1357
  v1358
def k0_mult46 (i : grid0.Coords) : BitVec 32 :=
  let c1664_i32_703 : BitVec 32 := 1664#32
  let c0_i32_702 : BitVec 32 := 0#32
  let arg1 : BitVec 32 := BitVec.ofNat 32 (i 1).val
  let c512_i32 : BitVec 32 := 512#32
  let v0 : BitVec 32 := Scalar.muli arg1 c512_i32
  let c384_i32_700 : BitVec 32 := 384#32
  let v1378 : BitVec 32 := Scalar.addi v0 c384_i32_700
  let c128_i32_701 : BitVec 32 := 128#32
  let v1379 : BitVec 32 := Scalar.subi v1378 c128_i32_701
  let v1380 : BitVec 32 := Scalar.maxsi c0_i32_702 v1379
  let v1381 : BitVec 32 := Scalar.minsi c1664_i32_703 v1380
  v1381
def k0_mult47 (i : grid0.Coords) : BitVec 32 :=
  let c1664_i32_723 : BitVec 32 := 1664#32
  let c0_i32_722 : BitVec 32 := 0#32
  let arg1 : BitVec 32 := BitVec.ofNat 32 (i 1).val
  let c512_i32 : BitVec 32 := 512#32
  let v0 : BitVec 32 := Scalar.muli arg1 c512_i32
  let c384_i32_720 : BitVec 32 := 384#32
  let v1427 : BitVec 32 := Scalar.addi v0 c384_i32_720
  let c128_i32_721 : BitVec 32 := 128#32
  let v1428 : BitVec 32 := Scalar.subi v1427 c128_i32_721
  let v1429 : BitVec 32 := Scalar.maxsi c0_i32_722 v1428
  let v1430 : BitVec 32 := Scalar.minsi c1664_i32_723 v1429
  v1430
def k0_mult48 (i : grid0.Coords) : BitVec 32 :=
  let c1664_i32_736 : BitVec 32 := 1664#32
  let c0_i32_735 : BitVec 32 := 0#32
  let arg1 : BitVec 32 := BitVec.ofNat 32 (i 1).val
  let c512_i32 : BitVec 32 := 512#32
  let v0 : BitVec 32 := Scalar.muli arg1 c512_i32
  let c384_i32_733 : BitVec 32 := 384#32
  let v1450 : BitVec 32 := Scalar.addi v0 c384_i32_733
  let c128_i32_734 : BitVec 32 := 128#32
  let v1451 : BitVec 32 := Scalar.subi v1450 c128_i32_734
  let v1452 : BitVec 32 := Scalar.maxsi c0_i32_735 v1451
  let v1453 : BitVec 32 := Scalar.minsi c1664_i32_736 v1452
  v1453
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S3x384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "q_scale" => some (((Real.sqrt 128)⁻¹ * (Real.log 2)⁻¹ : ℝ) : EReal)
  | _ => none
-- ==== ReferenceIdeal.lean ====
abbrev S32x2048x8x128 : Shape := ⟨4, ![32, 2048, 8, 128]⟩
abbrev S32x2048x2x128 : Shape := ⟨4, ![32, 2048, 2, 128]⟩
abbrev S8 : Shape := ⟨1, ![8]⟩
abbrev S_ : Shape := ⟨0, ![]⟩
abbrev S32x2304x2x128 : Shape := ⟨4, ![32, 2304, 2, 128]⟩
abbrev S32x16x128x2x4x128 : Shape := ⟨6, ![32, 16, 128, 2, 4, 128]⟩
abbrev S32x18x128x2x128 : Shape := ⟨5, ![32, 18, 128, 2, 128]⟩
abbrev S32x16x128x2x128 : Shape := ⟨5, ![32, 16, 128, 2, 128]⟩
abbrev S32x16x384x2x128 : Shape := ⟨5, ![32, 16, 384, 2, 128]⟩
abbrev S32x16x2x384x128x4 : Shape := ⟨6, ![32, 16, 2, 384, 128, 4]⟩
abbrev S32x16x2x4x128x384 : Shape := ⟨6, ![32, 16, 2, 4, 128, 384]⟩
abbrev S2048 : Shape := ⟨1, ![2048]⟩
abbrev S16x128x1 : Shape := ⟨3, ![16, 128, 1]⟩
abbrev S16 : Shape := ⟨1, ![16]⟩
abbrev S16x1x1 : Shape := ⟨3, ![16, 1, 1]⟩
abbrev S384 : Shape := ⟨1, ![384]⟩
abbrev S1x1x384 : Shape := ⟨3, ![1, 1, 384]⟩
abbrev S16x1x384 : Shape := ⟨3, ![16, 1, 384]⟩
abbrev S16x128x384 : Shape := ⟨3, ![16, 128, 384]⟩
abbrev S1x16x1x1x128x384 : Shape := ⟨6, ![1, 16, 1, 1, 128, 384]⟩
abbrev S32x16x2x4x128 : Shape := ⟨5, ![32, 16, 2, 4, 128]⟩
abbrev S2x4 : Shape := ⟨2, ![2, 4]⟩
abbrev S1x1x2x4x1 : Shape := ⟨5, ![1, 1, 2, 4, 1]⟩
abbrev S32x16x2x4x128x1 : Shape := ⟨6, ![32, 16, 2, 4, 128, 1]⟩
abbrev S32x16x2x128x4x128 : Shape := ⟨6, ![32, 16, 2, 128, 4, 128]⟩
abbrev S32x16x128x2x4 : Shape := ⟨5, ![32, 16, 128, 2, 4]⟩
abbrev S32x16x128x2x4x1 : Shape := ⟨6, ![32, 16, 128, 2, 4, 1]⟩
abbrev S32x2048x1024 : Shape := ⟨3, ![32, 2048, 1024]⟩

abbrev nBuf : Space → Nat
  | .hbm => 93
  | .vmem => 0
  | .smem => 0
  | _ => 0

abbrev bufTy : (tb : Table) → Fin (tcTables nBuf tb) → BufTy
  | .hbm, ⟨0, _⟩ => ⟨S32x2048x8x128, .f32⟩
  | .hbm, ⟨1, _⟩ => ⟨S32x2048x2x128, .f32⟩
  | .hbm, ⟨2, _⟩ => ⟨S32x2048x2x128, .f32⟩
  | .hbm, ⟨3, _⟩ => ⟨S8, .f32⟩
  | .hbm, ⟨4, _⟩ => ⟨S_, .f32⟩
  | .hbm, ⟨5, _⟩ => ⟨S_, .f32⟩
  | .hbm, ⟨6, _⟩ => ⟨S32x2048x8x128, .f32⟩
  | .hbm, ⟨7, _⟩ => ⟨S32x2048x8x128, .f32⟩
  | .hbm, ⟨8, _⟩ => ⟨S_, .i32⟩
  | .hbm, ⟨9, _⟩ => ⟨S_, .f32⟩
  | .hbm, ⟨10, _⟩ => ⟨S32x2048x8x128, .f32⟩
  | .hbm, ⟨11, _⟩ => ⟨S_, .i32⟩
  | .hbm, ⟨12, _⟩ => ⟨S_, .f32⟩
  | .hbm, ⟨13, _⟩ => ⟨S32x2304x2x128, .f32⟩
  | .hbm, ⟨14, _⟩ => ⟨S_, .i32⟩
  | .hbm, ⟨15, _⟩ => ⟨S_, .f32⟩
  | .hbm, ⟨16, _⟩ => ⟨S32x2304x2x128, .f32⟩
  | .hbm, ⟨17, _⟩ => ⟨S32x16x128x2x4x128, .f32⟩
  | .hbm, ⟨18, _⟩ => ⟨S32x18x128x2x128, .f32⟩
  | .hbm, ⟨19, _⟩ => ⟨S32x16x128x2x128, .f32⟩
  | .hbm, ⟨20, _⟩ => ⟨S32x16x128x2x128, .f32⟩
  | .hbm, ⟨21, _⟩ => ⟨S32x16x128x2x128, .f32⟩
  | .hbm, ⟨22, _⟩ => ⟨S32x16x384x2x128, .f32⟩
  | .hbm, ⟨23, _⟩ => ⟨S32x18x128x2x128, .f32⟩
  | .hbm, ⟨24, _⟩ => ⟨S32x16x128x2x128, .f32⟩
  | .hbm, ⟨25, _⟩ => ⟨S32x16x128x2x128, .f32⟩
  | .hbm, ⟨26, _⟩ => ⟨S32x16x128x2x128, .f32⟩
  | .hbm, ⟨27, _⟩ => ⟨S32x16x384x2x128, .f32⟩
  | .hbm, ⟨28, _⟩ => ⟨S32x16x2x384x128x4, .f32⟩
  | .hbm, ⟨29, _⟩ => ⟨S32x16x2x4x128x384, .f32⟩
  | .hbm, ⟨30, _⟩ => ⟨S2048, .i32⟩
  | .hbm, ⟨31, _⟩ => ⟨S16x128x1, .i32⟩
  | .hbm, ⟨32, _⟩ => ⟨S16, .i32⟩
  | .hbm, ⟨33, _⟩ => ⟨S16x1x1, .i32⟩
  | .hbm, ⟨34, _⟩ => ⟨S_, .i32⟩
  | .hbm, ⟨35, _⟩ => ⟨S16x1x1, .i32⟩
  | .hbm, ⟨36, _⟩ => ⟨S16x1x1, .i32⟩
  | .hbm, ⟨37, _⟩ => ⟨S_, .i32⟩
  | .hbm, ⟨38, _⟩ => ⟨S16x1x1, .i32⟩
  | .hbm, ⟨39, _⟩ => ⟨S16x1x1, .i32⟩
  | .hbm, ⟨40, _⟩ => ⟨S384, .i32⟩
  | .hbm, ⟨41, _⟩ => ⟨S1x1x384, .i32⟩
  | .hbm, ⟨42, _⟩ => ⟨S16x1x384, .i32⟩
  | .hbm, ⟨43, _⟩ => ⟨S16x1x384, .i32⟩
  | .hbm, ⟨44, _⟩ => ⟨S16x1x384, .i32⟩
  | .hbm, ⟨45, _⟩ => ⟨S16x128x384, .i32⟩
  | .hbm, ⟨46, _⟩ => ⟨S16x128x384, .i32⟩
  | .hbm, ⟨47, _⟩ => ⟨S16x128x384, .i32⟩
  | .hbm, ⟨48, _⟩ => ⟨S16x128x384, .i32⟩
  | .hbm, ⟨49, _⟩ => ⟨S_, .i32⟩
  | .hbm, ⟨50, _⟩ => ⟨S16x128x384, .i32⟩
  | .hbm, ⟨51, _⟩ => ⟨S16x128x384, .i1⟩
  | .hbm, ⟨52, _⟩ => ⟨S_, .i32⟩
  | .hbm, ⟨53, _⟩ => ⟨S16x1x384, .i32⟩
  | .hbm, ⟨54, _⟩ => ⟨S16x1x384, .i1⟩
  | .hbm, ⟨55, _⟩ => ⟨S16x128x384, .i1⟩
  | .hbm, ⟨56, _⟩ => ⟨S16x128x384, .i1⟩
  | .hbm, ⟨57, _⟩ => ⟨S_, .i32⟩
  | .hbm, ⟨58, _⟩ => ⟨S16x1x384, .i32⟩
  | .hbm, ⟨59, _⟩ => ⟨S16x1x384, .i1⟩
  | .hbm, ⟨60, _⟩ => ⟨S16x128x384, .i1⟩
  | .hbm, ⟨61, _⟩ => ⟨S16x128x384, .i1⟩
  | .hbm, ⟨62, _⟩ => ⟨S1x16x1x1x128x384, .i1⟩
  | .hbm, ⟨63, _⟩ => ⟨S_, .f32⟩
  | .hbm, ⟨64, _⟩ => ⟨S_, .f32⟩
  | .hbm, ⟨65, _⟩ => ⟨S32x16x2x4x128x384, .i1⟩
  | .hbm, ⟨66, _⟩ => ⟨S32x16x2x4x128x384, .f32⟩
  | .hbm, ⟨67, _⟩ => ⟨S32x16x2x4x128x384, .f32⟩
  | .hbm, ⟨68, _⟩ => ⟨S_, .f32⟩
  | .hbm, ⟨69, _⟩ => ⟨S32x16x2x4x128, .f32⟩
  | .hbm, ⟨70, _⟩ => ⟨S2x4, .f32⟩
  | .hbm, ⟨71, _⟩ => ⟨S1x1x2x4x1, .f32⟩
  | .hbm, ⟨72, _⟩ => ⟨S32x16x2x4x128, .f32⟩
  | .hbm, ⟨73, _⟩ => ⟨S32x16x2x4x128, .f32⟩
  | .hbm, ⟨74, _⟩ => ⟨S32x16x2x4x128x1, .f32⟩
  | .hbm, ⟨75, _⟩ => ⟨S32x16x2x4x128x384, .f32⟩
  | .hbm, ⟨76, _⟩ => ⟨S32x16x2x4x128x384, .f32⟩
  | .hbm, ⟨77, _⟩ => ⟨S32x16x2x4x128x384, .f32⟩
  | .hbm, ⟨78, _⟩ => ⟨S_, .f32⟩
  | .hbm, ⟨79, _⟩ => ⟨S32x16x2x4x128, .f32⟩
  | .hbm, ⟨80, _⟩ => ⟨S32x16x2x4x128, .f32⟩
  | .hbm, ⟨81, _⟩ => ⟨S32x16x2x4x128, .f32⟩
  | .hbm, ⟨82, _⟩ => ⟨S32x16x2x4x128, .f32⟩
  | .hbm, ⟨83, _⟩ => ⟨S32x16x2x4x128, .f32⟩
  | .hbm, ⟨84, _⟩ => ⟨S32x16x2x128x4x128, .f32⟩
  | .hbm, ⟨85, _⟩ => ⟨S32x16x128x2x4x128, .f32⟩
  | .hbm, ⟨86, _⟩ => ⟨S32x16x128x2x4, .f32⟩
  | .hbm, ⟨87, _⟩ => ⟨S32x16x128x2x4x1, .f32⟩
  | .hbm, ⟨88, _⟩ => ⟨S32x16x128x2x4x128, .f32⟩
  | .hbm, ⟨89, _⟩ => ⟨S32x16x128x2x4x128, .f32⟩
  | .hbm, ⟨90, _⟩ => ⟨S32x2048x8x128, .f32⟩
  | .hbm, ⟨91, _⟩ => ⟨S32x2048x1024, .f32⟩
  | .hbm, ⟨92, _⟩ => ⟨S32x2048x1024, .bf16⟩
  | _, _ => ⟨S32x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_4 : Ref sig .tc := ⟨.hbm, 49, rfl⟩
abbrev main_v36 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x2048x512 : Shape := ⟨3, ![32, 2048, 512]⟩
abbrev S32x2048x2048 : Shape := ⟨3, ![32, 2048, 2048]⟩
abbrev S1024x1024 : Shape := ⟨2, ![1024, 1024]⟩
abbrev S512x1024 : Shape := ⟨2, ![512, 1024]⟩
abbrev S1024x4096 : Shape := ⟨2, ![1024, 4096]⟩
abbrev S4096x1024 : Shape := ⟨2, ![4096, 1024]⟩
abbrev S1024 : Shape := ⟨1, ![1024]⟩
abbrev S65536x2048 : Shape := ⟨2, ![65536, 2048]⟩
abbrev S1x1024 : Shape := ⟨2, ![1, 1024]⟩
abbrev S65536x1024 : Shape := ⟨2, ![65536, 1024]⟩
abbrev S65536x512 : Shape := ⟨2, ![65536, 512]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 28
  | .vmem => 18
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x512, .f32⟩
  | .hbm, ⟨3, _⟩ => ⟨S32x2048x2048, .f32⟩
  | .hbm, ⟨4, _⟩ => ⟨S1024x1024, .f32⟩
  | .hbm, ⟨5, _⟩ => ⟨S512x1024, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S32x2048x1024, .bf16⟩
  | .hbm, ⟨13, _⟩ => ⟨S32x2048x512, .bf16⟩
  | .hbm, ⟨14, _⟩ => ⟨S32x2048x2048, .bf16⟩
  | .hbm, ⟨15, _⟩ => ⟨S65536x2048, .bf16⟩
  | .hbm, ⟨16, _⟩ => ⟨S1024x1024, .bf16⟩
  | .hbm, ⟨17, _⟩ => ⟨S512x1024, .bf16⟩
  | .hbm, ⟨18, _⟩ => ⟨S1024x1024, .bf16⟩
  | .hbm, ⟨19, _⟩ => ⟨S1024x4096, .bf16⟩
  | .hbm, ⟨20, _⟩ => ⟨S4096x1024, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S65536x1024, .f32⟩
  | .hbm, ⟨25, _⟩ => ⟨S65536x1024, .bf16⟩
  | .hbm, ⟨26, _⟩ => ⟨S65536x512, .bf16⟩
  | .hbm, ⟨27, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S1024x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S32x2048x1024 : Shape := ⟨3, ![32, 2048, 1024]⟩
abbrev S32x2048x512 : Shape := ⟨3, ![32, 2048, 512]⟩
abbrev S32x2048x2048 : Shape := ⟨3, ![32, 2048, 2048]⟩
abbrev S1024x1024 : Shape := ⟨2, ![1024, 1024]⟩
abbrev S512x1024 : Shape := ⟨2, ![512, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4096 : Shape := ⟨3, ![32, 2048, 4096]⟩
abbrev S65536x1024 : Shape := ⟨2, ![65536, 1024]⟩

abbrev nBuf : Space → Nat
  | .hbm => 93
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x512, .f32⟩
  | .hbm, ⟨3, _⟩ => ⟨S32x2048x2048, .f32⟩
  | .hbm, ⟨4, _⟩ => ⟨S1024x1024, .f32⟩
  | .hbm, ⟨5, _⟩ => ⟨S512x1024, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S32x2048x1024, .f32⟩
  | .hbm, ⟨13, _⟩ => ⟨S32x2048x1024, .f32⟩
  | .hbm, ⟨14, _⟩ => ⟨S32x2048x1024, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S_, .f32⟩
  | .hbm, ⟨19, _⟩ => ⟨S32x2048x1024, .f32⟩
  | .hbm, ⟨20, _⟩ => ⟨S32x2048x1024, .f32⟩
  | .hbm, ⟨21, _⟩ => ⟨S_, .f32⟩
  | .hbm, ⟨22, _⟩ => ⟨S32x2048x1024, .f32⟩
  | .hbm, ⟨23, _⟩ => ⟨S32x2048x1024, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S_, .f32⟩
  | .hbm, ⟨28, _⟩ => ⟨S32x2048x1024, .f32⟩
  | .hbm, ⟨29, _⟩ => ⟨S32x2048x1024, .f32⟩
  | .hbm, ⟨30, _⟩ => ⟨S_, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S_, .f32⟩
  | .hbm, ⟨38, _⟩ => ⟨S32x2048, .f32⟩
  | .hbm, ⟨39, _⟩ => ⟨S32x2048x1, .f32⟩
  | .hbm, ⟨40, _⟩ => ⟨S_, .f32⟩
  | .hbm, ⟨41, _⟩ => ⟨S32x2048x1, .f32⟩
  | .hbm, ⟨42, _⟩ => ⟨S32x2048x1, .f32⟩
  | .hbm, ⟨43, _⟩ => ⟨S_, .f32⟩
  | .hbm, ⟨44, _⟩ => ⟨S32x2048x1, .f32⟩
  | .hbm, ⟨45, _⟩ => ⟨S32x2048x1, .f32⟩
  | .hbm, ⟨46, _⟩ => ⟨S32x2048x1, .f32⟩
  | .hbm, ⟨47, _⟩ => ⟨S32x2048x1024, .f32⟩
  | .hbm, ⟨48, _⟩ => ⟨S32x2048x1024, .f32⟩
  | .hbm, ⟨49, _⟩ => ⟨S1x1x1024, .f32⟩
  | .hbm, ⟨50, _⟩ => ⟨S32x2048x1024, .f32⟩
  | .hbm, ⟨51, _⟩ => ⟨S32x2048x1024, .f32⟩
  | .hbm, ⟨52, _⟩ => ⟨S32x2048x1024, .f32⟩
  | .hbm, ⟨53, _⟩ => ⟨S32x2048x1024, .f32⟩
  | .hbm, ⟨54, _⟩ => ⟨S_, .f32⟩
  | .hbm, ⟨55, _⟩ => ⟨S32x2048, .f32⟩
  | .hbm, ⟨56, _⟩ => ⟨S32x2048x1, .f32⟩
  | .hbm, ⟨57, _⟩ => ⟨S_, .f32⟩
  | .hbm, ⟨58, _⟩ => ⟨S32x2048x1, .f32⟩
  | .hbm, ⟨59, _⟩ => ⟨S32x2048x1, .f32⟩
  | .hbm, ⟨60, _⟩ => ⟨S_, .f32⟩
  | .hbm, ⟨61, _⟩ => ⟨S32x2048x1, .f32⟩
  | .hbm, ⟨62, _⟩ => ⟨S32x2048x1, .f32⟩
  | .hbm, ⟨63, _⟩ => ⟨S32x2048x1, .f32⟩
  | .hbm, ⟨64, _⟩ => ⟨S32x2048x1024, .f32⟩
  | .hbm, ⟨65, _⟩ => ⟨S32x2048x1024, .f32⟩
  | .hbm, ⟨66, _⟩ => ⟨S1x1x1024, .f32⟩
  | .hbm, ⟨67, _⟩ => ⟨S32x2048x1024, .f32⟩
  | .hbm, ⟨68, _⟩ => ⟨S32x2048x1024, .f32⟩
  | .hbm, ⟨69, _⟩ => ⟨S32x2048x4096, .f32⟩
  | .hbm, ⟨70, _⟩ => ⟨S_, .f32⟩
  | .hbm, ⟨71, _⟩ => ⟨S32x2048x4096, .f32⟩
  | .hbm, ⟨72, _⟩ => ⟨S32x2048x4096, .f32⟩
  | .hbm, ⟨73, _⟩ => ⟨S32x2048x4096, .f32⟩
  | .hbm, ⟨74, _⟩ => ⟨S32x2048x1024, .f32⟩
  | .hbm, ⟨75, _⟩ => ⟨S32x2048x1024, .f32⟩
  | .hbm, ⟨76, _⟩ => ⟨S_, .f32⟩
  | .hbm, ⟨77, _⟩ => ⟨S32x2048, .f32⟩
  | .hbm, ⟨78, _⟩ => ⟨S32x2048x1, .f32⟩
  | .hbm, ⟨79, _⟩ => ⟨S_, .f32⟩
  | .hbm, ⟨80, _⟩ => ⟨S32x2048x1, .f32⟩
  | .hbm, ⟨81, _⟩ => ⟨S32x2048x1, .f32⟩
  | .hbm, ⟨82, _⟩ => ⟨S_, .f32⟩
  | .hbm, ⟨83, _⟩ => ⟨S32x2048x1, .f32⟩
  | .hbm, ⟨84, _⟩ => ⟨S32x2048x1, .f32⟩
  | .hbm, ⟨85, _⟩ => ⟨S32x2048x1, .f32⟩
  | .hbm, ⟨86, _⟩ => ⟨S32x2048x1024, .f32⟩
  | .hbm, ⟨87, _⟩ => ⟨S32x2048x1024, .f32⟩
  | .hbm, ⟨88, _⟩ => ⟨S1x1x1024, .f32⟩
  | .hbm, ⟨89, _⟩ => ⟨S32x2048x1024, .f32⟩
  | .hbm, ⟨90, _⟩ => ⟨S32x2048x1024, .f32⟩
  | .hbm, ⟨91, _⟩ => ⟨S32x2048x1024, .f32⟩
  | .hbm, ⟨92, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_cst : Ref sig .tc := ⟨.hbm, 70, rfl⟩
abbrev main_call0_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]
-- ==== Kernel3.lean ====
abbrev S32x2048x1024 : Shape := ⟨3, ![32, 2048, 1024]⟩
abbrev S1024x8192 : Shape := ⟨2, ![1024, 8192]⟩
abbrev S1024 : Shape := ⟨1, ![1024]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x1024 : Shape := ⟨2, ![1, 1024]⟩
abbrev S65536x1024 : Shape := ⟨2, ![65536, 1024]⟩
abbrev S65536x256 : Shape := ⟨2, ![65536, 256]⟩
abbrev S32x256x2048 : Shape := ⟨3, ![32, 256, 2048]⟩
abbrev S65536x512 : Shape := ⟨2, ![65536, 512]⟩
abbrev S32x4x512x512 : Shape := ⟨4, ![32, 4, 512, 512]⟩
abbrev S32x16x128x512 : Shape := ⟨4, ![32, 16, 128, 512]⟩
abbrev S65536x2048 : Shape := ⟨2, ![65536, 2048]⟩
abbrev S512x1024 : Shape := ⟨2, ![512, 1024]⟩
abbrev S512x128 : Shape := ⟨2, ![512, 128]⟩
abbrev S512x256 : Shape := ⟨2, ![512, 256]⟩
abbrev S1x256x512 : Shape := ⟨3, ![1, 256, 512]⟩
abbrev S512x512 : Shape := ⟨2, ![512, 512]⟩
abbrev S1x4x128x512 : Shape := ⟨4, ![1, 4, 128, 512]⟩
abbrev S1x16x32x512 : Shape := ⟨4, ![1, 16, 32, 512]⟩
abbrev S512x2048 : Shape := ⟨2, ![512, 2048]⟩
abbrev S4x512x128 : Shape := ⟨3, ![4, 512, 128]⟩
abbrev S4x4x128x128 : Shape := ⟨4, ![4, 4, 128, 128]⟩
abbrev S512 : Shape := ⟨1, ![512]⟩
abbrev S512x1 : Shape := ⟨2, ![512, 1]⟩
abbrev S1024x512 : Shape := ⟨2, ![1024, 512]⟩
abbrev S128x512 : Shape := ⟨2, ![128, 512]⟩
abbrev S1x128x512 : Shape := ⟨3, ![1, 128, 512]⟩
abbrev S1x512x128 : Shape := ⟨3, ![1, 512, 128]⟩
abbrev S1x128x128 : Shape := ⟨3, ![1, 128, 128]⟩
abbrev S128x128 : Shape := ⟨2, ![128, 128]⟩
abbrev S1x1x128x128 : Shape := ⟨4, ![1, 1, 128, 128]⟩
abbrev S1x1x32x128 : Shape := ⟨4, ![1, 1, 32, 128]⟩
abbrev S32x128 : Shape := ⟨2, ![32, 128]⟩

abbrev nBuf : Space → Nat
  | .hbm => 39
  | .vmem => 36
  | .smem => 0
  | _ => 0

abbrev bufTy : (tb : Table) → Fin (tcTables nBuf tb) → BufTy
  | .hbm, ⟨0, _⟩ => ⟨S32x2048x1024, .f32⟩
  | .hbm, ⟨1, _⟩ => ⟨S1024x8192, .f32⟩
  | .hbm, ⟨2, _⟩ => ⟨S1024, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S2048, .i32⟩
  | .hbm, ⟨12, _⟩ => ⟨S2048, .f32⟩
  | .hbm, ⟨13, _⟩ => ⟨S2048x1, .f32⟩
  | .hbm, ⟨14, _⟩ => ⟨S1x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x128, .f32⟩
  | .hbm, ⟨21, _⟩ => ⟨S2048x64, .f32⟩
  | .hbm, ⟨22, _⟩ => ⟨S2048x128, .f32⟩
  | .hbm, ⟨23, _⟩ => ⟨S1x1024, .f32⟩
  | .hbm, ⟨24, _⟩ => ⟨S1024x8192, .bf16⟩
  | .hbm, ⟨25, _⟩ => ⟨S65536x1024, .f32⟩
  | .hbm, ⟨26, _⟩ => ⟨S65536x1024, .bf16⟩
  | .hbm, ⟨27, _⟩ => ⟨S65536x256, .bf16⟩
  | .hbm, ⟨28, _⟩ => ⟨S32x256x2048, .bf16⟩
  | .hbm, ⟨29, _⟩ => ⟨S65536x512, .bf16⟩
  | .hbm, ⟨30, _⟩ => ⟨S65536x512, .bf16⟩
  | .hbm, ⟨31, _⟩ => ⟨S65536x512, .bf16⟩
  | .hbm, ⟨32, _⟩ => ⟨S32x4x512x512, .bf16⟩
  | .hbm, ⟨33, _⟩ => ⟨S32x4x512x512, .bf16⟩
  | .hbm, ⟨34, _⟩ => ⟨S32x4x512x512, .bf16⟩
  | .hbm, ⟨35, _⟩ => ⟨S32x16x128x512, .bf16⟩
  | .hbm, ⟨36, _⟩ => ⟨S32x16x128x512, .bf16⟩
  | .hbm, ⟨37, _⟩ => ⟨S32x16x128x512, .bf16⟩
  | .hbm, ⟨38, _⟩ => ⟨S65536x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x8192, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | .local _ .vmem, ⟨10, _⟩ => ⟨S512x256, .bf16⟩
  | .local _ .vmem, ⟨11, _⟩ => ⟨S512x256, .bf16⟩
  | .local _ .vmem, ⟨12, _⟩ => ⟨S1x256x512, .bf16⟩
  | .local _ .vmem, ⟨13, _⟩ => ⟨S1x256x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S1x4x128x512, .bf16⟩
  | .local _ .vmem, ⟨21, _⟩ => ⟨S1x4x128x512, .bf16⟩
  | .local _ .vmem, ⟨22, _⟩ => ⟨S1x4x128x512, .bf16⟩
  | .local _ .vmem, ⟨23, _⟩ => ⟨S1x4x128x512, .bf16⟩
  | .local _ .vmem, ⟨24, _⟩ => ⟨S1x4x128x512, .bf16⟩
  | .local _ .vmem, ⟨25, _⟩ => ⟨S1x4x128x512, .bf16⟩
  | .local _ .vmem, ⟨26, _⟩ => ⟨S1x16x32x512, .bf16⟩
  | .local _ .vmem, ⟨27, _⟩ => ⟨S1x16x32x512, .bf16⟩
  | .local _ .vmem, ⟨28, _⟩ => ⟨S1x16x32x512, .bf16⟩
  | .local _ .vmem, ⟨29, _⟩ => ⟨S1x16x32x512, .bf16⟩
  | .local _ .vmem, ⟨30, _⟩ => ⟨S1x16x32x512, .bf16⟩
  | .local _ .vmem, ⟨31, _⟩ => ⟨S1x16x32x512, .bf16⟩
  | .local _ .vmem, ⟨32, _⟩ => ⟨S512x2048, .bf16⟩
  | .local _ .vmem, ⟨33, _⟩ => ⟨S512x2048, .bf16⟩
  | .local _ .vmem, ⟨34, _⟩ => ⟨S4x512x128, .f32⟩
  | .local _ .vmem, ⟨35, _⟩ => ⟨S4x4x128x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev main_v21_2 : Ref sig .tc := ⟨.hbm, 28, rfl⟩
abbrev main_v21_3 : Ref sig .tc := ⟨.hbm, 29, rfl⟩
abbrev main_v21_4 : Ref sig .tc := ⟨.hbm, 30, rfl⟩
abbrev main_v21_5 : Ref sig .tc := ⟨.hbm, 31, rfl⟩
abbrev main_v21_6 : Ref sig .tc := ⟨.hbm, 32, rfl⟩
abbrev main_v21_7 : Ref sig .tc := ⟨.hbm, 33, rfl⟩
abbrev main_v21_8 : Ref sig .tc := ⟨.hbm, 34, rfl⟩
abbrev main_v21_9 : Ref sig .tc := ⟨.hbm, 35, rfl⟩
abbrev main_v21_10 : Ref sig .tc := ⟨.hbm, 36, rfl⟩
abbrev main_v21_11 : Ref sig .tc := ⟨.hbm, 37, rfl⟩
abbrev main_v21_12 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_16 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x16x32x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x16x32x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x16x32x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel3Ideal.lean ====
variable {F : FTy → Type} [FloatOps F] [Named F]
def κ : String → Option EReal := fun
  | "q_scale" => some (((Real.sqrt 128)⁻¹ * (Real.log 2)⁻¹ : ℝ) : EReal)
  | _ => none
-- ==== Reference3Ideal.lean ====
abbrev S32x2048x1024 : Shape := ⟨3, ![32, 2048, 1024]⟩
abbrev S1024x8192 : Shape := ⟨2, ![1024, 8192]⟩
abbrev S1024 : Shape := ⟨1, ![1024]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S32x2048 : Shape := ⟨2, ![32, 2048]⟩
abbrev S32x2048x1 : Shape := ⟨3, ![32, 2048, 1]⟩
abbrev S1x1x1024 : Shape := ⟨3, ![1, 1, 1024]⟩
abbrev S32x2048x8192 : Shape := ⟨3, ![32, 2048, 8192]⟩
abbrev S32x2048x256 : Shape := ⟨3, ![32, 2048, 256]⟩
abbrev S32x2048x512 : Shape := ⟨3, ![32, 2048, 512]⟩
abbrev S32x2048x2048 : Shape := ⟨3, ![32, 2048, 2048]⟩
abbrev S32x2048x8x128 : Shape := ⟨4, ![32, 2048, 8, 128]⟩
abbrev S32x2048x8x64 : Shape := ⟨4, ![32, 2048, 8, 64]⟩
abbrev S32x2048x2x128 : Shape := ⟨4, ![32, 2048, 2, 128]⟩
abbrev S32x2048x2x64 : Shape := ⟨4, ![32, 2048, 2, 64]⟩
abbrev S32x256x2048 : Shape := ⟨3, ![32, 256, 2048]⟩
abbrev S32x2048x4x128 : Shape := ⟨4, ![32, 2048, 4, 128]⟩
abbrev S32x2048x4x64 : Shape := ⟨4, ![32, 2048, 4, 64]⟩
abbrev S32x512x4x4x128 : Shape := ⟨5, ![32, 512, 4, 4, 128]⟩
abbrev S32x4x512x4x128 : Shape := ⟨5, ![32, 4, 512, 4, 128]⟩
abbrev S32x4x512x512 : Shape := ⟨4, ![32, 4, 512, 512]⟩
abbrev S32x128x16x4x128 : Shape := ⟨5, ![32, 128, 16, 4, 128]⟩
abbrev S32x16x128x4x128 : Shape := ⟨5, ![32, 16, 128, 4, 128]⟩
abbrev S32x16x128x512 : Shape := ⟨4, ![32, 16, 128, 512]⟩
abbrev S65536x1024 : Shape := ⟨2, ![65536, 1024]⟩
abbrev S65536x256 : Shape := ⟨2, ![65536, 256]⟩
abbrev S65536x512 : Shape := ⟨2, ![65536, 512]⟩
abbrev S65536x2048 : Shape := ⟨2, ![65536, 2048]⟩

abbrev nBuf : Space → Nat
  | .hbm => 236
  | .vmem => 0
  | .smem => 0
  | _ => 0

abbrev hbmTy0_0 (i : Nat) : BufTy := match i % 128 with
  | 0 => ⟨S32x2048x1024, .f32⟩
  | 1 => ⟨S1024x8192, .f32⟩
  | 2 => ⟨S1024, .f32⟩
  | 3 => ⟨S2048, .i32⟩
  | 4 => ⟨S64, .f32⟩
  | 5 => ⟨S64, .f32⟩
  | 6 => ⟨S_, .f32⟩
  | 7 => ⟨S64, .f32⟩
  | 8 => ⟨S64, .f32⟩
  | 9 => ⟨S_, .f32⟩
  | 10 => ⟨S64, .f32⟩
  | 11 => ⟨S64, .f32⟩
  | 12 => ⟨S2048, .f32⟩
  | 13 => ⟨S2048x1, .f32⟩
  | 14 => ⟨S1x64, .f32⟩
  | 15 => ⟨S2048x64, .f32⟩
  | 16 => ⟨S2048x64, .f32⟩
  | 17 => ⟨S2048x64, .f32⟩
  | 18 => ⟨S2048x64, .f32⟩
  | 19 => ⟨S1x2048x1x64, .f32⟩
  | 20 => ⟨S2048x64, .f32⟩
  | 21 => ⟨S1x2048x1x64, .f32⟩
  | 22 => ⟨S32x2048x1024, .f32⟩
  | 23 => ⟨S_, .f32⟩
  | 24 => ⟨S32x2048, .f32⟩
  | 25 => ⟨S32x2048x1, .f32⟩
  | 26 => ⟨S_, .f32⟩
  | 27 => ⟨S32x2048x1, .f32⟩
  | 28 => ⟨S32x2048x1, .f32⟩
  | 29 => ⟨S_, .f32⟩
  | 30 => ⟨S32x2048x1, .f32⟩
  | 31 => ⟨S32x2048x1, .f32⟩
  | 32 => ⟨S32x2048x1, .f32⟩
  | 33 => ⟨S32x2048x1024, .f32⟩
  | 34 => ⟨S32x2048x1024, .f32⟩
  | 35 => ⟨S1x1x1024, .f32⟩
  | 36 => ⟨S32x2048x1024, .f32⟩
  | 37 => ⟨S32x2048x1024, .f32⟩
  | 38 => ⟨S32x2048x8192, .f32⟩
  | 39 => ⟨S32x2048x1024, .f32⟩
  | 40 => ⟨S32x2048x256, .f32⟩
  | 41 => ⟨S32x2048x256, .f32⟩
  | 42 => ⟨S32x2048x512, .f32⟩
  | 43 => ⟨S32x2048x512, .f32⟩
  | 44 => ⟨S32x2048x512, .f32⟩
  | 45 => ⟨S32x2048x2048, .f32⟩
  | 46 => ⟨S32x2048x8x128, .f32⟩
  | 47 => ⟨S32x2048x8x64, .f32⟩
  | 48 => ⟨S32x2048x8x64, .f32⟩
  | 49 => ⟨S32x2048x8x64, .f32⟩
  | 50 => ⟨S32x2048x8x64, .f32⟩
  | 51 => ⟨S32x2048x8x64, .f32⟩
  | 52 => ⟨S32x2048x8x64, .f32⟩
  | 53 => ⟨S32x2048x8x64, .f32⟩
  | 54 => ⟨S32x2048x8x64, .f32⟩
  | 55 => ⟨S32x2048x8x64, .f32⟩
  | 56 => ⟨S32x2048x8x64, .f32⟩
  | 57 => ⟨S32x2048x8x64, .f32⟩
  | 58 => ⟨S32x2048x8x64, .f32⟩
  | 59 => ⟨S32x2048x8x128, .f32⟩
  | 60 => ⟨S_, .f32⟩
  | 61 => ⟨S_, .f32⟩
  | 62 => ⟨S32x2048x8x128, .f32⟩
  | 63 => ⟨S32x2048x8x128, .f32⟩
  | 64 => ⟨S_, .f32⟩
  | 65 => ⟨S_, .f32⟩
  | 66 => ⟨S32x2048x8x128, .f32⟩
  | 67 => ⟨S32x2048x8x128, .f32⟩
  | 68 => ⟨S32x2048x2x128, .f32⟩
  | 69 => ⟨S32x2048x2x64, .f32⟩
  | 70 => ⟨S32x2048x2x64, .f32⟩
  | 71 => ⟨S32x2048x2x64, .f32⟩
  | 72 => ⟨S32x2048x2x64, .f32⟩
  | 73 => ⟨S32x2048x2x64, .f32⟩
  | 74 => ⟨S32x2048x2x64, .f32⟩
  | 75 => ⟨S32x2048x2x64, .f32⟩
  | 76 => ⟨S32x2048x2x64, .f32⟩
  | 77 => ⟨S32x2048x2x64, .f32⟩
  | 78 => ⟨S32x2048x2x64, .f32⟩
  | 79 => ⟨S32x2048x2x64, .f32⟩
  | 80 => ⟨S32x2048x2x64, .f32⟩
  | 81 => ⟨S32x2048x2x128, .f32⟩
  | 82 => ⟨S32x256x2048, .f32⟩
  | 83 => ⟨S32x2048x4x128, .f32⟩
  | 84 => ⟨S32x2048x4x64, .f32⟩
  | 85 => ⟨S32x2048x4x64, .f32⟩
  | 86 => ⟨S32x2048x4x64, .f32⟩
  | 87 => ⟨S32x2048x4x64, .f32⟩
  | 88 => ⟨S32x2048x4x64, .f32⟩
  | 89 => ⟨S32x2048x4x64, .f32⟩
  | 90 => ⟨S32x2048x4x64, .f32⟩
  | 91 => ⟨S32x2048x4x64, .f32⟩
  | 92 => ⟨S32x2048x4x64, .f32⟩
  | 93 => ⟨S32x2048x4x64, .f32⟩
  | 94 => ⟨S32x2048x4x64, .f32⟩
  | 95 => ⟨S32x2048x4x64, .f32⟩
  | 96 => ⟨S32x2048x4x128, .f32⟩
  | 97 => ⟨S_, .f32⟩
  | 98 => ⟨S_, .f32⟩
  | 99 => ⟨S32x2048x4x128, .f32⟩
  | 100 => ⟨S32x2048x4x128, .f32⟩
  | 101 => ⟨S_, .f32⟩
  | 102 => ⟨S_, .f32⟩
  | 103 => ⟨S32x2048x4x128, .f32⟩
  | 104 => ⟨S32x2048x4x128, .f32⟩
  | 105 => ⟨S32x2048x4x128, .f32⟩
  | 106 => ⟨S32x2048x4x64, .f32⟩
  | 107 => ⟨S32x2048x4x64, .f32⟩
  | 108 => ⟨S32x2048x4x64, .f32⟩
  | 109 => ⟨S32x2048x4x64, .f32⟩
  | 110 => ⟨S32x2048x4x64, .f32⟩
  | 111 => ⟨S32x2048x4x64, .f32⟩
  | 112 => ⟨S32x2048x4x64, .f32⟩
  | 113 => ⟨S32x2048x4x64, .f32⟩
  | 114 => ⟨S32x2048x4x64, .f32⟩
  | 115 => ⟨S32x2048x4x64, .f32⟩
  | 116 => ⟨S32x2048x4x64, .f32⟩
  | 117 => ⟨S32x2048x4x64, .f32⟩
  | 118 => ⟨S32x2048x4x128, .f32⟩
  | 119 => ⟨S32x2048x512, .f32⟩
  | 120 => ⟨S32x2048x512, .f32⟩
  | 121 => ⟨S32x2048x512, .f32⟩
  | 122 => ⟨S32x2048x4x128, .f32⟩
  | 123 => ⟨S32x2048x4x64, .f32⟩
  | 124 => ⟨S32x2048x4x64, .f32⟩
  | 125 => ⟨S32x2048x4x64, .f32⟩
  | 126 => ⟨S32x2048x4x64, .f32⟩
  | 127 => ⟨S32x2048x4x64, .f32⟩
  | _ => ⟨S32x2048x1024, .f32⟩

abbrev hbmTy0_1 (i : Nat) : BufTy := match i % 128 with
  | 0 => ⟨S32x2048x4x64, .f32⟩
  | 1 => ⟨S32x2048x4x64, .f32⟩
  | 2 => ⟨S32x2048x4x64, .f32⟩
  | 3 => ⟨S32x2048x4x64, .f32⟩
  | 4 => ⟨S32x2048x4x64, .f32⟩
  | 5 => ⟨S32x2048x4x64, .f32⟩
  | 6 => ⟨S32x2048x4x64, .f32⟩
  | 7 => ⟨S32x2048x4x128, .f32⟩
  | 8 => ⟨S_, .f32⟩
  | 9 => ⟨S_, .f32⟩
  | 10 => ⟨S32x2048x4x128, .f32⟩
  | 11 => ⟨S32x2048x4x128, .f32⟩
  | 12 => ⟨S_, .f32⟩
  | 13 => ⟨S_, .f32⟩
  | 14 => ⟨S32x2048x4x128, .f32⟩
  | 15 => ⟨S32x2048x4x128, .f32⟩
  | 16 => ⟨S32x512x4x4x128, .f32⟩
  | 17 => ⟨S32x4x512x4x128, .f32⟩
  | 18 => ⟨S32x4x512x512, .f32⟩
  | 19 => ⟨S32x2048x4x128, .f32⟩
  | 20 => ⟨S32x2048x4x64, .f32⟩
  | 21 => ⟨S32x2048x4x64, .f32⟩
  | 22 => ⟨S32x2048x4x64, .f32⟩
  | 23 => ⟨S32x2048x4x64, .f32⟩
  | 24 => ⟨S32x2048x4x64, .f32⟩
  | 25 => ⟨S32x2048x4x64, .f32⟩
  | 26 => ⟨S32x2048x4x64, .f32⟩
  | 27 => ⟨S32x2048x4x64, .f32⟩
  | 28 => ⟨S32x2048x4x64, .f32⟩
  | 29 => ⟨S32x2048x4x64, .f32⟩
  | 30 => ⟨S32x2048x4x64, .f32⟩
  | 31 => ⟨S32x2048x4x64, .f32⟩
  | 32 => ⟨S32x2048x4x128, .f32⟩
  | 33 => ⟨S32x512x4x4x128, .f32⟩
  | 34 => ⟨S32x4x512x4x128, .f32⟩
  | 35 => ⟨S32x4x512x512, .f32⟩
  | 36 => ⟨S32x2048x4x128, .f32⟩
  | 37 => ⟨S32x512x4x4x128, .f32⟩
  | 38 => ⟨S32x4x512x4x128, .f32⟩
  | 39 => ⟨S32x4x512x512, .f32⟩
  | 40 => ⟨S32x2048x512, .f32⟩
  | 41 => ⟨S32x2048x512, .f32⟩
  | 42 => ⟨S32x2048x512, .f32⟩
  | 43 => ⟨S32x2048x4x128, .f32⟩
  | 44 => ⟨S32x2048x4x64, .f32⟩
  | 45 => ⟨S32x2048x4x64, .f32⟩
  | 46 => ⟨S32x2048x4x64, .f32⟩
  | 47 => ⟨S32x2048x4x64, .f32⟩
  | 48 => ⟨S32x2048x4x64, .f32⟩
  | 49 => ⟨S32x2048x4x64, .f32⟩
  | 50 => ⟨S32x2048x4x64, .f32⟩
  | 51 => ⟨S32x2048x4x64, .f32⟩
  | 52 => ⟨S32x2048x4x64, .f32⟩
  | 53 => ⟨S32x2048x4x64, .f32⟩
  | 54 => ⟨S32x2048x4x64, .f32⟩
  | 55 => ⟨S32x2048x4x64, .f32⟩
  | 56 => ⟨S32x2048x4x128, .f32⟩
  | 57 => ⟨S_, .f32⟩
  | 58 => ⟨S_, .f32⟩
  | 59 => ⟨S32x2048x4x128, .f32⟩
  | 60 => ⟨S32x2048x4x128, .f32⟩
  | 61 => ⟨S_, .f32⟩
  | 62 => ⟨S_, .f32⟩
  | 63 => ⟨S32x2048x4x128, .f32⟩
  | 64 => ⟨S32x2048x4x128, .f32⟩
  | 65 => ⟨S32x128x16x4x128, .f32⟩
  | 66 => ⟨S32x16x128x4x128, .f32⟩
  | 67 => ⟨S32x16x128x512, .f32⟩
  | 68 => ⟨S32x2048x4x128, .f32⟩
  | 69 => ⟨S32x2048x4x64, .f32⟩
  | 70 => ⟨S32x2048x4x64, .f32⟩
  | 71 => ⟨S32x2048x4x64, .f32⟩
  | 72 => ⟨S32x2048x4x64, .f32⟩
  | 73 => ⟨S32x2048x4x64, .f32⟩
  | 74 => ⟨S32x2048x4x64, .f32⟩
  | 75 => ⟨S32x2048x4x64, .f32⟩
  | 76 => ⟨S32x2048x4x64, .f32⟩
  | 77 => ⟨S32x2048x4x64, .f32⟩
  | 78 => ⟨S32x2048x4x64, .f32⟩
  | 79 => ⟨S32x2048x4x64, .f32⟩
  | 80 => ⟨S32x2048x4x64, .f32⟩
  | 81 => ⟨S32x2048x4x128, .f32⟩
  | 82 => ⟨S32x128x16x4x128, .f32⟩
  | 83 => ⟨S32x16x128x4x128, .f32⟩
  | 84 => ⟨S32x16x128x512, .f32⟩
  | 85 => ⟨S32x2048x4x128, .f32⟩
  | 86 => ⟨S32x128x16x4x128, .f32⟩
  | 87 => ⟨S32x16x128x4x128, .f32⟩
  | 88 => ⟨S32x16x128x512, .f32⟩
  | 89 => ⟨S65536x1024, .f32⟩
  | 90 => ⟨S65536x256, .f32⟩
  | 91 => ⟨S65536x512, .f32⟩
  | 92 => ⟨S65536x512, .f32⟩
  | 93 => ⟨S65536x512, .f32⟩
  | 94 => ⟨S65536x2048, .f32⟩
  | 95 => ⟨S65536x1024, .bf16⟩
  | 96 => ⟨S65536x256, .bf16⟩
  | 97 => ⟨S32x256x2048, .bf16⟩
  | 98 => ⟨S65536x512, .bf16⟩
  | 99 => ⟨S65536x512, .bf16⟩
  | 100 => ⟨S65536x512, .bf16⟩
  | 101 => ⟨S32x4x512x512, .bf16⟩
  | 102 => ⟨S32x4x512x512, .bf16⟩
  | 103 => ⟨S32x4x512x512, .bf16⟩
  | 104 => ⟨S32x16x128x512, .bf16⟩
  | 105 => ⟨S32x16x128x512, .bf16⟩
  | 106 => ⟨S32x16x128x512, .bf16⟩
  | 107 => ⟨S65536x2048, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_5 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_cst_6 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_7 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_cst_8 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_cst_9 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_cst_10 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_cst_11 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩

abbrev nD : Nat := 1
abbrev τ : Topo := Topo.v7x

variable {F : FTy → Type} [FloatOps F]
-- ==== Proof.AttnSpec.lean ====
/- Softmax attention with a sink, for one query: the value on any finite set of keys, that keys outside the window may be left out
   or padded, and that taking powers of two of scaled scores and multiplying by the reciprocal of the denominator gives the same. -/
module

public import Idealize.ShloMosaic.PureOps.Ideal
public import Idealize.ShloMosaic.PureOps.Ideal.Laws
public import Idealize.ShloMosaic.Lib.IdealHost

@[expose] public section

noncomputable section

namespace Cert.Attn

open Idealize.ShloMosaic

/-- The largest of the scores and the sink. -/
def top {ι : Type} [Fintype ι] (S : ι → EReal) (σ : EReal) : EReal := max (Finset.univ.sup S) σ

/-- Attention of one query: scores `S` (`⊥` where masked), sink `σ`, values `v`. -/
def attn {ι : Type} [Fintype ι] (S : ι → EReal) (σ : EReal) (v : ι → EReal) : EReal :=
  Ideal.div (∑ j, v j * Ideal.exp (S j - top S σ)) (∑ j, Ideal.exp (S j - top S σ) + Ideal.exp (σ - top S σ))

/-- A fold of `max` from `⊥` is the supremum. -/
theorem fold_max_bot {ι : Type} [Fintype ι] (S : ι → EReal) : (Finset.univ : Finset ι).fold max ⊥ S = Finset.univ.sup S := rfl

theorem exp_bot_sub (x : EReal) : Ideal.exp (⊥ - x) = 0 := by
  rw [sub_eq_add_neg, EReal.bot_add]; rfl

/-! ## Leaving out masked keys -/

section Window

variable {n N : Nat} (lo : ℤ)

/-- A sum over a window of a range, when what is outside either vanishes. -/
theorem sum_window {A : Fin n → EReal} {B : Fin N → EReal}
    (hAB : ∀ (i : Fin n) (j : Fin N), (j.val : ℤ) = lo + i.val → A i = B j)
    (hA : ∀ i : Fin n, (lo + i.val < 0 ∨ (N : ℤ) ≤ lo + i.val) → A i = 0)
    (hB : ∀ j : Fin N, ((j.val : ℤ) < lo ∨ lo + n ≤ j.val) → B j = 0) : ∑ i, A i = ∑ j, B j := by
  have hin : ∀ i : Fin n, A i ≠ 0 → 0 ≤ lo + i.val ∧ lo + i.val < N := fun i h => by
    by_contra hc; exact h (hA i (by omega))
  have hjn : ∀ j : Fin N, B j ≠ 0 → lo ≤ j.val ∧ (j.val : ℤ) < lo + n := fun j h => by
    by_contra hc; exact h (hB j (by omega))
  refine Finset.sum_bij_ne_zero (fun i _ h => (⟨(lo + i.val).toNat, by have := hin i h; omega⟩ : Fin N))
    (fun _ _ _ => Finset.mem_univ _) ?_ ?_ ?_
  · intro i _ h i' _ h' e
    have e' := congrArg Fin.val e
    simp only at e'
    have := hin i h; have := hin i' h'
    exact Fin.ext (by omega)
  · intro j _ h
    have hj := hjn j h
    have e : A ⟨(j.val - lo).toNat, by omega⟩ = B j := hAB _ j (by simp only; omega)
    exact ⟨⟨(j.val - lo).toNat, by omega⟩, Finset.mem_univ _, by rw [e]; exact h, Fin.ext (by simp only; omega)⟩
  · intro i _ h
    have := hin i h
    exact hAB i _ (by simp only; omega)

/-- The suprema of a window and of the whole range agree when what is outside either is masked. -/
theorem sup_window {A : Fin n → EReal} {B : Fin N → EReal}
    (hAB : ∀ (i : Fin n) (j : Fin N), (j.val : ℤ) = lo + i.val → A i = B j)
    (hA : ∀ i : Fin n, (lo + i.val < 0 ∨ (N : ℤ) ≤ lo + i.val) → A i = ⊥)
    (hB : ∀ j : Fin N, ((j.val : ℤ) < lo ∨ lo + n ≤ j.val) → B j = ⊥) : Finset.univ.sup A = Finset.univ.sup B := by
  refine le_antisymm (Finset.sup_le fun i _ => ?_) (Finset.sup_le fun j _ => ?_)
  · by_cases h : lo + i.val < 0 ∨ (N : ℤ) ≤ lo + i.val
    · rw [hA i h]; exact bot_le
    · rw [hAB i ⟨(lo + i.val).toNat, by omega⟩ (by simp only; omega)]; exact Finset.le_sup (Finset.mem_univ _)
  · by_cases h : (j.val : ℤ) < lo ∨ lo + n ≤ j.val
    · rw [hB j h]; exact bot_le
    · rw [← hAB ⟨(j.val - lo).toNat, by omega⟩ j (by simp only; omega)]; exact Finset.le_sup (Finset.mem_univ _)

/-- ATTENTION OVER A WINDOW is attention over all keys, when the keys outside the window are masked, and so are the window's places
    that hold no key. -/
theorem attn_window {A : Fin n → EReal} {B : Fin N → EReal} {a : Fin n → EReal} {b : Fin N → EReal} (σ : EReal)
    (hAB : ∀ (i : Fin n) (j : Fin N), (j.val : ℤ) = lo + i.val → A i = B j)
    (hab : ∀ (i : Fin n) (j : Fin N), (j.val : ℤ) = lo + i.val → a i = b j)
    (hA : ∀ i : Fin n, (lo + i.val < 0 ∨ (N : ℤ) ≤ lo + i.val) → A i = ⊥)
    (hB : ∀ j : Fin N, ((j.val : ℤ) < lo ∨ lo + n ≤ j.val) → B j = ⊥) : attn A σ a = attn B σ b := by
  have hM : top A σ = top B σ := by unfold top; rw [sup_window lo hAB hA hB]
  unfold attn
  rw [hM]
  congr 1
  · refine sum_window lo (fun i j h => by rw [hAB i j h, hab i j h]) (fun i h => ?_) (fun j h => ?_)
    · rw [hA i h, exp_bot_sub, mul_zero]
    · rw [hB j h, exp_bot_sub, mul_zero]
  · congr 1
    refine sum_window lo (fun i j h => by rw [hAB i j h]) (fun i h => ?_) (fun j h => ?_)
    · rw [hA i h, exp_bot_sub]
    · rw [hB j h, exp_bot_sub]

end Window

theorem coe_sum {ι : Type} (s : Finset ι) (f : ι → ℝ) : ((∑ j ∈ s, f j : ℝ) : EReal) = ∑ j ∈ s, (f j : EReal) := by
  classical
  induction s using Finset.induction_on with
  | empty => rfl
  | insert a s h ih => rw [Finset.sum_insert h, Finset.sum_insert h, EReal.coe_add, ih]

/-! ## Powers of two of scaled scores -/

/-- The factor from natural to binary exponents. -/
def l2e : ℝ := (Real.log 2)⁻¹

theorem l2e_pos : 0 < l2e := inv_pos.2 (Real.log_pos (by norm_num))

theorem exp2_coe_scaled (r μ : ℝ) : Ideal.exp2 ((r : EReal) * (l2e : ℝ) - (μ : EReal) * (l2e : ℝ)) = Ideal.exp ((r : EReal) - μ) := by
  rw [← EReal.coe_mul, ← EReal.coe_mul, ← EReal.coe_sub, ← EReal.coe_sub]
  show ((Real.rpow 2 (r * l2e - μ * l2e) : ℝ) : EReal) = ((Real.exp (r - μ) : ℝ) : EReal)
  congr 1
  show (2 : ℝ) ^ (r * l2e - μ * l2e) = _
  rw [Real.rpow_def_of_pos (by norm_num)]
  congr 1
  have h : Real.log 2 ≠ 0 := (Real.log_pos (by norm_num)).ne'
  unfold l2e
  field_simp

theorem exp2_scaled {S : EReal} (hS : S = ⊥ ∨ ∃ r : ℝ, S = r) (μ : ℝ) :
    Ideal.exp2 (S * (l2e : ℝ) - (μ : EReal) * (l2e : ℝ)) = Ideal.exp (S - μ) := by
  rcases hS with rfl | ⟨r, rfl⟩
  · rw [EReal.bot_mul_coe_of_pos l2e_pos, sub_eq_add_neg, sub_eq_add_neg, EReal.bot_add, EReal.bot_add]; rfl
  · exact exp2_coe_scaled r μ

/-- The largest score is a real number. -/
theorem top_real {ι : Type} [Fintype ι] {S : ι → EReal} (hS : ∀ j, S j = ⊥ ∨ ∃ r : ℝ, S j = r) (σ : ℝ) : ∃ μ : ℝ, top S σ = μ := by
  have h1 : top S (σ : EReal) ≠ ⊤ := by
    refine ne_of_lt (max_lt ((Finset.sup_lt_iff (by exact bot_lt_top)).2 fun j _ => ?_) (EReal.coe_lt_top σ))
    rcases hS j with h | ⟨r, h⟩ <;> rw [h]
    · exact bot_lt_top
    · exact EReal.coe_lt_top r
  have h2 : top S (σ : EReal) ≠ ⊥ := ne_of_gt (lt_of_lt_of_le (EReal.bot_lt_coe σ) (le_max_right _ _))
  exact ⟨(top S (σ : EReal)).toReal, (EReal.coe_toReal h1 h2).symm⟩

theorem top_scaled {ι : Type} [Fintype ι] (S : ι → EReal) (σ : EReal) :
    top (fun j => S j * (l2e : ℝ)) (σ * (l2e : ℝ)) = top S σ * (l2e : ℝ) := by
  have hm : Monotone fun x : EReal => x * (l2e : ℝ) := fun a b h =>
    mul_le_mul_of_nonneg_right h (EReal.coe_nonneg.2 l2e_pos.le)
  unfold top
  rw [hm.map_max]
  congr 1
  exact (Finset.comp_sup_eq_sup_comp_of_is_total (s := Finset.univ) (f := S) (fun x : EReal => x * (l2e : ℝ)) hm
    (EReal.bot_mul_coe_of_pos l2e_pos)).symm

theorem exp_nonneg (x : EReal) : 0 ≤ Ideal.exp x := by
  induction x with
  | bot => exact le_refl _
  | top => exact le_top
  | coe r => exact EReal.coe_nonneg.2 (Real.exp_pos r).le

/-- ATTENTION IN BASE TWO: scores and sink times `1 / log 2`, powers of two, and the reciprocal of the denominator taken once. -/
theorem attn_base2 {ι : Type} [Fintype ι] {S : ι → EReal} (hS : ∀ j, S j = ⊥ ∨ ∃ r : ℝ, S j = r) (σ : ℝ) (v X : ι → EReal) (τ : EReal)
    (hX : ∀ j, X j = S j * (l2e : ℝ)) (hτ : τ = (σ : EReal) * (l2e : ℝ)) :
    (∑ j, v j * Ideal.exp2 (X j - top X τ)) * Ideal.div 1 (∑ j, Ideal.exp2 (X j - top X τ) + Ideal.exp2 (τ - top X τ))
      = attn S σ v := by
  obtain rfl : X = fun j => S j * (l2e : ℝ) := funext hX
  subst hτ
  obtain ⟨μ, hμ⟩ := top_real hS σ
  rw [top_scaled, hμ]
  unfold attn
  rw [hμ]
  have e1 : ∀ j, Ideal.exp2 (S j * (l2e : ℝ) - (μ : EReal) * (l2e : ℝ)) = Ideal.exp (S j - μ) := fun j => exp2_scaled (hS j) μ
  simp only [e1, exp2_coe_scaled]
  have hd : (∑ j, Ideal.exp (S j - (μ : EReal)) + Ideal.exp ((σ : EReal) - μ)) ≠ 0 := by
    refine ne_of_gt (lt_of_lt_of_le ?_ (le_add_of_nonneg_left (Finset.sum_nonneg fun j _ => exp_nonneg _)))
    rw [← EReal.coe_sub]
    exact EReal.coe_pos.2 (Real.exp_pos _)
  unfold Ideal.div
  rw [if_neg hd, if_neg hd, one_mul]

/-- A scaled score: the query scaled by `c` and then by `1 / log 2` in one factor, plus a mask of `0` or `⊥`. -/
theorem score_scaled {n : Nat} (k q : Fin n → EReal) (hk : ∀ d, ∃ r : ℝ, k d = r) (hq : ∀ d, ∃ r : ℝ, q d = r) (c : ℝ) (p : Prop)
    [Decidable p] (b : EReal) (hb : b = if p then 0 else ⊥) :
    (∑ d, k d * (q d * ((c * l2e : ℝ) : EReal))) + b = (if p then ∑ d, k d * (q d * (c : EReal)) else ⊥) * (l2e : ℝ) := by
  subst hb
  by_cases h : p
  · rw [if_pos h, if_pos h, add_zero]
    choose k' hk' using hk
    choose q' hq' using hq
    simp only [hk', hq', ← EReal.coe_mul]
    rw [← coe_sum, ← coe_sum, ← EReal.coe_mul, Finset.sum_mul]
    congr 1
    exact Finset.sum_congr rfl fun d _ => by ring
  · rw [if_neg h, if_neg h, EReal.add_bot, EReal.bot_mul_coe_of_pos l2e_pos]

/-- A masked score of finite factors is `⊥` or a real number. -/
theorem score_real {n : Nat} (k q : Fin n → EReal) (hk : ∀ d, ∃ r : ℝ, k d = r) (hq : ∀ d, ∃ r : ℝ, q d = r) (c : ℝ) (p : Prop)
    [Decidable p] : (if p then ∑ d, k d * (q d * (c : EReal)) else ⊥) = ⊥ ∨ ∃ r : ℝ, (if p then ∑ d, k d * (q d * (c : EReal)) else ⊥) = r := by
  by_cases h : p
  · right
    choose k' hk' using hk
    choose q' hq' using hq
    refine ⟨∑ d, k' d * (q' d * c), ?_⟩
    simp only [if_pos h, hk', hq', ← EReal.coe_mul]
    rw [← coe_sum]
  · left; exact if_neg h

end Cert.Attn

end
-- ==== Proof.AttnArrays.lean ====
/- The banded attention of the layer as one array of its arguments, and the words its masks compare. Used for the kernel and for
   the reference. -/
module

public import proofs.«01_k».proof.Proof.AttnSpec
public import Idealize.ShloMosaic.Lib.ValueIdx
public import Idealize.ShloMosaic.Lib.IdealHost

@[expose] public section

noncomputable section

namespace Cert.Attn

open Idealize.ShloMosaic Idealize.ShloMosaic.ValueIdx

/-- An array of extended reals with four axes; with three; a vector. -/
abbrev Quad (a b c d : Nat) := (⟨4, ![a, b, c, d]⟩ : Shape).Idx → EReal
abbrev Tri (a b c : Nat) := (⟨3, ![a, b, c]⟩ : Shape).Idx → EReal
abbrev Line (a : Nat) := (⟨1, ![a]⟩ : Shape).Idx → EReal

/-- The key head that query head `h` reads. -/
def group (h : Fin 8) : Fin 2 := ⟨h.val / 4, by have := h.isLt; omega⟩

/-- One over the square root of the head's width. -/
def invRoot : ℝ := (Real.sqrt 128)⁻¹

/-- The score of key `j` for query `l` of head `h`: `⊥` outside the window of 128 tokens on either side. -/
def scoreAt (q : Quad 32 2048 8 128) (k : Quad 32 2048 2 128) (b : Fin 32) (l : Fin 2048) (h : Fin 8) (j : Fin 2048) : EReal :=
  if |(j.val : ℤ) - l.val| ≤ 128 then ∑ e : Fin 128, k (ix4 b j (group h) e) * (q (ix4 b l h e) * ((invRoot : ℝ) : EReal)) else ⊥

/-- The attention's output at sequence `b`, token `l`, head `h`, dimension `d`. -/
def attnAt (q : Quad 32 2048 8 128) (k v : Quad 32 2048 2 128) (sink : Line 8) (b : Fin 32) (l : Fin 2048) (h : Fin 8) (d : Fin 128) :
    EReal :=
  attn (scoreAt q k b l h) (sink (ix1 h)) (fun j => v (ix4 b j (group h) d))

/-- The output with the heads side by side. -/
def attnArr (q : Quad 32 2048 8 128) (k v : Quad 32 2048 2 128) (sink : Line 8) : Tri 32 2048 1024 := fun y =>
  attnAt q k v sink (y 0) (y 1) ⟨(y 2).val / 128, by have : (y 2).val < 1024 := (y 2).isLt; omega⟩ ⟨(y 2).val % 128, by omega⟩

/-! ## The words the masks compare -/

theorem word_nat (n : Nat) : BitVec.ofNat 32 n = BitVec.ofInt 32 (n : ℤ) := (BitVec.ofInt_natCast 32 n).symm

theorem word_sub (a b : ℤ) : IntOp.subi (BitVec.ofInt 32 a) (BitVec.ofInt 32 b) = BitVec.ofInt 32 (a - b) := by
  show BitVec.ofInt 32 a - BitVec.ofInt 32 b = _
  rw [BitVec.sub_eq_add_neg, ← BitVec.ofInt_neg, ← BitVec.ofInt_add, Int.sub_eq_add_neg]

theorem word_mul (a b : ℤ) : IntOp.muli (BitVec.ofInt 32 a) (BitVec.ofInt 32 b) = BitVec.ofInt 32 (a * b) :=
  (BitVec.ofInt_mul a b).symm

theorem word_add (a b : ℤ) : IntOp.addi (BitVec.ofInt 32 a) (BitVec.ofInt 32 b) = BitVec.ofInt 32 (a + b) :=
  (BitVec.ofInt_add a b).symm

/-- The distance test. -/
theorem word_near (x : ℤ) (h : -512 ≤ x ∧ x < 512) :
    IntOp.cmpi .sle (IntOp.absi (BitVec.ofInt 32 x)) 128#32 = BitVec.ofBool (decide (|x| ≤ 128)) := by
  have e : ∀ n : Fin 1024, IntOp.cmpi .sle (IntOp.absi (BitVec.ofInt 32 ((n.val : ℤ) - 512))) 128#32
      = BitVec.ofBool (decide (|(n.val : ℤ) - 512| ≤ 128)) := by decide +kernel
  have := e ⟨(x + 512).toNat, by omega⟩
  have hx : (((x + 512).toNat : ℕ) : ℤ) - 512 = x := by omega
  simp only [hx] at this
  exact this

/-- The tests that a key exists. -/
theorem word_low (x : ℤ) (h : -128 ≤ x ∧ x < 2176) :
    IntOp.cmpi .sge (BitVec.ofInt 32 x) 0#32 = BitVec.ofBool (decide (0 ≤ x)) := by
  have e : ∀ n : Fin 2304, IntOp.cmpi .sge (BitVec.ofInt 32 ((n.val : ℤ) - 128)) 0#32
      = BitVec.ofBool (decide (0 ≤ (n.val : ℤ) - 128)) := by decide +kernel
  have := e ⟨(x + 128).toNat, by omega⟩
  have hx : (((x + 128).toNat : ℕ) : ℤ) - 128 = x := by omega
  simp only [hx] at this
  exact this

theorem word_high (x : ℤ) (h : -128 ≤ x ∧ x < 2176) :
    IntOp.cmpi .slt (BitVec.ofInt 32 x) 2048#32 = BitVec.ofBool (decide (x < 2048)) := by
  have e : ∀ n : Fin 2304, IntOp.cmpi .slt (BitVec.ofInt 32 ((n.val : ℤ) - 128)) 2048#32
      = BitVec.ofBool (decide ((n.val : ℤ) - 128 < 2048)) := by decide +kernel
  have := e ⟨(x + 128).toNat, by omega⟩
  have hx : (((x + 128).toNat : ℕ) : ℤ) - 128 = x := by omega
  simp only [hx] at this
  exact this

/-- A select on a test. -/
theorem select_test {α : Type} (p : Prop) [Decidable p] (a b : α) : Scalar.select (BitVec.ofBool (decide p)) a b = if p then a else b := by
  by_cases h : p <;> simp [h, Scalar.select]

/-- The word of −∞. -/
theorem minusInf : Ideal.ofBits .f32 0xFF800000#32 = (⊥ : EReal) := by simp [Ideal.ofBits, Ideal.ieee]

end Cert.Attn

end
-- ==== Proof.AttnChunk.lean ====
/- What one step of the attention kernel computes: for a block of 128 queries, a pair of heads and a window of 384 keys, the stored
   block of one head, read at a query and a dimension. -/
module

public import proofs.«01_k».proof.Proof.AttnSpec
public import proofs.«01_k».proof.Proof.Gen.KernelIdeal.Value
public import Idealize.ShloMosaic.Lib.MatmulPlain
public import Idealize.ShloMosaic.Lib.ValueIdx
public import Idealize.ShloMosaic.PureOps.Ideal.Laws

@[expose] public section

noncomputable section

namespace Cert.AttnChunk

open Cert.KernelIdeal Cert.KernelIdeal.Gen Cert.Attn Idealize.ShloMosaic Idealize.ShloMosaic.ValueIdx

/-- The log-base-two factor as the kernel names it. -/
def log2e : Ideal .f32 := Named.named Cert.KernelIdeal.κ "log2e" 0x3FB8AA3B#32

/-- The queries' scale as the kernel names it. -/
def qScale : Ideal .f32 := Named.named Cert.KernelIdeal.κ "q_scale" 0x3E0293EE#32

/-- A block of queries, scaled and rounded. -/
def scaled (q : FVec Ideal S1x128x128 .f32) : FVec Ideal S128x128 .bf16 :=
  truncf .bf16 (mulf (shapeCast S128x128 q shapeCasts_S1x128x128_S128x128) (broadcast S128x128 qScale)) bitsLt_bf16_f32

/-- Column `128 g + r` of a pair of heads. -/
def col (g : Fin 2) (r : Fin 128) : Fin 256 := ⟨128 * g.val + r.val, by have := g.isLt; have := r.isLt; omega⟩

section Chunk

variable (kb : FVec Ideal S1x384x128 .bf16) (q0 q1 : FVec Ideal S1x128x128 .f32) (bias : FVec Ideal S1x384x128 .f32)
  (s0 s1 : Ideal .f32) (vt : FVec Ideal S1x128x384 .bf16)

/-- The biased scores, keys by rows, the two heads' queries side by side. -/
def scoresV : FVec Ideal S384x256 .f32 :=
  addf (matmul dot_S384x128_S256x128_S384x256_1_1_0_0_n_n none (shapeCast S384x128 kb shapeCasts_S1x384x128_S384x128)
      (concatenate S256x128 0 [⟨S128x128, scaled q0⟩,
        ⟨S128x128, scaled q1⟩] concatenates_S128x128_S128x128_S256x128_d0)
      (constant S384x256 .f32 0x00000000#32))
    (concatenate S384x256 1 [⟨S384x128, shapeCast S384x128 bias shapeCasts_S1x384x128_S384x128⟩,
      ⟨S384x128, shapeCast S384x128 bias shapeCasts_S1x384x128_S384x128⟩] concatenates_S384x128_S384x128_S384x256_d1)

/-- The two heads' sinks, one per column. -/
def sinkV : FVec Ideal S1x256 .f32 :=
  concatenate S1x256 1 [⟨S1x128, broadcast S1x128 (Scalar.mulf s0 log2e)⟩, ⟨S1x128, broadcast S1x128 (Scalar.mulf s1 log2e)⟩]
    concatenates_S1x128_S1x128_S1x256_d1

/-- The columns' largest scores, the sink among them. -/
def topV : FVec Ideal S1x256 .f32 :=
  maximumf (shapeCast S1x256 (multiReduction .maximumf [0] S256 (scoresV kb q0 q1 bias) 0xFF800000#32 reduces_S384x256_S256 (.inl rfl) rfl)
    shapeCasts_S256_S1x256) (sinkV s0 s1)

/-- The powers of two of the scores less the largest. -/
def powV : FVec Ideal S384x256 .f32 :=
  exp2 (subf (scoresV kb q0 q1 bias) (broadcastTo S384x256 (topV kb q0 q1 bias s0 s1) broadcasts_S1x256_S384x256))

/-- One over the columns' denominators. -/
def recV : FVec Ideal S1x256 .f32 :=
  divf (broadcast S1x256 (Scalar.ofBits .f32 0x3F800000#32))
    (addf (shapeCast S1x256 (multiReduction .add [0] S256 (powV kb q0 q1 bias s0 s1) 0x00000000#32 reduces_S384x256_S256 (.inl rfl) rfl)
      shapeCasts_S256_S1x256) (exp2 (subf (sinkV s0 s1) (topV kb q0 q1 bias s0 s1))))

/-- The two heads' outputs, dimensions by rows. -/
def outV : FVec Ideal S128x256 .f32 :=
  mulf (matmul dot_S128x384_S384x256_S128x256_1_0_0_1_n_n none (shapeCast S128x384 vt shapeCasts_S1x128x384_S128x384)
      (truncf .bf16 (powV kb q0 q1 bias s0 s1) bitsLt_bf16_f32) (constant S128x256 .f32 0x00000000#32))
    (broadcastTo S128x256 (recV kb q0 q1 bias s0 s1) broadcasts_S1x256_S128x256)

/-- The first head's block, queries by rows. -/
def half0 : FVec Ideal S1x128x128 .bf16 :=
  shapeCast S1x128x128 (truncf .bf16 (transpose S128x128 [1, 0] (extractStridedSlice S128x128 ![0, 0] (outV kb q0 q1 bias s0 s1 vt)
    slices_S128x256_o0_0_S128x128) transposes_S128x128_p1_0_S128x128) bitsLt_bf16_f32) shapeCasts_S128x128_S1x128x128

/-- The second head's. -/
def half1 : FVec Ideal S1x128x128 .bf16 :=
  shapeCast S1x128x128 (truncf .bf16 (transpose S128x128 [1, 0] (extractStridedSlice S128x128 ![0, 128] (outV kb q0 q1 bias s0 s1 vt)
    slices_S128x256_o0_128_S128x128) transposes_S128x128_p1_0_S128x128) bitsLt_bf16_f32) shapeCasts_S128x128_S1x128x128

/-! ## Read at an index -/

/-- Head `g`'s queries. -/
def qOf (g : Fin 2) : FVec Ideal S1x128x128 .f32 := if g = 0 then q0 else q1
/-- Head `g`'s sink. -/
def sOf (g : Fin 2) : Ideal .f32 := if g = 0 then s0 else s1

/-- A one-page block as a matrix, at an index. -/
theorem page_apply {M N : Nat} {α : Type} (v : (⟨3, ![1, M, N]⟩ : Shape).Idx → α)
    (h : (⟨3, ![1, M, N]⟩ : Shape).ShapeCasts ⟨2, ![M, N]⟩) (r : Fin M) (d : Fin N) :
    shapeCast ⟨2, ![M, N]⟩ v h (ix2 r d) = v (ix3 0 r d) :=
  shapeCast_apply v h (ix2 r d) (ix3 0 r d) (by
    rw [Shape.rowMajor_val_three, Shape.rowMajor_val_two]
    show (0 * M + r.val) * N + d.val = r.val * N + d.val
    rw [zero_mul, zero_add])

/-- Two 128-row blocks one above the other. -/
theorem pair_rows (x y : FVec Ideal S128x128 .bf16) (g : Fin 2) (r d : Fin 128) :
    concatenate S256x128 0 [⟨S128x128, x⟩, ⟨S128x128, y⟩] concatenates_S128x128_S128x128_S256x128_d0 (ix2 (col g r) d) = (if g = 0 then x else y) (ix2 r d) := by
  match g with
  | ⟨0, _⟩ =>
    refine concatenate_pair_apply_left (t := S256x128) (s₁ := S128x128) (s₂ := S128x128) 0 x y concatenates_S128x128_S128x128_S256x128_d0 (ix2 (col 0 r) d) rfl (ix2 r d) ?_
    intro b
    match b with
    | ⟨0, _⟩ => show r.val = 128 * 0 + r.val; omega
    | ⟨1, _⟩ => rfl
  | ⟨1, _⟩ =>
    refine concatenate_pair_apply_right (t := S256x128) (s₁ := S128x128) (s₂ := S128x128) 0 x y concatenates_S128x128_S128x128_S256x128_d0 (ix2 (col 1 r) d) rfl rfl (ix2 r d) ?_ ?_
    · intro b hb
      match b with
      | ⟨0, _⟩ => exact absurd rfl hb
      | ⟨1, _⟩ => rfl
    · show r.val + 128 = 128 * 1 + r.val; omega

/-- Two 384-row blocks side by side. -/
theorem pair_cols (x y : FVec Ideal S384x128 .f32) (g : Fin 2) (j : Fin 384) (r : Fin 128) :
    concatenate S384x256 1 [⟨S384x128, x⟩, ⟨S384x128, y⟩] concatenates_S384x128_S384x128_S384x256_d1 (ix2 j (col g r)) = (if g = 0 then x else y) (ix2 j r) := by
  match g with
  | ⟨0, _⟩ =>
    refine concatenate_pair_apply_left (t := S384x256) (s₁ := S384x128) (s₂ := S384x128) 1 x y concatenates_S384x128_S384x128_S384x256_d1 (ix2 j (col 0 r)) rfl (ix2 j r) ?_
    intro b
    match b with
    | ⟨0, _⟩ => rfl
    | ⟨1, _⟩ => show r.val = 128 * 0 + r.val; omega
  | ⟨1, _⟩ =>
    refine concatenate_pair_apply_right (t := S384x256) (s₁ := S384x128) (s₂ := S384x128) 1 x y concatenates_S384x128_S384x128_S384x256_d1 (ix2 j (col 1 r)) rfl rfl (ix2 j r) ?_ ?_
    · intro b hb
      match b with
      | ⟨0, _⟩ => rfl
      | ⟨1, _⟩ => exact absurd rfl hb
    · show r.val + 128 = 128 * 1 + r.val; omega

/-- Two rows side by side. -/
theorem pair_row (x y : FVec Ideal S1x128 .f32) (g : Fin 2) (r : Fin 128) :
    concatenate S1x256 1 [⟨S1x128, x⟩, ⟨S1x128, y⟩] concatenates_S1x128_S1x128_S1x256_d1 (ix2 (0 : Fin 1) (col g r)) = (if g = 0 then x else y) (ix2 (0 : Fin 1) r) := by
  match g with
  | ⟨0, _⟩ =>
    refine concatenate_pair_apply_left (t := S1x256) (s₁ := S1x128) (s₂ := S1x128) 1 x y concatenates_S1x128_S1x128_S1x256_d1 (ix2 (0 : Fin 1) (col 0 r)) rfl (ix2 (0 : Fin 1) r) ?_
    intro b
    match b with
    | ⟨0, _⟩ => rfl
    | ⟨1, _⟩ => show r.val = 128 * 0 + r.val; omega
  | ⟨1, _⟩ =>
    refine concatenate_pair_apply_right (t := S1x256) (s₁ := S1x128) (s₂ := S1x128) 1 x y concatenates_S1x128_S1x128_S1x256_d1 (ix2 (0 : Fin 1) (col 1 r)) rfl rfl (ix2 (0 : Fin 1) r) ?_ ?_
    · intro b hb
      match b with
      | ⟨0, _⟩ => rfl
      | ⟨1, _⟩ => exact absurd rfl hb
    · show r.val + 128 = 128 * 1 + r.val; omega

theorem queries_apply (g : Fin 2) (r d : Fin 128) :
    concatenate S256x128 0 [⟨S128x128, scaled q0⟩,
      ⟨S128x128, scaled q1⟩] concatenates_S128x128_S128x128_S256x128_d0 (ix2 (col g r) d)
      = qOf q0 q1 g (ix3 0 r d) * qScale := by
  rw [pair_rows]
  unfold qOf
  split
  · exact congrArg (· * qScale) (page_apply q0 _ r d)
  · exact congrArg (· * qScale) (page_apply q1 _ r d)

theorem biases_apply (g : Fin 2) (j : Fin 384) (r : Fin 128) :
    concatenate S384x256 1 [⟨S384x128, shapeCast S384x128 bias shapeCasts_S1x384x128_S384x128⟩,
      ⟨S384x128, shapeCast S384x128 bias shapeCasts_S1x384x128_S384x128⟩] concatenates_S384x128_S384x128_S384x256_d1 (ix2 j (col g r))
      = bias (ix3 0 j r) := by
  rw [pair_cols, ite_self]
  exact page_apply bias _ j r

theorem sinkV_apply (g : Fin 2) (r : Fin 128) : sinkV s0 s1 (ix2 0 (col g r)) = sOf s0 s1 g * log2e := by
  unfold sinkV
  rw [pair_row]
  unfold sOf
  split <;> rfl

/-- A key's biased score for a query of head `g`. -/
def score (g : Fin 2) (r : Fin 128) (j : Fin 384) : EReal :=
  (∑ d : Fin 128, kb (ix3 0 j d) * (qOf q0 q1 g (ix3 0 r d) * qScale)) + bias (ix3 0 j r)

theorem scoresV_apply (g : Fin 2) (r : Fin 128) (j : Fin 384) :
    scoresV kb q0 q1 bias (ix2 j (col g r)) = score kb q0 q1 bias g r j := by
  unfold scoresV score
  rw [addf_apply, biases_apply]
  congr 1
  refine (Ideal.matmul_transposedRhs_apply none (shapeCast S384x128 kb shapeCasts_S1x384x128_S384x128)
    (concatenate S256x128 0 [⟨S128x128, scaled q0⟩,
        ⟨S128x128, scaled q1⟩] concatenates_S128x128_S128x128_S256x128_d0)
    (constant S384x256 .f32 0x00000000#32) j (col g r)).trans ?_
  rw [constant_apply, Ideal.ofBits_zero_f32, zero_add]
  refine Finset.sum_congr rfl fun d _ => ?_
  rw [queries_apply, page_apply]

/-- A row of 256 columns from a vector, at an index. -/
theorem row_apply (v : FVec Ideal S256 .f32) (c : Fin 256) : shapeCast S1x256 v shapeCasts_S256_S1x256 (ix2 0 c) = v (ix1 c) :=
  shapeCast_apply v _ (ix2 0 c) (ix1 c) (by
    rw [Shape.rowMajor_val_one, Shape.rowMajor_val_two]; show c.val = 0 * 256 + c.val; omega)

/-- The least float is `⊥`. -/
theorem negInf : (FloatOps.ofBits (F := Ideal) .f32 (FKind.maximumf.neutral .f32 (.inl rfl)) : Ideal .f32) = (⊥ : EReal) := by
  show Ideal.ofBits .f32 0xFF800000#32 = ⊥
  simp [Ideal.ofBits, Ideal.ieee]

theorem lift_eq (c : Fin 256) (j : Fin 384) : reduces_S384x256_S256.lift (ix1 c) j = ix2 j c := by
  funext a; apply Fin.ext
  match a with
  | ⟨0, _⟩ => rfl
  | ⟨1, _⟩ => rfl

theorem topV_apply (g : Fin 2) (r : Fin 128) :
    topV kb q0 q1 bias s0 s1 (ix2 0 (col g r)) = top (score kb q0 q1 bias g r) (sOf s0 s1 g * log2e) := by
  unfold topV top
  rw [maximumf_apply, row_apply, sinkV_apply]
  refine congrArg (fun x => max x (sOf s0 s1 g * log2e)) ?_
  refine (Ideal.multiReduction_maximumf_single _ _ reduces_S384x256_S256 (.inl rfl) rfl (ix1 (col g r))).trans ?_
  rw [negInf]
  refine (fold_max_bot (fun j : Fin 384 => scoresV kb q0 q1 bias (reduces_S384x256_S256.lift (ix1 (col g r)) j))).trans ?_
  refine congrArg _ (funext fun j => ?_)
  rw [lift_eq, scoresV_apply]

theorem powV_apply (g : Fin 2) (r : Fin 128) (j : Fin 384) :
    powV kb q0 q1 bias s0 s1 (ix2 j (col g r))
      = Ideal.exp2 (score kb q0 q1 bias g r j - top (score kb q0 q1 bias g r) (sOf s0 s1 g * log2e)) := by
  have e : broadcastTo S384x256 (topV kb q0 q1 bias s0 s1) broadcasts_S1x256_S384x256 (ix2 j (col g r))
      = topV kb q0 q1 bias s0 s1 (ix2 0 (col g r)) :=
    broadcastTo_apply _ _ _ (ix2 (0 : Fin 1) (col g r)) (fun a => match a with
      | ⟨0, _⟩ => by show 0 = (if (1 : Nat) = 1 then 0 else j.val); rw [if_pos rfl]
      | ⟨1, _⟩ => by show (col g r).val = (if (256 : Nat) = 1 then 0 else (col g r).val); rw [if_neg (by decide)])
  rw [← topV_apply, ← scoresV_apply, ← e]
  rfl

theorem recV_apply (g : Fin 2) (r : Fin 128) :
    recV kb q0 q1 bias s0 s1 (ix2 0 (col g r))
      = Ideal.div 1 (∑ j, Ideal.exp2 (score kb q0 q1 bias g r j - top (score kb q0 q1 bias g r) (sOf s0 s1 g * log2e))
          + Ideal.exp2 (sOf s0 s1 g * log2e - top (score kb q0 q1 bias g r) (sOf s0 s1 g * log2e))) := by
  have e1 : shapeCast S1x256 (multiReduction .add [0] S256 (powV kb q0 q1 bias s0 s1) 0x00000000#32 reduces_S384x256_S256 (.inl rfl) rfl)
      shapeCasts_S256_S1x256 (ix2 0 (col g r))
      = ∑ j, Ideal.exp2 (score kb q0 q1 bias g r j - top (score kb q0 q1 bias g r) (sOf s0 s1 g * log2e)) := by
    rw [row_apply]
    refine (Ideal.multiReduction_add_single _ _ reduces_S384x256_S256 (.inl rfl) rfl (ix1 (col g r))).trans ?_
    exact Finset.sum_congr rfl fun (j : Fin 384) _ => by rw [lift_eq, powV_apply]
  unfold recV
  rw [divf_apply, addf_apply, e1, broadcast_apply]
  rw [show (Scalar.ofBits .f32 0x3F800000#32 : Ideal .f32) = (1 : EReal) from Ideal.ofBits_one_f32]
  rw [show exp2 (subf (sinkV s0 s1) (topV kb q0 q1 bias s0 s1)) (ix2 0 (col g r))
    = Ideal.exp2 (sinkV s0 s1 (ix2 0 (col g r)) - topV kb q0 q1 bias s0 s1 (ix2 0 (col g r))) from rfl, topV_apply, sinkV_apply]

/-- The output of head `g` at a query and a dimension. -/
def value (g : Fin 2) (r d : Fin 128) : EReal :=
  (∑ j : Fin 384, vt (ix3 0 d j) * Ideal.exp2 (score kb q0 q1 bias g r j - top (score kb q0 q1 bias g r) (sOf s0 s1 g * log2e)))
    * Ideal.div 1 (∑ j, Ideal.exp2 (score kb q0 q1 bias g r j - top (score kb q0 q1 bias g r) (sOf s0 s1 g * log2e))
          + Ideal.exp2 (sOf s0 s1 g * log2e - top (score kb q0 q1 bias g r) (sOf s0 s1 g * log2e)))

theorem outV_apply (g : Fin 2) (r d : Fin 128) :
    outV kb q0 q1 bias s0 s1 vt (ix2 d (col g r)) = value kb q0 q1 bias s0 s1 vt g r d := by
  have e : broadcastTo S128x256 (recV kb q0 q1 bias s0 s1) broadcasts_S1x256_S128x256 (ix2 d (col g r))
      = recV kb q0 q1 bias s0 s1 (ix2 0 (col g r)) :=
    broadcastTo_apply _ _ _ (ix2 (0 : Fin 1) (col g r)) (fun a => match a with
      | ⟨0, _⟩ => by show 0 = (if (1 : Nat) = 1 then 0 else d.val); rw [if_pos rfl]
      | ⟨1, _⟩ => by show (col g r).val = (if (256 : Nat) = 1 then 0 else (col g r).val); rw [if_neg (by decide)])
  unfold outV value
  rw [mulf_apply, e, recV_apply]
  congr 1
  refine (Ideal.matmul_plain_apply none (shapeCast S128x384 vt shapeCasts_S1x128x384_S128x384)
    (truncf .bf16 (powV kb q0 q1 bias s0 s1) bitsLt_bf16_f32) (constant S128x256 .f32 0x00000000#32) d (col g r)).trans ?_
  rw [constant_apply, Ideal.ofBits_zero_f32, zero_add]
  refine Finset.sum_congr rfl fun j _ => ?_
  rw [page_apply, truncf_apply, powV_apply]

/-- A matrix as a one-page block, at an index. -/
theorem unpage_apply (v : FVec Ideal S128x128 .bf16) (r d : Fin 128) :
    shapeCast S1x128x128 v shapeCasts_S128x128_S1x128x128 (ix3 0 r d) = v (ix2 r d) :=
  shapeCast_apply v _ (ix3 0 r d) (ix2 r d) (by
    rw [Shape.rowMajor_val_three, Shape.rowMajor_val_two]
    show r.val * 128 + d.val = (0 * 128 + r.val) * 128 + d.val
    omega)

theorem half0_apply (r d : Fin 128) : half0 kb q0 q1 bias s0 s1 vt (ix3 0 r d) = value kb q0 q1 bias s0 s1 vt 0 r d := by
  unfold half0
  rw [unpage_apply, truncf_apply, ← outV_apply]
  refine (transpose_apply _ _ _ _ (ix2 d r) ?_).trans ?_
  · intro b
    match b with
    | ⟨0, _⟩ => rfl
    | ⟨1, _⟩ => rfl
  · refine extractStridedSlice_apply _ _ _ _ (ix2 d (col 0 r)) ?_
    intro a
    match a with
    | ⟨0, _⟩ => show d.val = 0 + d.val; omega
    | ⟨1, _⟩ => show 128 * 0 + r.val = 0 + r.val; omega

theorem half1_apply (r d : Fin 128) : half1 kb q0 q1 bias s0 s1 vt (ix3 0 r d) = value kb q0 q1 bias s0 s1 vt 1 r d := by
  unfold half1
  rw [unpage_apply, truncf_apply, ← outV_apply]
  refine (transpose_apply _ _ _ _ (ix2 d r) ?_).trans ?_
  · intro b
    match b with
    | ⟨0, _⟩ => rfl
    | ⟨1, _⟩ => rfl
  · refine extractStridedSlice_apply _ _ _ _ (ix2 d (col 1 r)) ?_
    intro a
    match a with
    | ⟨0, _⟩ => show d.val = 0 + d.val; omega
    | ⟨1, _⟩ => show 128 * 1 + r.val = 128 + r.val; omega

end Chunk

end Cert.AttnChunk

end
-- ==== Proof.AttnBlock.lean ====
/- What the attention kernel leaves in a block of its result: at every query and column of the block, one head's attention over the
   window of keys the block's quarter reads. -/
module

public import proofs.«01_k».proof.Proof.AttnChunk
public import Idealize.ShloMosaic.Lib.Pipeline.ValueKit.Tiles
public import Idealize.ShloMosaic.Lib.Pipeline.ReadBack

@[expose] public section

noncomputable section

namespace Cert.AttnBlock

open Cert.KernelIdeal Cert.KernelIdeal.Gen Cert.KernelIdeal.Value Cert.Attn Cert.AttnChunk
open Idealize.ShloMosaic Idealize.ShloMosaic.TcCoe Idealize.ShloMosaic.ValueIdx Idealize.SL.Sem

/-! ## Where the windows of keys and the rows of the mask stand -/

/-- The first key of the window of quarter `n` of step `s`. -/
def keyStart (s n : Nat) : Nat := min 1664 (512 * s + 128 * n - 128)

/-- Which page of the mask it takes. -/
def maskPage (s n : Nat) : Nat := (512 * s + 128 * n - keyStart s n) / 128

theorem off1_eq (i : grid0.Coords) (n : Fin 4) : k0_off1 i (BitVec.ofNat 32 (128 * n.val)) = ![0, keyStart (i 1).val n.val, 0] := by
  have h : (i 1).val < 4 := (i 1).isLt
  have e : ∀ (s : Fin 4) (n : Fin 4), (Scalar.indexCast (Scalar.minsi 1664#32 (Scalar.maxsi 0#32 (Scalar.subi (Scalar.addi
      (Scalar.muli (BitVec.ofNat 32 s.val) 512#32) (BitVec.ofNat 32 (128 * n.val))) 128#32)))).toNat = keyStart s.val n.val := by
    decide +kernel
  unfold k0_off1
  simp only
  rw [e ⟨_, h⟩ n]

theorem off3_eq (i : grid0.Coords) (n : Fin 4) : k0_off3 i (BitVec.ofNat 32 (128 * n.val)) = ![0, keyStart (i 1).val n.val, 128] :=
  congrArg (fun k => ![0, k, 128]) (congrFun (off1_eq i n) 1)

theorem off4_eq (i : grid0.Coords) (n : Fin 4) : k0_off4 i (BitVec.ofNat 32 (128 * n.val)) = ![0, 0, keyStart (i 1).val n.val] :=
  congrArg (fun k => ![0, 0, k]) (congrFun (off1_eq i n) 1)

theorem off5_eq (i : grid0.Coords) (n : Fin 4) : k0_off5 i (BitVec.ofNat 32 (128 * n.val)) = ![0, 128, keyStart (i 1).val n.val] :=
  congrArg (fun k => ![0, 128, k]) (congrFun (off1_eq i n) 1)

theorem off2_eq (t : Fin cfg0.N) (n : Fin 4) :
    k0_off2 (grid0.coords t) (BitVec.ofNat 32 (128 * n.val)) = ![maskPage (grid0.coords t 1).val n.val, 0, 0] := by
  have e : ∀ (t : Fin cfg0.N) (n : Fin 4),
      k0_off2 (grid0.coords t) (BitVec.ofNat 32 (128 * n.val)) 0 = maskPage (grid0.coords t 1).val n.val := by decide +kernel
  exact congrArg (fun k => ![k, 0, 0]) (e t n)

theorem maskPage_lt (s n : Nat) (hs : s < 4) (hn : n < 4) : maskPage s n < 3 := by
  unfold maskPage keyStart; omega

/-! ## One head at one query -/

/-- Head, query and dimension of the kernel's arithmetic, from the keys `K`, the mask `b`, the query `q`, the sink `s` and the values'
    column `v`. -/
def headVal (K : Fin 384 → Fin 128 → EReal) (b : Fin 384 → EReal) (q : Fin 128 → EReal) (s : EReal) (v : Fin 384 → EReal) : EReal :=
  let X : Fin 384 → EReal := fun j => (∑ d, K j d * (q d * qScale)) + b j
  (∑ j, v j * Ideal.exp2 (X j - top X (s * log2e)))
    * Ideal.div 1 (∑ j, Ideal.exp2 (X j - top X (s * log2e)) + Ideal.exp2 (s * log2e - top X (s * log2e)))

section Block

variable (x0 : Vec Ideal S8 .f32) (x1 : Vec Ideal S3x384x128 .f32) (x2 : Vec Ideal S1x512x1024 .f32)
  (x3 : Vec Ideal S1x2048x256 .bf16) (x4 : Vec Ideal S1x256x2048 .bf16) (i : grid0.Coords)

/-- The block's entry at quarter `n`, head `h`, query `r` of the quarter and dimension `d`. -/
def entry (s : Nat) (n : Fin 4) (h : Fin 8) (r d : Fin 128) : EReal :=
  headVal
    (fun j e => x3 (ix3 0 (⟨keyStart s n.val + j.val, by unfold keyStart; have := j.isLt; omega⟩ : Fin 2048)
      (⟨128 * (h.val / 4) + e.val, by have := h.isLt; have := e.isLt; omega⟩ : Fin 256)))
    (fun j => x1 (ix3 (⟨maskPage s n.val % 3, Nat.mod_lt _ (by decide)⟩ : Fin 3) j r))
    (fun e => x2 (ix3 0 (⟨128 * n.val + r.val, by have := n.isLt; have := r.isLt; omega⟩ : Fin 512)
      (⟨128 * h.val + e.val, by have := h.isLt; have := e.isLt; omega⟩ : Fin 1024)))
    (x0 (ix1 h))
    (fun j => x4 (ix3 0 (⟨128 * (h.val / 4) + d.val, by have := h.isLt; have := d.isLt; omega⟩ : Fin 256)
      (⟨keyStart s n.val + j.val, by unfold keyStart; have := j.isLt; omega⟩ : Fin 2048)))

/-- The whole block. -/
def block (s : Nat) : Vec Ideal S1x512x1024 .bf16 := fun y =>
  entry x0 x1 x2 x3 x4 s ⟨(y 1).val / 128, by have : (y 1).val < 512 := (y 1).isLt; omega⟩
    ⟨(y 2).val / 128, by have : (y 2).val < 1024 := (y 2).isLt; omega⟩ ⟨(y 1).val % 128, by omega⟩ ⟨(y 2).val % 128, by omega⟩

/-- A load of a part of a three-axis array, at an index. -/
theorem ld_at3 {n0 n1 n2 : Nat} {e : EltTy} (X : Vec Ideal ⟨3, ![n0, n1, n2]⟩ e) (o : Fin 3 → Nat) (s1 s2 : Nat)
    (inb : ∀ a, o a + (![1, s1, s2] : Fin 3 → Nat) a ≤ (⟨3, ![n0, n1, n2]⟩ : Shape).size a)
    (a : Fin s1) (b : Fin s2) (p' : Fin n0) (a' : Fin n1) (b' : Fin n2)
    (hp : p'.val = o 0) (ha : a'.val = o 1 + a.val) (hb : b'.val = o 2 + b.val) :
    View.ld X (Rect.unit (s := ⟨3, ![n0, n1, n2]⟩) o ![1, s1, s2] inb) (ix3 0 a b) = X (ix3 p' a' b') := by
  refine congrArg X (funext fun x => Fin.ext ?_)
  match x with
  | ⟨0, _⟩ => show o 0 + 1 * 0 = p'.val; omega
  | ⟨1, _⟩ => show o 1 + 1 * a.val = a'.val; omega
  | ⟨2, _⟩ => show o 2 + 1 * b.val = b'.val; omega

/-- The indices of a stored block. -/
theorem idx_split (x : S1x128x128.Idx) : ∃ r d : Fin 128, x = ix3 (0 : Fin 1) r d := by
  refine ⟨⟨(x 1).val, (x 1).isLt⟩, ⟨(x 2).val, (x 2).isLt⟩, funext fun a => Fin.ext ?_⟩
  match a with
  | ⟨0, _⟩ => show (x 0).val = 0; have : (x 0).val < 1 := (x 0).isLt; omega
  | ⟨1, _⟩ => rfl
  | ⟨2, _⟩ => rfl

/-- A load of one of the eight sinks. -/
theorem ld_at1 (o : Nat) (inb : ∀ a, (![o] : Fin 1 → Nat) a + S1.size a ≤ S8.size a) (h : Fin 8) (hh : h.val = o) (hpos : 0 < S1.numel) :
    View.ld x0 (Rect.unit (s := S8) ![o] S1.size inb) (Shape.Idx.first hpos) = x0 (ix1 h) := by
  refine congrArg x0 (funext fun x => Fin.ext ?_)
  match x with
  | ⟨0, _⟩ =>
    show o + 1 * (Shape.Idx.first hpos (0 : Fin 1)).val = h.val
    have := (Shape.Idx.first hpos (0 : Fin 1)).isLt
    have e : S1.size (0 : Fin 1) = 1 := rfl
    omega

/-- The loads of one step, as plain offsets: where the keys, the mask, the two heads' queries, their sinks and the values are read. -/
structure At (s : Nat) (n : Fin 4) (p : Fin 4) (oK oB oQ0 oQ1 oV : Fin 3 → Nat) : Prop where
  k : oK = ![0, keyStart s n.val, 128 * (p.val / 2)]
  b : oB = ![maskPage s n.val, 0, 0]
  q0 : oQ0 = ![0, 128 * n.val, 256 * p.val]
  q1 : oQ1 = ![0, 128 * n.val, 256 * p.val + 128]
  v : oV = ![0, 128 * (p.val / 2), keyStart s n.val]

variable (s : Nat) (hs : s < 4) (n : Fin 4) (p : Fin 4) (oK oB oQ0 oQ1 oV : Fin 3 → Nat) (hat : At s n p oK oB oQ0 oQ1 oV)
  (hK : ∀ a, oK a + S1x384x128.size a ≤ S1x2048x256.size a) (hB : ∀ a, oB a + S1x384x128.size a ≤ S3x384x128.size a)
  (hQ0 : ∀ a, oQ0 a + S1x128x128.size a ≤ S1x512x1024.size a) (hQ1 : ∀ a, oQ1 a + S1x128x128.size a ≤ S1x512x1024.size a)
  (hV : ∀ a, oV a + S1x128x384.size a ≤ S1x256x2048.size a)
  (o0 o1 : Nat) (hS0 : ∀ a, (![o0] : Fin 1 → Nat) a + S1.size a ≤ S8.size a) (hS1 : ∀ a, (![o1] : Fin 1 → Nat) a + S1.size a ≤ S8.size a)
  (ho0 : o0 = 2 * p.val) (ho1 : o1 = 2 * p.val + 1) (hpos : 0 < S1.numel)

include hs hat ho0 ho1

/-- The step's arithmetic over the loads is the block's entry. -/
theorem value_eq (g : Fin 2) (r d : Fin 128) (h : Fin 8) (hh : h.val = 2 * p.val + g.val) :
    value (View.ld x3 (Rect.unit (s := S1x2048x256) oK S1x384x128.size hK)) (View.ld x2 (Rect.unit (s := S1x512x1024) oQ0 S1x128x128.size hQ0))
      (View.ld x2 (Rect.unit (s := S1x512x1024) oQ1 S1x128x128.size hQ1)) (View.ld x1 (Rect.unit (s := S3x384x128) oB S1x384x128.size hB))
      (View.ld x0 (Rect.unit (s := S8) ![o0] S1.size hS0) (Shape.Idx.first hpos))
      (View.ld x0 (Rect.unit (s := S8) ![o1] S1.size hS1) (Shape.Idx.first hpos))
      (View.ld x4 (Rect.unit (s := S1x256x2048) oV S1x128x384.size hV)) g r d = entry x0 x1 x2 x3 x4 s n h r d := by
  obtain ⟨eK, eB, eQ0, eQ1, eV⟩ := hat
  subst eK eB eQ0 eQ1 eV
  have hp := p.isLt
  have hg := g.isLt
  have hm := maskPage_lt s n.val hs n.isLt
  have hdiv : h.val / 4 = p.val / 2 := by omega
  have E : ∀ {K K' : Fin 384 → Fin 128 → EReal} {b b' : Fin 384 → EReal} {q q' : Fin 128 → EReal} {σ σ' : EReal} {v v' : Fin 384 → EReal},
      K = K' → b = b' → q = q' → σ = σ' → v = v' → headVal K b q σ v = headVal K' b' q' σ' v' := by
    rintro _ _ _ _ _ _ _ _ _ _ rfl rfl rfl rfl rfl; rfl
  refine Eq.trans (b := headVal (fun j e => View.ld x3 (Rect.unit (s := S1x2048x256) _ S1x384x128.size hK) (ix3 0 j e))
    (fun j => View.ld x1 (Rect.unit (s := S3x384x128) _ S1x384x128.size hB) (ix3 0 j r))
    (fun e => qOf (View.ld x2 (Rect.unit (s := S1x512x1024) _ S1x128x128.size hQ0)) (View.ld x2 (Rect.unit (s := S1x512x1024) _ S1x128x128.size hQ1)) g (ix3 0 r e))
    (sOf (View.ld x0 (Rect.unit (s := S8) ![o0] S1.size hS0) (Shape.Idx.first hpos)) (View.ld x0 (Rect.unit (s := S8) ![o1] S1.size hS1) (Shape.Idx.first hpos)) g)
    (fun j => View.ld x4 (Rect.unit (s := S1x256x2048) _ S1x128x384.size hV) (ix3 0 d j))) rfl ?_
  refine E ?_ ?_ ?_ ?_ ?_
  · funext j e
    exact ld_at3 x3 _ 384 128 hK j e 0 _ _ rfl rfl (by show 128 * (h.val / 4) + e.val = 128 * (p.val / 2) + e.val; rw [hdiv])
  · funext j
    exact ld_at3 x1 _ 384 128 hB j r _ _ _ (Nat.mod_eq_of_lt hm) (by show j.val = 0 + j.val; omega) (by show r.val = 0 + r.val; omega)
  · funext e
    match g, hh with
    | ⟨0, _⟩, hh => exact ld_at3 x2 _ 128 128 hQ0 r e 0 _ _ rfl rfl (by show 128 * h.val + e.val = 256 * p.val + e.val; simp only at hh; omega)
    | ⟨1, _⟩, hh => exact ld_at3 x2 _ 128 128 hQ1 r e 0 _ _ rfl rfl (by show 128 * h.val + e.val = 256 * p.val + 128 + e.val; simp only at hh; omega)
  · match g, hh with
    | ⟨0, _⟩, hh => exact ld_at1 x0 o0 hS0 h (by simp only at hh; omega) hpos
    | ⟨1, _⟩, hh => exact ld_at1 x0 o1 hS1 h (by simp only at hh; omega) hpos
  · funext j
    exact ld_at3 x4 _ 128 384 hV d j 0 _ _ rfl (by show 128 * (h.val / 4) + d.val = 128 * (p.val / 2) + d.val; rw [hdiv]) rfl

/-- The first head's stored block is the block's part it is stored to. -/
theorem piece0 (oS : Fin 3 → Nat) (hS : ∀ a, oS a + S1x128x128.size a ≤ S1x512x1024.size a) (eS : oS = ![0, 128 * n.val, 256 * p.val])
    (x : S1x128x128.Idx) :
    half0 (View.ld x3 (Rect.unit (s := S1x2048x256) oK S1x384x128.size hK)) (View.ld x2 (Rect.unit (s := S1x512x1024) oQ0 S1x128x128.size hQ0))
      (View.ld x2 (Rect.unit (s := S1x512x1024) oQ1 S1x128x128.size hQ1)) (View.ld x1 (Rect.unit (s := S3x384x128) oB S1x384x128.size hB))
      (View.ld x0 (Rect.unit (s := S8) ![o0] S1.size hS0) (Shape.Idx.first hpos))
      (View.ld x0 (Rect.unit (s := S8) ![o1] S1.size hS1) (Shape.Idx.first hpos))
      (View.ld x4 (Rect.unit (s := S1x256x2048) oV S1x128x384.size hV)) x
      = block x0 x1 x2 x3 x4 s ((Rect.unit (s := S1x512x1024) oS S1x128x128.size hS).emb x) := by
  subst eS
  obtain ⟨r, d, rfl⟩ := idx_split x
  rw [half0_apply, value_eq x0 x1 x2 x3 x4 s hs n p oK oB oQ0 oQ1 oV hat hK hB hQ0 hQ1 hV o0 o1 hS0 hS1 ho0 ho1 hpos 0 _ _
    ⟨2 * p.val, by have := p.isLt; omega⟩ rfl]
  unfold block
  congr 1 <;> apply Fin.ext
  · show n.val = (128 * n.val + 1 * r.val) / 128; omega
  · show 2 * p.val = (256 * p.val + 1 * d.val) / 128; omega
  · show r.val = (128 * n.val + 1 * r.val) % 128; omega
  · show d.val = (256 * p.val + 1 * d.val) % 128; omega

/-- The second head's. -/
theorem piece1 (oS : Fin 3 → Nat) (hS : ∀ a, oS a + S1x128x128.size a ≤ S1x512x1024.size a) (eS : oS = ![0, 128 * n.val, 256 * p.val + 128])
    (x : S1x128x128.Idx) :
    half1 (View.ld x3 (Rect.unit (s := S1x2048x256) oK S1x384x128.size hK)) (View.ld x2 (Rect.unit (s := S1x512x1024) oQ0 S1x128x128.size hQ0))
      (View.ld x2 (Rect.unit (s := S1x512x1024) oQ1 S1x128x128.size hQ1)) (View.ld x1 (Rect.unit (s := S3x384x128) oB S1x384x128.size hB))
      (View.ld x0 (Rect.unit (s := S8) ![o0] S1.size hS0) (Shape.Idx.first hpos))
      (View.ld x0 (Rect.unit (s := S8) ![o1] S1.size hS1) (Shape.Idx.first hpos))
      (View.ld x4 (Rect.unit (s := S1x256x2048) oV S1x128x384.size hV)) x
      = block x0 x1 x2 x3 x4 s ((Rect.unit (s := S1x512x1024) oS S1x128x128.size hS).emb x) := by
  subst eS
  obtain ⟨r, d, rfl⟩ := idx_split x
  rw [half1_apply, value_eq x0 x1 x2 x3 x4 s hs n p oK oB oQ0 oQ1 oV hat hK hB hQ0 hQ1 hV o0 o1 hS0 hS1 ho0 ho1 hpos 1 _ _
    ⟨2 * p.val + 1, by have := p.isLt; omega⟩ rfl]
  unfold block
  congr 1 <;> apply Fin.ext
  · show n.val = (128 * n.val + 1 * r.val) / 128; omega
  · show 2 * p.val + 1 = (256 * p.val + 128 + 1 * d.val) / 128; omega
  · show r.val = (128 * n.val + 1 * r.val) % 128; omega
  · show d.val = (256 * p.val + 128 + 1 * d.val) % 128; omega

end Block

end Cert.AttnBlock

end
-- ==== Proof.AttnHead.lean ====
/- One head at one query: the kernel's arithmetic over its window of 384 keys is the attention over all the keys. -/
module

public import proofs.«01_k».proof.Proof.AttnArrays
public import proofs.«01_k».proof.Proof.AttnBlock

@[expose] public section

noncomputable section

namespace Cert.AttnBlock

open Cert.KernelIdeal Cert.Attn Cert.AttnChunk
open Idealize.ShloMosaic Idealize.ShloMosaic.ValueIdx

theorem qScale_eq : (qScale : EReal) = ((invRoot * l2e : ℝ) : EReal) := rfl
theorem log2e_eq : (log2e : EReal) = ((l2e : ℝ) : EReal) := rfl

/-- A key's score within the window. -/
def winScore (K : Fin 384 → Fin 128 → EReal) (q : Fin 128 → EReal) (p : Fin 384 → Prop) [DecidablePred p] (j : Fin 384) : EReal :=
  if p j then ∑ e, K j e * (q e * ((invRoot : ℝ) : EReal)) else ⊥

/-- The kernel's base-two arithmetic is attention over the window. -/
theorem headVal_eq (K : Fin 384 → Fin 128 → EReal) (q : Fin 128 → EReal) (p : Fin 384 → Prop) [DecidablePred p] (b : Fin 384 → EReal)
    (hb : ∀ j, b j = if p j then 0 else ⊥) (s : EReal) (v : Fin 384 → EReal)
    (hK : ∀ j e, ∃ x : ℝ, K j e = x) (hq : ∀ e, ∃ x : ℝ, q e = x) (hs : ∃ x : ℝ, s = x) :
    headVal K b q s v = attn (winScore K q p) s v := by
  obtain ⟨σ, rfl⟩ := hs
  unfold headVal
  exact attn_base2 (S := winScore K q p) (fun j => score_real (K j) q (hK j) hq invRoot (p j)) σ v _ _
    (fun j => by rw [qScale_eq]; exact score_scaled (K j) q (hK j) hq invRoot (p j) (b j) (hb j)) (by rw [log2e_eq])

/-- The key `j` of a window. -/
def keyAt (s n : Nat) (j : Fin 384) : Fin 2048 := ⟨keyStart s n + j.val, by unfold keyStart; have := j.isLt; omega⟩

/-- ONE HEAD: the window of quarter `n` of step `s` holds every key within 128 tokens of its queries. -/
theorem head_eq (q : Quad 32 2048 8 128) (k v : Quad 32 2048 2 128) (sink : Line 8)
    (hq : ∀ i, ∃ x : ℝ, q i = x) (hk : ∀ i, ∃ x : ℝ, k i = x) (hs : ∀ i, ∃ x : ℝ, sink i = x)
    (s n : Nat) (hs4 : s < 4) (hn : n < 4) (r : Fin 128) (b : Fin 32) (l : Fin 2048) (hl : l.val = 512 * s + 128 * n + r.val) (h : Fin 8)
    (d : Fin 128) :
    headVal (fun j e => k (ix4 b (keyAt s n j) (group h) e))
      (fun j => if |(j.val : ℤ) - r.val - 128 * (maskPage s n : ℤ)| ≤ 128 then 0 else ⊥) (fun e => q (ix4 b l h e)) (sink (ix1 h))
      (fun j => v (ix4 b (keyAt s n j) (group h) d)) = attnAt q k v sink b l h d := by
  have hr := r.isLt
  have hp : ((maskPage s n : ℕ) : ℤ) * 128 + keyStart s n = 512 * s + 128 * n := by
    have : maskPage s n * 128 + keyStart s n = 512 * s + 128 * n := by unfold maskPage keyStart; omega
    exact_mod_cast this
  have hlo : (keyStart s n : ℤ) ≤ max 0 (512 * s + 128 * n - 128) := by unfold keyStart; omega
  have hhi : min (512 * s + 128 * n + 256 : ℤ) 2048 ≤ keyStart s n + 384 := by unfold keyStart; omega
  rw [headVal_eq _ _ (fun j : Fin 384 => |(j.val : ℤ) - r.val - 128 * (maskPage s n : ℤ)| ≤ 128) _ (fun _ => rfl) _ _ (fun _ _ => hk _)
    (fun _ => hq _) (hs _)]
  unfold attnAt
  refine attn_window (keyStart s n : ℤ) (sink (ix1 h)) ?_ ?_ ?_ ?_
  · intro i j hij
    have e : keyAt s n i = j := Fin.ext (by show keyStart s n + i.val = j.val; omega)
    unfold winScore scoreAt
    dsimp only
    rw [e]
    have hc : |(i.val : ℤ) - r.val - 128 * (maskPage s n : ℤ)| ≤ 128 ↔ |(j.val : ℤ) - l.val| ≤ 128 := by
      rw [show (i.val : ℤ) - r.val - 128 * (maskPage s n : ℤ) = (j.val : ℤ) - l.val by omega]
    by_cases h1 : |(j.val : ℤ) - l.val| ≤ 128
    · rw [if_pos (hc.2 h1), if_pos h1]
    · rw [if_neg (fun h2 => h1 (hc.1 h2)), if_neg h1]
  · intro i j hij
    have e : keyAt s n i = j := Fin.ext (by show keyStart s n + i.val = j.val; omega)
    simp only [e]
  · intro i hi
    have := (keyAt s n i).isLt
    have e : (keyAt s n i).val = keyStart s n + i.val := rfl
    omega
  · intro j hj
    have := j.isLt
    unfold scoreAt
    rw [if_neg]
    rw [abs_le]
    omega

end Cert.AttnBlock

end
-- ==== Proof.AttnPieces.lean ====
/- The attention kernel's result block at a grid point: the stored pieces are the block of `AttnBlock`. -/
module

public import proofs.«01_k».proof.Proof.AttnBlock

@[expose] public section

noncomputable section

namespace Cert.AttnBlock

open Cert.KernelIdeal Cert.KernelIdeal.Gen Cert.KernelIdeal.Value Cert.Attn Cert.AttnChunk
open Idealize.ShloMosaic Idealize.ShloMosaic.TcCoe Idealize.ShloMosaic.ValueIdx Idealize.SL.Sem

/-- Where a step on the first key head reads. -/
theorem at_low (t : Fin cfg0.N) (n : Fin 4) (p : Fin 4) (hp : p.val / 2 = 0) : At (grid0.coords t 1).val n p
    (k0_off1 (grid0.coords t) (BitVec.ofNat 32 (128 * n.val))) (k0_off2 (grid0.coords t) (BitVec.ofNat 32 (128 * n.val)))
    ![0, 128 * n.val, 256 * p.val] ![0, 128 * n.val, 256 * p.val + 128] (k0_off4 (grid0.coords t) (BitVec.ofNat 32 (128 * n.val))) :=
  ⟨by rw [hp]; exact off1_eq _ n, off2_eq t n, rfl, rfl, by rw [hp]; exact off4_eq _ n⟩

/-- Where a step on the second key head reads. -/
theorem at_high (t : Fin cfg0.N) (n : Fin 4) (p : Fin 4) (hp : p.val / 2 = 1) : At (grid0.coords t 1).val n p
    (k0_off3 (grid0.coords t) (BitVec.ofNat 32 (128 * n.val))) (k0_off2 (grid0.coords t) (BitVec.ofNat 32 (128 * n.val)))
    ![0, 128 * n.val, 256 * p.val] ![0, 128 * n.val, 256 * p.val + 128] (k0_off5 (grid0.coords t) (BitVec.ofNat 32 (128 * n.val))) :=
  ⟨by rw [hp]; exact off3_eq _ n, off2_eq t n, rfl, rfl, by rw [hp]; exact off5_eq _ n⟩

variable (m : (ℓ : Loc nD τ sig) → Buf (Elt Ideal) ℓ) (c : Dev nD)

set_option maxHeartbeats 400000 in
/-- What the body leaves in the result's block at a point. -/
theorem outs_eq (t : Fin cfg0.N) :
    outsAt0 m c t = block (iblk m c 0 t) (iblk m c 1 t) (iblk m c 2 t) (iblk m c 3 t) (iblk m c 4 t) (grid0.coords t 1).val := by
  have hs : (grid0.coords t 1).val < 4 := (grid0.coords t 1).isLt
  unfold outsAt0 out0_A_5
  rw [View.read_writes_eq_canon _ _ _ (cover0_A_5 c _ _ _ _ _ _ _ _ _ _ _ _ _ _ _ _ _ _)]
  funext y
  refine View.canon_eq_of_allAt _ y _ (cover0_A_5 c _ _ _ _ _ _ _ _ _ _ _ _ _ _ _ _ _ _ y) ?_
  suffices h : View.PiecesOf (block (iblk m c 0 t) (iblk m c 1 t) (iblk m c 2 t) (iblk m c 3 t) (iblk m c 4 t) (grid0.coords t 1).val)
      (kernelRun0_A c (grid0.coords t) (ms0_0 t) (hs0_0 t) (ms0_1 t) (hs0_1 t) (ms0_2 t) (hs0_2 t) (ms0_3 t) (hs0_3 t) (ms0_4 t) (hs0_4 t)
        (ms0_5 t) (hs0_5 t) (iblk m c 0 t) (iblk m c 1 t) (iblk m c 2 t) (iblk m c 3 t) (iblk m c 4 t)).1 from
    fun p hp x hx => by rw [← hx]; exact h.mem p hp x
  unfold kernelRun0_A
  dsimp only
  sl_unfold_words
  simp only [View.readAt_eq_ld, (hs0_0 t).read_unread, (hs0_1 t).read_unread, (hs0_2 t).read_unread, (hs0_3 t).read_unread,
    (hs0_4 t).read_unread]
  rw [(hs0_0 t).read_unread]
  have e := piece1 (iblk m c 0 t) (iblk m c 1 t) (iblk m c 2 t) (iblk m c 3 t) (iblk m c 4 t) (grid0.coords t 1).val
    hs 3 3 _ _ _ _ _ (at_high t 3 3 rfl) (k0_off3_inb (grid0.coords t) 3) (k0_off2_inb (grid0.coords t) 3)
    inb_S1x512x1024_S1x128x128_0_384_768 inb_S1x512x1024_S1x128x128_0_384_896 (k0_off5_inb (grid0.coords t) 3) 6 7
    inb_S8_S1_6 inb_S8_S1_7 rfl rfl (by decide) _ inb_S1x512x1024_S1x128x128_0_384_896 rfl
  refine ⟨e, ?_⟩
  clear e
  have e := piece0 (iblk m c 0 t) (iblk m c 1 t) (iblk m c 2 t) (iblk m c 3 t) (iblk m c 4 t) (grid0.coords t 1).val
    hs 3 3 _ _ _ _ _ (at_high t 3 3 rfl) (k0_off3_inb (grid0.coords t) 3) (k0_off2_inb (grid0.coords t) 3)
    inb_S1x512x1024_S1x128x128_0_384_768 inb_S1x512x1024_S1x128x128_0_384_896 (k0_off5_inb (grid0.coords t) 3) 6 7
    inb_S8_S1_6 inb_S8_S1_7 rfl rfl (by decide) _ inb_S1x512x1024_S1x128x128_0_384_768 rfl
  refine ⟨e, ?_⟩
  clear e
  have e := piece1 (iblk m c 0 t) (iblk m c 1 t) (iblk m c 2 t) (iblk m c 3 t) (iblk m c 4 t) (grid0.coords t 1).val
    hs 3 2 _ _ _ _ _ (at_high t 3 2 rfl) (k0_off3_inb (grid0.coords t) 3) (k0_off2_inb (grid0.coords t) 3)
    inb_S1x512x1024_S1x128x128_0_384_512 inb_S1x512x1024_S1x128x128_0_384_640 (k0_off5_inb (grid0.coords t) 3) 4 5
    inb_S8_S1_4 inb_S8_S1_5 rfl rfl (by decide) _ inb_S1x512x1024_S1x128x128_0_384_640 rfl
  refine ⟨e, ?_⟩
  clear e
  have e := piece0 (iblk m c 0 t) (iblk m c 1 t) (iblk m c 2 t) (iblk m c 3 t) (iblk m c 4 t) (grid0.coords t 1).val
    hs 3 2 _ _ _ _ _ (at_high t 3 2 rfl) (k0_off3_inb (grid0.coords t) 3) (k0_off2_inb (grid0.coords t) 3)
    inb_S1x512x1024_S1x128x128_0_384_512 inb_S1x512x1024_S1x128x128_0_384_640 (k0_off5_inb (grid0.coords t) 3) 4 5
    inb_S8_S1_4 inb_S8_S1_5 rfl rfl (by decide) _ inb_S1x512x1024_S1x128x128_0_384_512 rfl
  refine ⟨e, ?_⟩
  clear e
  have e := piece1 (iblk m c 0 t) (iblk m c 1 t) (iblk m c 2 t) (iblk m c 3 t) (iblk m c 4 t) (grid0.coords t 1).val
    hs 3 1 _ _ _ _ _ (at_low t 3 1 rfl) (k0_off1_inb (grid0.coords t) 3) (k0_off2_inb (grid0.coords t) 3)
    inb_S1x512x1024_S1x128x128_0_384_256 inb_S1x512x1024_S1x128x128_0_384_384 (k0_off4_inb (grid0.coords t) 3) 2 3
    inb_S8_S1_2 inb_S8_S1_3 rfl rfl (by decide) _ inb_S1x512x1024_S1x128x128_0_384_384 rfl
  refine ⟨e, ?_⟩
  clear e
  have e := piece0 (iblk m c 0 t) (iblk m c 1 t) (iblk m c 2 t) (iblk m c 3 t) (iblk m c 4 t) (grid0.coords t 1).val
    hs 3 1 _ _ _ _ _ (at_low t 3 1 rfl) (k0_off1_inb (grid0.coords t) 3) (k0_off2_inb (grid0.coords t) 3)
    inb_S1x512x1024_S1x128x128_0_384_256 inb_S1x512x1024_S1x128x128_0_384_384 (k0_off4_inb (grid0.coords t) 3) 2 3
    inb_S8_S1_2 inb_S8_S1_3 rfl rfl (by decide) _ inb_S1x512x1024_S1x128x128_0_384_256 rfl
  refine ⟨e, ?_⟩
  clear e
  have e := piece1 (iblk m c 0 t) (iblk m c 1 t) (iblk m c 2 t) (iblk m c 3 t) (iblk m c 4 t) (grid0.coords t 1).val
    hs 3 0 _ _ _ _ _ (at_low t 3 0 rfl) (k0_off1_inb (grid0.coords t) 3) (k0_off2_inb (grid0.coords t) 3)
    inb_S1x512x1024_S1x128x128_0_384_0 inb_S1x512x1024_S1x128x128_0_384_128 (k0_off4_inb (grid0.coords t) 3) 0 1
    inb_S8_S1_0 inb_S8_S1_1 rfl rfl (by decide) _ inb_S1x512x1024_S1x128x128_0_384_128 rfl
  refine ⟨e, ?_⟩
  clear e
  have e := piece0 (iblk m c 0 t) (iblk m c 1 t) (iblk m c 2 t) (iblk m c 3 t) (iblk m c 4 t) (grid0.coords t 1).val
    hs 3 0 _ _ _ _ _ (at_low t 3 0 rfl) (k0_off1_inb (grid0.coords t) 3) (k0_off2_inb (grid0.coords t) 3)
    inb_S1x512x1024_S1x128x128_0_384_0 inb_S1x512x1024_S1x128x128_0_384_128 (k0_off4_inb (grid0.coords t) 3) 0 1
    inb_S8_S1_0 inb_S8_S1_1 rfl rfl (by decide) _ inb_S1x512x1024_S1x128x128_0_384_0 rfl
  refine ⟨e, ?_⟩
  clear e
  have e := piece1 (iblk m c 0 t) (iblk m c 1 t) (iblk m c 2 t) (iblk m c 3 t) (iblk m c 4 t) (grid0.coords t 1).val
    hs 2 3 _ _ _ _ _ (at_high t 2 3 rfl) (k0_off3_inb (grid0.coords t) 2) (k0_off2_inb (grid0.coords t) 2)
    inb_S1x512x1024_S1x128x128_0_256_768 inb_S1x512x1024_S1x128x128_0_256_896 (k0_off5_inb (grid0.coords t) 2) 6 7
    inb_S8_S1_6 inb_S8_S1_7 rfl rfl (by decide) _ inb_S1x512x1024_S1x128x128_0_256_896 rfl
  refine ⟨e, ?_⟩
  clear e
  have e := piece0 (iblk m c 0 t) (iblk m c 1 t) (iblk m c 2 t) (iblk m c 3 t) (iblk m c 4 t) (grid0.coords t 1).val
    hs 2 3 _ _ _ _ _ (at_high t 2 3 rfl) (k0_off3_inb (grid0.coords t) 2) (k0_off2_inb (grid0.coords t) 2)
    inb_S1x512x1024_S1x128x128_0_256_768 inb_S1x512x1024_S1x128x128_0_256_896 (k0_off5_inb (grid0.coords t) 2) 6 7
    inb_S8_S1_6 inb_S8_S1_7 rfl rfl (by decide) _ inb_S1x512x1024_S1x128x128_0_256_768 rfl
  refine ⟨e, ?_⟩
  clear e
  have e := piece1 (iblk m c 0 t) (iblk m c 1 t) (iblk m c 2 t) (iblk m c 3 t) (iblk m c 4 t) (grid0.coords t 1).val
    hs 2 2 _ _ _ _ _ (at_high t 2 2 rfl) (k0_off3_inb (grid0.coords t) 2) (k0_off2_inb (grid0.coords t) 2)
    inb_S1x512x1024_S1x128x128_0_256_512 inb_S1x512x1024_S1x128x128_0_256_640 (k0_off5_inb (grid0.coords t) 2) 4 5
    inb_S8_S1_4 inb_S8_S1_5 rfl rfl (by decide) _ inb_S1x512x1024_S1x128x128_0_256_640 rfl
  refine ⟨e, ?_⟩
  clear e
  have e := piece0 (iblk m c 0 t) (iblk m c 1 t) (iblk m c 2 t) (iblk m c 3 t) (iblk m c 4 t) (grid0.coords t 1).val
    hs 2 2 _ _ _ _ _ (at_high t 2 2 rfl) (k0_off3_inb (grid0.coords t) 2) (k0_off2_inb (grid0.coords t) 2)
    inb_S1x512x1024_S1x128x128_0_256_512 inb_S1x512x1024_S1x128x128_0_256_640 (k0_off5_inb (grid0.coords t) 2) 4 5
    inb_S8_S1_4 inb_S8_S1_5 rfl rfl (by decide) _ inb_S1x512x1024_S1x128x128_0_256_512 rfl
  refine ⟨e, ?_⟩
  clear e
  have e := piece1 (iblk m c 0 t) (iblk m c 1 t) (iblk m c 2 t) (iblk m c 3 t) (iblk m c 4 t) (grid0.coords t 1).val
    hs 2 1 _ _ _ _ _ (at_low t 2 1 rfl) (k0_off1_inb (grid0.coords t) 2) (k0_off2_inb (grid0.coords t) 2)
    inb_S1x512x1024_S1x128x128_0_256_256 inb_S1x512x1024_S1x128x128_0_256_384 (k0_off4_inb (grid0.coords t) 2) 2 3
    inb_S8_S1_2 inb_S8_S1_3 rfl rfl (by decide) _ inb_S1x512x1024_S1x128x128_0_256_384 rfl
  refine ⟨e, ?_⟩
  clear e
  have e := piece0 (iblk m c 0 t) (iblk m c 1 t) (iblk m c 2 t) (iblk m c 3 t) (iblk m c 4 t) (grid0.coords t 1).val
    hs 2 1 _ _ _ _ _ (at_low t 2 1 rfl) (k0_off1_inb (grid0.coords t) 2) (k0_off2_inb (grid0.coords t) 2)
    inb_S1x512x1024_S1x128x128_0_256_256 inb_S1x512x1024_S1x128x128_0_256_384 (k0_off4_inb (grid0.coords t) 2) 2 3
    inb_S8_S1_2 inb_S8_S1_3 rfl rfl (by decide) _ inb_S1x512x1024_S1x128x128_0_256_256 rfl
  refine ⟨e, ?_⟩
  clear e
  have e := piece1 (iblk m c 0 t) (iblk m c 1 t) (iblk m c 2 t) (iblk m c 3 t) (iblk m c 4 t) (grid0.coords t 1).val
    hs 2 0 _ _ _ _ _ (at_low t 2 0 rfl) (k0_off1_inb (grid0.coords t) 2) (k0_off2_inb (grid0.coords t) 2)
    inb_S1x512x1024_S1x128x128_0_256_0 inb_S1x512x1024_S1x128x128_0_256_128 (k0_off4_inb (grid0.coords t) 2) 0 1
    inb_S8_S1_0 inb_S8_S1_1 rfl rfl (by decide) _ inb_S1x512x1024_S1x128x128_0_256_128 rfl
  refine ⟨e, ?_⟩
  clear e
  have e := piece0 (iblk m c 0 t) (iblk m c 1 t) (iblk m c 2 t) (iblk m c 3 t) (iblk m c 4 t) (grid0.coords t 1).val
    hs 2 0 _ _ _ _ _ (at_low t 2 0 rfl) (k0_off1_inb (grid0.coords t) 2) (k0_off2_inb (grid0.coords t) 2)
    inb_S1x512x1024_S1x128x128_0_256_0 inb_S1x512x1024_S1x128x128_0_256_128 (k0_off4_inb (grid0.coords t) 2) 0 1
    inb_S8_S1_0 inb_S8_S1_1 rfl rfl (by decide) _ inb_S1x512x1024_S1x128x128_0_256_0 rfl
  refine ⟨e, ?_⟩
  clear e
  have e := piece1 (iblk m c 0 t) (iblk m c 1 t) (iblk m c 2 t) (iblk m c 3 t) (iblk m c 4 t) (grid0.coords t 1).val
    hs 1 3 _ _ _ _ _ (at_high t 1 3 rfl) (k0_off3_inb (grid0.coords t) 1) (k0_off2_inb (grid0.coords t) 1)
    inb_S1x512x1024_S1x128x128_0_128_768 inb_S1x512x1024_S1x128x128_0_128_896 (k0_off5_inb (grid0.coords t) 1) 6 7
    inb_S8_S1_6 inb_S8_S1_7 rfl rfl (by decide) _ inb_S1x512x1024_S1x128x128_0_128_896 rfl
  refine ⟨e, ?_⟩
  clear e
  have e := piece0 (iblk m c 0 t) (iblk m c 1 t) (iblk m c 2 t) (iblk m c 3 t) (iblk m c 4 t) (grid0.coords t 1).val
    hs 1 3 _ _ _ _ _ (at_high t 1 3 rfl) (k0_off3_inb (grid0.coords t) 1) (k0_off2_inb (grid0.coords t) 1)
    inb_S1x512x1024_S1x128x128_0_128_768 inb_S1x512x1024_S1x128x128_0_128_896 (k0_off5_inb (grid0.coords t) 1) 6 7
    inb_S8_S1_6 inb_S8_S1_7 rfl rfl (by decide) _ inb_S1x512x1024_S1x128x128_0_128_768 rfl
  refine ⟨e, ?_⟩
  clear e
  have e := piece1 (iblk m c 0 t) (iblk m c 1 t) (iblk m c 2 t) (iblk m c 3 t) (iblk m c 4 t) (grid0.coords t 1).val
    hs 1 2 _ _ _ _ _ (at_high t 1 2 rfl) (k0_off3_inb (grid0.coords t) 1) (k0_off2_inb (grid0.coords t) 1)
    inb_S1x512x1024_S1x128x128_0_128_512 inb_S1x512x1024_S1x128x128_0_128_640 (k0_off5_inb (grid0.coords t) 1) 4 5
    inb_S8_S1_4 inb_S8_S1_5 rfl rfl (by decide) _ inb_S1x512x1024_S1x128x128_0_128_640 rfl
  refine ⟨e, ?_⟩
  clear e
  have e := piece0 (iblk m c 0 t) (iblk m c 1 t) (iblk m c 2 t) (iblk m c 3 t) (iblk m c 4 t) (grid0.coords t 1).val
    hs 1 2 _ _ _ _ _ (at_high t 1 2 rfl) (k0_off3_inb (grid0.coords t) 1) (k0_off2_inb (grid0.coords t) 1)
    inb_S1x512x1024_S1x128x128_0_128_512 inb_S1x512x1024_S1x128x128_0_128_640 (k0_off5_inb (grid0.coords t) 1) 4 5
    inb_S8_S1_4 inb_S8_S1_5 rfl rfl (by decide) _ inb_S1x512x1024_S1x128x128_0_128_512 rfl
  refine ⟨e, ?_⟩
  clear e
  have e := piece1 (iblk m c 0 t) (iblk m c 1 t) (iblk m c 2 t) (iblk m c 3 t) (iblk m c 4 t) (grid0.coords t 1).val
    hs 1 1 _ _ _ _ _ (at_low t 1 1 rfl) (k0_off1_inb (grid0.coords t) 1) (k0_off2_inb (grid0.coords t) 1)
    inb_S1x512x1024_S1x128x128_0_128_256 inb_S1x512x1024_S1x128x128_0_128_384 (k0_off4_inb (grid0.coords t) 1) 2 3
    inb_S8_S1_2 inb_S8_S1_3 rfl rfl (by decide) _ inb_S1x512x1024_S1x128x128_0_128_384 rfl
  refine ⟨e, ?_⟩
  clear e
  have e := piece0 (iblk m c 0 t) (iblk m c 1 t) (iblk m c 2 t) (iblk m c 3 t) (iblk m c 4 t) (grid0.coords t 1).val
    hs 1 1 _ _ _ _ _ (at_low t 1 1 rfl) (k0_off1_inb (grid0.coords t) 1) (k0_off2_inb (grid0.coords t) 1)
    inb_S1x512x1024_S1x128x128_0_128_256 inb_S1x512x1024_S1x128x128_0_128_384 (k0_off4_inb (grid0.coords t) 1) 2 3
    inb_S8_S1_2 inb_S8_S1_3 rfl rfl (by decide) _ inb_S1x512x1024_S1x128x128_0_128_256 rfl
  refine ⟨e, ?_⟩
  clear e
  have e := piece1 (iblk m c 0 t) (iblk m c 1 t) (iblk m c 2 t) (iblk m c 3 t) (iblk m c 4 t) (grid0.coords t 1).val
    hs 1 0 _ _ _ _ _ (at_low t 1 0 rfl) (k0_off1_inb (grid0.coords t) 1) (k0_off2_inb (grid0.coords t) 1)
    inb_S1x512x1024_S1x128x128_0_128_0 inb_S1x512x1024_S1x128x128_0_128_128 (k0_off4_inb (grid0.coords t) 1) 0 1
    inb_S8_S1_0 inb_S8_S1_1 rfl rfl (by decide) _ inb_S1x512x1024_S1x128x128_0_128_128 rfl
  refine ⟨e, ?_⟩
  clear e
  have e := piece0 (iblk m c 0 t) (iblk m c 1 t) (iblk m c 2 t) (iblk m c 3 t) (iblk m c 4 t) (grid0.coords t 1).val
    hs 1 0 _ _ _ _ _ (at_low t 1 0 rfl) (k0_off1_inb (grid0.coords t) 1) (k0_off2_inb (grid0.coords t) 1)
    inb_S1x512x1024_S1x128x128_0_128_0 inb_S1x512x1024_S1x128x128_0_128_128 (k0_off4_inb (grid0.coords t) 1) 0 1
    inb_S8_S1_0 inb_S8_S1_1 rfl rfl (by decide) _ inb_S1x512x1024_S1x128x128_0_128_0 rfl
  refine ⟨e, ?_⟩
  clear e
  have e := piece1 (iblk m c 0 t) (iblk m c 1 t) (iblk m c 2 t) (iblk m c 3 t) (iblk m c 4 t) (grid0.coords t 1).val
    hs 0 3 _ _ _ _ _ (at_high t 0 3 rfl) (k0_off3_inb (grid0.coords t) 0) (k0_off2_inb (grid0.coords t) 0)
    inb_S1x512x1024_S1x128x128_0_0_768 inb_S1x512x1024_S1x128x128_0_0_896 (k0_off5_inb (grid0.coords t) 0) 6 7
    inb_S8_S1_6 inb_S8_S1_7 rfl rfl (by decide) _ inb_S1x512x1024_S1x128x128_0_0_896 rfl
  refine ⟨e, ?_⟩
  clear e
  have e := piece0 (iblk m c 0 t) (iblk m c 1 t) (iblk m c 2 t) (iblk m c 3 t) (iblk m c 4 t) (grid0.coords t 1).val
    hs 0 3 _ _ _ _ _ (at_high t 0 3 rfl) (k0_off3_inb (grid0.coords t) 0) (k0_off2_inb (grid0.coords t) 0)
    inb_S1x512x1024_S1x128x128_0_0_768 inb_S1x512x1024_S1x128x128_0_0_896 (k0_off5_inb (grid0.coords t) 0) 6 7
    inb_S8_S1_6 inb_S8_S1_7 rfl rfl (by decide) _ inb_S1x512x1024_S1x128x128_0_0_768 rfl
  refine ⟨e, ?_⟩
  clear e
  have e := piece1 (iblk m c 0 t) (iblk m c 1 t) (iblk m c 2 t) (iblk m c 3 t) (iblk m c 4 t) (grid0.coords t 1).val
    hs 0 2 _ _ _ _ _ (at_high t 0 2 rfl) (k0_off3_inb (grid0.coords t) 0) (k0_off2_inb (grid0.coords t) 0)
    inb_S1x512x1024_S1x128x128_0_0_512 inb_S1x512x1024_S1x128x128_0_0_640 (k0_off5_inb (grid0.coords t) 0) 4 5
    inb_S8_S1_4 inb_S8_S1_5 rfl rfl (by decide) _ inb_S1x512x1024_S1x128x128_0_0_640 rfl
  refine ⟨e, ?_⟩
  clear e
  have e := piece0 (iblk m c 0 t) (iblk m c 1 t) (iblk m c 2 t) (iblk m c 3 t) (iblk m c 4 t) (grid0.coords t 1).val
    hs 0 2 _ _ _ _ _ (at_high t 0 2 rfl) (k0_off3_inb (grid0.coords t) 0) (k0_off2_inb (grid0.coords t) 0)
    inb_S1x512x1024_S1x128x128_0_0_512 inb_S1x512x1024_S1x128x128_0_0_640 (k0_off5_inb (grid0.coords t) 0) 4 5
    inb_S8_S1_4 inb_S8_S1_5 rfl rfl (by decide) _ inb_S1x512x1024_S1x128x128_0_0_512 rfl
  refine ⟨e, ?_⟩
  clear e
  have e := piece1 (iblk m c 0 t) (iblk m c 1 t) (iblk m c 2 t) (iblk m c 3 t) (iblk m c 4 t) (grid0.coords t 1).val
    hs 0 1 _ _ _ _ _ (at_low t 0 1 rfl) (k0_off1_inb (grid0.coords t) 0) (k0_off2_inb (grid0.coords t) 0)
    inb_S1x512x1024_S1x128x128_0_0_256 inb_S1x512x1024_S1x128x128_0_0_384 (k0_off4_inb (grid0.coords t) 0) 2 3
    inb_S8_S1_2 inb_S8_S1_3 rfl rfl (by decide) _ inb_S1x512x1024_S1x128x128_0_0_384 rfl
  refine ⟨e, ?_⟩
  clear e
  have e := piece0 (iblk m c 0 t) (iblk m c 1 t) (iblk m c 2 t) (iblk m c 3 t) (iblk m c 4 t) (grid0.coords t 1).val
    hs 0 1 _ _ _ _ _ (at_low t 0 1 rfl) (k0_off1_inb (grid0.coords t) 0) (k0_off2_inb (grid0.coords t) 0)
    inb_S1x512x1024_S1x128x128_0_0_256 inb_S1x512x1024_S1x128x128_0_0_384 (k0_off4_inb (grid0.coords t) 0) 2 3
    inb_S8_S1_2 inb_S8_S1_3 rfl rfl (by decide) _ inb_S1x512x1024_S1x128x128_0_0_256 rfl
  refine ⟨e, ?_⟩
  clear e
  have e := piece1 (iblk m c 0 t) (iblk m c 1 t) (iblk m c 2 t) (iblk m c 3 t) (iblk m c 4 t) (grid0.coords t 1).val
    hs 0 0 _ _ _ _ _ (at_low t 0 0 rfl) (k0_off1_inb (grid0.coords t) 0) (k0_off2_inb (grid0.coords t) 0)
    inb_S1x512x1024_S1x128x128_0_0_0 inb_S1x512x1024_S1x128x128_0_0_128 (k0_off4_inb (grid0.coords t) 0) 0 1
    inb_S8_S1_0 inb_S8_S1_1 rfl rfl (by decide) _ inb_S1x512x1024_S1x128x128_0_0_128 rfl
  refine ⟨e, ?_⟩
  clear e
  have e := piece0 (iblk m c 0 t) (iblk m c 1 t) (iblk m c 2 t) (iblk m c 3 t) (iblk m c 4 t) (grid0.coords t 1).val
    hs 0 0 _ _ _ _ _ (at_low t 0 0 rfl) (k0_off1_inb (grid0.coords t) 0) (k0_off2_inb (grid0.coords t) 0)
    inb_S1x512x1024_S1x128x128_0_0_0 inb_S1x512x1024_S1x128x128_0_0_128 (k0_off4_inb (grid0.coords t) 0) 0 1
    inb_S8_S1_0 inb_S8_S1_1 rfl rfl (by decide) _ inb_S1x512x1024_S1x128x128_0_0_0 rfl
  refine ⟨e, ?_⟩
  clear e
  trivial

end Cert.AttnBlock

end
-- ==== Proof.AttnFinal.lean ====
/- What the attention kernel's result array holds after the run: every grid point's block is a part of `attnArr`, and the blocks
   cover the array. -/
module

public import proofs.«01_k».proof.Proof.AttnHead
public import proofs.«01_k».proof.Proof.AttnPieces
public import Idealize.ShloMosaic.Lib.StableHlo.Run

@[expose] public section

noncomputable section

namespace Cert.AttnFinal

open Cert.KernelIdeal Cert.KernelIdeal.Gen Cert.KernelIdeal.Value Cert.Attn Cert.AttnBlock
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (c : Dev nD)

/-! ## The arrays the region finds -/

/-- Key less query, in a page of the mask. -/
def relW : IVec S1x384x128 32 :=
  subi (broadcastInDim S1x384x128 ![0, 1, 2] bcast_S1x384x1_S1x384x128_0_1_2 (broadcastInDim S1x384x1 ![1] bcast_S384_S1x384x1_1 (iotaInDim S384 32 0)))
    (broadcastInDim S1x384x128 ![0, 1, 2] bcast_S1x1x128_S1x384x128_0_1_2 (broadcastInDim S1x1x128 ![2] bcast_S128_S1x1x128_2 (iotaInDim S128 32 0)))

/-- Page times 128. -/
def pageW : IVec S3x1x1 32 :=
  muli (broadcastInDim S3x1x1 ![] bcast_S_S3x1x1 (constantI S_ 32 128#32)) (broadcastInDim S3x1x1 ![0] bcast_S3_S3x1x1_0 (iotaInDim S3 32 0))

/-- The distance test. -/
def nearW : IVec S3x384x128 1 :=
  cmpi .sle (absi (subi (broadcastInDim S3x384x128 ![0, 1, 2] bcast_S1x384x128_S3x384x128_0_1_2 relW)
    (broadcastInDim S3x384x128 ![0, 1, 2] bcast_S3x1x1_S3x384x128_0_1_2 pageW)))
    (broadcastInDim S3x384x128 ![] bcast_S_S3x384x128 (constantI S_ 32 128#32))

/-- The mask. -/
def maskV : FVec Ideal S3x384x128 .f32 :=
  select nearW (broadcastInDim S3x384x128 ![] bcast_S_S3x384x128 (constant S_ .f32 0x00000000#32))
    (broadcastInDim S3x384x128 ![] bcast_S_S3x384x128 (constant S_ .f32 0xFF800000#32))

theorem V_mask : V m c main_v26 = maskV := by
  simp only [V, hostOps0, hostOps0_1, hostOps0_2, List.flatten_cons, List.flatten_nil, List.cons_append, List.nil_append, List.append_nil]; after_results_simp <;> rfl
theorem V_q : V m c main_v6 = shapeCast S32x2048x1024 (shapeCast S65536x1024 (m ((c : Thread nD τ).loc main_arg0)) shapeCasts_S32x2048x8x128_S65536x1024) shapeCasts_S65536x1024_S32x2048x1024 := by
  simp only [V, hostOps0, hostOps0_1, hostOps0_2, List.flatten_cons, List.flatten_nil, List.cons_append, List.nil_append, List.append_nil]; after_results_simp <;> rfl
theorem V_k : V m c main_v7 = shapeCast S32x2048x256 (shapeCast S65536x256 (truncf .bf16 (m ((c : Thread nD τ).loc main_arg1)) bitsLt_bf16_f32 : FVec Ideal S32x2048x2x128 .bf16) shapeCasts_S32x2048x2x128_S65536x256) shapeCasts_S65536x256_S32x2048x256 := by
  simp only [V, hostOps0, hostOps0_1, hostOps0_2, List.flatten_cons, List.flatten_nil, List.cons_append, List.nil_append, List.append_nil]; after_results_simp <;> rfl
theorem V_v : V m c main_v5 = (truncf .bf16 (transpose S32x256x2048 [0, 2, 1] (shapeCast S32x2048x256 (m ((c : Thread nD τ).loc main_arg2)) shapeCasts_S32x2048x2x128_S32x2048x256 : FVec Ideal S32x2048x256 .f32) transposes_S32x2048x256_S32x256x2048_0_2_1) bitsLt_bf16_f32 : FVec Ideal S32x256x2048 .bf16) := by
  simp only [V, hostOps0, hostOps0_1, hostOps0_2, List.flatten_cons, List.flatten_nil, List.cons_append, List.nil_append, List.append_nil]; after_results_simp <;> rfl

/-! ## The mask at an index -/

theorem relW_apply (j : Fin 384) (r : Fin 128) : relW (ix3 0 j r) = BitVec.ofInt 32 ((j.val : ℤ) - r.val) := by
  have e1 : broadcastInDim S1x384x128 ![0, 1, 2] bcast_S1x384x1_S1x384x128_0_1_2 (broadcastInDim S1x384x1 ![1] bcast_S384_S1x384x1_1 (iotaInDim S384 32 0))
      (ix3 0 j r) = BitVec.ofNat 32 j.val := by
    refine (broadcastInDim_apply _ bcast_S1x384x1_S1x384x128_0_1_2 _ (ix3 0 j r) (ix3 0 j 0) (fun a => match a with
      | ⟨0, _⟩ => rfl
      | ⟨1, _⟩ => rfl
      | ⟨2, _⟩ => rfl)).trans ?_
    exact broadcastInDim_apply _ bcast_S384_S1x384x1_1 _ (ix3 0 j 0) (ix1 j) (fun a => match a with | ⟨0, _⟩ => rfl)
  have e2 : broadcastInDim S1x384x128 ![0, 1, 2] bcast_S1x1x128_S1x384x128_0_1_2 (broadcastInDim S1x1x128 ![2] bcast_S128_S1x1x128_2 (iotaInDim S128 32 0))
      (ix3 0 j r) = BitVec.ofNat 32 r.val := by
    refine (broadcastInDim_apply _ bcast_S1x1x128_S1x384x128_0_1_2 _ (ix3 0 j r) (ix3 0 0 r) (fun a => match a with
      | ⟨0, _⟩ => rfl
      | ⟨1, _⟩ => rfl
      | ⟨2, _⟩ => rfl)).trans ?_
    exact broadcastInDim_apply _ bcast_S128_S1x1x128_2 _ (ix3 0 0 r) (ix1 r) (fun a => match a with | ⟨0, _⟩ => rfl)
  show IntOp.subi _ _ = _
  rw [e1, e2, word_nat, word_nat, word_sub]

theorem pageW_apply (p : Fin 3) : pageW (ix3 p 0 0) = BitVec.ofInt 32 (128 * (p.val : ℤ)) := by
  have e1 : broadcastInDim S3x1x1 ![0] bcast_S3_S3x1x1_0 (iotaInDim S3 32 0) (ix3 p 0 0) = BitVec.ofNat 32 p.val :=
    broadcastInDim_apply _ bcast_S3_S3x1x1_0 _ (ix3 p 0 0) (ix1 p) (fun a => match a with | ⟨0, _⟩ => rfl)
  have e2 : broadcastInDim S3x1x1 ![] bcast_S_S3x1x1 (constantI S_ 32 128#32) (ix3 p 0 0) = BitVec.ofInt 32 128 :=
    broadcastInDim_scalar_apply bcast_S_S3x1x1 _ _
  show IntOp.muli _ _ = _
  rw [e1, e2, word_nat, word_mul]

theorem maskV_apply (p : Fin 3) (j : Fin 384) (r : Fin 128) :
    maskV (ix3 p j r) = if |(j.val : ℤ) - r.val - 128 * (p.val : ℤ)| ≤ 128 then 0 else (⊥ : EReal) := by
  have e1 : broadcastInDim S3x384x128 ![0, 1, 2] bcast_S1x384x128_S3x384x128_0_1_2 relW (ix3 p j r) = relW (ix3 0 j r) :=
    broadcastInDim_apply _ bcast_S1x384x128_S3x384x128_0_1_2 _ (ix3 p j r) (ix3 0 j r) (fun a => match a with
      | ⟨0, _⟩ => rfl
      | ⟨1, _⟩ => rfl
      | ⟨2, _⟩ => rfl)
  have e2 : broadcastInDim S3x384x128 ![0, 1, 2] bcast_S3x1x1_S3x384x128_0_1_2 pageW (ix3 p j r) = pageW (ix3 p 0 0) :=
    broadcastInDim_apply _ bcast_S3x1x1_S3x384x128_0_1_2 _ (ix3 p j r) (ix3 p 0 0) (fun a => match a with
      | ⟨0, _⟩ => rfl
      | ⟨1, _⟩ => rfl
      | ⟨2, _⟩ => rfl)
  have e3 : nearW (ix3 p j r) = BitVec.ofBool (decide (|(j.val : ℤ) - r.val - 128 * (p.val : ℤ)| ≤ 128)) := by
    show IntOp.cmpi .sle (IntOp.absi (IntOp.subi _ _)) 128#32 = _
    rw [e1, e2, relW_apply, pageW_apply, word_sub]
    have := j.isLt; have := r.isLt; have := p.isLt
    exact word_near _ (by omega)
  show Scalar.select (nearW (ix3 p j r)) (Ideal.ofBits .f32 0x00000000#32) (Ideal.ofBits .f32 0xFF800000#32) = _
  rw [e3, select_test, minusInf, Ideal.ofBits_zero_f32]

/-! ## The blocks at a grid point -/

/-- Where the windows stand: a point is a sequence and a step of 512 tokens. -/
theorem idx_facts : ∀ t : Fin cfg0.N,
    (win0_0.index t 0 = 0) ∧ (win0_1.index t 0 = 0 ∧ win0_1.index t 1 = 0 ∧ win0_1.index t 2 = 0)
    ∧ (win0_2.index t 0 = t.val / 4 ∧ win0_2.index t 1 = t.val % 4 ∧ win0_2.index t 2 = 0)
    ∧ (win0_3.index t 0 = t.val / 4 ∧ win0_3.index t 1 = 0 ∧ win0_3.index t 2 = 0)
    ∧ (win0_4.index t 0 = t.val / 4 ∧ win0_4.index t 1 = 0 ∧ win0_4.index t 2 = 0)
    ∧ (win0_5.index t 0 = t.val / 4 ∧ win0_5.index t 1 = t.val % 4 ∧ win0_5.index t 2 = 0)
    ∧ (grid0.coords t 1).val = t.val % 4 := by
  decide +kernel

/-- The sequence of a point, and the token of row `r` of its block. -/
def seqAt (t : Fin cfg0.N) : Fin 32 := ⟨t.val / 4, by have h : t.val < 128 := t.isLt; omega⟩
def tokAt (t : Fin cfg0.N) (r : Fin 512) : Fin 2048 := ⟨t.val % 4 * 512 + r.val, by have := r.isLt; omega⟩

/-- Column `k` of heads laid side by side. -/
def headOf8 (k : Fin 1024) : Fin 8 := ⟨k.val / 128, by have := k.isLt; omega⟩
def headOf2 (k : Fin 256) : Fin 2 := ⟨k.val / 128, by have := k.isLt; omega⟩
def dimOf {n : Nat} (k : Fin n) : Fin 128 := ⟨k.val % 128, by omega⟩

theorem flat_q {α : Type} (v : S32x2048x8x128.Idx → α) (b : Fin 32) (l : Fin 2048) (k : Fin 1024) :
    shapeCast S32x2048x1024 (shapeCast S65536x1024 v shapeCasts_S32x2048x8x128_S65536x1024) shapeCasts_S65536x1024_S32x2048x1024 (ix3 b l k)
      = v (ix4 b l (headOf8 k) (dimOf k)) := by
  refine (shapeCast_apply _ _ (ix3 b l k) (ix2 (⟨b.val * 2048 + l.val, by have := b.isLt; have := l.isLt; omega⟩ : Fin 65536) k) ?_).trans
    (shapeCast_apply _ _ _ (ix4 b l (headOf8 k) (dimOf k)) ?_)
  · rw [Shape.rowMajor_val_three, Shape.rowMajor_val_two]; rfl
  · rw [Shape.rowMajor_val_four, Shape.rowMajor_val_two]
    show ((b.val * 2048 + l.val) * 8 + k.val / 128) * 128 + k.val % 128 = (b.val * 2048 + l.val) * 1024 + k.val
    omega

theorem flat_k {α : Type} (v : S32x2048x2x128.Idx → α) (b : Fin 32) (l : Fin 2048) (k : Fin 256) :
    shapeCast S32x2048x256 (shapeCast S65536x256 v shapeCasts_S32x2048x2x128_S65536x256) shapeCasts_S65536x256_S32x2048x256 (ix3 b l k)
      = v (ix4 b l (headOf2 k) (dimOf k)) := by
  refine (shapeCast_apply _ _ (ix3 b l k) (ix2 (⟨b.val * 2048 + l.val, by have := b.isLt; have := l.isLt; omega⟩ : Fin 65536) k) ?_).trans
    (shapeCast_apply _ _ _ (ix4 b l (headOf2 k) (dimOf k)) ?_)
  · rw [Shape.rowMajor_val_three, Shape.rowMajor_val_two]; rfl
  · rw [Shape.rowMajor_val_four, Shape.rowMajor_val_two]
    show ((b.val * 2048 + l.val) * 2 + k.val / 128) * 128 + k.val % 128 = (b.val * 2048 + l.val) * 256 + k.val
    omega

theorem flat_v {α : Type} (v : S32x2048x2x128.Idx → α) (b : Fin 32) (l : Fin 2048) (k : Fin 256) :
    transpose S32x256x2048 [0, 2, 1] (shapeCast S32x2048x256 v shapeCasts_S32x2048x2x128_S32x2048x256) transposes_S32x2048x256_S32x256x2048_0_2_1
      (ix3 b k l) = v (ix4 b l (headOf2 k) (dimOf k)) := by
  refine (transpose_apply _ _ _ (ix3 b k l) (ix3 b l k) (fun a => match a with
    | ⟨0, _⟩ => rfl
    | ⟨1, _⟩ => rfl
    | ⟨2, _⟩ => rfl)).trans (shapeCast_apply _ _ _ (ix4 b l (headOf2 k) (dimOf k)) ?_)
  rw [Shape.rowMajor_val_four, Shape.rowMajor_val_three]
  show ((b.val * 2048 + l.val) * 2 + k.val / 128) * 128 + k.val % 128 = (b.val * 2048 + l.val) * 256 + k.val
  omega

theorem blk0 (t : Fin cfg0.N) (h : Fin 8) : (iblk m c 0 t : Vec Ideal S8 .f32) (ix1 h) = m ((c : Thread nD τ).loc main_arg3) (ix1 h) := by
  obtain ⟨e0, -⟩ := idx_facts t
  refine Eq.trans ?_ (congrFun (V_main_arg3 m c) (ix1 h))
  refine congrArg (V m c main_arg3) (funext fun a => Fin.ext ?_)
  match a with
  | ⟨0, _⟩ => show win0_0.index t 0 * 8 + 1 * h.val = h.val; rw [e0]; omega

theorem blk1 (t : Fin cfg0.N) (p : Fin 3) (j : Fin 384) (r : Fin 128) : (iblk m c 1 t : Vec Ideal S3x384x128 .f32) (ix3 p j r)
    = if |(j.val : ℤ) - r.val - 128 * (p.val : ℤ)| ≤ 128 then 0 else (⊥ : EReal) := by
  obtain ⟨-, ⟨e0, e1, e2⟩, -⟩ := idx_facts t
  refine Eq.trans ?_ (maskV_apply p j r)
  rw [← V_mask m c]
  refine congrArg (V m c main_v26) (funext fun a => Fin.ext ?_)
  match a with
  | ⟨0, _⟩ => show win0_1.index t 0 * 3 + 1 * p.val = p.val; rw [e0]; omega
  | ⟨1, _⟩ => show win0_1.index t 1 * 384 + 1 * j.val = j.val; rw [e1]; omega
  | ⟨2, _⟩ => show win0_1.index t 2 * 128 + 1 * r.val = r.val; rw [e2]; omega

theorem blk2 (t : Fin cfg0.N) (r : Fin 512) (k : Fin 1024) : (iblk m c 2 t : Vec Ideal S1x512x1024 .f32) (ix3 0 r k)
    = m ((c : Thread nD τ).loc main_arg0) (ix4 (seqAt t) (tokAt t r) (headOf8 k) (dimOf k)) := by
  obtain ⟨-, -, ⟨e0, e1, e2⟩, -⟩ := idx_facts t
  refine Eq.trans ?_ (flat_q (m ((c : Thread nD τ).loc main_arg0)) (seqAt t) (tokAt t r) k)
  rw [← V_q m c]
  refine congrArg (V m c main_v6) (funext fun a => Fin.ext ?_)
  match a with
  | ⟨0, _⟩ => show win0_2.index t 0 * 1 + 1 * 0 = t.val / 4; rw [e0]; omega
  | ⟨1, _⟩ => show win0_2.index t 1 * 512 + 1 * r.val = t.val % 4 * 512 + r.val; rw [e1]; omega
  | ⟨2, _⟩ => show win0_2.index t 2 * 1024 + 1 * k.val = k.val; rw [e2]; omega

theorem blk3 (t : Fin cfg0.N) (l : Fin 2048) (k : Fin 256) : (iblk m c 3 t : Vec Ideal S1x2048x256 .bf16) (ix3 0 l k)
    = (m ((c : Thread nD τ).loc main_arg1) (ix4 (seqAt t) l (headOf2 k) (dimOf k)) : EReal) := by
  obtain ⟨-, -, -, ⟨e0, e1, e2⟩, -⟩ := idx_facts t
  refine Eq.trans ?_ (flat_k (truncf .bf16 (m ((c : Thread nD τ).loc main_arg1)) bitsLt_bf16_f32 : FVec Ideal S32x2048x2x128 .bf16) (seqAt t) l k)
  rw [← V_k m c]
  refine congrArg (V m c main_v7) (funext fun a => Fin.ext ?_)
  match a with
  | ⟨0, _⟩ => show win0_3.index t 0 * 1 + 1 * 0 = t.val / 4; rw [e0]; omega
  | ⟨1, _⟩ => show win0_3.index t 1 * 2048 + 1 * l.val = l.val; rw [e1]; omega
  | ⟨2, _⟩ => show win0_3.index t 2 * 256 + 1 * k.val = k.val; rw [e2]; omega

theorem blk4 (t : Fin cfg0.N) (l : Fin 2048) (k : Fin 256) : (iblk m c 4 t : Vec Ideal S1x256x2048 .bf16) (ix3 0 k l)
    = (m ((c : Thread nD τ).loc main_arg2) (ix4 (seqAt t) l (headOf2 k) (dimOf k)) : EReal) := by
  obtain ⟨-, -, -, -, ⟨e0, e1, e2⟩, -⟩ := idx_facts t
  refine Eq.trans ?_ (flat_v (m ((c : Thread nD τ).loc main_arg2) : S32x2048x2x128.Idx → EReal) (seqAt t) l k)
  refine Eq.trans ?_ (congrFun (V_v m c) (ix3 (seqAt t) k l))
  refine congrArg (V m c main_v5) (funext fun a => Fin.ext ?_)
  match a with
  | ⟨0, _⟩ => show win0_4.index t 0 * 1 + 1 * 0 = t.val / 4; rw [e0]; omega
  | ⟨1, _⟩ => show win0_4.index t 1 * 256 + 1 * k.val = k.val; rw [e1]; omega
  | ⟨2, _⟩ => show win0_4.index t 2 * 2048 + 1 * l.val = l.val; rw [e2]; omega

/-! ## The result array -/

/-- The kernel's result as one array of its arguments. -/
def result : Vec Ideal S32x2048x1024 .bf16 :=
  attnArr (m ((c : Thread nD τ).loc main_arg0)) (m ((c : Thread nD τ).loc main_arg1)) (m ((c : Thread nD τ).loc main_arg2))
    (m ((c : Thread nD τ).loc main_arg3))

variable (hq : ∀ i, ∃ x : ℝ, (m ((c : Thread nD τ).loc main_arg0) i : EReal) = (x : EReal))
  (hk : ∀ i, ∃ x : ℝ, (m ((c : Thread nD τ).loc main_arg1) i : EReal) = (x : EReal))
  (hs : ∀ i, ∃ x : ℝ, (m ((c : Thread nD τ).loc main_arg3) i : EReal) = (x : EReal))

include hq hk hs

/-- The body's block at a point, at an index. -/
theorem block_apply (t : Fin cfg0.N) (r : Fin 512) (k : Fin 1024) :
    block (iblk m c 0 t) (iblk m c 1 t) (iblk m c 2 t) (iblk m c 3 t) (iblk m c 4 t) (grid0.coords t 1).val (ix3 0 r k)
      = result m c (ix3 (seqAt t) (tokAt t r) k) := by
  obtain ⟨-, -, -, -, -, -, e⟩ := idx_facts t
  have hr := r.isLt
  have hk' := k.isLt
  rw [e]
  refine Eq.trans ?_ (head_eq (m ((c : Thread nD τ).loc main_arg0)) (m ((c : Thread nD τ).loc main_arg1)) (m ((c : Thread nD τ).loc main_arg2))
    (m ((c : Thread nD τ).loc main_arg3)) hq hk hs (t.val % 4) (r.val / 128) (by omega) (by omega) (⟨r.val % 128, by omega⟩ : Fin 128) (seqAt t)
    (tokAt t r) (by show t.val % 4 * 512 + r.val = 512 * (t.val % 4) + 128 * (r.val / 128) + r.val % 128; omega) (headOf8 k) (dimOf k))
  have E : ∀ {K K' : Fin 384 → Fin 128 → EReal} {b b' : Fin 384 → EReal} {q q' : Fin 128 → EReal} {σ σ' : EReal} {v v' : Fin 384 → EReal},
      K = K' → b = b' → q = q' → σ = σ' → v = v' → headVal K b q σ v = headVal K' b' q' σ' v' := by
    rintro _ _ _ _ _ _ _ _ _ _ rfl rfl rfl rfl rfl; rfl
  have hm := maskPage_lt (t.val % 4) (r.val / 128) (by omega) (by omega)
  refine E ?_ ?_ ?_ ?_ ?_
  · funext j e
    have he := e.isLt
    refine (blk3 m c t _ _).trans (congrArg (m ((c : Thread nD τ).loc main_arg1)) ?_)
    refine congr (congr (congrArg (fun l => ix4 (seqAt t) l) (Fin.ext rfl)) (Fin.ext ?_)) (Fin.ext ?_)
    · show (128 * (k.val / 128 / 4) + e.val) / 128 = k.val / 128 / 4; omega
    · show (128 * (k.val / 128 / 4) + e.val) % 128 = e.val; omega
  · funext j
    refine (blk1 m c t _ j _).trans ?_
    show (if |(j.val : ℤ) - ((r.val % 128 : ℕ) : ℤ) - 128 * ((maskPage (t.val % 4) (r.val / 128) % 3 : ℕ) : ℤ)| ≤ 128 then (0 : EReal) else ⊥) = _
    rw [Nat.mod_eq_of_lt hm]
  · funext e
    have he := e.isLt
    refine (blk2 m c t _ _).trans (congrArg (m ((c : Thread nD τ).loc main_arg0)) ?_)
    refine congr (congr (congrArg (fun l => ix4 (seqAt t) l) (Fin.ext ?_)) (Fin.ext ?_)) (Fin.ext ?_)
    · show t.val % 4 * 512 + (128 * (r.val / 128) + r.val % 128) = t.val % 4 * 512 + r.val; omega
    · show (128 * (k.val / 128) + e.val) / 128 = k.val / 128; omega
    · show (128 * (k.val / 128) + e.val) % 128 = e.val; omega
  · exact blk0 m c t _
  · funext j
    refine (blk4 m c t _ _).trans (congrArg (m ((c : Thread nD τ).loc main_arg2)) ?_)
    refine congr (congr (congrArg (fun l => ix4 (seqAt t) l) (Fin.ext rfl)) (Fin.ext ?_)) (Fin.ext ?_)
    · show (128 * (k.val / 128 / 4) + k.val % 128) / 128 = k.val / 128 / 4; omega
    · show (128 * (k.val / 128 / 4) + k.val % 128) % 128 = k.val % 128; omega

/-- What a point writes back is its block of the result. -/
theorem flushed_eq (t : Fin cfg0.N) :
    (dats m 0 c).flushed 5 t = ((cfg0.win 5).blk t).view.read (Elt Ideal) (result m c) := by
  rw [flushed5, outs_eq]
  funext y
  obtain ⟨-, -, -, -, -, ⟨e0, e1, e2⟩, -⟩ := idx_facts t
  have hy0 : (y 0).val < 1 := (y 0).isLt
  have hy1 : (y 1).val < 512 := (y 1).isLt
  have hy2 : (y 2).val < 1024 := (y 2).isLt
  refine Eq.trans (b := block (iblk m c 0 t) (iblk m c 1 t) (iblk m c 2 t) (iblk m c 3 t) (iblk m c 4 t) (grid0.coords t 1).val
      (ix3 (0 : Fin 1) (⟨(y 1).val, hy1⟩ : Fin 512) (⟨(y 2).val, hy2⟩ : Fin 1024))) (congrArg _ (funext fun a => Fin.ext ?_)) ?_
  · match a with
    | ⟨0, _⟩ => show (y 0).val = 0; omega
    | ⟨1, _⟩ => rfl
    | ⟨2, _⟩ => rfl
  · rw [block_apply m c hq hk hs]
    refine congrArg (result m c) (funext fun a => Fin.ext ?_)
    match a with
    | ⟨0, _⟩ => show t.val / 4 = win0_5.index t 0 * 1 + 1 * (y 0).val; rw [e0]; omega
    | ⟨1, _⟩ => show t.val % 4 * 512 + (y 1).val = win0_5.index t 1 * 512 + 1 * (y 1).val; rw [e1]; omega
    | ⟨2, _⟩ => show (y 2).val = win0_5.index t 2 * 1024 + 1 * (y 2).val; rw [e2]; omega

omit hq hk hs in
/-- Every index of the result lies in the block of its token's point. -/
theorem cover (i : S32x2048x1024.Idx) : ∃ t : Fin cfg0.N, (cfg0.win 5).flush t = true ∧ i ∈ ((cfg0.win 5).blk t).view.set := by
  have h0 : (i 0).val < 32 := (i 0).isLt
  have h1 : (i 1).val < 2048 := (i 1).isLt
  have h2 : (i 2).val < 1024 := (i 2).isLt
  have ht : (i 0).val * 4 + (i 1).val / 512 < cfg0.N := by show (i 0).val * 4 + (i 1).val / 512 < 128; omega
  refine ⟨⟨(i 0).val * 4 + (i 1).val / 512, ht⟩, flush0_5 _, ?_⟩
  obtain ⟨-, -, -, -, -, ⟨e0, e1, e2⟩, -⟩ := idx_facts (⟨(i 0).val * 4 + (i 1).val / 512, ht⟩ : Fin cfg0.N)
  show i ∈ ((View.whole main_v27).slice (win0_5.rect (⟨(i 0).val * 4 + (i 1).val / 512, ht⟩ : Fin cfg0.N))).set
  rw [View.set_slice_whole, Rect.mem_set_unit]
  intro a
  match a with
  | ⟨0, _⟩ =>
    show win0_5.index _ 0 * 1 ≤ (i 0).val ∧ (i 0).val < win0_5.index _ 0 * 1 + 1
    rw [e0]; show ((i 0).val * 4 + (i 1).val / 512) / 4 * 1 ≤ (i 0).val ∧ (i 0).val < ((i 0).val * 4 + (i 1).val / 512) / 4 * 1 + 1; omega
  | ⟨1, _⟩ =>
    show win0_5.index _ 1 * 512 ≤ (i 1).val ∧ (i 1).val < win0_5.index _ 1 * 512 + 512
    rw [e1]; show ((i 0).val * 4 + (i 1).val / 512) % 4 * 512 ≤ (i 1).val ∧ (i 1).val < ((i 0).val * 4 + (i 1).val / 512) % 4 * 512 + 512; omega
  | ⟨2, _⟩ =>
    show win0_5.index _ 2 * 1024 ≤ (i 2).val ∧ (i 2).val < win0_5.index _ 2 * 1024 + 1024
    rw [e2]; omega

/-- THE RESULT ARRAY after the run, where the queries, the keys and the sinks are finite. -/
theorem final : (dats m 0 c).arrAt 5 cfg0.N = result m c :=
  (dats m 0 c).arrAt_eq_of_cover 5 (result m c) (fun t _ => flushed_eq m c hq hk hs t) cover

end Cert.AttnFinal

end
-- ==== Proof.AttnRefBand.lean ====
/- The reference's attention, its arguments cut into bands: the padded keys and values, the blocks of queries, the mask and the sinks,
   each at an index. -/
module

public import proofs.«01_k».proof.Proof.AttnArrays
public import proofs.«01_k».proof.Proof.Gen.ReferenceIdeal.Read
public import Idealize.ShloMosaic.Lib.ValueIdxRank6
public import Idealize.ShloMosaic.Lib.KernelVsHost
public import Idealize.ShloMosaic.Lib.IdealHost

@[expose] public section

noncomputable section

namespace Cert.AttnRef

open Cert.ReferenceIdeal Cert.ReferenceIdeal.Read Cert.ReferenceIdeal.Gen Cert.Attn Idealize.ShloMosaic Idealize.ShloMosaic.ValueIdx

/-! ## The padded keys -/

/-- Key block `m` of 18, the first and the last of them padding: a token of it. -/
theorem block_apply (x : Vec Ideal S32x2048x2x128 .f32) (b : Fin 32) (m : Fin 18) (c : Fin 128) (g : Fin 2) (d : Fin 128) (j : Fin 2048)
    (hj : j.val + 128 = 128 * m.val + c.val) : val_main_v7 (F := Ideal) x (ix5 b m c g d) = x (ix4 b j g d) := by
  have hb := b.isLt; have hm := m.isLt; have hc := c.isLt; have hg := g.isLt; have hd := d.isLt
  unfold val_main_v7
  refine (shapeCast_apply _ _ (ix5 b m c g d) (ix4 b (⟨128 * m.val + c.val, by omega⟩ : Fin 2304) g d) ?_).trans ?_
  · rw [Shape.rowMajor_val_four, Shape.rowMajor_val_five]
    show ((b.val * 2304 + (128 * m.val + c.val)) * 2 + g.val) * 128 + d.val = (((b.val * 18 + m.val) * 128 + c.val) * 2 + g.val) * 128 + d.val
    omega
  · unfold val_main_v4
    refine pad_apply_of_inside _ _ _ x _ _ _ _ (ix4 b j g d) (fun a => ?_)
    match a with
    | ⟨0, _⟩ => show b.val = 0 + b.val * (0 + 1); omega
    | ⟨1, _⟩ => show 128 * m.val + c.val = 128 + j.val * (0 + 1); omega
    | ⟨2, _⟩ => show g.val = 0 + g.val * (0 + 1); omega
    | ⟨3, _⟩ => show d.val = 0 + d.val * (0 + 1); omega

/-- Place `c` of band `n` holds key `j`. -/
theorem band_apply (x : Vec Ideal S32x2048x2x128 .f32) (b : Fin 32) (n : Fin 16) (c : Fin 384) (g : Fin 2) (d : Fin 128) (j : Fin 2048)
    (hj : j.val + 128 = 128 * n.val + c.val) : val_main_v11 (F := Ideal) x (ix5 b n c g d) = x (ix4 b j g d) := by
  have hn := n.isLt; have hc := c.isLt
  have hcat : ∀ (s : Fin 3) (hs : c.val / 128 = s.val), val_main_v11 (F := Ideal) x (ix5 b n c g d)
      = val_main_v7 (F := Ideal) x (ix5 b (⟨n.val + s.val, by have := s.isLt; omega⟩ : Fin 18) (⟨c.val % 128, by omega⟩ : Fin 128) g d) := by
    intro s hs
    unfold val_main_v11
    match s, hs with
    | ⟨0, _⟩, hs =>
      have hs : c.val / 128 = 0 := hs
      refine (concatenate_apply_piece (t := S32x16x384x2x128) 2 _ _ (ix5 b n c g d) 0 (by show 0 < 3; omega) S32x16x128x2x128 (val_main_v8 x) rfl rfl 0 rfl
        (ix5 b n (⟨c.val % 128, by omega⟩ : Fin 128) g d) (fun a ha => ?_) ?_).trans ?_
      · match a with
        | ⟨0, _⟩ => rfl
        | ⟨1, _⟩ => rfl
        | ⟨2, _⟩ => exact absurd rfl ha
        | ⟨3, _⟩ => rfl
        | ⟨4, _⟩ => rfl
      · show 0 + c.val % 128 = c.val; omega
      · rw [val_main_v8_apply]
        refine congrArg (val_main_v7 (F := Ideal) x) (funext fun a => Fin.ext ?_)
        match a with
        | ⟨0, _⟩ => rfl
        | ⟨1, _⟩ => show n.val = n.val + 0; omega
        | ⟨2, _⟩ => rfl
        | ⟨3, _⟩ => rfl
        | ⟨4, _⟩ => rfl
    | ⟨1, _⟩, hs =>
      have hs : c.val / 128 = 1 := hs
      refine (concatenate_apply_piece (t := S32x16x384x2x128) 2 _ _ (ix5 b n c g d) 1 (by show 1 < 3; omega) S32x16x128x2x128 (val_main_v9 x) rfl rfl 128 rfl
        (ix5 b n (⟨c.val % 128, by omega⟩ : Fin 128) g d) (fun a ha => ?_) ?_).trans ?_
      · match a with
        | ⟨0, _⟩ => rfl
        | ⟨1, _⟩ => rfl
        | ⟨2, _⟩ => exact absurd rfl ha
        | ⟨3, _⟩ => rfl
        | ⟨4, _⟩ => rfl
      · show 128 + c.val % 128 = c.val; omega
      · rw [val_main_v9_apply]
        refine congrArg (val_main_v7 (F := Ideal) x) (funext fun a => Fin.ext ?_)
        match a with
        | ⟨0, _⟩ => rfl
        | ⟨1, _⟩ => show 1 + n.val = n.val + 1; omega
        | ⟨2, _⟩ => rfl
        | ⟨3, _⟩ => rfl
        | ⟨4, _⟩ => rfl
    | ⟨2, _⟩, hs =>
      have hs : c.val / 128 = 2 := hs
      refine (concatenate_apply_piece (t := S32x16x384x2x128) 2 _ _ (ix5 b n c g d) 2 (by show 2 < 3; omega) S32x16x128x2x128 (val_main_v10 x) rfl rfl 256 rfl
        (ix5 b n (⟨c.val % 128, by omega⟩ : Fin 128) g d) (fun a ha => ?_) ?_).trans ?_
      · match a with
        | ⟨0, _⟩ => rfl
        | ⟨1, _⟩ => rfl
        | ⟨2, _⟩ => exact absurd rfl ha
        | ⟨3, _⟩ => rfl
        | ⟨4, _⟩ => rfl
      · show 256 + c.val % 128 = c.val; omega
      · rw [val_main_v10_apply]
        refine congrArg (val_main_v7 (F := Ideal) x) (funext fun a => Fin.ext ?_)
        match a with
        | ⟨0, _⟩ => rfl
        | ⟨1, _⟩ => show 2 + n.val = n.val + 2; omega
        | ⟨2, _⟩ => rfl
        | ⟨3, _⟩ => rfl
        | ⟨4, _⟩ => rfl
  rw [hcat ⟨c.val / 128, by omega⟩ rfl]
  exact block_apply x b _ _ g d j (by show j.val + 128 = 128 * (n.val + c.val / 128) + c.val % 128; omega)

/-- The values are cut as the keys are. -/
theorem values_eq (x : Vec Ideal S32x2048x2x128 .f32) : val_main_v16 (F := Ideal) x = val_main_v11 (F := Ideal) x := rfl

/-! ## The queries -/

/-- The scale of the queries. -/
theorem root : val_main_v0 (F := Ideal) = fun _ => ((Real.sqrt 128 : ℝ) : EReal) := by
  funext i
  show FloatOps.hostUnary (F := Ideal) .sqrt (Ideal.ofBits .f32 0x43000000#32) = _
  have e : Ideal.ofBits .f32 0x43000000#32 = ((128 : ℝ) : EReal) := by
    simp [Ideal.ofBits, Ideal.ieee]
    rw [← EReal.coe_mul]
    norm_num
  rw [e]
  exact (Ideal.sqrt_coe 128).trans (if_neg (by norm_num))

/-- A scaled query: token `r` of block `n`, head `4 g + p`. -/
theorem query_apply (x : Vec Ideal S32x2048x8x128 .f32) (b : Fin 32) (n : Fin 16) (r : Fin 128) (g : Fin 2) (p : Fin 4) (d : Fin 128)
    (l : Fin 2048) (hl : l.val = 128 * n.val + r.val) (h : Fin 8) (hh : h.val = 4 * g.val + p.val) :
    val_main_v6 (F := Ideal) x (ix6 b n r g p d) = val_main_v2 (F := Ideal) x (ix4 b l h d) := by
  unfold val_main_v6
  refine (shapeCast_apply _ _ (ix6 b n r g p d) (ix4 b l h d) ?_).trans ?_
  · rw [Shape.rowMajor_val_four, Shape.rowMajor_val_six]
    show ((b.val * 2048 + l.val) * 8 + h.val) * 128 + d.val = ((((b.val * 16 + n.val) * 128 + r.val) * 2 + g.val) * 4 + p.val) * 128 + d.val
    omega
  · unfold val_main_v3
    refine pad_apply_of_inside _ _ _ _ _ _ _ _ (ix4 b l h d) (fun a => ?_)
    match a with
    | ⟨0, _⟩ => show b.val = 0 + b.val * (0 + 1); omega
    | ⟨1, _⟩ => show l.val = 0 + l.val * (0 + 1); omega
    | ⟨2, _⟩ => show h.val = 0 + h.val * (0 + 1); omega
    | ⟨3, _⟩ => show d.val = 0 + d.val * (0 + 1); omega

/-! ## The mask -/

/-- The key at place `c` of band `n`, as a word. -/
theorem place_word (n : Fin 16) (c : Fin 384) :
    val_main_v31 (F := Ideal) (ix3 n 0 c) = BitVec.ofInt 32 (((n.val : ℤ) - 1) * 128 + c.val) := by
  rw [val_main_v31_apply, val_main_v29_apply, val_main_v30_apply, val_main_v26_apply, val_main_v24_apply, val_main_v25_apply, val_main_v22_apply,
    val_main_v23_apply, val_main_v28_apply, val_main_v27_apply, val_main_v21_apply, val_main_c_2_apply, val_main_c_3_apply]
  show IntOp.addi (IntOp.muli (IntOp.subi (BitVec.ofNat 32 n.val) (BitVec.ofInt 32 1)) (BitVec.ofInt 32 128)) (BitVec.ofNat 32 c.val) = _
  rw [word_nat, word_nat, word_sub, word_mul, word_add]

/-- The query at row `r` of block `n`, as a word. -/
theorem token_word (n : Fin 16) (r : Fin 128) : val_main_v20 (F := Ideal) (ix3 n r 0) = BitVec.ofInt 32 ((n.val : ℤ) * 128 + r.val) := by
  rw [val_main_v20_apply, val_main_v19_apply]
  show BitVec.ofNat 32 ((n.val * 128 + r.val) * 1 + 0) = _
  rw [word_nat]
  congr 1
  push_cast
  omega

theorem and_test (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The mask: the key exists and is near. -/
theorem mask_apply (n : Fin 16) (r : Fin 128) (c : Fin 384) :
    val_main_v45 (F := Ideal) (ix3 n r c) = BitVec.ofBool (decide ((|((n.val : ℤ) - 1) * 128 + c.val - ((n.val : ℤ) * 128 + r.val)| ≤ 128
      ∧ 0 ≤ ((n.val : ℤ) - 1) * 128 + c.val) ∧ ((n.val : ℤ) - 1) * 128 + c.val < 2048)) := by
  have hn := n.isLt; have hr := r.isLt; have hc := c.isLt
  have e32 : idx_main_v32 (ix3 n r c) = ix3 n 0 c := funext fun a => match a with | ⟨0, _⟩ => rfl | ⟨1, _⟩ => rfl | ⟨2, _⟩ => rfl
  have e40 : idx_main_v40 (ix3 n r c) = ix3 n 0 c := funext fun a => match a with | ⟨0, _⟩ => rfl | ⟨1, _⟩ => rfl | ⟨2, _⟩ => rfl
  have e44 : idx_main_v44 (ix3 n r c) = ix3 n 0 c := funext fun a => match a with | ⟨0, _⟩ => rfl | ⟨1, _⟩ => rfl | ⟨2, _⟩ => rfl
  have e33 : idx_main_v33 (ix3 n r c) = ix3 n r 0 := funext fun a => match a with | ⟨0, _⟩ => rfl | ⟨1, _⟩ => rfl | ⟨2, _⟩ => rfl
  rw [val_main_v45_apply, val_main_v41_apply, val_main_v37_apply, val_main_v35_apply, val_main_v34_apply, val_main_v32_apply, e32,
    val_main_v33_apply, e33, val_main_v36_apply, val_main_c_4_apply, val_main_v40_apply, e40, val_main_v39_apply, val_main_v38_apply,
    val_main_c_5_apply, val_main_v44_apply, e44, val_main_v43_apply, val_main_v42_apply, val_main_c_6_apply, place_word, token_word, word_sub,
    word_near _ (by omega), word_low _ (by omega), word_high _ (by omega), and_test, and_test]

/-! ## The sinks -/

theorem sink_apply (x : Vec Ideal S8 .f32) (b : Fin 32) (n : Fin 16) (g : Fin 2) (p : Fin 4) (r : Fin 128) (h : Fin 8)
    (hh : h.val = 4 * g.val + p.val) : val_main_v51 (F := Ideal) x (ix5 b n g p r) = x (ix1 h) := by
  rw [val_main_v51_apply, val_main_v50_apply, val_main_v49_apply]
  refine congrArg x (funext fun a => Fin.ext ?_)
  match a with
  | ⟨0, _⟩ => show g.val * 4 + p.val = h.val; omega

/-- The sink is taken twice alike. -/
theorem sink_eq (x : Vec Ideal S8 .f32) : val_main_v58 (F := Ideal) x = val_main_v51 (F := Ideal) x := rfl

end Cert.AttnRef

end
-- ==== Proof.AttnRefValue.lean ====
/- The reference's attention at an index: its banded scores, their softmax with the sink, and the product with the values, shown to be
   the attention over all keys. -/
module

public import proofs.«01_k».proof.Proof.AttnRefBand

@[expose] public section

noncomputable section

namespace Cert.AttnRef

open Cert.ReferenceIdeal Cert.ReferenceIdeal.Read Cert.ReferenceIdeal.Gen Cert.Attn Idealize.ShloMosaic Idealize.ShloMosaic.ValueIdx

variable (q : Vec Ideal S32x2048x8x128 .f32) (k v : Vec Ideal S32x2048x2x128 .f32) (sink : Vec Ideal S8 .f32)

/-- Whether place `c` of band `n` is a key in the window of the band's query `r`. -/
abbrev Seen (n : Fin 16) (r : Fin 128) (c : Fin 384) : Prop :=
  (|((n.val : ℤ) - 1) * 128 + c.val - ((n.val : ℤ) * 128 + r.val)| ≤ 128 ∧ 0 ≤ ((n.val : ℤ) - 1) * 128 + c.val)
    ∧ ((n.val : ℤ) - 1) * 128 + c.val < 2048

/-- A scaled query. -/
theorem scaled_apply (i : S32x2048x8x128.Idx) : val_main_v2 (F := Ideal) q i = q i * ((invRoot : ℝ) : EReal) := by
  rw [val_main_v2_apply, val_main_v1_apply, root]
  show Ideal.div (q i) ((Real.sqrt 128 : ℝ) : EReal) = _
  rw [Ideal.div_coe (by positivity), one_div]
  rfl

/-- A masked score of the band. -/
def bandScore (b : Fin 32) (n : Fin 16) (g : Fin 2) (p : Fin 4) (r : Fin 128) (c : Fin 384) : EReal :=
  val_main_v47 (F := Ideal) q k (ix6 b n g p r c)

theorem bandScore_eq (b : Fin 32) (n : Fin 16) (g : Fin 2) (p : Fin 4) (r : Fin 128) (c : Fin 384) (l : Fin 2048)
    (hl : l.val = 128 * n.val + r.val) (h : Fin 8) (hh : h.val = 4 * g.val + p.val) :
    bandScore q k b n g p r c
      = if Seen n r c then ∑ e : Fin 128, val_main_v11 (F := Ideal) k (ix5 b n c g e) * (q (ix4 b l h e) * ((invRoot : ℝ) : EReal)) else ⊥ := by
  have e1 : idx_main_call3_v1 (ix6 b n g p r c) = ix6 0 n 0 0 r c := funext fun a => match a with
    | ⟨0, _⟩ => rfl | ⟨1, _⟩ => rfl | ⟨2, _⟩ => rfl | ⟨3, _⟩ => rfl | ⟨4, _⟩ => rfl | ⟨5, _⟩ => rfl
  have e2 : idx_main_v46 (ix6 0 n 0 0 r c) = ix3 n r c := funext fun a => match a with
    | ⟨0, _⟩ => rfl | ⟨1, _⟩ => rfl | ⟨2, _⟩ => rfl
  have e3 : idx_main_v18 (ix6 b n g p r c) = ix6 b n g c r p := funext fun a => match a with
    | ⟨0, _⟩ => rfl | ⟨1, _⟩ => rfl | ⟨2, _⟩ => rfl | ⟨3, _⟩ => rfl | ⟨4, _⟩ => rfl | ⟨5, _⟩ => rfl
  have e4 : val_main_call3_v2 (F := Ideal) (ix6 b n g p r c) = (⊥ : EReal) := by
    rw [val_main_call3_v2_apply]; exact minusInf
  unfold bandScore
  rw [val_main_v47_apply, val_main_call3_v1_apply, e1, val_main_v46_apply, e2, mask_apply, val_main_v18_apply, e3, val_main_v17_apply, e4]
  rw [select_test]
  refine congrArg (fun x => if Seen n r c then x else (⊥ : EReal)) (Finset.sum_congr rfl fun e _ => ?_)
  have e5 : lidx_main_v17 (ix6 b n g c r p) e = ix5 b n c g e := funext fun a => match a with
    | ⟨0, _⟩ => rfl | ⟨1, _⟩ => rfl | ⟨2, _⟩ => rfl | ⟨3, _⟩ => rfl | ⟨4, _⟩ => rfl
  have e6 : ridx_main_v17 (ix6 b n g c r p) e = ix6 b n r g p e := funext fun a => match a with
    | ⟨0, _⟩ => rfl | ⟨1, _⟩ => rfl | ⟨2, _⟩ => rfl | ⟨3, _⟩ => rfl | ⟨4, _⟩ => rfl | ⟨5, _⟩ => rfl
  rw [e5, e6, query_apply q b n r g p e l hl h hh, scaled_apply]

theorem reduces_band : S32x16x2x4x128x384.Reduces [5] S32x16x2x4x128 := by decide

/-- The largest entry of each row of a rank-6 array, from −∞. -/
theorem largest_of (x : Vec Ideal S32x16x2x4x128x384 .f32) (b : Fin 32) (n : Fin 16) (g : Fin 2) (p : Fin 4) (r : Fin 128) :
    multiReduction (F := Ideal) (φ := .f32) .maximumf [5] S32x16x2x4x128 x 0xFF800000#32 reduces_band (.inl rfl) rfl (ix5 b n g p r)
      = Finset.univ.sup (fun c : Fin 384 => x (ix6 b n g p r c)) := by
  refine (Ideal.multiReduction_maximumf_single _ _ reduces_band (.inl rfl) rfl (ix5 b n g p r)).trans ?_
  rw [show (FloatOps.ofBits (F := Ideal) .f32 (FKind.maximumf.neutral .f32 (.inl rfl)) : Ideal .f32) = (⊥ : EReal) from minusInf]
  refine (fold_max_bot (fun j : Fin 384 => x (reduces_band.lift (ix5 b n g p r) j))).trans ?_
  refine congrArg _ (funext fun c => congrArg x (funext fun a => Fin.ext ?_))
  match a with
  | ⟨0, _⟩ => rfl
  | ⟨1, _⟩ => rfl
  | ⟨2, _⟩ => rfl
  | ⟨3, _⟩ => rfl
  | ⟨4, _⟩ => rfl
  | ⟨5, _⟩ => rfl

theorem largest_eq : val_main_v48 (F := Ideal) q k = multiReduction (F := Ideal) (φ := .f32) .maximumf [5] S32x16x2x4x128
    (val_main_v47 (F := Ideal) q k) 0xFF800000#32 reduces_band (.inl rfl) rfl := by
  unfold val_main_v48 val_main_cst_8
  generalize val_main_v47 (F := Ideal) q k = x
  have e := hostReduce_maximumf_eq_multiReduction (F := Ideal) (u := S_) (axes := [5]) (t := S32x16x2x4x128) (φ := .f32) x 0xFF800000#32
    reducesTo_S32x16x2x4x128x384_S32x16x2x4x128_d5 h_S_ reduces_band (.inl rfl) rfl
  exact e

/-- The largest score of a query. -/
theorem largest_apply (b : Fin 32) (n : Fin 16) (g : Fin 2) (p : Fin 4) (r : Fin 128) :
    val_main_v48 (F := Ideal) q k (ix5 b n g p r) = Finset.univ.sup (bandScore q k b n g p r) := by
  rw [largest_eq, largest_of]
  rfl

section Query

variable (b : Fin 32) (n : Fin 16) (g : Fin 2) (p : Fin 4) (r : Fin 128) (h : Fin 8) (hh : h.val = 4 * g.val + p.val)
include hh

theorem top_apply : val_main_v52 (F := Ideal) q k sink (ix5 b n g p r) = top (bandScore q k b n g p r) (sink (ix1 h)) := by
  rw [val_main_v52_apply, sink_apply sink b n g p r h hh, largest_apply]
  rfl

theorem weight_apply (c : Fin 384) : val_main_v56 (F := Ideal) q k sink (ix6 b n g p r c)
    = Ideal.exp (bandScore q k b n g p r c - top (bandScore q k b n g p r) (sink (ix1 h))) := by
  have e1 : idx_main_v53 (idx_main_v54 (ix6 b n g p r c)) = ix5 b n g p r := funext fun a => match a with
    | ⟨0, _⟩ => rfl | ⟨1, _⟩ => rfl | ⟨2, _⟩ => rfl | ⟨3, _⟩ => rfl | ⟨4, _⟩ => rfl
  rw [val_main_v56_apply, val_main_v55_apply, val_main_v54_apply, val_main_v53_apply, e1, top_apply q k sink b n g p r h hh]
  rfl

theorem total_apply : val_main_v61 (F := Ideal) q k sink (ix5 b n g p r)
    = ∑ c, Ideal.exp (bandScore q k b n g p r c - top (bandScore q k b n g p r) (sink (ix1 h)))
      + Ideal.exp (sink (ix1 h) - top (bandScore q k b n g p r) (sink (ix1 h))) := by
  rw [val_main_v61_apply, val_main_v57_apply, val_main_v60_apply, val_main_v59_apply, sink_eq, sink_apply sink b n g p r h hh,
    top_apply q k sink b n g p r h hh]
  rw [show (val_main_cst_9 (F := Ideal)) (Shape.Idx.first h_S_) = (0 : EReal) from Ideal.ofBits_zero_f32, zero_add]
  refine congrArg (fun x : EReal => x + Ideal.exp (sink (ix1 h) - top (bandScore q k b n g p r) (sink (ix1 h)))) (Finset.sum_congr rfl fun c _ => ?_)
  have e1 : idx_main_v57 (ix5 b n g p r) c = ix6 b n g p r c := funext fun a => match a with
    | ⟨0, _⟩ => rfl | ⟨1, _⟩ => rfl | ⟨2, _⟩ => rfl | ⟨3, _⟩ => rfl | ⟨4, _⟩ => rfl | ⟨5, _⟩ => rfl
  rw [e1, weight_apply q k sink b n g p r h hh]

theorem band_attn (d : Fin 128) : val_main_v67 (F := Ideal) q k v sink (ix6 b n r g p d)
    = attn (bandScore q k b n g p r) (sink (ix1 h)) (fun c => val_main_v11 (F := Ideal) v (ix5 b n c g d)) := by
  have e63 : idx_main_v63 (ix6 b n r g p d) = ix6 b n g d p r := funext fun a => match a with
    | ⟨0, _⟩ => rfl | ⟨1, _⟩ => rfl | ⟨2, _⟩ => rfl | ⟨3, _⟩ => rfl | ⟨4, _⟩ => rfl | ⟨5, _⟩ => rfl
  have e66 : idx_main_v64 (idx_main_v65 (idx_main_v66 (ix6 b n r g p d))) = ix5 b n g p r := funext fun a => match a with
    | ⟨0, _⟩ => rfl | ⟨1, _⟩ => rfl | ⟨2, _⟩ => rfl | ⟨3, _⟩ => rfl | ⟨4, _⟩ => rfl
  rw [val_main_v67_apply, val_main_v66_apply, val_main_v65_apply, val_main_v64_apply, e66, val_main_v63_apply, e63, val_main_v62_apply,
    total_apply q k sink b n g p r h hh, values_eq]
  unfold attn
  refine congrArg (fun x : EReal => Ideal.div x _) (Finset.sum_congr rfl fun c _ => ?_)
  have e1 : lidx_main_v62 (ix6 b n g d p r) c = ix5 b n c g d := funext fun a => match a with
    | ⟨0, _⟩ => rfl | ⟨1, _⟩ => rfl | ⟨2, _⟩ => rfl | ⟨3, _⟩ => rfl | ⟨4, _⟩ => rfl
  have e2 : ridx_main_v62 (ix6 b n g d p r) c = ix6 b n g p r c := funext fun a => match a with
    | ⟨0, _⟩ => rfl | ⟨1, _⟩ => rfl | ⟨2, _⟩ => rfl | ⟨3, _⟩ => rfl | ⟨4, _⟩ => rfl | ⟨5, _⟩ => rfl
  rw [e1, e2, weight_apply q k sink b n g p r h hh]

/-- A band's attention is the attention over all the keys. -/
theorem whole_attn (d : Fin 128) (l : Fin 2048) (hl : l.val = 128 * n.val + r.val) :
    val_main_v67 (F := Ideal) q k v sink (ix6 b n r g p d) = attnAt q k v sink b l h d := by
  have hg := g.isLt; have hp := p.isLt; have hn := n.isLt; have hr := r.isLt
  have eg : group h = g := Fin.ext (by show h.val / 4 = g.val; omega)
  rw [band_attn q k v sink b n g p r h hh d]
  unfold attnAt
  rw [eg]
  refine attn_window (((n.val : ℤ) - 1) * 128) _ (fun c j hj => ?_) (fun c j hj => ?_) (fun c hc => ?_) (fun j hj => ?_)
  · have hc := c.isLt; have hjj := j.isLt
    rw [bandScore_eq q k b n g p r c l hl h hh]
    unfold scoreAt
    rw [eg]
    by_cases hw : |(j.val : ℤ) - l.val| ≤ 128
    · rw [if_pos hw, if_pos (⟨⟨by rw [← hj, show (n.val : ℤ) * 128 + r.val = l.val by omega]; exact hw, by omega⟩, by omega⟩ : Seen n r c)]
      refine Finset.sum_congr rfl fun e _ => ?_
      rw [band_apply k b n c g e j (by omega)]
    · rw [if_neg hw, if_neg]
      intro hs
      apply hw
      have := hs.1.1
      rwa [← hj, show (n.val : ℤ) * 128 + r.val = l.val by omega] at this
  · have hc := c.isLt; have hjj := j.isLt
    exact band_apply v b n c g d j (by omega)
  · rw [bandScore_eq q k b n g p r c l hl h hh, if_neg]
    intro hs
    obtain ⟨⟨_, h1⟩, h2⟩ := hs
    omega
  · unfold scoreAt
    rw [if_neg]
    intro hs
    rw [abs_le] at hs
    omega

end Query

/-- The reference's result is the attention's array. -/
theorem result_eq : val_main_v70 (F := Ideal) q k v sink = attnArr q k v sink := by
  funext y
  have h0 : (y 0).val < 32 := (y 0).isLt
  have h1 : (y 1).val < 2048 := (y 1).isLt
  have h2 : (y 2).val < 1024 := (y 2).isLt
  rw [val_main_v70_apply, val_main_v69_apply]
  show val_main_v68 (F := Ideal) q k v sink (idx_main_v69 y) = _
  have e : idx_main_v69 y = ix4 (⟨(y 0).val, h0⟩ : Fin 32) (⟨(y 1).val, h1⟩ : Fin 2048) (⟨(y 2).val / 128, by omega⟩ : Fin 8)
      (⟨(y 2).val % 128, by omega⟩ : Fin 128) := funext fun a => Fin.ext (by
    match a with
    | ⟨0, _⟩ => show (((y 0).val * 2048 + (y 1).val) * 1024 + (y 2).val) / 2097152 = (y 0).val; omega
    | ⟨1, _⟩ => show (((y 0).val * 2048 + (y 1).val) * 1024 + (y 2).val) / 1024 % 2048 = (y 1).val; omega
    | ⟨2, _⟩ => show (((y 0).val * 2048 + (y 1).val) * 1024 + (y 2).val) / 128 % 8 = (y 2).val / 128; omega
    | ⟨3, _⟩ => show (((y 0).val * 2048 + (y 1).val) * 1024 + (y 2).val) % 128 = (y 2).val % 128; omega)
  rw [e]
  unfold val_main_v68
  refine (shapeCast_apply _ _ _ (ix6 (⟨(y 0).val, h0⟩ : Fin 32) (⟨(y 1).val / 128, by omega⟩ : Fin 16) (⟨(y 1).val % 128, by omega⟩ : Fin 128)
    (⟨(y 2).val / 128 / 4, by omega⟩ : Fin 2) (⟨(y 2).val / 128 % 4, by omega⟩ : Fin 4) (⟨(y 2).val % 128, by omega⟩ : Fin 128)) ?_).trans ?_
  · rw [Shape.rowMajor_val_four, Shape.rowMajor_val_six]
    show (((((y 0).val * 16 + (y 1).val / 128) * 128 + (y 1).val % 128) * 2 + (y 2).val / 128 / 4) * 4 + (y 2).val / 128 % 4) * 128 + (y 2).val % 128
      = (((y 0).val * 2048 + (y 1).val) * 8 + (y 2).val / 128) * 128 + (y 2).val % 128
    omega
  · exact whole_attn q k v sink _ _ _ _ _ ⟨(y 2).val / 128, by omega⟩ (by show (y 2).val / 128 = 4 * ((y 2).val / 128 / 4) + (y 2).val / 128 % 4; omega) _
      ⟨(y 1).val, h1⟩ (by show (y 1).val = 128 * ((y 1).val / 128) + (y 1).val % 128; omega)

end Cert.AttnRef

end
-- ==== Proof.AttnClaim.lean ====
/- The banded attention's claims: the kernel and the reference run from any memory, leave their arguments and the semaphores as
   they were, the idealized kernel's named constants are the printed ones, and from finite queries, keys and sinks both end with the same
   array, `attnArr` of the arguments. -/
module

public import proofs.«01_k».proof.Defs
public import proofs.«01_k».proof.Proof.Gen.Kernel.Frame
public import proofs.«01_k».proof.Proof.Gen.KernelIdeal.Frame
public import proofs.«01_k».proof.Proof.Gen.ReferenceIdeal.Read
public import proofs.«01_k».proof.Proof.Gen.KernelIdeal.Value
public import proofs.«01_k».proof.Proof.AttnFinal
public import proofs.«01_k».proof.Proof.AttnRefValue

@[expose] public section

noncomputable section

namespace Cert.AttnClaim

open Idealize.ShloMosaic Idealize.ShloMosaic.TcCoe Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem preserves : Cert.preserves_Kernel_KernelIdeal :=
  ⟨IdealRules.named_const.statement Cert.KernelIdeal.κ "q_scale" .f32 0x3E0293EE#32 (((Real.sqrt 128)⁻¹ * (Real.log 2)⁻¹ : ℝ) : EReal) rfl,
   IdealRules.named_const.statement Cert.KernelIdeal.κ "log2e" .f32 0x3FB8AA3B#32 (((Real.log 2)⁻¹ : ℝ) : EReal) rfl⟩

/-- The precondition's broadcasts. -/
theorem factsPre : Cert.Pre_finite_scores.Facts where
  bcast_S_S32x2048x8x128 := by decide
  bcast_S_S32x2048x2x128 := by decide
  bcast_S_S8 := by decide

theorem real_of_lt (z : EReal) (h : max z (-z) < ⊤) : ∃ y : ℝ, z = (y : EReal) := by
  induction z with
  | bot => simp at h
  | top => simp at h
  | coe y => exact ⟨y, rfl⟩

/-- An array whose absolute values are all below +∞ holds real numbers. -/
theorem real_of_finite {s : Shape} {hb : (⟨0, ![]⟩ : Shape).BroadcastsInDim s (![] : Fin 0 → Fin s.rank)} (x : Vec Ideal s .f32)
    (hx : cmpf .olt (Host.absf (F := Ideal) (φ := .f32) x) (broadcastInDim s ![] hb (constant (F := Ideal) ⟨0, ![]⟩ .f32 0x7F800000#32))
      = fun _ => 1#1) (i : s.Idx) : ∃ y : ℝ, (x i : EReal) = (y : EReal) := by
  have h := congrFun hx i
  have h1 : BitVec.ofBool (decide ((max (x i) (-(x i)) : EReal) < Ideal.ofBits .f32 0x7F800000#32)) = 1#1 := h
  have h2 : Ideal.ofBits .f32 0x7F800000#32 = (⊤ : EReal) := by simp [Ideal.ofBits, Ideal.ieee]
  rw [h2] at h1
  have h3 : (max (x i) (-(x i)) : EReal) < ⊤ := by
    by_contra hn
    rw [decide_eq_false hn] at h1
    exact absurd h1 (by decide)
  exact real_of_lt _ h3

/-- THE EQUATION: from finite queries, keys and sinks, kernel and reference end with the same array. -/
theorem equal : Cert.algebraic_KernelIdeal_ReferenceIdeal_pre_finite_scores (hPre_finite_scores := factsPre) := by
  intro m ρ m' ρ' hpre hag
  have hfin := fun c => Cert.AttnFinal.final m c (real_of_finite _ (hpre c).1) (real_of_finite _ (hpre c).2.1) (real_of_finite _ (hpre c).2.2)
  refine ⟨fun c => Cert.AttnFinal.result m c,
    (θ_run _ _ _).mono (fun _ h c => ⟨((h c).1).trans (hfin c), (h c).2⟩) (Cert.KernelIdeal.Value.run_blocks m ρ),
    (θ_run _ _ _).mono (fun _ h c => ⟨((h c).1).trans ?_, (h c).2⟩) (Cert.ReferenceIdeal.Value.run m' ρ')⟩
  obtain ⟨h0, h1, h2, h3⟩ := hag c
  rw [Cert.ReferenceIdeal.Read.val_main_v70_eq, h0, h1, h2, h3]
  exact Cert.AttnRef.result_eq _ _ _ _

end Cert.AttnClaim

end
-- ==== Proof.PostSpec.lean ====
/- The output part of the layer for ONE row (one token), in plain mathematics over the extended reals: the gated mixture of the
   two attentions, its projection, the two sandwich norms and the squared-relu feed-forward. Both programs are shown to compute
   `Row.out` in the modules that import this one. -/
module

public import Idealize.ShloMosaic.PureOps.Ideal
public import Mathlib.Algebra.BigOperators.Fin
public import Mathlib.Algebra.BigOperators.Intervals

@[expose] public section

noncomputable section

namespace Cert.Post

open Idealize.ShloMosaic

/-- The weights of the output part, as functions of their coordinates. -/
structure Weights where
  wa : Fin 1024 → Fin 1024 → EReal
  wb : Fin 512 → Fin 1024 → EReal
  wo : Fin 1024 → Fin 1024 → EReal
  w1 : Fin 1024 → Fin 4096 → EReal
  w2 : Fin 4096 → Fin 1024 → EReal
  gMix : Fin 1024 → EReal
  gPre : Fin 1024 → EReal
  gPost : Fin 1024 → EReal

/-- One token: the residual input, the two attentions' outputs and the gate's logits. -/
structure Row where
  x : Fin 1024 → EReal
  oa : Fin 1024 → EReal
  ob : Fin 512 → EReal
  ga : Fin 1024 → EReal
  gb : Fin 1024 → EReal

/-- The mean square of a row plus epsilon, under the root: the norm's scale. -/
def rscale (u : Fin 1024 → EReal) : EReal :=
  Ideal.rsqrt (Ideal.div (∑ k, u k * u k) (Ideal.ofBits .f32 0x44800000#32) + Ideal.ofBits .f32 0x358637BD#32)

/-- The root-mean-square norm of a row, with its gain. -/
def rms (u g : Fin 1024 → EReal) (j : Fin 1024) : EReal := u j * rscale u * g j

variable (W : Weights) (R : Row)

/-- The gated mixture of the two projected attention outputs. -/
def Row.gated (k : Fin 1024) : EReal :=
  Ideal.logistic (R.ga k) * (∑ d, R.oa d * W.wa d k) + Ideal.logistic (R.gb k) * ∑ d, R.ob d * W.wb d k

/-- The mixture through the output projection. -/
def Row.mixed (j : Fin 1024) : EReal := ∑ k, R.gated W k * W.wo k j

/-- The residual stream after the attention half. -/
def Row.mid (j : Fin 1024) : EReal := R.x j + rms (R.mixed W) W.gMix j

/-- The feed-forward's hidden unit `f`: a squared relu. -/
def Row.act (f : Fin 4096) : EReal :=
  max (∑ k, rms (R.mid W) W.gPre k * W.w1 k f) 0 * max (∑ k, rms (R.mid W) W.gPre k * W.w1 k f) 0

/-- The feed-forward's output. -/
def Row.down (j : Fin 1024) : EReal := ∑ f, R.act W f * W.w2 f j

/-- The layer's output at column `j`. -/
def Row.out (j : Fin 1024) : EReal := R.mid W j + rms (R.down W) W.gPost j

/-- Position `k` of chunk `q`, of four chunks of 1024 hidden units. -/
def chunk (q : Fin 4) (k : Fin 1024) : Fin 4096 := ⟨q.val * 1024 + k.val, by have := q.isLt; have := k.isLt; omega⟩

/-- A sum over all hidden units is the four chunks' sums, added in order from zero. -/
theorem sum_chunks (f : Fin 4096 → EReal) :
    0 + (∑ k, f (chunk 0 k)) + (∑ k, f (chunk 1 k)) + (∑ k, f (chunk 2 k)) + (∑ k, f (chunk 3 k)) = ∑ u, f u := by
  have h : ∑ u, f u = ∑ q : Fin 4, ∑ k : Fin 1024, f (chunk q k) := by
    rw [← Fintype.sum_prod_type' (f := fun q k => f (chunk q k))]
    refine (Fintype.sum_equiv (finProdFinEquiv (m := 4) (n := 1024)) _ f fun p => ?_).symm
    refine congrArg f (Fin.ext ?_)
    simp only [chunk, finProdFinEquiv_apply_val]
    omega
  rw [h, Fin.sum_univ_four, zero_add]

end Cert.Post

end
-- ==== Proof.PostArrays.lean ====
/- The argument arrays of the output part read as rows and weights: token `l` of sequence `b` is a `Row`, and the whole result
   is `outArr`, one row of `Row.out` per token, the tokens of all sequences in order. Used for the kernel and for the reference. -/
module

public import proofs.«01_k».proof.Proof.PostSpec
public import Idealize.ShloMosaic.Lib.ValueIdx

@[expose] public section

noncomputable section

namespace Cert.Post

open Idealize.ShloMosaic Idealize.ShloMosaic.ValueIdx

/-- An array of extended reals of rank one, two, three. -/
abbrev Arr1 (a : Nat) := (⟨1, ![a]⟩ : Shape).Idx → EReal
abbrev Arr2 (a b : Nat) := (⟨2, ![a, b]⟩ : Shape).Idx → EReal
abbrev Arr3 (a b c : Nat) := (⟨3, ![a, b, c]⟩ : Shape).Idx → EReal

/-- The weights as the arrays hold them. -/
def weightsOf (wa : Arr2 1024 1024) (wb : Arr2 512 1024) (wo : Arr2 1024 1024) (w1 : Arr2 1024 4096) (w2 : Arr2 4096 1024)
    (gMix gPre gPost : Arr1 1024) : Weights where
  wa := fun i j => wa (ix2 i j)
  wb := fun i j => wb (ix2 i j)
  wo := fun i j => wo (ix2 i j)
  w1 := fun i j => w1 (ix2 i j)
  w2 := fun i j => w2 (ix2 i j)
  gMix := fun j => gMix (ix1 j)
  gPre := fun j => gPre (ix1 j)
  gPost := fun j => gPost (ix1 j)

/-- Column `k` of the gate's second half. -/
def upper (k : Fin 1024) : Fin 2048 := ⟨1024 + k.val, by have := k.isLt; omega⟩
/-- Column `k` of the gate's first half. -/
def lower (k : Fin 1024) : Fin 2048 := ⟨k.val, by have := k.isLt; omega⟩

/-- Token `l` of sequence `b`. -/
def rowOf (x oa : Arr3 32 2048 1024) (ob : Arr3 32 2048 512) (g : Arr3 32 2048 2048) (b : Fin 32) (l : Fin 2048) : Row where
  x := fun k => x (ix3 b l k)
  oa := fun k => oa (ix3 b l k)
  ob := fun k => ob (ix3 b l k)
  ga := fun k => g (ix3 b l (lower k))
  gb := fun k => g (ix3 b l (upper k))

/-- The sequence of the token at position `n` of all tokens in order, … -/
def seqOf (n : Fin 65536) : Fin 32 := ⟨n.val / 2048, by have := n.isLt; omega⟩
/-- … and its position in the sequence. -/
def posOf (n : Fin 65536) : Fin 2048 := ⟨n.val % 2048, by omega⟩

/-- The output part's result as one array. -/
def outArr (x oa : Arr3 32 2048 1024) (ob : Arr3 32 2048 512) (g : Arr3 32 2048 2048)
    (wa : Arr2 1024 1024) (wb : Arr2 512 1024) (wo : Arr2 1024 1024) (w1 : Arr2 1024 4096) (w2 : Arr2 4096 1024)
    (gMix gPre gPost : Arr1 1024) : Arr2 65536 1024 := fun i =>
  (rowOf x oa ob g (seqOf (i 0)) (posOf (i 0))).out (weightsOf wa wb wo w1 w2 gMix gPre gPost) (i 1)

end Cert.Post

end
-- ==== Proof.PostKernel.lean ====
/- What one block of the output kernel computes: its payload, read at row `r` and column `j`, is `Row.out` of the block's row `r`. -/
module

public import proofs.«01_k».proof.Proof.PostSpec
public import proofs.«01_k».proof.Proof.Gen.Kernel2Ideal.Value
public import Idealize.ShloMosaic.Lib.MatmulPlain
public import Idealize.ShloMosaic.Lib.ValueIdx
public import Idealize.ShloMosaic.PureOps.Ideal.Laws

@[expose] public section

noncomputable section

namespace Cert.PostKernel

open Cert.Kernel2Ideal Cert.Kernel2Ideal.Gen Cert.Post Idealize.ShloMosaic Idealize.ShloMosaic.ValueIdx

/-- A cast between equal shapes is the identity. -/
theorem cast_id {s : Shape} {α : Type} (v : s.Idx → α) (h : s.ShapeCasts s) : shapeCast s v h = v :=
  funext fun x => shapeCast_apply v h x x rfl

/-- A product of a 512-row block with a square matrix, from a zero accumulator. -/
theorem mm_sq {φ₁ φ₂ : FTy} (a : FVec Ideal S512x1024 φ₁) (b : FVec Ideal S1024x1024 φ₂) (r : Fin 512) (j : Fin 1024) :
    matmul dot_S512x1024_S1024x1024_S512x1024_1_0_0_1_n_n none a b (constant (F := Ideal) S512x1024 .f32 0x00000000#32) (ix2 r j)
      = ∑ k : Fin 1024, a (ix2 r k) * b (ix2 k j) := by
  refine (Ideal.matmul_plain_apply none a b (constant S512x1024 .f32 0x00000000#32) r j).trans ?_
  rw [constant_apply, Ideal.ofBits_zero_f32, zero_add]

/-- The same with 512 contracted positions. -/
theorem mm_half {φ₁ φ₂ : FTy} (a : FVec Ideal S512x512 φ₁) (b : FVec Ideal S512x1024 φ₂) (r : Fin 512) (j : Fin 1024) :
    matmul dot_S512x512_S512x1024_S512x1024_1_0_0_1_n_n none a b (constant (F := Ideal) S512x1024 .f32 0x00000000#32) (ix2 r j)
      = ∑ k : Fin 512, a (ix2 r k) * b (ix2 k j) := by
  refine (Ideal.matmul_plain_apply none a b (constant S512x1024 .f32 0x00000000#32) r j).trans ?_
  rw [constant_apply, Ideal.ofBits_zero_f32, zero_add]

/-- The block's norm as the body computes it. -/
def rmsV (u : FVec Ideal S512x1024 .f32) (g : FVec Ideal S1x1024 .f32) : FVec Ideal S512x1024 .f32 :=
  mulf (mulf u (broadcastTo S512x1024 (rsqrt (addf (divf (shapeCast S512x1 (multiReduction .add [1] S512 (mulf u u) 0x00000000#32
    reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024))
    (broadcastTo S512x1024 g broadcasts_S1x1024_S512x1024)

/-- The sum of squares along a row. -/
theorem sumsq (u : FVec Ideal S512x1024 .f32) (r : Fin 512) :
    shapeCast S512x1 (multiReduction .add [1] S512 (mulf u u) 0x00000000#32 reduces_S512x1024_S512 (.inl rfl) rfl)
      shapeCasts_S512_S512x1 (ix2 r 0) = ∑ k : Fin 1024, u (ix2 r k) * u (ix2 r k) := by
  refine (shapeCast_apply _ _ (ix2 r (0 : Fin 1)) (ix1 r) (by
    rw [Shape.rowMajor_val_one, Shape.rowMajor_val_two]; show r.val = r.val * 1 + 0; omega)).trans ?_
  refine (Ideal.multiReduction_add_single _ _ reduces_S512x1024_S512 (.inl rfl) rfl (ix1 r)).trans ?_
  refine Finset.sum_congr rfl fun k _ => ?_
  have e : reduces_S512x1024_S512.lift (ix1 r) k = ix2 r k := by
    funext a; apply Fin.ext
    match a with
    | ⟨0, _⟩ => rfl
    | ⟨1, _⟩ => rfl
  rw [mulf_apply, e]
  rfl

/-- The block's norm at an index is the row's norm. -/
theorem rmsV_apply (u : FVec Ideal S512x1024 .f32) (g : FVec Ideal S1x1024 .f32) (r : Fin 512) (j : Fin 1024) :
    rmsV u g (ix2 r j) = rms (fun k => u (ix2 r k)) (fun k => g (ix2 0 k)) j := by
  have e1 : ∀ v : FVec Ideal S512x1 .f32, broadcastTo S512x1024 v broadcasts_S512x1_S512x1024 (ix2 r j) = v (ix2 r 0) := fun v =>
    broadcastTo_apply _ _ _ (ix2 r (0 : Fin 1)) (fun a => match a with
      | ⟨0, _⟩ => by show r.val = (if (512 : Nat) = 1 then 0 else r.val); rw [if_neg (by decide)]
      | ⟨1, _⟩ => by show 0 = (if (1 : Nat) = 1 then 0 else j.val); rw [if_pos rfl])
  have e2 : broadcastTo S512x1024 g broadcasts_S1x1024_S512x1024 (ix2 r j) = g (ix2 0 j) :=
    broadcastTo_apply _ _ _ (ix2 (0 : Fin 1) j) (fun a => match a with
      | ⟨0, _⟩ => by show 0 = (if (1 : Nat) = 1 then 0 else r.val); rw [if_pos rfl]
      | ⟨1, _⟩ => by show j.val = (if (1024 : Nat) = 1 then 0 else j.val); rw [if_neg (by decide)])
  unfold rmsV
  rw [mulf_apply, mulf_apply, e1, e2]
  show u (ix2 r j) * Ideal.rsqrt (Ideal.div _ (Ideal.ofBits .f32 0x44800000#32) + Ideal.ofBits .f32 0x358637BD#32) * _ = _
  rw [sumsq]
  rfl

/-- The gated mixture through the output projection, at an index. -/
theorem pay2_apply (P1 : Vec Ideal S512x1024 .bf16) (P2 : Vec Ideal S1024x1024 .bf16) (P3 : Vec Ideal S512x512 .bf16)
    (P4 P5 P6 : Vec Ideal S512x1024 .bf16) (P7 : Vec Ideal S1024x1024 .bf16) (r : Fin 512) (j : Fin 1024) :
    k0_pay2 P1 P2 P3 P4 P5 P6 P7 (ix2 r j)
      = ∑ k : Fin 1024, (Ideal.logistic (P5 (ix2 r k)) * (∑ d : Fin 1024, P1 (ix2 r d) * P2 (ix2 d k))
          + Ideal.logistic (P6 (ix2 r k)) * ∑ d : Fin 512, P3 (ix2 r d) * P4 (ix2 d k)) * P7 (ix2 k j) := by
  unfold k0_pay2
  simp only [cast_id]
  rw [mm_sq]
  refine Finset.sum_congr rfl fun k _ => ?_
  rw [truncf_apply, addf_apply, mulf_apply, mulf_apply, mm_sq, mm_half]
  rfl

/-- One chunk of the feed-forward: the block's hidden units of the chunk, through their rows of the second matrix. -/
def ffV (h : FVec Ideal S512x1024 .bf16) (A B : FVec Ideal S1024x1024 .bf16) : FVec Ideal S512x1024 .f32 :=
  matmul dot_S512x1024_S1024x1024_S512x1024_1_0_0_1_n_n none
    (truncf .bf16 (mulf
      (maximumf (matmul dot_S512x1024_S1024x1024_S512x1024_1_0_0_1_n_n none h (shapeCast S1024x1024 A shapeCasts_S1024x1024_S1024x1024)
        (constant S512x1024 .f32 0x00000000#32)) (broadcast S512x1024 (Scalar.ofBits .f32 0x00000000#32)))
      (maximumf (matmul dot_S512x1024_S1024x1024_S512x1024_1_0_0_1_n_n none h (shapeCast S1024x1024 A shapeCasts_S1024x1024_S1024x1024)
        (constant S512x1024 .f32 0x00000000#32)) (broadcast S512x1024 (Scalar.ofBits .f32 0x00000000#32)))) bitsLt_bf16_f32)
    (shapeCast S1024x1024 B shapeCasts_S1024x1024_S1024x1024) (constant S512x1024 .f32 0x00000000#32)

/-- The chunk at an index. -/
theorem ffV_apply (h : FVec Ideal S512x1024 .bf16) (A B : FVec Ideal S1024x1024 .bf16) (r : Fin 512) (j : Fin 1024) :
    ffV h A B (ix2 r j) = ∑ f : Fin 1024, (max (∑ k : Fin 1024, h (ix2 r k) * A (ix2 k f)) 0
      * max (∑ k : Fin 1024, h (ix2 r k) * A (ix2 k f)) 0) * B (ix2 f j) := by
  unfold ffV
  simp only [cast_id]
  rw [mm_sq]
  refine Finset.sum_congr rfl fun f _ => ?_
  rw [truncf_apply, mulf_apply, maximumf_apply, mm_sq, broadcast_apply]
  show max _ (Ideal.ofBits .f32 0x00000000#32) * max _ (Ideal.ofBits .f32 0x00000000#32) * _ = _
  rw [Ideal.ofBits_zero_f32]

section Block

variable (P0 : Vec Ideal S512x1024 .f32) (P1 : Vec Ideal S512x1024 .bf16) (P2 : Vec Ideal S1024x1024 .bf16)
  (P3 : Vec Ideal S512x512 .bf16) (P4 P5 P6 : Vec Ideal S512x1024 .bf16) (P7 : Vec Ideal S1024x1024 .bf16)
  (P8 P9 : Vec Ideal S1x1024 .f32) (P10 P11 P12 P13 P14 P15 P16 P17 : Vec Ideal S1024x1024 .bf16) (P18 : Vec Ideal S1x1024 .f32)

/-- The block's residual stream after the attention half. -/
def midV : FVec Ideal S512x1024 .f32 :=
  addf (shapeCast S512x1024 P0 shapeCasts_S512x1024_S512x1024)
    (rmsV (k0_pay2 P1 P2 P3 P4 P5 P6 P7) (shapeCast S1x1024 P8 shapeCasts_S1x1024_S1x1024))

/-- The block's feed-forward, its four chunks added in order from zero. -/
def downV (h : FVec Ideal S512x1024 .bf16) : FVec Ideal S512x1024 .f32 :=
  addf (addf (addf (addf (broadcast S512x1024 (Scalar.ofBits .f32 0x00000000#32)) (ffV h P10 P11)) (ffV h P12 P13)) (ffV h P14 P15))
    (ffV h P16 P17)

/-- The stored payload of the body over arbitrary loads. -/
def payV : FVec Ideal S512x1024 .f32 :=
  addf (midV P0 P1 P2 P3 P4 P5 P6 P7 P8)
    (rmsV (downV P10 P11 P12 P13 P14 P15 P16 P17 (truncf .bf16 (rmsV (midV P0 P1 P2 P3 P4 P5 P6 P7 P8)
      (shapeCast S1x1024 P9 shapeCasts_S1x1024_S1x1024)) bitsLt_bf16_f32)) (shapeCast S1x1024 P18 shapeCasts_S1x1024_S1x1024))

/-- The payload the frame names is that block. -/
theorem pay_eq :
    k0_pay1 (k0_pay7 (k0_pay2 P1 P2 P3 P4 P5 P6 P7) (k0_pay3 P0) (k0_pay4 P8) (k0_pay5 P1 P2 P3 P4 P5 P6 P7) (k0_pay6 (F := Ideal)))
      (k0_pay11 (k0_pay8 (k0_pay2 P1 P2 P3 P4 P5 P6 P7) (k0_pay3 P0) (k0_pay4 P8) (k0_pay5 P1 P2 P3 P4 P5 P6 P7) (k0_pay6 (F := Ideal)) P9)
        (k0_pay9 (k0_pay2 P1 P2 P3 P4 P5 P6 P7) (k0_pay3 P0) (k0_pay4 P8) (k0_pay5 P1 P2 P3 P4 P5 P6 P7) (k0_pay6 (F := Ideal)) P9 P10 P11)
        (k0_pay10 (k0_pay2 P1 P2 P3 P4 P5 P6 P7) (k0_pay3 P0) (k0_pay4 P8) (k0_pay5 P1 P2 P3 P4 P5 P6 P7) (k0_pay6 (F := Ideal)) P9 P12)
        P13 P14 P15 P16 P17 P18)
      = payV P0 P1 P2 P3 P4 P5 P6 P7 P8 P9 P10 P11 P12 P13 P14 P15 P16 P17 P18 := by
  unfold k0_pay1 k0_pay11 k0_pay9 k0_pay10 k0_pay8 k0_pay7 k0_pay6 k0_pay5 k0_pay4 k0_pay3 payV downV midV ffV rmsV
  rfl

variable (W : Weights) (R : Row) (r : Fin 512)

/-- THE BLOCK'S ROW: where the loads hold a row's inputs and the weights, the payload at that row is the row's output. -/
theorem payV_apply (h0 : ∀ k, P0 (ix2 r k) = R.x k) (h1 : ∀ k, P1 (ix2 r k) = R.oa k) (h2 : ∀ d k, P2 (ix2 d k) = W.wa d k)
    (h3 : ∀ k, P3 (ix2 r k) = R.ob k) (h4 : ∀ d k, P4 (ix2 d k) = W.wb d k) (h5 : ∀ k, P5 (ix2 r k) = R.ga k)
    (h6 : ∀ k, P6 (ix2 r k) = R.gb k) (h7 : ∀ d k, P7 (ix2 d k) = W.wo d k) (h8 : ∀ k, P8 (ix2 0 k) = W.gMix k)
    (h9 : ∀ k, P9 (ix2 0 k) = W.gPre k)
    (h10 : ∀ k f, P10 (ix2 k f) = W.w1 k (chunk 0 f)) (h11 : ∀ f k, P11 (ix2 f k) = W.w2 (chunk 0 f) k)
    (h12 : ∀ k f, P12 (ix2 k f) = W.w1 k (chunk 1 f)) (h13 : ∀ f k, P13 (ix2 f k) = W.w2 (chunk 1 f) k)
    (h14 : ∀ k f, P14 (ix2 k f) = W.w1 k (chunk 2 f)) (h15 : ∀ f k, P15 (ix2 f k) = W.w2 (chunk 2 f) k)
    (h16 : ∀ k f, P16 (ix2 k f) = W.w1 k (chunk 3 f)) (h17 : ∀ f k, P17 (ix2 f k) = W.w2 (chunk 3 f) k)
    (h18 : ∀ k, P18 (ix2 0 k) = W.gPost k) (j : Fin 1024) :
    payV P0 P1 P2 P3 P4 P5 P6 P7 P8 P9 P10 P11 P12 P13 P14 P15 P16 P17 P18 (ix2 r j) = R.out W j := by
  have emix : ∀ k, k0_pay2 P1 P2 P3 P4 P5 P6 P7 (ix2 r k) = R.mixed W k := fun k => by
    rw [pay2_apply]; simp only [h1, h2, h3, h4, h5, h6, h7]; rfl
  have emid : ∀ k, midV P0 P1 P2 P3 P4 P5 P6 P7 P8 (ix2 r k) = R.mid W k := fun k => by
    unfold midV; rw [addf_apply, rmsV_apply, cast_id, cast_id, h0]; simp only [emix, h8]; rfl
  have ehn : ∀ k, (truncf .bf16 (rmsV (midV P0 P1 P2 P3 P4 P5 P6 P7 P8) (shapeCast S1x1024 P9 shapeCasts_S1x1024_S1x1024))
      bitsLt_bf16_f32 : FVec Ideal S512x1024 .bf16) (ix2 r k) = rms (R.mid W) W.gPre k := fun k => by
    rw [truncf_apply, rmsV_apply, cast_id]; simp only [emid, h9]
  have edown : ∀ k, downV P10 P11 P12 P13 P14 P15 P16 P17 (truncf .bf16 (rmsV (midV P0 P1 P2 P3 P4 P5 P6 P7 P8)
      (shapeCast S1x1024 P9 shapeCasts_S1x1024_S1x1024)) bitsLt_bf16_f32) (ix2 r k) = R.down W k := fun k => by
    unfold downV
    rw [addf_apply, addf_apply, addf_apply, addf_apply, ffV_apply, ffV_apply, ffV_apply, ffV_apply, broadcast_apply]
    simp only [ehn, h10, h11, h12, h13, h14, h15, h16, h17]
    show Ideal.ofBits .f32 0x00000000#32 + _ + _ + _ + _ = _
    rw [Ideal.ofBits_zero_f32]
    exact sum_chunks fun f => R.act W f * W.w2 f k
  unfold payV
  rw [addf_apply, rmsV_apply, cast_id P18, emid]
  simp only [edown, h18]
  rfl

end Block

end Cert.PostKernel

end
-- ==== Proof.PostFinal.lean ====
/- What the output kernel's result array holds after the run: the block of every grid point is the rows of `outArr` it stands
   for, and the blocks cover the array. -/
module

public import proofs.«01_k».proof.Proof.PostArrays
public import proofs.«01_k».proof.Proof.PostKernel
public import Idealize.ShloMosaic.Lib.StableHlo.Run

@[expose] public section

noncomputable section

namespace Cert.PostFinal

open Cert.Kernel2Ideal Cert.Kernel2Ideal.Gen Cert.Kernel2Ideal.Value Cert.Post Cert.PostKernel
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (c : Dev nD)

/-! ## The arrays the region finds: the arguments through the host's casts and reshapes -/

theorem V_v12 : V m c main_v12 = shapeCast S65536x1024 (m ((c : Thread nD τ).loc main_arg0)) shapeCasts_S32x2048x1024_S65536x1024 := by
  simp only [V, hostOps0]; after_results_simp <;> rfl
theorem V_v13 : V m c main_v13 = shapeCast S65536x1024 (truncf .bf16 (m ((c : Thread nD τ).loc main_arg1)) bitsLt_bf16_f32 : FVec Ideal S32x2048x1024 .bf16) shapeCasts_S32x2048x1024_S65536x1024 := by
  simp only [V, hostOps0]; after_results_simp <;> rfl
theorem V_v14 : V m c main_v14 = shapeCast S65536x512 (truncf .bf16 (m ((c : Thread nD τ).loc main_arg2)) bitsLt_bf16_f32 : FVec Ideal S32x2048x512 .bf16) shapeCasts_S32x2048x512_S65536x512 := by
  simp only [V, hostOps0]; after_results_simp <;> rfl
theorem V_v3 : V m c main_v3 = shapeCast S65536x2048 (truncf .bf16 (m ((c : Thread nD τ).loc main_arg3)) bitsLt_bf16_f32 : FVec Ideal S32x2048x2048 .bf16) shapeCasts_S32x2048x2048_S65536x2048 := by
  simp only [V, hostOps0]; after_results_simp <;> rfl
theorem V_v4 : V m c main_v4 = (truncf .bf16 (m ((c : Thread nD τ).loc main_arg4)) bitsLt_bf16_f32 : FVec Ideal S1024x1024 .bf16) := by
  simp only [V, hostOps0]; after_results_simp <;> rfl
theorem V_v5 : V m c main_v5 = (truncf .bf16 (m ((c : Thread nD τ).loc main_arg5)) bitsLt_bf16_f32 : FVec Ideal S512x1024 .bf16) := by
  simp only [V, hostOps0]; after_results_simp <;> rfl
theorem V_v6 : V m c main_v6 = (truncf .bf16 (m ((c : Thread nD τ).loc main_arg6)) bitsLt_bf16_f32 : FVec Ideal S1024x1024 .bf16) := by
  simp only [V, hostOps0]; after_results_simp <;> rfl
theorem V_v7 : V m c main_v7 = (truncf .bf16 (m ((c : Thread nD τ).loc main_arg7)) bitsLt_bf16_f32 : FVec Ideal S1024x4096 .bf16) := by
  simp only [V, hostOps0]; after_results_simp <;> rfl
theorem V_v8 : V m c main_v8 = (truncf .bf16 (m ((c : Thread nD τ).loc main_arg8)) bitsLt_bf16_f32 : FVec Ideal S4096x1024 .bf16) := by
  simp only [V, hostOps0]; after_results_simp <;> rfl
theorem V_v9 : V m c main_v9 = shapeCast S1x1024 (m ((c : Thread nD τ).loc main_arg9)) shapeCasts_S1024_S1x1024 := by
  simp only [V, hostOps0]; after_results_simp <;> rfl
theorem V_v10 : V m c main_v10 = shapeCast S1x1024 (m ((c : Thread nD τ).loc main_arg10)) shapeCasts_S1024_S1x1024 := by
  simp only [V, hostOps0]; after_results_simp <;> rfl
theorem V_v11 : V m c main_v11 = shapeCast S1x1024 (m ((c : Thread nD τ).loc main_arg11)) shapeCasts_S1024_S1x1024 := by
  simp only [V, hostOps0]; after_results_simp <;> rfl

/-! ## The blocks at a grid point -/

/-- Where the windows stand: the token windows move with the point, the weights stay. -/
theorem idx_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = 0 ∧ win0_11.index t 1 = 0)
    ∧ (win0_12.index t 0 = t.val ∧ win0_12.index t 1 = 0) := by
  decide +kernel

/-- The token of row `r` of the block at point `t`. -/
def tok (t : Fin cfg0.N) (r : Fin 512) : Fin 65536 :=
  ⟨t.val * 512 + r.val, by have h : t.val < 128 := t.isLt; have := r.isLt; omega⟩

/-- A reshape of a per-sequence array to one row per token, at an index. -/
theorem flat_apply {N : Nat} {α : Type} (v : (⟨3, ![32, 2048, N]⟩ : Shape).Idx → α)
    (h : (⟨3, ![32, 2048, N]⟩ : Shape).ShapeCasts ⟨2, ![65536, N]⟩) (n : Fin 65536) (k : Fin N) :
    shapeCast ⟨2, ![65536, N]⟩ v h (ix2 n k) = v (ix3 (seqOf n) (posOf n) k) :=
  shapeCast_apply v h (ix2 n k) (ix3 (seqOf n) (posOf n) k) (by
    rw [Shape.rowMajor_val_three, Shape.rowMajor_val_two]
    show (n.val / 2048 * 2048 + n.val % 2048) * N + k.val = n.val * N + k.val
    rw [Nat.div_add_mod'])

/-- A vector as a one-row matrix, at an index. -/
theorem row1_apply {N : Nat} {α : Type} (v : (⟨1, ![N]⟩ : Shape).Idx → α)
    (h : (⟨1, ![N]⟩ : Shape).ShapeCasts ⟨2, ![1, N]⟩) (k : Fin N) :
    shapeCast ⟨2, ![1, N]⟩ v h (ix2 0 k) = v (ix1 k) :=
  shapeCast_apply v h (ix2 0 k) (ix1 k) (by
    rw [Shape.rowMajor_val_one, Shape.rowMajor_val_two]
    show k.val = 0 * N + k.val
    omega)

theorem blk0 (t : Fin cfg0.N) (r : Fin 512) (k : Fin 1024) :
    (iblk m c 0 t : Vec Ideal S512x1024 .f32) (ix2 r k) = m ((c : Thread nD τ).loc main_arg0) (ix3 (seqOf (tok t r)) (posOf (tok t r)) k) := by
  obtain ⟨⟨e0, e1⟩, -⟩ := idx_facts t
  refine Eq.trans ?_ (flat_apply (N := 1024) (m ((c : Thread nD τ).loc main_arg0)) shapeCasts_S32x2048x1024_S65536x1024 (tok t r) k)
  rw [← V_v12 m c]
  refine congrArg (V m c main_v12) (funext fun a => Fin.ext ?_)
  match a with
  | ⟨0, _⟩ => show win0_0.index t 0 * 512 + 1 * r.val = t.val * 512 + r.val; rw [e0]; omega
  | ⟨1, _⟩ => show win0_0.index t 1 * 1024 + 1 * k.val = k.val; rw [e1]; omega

theorem blk1 (t : Fin cfg0.N) (r : Fin 512) (k : Fin 1024) :
    (iblk m c 1 t : Vec Ideal S512x1024 .bf16) (ix2 r k) = (m ((c : Thread nD τ).loc main_arg1) (ix3 (seqOf (tok t r)) (posOf (tok t r)) k) : EReal) := by
  obtain ⟨-, ⟨e0, e1⟩, -⟩ := idx_facts t
  refine Eq.trans ?_ (flat_apply (N := 1024) (truncf .bf16 (m ((c : Thread nD τ).loc main_arg1)) bitsLt_bf16_f32 : FVec Ideal S32x2048x1024 .bf16) shapeCasts_S32x2048x1024_S65536x1024 (tok t r) k)
  rw [← V_v13 m c]
  refine congrArg (V m c main_v13) (funext fun a => Fin.ext ?_)
  match a with
  | ⟨0, _⟩ => show win0_1.index t 0 * 512 + 1 * r.val = t.val * 512 + r.val; rw [e0]; omega
  | ⟨1, _⟩ => show win0_1.index t 1 * 1024 + 1 * k.val = k.val; rw [e1]; omega

theorem blk2 (t : Fin cfg0.N) (r : Fin 512) (k : Fin 512) :
    (iblk m c 2 t : Vec Ideal S512x512 .bf16) (ix2 r k) = (m ((c : Thread nD τ).loc main_arg2) (ix3 (seqOf (tok t r)) (posOf (tok t r)) k) : EReal) := by
  obtain ⟨-, -, ⟨e0, e1⟩, -⟩ := idx_facts t
  refine Eq.trans ?_ (flat_apply (N := 512) (truncf .bf16 (m ((c : Thread nD τ).loc main_arg2)) bitsLt_bf16_f32 : FVec Ideal S32x2048x512 .bf16) shapeCasts_S32x2048x512_S65536x512 (tok t r) k)
  rw [← V_v14 m c]
  refine congrArg (V m c main_v14) (funext fun a => Fin.ext ?_)
  match a with
  | ⟨0, _⟩ => show win0_2.index t 0 * 512 + 1 * r.val = t.val * 512 + r.val; rw [e0]; omega
  | ⟨1, _⟩ => show win0_2.index t 1 * 512 + 1 * k.val = k.val; rw [e1]; omega

theorem blk3 (t : Fin cfg0.N) (r : Fin 512) (k : Fin 2048) :
    (iblk m c 3 t : Vec Ideal S512x2048 .bf16) (ix2 r k) = (m ((c : Thread nD τ).loc main_arg3) (ix3 (seqOf (tok t r)) (posOf (tok t r)) k) : EReal) := by
  obtain ⟨-, -, -, ⟨e0, e1⟩, -⟩ := idx_facts t
  refine Eq.trans ?_ (flat_apply (N := 2048) (truncf .bf16 (m ((c : Thread nD τ).loc main_arg3)) bitsLt_bf16_f32 : FVec Ideal S32x2048x2048 .bf16) shapeCasts_S32x2048x2048_S65536x2048 (tok t r) k)
  rw [← V_v3 m c]
  refine congrArg (V m c main_v3) (funext fun a => Fin.ext ?_)
  match a with
  | ⟨0, _⟩ => show win0_3.index t 0 * 512 + 1 * r.val = t.val * 512 + r.val; rw [e0]; omega
  | ⟨1, _⟩ => show win0_3.index t 1 * 2048 + 1 * k.val = k.val; rw [e1]; omega

theorem blk4 (t : Fin cfg0.N) (d : Fin 1024) (k : Fin 1024) :
    (iblk m c 4 t : Vec Ideal S1024x1024 .bf16) (ix2 d k) = (m ((c : Thread nD τ).loc main_arg4) (ix2 d k) : EReal) := by
  obtain ⟨-, -, -, -, ⟨e0, e1⟩, -⟩ := idx_facts t
  refine Eq.trans ?_ (congrFun (V_v4 m c) (ix2 d k))
  refine congrArg (V m c main_v4) (funext fun a => Fin.ext ?_)
  match a with
  | ⟨0, _⟩ => show win0_4.index t 0 * 1024 + 1 * d.val = d.val; rw [e0]; omega
  | ⟨1, _⟩ => show win0_4.index t 1 * 1024 + 1 * k.val = k.val; rw [e1]; omega

theorem blk5 (t : Fin cfg0.N) (d : Fin 512) (k : Fin 1024) :
    (iblk m c 5 t : Vec Ideal S512x1024 .bf16) (ix2 d k) = (m ((c : Thread nD τ).loc main_arg5) (ix2 d k) : EReal) := by
  obtain ⟨-, -, -, -, -, ⟨e0, e1⟩, -⟩ := idx_facts t
  refine Eq.trans ?_ (congrFun (V_v5 m c) (ix2 d k))
  refine congrArg (V m c main_v5) (funext fun a => Fin.ext ?_)
  match a with
  | ⟨0, _⟩ => show win0_5.index t 0 * 512 + 1 * d.val = d.val; rw [e0]; omega
  | ⟨1, _⟩ => show win0_5.index t 1 * 1024 + 1 * k.val = k.val; rw [e1]; omega

theorem blk6 (t : Fin cfg0.N) (d : Fin 1024) (k : Fin 1024) :
    (iblk m c 6 t : Vec Ideal S1024x1024 .bf16) (ix2 d k) = (m ((c : Thread nD τ).loc main_arg6) (ix2 d k) : EReal) := by
  obtain ⟨-, -, -, -, -, -, ⟨e0, e1⟩, -⟩ := idx_facts t
  refine Eq.trans ?_ (congrFun (V_v6 m c) (ix2 d k))
  refine congrArg (V m c main_v6) (funext fun a => Fin.ext ?_)
  match a with
  | ⟨0, _⟩ => show win0_6.index t 0 * 1024 + 1 * d.val = d.val; rw [e0]; omega
  | ⟨1, _⟩ => show win0_6.index t 1 * 1024 + 1 * k.val = k.val; rw [e1]; omega

theorem blk7 (t : Fin cfg0.N) (d : Fin 1024) (k : Fin 4096) :
    (iblk m c 7 t : Vec Ideal S1024x4096 .bf16) (ix2 d k) = (m ((c : Thread nD τ).loc main_arg7) (ix2 d k) : EReal) := by
  obtain ⟨-, -, -, -, -, -, -, ⟨e0, e1⟩, -⟩ := idx_facts t
  refine Eq.trans ?_ (congrFun (V_v7 m c) (ix2 d k))
  refine congrArg (V m c main_v7) (funext fun a => Fin.ext ?_)
  match a with
  | ⟨0, _⟩ => show win0_7.index t 0 * 1024 + 1 * d.val = d.val; rw [e0]; omega
  | ⟨1, _⟩ => show win0_7.index t 1 * 4096 + 1 * k.val = k.val; rw [e1]; omega

theorem blk8 (t : Fin cfg0.N) (d : Fin 4096) (k : Fin 1024) :
    (iblk m c 8 t : Vec Ideal S4096x1024 .bf16) (ix2 d k) = (m ((c : Thread nD τ).loc main_arg8) (ix2 d k) : EReal) := by
  obtain ⟨-, -, -, -, -, -, -, -, ⟨e0, e1⟩, -⟩ := idx_facts t
  refine Eq.trans ?_ (congrFun (V_v8 m c) (ix2 d k))
  refine congrArg (V m c main_v8) (funext fun a => Fin.ext ?_)
  match a with
  | ⟨0, _⟩ => show win0_8.index t 0 * 4096 + 1 * d.val = d.val; rw [e0]; omega
  | ⟨1, _⟩ => show win0_8.index t 1 * 1024 + 1 * k.val = k.val; rw [e1]; omega

theorem blk9 (t : Fin cfg0.N) (k : Fin 1024) :
    (iblk m c 9 t : Vec Ideal S1x1024 .f32) (ix2 0 k) = m ((c : Thread nD τ).loc main_arg9) (ix1 k) := by
  obtain ⟨-, -, -, -, -, -, -, -, -, ⟨e0, e1⟩, -⟩ := idx_facts t
  refine Eq.trans ?_ (row1_apply (N := 1024) (m ((c : Thread nD τ).loc main_arg9)) shapeCasts_S1024_S1x1024 k)
  rw [← V_v9 m c]
  refine congrArg (V m c main_v9) (funext fun a => Fin.ext ?_)
  match a with
  | ⟨0, _⟩ => show win0_9.index t 0 * 1 + 1 * 0 = 0; rw [e0]
  | ⟨1, _⟩ => show win0_9.index t 1 * 1024 + 1 * k.val = k.val; rw [e1]; omega

theorem blk10 (t : Fin cfg0.N) (k : Fin 1024) :
    (iblk m c 10 t : Vec Ideal S1x1024 .f32) (ix2 0 k) = m ((c : Thread nD τ).loc main_arg10) (ix1 k) := by
  obtain ⟨-, -, -, -, -, -, -, -, -, -, ⟨e0, e1⟩, -⟩ := idx_facts t
  refine Eq.trans ?_ (row1_apply (N := 1024) (m ((c : Thread nD τ).loc main_arg10)) shapeCasts_S1024_S1x1024 k)
  rw [← V_v10 m c]
  refine congrArg (V m c main_v10) (funext fun a => Fin.ext ?_)
  match a with
  | ⟨0, _⟩ => show win0_10.index t 0 * 1 + 1 * 0 = 0; rw [e0]
  | ⟨1, _⟩ => show win0_10.index t 1 * 1024 + 1 * k.val = k.val; rw [e1]; omega

theorem blk11 (t : Fin cfg0.N) (k : Fin 1024) :
    (iblk m c 11 t : Vec Ideal S1x1024 .f32) (ix2 0 k) = m ((c : Thread nD τ).loc main_arg11) (ix1 k) := by
  obtain ⟨-, -, -, -, -, -, -, -, -, -, -, ⟨e0, e1⟩, -⟩ := idx_facts t
  refine Eq.trans ?_ (row1_apply (N := 1024) (m ((c : Thread nD τ).loc main_arg11)) shapeCasts_S1024_S1x1024 k)
  rw [← V_v11 m c]
  refine congrArg (V m c main_v11) (funext fun a => Fin.ext ?_)
  match a with
  | ⟨0, _⟩ => show win0_11.index t 0 * 1 + 1 * 0 = 0; rw [e0]
  | ⟨1, _⟩ => show win0_11.index t 1 * 1024 + 1 * k.val = k.val; rw [e1]; omega

/-! ## The result array -/

/-- The kernel's result as one array of its arguments. -/
def result : Vec Ideal S65536x1024 .f32 :=
  outArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

theorem zeros2 : (![0, 0] : Fin 2 → Nat) = fun _ => 0 := by
  funext a; match a with | ⟨0, _⟩ => rfl | ⟨1, _⟩ => rfl

/-- A load of a part of a matrix, at an index. -/
theorem ld_at {n0 n1 : Nat} {e : EltTy} (X : Vec Ideal ⟨2, ![n0, n1]⟩ e) (o0 o1 s0 s1 : Nat)
    (inb : ∀ a, (![o0, o1] : Fin 2 → Nat) a + (![s0, s1] : Fin 2 → Nat) a ≤ (⟨2, ![n0, n1]⟩ : Shape).size a)
    (d : Fin s0) (k : Fin s1) (d' : Fin n0) (k' : Fin n1) (hd : d'.val = o0 + d.val) (hk : k'.val = o1 + k.val) :
    View.ld X (Rect.unit (s := ⟨2, ![n0, n1]⟩) ![o0, o1] ![s0, s1] inb) (ix2 d k) = X (ix2 d' k') := by
  refine congrArg X (funext fun a => Fin.ext ?_)
  match a with
  | ⟨0, _⟩ => show o0 + 1 * d.val = d'.val; omega
  | ⟨1, _⟩ => show o1 + 1 * k.val = k'.val; omega

/-- The body's block at a point, at an index. -/
theorem block_apply (t : Fin cfg0.N) (r : Fin 512) (j : Fin 1024) :
    out0_12 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix2 r j) = result m c (ix2 (tok t r) j) := by
  unfold out0_12 k0_pay16 k0_pay15 k0_pay14 k0_pay13 k0_pay12
  rw [View.canon_unit_zero zeros2, pay_eq]
  refine payV_apply _ _ _ _ _ _ _ _ _ _ _ _ _ _ _ _ _ _ _ (weightsOf (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)))
    (rowOf (m ((c : Thread nD τ).loc main_arg0)) (m ((c : Thread nD τ).loc main_arg1)) (m ((c : Thread nD τ).loc main_arg2))
      (m ((c : Thread nD τ).loc main_arg3)) (seqOf (tok t r)) (posOf (tok t r)))
    r ?_ ?_ ?_ ?_ ?_ ?_ ?_ ?_ ?_ ?_ ?_ ?_ ?_ ?_ ?_ ?_ ?_ ?_ ?_ j
  · intro k; rw [View.ld_unit_zero zeros2]; exact blk0 m c t r k
  · intro k; rw [View.ld_unit_zero zeros2]; exact blk1 m c t r k
  · intro d k; rw [View.ld_unit_zero zeros2]; exact blk4 m c t d k
  · intro k; rw [View.ld_unit_zero zeros2]; exact blk2 m c t r k
  · intro d k; rw [View.ld_unit_zero zeros2]; exact blk5 m c t d k
  · intro k; exact (ld_at _ 0 0 512 1024 _ r k r (lower k) (by omega) (by simp only [lower]; omega)).trans (blk3 m c t r (lower k))
  · intro k; exact (ld_at _ 0 1024 512 1024 _ r k r (upper k) (by omega) rfl).trans (blk3 m c t r (upper k))
  · intro d k; rw [View.ld_unit_zero zeros2]; exact blk6 m c t d k
  · intro k; rw [View.ld_unit_zero zeros2]; exact blk9 m c t k
  · intro k; rw [View.ld_unit_zero zeros2]; exact blk10 m c t k
  · intro k f; exact (ld_at _ 0 0 1024 1024 _ k f k (chunk 0 f) (by omega) rfl).trans (blk7 m c t k (chunk 0 f))
  · intro f k; exact (ld_at _ 0 0 1024 1024 _ f k (chunk 0 f) k rfl (by omega)).trans (blk8 m c t (chunk 0 f) k)
  · intro k f; exact (ld_at _ 0 1024 1024 1024 _ k f k (chunk 1 f) (by omega) rfl).trans (blk7 m c t k (chunk 1 f))
  · intro f k; exact (ld_at _ 1024 0 1024 1024 _ f k (chunk 1 f) k rfl (by omega)).trans (blk8 m c t (chunk 1 f) k)
  · intro k f; exact (ld_at _ 0 2048 1024 1024 _ k f k (chunk 2 f) (by omega) rfl).trans (blk7 m c t k (chunk 2 f))
  · intro f k; exact (ld_at _ 2048 0 1024 1024 _ f k (chunk 2 f) k rfl (by omega)).trans (blk8 m c t (chunk 2 f) k)
  · intro k f; exact (ld_at _ 0 3072 1024 1024 _ k f k (chunk 3 f) (by omega) rfl).trans (blk7 m c t k (chunk 3 f))
  · intro f k; exact (ld_at _ 3072 0 1024 1024 _ f k (chunk 3 f) k rfl (by omega)).trans (blk8 m c t (chunk 3 f) k)
  · intro k; rw [View.ld_unit_zero zeros2]; exact blk11 m c t k

/-- What a point writes back is its block of the result. -/
theorem flushed_eq (t : Fin cfg0.N) :
    (dats m 0 c).flushed 12 t = ((cfg0.win 12).blk t).view.read (Elt Ideal) (result m c) := by
  rw [flushed12]
  funext y
  obtain ⟨-, -, -, -, -, -, -, -, -, -, -, -, e0, e1⟩ := idx_facts t
  have hy0 : (y 0).val < 512 := (y 0).isLt
  have hy1 : (y 1).val < 1024 := (y 1).isLt
  refine Eq.trans (b := out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t)
      (ix2 (⟨(y 0).val, hy0⟩ : Fin 512) (⟨(y 1).val, hy1⟩ : Fin 1024))) (congrArg _ (funext fun a => Fin.ext ?_)) ?_
  · match a with
    | ⟨0, _⟩ => rfl
    | ⟨1, _⟩ => rfl
  · rw [block_apply]
    refine congrArg (result m c) (funext fun a => Fin.ext ?_)
    match a with
    | ⟨0, _⟩ => show t.val * 512 + (y 0).val = win0_12.index t 0 * 512 + 1 * (y 0).val; rw [e0]; omega
    | ⟨1, _⟩ => show (y 1).val = win0_12.index t 1 * 1024 + 1 * (y 1).val; rw [e1]; omega

/-- Every index of the result lies in the block of its token's point. -/
theorem cover (i : S65536x1024.Idx) : ∃ t : Fin cfg0.N, (cfg0.win 12).flush t = true ∧ i ∈ ((cfg0.win 12).blk t).view.set := by
  have h0 : (i 0).val < 65536 := (i 0).isLt
  have h1 : (i 1).val < 1024 := (i 1).isLt
  have ht : (i 0).val / 512 < cfg0.N := by show (i 0).val / 512 < 128; omega
  refine ⟨⟨(i 0).val / 512, ht⟩, flush0_12 _, ?_⟩
  obtain ⟨-, -, -, -, -, -, -, -, -, -, -, -, e0, e1⟩ := idx_facts (⟨(i 0).val / 512, ht⟩ : Fin cfg0.N)
  show i ∈ ((View.whole main_v15).slice (win0_12.rect (⟨(i 0).val / 512, ht⟩ : Fin cfg0.N))).set
  rw [View.set_slice_whole, Rect.mem_set_unit]
  intro a
  match a with
  | ⟨0, _⟩ =>
    show win0_12.index _ 0 * 512 ≤ (i 0).val ∧ (i 0).val < win0_12.index _ 0 * 512 + 512
    rw [e0]; show (i 0).val / 512 * 512 ≤ (i 0).val ∧ (i 0).val < (i 0).val / 512 * 512 + 512; omega
  | ⟨1, _⟩ =>
    show win0_12.index _ 1 * 1024 ≤ (i 1).val ∧ (i 1).val < win0_12.index _ 1 * 1024 + 1024
    rw [e1]; omega

/-- THE RESULT ARRAY after the run. -/
theorem final : (dats m 0 c).arrAt 12 cfg0.N = result m c :=
  (dats m 0 c).arrAt_eq_of_cover 12 (result m c) (fun t _ => flushed_eq m c t) cover

end Cert.PostFinal

end
-- ==== Proof.PostRef.lean ====
/- The reference of the output part, one host operation at a time: `val_<buffer>` is the value the operation writes as a
   function of the arguments it depends on, and `val_<buffer>_apply` reads it at an index from its operands. -/
module

public import proofs.«01_k».proof.Proof.Gen.Reference2Ideal
public import Idealize.ShloMosaic.Lib.Pipeline.Value
public import Idealize.ShloMosaic.Lib.ValueIdx
public import Idealize.ShloMosaic.PureOps.Ideal.Laws

@[expose] public section

noncomputable section

namespace Cert.PostRef

open Cert.Reference2Ideal Cert.Reference2Ideal.Gen Idealize.ShloMosaic Idealize.ShloMosaic.TcCoe Idealize.SL.Sem Idealize.ShloMosaic.StableHlo

variable {F : FTy → Type} [FloatOps F]

-- %0 = stablehlo.dot_general %arg1, %arg4, contracting_dims = [2] x [0], precision = [DEFAULT, DEFAULT] : (tensor<32x2048x1024xf32>, tensor<1024x1024xf32>) -> tensor<32x2048x1024xf32>
def val_main_v0 (x1 : Vec F S32x2048x1024 .f32) (x4 : Vec F S1024x1024 .f32) : Vec F S32x2048x1024 .f32 :=
  Host.dotGeneral dot_S32x2048x1024_S1024x1024_S32x2048x1024_2_0_01_1_n_n none (x1) (x4)
theorem lhs_main_v0_0 (i : S32x2048x1024.Idx) (q : dot_S32x2048x1024_S1024x1024_S32x2048x1024_2_0_01_1_n_n.contr.Idx) :
    (dot_S32x2048x1024_S1024x1024_S32x2048x1024_2_0_01_1_n_n.lhsIdx i q 0).val = (i 0).val := by
  unfold DotDims.lhsIdx
  rw [dif_neg (show ¬(0 : Fin S32x2048x1024.rank) ∈ dot_S32x2048x1024_S1024x1024_S32x2048x1024_2_0_01_1_n_n.lhsBatch by decide), dif_pos (show (0 : Fin S32x2048x1024.rank) ∈ dot_S32x2048x1024_S1024x1024_S32x2048x1024_2_0_01_1_n_n.lhsNonContracting by decide)]
  rfl
theorem lhs_main_v0_1 (i : S32x2048x1024.Idx) (q : dot_S32x2048x1024_S1024x1024_S32x2048x1024_2_0_01_1_n_n.contr.Idx) :
    (dot_S32x2048x1024_S1024x1024_S32x2048x1024_2_0_01_1_n_n.lhsIdx i q 1).val = (i 1).val := by
  unfold DotDims.lhsIdx
  rw [dif_neg (show ¬(1 : Fin S32x2048x1024.rank) ∈ dot_S32x2048x1024_S1024x1024_S32x2048x1024_2_0_01_1_n_n.lhsBatch by decide), dif_pos (show (1 : Fin S32x2048x1024.rank) ∈ dot_S32x2048x1024_S1024x1024_S32x2048x1024_2_0_01_1_n_n.lhsNonContracting by decide)]
  rfl
theorem lhs_main_v0_2 (i : S32x2048x1024.Idx) (q : dot_S32x2048x1024_S1024x1024_S32x2048x1024_2_0_01_1_n_n.contr.Idx) :
    (dot_S32x2048x1024_S1024x1024_S32x2048x1024_2_0_01_1_n_n.lhsIdx i q 2).val = (q ⟨0, by decide⟩).val :=
  dot_S32x2048x1024_S1024x1024_S32x2048x1024_2_0_01_1_n_n.lhsIdx_val_of_single rfl i q
theorem rhs_main_v0_0 (i : S32x2048x1024.Idx) (q : dot_S32x2048x1024_S1024x1024_S32x2048x1024_2_0_01_1_n_n.contr.Idx) :
    (dot_S32x2048x1024_S1024x1024_S32x2048x1024_2_0_01_1_n_n.rhsIdx i q 0).val = (q ⟨0, by decide⟩).val :=
  dot_S32x2048x1024_S1024x1024_S32x2048x1024_2_0_01_1_n_n.rhsIdx_val_of_single rfl i q
theorem rhs_main_v0_1 (i : S32x2048x1024.Idx) (q : dot_S32x2048x1024_S1024x1024_S32x2048x1024_2_0_01_1_n_n.contr.Idx) :
    (dot_S32x2048x1024_S1024x1024_S32x2048x1024_2_0_01_1_n_n.rhsIdx i q 1).val = (i 2).val := by
  unfold DotDims.rhsIdx
  rw [dif_neg (show ¬(1 : Fin S1024x1024.rank) ∈ dot_S32x2048x1024_S1024x1024_S32x2048x1024_2_0_01_1_n_n.rhsBatch by decide), dif_pos (show (1 : Fin S1024x1024.rank) ∈ dot_S32x2048x1024_S1024x1024_S32x2048x1024_2_0_01_1_n_n.rhsNonContracting by decide)]
  rfl
abbrev lidx_main_v0 (i : S32x2048x1024.Idx) (k : Fin 1024) : S32x2048x1024.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v0 (i : S32x2048x1024.Idx) (k : Fin 1024) : S1024x1024.Idx := fun a => match a with
  | ⟨0, _⟩ => ⟨k.val, k.isLt⟩
  | ⟨1, _⟩ => ⟨(i 2).val, (i 2).isLt⟩
/-- Stated at `F := Ideal`, where the host's `dot_general` is this sum; at a bit-exact instance it is an opaque function of its operands. -/
theorem val_main_v0_apply (x1 : Vec Ideal S32x2048x1024 .f32) (x4 : Vec Ideal S1024x1024 .f32) (i : S32x2048x1024.Idx) :
    val_main_v0 (F := Ideal) x1 x4 i = ∑ k : Fin 1024, x1 (lidx_main_v0 i k) * x4 (ridx_main_v0 i k) := by
  unfold val_main_v0
  simp only [Host.dotGeneral]
  rw [Ideal.dotGeneral_apply, ← Equiv.sum_comp (ValueIdx.contrEquiv1 dot_S32x2048x1024_S1024x1024_S32x2048x1024_2_0_01_1_n_n 1024 rfl rfl).symm]
  refine Finset.sum_congr rfl fun k _ => ?_
  have hk := ValueIdx.contrEquiv1_symm_val dot_S32x2048x1024_S1024x1024_S32x2048x1024_2_0_01_1_n_n 1024 rfl rfl k
  have el : dot_S32x2048x1024_S1024x1024_S32x2048x1024_2_0_01_1_n_n.lhsIdx i ((ValueIdx.contrEquiv1 dot_S32x2048x1024_S1024x1024_S32x2048x1024_2_0_01_1_n_n 1024 rfl rfl).symm k) = lidx_main_v0 i k := funext fun a => Fin.ext (by
    match a with
    | ⟨0, _⟩ => exact lhs_main_v0_0 _ _
    | ⟨1, _⟩ => exact lhs_main_v0_1 _ _
    | ⟨2, _⟩ => exact (lhs_main_v0_2 _ _).trans hk)
  have er : dot_S32x2048x1024_S1024x1024_S32x2048x1024_2_0_01_1_n_n.rhsIdx i ((ValueIdx.contrEquiv1 dot_S32x2048x1024_S1024x1024_S32x2048x1024_2_0_01_1_n_n 1024 rfl rfl).symm k) = ridx_main_v0 i k := funext fun a => Fin.ext (by
    match a with
    | ⟨0, _⟩ => exact (rhs_main_v0_0 _ _).trans hk
    | ⟨1, _⟩ => exact rhs_main_v0_1 _ _)
  rw [el, er]

-- %1 = stablehlo.dot_general %arg2, %arg5, contracting_dims = [2] x [0], precision = [DEFAULT, DEFAULT] : (tensor<32x2048x512xf32>, tensor<512x1024xf32>) -> tensor<32x2048x1024xf32>
def val_main_v1 (x2 : Vec F S32x2048x512 .f32) (x5 : Vec F S512x1024 .f32) : Vec F S32x2048x1024 .f32 :=
  Host.dotGeneral dot_S32x2048x512_S512x1024_S32x2048x1024_2_0_01_1_n_n none (x2) (x5)
theorem lhs_main_v1_0 (i : S32x2048x1024.Idx) (q : dot_S32x2048x512_S512x1024_S32x2048x1024_2_0_01_1_n_n.contr.Idx) :
    (dot_S32x2048x512_S512x1024_S32x2048x1024_2_0_01_1_n_n.lhsIdx i q 0).val = (i 0).val := by
  unfold DotDims.lhsIdx
  rw [dif_neg (show ¬(0 : Fin S32x2048x512.rank) ∈ dot_S32x2048x512_S512x1024_S32x2048x1024_2_0_01_1_n_n.lhsBatch by decide), dif_pos (show (0 : Fin S32x2048x512.rank) ∈ dot_S32x2048x512_S512x1024_S32x2048x1024_2_0_01_1_n_n.lhsNonContracting by decide)]
  rfl
theorem lhs_main_v1_1 (i : S32x2048x1024.Idx) (q : dot_S32x2048x512_S512x1024_S32x2048x1024_2_0_01_1_n_n.contr.Idx) :
    (dot_S32x2048x512_S512x1024_S32x2048x1024_2_0_01_1_n_n.lhsIdx i q 1).val = (i 1).val := by
  unfold DotDims.lhsIdx
  rw [dif_neg (show ¬(1 : Fin S32x2048x512.rank) ∈ dot_S32x2048x512_S512x1024_S32x2048x1024_2_0_01_1_n_n.lhsBatch by decide), dif_pos (show (1 : Fin S32x2048x512.rank) ∈ dot_S32x2048x512_S512x1024_S32x2048x1024_2_0_01_1_n_n.lhsNonContracting by decide)]
  rfl
theorem lhs_main_v1_2 (i : S32x2048x1024.Idx) (q : dot_S32x2048x512_S512x1024_S32x2048x1024_2_0_01_1_n_n.contr.Idx) :
    (dot_S32x2048x512_S512x1024_S32x2048x1024_2_0_01_1_n_n.lhsIdx i q 2).val = (q ⟨0, by decide⟩).val :=
  dot_S32x2048x512_S512x1024_S32x2048x1024_2_0_01_1_n_n.lhsIdx_val_of_single rfl i q
theorem rhs_main_v1_0 (i : S32x2048x1024.Idx) (q : dot_S32x2048x512_S512x1024_S32x2048x1024_2_0_01_1_n_n.contr.Idx) :
    (dot_S32x2048x512_S512x1024_S32x2048x1024_2_0_01_1_n_n.rhsIdx i q 0).val = (q ⟨0, by decide⟩).val :=
  dot_S32x2048x512_S512x1024_S32x2048x1024_2_0_01_1_n_n.rhsIdx_val_of_single rfl i q
theorem rhs_main_v1_1 (i : S32x2048x1024.Idx) (q : dot_S32x2048x512_S512x1024_S32x2048x1024_2_0_01_1_n_n.contr.Idx) :
    (dot_S32x2048x512_S512x1024_S32x2048x1024_2_0_01_1_n_n.rhsIdx i q 1).val = (i 2).val := by
  unfold DotDims.rhsIdx
  rw [dif_neg (show ¬(1 : Fin S512x1024.rank) ∈ dot_S32x2048x512_S512x1024_S32x2048x1024_2_0_01_1_n_n.rhsBatch by decide), dif_pos (show (1 : Fin S512x1024.rank) ∈ dot_S32x2048x512_S512x1024_S32x2048x1024_2_0_01_1_n_n.rhsNonContracting by decide)]
  rfl
abbrev lidx_main_v1 (i : S32x2048x1024.Idx) (k : Fin 512) : S32x2048x512.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v1 (i : S32x2048x1024.Idx) (k : Fin 512) : S512x1024.Idx := fun a => match a with
  | ⟨0, _⟩ => ⟨k.val, k.isLt⟩
  | ⟨1, _⟩ => ⟨(i 2).val, (i 2).isLt⟩
/-- Stated at `F := Ideal`, where the host's `dot_general` is this sum; at a bit-exact instance it is an opaque function of its operands. -/
theorem val_main_v1_apply (x2 : Vec Ideal S32x2048x512 .f32) (x5 : Vec Ideal S512x1024 .f32) (i : S32x2048x1024.Idx) :
    val_main_v1 (F := Ideal) x2 x5 i = ∑ k : Fin 512, x2 (lidx_main_v1 i k) * x5 (ridx_main_v1 i k) := by
  unfold val_main_v1
  simp only [Host.dotGeneral]
  rw [Ideal.dotGeneral_apply, ← Equiv.sum_comp (ValueIdx.contrEquiv1 dot_S32x2048x512_S512x1024_S32x2048x1024_2_0_01_1_n_n 512 rfl rfl).symm]
  refine Finset.sum_congr rfl fun k _ => ?_
  have hk := ValueIdx.contrEquiv1_symm_val dot_S32x2048x512_S512x1024_S32x2048x1024_2_0_01_1_n_n 512 rfl rfl k
  have el : dot_S32x2048x512_S512x1024_S32x2048x1024_2_0_01_1_n_n.lhsIdx i ((ValueIdx.contrEquiv1 dot_S32x2048x512_S512x1024_S32x2048x1024_2_0_01_1_n_n 512 rfl rfl).symm k) = lidx_main_v1 i k := funext fun a => Fin.ext (by
    match a with
    | ⟨0, _⟩ => exact lhs_main_v1_0 _ _
    | ⟨1, _⟩ => exact lhs_main_v1_1 _ _
    | ⟨2, _⟩ => exact (lhs_main_v1_2 _ _).trans hk)
  have er : dot_S32x2048x512_S512x1024_S32x2048x1024_2_0_01_1_n_n.rhsIdx i ((ValueIdx.contrEquiv1 dot_S32x2048x512_S512x1024_S32x2048x1024_2_0_01_1_n_n 512 rfl rfl).symm k) = ridx_main_v1 i k := funext fun a => Fin.ext (by
    match a with
    | ⟨0, _⟩ => exact (rhs_main_v1_0 _ _).trans hk
    | ⟨1, _⟩ => exact rhs_main_v1_1 _ _)
  rw [el, er]

-- %2 = stablehlo.slice %arg3 [0:32, 0:2048, 0:1024] : (tensor<32x2048x2048xf32>) -> tensor<32x2048x1024xf32>
def val_main_v2 (x3 : Vec F S32x2048x2048 .f32) : Vec F S32x2048x1024 .f32 :=
  extractStridedSlice S32x2048x1024 ![0, 0, 0] (x3) slices_S32x2048x2048_S32x2048x1024_0_0_0
set_option backward.proofsInPublic true in
abbrev idx_main_v2 (i : S32x2048x1024.Idx) : S32x2048x2048.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1024 := (i 2).isLt; show (i 2).val < 2048; omega⟩
theorem val_main_v2_apply (x3 : Vec F S32x2048x2048 .f32) (i : S32x2048x1024.Idx) :
    val_main_v2 (F := F) x3 i = x3 (idx_main_v2 i) := by
  unfold val_main_v2
  exact extractStridedSlice_apply ![0, 0, 0] x3 slices_S32x2048x2048_S32x2048x1024_0_0_0 i (idx_main_v2 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %3 = stablehlo.slice %arg3 [0:32, 0:2048, 1024:2048] : (tensor<32x2048x2048xf32>) -> tensor<32x2048x1024xf32>
def val_main_v3 (x3 : Vec F S32x2048x2048 .f32) : Vec F S32x2048x1024 .f32 :=
  extractStridedSlice S32x2048x1024 ![0, 0, 1024] (x3) slices_S32x2048x2048_S32x2048x1024_0_0_1024
set_option backward.proofsInPublic true in
abbrev idx_main_v3 (i : S32x2048x1024.Idx) : S32x2048x2048.Idx := fun a => match a with
  | ⟨0, _⟩ => ⟨(i 0).val, (i 0).isLt⟩
  | ⟨1, _⟩ => ⟨(i 1).val, (i 1).isLt⟩
  | ⟨2, _⟩ => ⟨1024 + (i 2).val, by have h2 : (i 2).val < 1024 := (i 2).isLt; show 1024 + (i 2).val < 2048; omega⟩
theorem val_main_v3_apply (x3 : Vec F S32x2048x2048 .f32) (i : S32x2048x1024.Idx) :
    val_main_v3 (F := F) x3 i = x3 (idx_main_v3 i) := by
  unfold val_main_v3
  exact extractStridedSlice_apply ![0, 0, 1024] x3 slices_S32x2048x2048_S32x2048x1024_0_0_1024 i (idx_main_v3 i) (fun a => match a with
    | ⟨0, _⟩ => by show (i 0).val = 0 + (i 0).val; omega
    | ⟨1, _⟩ => by show (i 1).val = 0 + (i 1).val; omega
    | ⟨2, _⟩ => by show 1024 + (i 2).val = 1024 + (i 2).val; omega)

-- %4 = stablehlo.negate %2 : tensor<32x2048x1024xf32>
def val_main_v4 (x3 : Vec F S32x2048x2048 .f32) : Vec F S32x2048x1024 .f32 :=
  Host.negf (val_main_v2 (F := F) x3)
theorem val_main_v4_apply (x3 : Vec F S32x2048x2048 .f32) (i : S32x2048x1024.Idx) :
    val_main_v4 (F := F) x3 i = FloatOps.hostNegf (val_main_v2 (F := F) x3 i) := rfl

-- %5 = stablehlo.exponential %4 : tensor<32x2048x1024xf32>
def val_main_v5 (x3 : Vec F S32x2048x2048 .f32) : Vec F S32x2048x1024 .f32 :=
  Host.exp (val_main_v4 (F := F) x3)
theorem val_main_v5_apply (x3 : Vec F S32x2048x2048 .f32) (i : S32x2048x1024.Idx) :
    val_main_v5 (F := F) x3 i = FloatOps.hostUnary .exp (val_main_v4 (F := F) x3 i) := rfl

-- %cst = stablehlo.constant dense<1.000000e+00> : tensor<f32>
def val_main_cst : Vec F S_ .f32 :=
  constant S_ .f32 0x3F800000#32
theorem val_main_cst_apply (i : S_.Idx) :
    val_main_cst (F := F) i = FloatOps.ofBits .f32 0x3F800000#32 := rfl

-- %6 = stablehlo.broadcast_in_dim %cst, dims = [] : (tensor<f32>) -> tensor<32x2048x1024xf32>
def val_main_v6 : Vec F S32x2048x1024 .f32 :=
  broadcastInDim S32x2048x1024 ![] bcast_S_S32x2048x1024 (val_main_cst (F := F))
abbrev idx_main_v6 (i : S32x2048x1024.Idx) : S_.Idx := fun a => a.elim0
theorem val_main_v6_apply (i : S32x2048x1024.Idx) :
    val_main_v6 (F := F) i = val_main_cst (F := F) (idx_main_v6 i) := by
  unfold val_main_v6
  generalize val_main_cst (F := F) = y
  exact broadcastInDim_apply _ bcast_S_S32x2048x1024 y i (idx_main_v6 i) (fun a => a.elim0)

-- %7 = stablehlo.add %6, %5 : tensor<32x2048x1024xf32>
def val_main_v7 (x3 : Vec F S32x2048x2048 .f32) : Vec F S32x2048x1024 .f32 :=
  addf (val_main_v6 (F := F)) (val_main_v5 (F := F) x3)
theorem val_main_v7_apply (x3 : Vec F S32x2048x2048 .f32) (i : S32x2048x1024.Idx) :
    val_main_v7 (F := F) x3 i = FloatOps.addf (val_main_v6 (F := F) i) (val_main_v5 (F := F) x3 i) := rfl

-- %cst_0 = stablehlo.constant dense<1.000000e+00> : tensor<f32>
def val_main_cst_0 : Vec F S_ .f32 :=
  constant S_ .f32 0x3F800000#32
theorem val_main_cst_0_apply (i : S_.Idx) :
    val_main_cst_0 (F := F) i = FloatOps.ofBits .f32 0x3F800000#32 := rfl

-- %8 = stablehlo.broadcast_in_dim %cst_0, dims = [] : (tensor<f32>) -> tensor<32x2048x1024xf32>
def val_main_v8 : Vec F S32x2048x1024 .f32 :=
  broadcastInDim S32x2048x1024 ![] bcast_S_S32x2048x1024 (val_main_cst_0 (F := F))
abbrev idx_main_v8 (i : S32x2048x1024.Idx) : S_.Idx := fun a => a.elim0
theorem val_main_v8_apply (i : S32x2048x1024.Idx) :
    val_main_v8 (F := F) i = val_main_cst_0 (F := F) (idx_main_v8 i) := by
  unfold val_main_v8
  generalize val_main_cst_0 (F := F) = y
  exact broadcastInDim_apply _ bcast_S_S32x2048x1024 y i (idx_main_v8 i) (fun a => a.elim0)

-- %9 = stablehlo.divide %8, %7 : tensor<32x2048x1024xf32>
def val_main_v9 (x3 : Vec F S32x2048x2048 .f32) : Vec F S32x2048x1024 .f32 :=
  Host.divf (val_main_v8 (F := F)) (val_main_v7 (F := F) x3)
theorem val_main_v9_apply (x3 : Vec F S32x2048x2048 .f32) (i : S32x2048x1024.Idx) :
    val_main_v9 (F := F) x3 i = FloatOps.hostDivf (val_main_v8 (F := F) i) (val_main_v7 (F := F) x3 i) := rfl

-- %10 = stablehlo.multiply %9, %0 : tensor<32x2048x1024xf32>
def val_main_v10 (x1 : Vec F S32x2048x1024 .f32) (x3 : Vec F S32x2048x2048 .f32) (x4 : Vec F S1024x1024 .f32) : Vec F S32x2048x1024 .f32 :=
  mulf (val_main_v9 (F := F) x3) (val_main_v0 (F := F) x1 x4)
theorem val_main_v10_apply (x1 : Vec F S32x2048x1024 .f32) (x3 : Vec F S32x2048x2048 .f32) (x4 : Vec F S1024x1024 .f32) (i : S32x2048x1024.Idx) :
    val_main_v10 (F := F) x1 x3 x4 i = FloatOps.mulf (val_main_v9 (F := F) x3 i) (val_main_v0 (F := F) x1 x4 i) := rfl

-- %11 = stablehlo.negate %3 : tensor<32x2048x1024xf32>
def val_main_v11 (x3 : Vec F S32x2048x2048 .f32) : Vec F S32x2048x1024 .f32 :=
  Host.negf (val_main_v3 (F := F) x3)
theorem val_main_v11_apply (x3 : Vec F S32x2048x2048 .f32) (i : S32x2048x1024.Idx) :
    val_main_v11 (F := F) x3 i = FloatOps.hostNegf (val_main_v3 (F := F) x3 i) := rfl

-- %12 = stablehlo.exponential %11 : tensor<32x2048x1024xf32>
def val_main_v12 (x3 : Vec F S32x2048x2048 .f32) : Vec F S32x2048x1024 .f32 :=
  Host.exp (val_main_v11 (F := F) x3)
theorem val_main_v12_apply (x3 : Vec F S32x2048x2048 .f32) (i : S32x2048x1024.Idx) :
    val_main_v12 (F := F) x3 i = FloatOps.hostUnary .exp (val_main_v11 (F := F) x3 i) := rfl

-- %cst_1 = stablehlo.constant dense<1.000000e+00> : tensor<f32>
def val_main_cst_1 : Vec F S_ .f32 :=
  constant S_ .f32 0x3F800000#32
theorem val_main_cst_1_apply (i : S_.Idx) :
    val_main_cst_1 (F := F) i = FloatOps.ofBits .f32 0x3F800000#32 := rfl

-- %13 = stablehlo.broadcast_in_dim %cst_1, dims = [] : (tensor<f32>) -> tensor<32x2048x1024xf32>
def val_main_v13 : Vec F S32x2048x1024 .f32 :=
  broadcastInDim S32x2048x1024 ![] bcast_S_S32x2048x1024 (val_main_cst_1 (F := F))
abbrev idx_main_v13 (i : S32x2048x1024.Idx) : S_.Idx := fun a => a.elim0
theorem val_main_v13_apply (i : S32x2048x1024.Idx) :
    val_main_v13 (F := F) i = val_main_cst_1 (F := F) (idx_main_v13 i) := by
  unfold val_main_v13
  generalize val_main_cst_1 (F := F) = y
  exact broadcastInDim_apply _ bcast_S_S32x2048x1024 y i (idx_main_v13 i) (fun a => a.elim0)

-- %14 = stablehlo.add %13, %12 : tensor<32x2048x1024xf32>
def val_main_v14 (x3 : Vec F S32x2048x2048 .f32) : Vec F S32x2048x1024 .f32 :=
  addf (val_main_v13 (F := F)) (val_main_v12 (F := F) x3)
theorem val_main_v14_apply (x3 : Vec F S32x2048x2048 .f32) (i : S32x2048x1024.Idx) :
    val_main_v14 (F := F) x3 i = FloatOps.addf (val_main_v13 (F := F) i) (val_main_v12 (F := F) x3 i) := rfl

-- %cst_2 = stablehlo.constant dense<1.000000e+00> : tensor<f32>
def val_main_cst_2 : Vec F S_ .f32 :=
  constant S_ .f32 0x3F800000#32
theorem val_main_cst_2_apply (i : S_.Idx) :
    val_main_cst_2 (F := F) i = FloatOps.ofBits .f32 0x3F800000#32 := rfl

-- %15 = stablehlo.broadcast_in_dim %cst_2, dims = [] : (tensor<f32>) -> tensor<32x2048x1024xf32>
def val_main_v15 : Vec F S32x2048x1024 .f32 :=
  broadcastInDim S32x2048x1024 ![] bcast_S_S32x2048x1024 (val_main_cst_2 (F := F))
abbrev idx_main_v15 (i : S32x2048x1024.Idx) : S_.Idx := fun a => a.elim0
theorem val_main_v15_apply (i : S32x2048x1024.Idx) :
    val_main_v15 (F := F) i = val_main_cst_2 (F := F) (idx_main_v15 i) := by
  unfold val_main_v15
  generalize val_main_cst_2 (F := F) = y
  exact broadcastInDim_apply _ bcast_S_S32x2048x1024 y i (idx_main_v15 i) (fun a => a.elim0)

-- %16 = stablehlo.divide %15, %14 : tensor<32x2048x1024xf32>
def val_main_v16 (x3 : Vec F S32x2048x2048 .f32) : Vec F S32x2048x1024 .f32 :=
  Host.divf (val_main_v15 (F := F)) (val_main_v14 (F := F) x3)
theorem val_main_v16_apply (x3 : Vec F S32x2048x2048 .f32) (i : S32x2048x1024.Idx) :
    val_main_v16 (F := F) x3 i = FloatOps.hostDivf (val_main_v15 (F := F) i) (val_main_v14 (F := F) x3 i) := rfl

-- %17 = stablehlo.multiply %16, %1 : tensor<32x2048x1024xf32>
def val_main_v17 (x2 : Vec F S32x2048x512 .f32) (x3 : Vec F S32x2048x2048 .f32) (x5 : Vec F S512x1024 .f32) : Vec F S32x2048x1024 .f32 :=
  mulf (val_main_v16 (F := F) x3) (val_main_v1 (F := F) x2 x5)
theorem val_main_v17_apply (x2 : Vec F S32x2048x512 .f32) (x3 : Vec F S32x2048x2048 .f32) (x5 : Vec F S512x1024 .f32) (i : S32x2048x1024.Idx) :
    val_main_v17 (F := F) x2 x3 x5 i = FloatOps.mulf (val_main_v16 (F := F) x3 i) (val_main_v1 (F := F) x2 x5 i) := rfl

-- %18 = stablehlo.add %10, %17 : tensor<32x2048x1024xf32>
def val_main_v18 (x1 : Vec F S32x2048x1024 .f32) (x2 : Vec F S32x2048x512 .f32) (x3 : Vec F S32x2048x2048 .f32) (x4 : Vec F S1024x1024 .f32) (x5 : Vec F S512x1024 .f32) : Vec F S32x2048x1024 .f32 :=
  addf (val_main_v10 (F := F) x1 x3 x4) (val_main_v17 (F := F) x2 x3 x5)
theorem val_main_v18_apply (x1 : Vec F S32x2048x1024 .f32) (x2 : Vec F S32x2048x512 .f32) (x3 : Vec F S32x2048x2048 .f32) (x4 : Vec F S1024x1024 .f32) (x5 : Vec F S512x1024 .f32) (i : S32x2048x1024.Idx) :
    val_main_v18 (F := F) x1 x2 x3 x4 x5 i = FloatOps.addf (val_main_v10 (F := F) x1 x3 x4 i) (val_main_v17 (F := F) x2 x3 x5 i) := rfl

-- %19 = stablehlo.dot_general %18, %arg6, contracting_dims = [2] x [0], precision = [DEFAULT, DEFAULT] : (tensor<32x2048x1024xf32>, tensor<1024x1024xf32>) -> tensor<32x2048x1024xf32>
def val_main_v19 (x1 : Vec F S32x2048x1024 .f32) (x2 : Vec F S32x2048x512 .f32) (x3 : Vec F S32x2048x2048 .f32) (x4 : Vec F S1024x1024 .f32) (x5 : Vec F S512x1024 .f32) (x6 : Vec F S1024x1024 .f32) : Vec F S32x2048x1024 .f32 :=
  Host.dotGeneral dot_S32x2048x1024_S1024x1024_S32x2048x1024_2_0_01_1_n_n none (val_main_v18 (F := F) x1 x2 x3 x4 x5) (x6)
theorem lhs_main_v19_0 (i : S32x2048x1024.Idx) (q : dot_S32x2048x1024_S1024x1024_S32x2048x1024_2_0_01_1_n_n.contr.Idx) :
    (dot_S32x2048x1024_S1024x1024_S32x2048x1024_2_0_01_1_n_n.lhsIdx i q 0).val = (i 0).val := by
  unfold DotDims.lhsIdx
  rw [dif_neg (show ¬(0 : Fin S32x2048x1024.rank) ∈ dot_S32x2048x1024_S1024x1024_S32x2048x1024_2_0_01_1_n_n.lhsBatch by decide), dif_pos (show (0 : Fin S32x2048x1024.rank) ∈ dot_S32x2048x1024_S1024x1024_S32x2048x1024_2_0_01_1_n_n.lhsNonContracting by decide)]
  rfl
theorem lhs_main_v19_1 (i : S32x2048x1024.Idx) (q : dot_S32x2048x1024_S1024x1024_S32x2048x1024_2_0_01_1_n_n.contr.Idx) :
    (dot_S32x2048x1024_S1024x1024_S32x2048x1024_2_0_01_1_n_n.lhsIdx i q 1).val = (i 1).val := by
  unfold DotDims.lhsIdx
  rw [dif_neg (show ¬(1 : Fin S32x2048x1024.rank) ∈ dot_S32x2048x1024_S1024x1024_S32x2048x1024_2_0_01_1_n_n.lhsBatch by decide), dif_pos (show (1 : Fin S32x2048x1024.rank) ∈ dot_S32x2048x1024_S1024x1024_S32x2048x1024_2_0_01_1_n_n.lhsNonContracting by decide)]
  rfl
theorem lhs_main_v19_2 (i : S32x2048x1024.Idx) (q : dot_S32x2048x1024_S1024x1024_S32x2048x1024_2_0_01_1_n_n.contr.Idx) :
    (dot_S32x2048x1024_S1024x1024_S32x2048x1024_2_0_01_1_n_n.lhsIdx i q 2).val = (q ⟨0, by decide⟩).val :=
  dot_S32x2048x1024_S1024x1024_S32x2048x1024_2_0_01_1_n_n.lhsIdx_val_of_single rfl i q
theorem rhs_main_v19_0 (i : S32x2048x1024.Idx) (q : dot_S32x2048x1024_S1024x1024_S32x2048x1024_2_0_01_1_n_n.contr.Idx) :
    (dot_S32x2048x1024_S1024x1024_S32x2048x1024_2_0_01_1_n_n.rhsIdx i q 0).val = (q ⟨0, by decide⟩).val :=
  dot_S32x2048x1024_S1024x1024_S32x2048x1024_2_0_01_1_n_n.rhsIdx_val_of_single rfl i q
theorem rhs_main_v19_1 (i : S32x2048x1024.Idx) (q : dot_S32x2048x1024_S1024x1024_S32x2048x1024_2_0_01_1_n_n.contr.Idx) :
    (dot_S32x2048x1024_S1024x1024_S32x2048x1024_2_0_01_1_n_n.rhsIdx i q 1).val = (i 2).val := by
  unfold DotDims.rhsIdx
  rw [dif_neg (show ¬(1 : Fin S1024x1024.rank) ∈ dot_S32x2048x1024_S1024x1024_S32x2048x1024_2_0_01_1_n_n.rhsBatch by decide), dif_pos (show (1 : Fin S1024x1024.rank) ∈ dot_S32x2048x1024_S1024x1024_S32x2048x1024_2_0_01_1_n_n.rhsNonContracting by decide)]
  rfl
abbrev lidx_main_v19 (i : S32x2048x1024.Idx) (k : Fin 1024) : S32x2048x1024.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v19 (i : S32x2048x1024.Idx) (k : Fin 1024) : S1024x1024.Idx := fun a => match a with
  | ⟨0, _⟩ => ⟨k.val, k.isLt⟩
  | ⟨1, _⟩ => ⟨(i 2).val, (i 2).isLt⟩
/-- Stated at `F := Ideal`, where the host's `dot_general` is this sum; at a bit-exact instance it is an opaque function of its operands. -/
theorem val_main_v19_apply (x1 : Vec Ideal S32x2048x1024 .f32) (x2 : Vec Ideal S32x2048x512 .f32) (x3 : Vec Ideal S32x2048x2048 .f32) (x4 : Vec Ideal S1024x1024 .f32) (x5 : Vec Ideal S512x1024 .f32) (x6 : Vec Ideal S1024x1024 .f32) (i : S32x2048x1024.Idx) :
    val_main_v19 (F := Ideal) x1 x2 x3 x4 x5 x6 i = ∑ k : Fin 1024, (val_main_v18 (F := Ideal) x1 x2 x3 x4 x5) (lidx_main_v19 i k) * x6 (ridx_main_v19 i k) := by
  unfold val_main_v19
  generalize val_main_v18 (F := Ideal) x1 x2 x3 x4 x5 = y0
  simp only [Host.dotGeneral]
  rw [Ideal.dotGeneral_apply, ← Equiv.sum_comp (ValueIdx.contrEquiv1 dot_S32x2048x1024_S1024x1024_S32x2048x1024_2_0_01_1_n_n 1024 rfl rfl).symm]
  refine Finset.sum_congr rfl fun k _ => ?_
  have hk := ValueIdx.contrEquiv1_symm_val dot_S32x2048x1024_S1024x1024_S32x2048x1024_2_0_01_1_n_n 1024 rfl rfl k
  have el : dot_S32x2048x1024_S1024x1024_S32x2048x1024_2_0_01_1_n_n.lhsIdx i ((ValueIdx.contrEquiv1 dot_S32x2048x1024_S1024x1024_S32x2048x1024_2_0_01_1_n_n 1024 rfl rfl).symm k) = lidx_main_v19 i k := funext fun a => Fin.ext (by
    match a with
    | ⟨0, _⟩ => exact lhs_main_v19_0 _ _
    | ⟨1, _⟩ => exact lhs_main_v19_1 _ _
    | ⟨2, _⟩ => exact (lhs_main_v19_2 _ _).trans hk)
  have er : dot_S32x2048x1024_S1024x1024_S32x2048x1024_2_0_01_1_n_n.rhsIdx i ((ValueIdx.contrEquiv1 dot_S32x2048x1024_S1024x1024_S32x2048x1024_2_0_01_1_n_n 1024 rfl rfl).symm k) = ridx_main_v19 i k := funext fun a => Fin.ext (by
    match a with
    | ⟨0, _⟩ => exact (rhs_main_v19_0 _ _).trans hk
    | ⟨1, _⟩ => exact rhs_main_v19_1 _ _)
  rw [el, er]

-- %20 = stablehlo.multiply %19, %19 : tensor<32x2048x1024xf32>
def val_main_v20 (x1 : Vec F S32x2048x1024 .f32) (x2 : Vec F S32x2048x512 .f32) (x3 : Vec F S32x2048x2048 .f32) (x4 : Vec F S1024x1024 .f32) (x5 : Vec F S512x1024 .f32) (x6 : Vec F S1024x1024 .f32) : Vec F S32x2048x1024 .f32 :=
  mulf (val_main_v19 (F := F) x1 x2 x3 x4 x5 x6) (val_main_v19 (F := F) x1 x2 x3 x4 x5 x6)
theorem val_main_v20_apply (x1 : Vec F S32x2048x1024 .f32) (x2 : Vec F S32x2048x512 .f32) (x3 : Vec F S32x2048x2048 .f32) (x4 : Vec F S1024x1024 .f32) (x5 : Vec F S512x1024 .f32) (x6 : Vec F S1024x1024 .f32) (i : S32x2048x1024.Idx) :
    val_main_v20 (F := F) x1 x2 x3 x4 x5 x6 i = FloatOps.mulf (val_main_v19 (F := F) x1 x2 x3 x4 x5 x6 i) (val_main_v19 (F := F) x1 x2 x3 x4 x5 x6 i) := rfl

-- %cst_3 = stablehlo.constant dense<0.000000e+00> : tensor<f32>
def val_main_cst_3 : Vec F S_ .f32 :=
  constant S_ .f32 0x00000000#32
theorem val_main_cst_3_apply (i : S_.Idx) :
    val_main_cst_3 (F := F) i = FloatOps.ofBits .f32 0x00000000#32 := rfl

-- %21 = stablehlo.reduce(%20 init: %cst_3) applies stablehlo.add across dimensions = [2] : (tensor<32x2048x1024xf32>, tensor<f32>) -> tensor<32x2048xf32> {
def val_main_v21 (x1 : Vec F S32x2048x1024 .f32) (x2 : Vec F S32x2048x512 .f32) (x3 : Vec F S32x2048x2048 .f32) (x4 : Vec F S1024x1024 .f32) (x5 : Vec F S512x1024 .f32) (x6 : Vec F S1024x1024 .f32) : Vec F S32x2048 .f32 :=
  Host.reduceAdd (val_main_v20 (F := F) x1 x2 x3 x4 x5 x6) (val_main_cst_3 (F := F)) reducesTo_S32x2048x1024_S32x2048_d2 h_S_
abbrev idx_main_v21 (i : S32x2048.Idx) (k : Fin 1024) : S32x2048x1024.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v21_apply (x1 : Vec Ideal S32x2048x1024 .f32) (x2 : Vec Ideal S32x2048x512 .f32) (x3 : Vec Ideal S32x2048x2048 .f32) (x4 : Vec Ideal S1024x1024 .f32) (x5 : Vec Ideal S512x1024 .f32) (x6 : Vec Ideal S1024x1024 .f32) (i : S32x2048.Idx) :
    val_main_v21 (F := Ideal) x1 x2 x3 x4 x5 x6 i = (val_main_cst_3 (F := Ideal)) (Shape.Idx.first h_S_) + ∑ k : Fin 1024, (val_main_v20 (F := Ideal) x1 x2 x3 x4 x5 x6) (idx_main_v21 i k) := by
  unfold val_main_v21
  generalize val_main_v20 (F := Ideal) x1 x2 x3 x4 x5 x6 = y0
  simp only [Host.reduceAdd, Ideal.hostReduceAdd_def]
  rw [Ideal.hostReduceAdd_single reducesTo_S32x2048x1024_S32x2048_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %22 = stablehlo.broadcast_in_dim %21, dims = [0, 1] : (tensor<32x2048xf32>) -> tensor<32x2048x1xf32>
def val_main_v22 (x1 : Vec F S32x2048x1024 .f32) (x2 : Vec F S32x2048x512 .f32) (x3 : Vec F S32x2048x2048 .f32) (x4 : Vec F S1024x1024 .f32) (x5 : Vec F S512x1024 .f32) (x6 : Vec F S1024x1024 .f32) : Vec F S32x2048x1 .f32 :=
  broadcastInDim S32x2048x1 ![0, 1] bcast_S32x2048_S32x2048x1_0_1 (val_main_v21 (F := F) x1 x2 x3 x4 x5 x6)
abbrev idx_main_v22 (i : S32x2048x1.Idx) : S32x2048.Idx := fun a => match a with
  | ⟨0, _⟩ => ⟨(i 0).val, (i 0).isLt⟩
  | ⟨1, _⟩ => ⟨(i 1).val, (i 1).isLt⟩
theorem val_main_v22_apply (x1 : Vec F S32x2048x1024 .f32) (x2 : Vec F S32x2048x512 .f32) (x3 : Vec F S32x2048x2048 .f32) (x4 : Vec F S1024x1024 .f32) (x5 : Vec F S512x1024 .f32) (x6 : Vec F S1024x1024 .f32) (i : S32x2048x1.Idx) :
    val_main_v22 (F := F) x1 x2 x3 x4 x5 x6 i = val_main_v21 (F := F) x1 x2 x3 x4 x5 x6 (idx_main_v22 i) := by
  unfold val_main_v22
  generalize val_main_v21 (F := F) x1 x2 x3 x4 x5 x6 = y
  exact broadcastInDim_apply _ bcast_S32x2048_S32x2048x1_0_1 y i (idx_main_v22 i) (fun a => match a with
    | ⟨0, _⟩ => by show (i 0).val = if (32 : Nat) = 1 then 0 else (i 0).val; rw [if_neg (by decide)]
    | ⟨1, _⟩ => by show (i 1).val = if (2048 : Nat) = 1 then 0 else (i 1).val; rw [if_neg (by decide)])

-- %cst_4 = stablehlo.constant dense<1.024000e+03> : tensor<f32>
def val_main_cst_4 : Vec F S_ .f32 :=
  constant S_ .f32 0x44800000#32
theorem val_main_cst_4_apply (i : S_.Idx) :
    val_main_cst_4 (F := F) i = FloatOps.ofBits .f32 0x44800000#32 := rfl

-- %23 = stablehlo.broadcast_in_dim %cst_4, dims = [] : (tensor<f32>) -> tensor<32x2048x1xf32>
def val_main_v23 : Vec F S32x2048x1 .f32 :=
  broadcastInDim S32x2048x1 ![] bcast_S_S32x2048x1 (val_main_cst_4 (F := F))
abbrev idx_main_v23 (i : S32x2048x1.Idx) : S_.Idx := fun a => a.elim0
theorem val_main_v23_apply (i : S32x2048x1.Idx) :
    val_main_v23 (F := F) i = val_main_cst_4 (F := F) (idx_main_v23 i) := by
  unfold val_main_v23
  generalize val_main_cst_4 (F := F) = y
  exact broadcastInDim_apply _ bcast_S_S32x2048x1 y i (idx_main_v23 i) (fun a => a.elim0)

-- %24 = stablehlo.divide %22, %23 : tensor<32x2048x1xf32>
def val_main_v24 (x1 : Vec F S32x2048x1024 .f32) (x2 : Vec F S32x2048x512 .f32) (x3 : Vec F S32x2048x2048 .f32) (x4 : Vec F S1024x1024 .f32) (x5 : Vec F S512x1024 .f32) (x6 : Vec F S1024x1024 .f32) : Vec F S32x2048x1 .f32 :=
  Host.divf (val_main_v22 (F := F) x1 x2 x3 x4 x5 x6) (val_main_v23 (F := F))
theorem val_main_v24_apply (x1 : Vec F S32x2048x1024 .f32) (x2 : Vec F S32x2048x512 .f32) (x3 : Vec F S32x2048x2048 .f32) (x4 : Vec F S1024x1024 .f32) (x5 : Vec F S512x1024 .f32) (x6 : Vec F S1024x1024 .f32) (i : S32x2048x1.Idx) :
    val_main_v24 (F := F) x1 x2 x3 x4 x5 x6 i = FloatOps.hostDivf (val_main_v22 (F := F) x1 x2 x3 x4 x5 x6 i) (val_main_v23 (F := F) i) := rfl

-- %cst_5 = stablehlo.constant dense<9.99999997E-7> : tensor<f32>
def val_main_cst_5 : Vec F S_ .f32 :=
  constant S_ .f32 0x358637BD#32
theorem val_main_cst_5_apply (i : S_.Idx) :
    val_main_cst_5 (F := F) i = FloatOps.ofBits .f32 0x358637BD#32 := rfl

-- %25 = stablehlo.broadcast_in_dim %cst_5, dims = [] : (tensor<f32>) -> tensor<32x2048x1xf32>
def val_main_v25 : Vec F S32x2048x1 .f32 :=
  broadcastInDim S32x2048x1 ![] bcast_S_S32x2048x1 (val_main_cst_5 (F := F))
abbrev idx_main_v25 (i : S32x2048x1.Idx) : S_.Idx := fun a => a.elim0
theorem val_main_v25_apply (i : S32x2048x1.Idx) :
    val_main_v25 (F := F) i = val_main_cst_5 (F := F) (idx_main_v25 i) := by
  unfold val_main_v25
  generalize val_main_cst_5 (F := F) = y
  exact broadcastInDim_apply _ bcast_S_S32x2048x1 y i (idx_main_v25 i) (fun a => a.elim0)

-- %26 = stablehlo.add %24, %25 : tensor<32x2048x1xf32>
def val_main_v26 (x1 : Vec F S32x2048x1024 .f32) (x2 : Vec F S32x2048x512 .f32) (x3 : Vec F S32x2048x2048 .f32) (x4 : Vec F S1024x1024 .f32) (x5 : Vec F S512x1024 .f32) (x6 : Vec F S1024x1024 .f32) : Vec F S32x2048x1 .f32 :=
  addf (val_main_v24 (F := F) x1 x2 x3 x4 x5 x6) (val_main_v25 (F := F))
theorem val_main_v26_apply (x1 : Vec F S32x2048x1024 .f32) (x2 : Vec F S32x2048x512 .f32) (x3 : Vec F S32x2048x2048 .f32) (x4 : Vec F S1024x1024 .f32) (x5 : Vec F S512x1024 .f32) (x6 : Vec F S1024x1024 .f32) (i : S32x2048x1.Idx) :
    val_main_v26 (F := F) x1 x2 x3 x4 x5 x6 i = FloatOps.addf (val_main_v24 (F := F) x1 x2 x3 x4 x5 x6 i) (val_main_v25 (F := F) i) := rfl

-- %27 = stablehlo.rsqrt %26 : tensor<32x2048x1xf32>
def val_main_v27 (x1 : Vec F S32x2048x1024 .f32) (x2 : Vec F S32x2048x512 .f32) (x3 : Vec F S32x2048x2048 .f32) (x4 : Vec F S1024x1024 .f32) (x5 : Vec F S512x1024 .f32) (x6 : Vec F S1024x1024 .f32) : Vec F S32x2048x1 .f32 :=
  Host.rsqrt (val_main_v26 (F := F) x1 x2 x3 x4 x5 x6)
theorem val_main_v27_apply (x1 : Vec F S32x2048x1024 .f32) (x2 : Vec F S32x2048x512 .f32) (x3 : Vec F S32x2048x2048 .f32) (x4 : Vec F S1024x1024 .f32) (x5 : Vec F S512x1024 .f32) (x6 : Vec F S1024x1024 .f32) (i : S32x2048x1.Idx) :
    val_main_v27 (F := F) x1 x2 x3 x4 x5 x6 i = FloatOps.hostUnary .rsqrt (val_main_v26 (F := F) x1 x2 x3 x4 x5 x6 i) := rfl

-- %28 = stablehlo.broadcast_in_dim %27, dims = [0, 1, 2] : (tensor<32x2048x1xf32>) -> tensor<32x2048x1024xf32>
def val_main_v28 (x1 : Vec F S32x2048x1024 .f32) (x2 : Vec F S32x2048x512 .f32) (x3 : Vec F S32x2048x2048 .f32) (x4 : Vec F S1024x1024 .f32) (x5 : Vec F S512x1024 .f32) (x6 : Vec F S1024x1024 .f32) : Vec F S32x2048x1024 .f32 :=
  broadcastInDim S32x2048x1024 ![0, 1, 2] bcast_S32x2048x1_S32x2048x1024_0_1_2 (val_main_v27 (F := F) x1 x2 x3 x4 x5 x6)
abbrev idx_main_v28 (i : S32x2048x1024.Idx) : S32x2048x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v28_apply (x1 : Vec F S32x2048x1024 .f32) (x2 : Vec F S32x2048x512 .f32) (x3 : Vec F S32x2048x2048 .f32) (x4 : Vec F S1024x1024 .f32) (x5 : Vec F S512x1024 .f32) (x6 : Vec F S1024x1024 .f32) (i : S32x2048x1024.Idx) :
    val_main_v28 (F := F) x1 x2 x3 x4 x5 x6 i = val_main_v27 (F := F) x1 x2 x3 x4 x5 x6 (idx_main_v28 i) := by
  unfold val_main_v28
  generalize val_main_v27 (F := F) x1 x2 x3 x4 x5 x6 = y
  exact broadcastInDim_apply _ bcast_S32x2048x1_S32x2048x1024_0_1_2 y i (idx_main_v28 i) (fun a => match a with
    | ⟨0, _⟩ => by show (i 0).val = if (32 : Nat) = 1 then 0 else (i 0).val; rw [if_neg (by decide)]
    | ⟨1, _⟩ => by show (i 1).val = if (2048 : Nat) = 1 then 0 else (i 1).val; rw [if_neg (by decide)]
    | ⟨2, _⟩ => by show 0 = if (1 : Nat) = 1 then 0 else (i 2).val; rw [if_pos rfl])

-- %29 = stablehlo.multiply %19, %28 : tensor<32x2048x1024xf32>
def val_main_v29 (x1 : Vec F S32x2048x1024 .f32) (x2 : Vec F S32x2048x512 .f32) (x3 : Vec F S32x2048x2048 .f32) (x4 : Vec F S1024x1024 .f32) (x5 : Vec F S512x1024 .f32) (x6 : Vec F S1024x1024 .f32) : Vec F S32x2048x1024 .f32 :=
  mulf (val_main_v19 (F := F) x1 x2 x3 x4 x5 x6) (val_main_v28 (F := F) x1 x2 x3 x4 x5 x6)
theorem val_main_v29_apply (x1 : Vec F S32x2048x1024 .f32) (x2 : Vec F S32x2048x512 .f32) (x3 : Vec F S32x2048x2048 .f32) (x4 : Vec F S1024x1024 .f32) (x5 : Vec F S512x1024 .f32) (x6 : Vec F S1024x1024 .f32) (i : S32x2048x1024.Idx) :
    val_main_v29 (F := F) x1 x2 x3 x4 x5 x6 i = FloatOps.mulf (val_main_v19 (F := F) x1 x2 x3 x4 x5 x6 i) (val_main_v28 (F := F) x1 x2 x3 x4 x5 x6 i) := rfl

-- %30 = stablehlo.broadcast_in_dim %arg9, dims = [2] : (tensor<1024xf32>) -> tensor<1x1x1024xf32>
def val_main_v30 (x9 : Vec F S1024 .f32) : Vec F S1x1x1024 .f32 :=
  broadcastInDim S1x1x1024 ![2] bcast_S1024_S1x1x1024_2 (x9)
abbrev idx_main_v30 (i : S1x1x1024.Idx) : S1024.Idx := fun a => match a with
  | ⟨0, _⟩ => ⟨(i 2).val, (i 2).isLt⟩
theorem val_main_v30_apply (x9 : Vec F S1024 .f32) (i : S1x1x1024.Idx) :
    val_main_v30 (F := F) x9 i = x9 (idx_main_v30 i) := by
  unfold val_main_v30
  exact broadcastInDim_apply _ bcast_S1024_S1x1x1024_2 x9 i (idx_main_v30 i) (fun a => match a with
    | ⟨0, _⟩ => by show (i 2).val = if (1024 : Nat) = 1 then 0 else (i 2).val; rw [if_neg (by decide)])

-- %31 = stablehlo.broadcast_in_dim %30, dims = [0, 1, 2] : (tensor<1x1x1024xf32>) -> tensor<32x2048x1024xf32>
def val_main_v31 (x9 : Vec F S1024 .f32) : Vec F S32x2048x1024 .f32 :=
  broadcastInDim S32x2048x1024 ![0, 1, 2] bcast_S1x1x1024_S32x2048x1024_0_1_2 (val_main_v30 (F := F) x9)
abbrev idx_main_v31 (i : S32x2048x1024.Idx) : S1x1x1024.Idx := fun a => match a with
  | ⟨0, _⟩ => ⟨0, Nat.one_pos⟩
  | ⟨1, _⟩ => ⟨0, Nat.one_pos⟩
  | ⟨2, _⟩ => ⟨(i 2).val, (i 2).isLt⟩
theorem val_main_v31_apply (x9 : Vec F S1024 .f32) (i : S32x2048x1024.Idx) :
    val_main_v31 (F := F) x9 i = val_main_v30 (F := F) x9 (idx_main_v31 i) := by
  unfold val_main_v31
  generalize val_main_v30 (F := F) x9 = y
  exact broadcastInDim_apply _ bcast_S1x1x1024_S32x2048x1024_0_1_2 y i (idx_main_v31 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (1024 : Nat) = 1 then 0 else (i 2).val; rw [if_neg (by decide)])

-- %32 = stablehlo.multiply %29, %31 : tensor<32x2048x1024xf32>
def val_main_v32 (x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 : Vec F S1024 .f32) : Vec F S32x2048x1024 .f32 :=
  mulf (val_main_v29 (F := F) x1 x2 x3 x4 x5 x6) (val_main_v31 (F := F) x9)
theorem val_main_v32_apply (x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 : Vec F S1024 .f32) (i : S32x2048x1024.Idx) :
    val_main_v32 (F := F) x1 x2 x3 x4 x5 x6 x9 i = FloatOps.mulf (val_main_v29 (F := F) x1 x2 x3 x4 x5 x6 i) (val_main_v31 (F := F) x9 i) := rfl

-- %33 = stablehlo.add %arg0, %32 : tensor<32x2048x1024xf32>
def val_main_v33 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 : Vec F S1024 .f32) : Vec F S32x2048x1024 .f32 :=
  addf (x0) (val_main_v32 (F := F) x1 x2 x3 x4 x5 x6 x9)
theorem val_main_v33_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 : Vec F S1024 .f32) (i : S32x2048x1024.Idx) :
    val_main_v33 (F := F) x0 x1 x2 x3 x4 x5 x6 x9 i = FloatOps.addf (x0 i) (val_main_v32 (F := F) x1 x2 x3 x4 x5 x6 x9 i) := rfl

-- %34 = stablehlo.multiply %33, %33 : tensor<32x2048x1024xf32>
def val_main_v34 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 : Vec F S1024 .f32) : Vec F S32x2048x1024 .f32 :=
  mulf (val_main_v33 (F := F) x0 x1 x2 x3 x4 x5 x6 x9) (val_main_v33 (F := F) x0 x1 x2 x3 x4 x5 x6 x9)
theorem val_main_v34_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 : Vec F S1024 .f32) (i : S32x2048x1024.Idx) :
    val_main_v34 (F := F) x0 x1 x2 x3 x4 x5 x6 x9 i = FloatOps.mulf (val_main_v33 (F := F) x0 x1 x2 x3 x4 x5 x6 x9 i) (val_main_v33 (F := F) x0 x1 x2 x3 x4 x5 x6 x9 i) := rfl

-- %cst_6 = stablehlo.constant dense<0.000000e+00> : tensor<f32>
def val_main_cst_6 : Vec F S_ .f32 :=
  constant S_ .f32 0x00000000#32
theorem val_main_cst_6_apply (i : S_.Idx) :
    val_main_cst_6 (F := F) i = FloatOps.ofBits .f32 0x00000000#32 := rfl

-- %35 = stablehlo.reduce(%34 init: %cst_6) applies stablehlo.add across dimensions = [2] : (tensor<32x2048x1024xf32>, tensor<f32>) -> tensor<32x2048xf32> {
def val_main_v35 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 : Vec F S1024 .f32) : Vec F S32x2048 .f32 :=
  Host.reduceAdd (val_main_v34 (F := F) x0 x1 x2 x3 x4 x5 x6 x9) (val_main_cst_6 (F := F)) reducesTo_S32x2048x1024_S32x2048_d2 h_S_
abbrev idx_main_v35 (i : S32x2048.Idx) (k : Fin 1024) : S32x2048x1024.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v35_apply (x0 x1 : Vec Ideal S32x2048x1024 .f32) (x2 : Vec Ideal S32x2048x512 .f32) (x3 : Vec Ideal S32x2048x2048 .f32) (x4 : Vec Ideal S1024x1024 .f32) (x5 : Vec Ideal S512x1024 .f32) (x6 : Vec Ideal S1024x1024 .f32) (x9 : Vec Ideal S1024 .f32) (i : S32x2048.Idx) :
    val_main_v35 (F := Ideal) x0 x1 x2 x3 x4 x5 x6 x9 i = (val_main_cst_6 (F := Ideal)) (Shape.Idx.first h_S_) + ∑ k : Fin 1024, (val_main_v34 (F := Ideal) x0 x1 x2 x3 x4 x5 x6 x9) (idx_main_v35 i k) := by
  unfold val_main_v35
  generalize val_main_v34 (F := Ideal) x0 x1 x2 x3 x4 x5 x6 x9 = y0
  simp only [Host.reduceAdd, Ideal.hostReduceAdd_def]
  rw [Ideal.hostReduceAdd_single reducesTo_S32x2048x1024_S32x2048_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %36 = stablehlo.broadcast_in_dim %35, dims = [0, 1] : (tensor<32x2048xf32>) -> tensor<32x2048x1xf32>
def val_main_v36 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 : Vec F S1024 .f32) : Vec F S32x2048x1 .f32 :=
  broadcastInDim S32x2048x1 ![0, 1] bcast_S32x2048_S32x2048x1_0_1 (val_main_v35 (F := F) x0 x1 x2 x3 x4 x5 x6 x9)
abbrev idx_main_v36 (i : S32x2048x1.Idx) : S32x2048.Idx := fun a => match a with
  | ⟨0, _⟩ => ⟨(i 0).val, (i 0).isLt⟩
  | ⟨1, _⟩ => ⟨(i 1).val, (i 1).isLt⟩
theorem val_main_v36_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 : Vec F S1024 .f32) (i : S32x2048x1.Idx) :
    val_main_v36 (F := F) x0 x1 x2 x3 x4 x5 x6 x9 i = val_main_v35 (F := F) x0 x1 x2 x3 x4 x5 x6 x9 (idx_main_v36 i) := by
  unfold val_main_v36
  generalize val_main_v35 (F := F) x0 x1 x2 x3 x4 x5 x6 x9 = y
  exact broadcastInDim_apply _ bcast_S32x2048_S32x2048x1_0_1 y i (idx_main_v36 i) (fun a => match a with
    | ⟨0, _⟩ => by show (i 0).val = if (32 : Nat) = 1 then 0 else (i 0).val; rw [if_neg (by decide)]
    | ⟨1, _⟩ => by show (i 1).val = if (2048 : Nat) = 1 then 0 else (i 1).val; rw [if_neg (by decide)])

-- %cst_7 = stablehlo.constant dense<1.024000e+03> : tensor<f32>
def val_main_cst_7 : Vec F S_ .f32 :=
  constant S_ .f32 0x44800000#32
theorem val_main_cst_7_apply (i : S_.Idx) :
    val_main_cst_7 (F := F) i = FloatOps.ofBits .f32 0x44800000#32 := rfl

-- %37 = stablehlo.broadcast_in_dim %cst_7, dims = [] : (tensor<f32>) -> tensor<32x2048x1xf32>
def val_main_v37 : Vec F S32x2048x1 .f32 :=
  broadcastInDim S32x2048x1 ![] bcast_S_S32x2048x1 (val_main_cst_7 (F := F))
abbrev idx_main_v37 (i : S32x2048x1.Idx) : S_.Idx := fun a => a.elim0
theorem val_main_v37_apply (i : S32x2048x1.Idx) :
    val_main_v37 (F := F) i = val_main_cst_7 (F := F) (idx_main_v37 i) := by
  unfold val_main_v37
  generalize val_main_cst_7 (F := F) = y
  exact broadcastInDim_apply _ bcast_S_S32x2048x1 y i (idx_main_v37 i) (fun a => a.elim0)

-- %38 = stablehlo.divide %36, %37 : tensor<32x2048x1xf32>
def val_main_v38 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 : Vec F S1024 .f32) : Vec F S32x2048x1 .f32 :=
  Host.divf (val_main_v36 (F := F) x0 x1 x2 x3 x4 x5 x6 x9) (val_main_v37 (F := F))
theorem val_main_v38_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 : Vec F S1024 .f32) (i : S32x2048x1.Idx) :
    val_main_v38 (F := F) x0 x1 x2 x3 x4 x5 x6 x9 i = FloatOps.hostDivf (val_main_v36 (F := F) x0 x1 x2 x3 x4 x5 x6 x9 i) (val_main_v37 (F := F) i) := rfl

-- %cst_8 = stablehlo.constant dense<9.99999997E-7> : tensor<f32>
def val_main_cst_8 : Vec F S_ .f32 :=
  constant S_ .f32 0x358637BD#32
theorem val_main_cst_8_apply (i : S_.Idx) :
    val_main_cst_8 (F := F) i = FloatOps.ofBits .f32 0x358637BD#32 := rfl

-- %39 = stablehlo.broadcast_in_dim %cst_8, dims = [] : (tensor<f32>) -> tensor<32x2048x1xf32>
def val_main_v39 : Vec F S32x2048x1 .f32 :=
  broadcastInDim S32x2048x1 ![] bcast_S_S32x2048x1 (val_main_cst_8 (F := F))
abbrev idx_main_v39 (i : S32x2048x1.Idx) : S_.Idx := fun a => a.elim0
theorem val_main_v39_apply (i : S32x2048x1.Idx) :
    val_main_v39 (F := F) i = val_main_cst_8 (F := F) (idx_main_v39 i) := by
  unfold val_main_v39
  generalize val_main_cst_8 (F := F) = y
  exact broadcastInDim_apply _ bcast_S_S32x2048x1 y i (idx_main_v39 i) (fun a => a.elim0)

-- %40 = stablehlo.add %38, %39 : tensor<32x2048x1xf32>
def val_main_v40 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 : Vec F S1024 .f32) : Vec F S32x2048x1 .f32 :=
  addf (val_main_v38 (F := F) x0 x1 x2 x3 x4 x5 x6 x9) (val_main_v39 (F := F))
theorem val_main_v40_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 : Vec F S1024 .f32) (i : S32x2048x1.Idx) :
    val_main_v40 (F := F) x0 x1 x2 x3 x4 x5 x6 x9 i = FloatOps.addf (val_main_v38 (F := F) x0 x1 x2 x3 x4 x5 x6 x9 i) (val_main_v39 (F := F) i) := rfl

-- %41 = stablehlo.rsqrt %40 : tensor<32x2048x1xf32>
def val_main_v41 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 : Vec F S1024 .f32) : Vec F S32x2048x1 .f32 :=
  Host.rsqrt (val_main_v40 (F := F) x0 x1 x2 x3 x4 x5 x6 x9)
theorem val_main_v41_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 : Vec F S1024 .f32) (i : S32x2048x1.Idx) :
    val_main_v41 (F := F) x0 x1 x2 x3 x4 x5 x6 x9 i = FloatOps.hostUnary .rsqrt (val_main_v40 (F := F) x0 x1 x2 x3 x4 x5 x6 x9 i) := rfl

-- %42 = stablehlo.broadcast_in_dim %41, dims = [0, 1, 2] : (tensor<32x2048x1xf32>) -> tensor<32x2048x1024xf32>
def val_main_v42 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 : Vec F S1024 .f32) : Vec F S32x2048x1024 .f32 :=
  broadcastInDim S32x2048x1024 ![0, 1, 2] bcast_S32x2048x1_S32x2048x1024_0_1_2 (val_main_v41 (F := F) x0 x1 x2 x3 x4 x5 x6 x9)
abbrev idx_main_v42 (i : S32x2048x1024.Idx) : S32x2048x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v42_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 : Vec F S1024 .f32) (i : S32x2048x1024.Idx) :
    val_main_v42 (F := F) x0 x1 x2 x3 x4 x5 x6 x9 i = val_main_v41 (F := F) x0 x1 x2 x3 x4 x5 x6 x9 (idx_main_v42 i) := by
  unfold val_main_v42
  generalize val_main_v41 (F := F) x0 x1 x2 x3 x4 x5 x6 x9 = y
  exact broadcastInDim_apply _ bcast_S32x2048x1_S32x2048x1024_0_1_2 y i (idx_main_v42 i) (fun a => match a with
    | ⟨0, _⟩ => by show (i 0).val = if (32 : Nat) = 1 then 0 else (i 0).val; rw [if_neg (by decide)]
    | ⟨1, _⟩ => by show (i 1).val = if (2048 : Nat) = 1 then 0 else (i 1).val; rw [if_neg (by decide)]
    | ⟨2, _⟩ => by show 0 = if (1 : Nat) = 1 then 0 else (i 2).val; rw [if_pos rfl])

-- %43 = stablehlo.multiply %33, %42 : tensor<32x2048x1024xf32>
def val_main_v43 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 : Vec F S1024 .f32) : Vec F S32x2048x1024 .f32 :=
  mulf (val_main_v33 (F := F) x0 x1 x2 x3 x4 x5 x6 x9) (val_main_v42 (F := F) x0 x1 x2 x3 x4 x5 x6 x9)
theorem val_main_v43_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 : Vec F S1024 .f32) (i : S32x2048x1024.Idx) :
    val_main_v43 (F := F) x0 x1 x2 x3 x4 x5 x6 x9 i = FloatOps.mulf (val_main_v33 (F := F) x0 x1 x2 x3 x4 x5 x6 x9 i) (val_main_v42 (F := F) x0 x1 x2 x3 x4 x5 x6 x9 i) := rfl

-- %44 = stablehlo.broadcast_in_dim %arg10, dims = [2] : (tensor<1024xf32>) -> tensor<1x1x1024xf32>
def val_main_v44 (x10 : Vec F S1024 .f32) : Vec F S1x1x1024 .f32 :=
  broadcastInDim S1x1x1024 ![2] bcast_S1024_S1x1x1024_2 (x10)
abbrev idx_main_v44 (i : S1x1x1024.Idx) : S1024.Idx := fun a => match a with
  | ⟨0, _⟩ => ⟨(i 2).val, (i 2).isLt⟩
theorem val_main_v44_apply (x10 : Vec F S1024 .f32) (i : S1x1x1024.Idx) :
    val_main_v44 (F := F) x10 i = x10 (idx_main_v44 i) := by
  unfold val_main_v44
  exact broadcastInDim_apply _ bcast_S1024_S1x1x1024_2 x10 i (idx_main_v44 i) (fun a => match a with
    | ⟨0, _⟩ => by show (i 2).val = if (1024 : Nat) = 1 then 0 else (i 2).val; rw [if_neg (by decide)])

-- %45 = stablehlo.broadcast_in_dim %44, dims = [0, 1, 2] : (tensor<1x1x1024xf32>) -> tensor<32x2048x1024xf32>
def val_main_v45 (x10 : Vec F S1024 .f32) : Vec F S32x2048x1024 .f32 :=
  broadcastInDim S32x2048x1024 ![0, 1, 2] bcast_S1x1x1024_S32x2048x1024_0_1_2 (val_main_v44 (F := F) x10)
abbrev idx_main_v45 (i : S32x2048x1024.Idx) : S1x1x1024.Idx := fun a => match a with
  | ⟨0, _⟩ => ⟨0, Nat.one_pos⟩
  | ⟨1, _⟩ => ⟨0, Nat.one_pos⟩
  | ⟨2, _⟩ => ⟨(i 2).val, (i 2).isLt⟩
theorem val_main_v45_apply (x10 : Vec F S1024 .f32) (i : S32x2048x1024.Idx) :
    val_main_v45 (F := F) x10 i = val_main_v44 (F := F) x10 (idx_main_v45 i) := by
  unfold val_main_v45
  generalize val_main_v44 (F := F) x10 = y
  exact broadcastInDim_apply _ bcast_S1x1x1024_S32x2048x1024_0_1_2 y i (idx_main_v45 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (1024 : Nat) = 1 then 0 else (i 2).val; rw [if_neg (by decide)])

-- %46 = stablehlo.multiply %43, %45 : tensor<32x2048x1024xf32>
def val_main_v46 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 x10 : Vec F S1024 .f32) : Vec F S32x2048x1024 .f32 :=
  mulf (val_main_v43 (F := F) x0 x1 x2 x3 x4 x5 x6 x9) (val_main_v45 (F := F) x10)
theorem val_main_v46_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x9 x10 : Vec F S1024 .f32) (i : S32x2048x1024.Idx) :
    val_main_v46 (F := F) x0 x1 x2 x3 x4 x5 x6 x9 x10 i = FloatOps.mulf (val_main_v43 (F := F) x0 x1 x2 x3 x4 x5 x6 x9 i) (val_main_v45 (F := F) x10 i) := rfl

-- %47 = stablehlo.dot_general %46, %arg7, contracting_dims = [2] x [0], precision = [DEFAULT, DEFAULT] : (tensor<32x2048x1024xf32>, tensor<1024x4096xf32>) -> tensor<32x2048x4096xf32>
def val_main_v47 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x9 x10 : Vec F S1024 .f32) : Vec F S32x2048x4096 .f32 :=
  Host.dotGeneral dot_S32x2048x1024_S1024x4096_S32x2048x4096_2_0_01_1_n_n none (val_main_v46 (F := F) x0 x1 x2 x3 x4 x5 x6 x9 x10) (x7)
theorem lhs_main_v47_0 (i : S32x2048x4096.Idx) (q : dot_S32x2048x1024_S1024x4096_S32x2048x4096_2_0_01_1_n_n.contr.Idx) :
    (dot_S32x2048x1024_S1024x4096_S32x2048x4096_2_0_01_1_n_n.lhsIdx i q 0).val = (i 0).val := by
  unfold DotDims.lhsIdx
  rw [dif_neg (show ¬(0 : Fin S32x2048x1024.rank) ∈ dot_S32x2048x1024_S1024x4096_S32x2048x4096_2_0_01_1_n_n.lhsBatch by decide), dif_pos (show (0 : Fin S32x2048x1024.rank) ∈ dot_S32x2048x1024_S1024x4096_S32x2048x4096_2_0_01_1_n_n.lhsNonContracting by decide)]
  rfl
theorem lhs_main_v47_1 (i : S32x2048x4096.Idx) (q : dot_S32x2048x1024_S1024x4096_S32x2048x4096_2_0_01_1_n_n.contr.Idx) :
    (dot_S32x2048x1024_S1024x4096_S32x2048x4096_2_0_01_1_n_n.lhsIdx i q 1).val = (i 1).val := by
  unfold DotDims.lhsIdx
  rw [dif_neg (show ¬(1 : Fin S32x2048x1024.rank) ∈ dot_S32x2048x1024_S1024x4096_S32x2048x4096_2_0_01_1_n_n.lhsBatch by decide), dif_pos (show (1 : Fin S32x2048x1024.rank) ∈ dot_S32x2048x1024_S1024x4096_S32x2048x4096_2_0_01_1_n_n.lhsNonContracting by decide)]
  rfl
theorem lhs_main_v47_2 (i : S32x2048x4096.Idx) (q : dot_S32x2048x1024_S1024x4096_S32x2048x4096_2_0_01_1_n_n.contr.Idx) :
    (dot_S32x2048x1024_S1024x4096_S32x2048x4096_2_0_01_1_n_n.lhsIdx i q 2).val = (q ⟨0, by decide⟩).val :=
  dot_S32x2048x1024_S1024x4096_S32x2048x4096_2_0_01_1_n_n.lhsIdx_val_of_single rfl i q
theorem rhs_main_v47_0 (i : S32x2048x4096.Idx) (q : dot_S32x2048x1024_S1024x4096_S32x2048x4096_2_0_01_1_n_n.contr.Idx) :
    (dot_S32x2048x1024_S1024x4096_S32x2048x4096_2_0_01_1_n_n.rhsIdx i q 0).val = (q ⟨0, by decide⟩).val :=
  dot_S32x2048x1024_S1024x4096_S32x2048x4096_2_0_01_1_n_n.rhsIdx_val_of_single rfl i q
theorem rhs_main_v47_1 (i : S32x2048x4096.Idx) (q : dot_S32x2048x1024_S1024x4096_S32x2048x4096_2_0_01_1_n_n.contr.Idx) :
    (dot_S32x2048x1024_S1024x4096_S32x2048x4096_2_0_01_1_n_n.rhsIdx i q 1).val = (i 2).val := by
  unfold DotDims.rhsIdx
  rw [dif_neg (show ¬(1 : Fin S1024x4096.rank) ∈ dot_S32x2048x1024_S1024x4096_S32x2048x4096_2_0_01_1_n_n.rhsBatch by decide), dif_pos (show (1 : Fin S1024x4096.rank) ∈ dot_S32x2048x1024_S1024x4096_S32x2048x4096_2_0_01_1_n_n.rhsNonContracting by decide)]
  rfl
abbrev lidx_main_v47 (i : S32x2048x4096.Idx) (k : Fin 1024) : S32x2048x1024.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v47 (i : S32x2048x4096.Idx) (k : Fin 1024) : S1024x4096.Idx := fun a => match a with
  | ⟨0, _⟩ => ⟨k.val, k.isLt⟩
  | ⟨1, _⟩ => ⟨(i 2).val, (i 2).isLt⟩
/-- Stated at `F := Ideal`, where the host's `dot_general` is this sum; at a bit-exact instance it is an opaque function of its operands. -/
theorem val_main_v47_apply (x0 x1 : Vec Ideal S32x2048x1024 .f32) (x2 : Vec Ideal S32x2048x512 .f32) (x3 : Vec Ideal S32x2048x2048 .f32) (x4 : Vec Ideal S1024x1024 .f32) (x5 : Vec Ideal S512x1024 .f32) (x6 : Vec Ideal S1024x1024 .f32) (x7 : Vec Ideal S1024x4096 .f32) (x9 x10 : Vec Ideal S1024 .f32) (i : S32x2048x4096.Idx) :
    val_main_v47 (F := Ideal) x0 x1 x2 x3 x4 x5 x6 x7 x9 x10 i = ∑ k : Fin 1024, (val_main_v46 (F := Ideal) x0 x1 x2 x3 x4 x5 x6 x9 x10) (lidx_main_v47 i k) * x7 (ridx_main_v47 i k) := by
  unfold val_main_v47
  generalize val_main_v46 (F := Ideal) x0 x1 x2 x3 x4 x5 x6 x9 x10 = y0
  simp only [Host.dotGeneral]
  rw [Ideal.dotGeneral_apply, ← Equiv.sum_comp (ValueIdx.contrEquiv1 dot_S32x2048x1024_S1024x4096_S32x2048x4096_2_0_01_1_n_n 1024 rfl rfl).symm]
  refine Finset.sum_congr rfl fun k _ => ?_
  have hk := ValueIdx.contrEquiv1_symm_val dot_S32x2048x1024_S1024x4096_S32x2048x4096_2_0_01_1_n_n 1024 rfl rfl k
  have el : dot_S32x2048x1024_S1024x4096_S32x2048x4096_2_0_01_1_n_n.lhsIdx i ((ValueIdx.contrEquiv1 dot_S32x2048x1024_S1024x4096_S32x2048x4096_2_0_01_1_n_n 1024 rfl rfl).symm k) = lidx_main_v47 i k := funext fun a => Fin.ext (by
    match a with
    | ⟨0, _⟩ => exact lhs_main_v47_0 _ _
    | ⟨1, _⟩ => exact lhs_main_v47_1 _ _
    | ⟨2, _⟩ => exact (lhs_main_v47_2 _ _).trans hk)
  have er : dot_S32x2048x1024_S1024x4096_S32x2048x4096_2_0_01_1_n_n.rhsIdx i ((ValueIdx.contrEquiv1 dot_S32x2048x1024_S1024x4096_S32x2048x4096_2_0_01_1_n_n 1024 rfl rfl).symm k) = ridx_main_v47 i k := funext fun a => Fin.ext (by
    match a with
    | ⟨0, _⟩ => exact (rhs_main_v47_0 _ _).trans hk
    | ⟨1, _⟩ => exact rhs_main_v47_1 _ _)
  rw [el, er]

-- @relu's %cst = stablehlo.constant dense<0.000000e+00> : tensor<f32>, in %48 = func.call @relu(…) (record main_call0)
def val_main_call0_cst : Vec F S_ .f32 :=
  constant S_ .f32 0x00000000#32
theorem val_main_call0_cst_apply (i : S_.Idx) :
    val_main_call0_cst (F := F) i = FloatOps.ofBits .f32 0x00000000#32 := rfl

-- @relu's %0 = stablehlo.broadcast_in_dim %cst, dims = [] : (tensor<f32>) -> tensor<32x2048x4096xf32>, in %48 = func.call @relu(…) (record main_call0)
def val_main_call0_v0 : Vec F S32x2048x4096 .f32 :=
  broadcastInDim S32x2048x4096 ![] bcast_S_S32x2048x4096 (val_main_call0_cst (F := F))
abbrev idx_main_call0_v0 (i : S32x2048x4096.Idx) : S_.Idx := fun a => a.elim0
theorem val_main_call0_v0_apply (i : S32x2048x4096.Idx) :
    val_main_call0_v0 (F := F) i = val_main_call0_cst (F := F) (idx_main_call0_v0 i) := by
  unfold val_main_call0_v0
  generalize val_main_call0_cst (F := F) = y
  exact broadcastInDim_apply _ bcast_S_S32x2048x4096 y i (idx_main_call0_v0 i) (fun a => a.elim0)

-- %48 = func.call @relu(…) (record main_call0) result 0: @relu's %1 = stablehlo.maximum %arg0, %0 : tensor<32x2048x4096xf32>
def val_main_v48 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x9 x10 : Vec F S1024 .f32) : Vec F S32x2048x4096 .f32 :=
  maximumf (val_main_v47 (F := F) x0 x1 x2 x3 x4 x5 x6 x7 x9 x10) (val_main_call0_v0 (F := F))
theorem val_main_v48_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x9 x10 : Vec F S1024 .f32) (i : S32x2048x4096.Idx) :
    val_main_v48 (F := F) x0 x1 x2 x3 x4 x5 x6 x7 x9 x10 i = FloatOps.maximumf (val_main_v47 (F := F) x0 x1 x2 x3 x4 x5 x6 x7 x9 x10 i) (val_main_call0_v0 (F := F) i) := rfl

-- %49 = stablehlo.multiply %48, %48 : tensor<32x2048x4096xf32>
def val_main_v49 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x9 x10 : Vec F S1024 .f32) : Vec F S32x2048x4096 .f32 :=
  mulf (val_main_v48 (F := F) x0 x1 x2 x3 x4 x5 x6 x7 x9 x10) (val_main_v48 (F := F) x0 x1 x2 x3 x4 x5 x6 x7 x9 x10)
theorem val_main_v49_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x9 x10 : Vec F S1024 .f32) (i : S32x2048x4096.Idx) :
    val_main_v49 (F := F) x0 x1 x2 x3 x4 x5 x6 x7 x9 x10 i = FloatOps.mulf (val_main_v48 (F := F) x0 x1 x2 x3 x4 x5 x6 x7 x9 x10 i) (val_main_v48 (F := F) x0 x1 x2 x3 x4 x5 x6 x7 x9 x10 i) := rfl

-- %50 = stablehlo.dot_general %49, %arg8, contracting_dims = [2] x [0], precision = [DEFAULT, DEFAULT] : (tensor<32x2048x4096xf32>, tensor<4096x1024xf32>) -> tensor<32x2048x1024xf32>
def val_main_v50 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 : Vec F S1024 .f32) : Vec F S32x2048x1024 .f32 :=
  Host.dotGeneral dot_S32x2048x4096_S4096x1024_S32x2048x1024_2_0_01_1_n_n none (val_main_v49 (F := F) x0 x1 x2 x3 x4 x5 x6 x7 x9 x10) (x8)
theorem lhs_main_v50_0 (i : S32x2048x1024.Idx) (q : dot_S32x2048x4096_S4096x1024_S32x2048x1024_2_0_01_1_n_n.contr.Idx) :
    (dot_S32x2048x4096_S4096x1024_S32x2048x1024_2_0_01_1_n_n.lhsIdx i q 0).val = (i 0).val := by
  unfold DotDims.lhsIdx
  rw [dif_neg (show ¬(0 : Fin S32x2048x4096.rank) ∈ dot_S32x2048x4096_S4096x1024_S32x2048x1024_2_0_01_1_n_n.lhsBatch by decide), dif_pos (show (0 : Fin S32x2048x4096.rank) ∈ dot_S32x2048x4096_S4096x1024_S32x2048x1024_2_0_01_1_n_n.lhsNonContracting by decide)]
  rfl
theorem lhs_main_v50_1 (i : S32x2048x1024.Idx) (q : dot_S32x2048x4096_S4096x1024_S32x2048x1024_2_0_01_1_n_n.contr.Idx) :
    (dot_S32x2048x4096_S4096x1024_S32x2048x1024_2_0_01_1_n_n.lhsIdx i q 1).val = (i 1).val := by
  unfold DotDims.lhsIdx
  rw [dif_neg (show ¬(1 : Fin S32x2048x4096.rank) ∈ dot_S32x2048x4096_S4096x1024_S32x2048x1024_2_0_01_1_n_n.lhsBatch by decide), dif_pos (show (1 : Fin S32x2048x4096.rank) ∈ dot_S32x2048x4096_S4096x1024_S32x2048x1024_2_0_01_1_n_n.lhsNonContracting by decide)]
  rfl
theorem lhs_main_v50_2 (i : S32x2048x1024.Idx) (q : dot_S32x2048x4096_S4096x1024_S32x2048x1024_2_0_01_1_n_n.contr.Idx) :
    (dot_S32x2048x4096_S4096x1024_S32x2048x1024_2_0_01_1_n_n.lhsIdx i q 2).val = (q ⟨0, by decide⟩).val :=
  dot_S32x2048x4096_S4096x1024_S32x2048x1024_2_0_01_1_n_n.lhsIdx_val_of_single rfl i q
theorem rhs_main_v50_0 (i : S32x2048x1024.Idx) (q : dot_S32x2048x4096_S4096x1024_S32x2048x1024_2_0_01_1_n_n.contr.Idx) :
    (dot_S32x2048x4096_S4096x1024_S32x2048x1024_2_0_01_1_n_n.rhsIdx i q 0).val = (q ⟨0, by decide⟩).val :=
  dot_S32x2048x4096_S4096x1024_S32x2048x1024_2_0_01_1_n_n.rhsIdx_val_of_single rfl i q
theorem rhs_main_v50_1 (i : S32x2048x1024.Idx) (q : dot_S32x2048x4096_S4096x1024_S32x2048x1024_2_0_01_1_n_n.contr.Idx) :
    (dot_S32x2048x4096_S4096x1024_S32x2048x1024_2_0_01_1_n_n.rhsIdx i q 1).val = (i 2).val := by
  unfold DotDims.rhsIdx
  rw [dif_neg (show ¬(1 : Fin S4096x1024.rank) ∈ dot_S32x2048x4096_S4096x1024_S32x2048x1024_2_0_01_1_n_n.rhsBatch by decide), dif_pos (show (1 : Fin S4096x1024.rank) ∈ dot_S32x2048x4096_S4096x1024_S32x2048x1024_2_0_01_1_n_n.rhsNonContracting by decide)]
  rfl
abbrev lidx_main_v50 (i : S32x2048x1024.Idx) (k : Fin 4096) : S32x2048x4096.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v50 (i : S32x2048x1024.Idx) (k : Fin 4096) : S4096x1024.Idx := fun a => match a with
  | ⟨0, _⟩ => ⟨k.val, k.isLt⟩
  | ⟨1, _⟩ => ⟨(i 2).val, (i 2).isLt⟩
/-- Stated at `F := Ideal`, where the host's `dot_general` is this sum; at a bit-exact instance it is an opaque function of its operands. -/
theorem val_main_v50_apply (x0 x1 : Vec Ideal S32x2048x1024 .f32) (x2 : Vec Ideal S32x2048x512 .f32) (x3 : Vec Ideal S32x2048x2048 .f32) (x4 : Vec Ideal S1024x1024 .f32) (x5 : Vec Ideal S512x1024 .f32) (x6 : Vec Ideal S1024x1024 .f32) (x7 : Vec Ideal S1024x4096 .f32) (x8 : Vec Ideal S4096x1024 .f32) (x9 x10 : Vec Ideal S1024 .f32) (i : S32x2048x1024.Idx) :
    val_main_v50 (F := Ideal) x0 x1 x2 x3 x4 x5 x6 x7 x8 x9 x10 i = ∑ k : Fin 4096, (val_main_v49 (F := Ideal) x0 x1 x2 x3 x4 x5 x6 x7 x9 x10) (lidx_main_v50 i k) * x8 (ridx_main_v50 i k) := by
  unfold val_main_v50
  generalize val_main_v49 (F := Ideal) x0 x1 x2 x3 x4 x5 x6 x7 x9 x10 = y0
  simp only [Host.dotGeneral]
  rw [Ideal.dotGeneral_apply, ← Equiv.sum_comp (ValueIdx.contrEquiv1 dot_S32x2048x4096_S4096x1024_S32x2048x1024_2_0_01_1_n_n 4096 rfl rfl).symm]
  refine Finset.sum_congr rfl fun k _ => ?_
  have hk := ValueIdx.contrEquiv1_symm_val dot_S32x2048x4096_S4096x1024_S32x2048x1024_2_0_01_1_n_n 4096 rfl rfl k
  have el : dot_S32x2048x4096_S4096x1024_S32x2048x1024_2_0_01_1_n_n.lhsIdx i ((ValueIdx.contrEquiv1 dot_S32x2048x4096_S4096x1024_S32x2048x1024_2_0_01_1_n_n 4096 rfl rfl).symm k) = lidx_main_v50 i k := funext fun a => Fin.ext (by
    match a with
    | ⟨0, _⟩ => exact lhs_main_v50_0 _ _
    | ⟨1, _⟩ => exact lhs_main_v50_1 _ _
    | ⟨2, _⟩ => exact (lhs_main_v50_2 _ _).trans hk)
  have er : dot_S32x2048x4096_S4096x1024_S32x2048x1024_2_0_01_1_n_n.rhsIdx i ((ValueIdx.contrEquiv1 dot_S32x2048x4096_S4096x1024_S32x2048x1024_2_0_01_1_n_n 4096 rfl rfl).symm k) = ridx_main_v50 i k := funext fun a => Fin.ext (by
    match a with
    | ⟨0, _⟩ => exact (rhs_main_v50_0 _ _).trans hk
    | ⟨1, _⟩ => exact rhs_main_v50_1 _ _)
  rw [el, er]

-- %51 = stablehlo.multiply %50, %50 : tensor<32x2048x1024xf32>
def val_main_v51 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 : Vec F S1024 .f32) : Vec F S32x2048x1024 .f32 :=
  mulf (val_main_v50 (F := F) x0 x1 x2 x3 x4 x5 x6 x7 x8 x9 x10) (val_main_v50 (F := F) x0 x1 x2 x3 x4 x5 x6 x7 x8 x9 x10)
theorem val_main_v51_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 : Vec F S1024 .f32) (i : S32x2048x1024.Idx) :
    val_main_v51 (F := F) x0 x1 x2 x3 x4 x5 x6 x7 x8 x9 x10 i = FloatOps.mulf (val_main_v50 (F := F) x0 x1 x2 x3 x4 x5 x6 x7 x8 x9 x10 i) (val_main_v50 (F := F) x0 x1 x2 x3 x4 x5 x6 x7 x8 x9 x10 i) := rfl

-- %cst_9 = stablehlo.constant dense<0.000000e+00> : tensor<f32>
def val_main_cst_9 : Vec F S_ .f32 :=
  constant S_ .f32 0x00000000#32
theorem val_main_cst_9_apply (i : S_.Idx) :
    val_main_cst_9 (F := F) i = FloatOps.ofBits .f32 0x00000000#32 := rfl

-- %52 = stablehlo.reduce(%51 init: %cst_9) applies stablehlo.add across dimensions = [2] : (tensor<32x2048x1024xf32>, tensor<f32>) -> tensor<32x2048xf32> {
def val_main_v52 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 : Vec F S1024 .f32) : Vec F S32x2048 .f32 :=
  Host.reduceAdd (val_main_v51 (F := F) x0 x1 x2 x3 x4 x5 x6 x7 x8 x9 x10) (val_main_cst_9 (F := F)) reducesTo_S32x2048x1024_S32x2048_d2 h_S_
abbrev idx_main_v52 (i : S32x2048.Idx) (k : Fin 1024) : S32x2048x1024.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v52_apply (x0 x1 : Vec Ideal S32x2048x1024 .f32) (x2 : Vec Ideal S32x2048x512 .f32) (x3 : Vec Ideal S32x2048x2048 .f32) (x4 : Vec Ideal S1024x1024 .f32) (x5 : Vec Ideal S512x1024 .f32) (x6 : Vec Ideal S1024x1024 .f32) (x7 : Vec Ideal S1024x4096 .f32) (x8 : Vec Ideal S4096x1024 .f32) (x9 x10 : Vec Ideal S1024 .f32) (i : S32x2048.Idx) :
    val_main_v52 (F := Ideal) x0 x1 x2 x3 x4 x5 x6 x7 x8 x9 x10 i = (val_main_cst_9 (F := Ideal)) (Shape.Idx.first h_S_) + ∑ k : Fin 1024, (val_main_v51 (F := Ideal) x0 x1 x2 x3 x4 x5 x6 x7 x8 x9 x10) (idx_main_v52 i k) := by
  unfold val_main_v52
  generalize val_main_v51 (F := Ideal) x0 x1 x2 x3 x4 x5 x6 x7 x8 x9 x10 = y0
  simp only [Host.reduceAdd, Ideal.hostReduceAdd_def]
  rw [Ideal.hostReduceAdd_single reducesTo_S32x2048x1024_S32x2048_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %53 = stablehlo.broadcast_in_dim %52, dims = [0, 1] : (tensor<32x2048xf32>) -> tensor<32x2048x1xf32>
def val_main_v53 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 : Vec F S1024 .f32) : Vec F S32x2048x1 .f32 :=
  broadcastInDim S32x2048x1 ![0, 1] bcast_S32x2048_S32x2048x1_0_1 (val_main_v52 (F := F) x0 x1 x2 x3 x4 x5 x6 x7 x8 x9 x10)
abbrev idx_main_v53 (i : S32x2048x1.Idx) : S32x2048.Idx := fun a => match a with
  | ⟨0, _⟩ => ⟨(i 0).val, (i 0).isLt⟩
  | ⟨1, _⟩ => ⟨(i 1).val, (i 1).isLt⟩
theorem val_main_v53_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 : Vec F S1024 .f32) (i : S32x2048x1.Idx) :
    val_main_v53 (F := F) x0 x1 x2 x3 x4 x5 x6 x7 x8 x9 x10 i = val_main_v52 (F := F) x0 x1 x2 x3 x4 x5 x6 x7 x8 x9 x10 (idx_main_v53 i) := by
  unfold val_main_v53
  generalize val_main_v52 (F := F) x0 x1 x2 x3 x4 x5 x6 x7 x8 x9 x10 = y
  exact broadcastInDim_apply _ bcast_S32x2048_S32x2048x1_0_1 y i (idx_main_v53 i) (fun a => match a with
    | ⟨0, _⟩ => by show (i 0).val = if (32 : Nat) = 1 then 0 else (i 0).val; rw [if_neg (by decide)]
    | ⟨1, _⟩ => by show (i 1).val = if (2048 : Nat) = 1 then 0 else (i 1).val; rw [if_neg (by decide)])

-- %cst_10 = stablehlo.constant dense<1.024000e+03> : tensor<f32>
def val_main_cst_10 : Vec F S_ .f32 :=
  constant S_ .f32 0x44800000#32
theorem val_main_cst_10_apply (i : S_.Idx) :
    val_main_cst_10 (F := F) i = FloatOps.ofBits .f32 0x44800000#32 := rfl

-- %54 = stablehlo.broadcast_in_dim %cst_10, dims = [] : (tensor<f32>) -> tensor<32x2048x1xf32>
def val_main_v54 : Vec F S32x2048x1 .f32 :=
  broadcastInDim S32x2048x1 ![] bcast_S_S32x2048x1 (val_main_cst_10 (F := F))
abbrev idx_main_v54 (i : S32x2048x1.Idx) : S_.Idx := fun a => a.elim0
theorem val_main_v54_apply (i : S32x2048x1.Idx) :
    val_main_v54 (F := F) i = val_main_cst_10 (F := F) (idx_main_v54 i) := by
  unfold val_main_v54
  generalize val_main_cst_10 (F := F) = y
  exact broadcastInDim_apply _ bcast_S_S32x2048x1 y i (idx_main_v54 i) (fun a => a.elim0)

-- %55 = stablehlo.divide %53, %54 : tensor<32x2048x1xf32>
def val_main_v55 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 : Vec F S1024 .f32) : Vec F S32x2048x1 .f32 :=
  Host.divf (val_main_v53 (F := F) x0 x1 x2 x3 x4 x5 x6 x7 x8 x9 x10) (val_main_v54 (F := F))
theorem val_main_v55_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 : Vec F S1024 .f32) (i : S32x2048x1.Idx) :
    val_main_v55 (F := F) x0 x1 x2 x3 x4 x5 x6 x7 x8 x9 x10 i = FloatOps.hostDivf (val_main_v53 (F := F) x0 x1 x2 x3 x4 x5 x6 x7 x8 x9 x10 i) (val_main_v54 (F := F) i) := rfl

-- %cst_11 = stablehlo.constant dense<9.99999997E-7> : tensor<f32>
def val_main_cst_11 : Vec F S_ .f32 :=
  constant S_ .f32 0x358637BD#32
theorem val_main_cst_11_apply (i : S_.Idx) :
    val_main_cst_11 (F := F) i = FloatOps.ofBits .f32 0x358637BD#32 := rfl

-- %56 = stablehlo.broadcast_in_dim %cst_11, dims = [] : (tensor<f32>) -> tensor<32x2048x1xf32>
def val_main_v56 : Vec F S32x2048x1 .f32 :=
  broadcastInDim S32x2048x1 ![] bcast_S_S32x2048x1 (val_main_cst_11 (F := F))
abbrev idx_main_v56 (i : S32x2048x1.Idx) : S_.Idx := fun a => a.elim0
theorem val_main_v56_apply (i : S32x2048x1.Idx) :
    val_main_v56 (F := F) i = val_main_cst_11 (F := F) (idx_main_v56 i) := by
  unfold val_main_v56
  generalize val_main_cst_11 (F := F) = y
  exact broadcastInDim_apply _ bcast_S_S32x2048x1 y i (idx_main_v56 i) (fun a => a.elim0)

-- %57 = stablehlo.add %55, %56 : tensor<32x2048x1xf32>
def val_main_v57 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 : Vec F S1024 .f32) : Vec F S32x2048x1 .f32 :=
  addf (val_main_v55 (F := F) x0 x1 x2 x3 x4 x5 x6 x7 x8 x9 x10) (val_main_v56 (F := F))
theorem val_main_v57_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 : Vec F S1024 .f32) (i : S32x2048x1.Idx) :
    val_main_v57 (F := F) x0 x1 x2 x3 x4 x5 x6 x7 x8 x9 x10 i = FloatOps.addf (val_main_v55 (F := F) x0 x1 x2 x3 x4 x5 x6 x7 x8 x9 x10 i) (val_main_v56 (F := F) i) := rfl

-- %58 = stablehlo.rsqrt %57 : tensor<32x2048x1xf32>
def val_main_v58 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 : Vec F S1024 .f32) : Vec F S32x2048x1 .f32 :=
  Host.rsqrt (val_main_v57 (F := F) x0 x1 x2 x3 x4 x5 x6 x7 x8 x9 x10)
theorem val_main_v58_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 : Vec F S1024 .f32) (i : S32x2048x1.Idx) :
    val_main_v58 (F := F) x0 x1 x2 x3 x4 x5 x6 x7 x8 x9 x10 i = FloatOps.hostUnary .rsqrt (val_main_v57 (F := F) x0 x1 x2 x3 x4 x5 x6 x7 x8 x9 x10 i) := rfl

-- %59 = stablehlo.broadcast_in_dim %58, dims = [0, 1, 2] : (tensor<32x2048x1xf32>) -> tensor<32x2048x1024xf32>
def val_main_v59 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 : Vec F S1024 .f32) : Vec F S32x2048x1024 .f32 :=
  broadcastInDim S32x2048x1024 ![0, 1, 2] bcast_S32x2048x1_S32x2048x1024_0_1_2 (val_main_v58 (F := F) x0 x1 x2 x3 x4 x5 x6 x7 x8 x9 x10)
abbrev idx_main_v59 (i : S32x2048x1024.Idx) : S32x2048x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v59_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 : Vec F S1024 .f32) (i : S32x2048x1024.Idx) :
    val_main_v59 (F := F) x0 x1 x2 x3 x4 x5 x6 x7 x8 x9 x10 i = val_main_v58 (F := F) x0 x1 x2 x3 x4 x5 x6 x7 x8 x9 x10 (idx_main_v59 i) := by
  unfold val_main_v59
  generalize val_main_v58 (F := F) x0 x1 x2 x3 x4 x5 x6 x7 x8 x9 x10 = y
  exact broadcastInDim_apply _ bcast_S32x2048x1_S32x2048x1024_0_1_2 y i (idx_main_v59 i) (fun a => match a with
    | ⟨0, _⟩ => by show (i 0).val = if (32 : Nat) = 1 then 0 else (i 0).val; rw [if_neg (by decide)]
    | ⟨1, _⟩ => by show (i 1).val = if (2048 : Nat) = 1 then 0 else (i 1).val; rw [if_neg (by decide)]
    | ⟨2, _⟩ => by show 0 = if (1 : Nat) = 1 then 0 else (i 2).val; rw [if_pos rfl])

-- %60 = stablehlo.multiply %50, %59 : tensor<32x2048x1024xf32>
def val_main_v60 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 : Vec F S1024 .f32) : Vec F S32x2048x1024 .f32 :=
  mulf (val_main_v50 (F := F) x0 x1 x2 x3 x4 x5 x6 x7 x8 x9 x10) (val_main_v59 (F := F) x0 x1 x2 x3 x4 x5 x6 x7 x8 x9 x10)
theorem val_main_v60_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 : Vec F S1024 .f32) (i : S32x2048x1024.Idx) :
    val_main_v60 (F := F) x0 x1 x2 x3 x4 x5 x6 x7 x8 x9 x10 i = FloatOps.mulf (val_main_v50 (F := F) x0 x1 x2 x3 x4 x5 x6 x7 x8 x9 x10 i) (val_main_v59 (F := F) x0 x1 x2 x3 x4 x5 x6 x7 x8 x9 x10 i) := rfl

-- %61 = stablehlo.broadcast_in_dim %arg11, dims = [2] : (tensor<1024xf32>) -> tensor<1x1x1024xf32>
def val_main_v61 (x11 : Vec F S1024 .f32) : Vec F S1x1x1024 .f32 :=
  broadcastInDim S1x1x1024 ![2] bcast_S1024_S1x1x1024_2 (x11)
abbrev idx_main_v61 (i : S1x1x1024.Idx) : S1024.Idx := fun a => match a with
  | ⟨0, _⟩ => ⟨(i 2).val, (i 2).isLt⟩
theorem val_main_v61_apply (x11 : Vec F S1024 .f32) (i : S1x1x1024.Idx) :
    val_main_v61 (F := F) x11 i = x11 (idx_main_v61 i) := by
  unfold val_main_v61
  exact broadcastInDim_apply _ bcast_S1024_S1x1x1024_2 x11 i (idx_main_v61 i) (fun a => match a with
    | ⟨0, _⟩ => by show (i 2).val = if (1024 : Nat) = 1 then 0 else (i 2).val; rw [if_neg (by decide)])

-- %62 = stablehlo.broadcast_in_dim %61, dims = [0, 1, 2] : (tensor<1x1x1024xf32>) -> tensor<32x2048x1024xf32>
def val_main_v62 (x11 : Vec F S1024 .f32) : Vec F S32x2048x1024 .f32 :=
  broadcastInDim S32x2048x1024 ![0, 1, 2] bcast_S1x1x1024_S32x2048x1024_0_1_2 (val_main_v61 (F := F) x11)
abbrev idx_main_v62 (i : S32x2048x1024.Idx) : S1x1x1024.Idx := fun a => match a with
  | ⟨0, _⟩ => ⟨0, Nat.one_pos⟩
  | ⟨1, _⟩ => ⟨0, Nat.one_pos⟩
  | ⟨2, _⟩ => ⟨(i 2).val, (i 2).isLt⟩
theorem val_main_v62_apply (x11 : Vec F S1024 .f32) (i : S32x2048x1024.Idx) :
    val_main_v62 (F := F) x11 i = val_main_v61 (F := F) x11 (idx_main_v62 i) := by
  unfold val_main_v62
  generalize val_main_v61 (F := F) x11 = y
  exact broadcastInDim_apply _ bcast_S1x1x1024_S32x2048x1024_0_1_2 y i (idx_main_v62 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (1024 : Nat) = 1 then 0 else (i 2).val; rw [if_neg (by decide)])

-- %63 = stablehlo.multiply %60, %62 : tensor<32x2048x1024xf32>
def val_main_v63 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 x11 : Vec F S1024 .f32) : Vec F S32x2048x1024 .f32 :=
  mulf (val_main_v60 (F := F) x0 x1 x2 x3 x4 x5 x6 x7 x8 x9 x10) (val_main_v62 (F := F) x11)
theorem val_main_v63_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 x11 : Vec F S1024 .f32) (i : S32x2048x1024.Idx) :
    val_main_v63 (F := F) x0 x1 x2 x3 x4 x5 x6 x7 x8 x9 x10 x11 i = FloatOps.mulf (val_main_v60 (F := F) x0 x1 x2 x3 x4 x5 x6 x7 x8 x9 x10 i) (val_main_v62 (F := F) x11 i) := rfl

-- %64 = stablehlo.add %33, %63 : tensor<32x2048x1024xf32>
def val_main_v64 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 x11 : Vec F S1024 .f32) : Vec F S32x2048x1024 .f32 :=
  addf (val_main_v33 (F := F) x0 x1 x2 x3 x4 x5 x6 x9) (val_main_v63 (F := F) x0 x1 x2 x3 x4 x5 x6 x7 x8 x9 x10 x11)
theorem val_main_v64_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 x11 : Vec F S1024 .f32) (i : S32x2048x1024.Idx) :
    val_main_v64 (F := F) x0 x1 x2 x3 x4 x5 x6 x7 x8 x9 x10 x11 i = FloatOps.addf (val_main_v33 (F := F) x0 x1 x2 x3 x4 x5 x6 x9 i) (val_main_v63 (F := F) x0 x1 x2 x3 x4 x5 x6 x7 x8 x9 x10 x11 i) := rfl

-- %65 = stablehlo.reshape %64 : (tensor<32x2048x1024xf32>) -> tensor<65536x1024xf32>
def val_main_v65 (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 x11 : Vec F S1024 .f32) : Vec F S65536x1024 .f32 :=
  shapeCast _ (val_main_v64 (F := F) x0 x1 x2 x3 x4 x5 x6 x7 x8 x9 x10 x11) shapeCasts_S32x2048x1024_S65536x1024
set_option backward.proofsInPublic true in
abbrev idx_main_v65 (i : S65536x1024.Idx) : S32x2048x1024.Idx := fun a => match a with
  | ⟨0, _⟩ => ⟨((i 0).val * 1024 + (i 1).val) / 2097152, by have h0 : (i 0).val < 65536 := (i 0).isLt; have h1 : (i 1).val < 1024 := (i 1).isLt; show ((i 0).val * 1024 + (i 1).val) / 2097152 < 32; omega⟩
  | ⟨1, _⟩ => ⟨((i 0).val * 1024 + (i 1).val) / 1024 % 2048, by have h0 : (i 0).val < 65536 := (i 0).isLt; have h1 : (i 1).val < 1024 := (i 1).isLt; show ((i 0).val * 1024 + (i 1).val) / 1024 % 2048 < 2048; omega⟩
  | ⟨2, _⟩ => ⟨((i 0).val * 1024 + (i 1).val) % 1024, by have h0 : (i 0).val < 65536 := (i 0).isLt; have h1 : (i 1).val < 1024 := (i 1).isLt; show ((i 0).val * 1024 + (i 1).val) % 1024 < 1024; omega⟩
theorem val_main_v65_apply (x0 x1 : Vec F S32x2048x1024 .f32) (x2 : Vec F S32x2048x512 .f32) (x3 : Vec F S32x2048x2048 .f32) (x4 : Vec F S1024x1024 .f32) (x5 : Vec F S512x1024 .f32) (x6 : Vec F S1024x1024 .f32) (x7 : Vec F S1024x4096 .f32) (x8 : Vec F S4096x1024 .f32) (x9 x10 x11 : Vec F S1024 .f32) (i : S65536x1024.Idx) :
    val_main_v65 (F := F) x0 x1 x2 x3 x4 x5 x6 x7 x8 x9 x10 x11 i = val_main_v64 (F := F) x0 x1 x2 x3 x4 x5 x6 x7 x8 x9 x10 x11 (idx_main_v65 i) := by
  unfold val_main_v65
  generalize val_main_v64 (F := F) x0 x1 x2 x3 x4 x5 x6 x7 x8 x9 x10 x11 = y
  exact shapeCast_apply y shapeCasts_S32x2048x1024_S65536x1024 i (idx_main_v65 i)
    (by rewrite [Shape.rowMajor_val_three, Shape.rowMajor_val_two]; have h0 : (i 0).val < 65536 := (i 0).isLt; have h1 : (i 1).val < 1024 := (i 1).isLt; show (((i 0).val * 1024 + (i 1).val) / 2097152 * 2048 + ((i 0).val * 1024 + (i 1).val) / 1024 % 2048) * 1024 + ((i 0).val * 1024 + (i 1).val) % 1024 = (i 0).val * 1024 + (i 1).val; omega)

end Cert.PostRef

end
-- ==== Proof.PostRefRun.lean ====
/- The reference of the output part run to its end: every fair execution leaves the result buffer at the last stage of
   `PostRef` of the launch arguments, and the arguments as they were. -/
module

public import proofs.«01_k».proof.Proof.PostRef
public import Idealize.ShloMosaic.Lib.StableHlo.Run

@[expose] public section

noncomputable section

namespace Cert.PostRefRun

open Cert.Reference2Ideal Cert.Reference2Ideal.Gen Idealize.ShloMosaic Idealize.ShloMosaic.TcCoe Idealize.SL.Sem Idealize.ShloMosaic.StableHlo

variable {F : FTy → Type} [FloatOps F]

/-- @main's 81 operations, in order (a called function's operations stand in its call's place, spelt `TRef.…`). -/
abbrev ops : List (HloOp τ sig (Elt F)) :=
  [ binary main_arg1 main_arg4 main_v0 ((fun l r => Host.dotGeneral dot_S32x2048x1024_S1024x1024_S32x2048x1024_2_0_01_1_n_n none l r) : Vec F S32x2048x1024 .f32 → Vec F S1024x1024 .f32 → Vec F S32x2048x1024 .f32),
    binary main_arg2 main_arg5 main_v1 ((fun l r => Host.dotGeneral dot_S32x2048x512_S512x1024_S32x2048x1024_2_0_01_1_n_n none l r) : Vec F S32x2048x512 .f32 → Vec F S512x1024 .f32 → Vec F S32x2048x1024 .f32),
    unary main_arg3 main_v2 ((extractStridedSlice S32x2048x1024 ![0, 0, 0] · slices_S32x2048x2048_S32x2048x1024_0_0_0) : Vec F S32x2048x2048 .f32 → Vec F S32x2048x1024 .f32),
    unary main_arg3 main_v3 ((extractStridedSlice S32x2048x1024 ![0, 0, 1024] · slices_S32x2048x2048_S32x2048x1024_0_0_1024) : Vec F S32x2048x2048 .f32 → Vec F S32x2048x1024 .f32),
    unary main_v2 main_v4 (Host.negf : Vec F S32x2048x1024 .f32 → Vec F S32x2048x1024 .f32),
    unary main_v4 main_v5 (Host.exp : Vec F S32x2048x1024 .f32 → Vec F S32x2048x1024 .f32),
    nullary main_cst (constant S_ .f32 0x3F800000#32),
    unary main_cst main_v6 (broadcastInDim S32x2048x1024 ![] bcast_S_S32x2048x1024 : Vec F S_ .f32 → Vec F S32x2048x1024 .f32),
    binary main_v6 main_v5 main_v7 (addf : Vec F S32x2048x1024 .f32 → Vec F S32x2048x1024 .f32 → Vec F S32x2048x1024 .f32),
    nullary main_cst_0 (constant S_ .f32 0x3F800000#32),
    unary main_cst_0 main_v8 (broadcastInDim S32x2048x1024 ![] bcast_S_S32x2048x1024 : Vec F S_ .f32 → Vec F S32x2048x1024 .f32),
    binary main_v8 main_v7 main_v9 (Host.divf : Vec F S32x2048x1024 .f32 → Vec F S32x2048x1024 .f32 → Vec F S32x2048x1024 .f32),
    binary main_v9 main_v0 main_v10 (mulf : Vec F S32x2048x1024 .f32 → Vec F S32x2048x1024 .f32 → Vec F S32x2048x1024 .f32),
    unary main_v3 main_v11 (Host.negf : Vec F S32x2048x1024 .f32 → Vec F S32x2048x1024 .f32),
    unary main_v11 main_v12 (Host.exp : Vec F S32x2048x1024 .f32 → Vec F S32x2048x1024 .f32),
    nullary main_cst_1 (constant S_ .f32 0x3F800000#32),
    unary main_cst_1 main_v13 (broadcastInDim S32x2048x1024 ![] bcast_S_S32x2048x1024 : Vec F S_ .f32 → Vec F S32x2048x1024 .f32),
    binary main_v13 main_v12 main_v14 (addf : Vec F S32x2048x1024 .f32 → Vec F S32x2048x1024 .f32 → Vec F S32x2048x1024 .f32),
    nullary main_cst_2 (constant S_ .f32 0x3F800000#32),
    unary main_cst_2 main_v15 (broadcastInDim S32x2048x1024 ![] bcast_S_S32x2048x1024 : Vec F S_ .f32 → Vec F S32x2048x1024 .f32),
    binary main_v15 main_v14 main_v16 (Host.divf : Vec F S32x2048x1024 .f32 → Vec F S32x2048x1024 .f32 → Vec F S32x2048x1024 .f32),
    binary main_v16 main_v1 main_v17 (mulf : Vec F S32x2048x1024 .f32 → Vec F S32x2048x1024 .f32 → Vec F S32x2048x1024 .f32),
    binary main_v10 main_v17 main_v18 (addf : Vec F S32x2048x1024 .f32 → Vec F S32x2048x1024 .f32 → Vec F S32x2048x1024 .f32),
    binary main_v18 main_arg6 main_v19 ((fun l r => Host.dotGeneral dot_S32x2048x1024_S1024x1024_S32x2048x1024_2_0_01_1_n_n none l r) : Vec F S32x2048x1024 .f32 → Vec F S1024x1024 .f32 → Vec F S32x2048x1024 .f32),
    binary main_v19 main_v19 main_v20 (mulf : Vec F S32x2048x1024 .f32 → Vec F S32x2048x1024 .f32 → Vec F S32x2048x1024 .f32),
    nullary main_cst_3 (constant S_ .f32 0x00000000#32),
    binary main_v20 main_cst_3 main_v21 ((fun x v => Host.reduceAdd x v reducesTo_S32x2048x1024_S32x2048_d2 h_S_) : Vec F S32x2048x1024 .f32 → Vec F S_ .f32 → Vec F S32x2048 .f32),
    unary main_v21 main_v22 (broadcastInDim S32x2048x1 ![0, 1] bcast_S32x2048_S32x2048x1_0_1 : Vec F S32x2048 .f32 → Vec F S32x2048x1 .f32),
    nullary main_cst_4 (constant S_ .f32 0x44800000#32),
    unary main_cst_4 main_v23 (broadcastInDim S32x2048x1 ![] bcast_S_S32x2048x1 : Vec F S_ .f32 → Vec F S32x2048x1 .f32),
    binary main_v22 main_v23 main_v24 (Host.divf : Vec F S32x2048x1 .f32 → Vec F S32x2048x1 .f32 → Vec F S32x2048x1 .f32),
    nullary main_cst_5 (constant S_ .f32 0x358637BD#32),
    unary main_cst_5 main_v25 (broadcastInDim S32x2048x1 ![] bcast_S_S32x2048x1 : Vec F S_ .f32 → Vec F S32x2048x1 .f32),
    binary main_v24 main_v25 main_v26 (addf : Vec F S32x2048x1 .f32 → Vec F S32x2048x1 .f32 → Vec F S32x2048x1 .f32),
    unary main_v26 main_v27 (Host.rsqrt : Vec F S32x2048x1 .f32 → Vec F S32x2048x1 .f32),
    unary main_v27 main_v28 (broadcastInDim S32x2048x1024 ![0, 1, 2] bcast_S32x2048x1_S32x2048x1024_0_1_2 : Vec F S32x2048x1 .f32 → Vec F S32x2048x1024 .f32),
    binary main_v19 main_v28 main_v29 (mulf : Vec F S32x2048x1024 .f32 → Vec F S32x2048x1024 .f32 → Vec F S32x2048x1024 .f32),
    unary main_arg9 main_v30 (broadcastInDim S1x1x1024 ![2] bcast_S1024_S1x1x1024_2 : Vec F S1024 .f32 → Vec F S1x1x1024 .f32),
    unary main_v30 main_v31 (broadcastInDim S32x2048x1024 ![0, 1, 2] bcast_S1x1x1024_S32x2048x1024_0_1_2 : Vec F S1x1x1024 .f32 → Vec F S32x2048x1024 .f32),
    binary main_v29 main_v31 main_v32 (mulf : Vec F S32x2048x1024 .f32 → Vec F S32x2048x1024 .f32 → Vec F S32x2048x1024 .f32),
    binary main_arg0 main_v32 main_v33 (addf : Vec F S32x2048x1024 .f32 → Vec F S32x2048x1024 .f32 → Vec F S32x2048x1024 .f32),
    binary main_v33 main_v33 main_v34 (mulf : Vec F S32x2048x1024 .f32 → Vec F S32x2048x1024 .f32 → Vec F S32x2048x1024 .f32),
    nullary main_cst_6 (constant S_ .f32 0x00000000#32),
    binary main_v34 main_cst_6 main_v35 ((fun x v => Host.reduceAdd x v reducesTo_S32x2048x1024_S32x2048_d2 h_S_) : Vec F S32x2048x1024 .f32 → Vec F S_ .f32 → Vec F S32x2048 .f32),
    unary main_v35 main_v36 (broadcastInDim S32x2048x1 ![0, 1] bcast_S32x2048_S32x2048x1_0_1 : Vec F S32x2048 .f32 → Vec F S32x2048x1 .f32),
    nullary main_cst_7 (constant S_ .f32 0x44800000#32),
    unary main_cst_7 main_v37 (broadcastInDim S32x2048x1 ![] bcast_S_S32x2048x1 : Vec F S_ .f32 → Vec F S32x2048x1 .f32),
    binary main_v36 main_v37 main_v38 (Host.divf : Vec F S32x2048x1 .f32 → Vec F S32x2048x1 .f32 → Vec F S32x2048x1 .f32),
    nullary main_cst_8 (constant S_ .f32 0x358637BD#32),
    unary main_cst_8 main_v39 (broadcastInDim S32x2048x1 ![] bcast_S_S32x2048x1 : Vec F S_ .f32 → Vec F S32x2048x1 .f32),
    binary main_v38 main_v39 main_v40 (addf : Vec F S32x2048x1 .f32 → Vec F S32x2048x1 .f32 → Vec F S32x2048x1 .f32),
    unary main_v40 main_v41 (Host.rsqrt : Vec F S32x2048x1 .f32 → Vec F S32x2048x1 .f32),
    unary main_v41 main_v42 (broadcastInDim S32x2048x1024 ![0, 1, 2] bcast_S32x2048x1_S32x2048x1024_0_1_2 : Vec F S32x2048x1 .f32 → Vec F S32x2048x1024 .f32),
    binary main_v33 main_v42 main_v43 (mulf : Vec F S32x2048x1024 .f32 → Vec F S32x2048x1024 .f32 → Vec F S32x2048x1024 .f32),
    unary main_arg10 main_v44 (broadcastInDim S1x1x1024 ![2] bcast_S1024_S1x1x1024_2 : Vec F S1024 .f32 → Vec F S1x1x1024 .f32),
    unary main_v44 main_v45 (broadcastInDim S32x2048x1024 ![0, 1, 2] bcast_S1x1x1024_S32x2048x1024_0_1_2 : Vec F S1x1x1024 .f32 → Vec F S32x2048x1024 .f32),
    binary main_v43 main_v45 main_v46 (mulf : Vec F S32x2048x1024 .f32 → Vec F S32x2048x1024 .f32 → Vec F S32x2048x1024 .f32),
    binary main_v46 main_arg7 main_v47 ((fun l r => Host.dotGeneral dot_S32x2048x1024_S1024x4096_S32x2048x4096_2_0_01_1_n_n none l r) : Vec F S32x2048x1024 .f32 → Vec F S1024x4096 .f32 → Vec F S32x2048x4096 .f32),
    TRef.nullary (TRef.of (T := ⟨S_, .f32⟩) main_call0_cst) (constant S_ .f32 0x00000000#32),
    TRef.unary (TRef.of (T := ⟨S_, .f32⟩) main_call0_cst) (TRef.of (T := ⟨S32x2048x4096, .f32⟩) main_call0_v0) (broadcastInDim S32x2048x4096 ![] bcast_S_S32x2048x4096),
    TRef.binary (TRef.of (T := ⟨S32x2048x4096, .f32⟩) main_v47) (TRef.of (T := ⟨S32x2048x4096, .f32⟩) main_call0_v0) (TRef.of (T := ⟨S32x2048x4096, .f32⟩) main_v48) maximumf,
    binary main_v48 main_v48 main_v49 (mulf : Vec F S32x2048x4096 .f32 → Vec F S32x2048x4096 .f32 → Vec F S32x2048x4096 .f32),
    binary main_v49 main_arg8 main_v50 ((fun l r => Host.dotGeneral dot_S32x2048x4096_S4096x1024_S32x2048x1024_2_0_01_1_n_n none l r) : Vec F S32x2048x4096 .f32 → Vec F S4096x1024 .f32 → Vec F S32x2048x1024 .f32),
    binary main_v50 main_v50 main_v51 (mulf : Vec F S32x2048x1024 .f32 → Vec F S32x2048x1024 .f32 → Vec F S32x2048x1024 .f32),
    nullary main_cst_9 (constant S_ .f32 0x00000000#32),
    binary main_v51 main_cst_9 main_v52 ((fun x v => Host.reduceAdd x v reducesTo_S32x2048x1024_S32x2048_d2 h_S_) : Vec F S32x2048x1024 .f32 → Vec F S_ .f32 → Vec F S32x2048 .f32),
    unary main_v52 main_v53 (broadcastInDim S32x2048x1 ![0, 1] bcast_S32x2048_S32x2048x1_0_1 : Vec F S32x2048 .f32 → Vec F S32x2048x1 .f32),
    nullary main_cst_10 (constant S_ .f32 0x44800000#32),
    unary main_cst_10 main_v54 (broadcastInDim S32x2048x1 ![] bcast_S_S32x2048x1 : Vec F S_ .f32 → Vec F S32x2048x1 .f32),
    binary main_v53 main_v54 main_v55 (Host.divf : Vec F S32x2048x1 .f32 → Vec F S32x2048x1 .f32 → Vec F S32x2048x1 .f32),
    nullary main_cst_11 (constant S_ .f32 0x358637BD#32),
    unary main_cst_11 main_v56 (broadcastInDim S32x2048x1 ![] bcast_S_S32x2048x1 : Vec F S_ .f32 → Vec F S32x2048x1 .f32),
    binary main_v55 main_v56 main_v57 (addf : Vec F S32x2048x1 .f32 → Vec F S32x2048x1 .f32 → Vec F S32x2048x1 .f32),
    unary main_v57 main_v58 (Host.rsqrt : Vec F S32x2048x1 .f32 → Vec F S32x2048x1 .f32),
    unary main_v58 main_v59 (broadcastInDim S32x2048x1024 ![0, 1, 2] bcast_S32x2048x1_S32x2048x1024_0_1_2 : Vec F S32x2048x1 .f32 → Vec F S32x2048x1024 .f32),
    binary main_v50 main_v59 main_v60 (mulf : Vec F S32x2048x1024 .f32 → Vec F S32x2048x1024 .f32 → Vec F S32x2048x1024 .f32),
    unary main_arg11 main_v61 (broadcastInDim S1x1x1024 ![2] bcast_S1024_S1x1x1024_2 : Vec F S1024 .f32 → Vec F S1x1x1024 .f32),
    unary main_v61 main_v62 (broadcastInDim S32x2048x1024 ![0, 1, 2] bcast_S1x1x1024_S32x2048x1024_0_1_2 : Vec F S1x1x1024 .f32 → Vec F S32x2048x1024 .f32),
    binary main_v60 main_v62 main_v63 (mulf : Vec F S32x2048x1024 .f32 → Vec F S32x2048x1024 .f32 → Vec F S32x2048x1024 .f32),
    binary main_v33 main_v63 main_v64 (addf : Vec F S32x2048x1024 .f32 → Vec F S32x2048x1024 .f32 → Vec F S32x2048x1024 .f32),
    reshape main_v64 main_v65 (rfl : (.f32 : EltTy) = .f32) shapeCasts_S32x2048x1024_S65536x1024 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., reshape_bufs_sub ..⟩

set_option maxRecDepth 8192 in
set_option maxHeartbeats 32400000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = PostRef.val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v65).trans (by simp only [ops, TRef.binary, TRef.nullary, TRef.unary, TRef.toBuf, TRef.ofBuf, cast_eq]; after_results_simp <;> rfl <;> rfl),
      (h c main_arg0).trans (by simp only [ops, TRef.binary, TRef.nullary, TRef.unary, TRef.toBuf, TRef.ofBuf, cast_eq]; after_results_simp <;> rfl),
      (h c main_arg1).trans (by simp only [ops, TRef.binary, TRef.nullary, TRef.unary, TRef.toBuf, TRef.ofBuf, cast_eq]; after_results_simp <;> rfl),
      (h c main_arg2).trans (by simp only [ops, TRef.binary, TRef.nullary, TRef.unary, TRef.toBuf, TRef.ofBuf, cast_eq]; after_results_simp <;> rfl),
      (h c main_arg3).trans (by simp only [ops, TRef.binary, TRef.nullary, TRef.unary, TRef.toBuf, TRef.ofBuf, cast_eq]; after_results_simp <;> rfl),
      (h c main_arg4).trans (by simp only [ops, TRef.binary, TRef.nullary, TRef.unary, TRef.toBuf, TRef.ofBuf, cast_eq]; after_results_simp <;> rfl),
      (h c main_arg5).trans (by simp only [ops, TRef.binary, TRef.nullary, TRef.unary, TRef.toBuf, TRef.ofBuf, cast_eq]; after_results_simp <;> rfl),
      (h c main_arg6).trans (by simp only [ops, TRef.binary, TRef.nullary, TRef.unary, TRef.toBuf, TRef.ofBuf, cast_eq]; after_results_simp <;> rfl),
      (h c main_arg7).trans (by simp only [ops, TRef.binary, TRef.nullary, TRef.unary, TRef.toBuf, TRef.ofBuf, cast_eq]; after_results_simp <;> rfl),
      (h c main_arg8).trans (by simp only [ops, TRef.binary, TRef.nullary, TRef.unary, TRef.toBuf, TRef.ofBuf, cast_eq]; after_results_simp <;> rfl),
      (h c main_arg9).trans (by simp only [ops, TRef.binary, TRef.nullary, TRef.unary, TRef.toBuf, TRef.ofBuf, cast_eq]; after_results_simp <;> rfl),
      (h c main_arg10).trans (by simp only [ops, TRef.binary, TRef.nullary, TRef.unary, TRef.toBuf, TRef.ofBuf, cast_eq]; after_results_simp <;> rfl),
      (h c main_arg11).trans (by simp only [ops, TRef.binary, TRef.nullary, TRef.unary, TRef.toBuf, TRef.ofBuf, cast_eq]; after_results_simp <;> rfl)⟩)
    (run_seq scopedRefs_eq scopedSems_eq defs main (fun _ => ops) main_eq (fun _ => ops_sub) m ρ)

end Cert.PostRefRun

end
-- ==== Proof.PostRefValue.lean ====
/- The output part's reference computes `Row.out` of every token: stage after stage, at token `l` of sequence `b`. -/
module

public import proofs.«01_k».proof.Proof.PostArrays
public import proofs.«01_k».proof.Proof.PostRef
public import Idealize.ShloMosaic.Lib.IdealHost
public import Idealize.ShloMosaic.PureOps.Ideal.Laws

@[expose] public section

noncomputable section

namespace Cert.PostRefValue

open Cert.Reference2Ideal Cert.PostRef Cert.Post
open Idealize.ShloMosaic Idealize.ShloMosaic.ValueIdx

variable (x0 : Arr3 32 2048 1024) (x1 : Arr3 32 2048 1024) (x2 : Arr3 32 2048 512) (x3 : Arr3 32 2048 2048) (x4 : Arr2 1024 1024)
  (x5 : Arr2 512 1024) (x6 : Arr2 1024 1024) (x7 : Arr2 1024 4096) (x8 : Arr2 4096 1024) (x9 x10 x11 : Arr1 1024)

/-- A rank-three index is its three coordinates. -/
theorem i3 {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun d => Fin.ext (match d with | ⟨0, _⟩ => h0 | ⟨1, _⟩ => h1 | ⟨2, _⟩ => h2)

/-- A rank-two index is its two coordinates. -/
theorem i2 {n0 n1 : Nat} (i : (⟨2, ![n0, n1]⟩ : Shape).Idx) (a : Fin n0) (b : Fin n1)
    (h0 : (i 0).val = a.val) (h1 : (i 1).val = b.val) : i = ix2 a b :=
  funext fun d => Fin.ext (match d with | ⟨0, _⟩ => h0 | ⟨1, _⟩ => h1)

/-- A rank-one index is its coordinate. -/
theorem i1 {n0 : Nat} (i : (⟨1, ![n0]⟩ : Shape).Idx) (a : Fin n0) (h0 : (i 0).val = a.val) : i = ix1 a :=
  funext fun d => Fin.ext (match d with | ⟨0, _⟩ => h0)

variable (b : Fin 32) (l : Fin 2048)

/-- The gate's first half, squashed. -/
theorem gate_a (k : Fin 1024) :
    val_main_v9 (F := Ideal) x3 (ix3 b l k) = Ideal.logistic (x3 (ix3 b l (lower k))) := by
  rw [val_main_v9_apply, val_main_v8_apply, val_main_cst_0_apply, val_main_v7_apply, val_main_v6_apply, val_main_cst_apply, val_main_v5_apply,
    val_main_v4_apply, val_main_v2_apply, i3 (idx_main_v2 (ix3 b l k)) b l (lower k) rfl rfl rfl]
  rw [show (FloatOps.ofBits (F := Ideal) .f32 0x3F800000#32 : Ideal .f32) = (1 : EReal) from Ideal.ofBits_one_f32]
  rfl

/-- The gate's second half, squashed. -/
theorem gate_b (k : Fin 1024) :
    val_main_v16 (F := Ideal) x3 (ix3 b l k) = Ideal.logistic (x3 (ix3 b l (upper k))) := by
  rw [val_main_v16_apply, val_main_v15_apply, val_main_cst_2_apply, val_main_v14_apply, val_main_v13_apply, val_main_cst_1_apply, val_main_v12_apply,
    val_main_v11_apply, val_main_v3_apply, i3 (idx_main_v3 (ix3 b l k)) b l (upper k) rfl rfl rfl]
  rw [show (FloatOps.ofBits (F := Ideal) .f32 0x3F800000#32 : Ideal .f32) = (1 : EReal) from Ideal.ofBits_one_f32]
  rfl

/-- The gated mixture. -/
theorem gated (k : Fin 1024) :
    val_main_v18 (F := Ideal) x1 x2 x3 x4 x5 (ix3 b l k)
      = (rowOf x0 x1 x2 x3 b l).gated (weightsOf x4 x5 x6 x7 x8 x9 x10 x11) k := by
  rw [val_main_v18_apply, val_main_v10_apply, val_main_v17_apply, gate_a, gate_b, val_main_v0_apply, val_main_v1_apply]
  refine congrArg₂ (· + ·) (congrArg (_ * ·) (Finset.sum_congr rfl fun d _ => ?_)) (congrArg (_ * ·) (Finset.sum_congr rfl fun d _ => ?_))
  · rw [i3 (lidx_main_v0 (ix3 b l k) d) b l d rfl rfl rfl, i2 (ridx_main_v0 (ix3 b l k) d) d k rfl rfl]; rfl
  · rw [i3 (lidx_main_v1 (ix3 b l k) d) b l d rfl rfl rfl, i2 (ridx_main_v1 (ix3 b l k) d) d k rfl rfl]; rfl

/-- The output projection. -/
theorem mixed (j : Fin 1024) :
    val_main_v19 (F := Ideal) x1 x2 x3 x4 x5 x6 (ix3 b l j)
      = (rowOf x0 x1 x2 x3 b l).mixed (weightsOf x4 x5 x6 x7 x8 x9 x10 x11) j := by
  rw [val_main_v19_apply]
  refine Finset.sum_congr rfl fun k _ => ?_
  rw [i3 (lidx_main_v19 (ix3 b l j) k) b l k rfl rfl rfl, i2 (ridx_main_v19 (ix3 b l j) k) k j rfl rfl, gated (x0 := x0) (x6 := x6) (x7 := x7) (x8 := x8) (x9 := x9) (x10 := x10) (x11 := x11)]
  rfl

/-- The residual stream after the attention half. -/
theorem mid (j : Fin 1024) :
    val_main_v33 (F := Ideal) x0 x1 x2 x3 x4 x5 x6 x9 (ix3 b l j)
      = (rowOf x0 x1 x2 x3 b l).mid (weightsOf x4 x5 x6 x7 x8 x9 x10 x11) j := by
  have hs : (∑ k : Fin 1024, val_main_v20 (F := Ideal) x1 x2 x3 x4 x5 x6 (idx_main_v21 (ix2 b l) k))
      = ∑ k, (rowOf x0 x1 x2 x3 b l).mixed (weightsOf x4 x5 x6 x7 x8 x9 x10 x11) k * (rowOf x0 x1 x2 x3 b l).mixed (weightsOf x4 x5 x6 x7 x8 x9 x10 x11) k :=
    Finset.sum_congr rfl fun k _ => by
      rw [i3 (idx_main_v21 (ix2 b l) k) b l k rfl rfl rfl, val_main_v20_apply, mixed (x0 := x0) (x7 := x7) (x8 := x8) (x9 := x9) (x10 := x10) (x11 := x11)]; rfl
  rw [val_main_v33_apply, val_main_v32_apply, val_main_v29_apply, val_main_v28_apply, val_main_v31_apply, val_main_v30_apply,
    val_main_v27_apply, val_main_v26_apply, val_main_v25_apply, val_main_cst_5_apply, val_main_v24_apply, val_main_v23_apply, val_main_cst_4_apply,
    val_main_v22_apply, i2 (idx_main_v22 (idx_main_v28 (ix3 b l j))) b l rfl rfl, val_main_v21_apply, val_main_cst_3_apply, hs,
    mixed (x0 := x0) (x7 := x7) (x8 := x8) (x9 := x9) (x10 := x10) (x11 := x11), i1 (idx_main_v30 (idx_main_v31 (ix3 b l j))) j rfl,
    show (FloatOps.ofBits (F := Ideal) .f32 0x00000000#32 : Ideal .f32) = (0 : EReal) from Ideal.ofBits_zero_f32, zero_add]
  rfl

/-- The feed-forward's normed input. -/
theorem pre (j : Fin 1024) :
    val_main_v46 (F := Ideal) x0 x1 x2 x3 x4 x5 x6 x9 x10 (ix3 b l j)
      = rms ((rowOf x0 x1 x2 x3 b l).mid (weightsOf x4 x5 x6 x7 x8 x9 x10 x11)) (weightsOf x4 x5 x6 x7 x8 x9 x10 x11).gPre j := by
  have hs : (∑ k : Fin 1024, val_main_v34 (F := Ideal) x0 x1 x2 x3 x4 x5 x6 x9 (idx_main_v35 (ix2 b l) k))
      = ∑ k, (rowOf x0 x1 x2 x3 b l).mid (weightsOf x4 x5 x6 x7 x8 x9 x10 x11) k * (rowOf x0 x1 x2 x3 b l).mid (weightsOf x4 x5 x6 x7 x8 x9 x10 x11) k :=
    Finset.sum_congr rfl fun k _ => by
      rw [i3 (idx_main_v35 (ix2 b l) k) b l k rfl rfl rfl, val_main_v34_apply, mid (x7 := x7) (x8 := x8) (x10 := x10) (x11 := x11)]; rfl
  rw [val_main_v46_apply, val_main_v43_apply, val_main_v42_apply, val_main_v45_apply, val_main_v44_apply,
    val_main_v41_apply, val_main_v40_apply, val_main_v39_apply, val_main_cst_8_apply, val_main_v38_apply, val_main_v37_apply, val_main_cst_7_apply,
    val_main_v36_apply, i2 (idx_main_v36 (idx_main_v42 (ix3 b l j))) b l rfl rfl, val_main_v35_apply, val_main_cst_6_apply, hs,
    mid (x7 := x7) (x8 := x8) (x10 := x10) (x11 := x11), i1 (idx_main_v44 (idx_main_v45 (ix3 b l j))) j rfl,
    show (FloatOps.ofBits (F := Ideal) .f32 0x00000000#32 : Ideal .f32) = (0 : EReal) from Ideal.ofBits_zero_f32, zero_add]
  rfl

/-- A hidden unit: the squared relu. -/
theorem act (f : Fin 4096) :
    val_main_v49 (F := Ideal) x0 x1 x2 x3 x4 x5 x6 x7 x9 x10 (ix3 b l f)
      = (rowOf x0 x1 x2 x3 b l).act (weightsOf x4 x5 x6 x7 x8 x9 x10 x11) f := by
  have hs : val_main_v47 (F := Ideal) x0 x1 x2 x3 x4 x5 x6 x7 x9 x10 (ix3 b l f)
      = ∑ k, rms ((rowOf x0 x1 x2 x3 b l).mid (weightsOf x4 x5 x6 x7 x8 x9 x10 x11)) (weightsOf x4 x5 x6 x7 x8 x9 x10 x11).gPre k * (weightsOf x4 x5 x6 x7 x8 x9 x10 x11).w1 k f := by
    rw [val_main_v47_apply]
    refine Finset.sum_congr rfl fun k _ => ?_
    rw [i3 (lidx_main_v47 (ix3 b l f) k) b l k rfl rfl rfl, i2 (ridx_main_v47 (ix3 b l f) k) k f rfl rfl, pre (x7 := x7) (x8 := x8) (x11 := x11)]
    rfl
  rw [val_main_v49_apply, val_main_v48_apply, hs, val_main_call0_v0_apply, val_main_call0_cst_apply,
    show (FloatOps.ofBits (F := Ideal) .f32 0x00000000#32 : Ideal .f32) = (0 : EReal) from Ideal.ofBits_zero_f32]
  rfl

/-- The feed-forward's output. -/
theorem down (j : Fin 1024) :
    val_main_v50 (F := Ideal) x0 x1 x2 x3 x4 x5 x6 x7 x8 x9 x10 (ix3 b l j)
      = (rowOf x0 x1 x2 x3 b l).down (weightsOf x4 x5 x6 x7 x8 x9 x10 x11) j := by
  rw [val_main_v50_apply]
  refine Finset.sum_congr rfl fun f _ => ?_
  rw [i3 (lidx_main_v50 (ix3 b l j) f) b l f rfl rfl rfl, i2 (ridx_main_v50 (ix3 b l j) f) f j rfl rfl, act (x8 := x8) (x11 := x11)]
  rfl

/-- The layer's output. -/
theorem out (j : Fin 1024) :
    val_main_v64 (F := Ideal) x0 x1 x2 x3 x4 x5 x6 x7 x8 x9 x10 x11 (ix3 b l j)
      = (rowOf x0 x1 x2 x3 b l).out (weightsOf x4 x5 x6 x7 x8 x9 x10 x11) j := by
  have hs : (∑ k : Fin 1024, val_main_v51 (F := Ideal) x0 x1 x2 x3 x4 x5 x6 x7 x8 x9 x10 (idx_main_v52 (ix2 b l) k))
      = ∑ k, (rowOf x0 x1 x2 x3 b l).down (weightsOf x4 x5 x6 x7 x8 x9 x10 x11) k * (rowOf x0 x1 x2 x3 b l).down (weightsOf x4 x5 x6 x7 x8 x9 x10 x11) k :=
    Finset.sum_congr rfl fun k _ => by
      rw [i3 (idx_main_v52 (ix2 b l) k) b l k rfl rfl rfl, val_main_v51_apply, down (x11 := x11)]; rfl
  rw [val_main_v64_apply, val_main_v63_apply, val_main_v60_apply, val_main_v59_apply, val_main_v62_apply, val_main_v61_apply,
    val_main_v58_apply, val_main_v57_apply, val_main_v56_apply, val_main_cst_11_apply, val_main_v55_apply, val_main_v54_apply, val_main_cst_10_apply,
    val_main_v53_apply, i2 (idx_main_v53 (idx_main_v59 (ix3 b l j))) b l rfl rfl, val_main_v52_apply, val_main_cst_9_apply, hs,
    down (x11 := x11), mid (x7 := x7) (x8 := x8) (x10 := x10) (x11 := x11), i1 (idx_main_v61 (idx_main_v62 (ix3 b l j))) j rfl,
    show (FloatOps.ofBits (F := Ideal) .f32 0x00000000#32 : Ideal .f32) = (0 : EReal) from Ideal.ofBits_zero_f32, zero_add]
  rfl

/-- THE REFERENCE'S RESULT is `outArr` of its arguments. -/
theorem result_eq :
    val_main_v65 (F := Ideal) x0 x1 x2 x3 x4 x5 x6 x7 x8 x9 x10 x11 = outArr x0 x1 x2 x3 x4 x5 x6 x7 x8 x9 x10 x11 := by
  funext i
  have h0 : (i 0).val < 65536 := (i 0).isLt
  have h1 : (i 1).val < 1024 := (i 1).isLt
  rw [val_main_v65_apply, i3 (idx_main_v65 i) (seqOf (i 0)) (posOf (i 0)) (i 1)
    (by show ((i 0).val * 1024 + (i 1).val) / 2097152 = (i 0).val / 2048; omega)
    (by show ((i 0).val * 1024 + (i 1).val) / 1024 % 2048 = (i 0).val % 2048; omega)
    (by show ((i 0).val * 1024 + (i 1).val) % 1024 = (i 1).val; omega)]
  exact out x0 x1 x2 x3 x4 x5 x6 x7 x8 x9 x10 x11 (seqOf (i 0)) (posOf (i 0)) (i 1)

end Cert.PostRefValue

end
-- ==== Proof.PostClaim.lean ====
/- The output part's claims: the kernel and the reference run from any memory, leave their arguments and the semaphores as they
   were, and end with the same array, `outArr` of the arguments. -/
module

public import proofs.«01_k».proof.Defs
public import proofs.«01_k».proof.Proof.PostFinal
public import proofs.«01_k».proof.Proof.PostRefRun
public import proofs.«01_k».proof.Proof.PostRefValue
public import proofs.«01_k».proof.Proof.Gen.Kernel2.Frame

@[expose] public section

noncomputable section

namespace Cert.PostClaim

open Idealize.ShloMosaic Idealize.ShloMosaic.TcCoe Idealize.SL.Sem

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, sem_eq_zero_of_no_sems (by decide) r.2⟩)
    (Cert.PostRefRun.run (F := Ideal) m ρ)
theorem preserves : Cert.preserves_Kernel2_Kernel2Ideal := trivial

/-- THE EQUATION: kernel and reference end with the same array. -/
theorem equal : Cert.algebraic_Kernel2Ideal_Reference2Ideal := by
  intro m ρ m' ρ' _ hag
  refine ⟨fun c => Cert.PostFinal.result m c, (θ_run _ _ _).mono (fun _ h c => ⟨((h c).1).trans (Cert.PostFinal.final m c), (h c).2⟩) (Cert.Kernel2Ideal.Value.run_blocks m ρ), (θ_run _ _ _).mono (fun _ h c => ⟨((h c).1).trans ?_, (h c).2⟩) (Cert.PostRefRun.run m' ρ')⟩
  obtain ⟨h0, h1, h2, h3, h4, h5, h6, h7, h8, h9, h10, h11⟩ := hag c
  rw [h0, h1, h2, h3, h4, h5, h6, h7, h8, h9, h10, h11]
  exact Cert.PostRefValue.result_eq _ _ _ _ _ _ _ _ _ _ _ _

end Cert.PostClaim

end
-- ==== Proof.ProjSpec.lean ====
/- The input part of the layer in plain mathematics over the extended reals: the norm of every token, its projection, the rotary
   embedding of the heads and the queries' scale. Both programs are shown to compute these arrays in the modules that import
   this one. -/
module

public import proofs.«01_k».proof.Proof.PostArrays
public import Mathlib.Analysis.SpecialFunctions.Pow.Real

@[expose] public section

noncomputable section

namespace Cert.Proj

open Idealize.ShloMosaic Idealize.ShloMosaic.ValueIdx Cert.Post

/-- A head at one position turned by the position's angles: the two halves of the head are the two coordinates of the planes. -/
def rot (z : Fin 128 → EReal) (cs sn : Fin 64 → EReal) (d : Fin 128) : EReal :=
  if h : d.val < 64 then z d * cs ⟨d.val, h⟩ - z ⟨d.val + 64, by omega⟩ * sn ⟨d.val, h⟩
  else z ⟨d.val - 64, by omega⟩ * sn ⟨d.val - 64, by have := d.isLt; omega⟩ + z d * cs ⟨d.val - 64, by have := d.isLt; omega⟩

/-- The other half's entry that an entry of a head is combined with. -/
def opposite (d : Fin 128) : Fin 128 := ⟨(d.val + 64) % 128, Nat.mod_lt _ (by omega)⟩

/-- The angle's index for an entry of a head. -/
def plane (d : Fin 128) : Fin 64 := ⟨d.val % 64, Nat.mod_lt _ (by omega)⟩

/-- The turn written with full-width tables: the sine's sign is in the table. -/
theorem rot_eq (z : Fin 128 → EReal) (cs sn : Fin 64 → EReal) (C S : Fin 128 → EReal)
    (hC : ∀ d, C d = cs (plane d)) (hS : ∀ d, S d = if d.val < 64 then - sn (plane d) else sn (plane d)) (d : Fin 128) :
    z d * C d + z (opposite d) * S d = rot z cs sn d := by
  have hd : d.val < 128 := d.isLt
  unfold rot
  rw [hC, hS]
  by_cases h : d.val < 64
  · rw [if_pos h, dif_pos h]
    have e1 : plane d = ⟨d.val, h⟩ := Fin.ext (Nat.mod_eq_of_lt h)
    have e2 : opposite d = ⟨d.val + 64, by omega⟩ := Fin.ext (Nat.mod_eq_of_lt (by omega))
    rw [e1, e2, mul_neg, sub_eq_add_neg]
  · rw [if_neg h, dif_neg h]
    have e1 : plane d = ⟨d.val - 64, by omega⟩ := Fin.ext (by show d.val % 64 = d.val - 64; omega)
    have e2 : opposite d = ⟨d.val - 64, by omega⟩ := Fin.ext (by show (d.val + 64) % 128 = d.val - 64; omega)
    rw [e1, e2, add_comm]

/-- The queries' scale. -/
def scale : EReal := (((Real.sqrt 128)⁻¹ * (Real.log 2)⁻¹ : ℝ) : EReal)

/-- One column of a token's projection, from the token's row, the gains and the column. -/
def column (x g w : Fin 1024 → EReal) : EReal := ∑ e, rms x g e * w e

variable (X : Arr3 32 2048 1024) (W : Arr2 1024 8192) (G : Arr1 1024)

/-- Column `n` of the projection of token `l` of sequence `b`. -/
def z (b : Fin 32) (l : Fin 2048) (n : Fin 8192) : EReal :=
  column (fun k => X (ix3 b l k)) (fun k => G (ix1 k)) (fun e => W (ix2 e n))

/-- The head of the projection that starts at column `n`. -/
def head (b : Fin 32) (l : Fin 2048) (n : Nat) (hn : n + 128 ≤ 8192) (d : Fin 128) : EReal :=
  z X W G b l ⟨n + d.val, by have := d.isLt; omega⟩

/-- `N` columns of the projection from column `base` on, one row per token. -/
def plainArr (base N : Nat) (hb : base + N ≤ 8192) : Arr2 65536 N :=
  fun i => z X W G (seqOf (i 0)) (posOf (i 0)) ⟨base + (i 1).val, by have h : (i 1).val < N := (i 1).isLt; omega⟩

variable (cs sn : Arr2 2048 64)

/-- The same with every head turned by its position's angles. -/
def keyArr (base N : Nat) (hb : base + N ≤ 8192) (hN : N % 128 = 0) : Arr2 65536 N :=
  fun i => rot (head X W G (seqOf (i 0)) (posOf (i 0)) (base + (i 1).val / 128 * 128)
      (by have h : (i 1).val < N := (i 1).isLt; omega))
    (fun p => cs (ix2 (posOf (i 0)) p)) (fun p => sn (ix2 (posOf (i 0)) p)) ⟨(i 1).val % 128, Nat.mod_lt _ (by omega)⟩

/-- The same with the queries' scale. -/
def queryArr (base N : Nat) (hb : base + N ≤ 8192) (hN : N % 128 = 0) : Arr2 65536 N :=
  fun i => keyArr X W G cs sn base N hb hN i * scale

/-- The values of the banded attention: the tokens are the last axis. -/
def valueArr : Arr3 32 256 2048 :=
  fun i => z X W G (i 0) (i 2) ⟨1280 + (i 1).val, by have h : (i 1).val < 256 := (i 1).isLt; omega⟩

/-! ## The residue classes of the sequences -/

/-- The position of entry `n` of residue class `r` modulo `dil`. -/
def foldPos (dil len : Nat) (h : dil * len = 2048) (i : (⟨4, ![32, dil, len, 512]⟩ : Shape).Idx) : Fin 2048 :=
  ⟨(i 1).val + dil * (i 2).val, by
    have h1 : (i 1).val < dil := (i 1).isLt
    have h2 : (i 2).val + 1 ≤ len := (i 2).isLt
    have h3 : dil * ((i 2).val + 1) ≤ dil * len := Nat.mul_le_mul_left _ h2
    rw [h, Nat.mul_succ] at h3
    omega⟩

/-- Its token. -/
def foldTok (dil len : Nat) (h : dil * len = 2048) (i : (⟨4, ![32, dil, len, 512]⟩ : Shape).Idx) : Fin 65536 :=
  ⟨(i 0).val * 2048 + (foldPos dil len h i).val, by
    have h0 : (i 0).val < 32 := (i 0).isLt
    have h1 := (foldPos dil len h i).isLt
    omega⟩

/-- An array of tokens with the residue classes of every sequence one after the other: sequence, class, entry of the class, column. -/
def foldArr (dil len : Nat) (h : dil * len = 2048) (A : Arr2 65536 512) : (⟨4, ![32, dil, len, 512]⟩ : Shape).Idx → EReal :=
  fun i => A (ix2 (foldTok dil len h i) (i 3))

theorem seq_fold (dil len : Nat) (h : dil * len = 2048) (i : (⟨4, ![32, dil, len, 512]⟩ : Shape).Idx) :
    seqOf (foldTok dil len h i) = i 0 := by
  have h1 := (foldPos dil len h i).isLt
  exact Fin.ext (by show ((i 0).val * 2048 + (foldPos dil len h i).val) / 2048 = (i 0).val; omega)

theorem pos_fold (dil len : Nat) (h : dil * len = 2048) (i : (⟨4, ![32, dil, len, 512]⟩ : Shape).Idx) :
    posOf (foldTok dil len h i) = foldPos dil len h i := by
  have h1 := (foldPos dil len h i).isLt
  exact Fin.ext (by show ((i 0).val * 2048 + (foldPos dil len h i).val) % 2048 = (foldPos dil len h i).val; omega)

theorem foldArr_plain (dil len : Nat) (h : dil * len = 2048) (base : Nat) (hb : base + 512 ≤ 8192) (i : (⟨4, ![32, dil, len, 512]⟩ : Shape).Idx) :
    foldArr dil len h (plainArr X W G base 512 hb) i
      = z X W G (i 0) (foldPos dil len h i) ⟨base + (i 3).val, by have h : (i 3).val < 512 := (i 3).isLt; omega⟩ := by
  rw [← seq_fold dil len h i, ← pos_fold dil len h i]
  rfl

theorem foldArr_key (dil len : Nat) (h : dil * len = 2048) (base : Nat) (hb : base + 512 ≤ 8192) (hN : 512 % 128 = 0)
    (i : (⟨4, ![32, dil, len, 512]⟩ : Shape).Idx) :
    foldArr dil len h (keyArr X W G cs sn base 512 hb hN) i
      = rot (head X W G (i 0) (foldPos dil len h i) (base + (i 3).val / 128 * 128) (by have h : (i 3).val < 512 := (i 3).isLt; omega))
          (fun p => cs (ix2 (foldPos dil len h i) p)) (fun p => sn (ix2 (foldPos dil len h i) p)) ⟨(i 3).val % 128, Nat.mod_lt _ (by omega)⟩ := by
  rw [← seq_fold dil len h i, ← pos_fold dil len h i]
  rfl

end Cert.Proj

end
-- ==== Proof.ProjKernel.lean ====
/- The input kernel's arithmetic on a block of 512 tokens, operation by operation, and what it is at an index: a chunk of the
   projection, a head cut out of it, the head turned by the tables, and the forms the heads are stored in. -/
module

public import proofs.«01_k».proof.Proof.Gen.Kernel3Ideal.Skeleton
public import proofs.«01_k».proof.Proof.ProjSpec
public import proofs.«01_k».proof.Proof.PostKernel
public import Idealize.ShloMosaic.Lib.KernelVsHost

@[expose] public section

noncomputable section

namespace Cert.ProjKernel

open Cert.Kernel3Ideal Cert.Kernel3Ideal.Gen Cert.Proj Cert.Post
open Idealize.ShloMosaic Idealize.ShloMosaic.TcCoe Idealize.ShloMosaic.ValueIdx Idealize.SL.Sem

/-- The block's normed rows, as the body holds them. -/
def normed (x : Vec Ideal S512x1024 .f32) (g : Vec Ideal S1x1024 .f32) : FVec Ideal S512x1024 .bf16 :=
  truncf .bf16 (PostKernel.rmsV (shapeCast S512x1024 x shapeCasts_S512x1024_S512x1024) (shapeCast S1x1024 g shapeCasts_S1x1024_S1x1024))
    bitsLt_bf16_f32

/-- A chunk of 512 columns of the block's projection. -/
def chunk (h : FVec Ideal S512x1024 .bf16) (w : Vec Ideal S1024x512 .bf16) : FVec Ideal S512x512 .f32 :=
  matmul dot_S512x1024_S1024x512_S512x512_1_0_0_1_n_n none h (shapeCast S1024x512 w shapeCasts_S1024x512_S1024x512 : FVec Ideal S1024x512 .bf16)
    (constant S512x512 .f32 0x00000000#32)

/-- A head turned by the tables. -/
def turned (t : FVec Ideal S512x128 .f32) (cs sn : Vec Ideal S512x128 .f32) : FVec Ideal S512x128 .f32 :=
  addf (mulf t (shapeCast S512x128 cs shapeCasts_S512x128_S512x128))
    (mulf (dynamicRotate 1 64#32 none t rotates_S512x128_d1) (shapeCast S512x128 sn shapeCasts_S512x128_S512x128))

/-- A query head as it is stored. -/
def query (t : FVec Ideal S512x128 .f32) (cs sn : Vec Ideal S512x128 .f32) : FVec Ideal S512x128 .bf16 :=
  truncf .bf16 (mulf (turned t cs sn) (broadcast S512x128 (Named.named κ "q_scale" 0x3E0293EE#32))) bitsLt_bf16_f32

/-- A key head as it is stored. -/
def key (t : FVec Ideal S512x128 .f32) (cs sn : Vec Ideal S512x128 .f32) : FVec Ideal S512x128 .bf16 :=
  truncf .bf16 (turned t cs sn) bitsLt_bf16_f32

/-- A value head of the banded attention as it is stored: turned on its side. -/
def value (t : FVec Ideal S512x128 .f32) : FVec Ideal S1x128x512 .bf16 :=
  shapeCast S1x128x512 (truncf .bf16 (transpose S128x512 [1, 0] t transposes_S512x128_p1_0_S128x512) bitsLt_bf16_f32)
    shapeCasts_S128x512_S1x128x512

variable (x : Vec Ideal S512x1024 .f32) (g : Vec Ideal S1x1024 .f32)

/-- Row `r` of the block's projection, at one column of the weights. -/
def entry (w : Vec Ideal S1024x8192 .bf16) (r : Fin 512) (n : Fin 8192) : EReal :=
  column (fun k => x (ix2 r k)) (fun k => g (ix2 0 k)) (fun e => w (ix2 e n))

/-- The normed rows at an index. -/
theorem normed_apply (r : Fin 512) (e : Fin 1024) :
    normed x g (ix2 r e) = rms (fun k => x (ix2 r k)) (fun k => g (ix2 0 k)) e := by
  unfold normed
  rw [truncf_apply, PostKernel.cast_id, PostKernel.cast_id]
  exact PostKernel.rmsV_apply x g r e

/-- A chunk at an index, the chunk's weights being columns `o …` of all. -/
theorem chunk_apply (w : Vec Ideal S1024x8192 .bf16) (o : Nat)
    (hw : ∀ a, (![0, o] : Fin 2 → Nat) a + S1024x512.size a ≤ S1024x8192.size a) (r : Fin 512) (j : Fin 512)
    (n : Fin 8192) (hn : n.val = o + j.val) :
    chunk (normed x g) (View.ld w (Rect.unit (s := S1024x8192) ![0, o] S1024x512.size hw)) (ix2 r j) = entry x g w r n := by
  unfold chunk
  refine (Ideal.matmul_plain_apply none _ _ (constant S512x512 .f32 0x00000000#32) r j).trans ?_
  rw [constant_apply, Ideal.ofBits_zero_f32, zero_add]
  unfold entry column
  refine Finset.sum_congr rfl fun e _ => ?_
  rw [normed_apply, PostKernel.cast_id]
  refine congrArg _ (congrArg w (funext fun a => Fin.ext ?_))
  match a with
  | ⟨0, _⟩ => show 0 + 1 * e.val = e.val; omega
  | ⟨1, _⟩ => show o + 1 * j.val = n.val; omega

/-- A head cut out of a chunk, at an index. -/
theorem head_apply (w : Vec Ideal S1024x8192 .bf16) (o p : Nat)
    (hw : ∀ a, (![0, o] : Fin 2 → Nat) a + S1024x512.size a ≤ S1024x8192.size a) (hs : S512x512.Slices ![0, p] S512x128)
    (hp : p + 128 ≤ 512) (r : Fin 512) (d : Fin 128) (n : Fin 8192) (hn : n.val = o + p + d.val) :
    extractStridedSlice S512x128 ![0, p] (chunk (normed x g) (View.ld w (Rect.unit (s := S1024x8192) ![0, o] S1024x512.size hw))) hs (ix2 r d)
      = entry x g w r n := by
  have hd : d.val < 128 := d.isLt
  refine (extractStridedSlice_apply _ _ hs (ix2 r d) (ix2 r (⟨p + d.val, by omega⟩ : Fin 512)) (fun a => match a with
    | ⟨0, _⟩ => by show r.val = 0 + r.val; omega
    | ⟨1, _⟩ => rfl)).trans ?_
  exact chunk_apply x g w o hw r _ n (by show n.val = o + (p + d.val); omega)

/-- A turned head at an index. -/
theorem turned_apply (t : FVec Ideal S512x128 .f32) (cs sn : Vec Ideal S512x128 .f32) (r : Fin 512) (d : Fin 128) :
    turned t cs sn (ix2 r d) = t (ix2 r d) * cs (ix2 r d) + t (ix2 r (opposite d)) * sn (ix2 r d) := by
  unfold turned
  rw [addf_apply, mulf_apply, mulf_apply, PostKernel.cast_id, PostKernel.cast_id,
    dynamicRotate_apply (1 : Fin 2) 64#32 t rotates_S512x128_d1 (ix2 r d) (ix2 r (opposite d)) (fun b => match b with
      | ⟨0, _⟩ => rfl
      | ⟨1, _⟩ => by
        show (d.val + 64) % 128 = (d.val + 128 - 64 % 128) % 128
        congr 1)]

/-- A key head at an index. -/
theorem key_apply (t : FVec Ideal S512x128 .f32) (cs sn : Vec Ideal S512x128 .f32) (r : Fin 512) (d : Fin 128) :
    (key t cs sn (ix2 r d) : EReal) = t (ix2 r d) * cs (ix2 r d) + t (ix2 r (opposite d)) * sn (ix2 r d) := by
  unfold key
  rw [truncf_apply]
  exact turned_apply t cs sn r d

/-- A query head at an index. -/
theorem query_apply (t : FVec Ideal S512x128 .f32) (cs sn : Vec Ideal S512x128 .f32) (r : Fin 512) (d : Fin 128) :
    (query t cs sn (ix2 r d) : EReal) = (t (ix2 r d) * cs (ix2 r d) + t (ix2 r (opposite d)) * sn (ix2 r d)) * scale := by
  unfold query
  rw [truncf_apply, mulf_apply, turned_apply]
  rfl

/-- A value head at an index. -/
theorem value_apply (t : FVec Ideal S512x128 .f32) (d : Fin 128) (r : Fin 512) :
    (value t (ix3 0 d r) : EReal) = t (ix2 r d) := by
  unfold value
  refine (shapeCast_apply _ shapeCasts_S128x512_S1x128x512 (ix3 0 d r) (ix2 d r) (by
    rw [Shape.rowMajor_val_two, Shape.rowMajor_val_three]
    show d.val * 512 + r.val = (0 * 128 + d.val) * 512 + r.val
    omega)).trans ?_
  rw [truncf_apply]
  exact transpose_apply _ _ _ (ix2 d r) (ix2 r d) (fun b => match b with | ⟨0, _⟩ => rfl | ⟨1, _⟩ => rfl)

end Cert.ProjKernel

end
-- ==== Proof.ProjBlock.lean ====
/- The blocks the input kernel leaves at a grid point, as functions of the blocks it reads, and the stores that make them up:
   every store writes one head (or one chunk) of its block. -/
module

public import proofs.«01_k».proof.Proof.ProjKernel

@[expose] public section

noncomputable section

namespace Cert.ProjBlock

open Cert.Kernel3Ideal Cert.Kernel3Ideal.Gen Cert.Proj Cert.ProjKernel
open Idealize.ShloMosaic Idealize.ShloMosaic.TcCoe Idealize.ShloMosaic.ValueIdx Idealize.SL.Sem

variable (x0 : Vec Ideal S512x1024 .f32) (x1 : Vec Ideal S1x1024 .f32) (x2 : Vec Ideal S1024x8192 .bf16)
  (x3 x4 : Vec Ideal S512x128 .f32)

/-- A block of plain columns: row `i 0`, columns from `base` on. -/
def plainBlk (base N : Nat) (hb : base + N ≤ 8192) : (⟨2, ![512, N]⟩ : Shape).Idx → EReal :=
  fun i => entry x0 x1 x2 (i 0) ⟨base + (i 1).val, by have h : (i 1).val < N := (i 1).isLt; omega⟩

/-- The entry's place in its head. -/
def lane (n : Nat) : Fin 128 := ⟨n % 128, Nat.mod_lt _ (by omega)⟩

/-- A block of heads turned by the tables. -/
def keyBlk (base N : Nat) (hb : base + N ≤ 8192) (hN : N % 128 = 0) : (⟨2, ![512, N]⟩ : Shape).Idx → EReal :=
  fun i =>
    entry x0 x1 x2 (i 0) ⟨base + (i 1).val, by have h : (i 1).val < N := (i 1).isLt; omega⟩ * x3 (ix2 (i 0) (lane (i 1).val))
      + entry x0 x1 x2 (i 0) ⟨base + ((i 1).val / 128 * 128 + (opposite (lane (i 1).val)).val), by
          have h : (i 1).val < N := (i 1).isLt
          have := (opposite (lane (i 1).val)).isLt
          omega⟩ * x4 (ix2 (i 0) (lane (i 1).val))

/-- The same with the queries' scale. -/
def queryBlk (base N : Nat) (hb : base + N ≤ 8192) (hN : N % 128 = 0) : (⟨2, ![512, N]⟩ : Shape).Idx → EReal :=
  fun i => keyBlk x0 x1 x2 x3 x4 base N hb hN i * scale

/-- The block of the banded attention's values, the tokens last. -/
def valueBlk : (⟨3, ![1, 256, 512]⟩ : Shape).Idx → EReal :=
  fun i => entry x0 x1 x2 (i 2) ⟨1280 + (i 1).val, by have h : (i 1).val < 256 := (i 1).isLt; omega⟩

theorem zeros2 : (![0, 0] : Fin 2 → Nat) = fun _ => 0 := by
  funext a; match a with | ⟨0, _⟩ => rfl | ⟨1, _⟩ => rfl

theorem split2 {a b : Nat} (y : (⟨2, ![a, b]⟩ : Shape).Idx) : ∃ (r : Fin a) (d : Fin b), y = ix2 r d :=
  ⟨⟨(y 0).val, (y 0).isLt⟩, ⟨(y 1).val, (y 1).isLt⟩, funext fun k => Fin.ext (match k with | ⟨0, _⟩ => rfl | ⟨1, _⟩ => rfl)⟩

theorem split3 {a b c : Nat} (y : (⟨3, ![a, b, c]⟩ : Shape).Idx) : ∃ (r : Fin a) (d : Fin b) (e : Fin c), y = ix3 r d e :=
  ⟨⟨(y 0).val, (y 0).isLt⟩, ⟨(y 1).val, (y 1).isLt⟩, ⟨(y 2).val, (y 2).isLt⟩,
    funext fun k => Fin.ext (match k with | ⟨0, _⟩ => rfl | ⟨1, _⟩ => rfl | ⟨2, _⟩ => rfl)⟩

/-- An entry read at an equal column. -/
theorem entry_congr {r r' : Fin 512} {n n' : Fin 8192} (hr : r.val = r'.val) (hn : n.val = n'.val) :
    entry x0 x1 x2 r n = entry x0 x1 x2 r' n' := by
  rw [Fin.ext hr, Fin.ext hn]

/-- The block of turned heads at an index, its row, lane and columns named. -/
theorem keyBlk_at (base N : Nat) (hb : base + N ≤ 8192) (hN : N % 128 = 0) (i : (⟨2, ![512, N]⟩ : Shape).Idx) (r : Fin 512) (d : Fin 128)
    (n n' : Fin 8192) (hr : (i 0).val = r.val) (hd : (i 1).val % 128 = d.val) (hn : n.val = base + (i 1).val)
    (hn' : n'.val = base + ((i 1).val / 128 * 128 + (opposite d).val)) :
    keyBlk x0 x1 x2 x3 x4 base N hb hN i = entry x0 x1 x2 r n * x3 (ix2 r d) + entry x0 x1 x2 r n' * x4 (ix2 r d) := by
  have ed : lane (i 1).val = d := Fin.ext hd
  have ei : (ix2 (i 0) (lane (i 1).val) : S512x128.Idx) = ix2 r d := funext fun a => Fin.ext (match a with
    | ⟨0, _⟩ => hr
    | ⟨1, _⟩ => hd)
  unfold keyBlk
  refine congrArg₂ (· + ·) (congrArg₂ (· * ·) ?_ (congrArg x3 ei)) (congrArg₂ (· * ·) ?_ (congrArg x4 ei))
  · exact entry_congr x0 x1 x2 hr hn.symm
  · exact entry_congr x0 x1 x2 hr (by rw [hn', ← ed])

section Pieces

variable (h0 : ∀ a, (![0, 0] : Fin 2 → Nat) a + S512x1024.size a ≤ S512x1024.size a)
  (h1 : ∀ a, (![0, 0] : Fin 2 → Nat) a + S1x1024.size a ≤ S1x1024.size a)
  (h3 : ∀ a, (![0, 0] : Fin 2 → Nat) a + S512x128.size a ≤ S512x128.size a)
  (o p base N q : Nat) (hw : ∀ a, (![0, o] : Fin 2 → Nat) a + S1024x512.size a ≤ S1024x8192.size a)
  (hs : S512x512.Slices ![0, p] S512x128)

/-- The normed rows of the loaded block. -/
abbrev rows : FVec Ideal S512x1024 .bf16 :=
  normed (View.ld x0 (Rect.unit (s := S512x1024) ![0, 0] S512x1024.size h0)) (View.ld x1 (Rect.unit (s := S1x1024) ![0, 0] S1x1024.size h1))

/-- The chunk of the loaded weights. -/
abbrev part : FVec Ideal S512x512 .f32 :=
  chunk (rows x0 x1 h0 h1) (View.ld x2 (Rect.unit (s := S1024x8192) ![0, o] S1024x512.size hw))

/-- The loads of the rows and the gains are of whole blocks. -/
theorem part_eq : part x0 x1 x2 h0 h1 o hw
    = chunk (normed x0 x1) (View.ld x2 (Rect.unit (s := S1024x8192) ![0, o] S1024x512.size hw)) := by
  unfold part rows
  rw [View.ld_unit_zero zeros2, View.ld_unit_zero zeros2]

/-- A stored key head is its part of the block. -/
theorem key_piece (hb : base + N ≤ 8192) (hN : N % 128 = 0) (hq : ∀ a, (![0, q] : Fin 2 → Nat) a + S512x128.size a ≤ (⟨2, ![512, N]⟩ : Shape).size a)
    (e : o + p = base + q) (eq : q % 128 = 0) (y : S512x128.Idx) :
    (key (extractStridedSlice S512x128 ![0, p] (part x0 x1 x2 h0 h1 o hw) hs)
        (View.ld x3 (Rect.unit (s := S512x128) ![0, 0] S512x128.size h3)) (View.ld x4 (Rect.unit (s := S512x128) ![0, 0] S512x128.size h3)) y : EReal)
      = keyBlk x0 x1 x2 x3 x4 base N hb hN ((Rect.unit (s := ⟨2, ![512, N]⟩) ![0, q] S512x128.size hq).emb y) := by
  obtain ⟨r, d, rfl⟩ := split2 y
  have hd : d.val < 128 := d.isLt
  have hq1 : q + 128 ≤ N := hq 1
  have ho : (opposite d).val < 128 := (opposite d).isLt
  rw [key_apply, part_eq, View.ld_unit_zero zeros2, View.ld_unit_zero zeros2,
    head_apply x0 x1 x2 o p hw hs (hs.2 1) r d ⟨o + p + d.val, by omega⟩ rfl,
    head_apply x0 x1 x2 o p hw hs (hs.2 1) r (opposite d) ⟨o + p + (opposite d).val, by omega⟩ rfl]
  exact (keyBlk_at x0 x1 x2 x3 x4 base N hb hN _ r d _ _ (by show 0 + 1 * r.val = r.val; omega)
    (by show (q + 1 * d.val) % 128 = d.val; omega) (by show o + p + d.val = base + (q + 1 * d.val); omega)
    (by show o + p + (opposite d).val = base + ((q + 1 * d.val) / 128 * 128 + (opposite d).val); omega)).symm

/-- A stored query head is its part of the block. -/
theorem query_piece (hb : base + N ≤ 8192) (hN : N % 128 = 0) (hq : ∀ a, (![0, q] : Fin 2 → Nat) a + S512x128.size a ≤ (⟨2, ![512, N]⟩ : Shape).size a)
    (e : o + p = base + q) (eq : q % 128 = 0) (y : S512x128.Idx) :
    (query (extractStridedSlice S512x128 ![0, p] (part x0 x1 x2 h0 h1 o hw) hs)
        (View.ld x3 (Rect.unit (s := S512x128) ![0, 0] S512x128.size h3)) (View.ld x4 (Rect.unit (s := S512x128) ![0, 0] S512x128.size h3)) y : EReal)
      = queryBlk x0 x1 x2 x3 x4 base N hb hN ((Rect.unit (s := ⟨2, ![512, N]⟩) ![0, q] S512x128.size hq).emb y) := by
  have k := key_piece x0 x1 x2 x3 x4 h0 h1 h3 o p base N q hw hs hb hN hq e eq y
  unfold queryBlk
  rw [← k]
  obtain ⟨r, d, rfl⟩ := split2 y
  rw [key_apply, query_apply]

/-- A stored plain head is its part of the block. -/
theorem plain_piece (hb : base + N ≤ 8192) (hq : ∀ a, (![0, q] : Fin 2 → Nat) a + S512x128.size a ≤ (⟨2, ![512, N]⟩ : Shape).size a)
    (e : o + p = base + q) (y : S512x128.Idx) :
    (truncf .bf16 (extractStridedSlice S512x128 ![0, p] (part x0 x1 x2 h0 h1 o hw) hs) bitsLt_bf16_f32 y : EReal)
      = plainBlk x0 x1 x2 base N hb ((Rect.unit (s := ⟨2, ![512, N]⟩) ![0, q] S512x128.size hq).emb y) := by
  obtain ⟨r, d, rfl⟩ := split2 y
  have hd : d.val < 128 := d.isLt
  have hq1 : q + 128 ≤ N := hq 1
  rw [truncf_apply, part_eq]
  refine (head_apply x0 x1 x2 o p hw hs (hs.2 1) r d ⟨o + p + d.val, by omega⟩ rfl).trans ?_
  unfold plainBlk
  exact entry_congr x0 x1 x2 (by show r.val = 0 + 1 * r.val; omega) (by show o + p + d.val = base + (q + 1 * d.val); omega)

/-- A stored chunk is its part of the block. -/
theorem chunk_piece (hb : base + N ≤ 8192) (hq : ∀ a, (![0, q] : Fin 2 → Nat) a + S512x512.size a ≤ (⟨2, ![512, N]⟩ : Shape).size a)
    (e : o = base + q) (y : S512x512.Idx) :
    (truncf .bf16 (part x0 x1 x2 h0 h1 o hw) bitsLt_bf16_f32 y : EReal)
      = plainBlk x0 x1 x2 base N hb ((Rect.unit (s := ⟨2, ![512, N]⟩) ![0, q] S512x512.size hq).emb y) := by
  obtain ⟨r, d, rfl⟩ := split2 y
  have hd : d.val < 512 := d.isLt
  have hq1 : q + 512 ≤ N := hq 1
  rw [truncf_apply, part_eq]
  refine (chunk_apply x0 x1 x2 o hw r d ⟨o + d.val, by omega⟩ rfl).trans ?_
  unfold plainBlk
  exact entry_congr x0 x1 x2 (by show r.val = 0 + 1 * r.val; omega) (by show o + d.val = base + (q + 1 * d.val); omega)

/-- A stored value head of the banded attention is its part of the block. -/
theorem value_piece (hq : ∀ a, (![0, q, 0] : Fin 3 → Nat) a + S1x128x512.size a ≤ (⟨3, ![1, 256, 512]⟩ : Shape).size a)
    (e : o + p = 1280 + q) (y : S1x128x512.Idx) :
    (value (extractStridedSlice S512x128 ![0, p] (part x0 x1 x2 h0 h1 o hw) hs) y : EReal)
      = valueBlk x0 x1 x2 ((Rect.unit (s := ⟨3, ![1, 256, 512]⟩) ![0, q, 0] S1x128x512.size hq).emb y) := by
  obtain ⟨u, d, r, rfl⟩ := split3 y
  have hd : d.val < 128 := d.isLt
  have hq1 : q + 128 ≤ 256 := hq 1
  obtain rfl : u = 0 := Subsingleton.elim _ _
  rw [value_apply, part_eq]
  refine (head_apply x0 x1 x2 o p hw hs (hs.2 1) r d ⟨o + p + d.val, by omega⟩ rfl).trans ?_
  unfold valueBlk
  exact entry_congr x0 x1 x2 (by show r.val = 0 + 1 * r.val; omega) (by show o + p + d.val = 1280 + (q + 1 * d.val); omega)

end Pieces

end Cert.ProjBlock

end
-- ==== Proof.ProjPieces.lean ====
/- What the input kernel leaves in its results' blocks at a grid point: the stores of each block are its parts. -/
module

public import proofs.«01_k».proof.Proof.ProjBlock
public import Idealize.ShloMosaic.Lib.Pipeline.ValueKit.Tiles
public import Idealize.ShloMosaic.Lib.Pipeline.ReadBack
public import proofs.«01_k».proof.Proof.Gen.Kernel3Ideal.Value

@[expose] public section

noncomputable section

namespace Cert.ProjFinal

open Cert.Kernel3Ideal Cert.Kernel3Ideal.Gen Cert.Kernel3Ideal.Value Cert.Proj Cert.ProjKernel Cert.ProjBlock
open Idealize.ShloMosaic Idealize.ShloMosaic.TcCoe Idealize.ShloMosaic.ValueIdx Idealize.SL.Sem

variable (m : (ℓ : Loc nD τ sig) → Buf (Elt Ideal) ℓ) (c : Dev nD)

set_option maxHeartbeats 1600000 in
/-- What the body leaves in the block of the banded attention's queries. -/
theorem outs5 (t : Fin cfg0.N) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t)
      = queryBlk (iblk m c 0 t) (iblk m c 1 t) (iblk m c 2 t) (iblk m c 3 t) (iblk m c 4 t) 0 1024 (by omega) (by omega) := by
  unfold out0_A_5
  rw [View.read_writes_eq_canon _ _ _ (cover0_A_5 c _ _ _ _ _ _ _ _ _ _ _ _ _ _ _ _ _ _ _ _ _ _ _ _ _ _ _ _ _ _ _ _ _ _ _ _ _ _ _ _ _ _ _ _ _ _)]
  funext y
  refine View.canon_eq_of_allAt _ y _ (cover0_A_5 c _ _ _ _ _ _ _ _ _ _ _ _ _ _ _ _ _ _ _ _ _ _ _ _ _ _ _ _ _ _ _ _ _ _ _ _ _ _ _ _ _ _ _ _ _ _ y) ?_
  suffices h : View.PiecesOf (queryBlk (iblk m c 0 t) (iblk m c 1 t) (iblk m c 2 t) (iblk m c 3 t) (iblk m c 4 t) 0 1024 (by omega) (by omega))
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t)).1 from
    fun p hp x hx => by rw [← hx]; exact h.mem p hp x
  unfold kernelRun0_A
  dsimp only
  sl_unfold_words
  simp only [View.readAt_eq_ld, (hs0_0 t).read_unread, (hs0_1 t).read_unread, (hs0_2 t).read_unread, (hs0_3 t).read_unread, (hs0_4 t).read_unread]
  exact ⟨fun y => query_piece (iblk m c 0 t) (iblk m c 1 t) (iblk m c 2 t) (iblk m c 3 t) (iblk m c 4 t) inb_S512x1024_S512x1024_0_0 inb_S1x1024_S1x1024_0_0 inb_S512x128_S512x128_0_0 512 384 0 1024 896
      inb_S1024x8192_S1024x512_0_512 slices_S512x512_o0_384_S512x128 (by omega) (by omega) inb_S512x1024_S512x128_0_896 (by omega) (by omega) y,
    fun y => query_piece (iblk m c 0 t) (iblk m c 1 t) (iblk m c 2 t) (iblk m c 3 t) (iblk m c 4 t) inb_S512x1024_S512x1024_0_0 inb_S1x1024_S1x1024_0_0 inb_S512x128_S512x128_0_0 512 256 0 1024 768
      inb_S1024x8192_S1024x512_0_512 slices_S512x512_o0_256_S512x128 (by omega) (by omega) inb_S512x1024_S512x128_0_768 (by omega) (by omega) y,
    fun y => query_piece (iblk m c 0 t) (iblk m c 1 t) (iblk m c 2 t) (iblk m c 3 t) (iblk m c 4 t) inb_S512x1024_S512x1024_0_0 inb_S1x1024_S1x1024_0_0 inb_S512x128_S512x128_0_0 512 128 0 1024 640
      inb_S1024x8192_S1024x512_0_512 slices_S512x512_o0_128_S512x128 (by omega) (by omega) inb_S512x1024_S512x128_0_640 (by omega) (by omega) y,
    fun y => query_piece (iblk m c 0 t) (iblk m c 1 t) (iblk m c 2 t) (iblk m c 3 t) (iblk m c 4 t) inb_S512x1024_S512x1024_0_0 inb_S1x1024_S1x1024_0_0 inb_S512x128_S512x128_0_0 512 0 0 1024 512
      inb_S1024x8192_S1024x512_0_512 slices_S512x512_o0_0_S512x128 (by omega) (by omega) inb_S512x1024_S512x128_0_512 (by omega) (by omega) y,
    fun y => query_piece (iblk m c 0 t) (iblk m c 1 t) (iblk m c 2 t) (iblk m c 3 t) (iblk m c 4 t) inb_S512x1024_S512x1024_0_0 inb_S1x1024_S1x1024_0_0 inb_S512x128_S512x128_0_0 0 384 0 1024 384
      inb_S1024x8192_S1024x512_0_0 slices_S512x512_o0_384_S512x128 (by omega) (by omega) inb_S512x1024_S512x128_0_384 (by omega) (by omega) y,
    fun y => query_piece (iblk m c 0 t) (iblk m c 1 t) (iblk m c 2 t) (iblk m c 3 t) (iblk m c 4 t) inb_S512x1024_S512x1024_0_0 inb_S1x1024_S1x1024_0_0 inb_S512x128_S512x128_0_0 0 256 0 1024 256
      inb_S1024x8192_S1024x512_0_0 slices_S512x512_o0_256_S512x128 (by omega) (by omega) inb_S512x1024_S512x128_0_256 (by omega) (by omega) y,
    fun y => query_piece (iblk m c 0 t) (iblk m c 1 t) (iblk m c 2 t) (iblk m c 3 t) (iblk m c 4 t) inb_S512x1024_S512x1024_0_0 inb_S1x1024_S1x1024_0_0 inb_S512x128_S512x128_0_0 0 128 0 1024 128
      inb_S1024x8192_S1024x512_0_0 slices_S512x512_o0_128_S512x128 (by omega) (by omega) inb_S512x1024_S512x128_0_128 (by omega) (by omega) y,
    fun y => query_piece (iblk m c 0 t) (iblk m c 1 t) (iblk m c 2 t) (iblk m c 3 t) (iblk m c 4 t) inb_S512x1024_S512x1024_0_0 inb_S1x1024_S1x1024_0_0 inb_S512x128_S512x128_0_0 0 0 0 1024 0
      inb_S1024x8192_S1024x512_0_0 slices_S512x512_o0_0_S512x128 (by omega) (by omega) inb_S512x1024_S512x128_0_0 (by omega) (by omega) y,
    trivial⟩

set_option maxHeartbeats 1600000 in
/-- … of the banded attention's keys. -/
theorem outs6 (t : Fin cfg0.N) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t)
      = keyBlk (iblk m c 0 t) (iblk m c 1 t) (iblk m c 2 t) (iblk m c 3 t) (iblk m c 4 t) 1024 256 (by omega) (by omega) := by
  unfold out0_A_6
  rw [View.read_writes_eq_canon _ _ _ (cover0_A_6 c _ _ _ _ _ _ _ _ _ _ _ _ _ _ _ _ _ _ _ _ _ _ _ _ _ _ _ _ _ _ _ _ _ _ _ _ _ _ _ _ _ _ _ _ _ _)]
  funext y
  refine View.canon_eq_of_allAt _ y _ (cover0_A_6 c _ _ _ _ _ _ _ _ _ _ _ _ _ _ _ _ _ _ _ _ _ _ _ _ _ _ _ _ _ _ _ _ _ _ _ _ _ _ _ _ _ _ _ _ _ _ y) ?_
  suffices h : View.PiecesOf (keyBlk (iblk m c 0 t) (iblk m c 1 t) (iblk m c 2 t) (iblk m c 3 t) (iblk m c 4 t) 1024 256 (by omega) (by omega))
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t)).2.1 from
    fun p hp x hx => by rw [← hx]; exact h.mem p hp x
  unfold kernelRun0_A
  dsimp only
  sl_unfold_words
  simp only [View.readAt_eq_ld, (hs0_0 t).read_unread, (hs0_1 t).read_unread, (hs0_2 t).read_unread, (hs0_3 t).read_unread, (hs0_4 t).read_unread]
  exact ⟨fun y => key_piece (iblk m c 0 t) (iblk m c 1 t) (iblk m c 2 t) (iblk m c 3 t) (iblk m c 4 t) inb_S512x1024_S512x1024_0_0 inb_S1x1024_S1x1024_0_0 inb_S512x128_S512x128_0_0 1024 128 1024 256 128
      inb_S1024x8192_S1024x512_0_1024 slices_S512x512_o0_128_S512x128 (by omega) (by omega) inb_S512x256_S512x128_0_128 (by omega) (by omega) y,
    fun y => key_piece (iblk m c 0 t) (iblk m c 1 t) (iblk m c 2 t) (iblk m c 3 t) (iblk m c 4 t) inb_S512x1024_S512x1024_0_0 inb_S1x1024_S1x1024_0_0 inb_S512x128_S512x128_0_0 1024 0 1024 256 0
      inb_S1024x8192_S1024x512_0_1024 slices_S512x512_o0_0_S512x128 (by omega) (by omega) inb_S512x256_S512x128_0_0 (by omega) (by omega) y,
    trivial⟩

set_option maxHeartbeats 1600000 in
/-- … of the banded attention's values. -/
theorem outs7 (t : Fin cfg0.N) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t)
      = valueBlk (iblk m c 0 t) (iblk m c 1 t) (iblk m c 2 t) := by
  unfold out0_A_7
  rw [View.read_writes_eq_canon _ _ _ (cover0_A_7 c _ _ _ _ _ _ _ _ _ _ _ _ _ _ _ _ _ _ _ _ _ _ _ _ _ _ _ _ _ _ _ _ _ _ _ _ _ _ _ _ _ _ _ _ _ _)]
  funext y
  refine View.canon_eq_of_allAt _ y _ (cover0_A_7 c _ _ _ _ _ _ _ _ _ _ _ _ _ _ _ _ _ _ _ _ _ _ _ _ _ _ _ _ _ _ _ _ _ _ _ _ _ _ _ _ _ _ _ _ _ _ y) ?_
  suffices h : View.PiecesOf (valueBlk (iblk m c 0 t) (iblk m c 1 t) (iblk m c 2 t))
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t)).2.2.1 from
    fun p hp x hx => by rw [← hx]; exact h.mem p hp x
  unfold kernelRun0_A
  dsimp only
  sl_unfold_words
  simp only [View.readAt_eq_ld, (hs0_0 t).read_unread, (hs0_1 t).read_unread, (hs0_2 t).read_unread, (hs0_3 t).read_unread, (hs0_4 t).read_unread]
  exact ⟨fun y => value_piece (iblk m c 0 t) (iblk m c 1 t) (iblk m c 2 t) inb_S512x1024_S512x1024_0_0 inb_S1x1024_S1x1024_0_0 1024 384 128
      inb_S1024x8192_S1024x512_0_1024 slices_S512x512_o0_384_S512x128 inb_S1x256x512_S1x128x512_0_128_0 (by omega) y,
    fun y => value_piece (iblk m c 0 t) (iblk m c 1 t) (iblk m c 2 t) inb_S512x1024_S512x1024_0_0 inb_S1x1024_S1x1024_0_0 1024 256 0
      inb_S1024x8192_S1024x512_0_1024 slices_S512x512_o0_256_S512x128 inb_S1x256x512_S1x128x512_0_0_0 (by omega) y,
    trivial⟩

set_option maxHeartbeats 1600000 in
/-- … of the undilated group's queries. -/
theorem outs8 (t : Fin cfg0.N) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t)
      = queryBlk (iblk m c 0 t) (iblk m c 1 t) (iblk m c 2 t) (iblk m c 3 t) (iblk m c 4 t) 1536 512 (by omega) (by omega) := by
  unfold out0_A_8
  rw [View.read_writes_eq_canon _ _ _ (cover0_A_8 c _ _ _ _ _ _ _ _ _ _ _ _ _ _ _ _ _ _ _ _ _ _ _ _ _ _ _ _ _ _ _ _ _ _ _ _ _ _ _ _ _ _ _ _ _ _)]
  funext y
  refine View.canon_eq_of_allAt _ y _ (cover0_A_8 c _ _ _ _ _ _ _ _ _ _ _ _ _ _ _ _ _ _ _ _ _ _ _ _ _ _ _ _ _ _ _ _ _ _ _ _ _ _ _ _ _ _ _ _ _ _ y) ?_
  suffices h : View.PiecesOf (queryBlk (iblk m c 0 t) (iblk m c 1 t) (iblk m c 2 t) (iblk m c 3 t) (iblk m c 4 t) 1536 512 (by omega) (by omega))
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t)).2.2.2.1 from
    fun p hp x hx => by rw [← hx]; exact h.mem p hp x
  unfold kernelRun0_A
  dsimp only
  sl_unfold_words
  simp only [View.readAt_eq_ld, (hs0_0 t).read_unread, (hs0_1 t).read_unread, (hs0_2 t).read_unread, (hs0_3 t).read_unread, (hs0_4 t).read_unread]
  exact ⟨fun y => query_piece (iblk m c 0 t) (iblk m c 1 t) (iblk m c 2 t) (iblk m c 3 t) (iblk m c 4 t) inb_S512x1024_S512x1024_0_0 inb_S1x1024_S1x1024_0_0 inb_S512x128_S512x128_0_0 1536 384 1536 512 384
      inb_S1024x8192_S1024x512_0_1536 slices_S512x512_o0_384_S512x128 (by omega) (by omega) inb_S512x512_S512x128_0_384 (by omega) (by omega) y,
    fun y => query_piece (iblk m c 0 t) (iblk m c 1 t) (iblk m c 2 t) (iblk m c 3 t) (iblk m c 4 t) inb_S512x1024_S512x1024_0_0 inb_S1x1024_S1x1024_0_0 inb_S512x128_S512x128_0_0 1536 256 1536 512 256
      inb_S1024x8192_S1024x512_0_1536 slices_S512x512_o0_256_S512x128 (by omega) (by omega) inb_S512x512_S512x128_0_256 (by omega) (by omega) y,
    fun y => query_piece (iblk m c 0 t) (iblk m c 1 t) (iblk m c 2 t) (iblk m c 3 t) (iblk m c 4 t) inb_S512x1024_S512x1024_0_0 inb_S1x1024_S1x1024_0_0 inb_S512x128_S512x128_0_0 1536 128 1536 512 128
      inb_S1024x8192_S1024x512_0_1536 slices_S512x512_o0_128_S512x128 (by omega) (by omega) inb_S512x512_S512x128_0_128 (by omega) (by omega) y,
    fun y => query_piece (iblk m c 0 t) (iblk m c 1 t) (iblk m c 2 t) (iblk m c 3 t) (iblk m c 4 t) inb_S512x1024_S512x1024_0_0 inb_S1x1024_S1x1024_0_0 inb_S512x128_S512x128_0_0 1536 0 1536 512 0
      inb_S1024x8192_S1024x512_0_1536 slices_S512x512_o0_0_S512x128 (by omega) (by omega) inb_S512x512_S512x128_0_0 (by omega) (by omega) y,
    trivial⟩

set_option maxHeartbeats 1600000 in
/-- … of the undilated group's keys. -/
theorem outs9 (t : Fin cfg0.N) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t)
      = keyBlk (iblk m c 0 t) (iblk m c 1 t) (iblk m c 2 t) (iblk m c 3 t) (iblk m c 4 t) 2048 512 (by omega) (by omega) := by
  unfold out0_A_9
  rw [View.read_writes_eq_canon _ _ _ (cover0_A_9 c _ _ _ _ _ _ _ _ _ _ _ _ _ _ _ _ _ _ _ _ _ _ _ _ _ _ _ _ _ _ _ _ _ _ _ _ _ _ _ _ _ _ _ _ _ _)]
  funext y
  refine View.canon_eq_of_allAt _ y _ (cover0_A_9 c _ _ _ _ _ _ _ _ _ _ _ _ _ _ _ _ _ _ _ _ _ _ _ _ _ _ _ _ _ _ _ _ _ _ _ _ _ _ _ _ _ _ _ _ _ _ y) ?_
  suffices h : View.PiecesOf (keyBlk (iblk m c 0 t) (iblk m c 1 t) (iblk m c 2 t) (iblk m c 3 t) (iblk m c 4 t) 2048 512 (by omega) (by omega))
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t)).2.2.2.2.1 from
    fun p hp x hx => by rw [← hx]; exact h.mem p hp x
  unfold kernelRun0_A
  dsimp only
  sl_unfold_words
  simp only [View.readAt_eq_ld, (hs0_0 t).read_unread, (hs0_1 t).read_unread, (hs0_2 t).read_unread, (hs0_3 t).read_unread, (hs0_4 t).read_unread]
  exact ⟨fun y => key_piece (iblk m c 0 t) (iblk m c 1 t) (iblk m c 2 t) (iblk m c 3 t) (iblk m c 4 t) inb_S512x1024_S512x1024_0_0 inb_S1x1024_S1x1024_0_0 inb_S512x128_S512x128_0_0 2048 384 2048 512 384
      inb_S1024x8192_S1024x512_0_2048 slices_S512x512_o0_384_S512x128 (by omega) (by omega) inb_S512x512_S512x128_0_384 (by omega) (by omega) y,
    fun y => key_piece (iblk m c 0 t) (iblk m c 1 t) (iblk m c 2 t) (iblk m c 3 t) (iblk m c 4 t) inb_S512x1024_S512x1024_0_0 inb_S1x1024_S1x1024_0_0 inb_S512x128_S512x128_0_0 2048 256 2048 512 256
      inb_S1024x8192_S1024x512_0_2048 slices_S512x512_o0_256_S512x128 (by omega) (by omega) inb_S512x512_S512x128_0_256 (by omega) (by omega) y,
    fun y => key_piece (iblk m c 0 t) (iblk m c 1 t) (iblk m c 2 t) (iblk m c 3 t) (iblk m c 4 t) inb_S512x1024_S512x1024_0_0 inb_S1x1024_S1x1024_0_0 inb_S512x128_S512x128_0_0 2048 128 2048 512 128
      inb_S1024x8192_S1024x512_0_2048 slices_S512x512_o0_128_S512x128 (by omega) (by omega) inb_S512x512_S512x128_0_128 (by omega) (by omega) y,
    fun y => key_piece (iblk m c 0 t) (iblk m c 1 t) (iblk m c 2 t) (iblk m c 3 t) (iblk m c 4 t) inb_S512x1024_S512x1024_0_0 inb_S1x1024_S1x1024_0_0 inb_S512x128_S512x128_0_0 2048 0 2048 512 0
      inb_S1024x8192_S1024x512_0_2048 slices_S512x512_o0_0_S512x128 (by omega) (by omega) inb_S512x512_S512x128_0_0 (by omega) (by omega) y,
    trivial⟩

set_option maxHeartbeats 1600000 in
/-- … of the undilated group's values. -/
theorem outs10 (t : Fin cfg0.N) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t)
      = plainBlk (iblk m c 0 t) (iblk m c 1 t) (iblk m c 2 t) 2560 512 (by omega) := by
  unfold out0_A_10
  rw [View.read_writes_eq_canon _ _ _ (cover0_A_10 c _ _ _ _ _ _ _ _ _ _ _ _ _ _ _ _ _ _ _ _ _ _ _ _ _ _ _ _ _ _ _ _ _ _ _ _ _ _ _ _ _ _ _ _ _ _)]
  funext y
  refine View.canon_eq_of_allAt _ y _ (cover0_A_10 c _ _ _ _ _ _ _ _ _ _ _ _ _ _ _ _ _ _ _ _ _ _ _ _ _ _ _ _ _ _ _ _ _ _ _ _ _ _ _ _ _ _ _ _ _ _ y) ?_
  suffices h : View.PiecesOf (plainBlk (iblk m c 0 t) (iblk m c 1 t) (iblk m c 2 t) 2560 512 (by omega))
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t)).2.2.2.2.2.1 from
    fun p hp x hx => by rw [← hx]; exact h.mem p hp x
  unfold kernelRun0_A
  dsimp only
  sl_unfold_words
  simp only [View.readAt_eq_ld, (hs0_0 t).read_unread, (hs0_1 t).read_unread, (hs0_2 t).read_unread, (hs0_3 t).read_unread, (hs0_4 t).read_unread]
  exact ⟨fun y => plain_piece (iblk m c 0 t) (iblk m c 1 t) (iblk m c 2 t) inb_S512x1024_S512x1024_0_0 inb_S1x1024_S1x1024_0_0 2560 384 2560 512 384
      inb_S1024x8192_S1024x512_0_2560 slices_S512x512_o0_384_S512x128 (by omega) inb_S512x512_S512x128_0_384 (by omega) y,
    fun y => plain_piece (iblk m c 0 t) (iblk m c 1 t) (iblk m c 2 t) inb_S512x1024_S512x1024_0_0 inb_S1x1024_S1x1024_0_0 2560 256 2560 512 256
      inb_S1024x8192_S1024x512_0_2560 slices_S512x512_o0_256_S512x128 (by omega) inb_S512x512_S512x128_0_256 (by omega) y,
    fun y => plain_piece (iblk m c 0 t) (iblk m c 1 t) (iblk m c 2 t) inb_S512x1024_S512x1024_0_0 inb_S1x1024_S1x1024_0_0 2560 128 2560 512 128
      inb_S1024x8192_S1024x512_0_2560 slices_S512x512_o0_128_S512x128 (by omega) inb_S512x512_S512x128_0_128 (by omega) y,
    fun y => plain_piece (iblk m c 0 t) (iblk m c 1 t) (iblk m c 2 t) inb_S512x1024_S512x1024_0_0 inb_S1x1024_S1x1024_0_0 2560 0 2560 512 0
      inb_S1024x8192_S1024x512_0_2560 slices_S512x512_o0_0_S512x128 (by omega) inb_S512x512_S512x128_0_0 (by omega) y,
    trivial⟩

set_option maxHeartbeats 1600000 in
/-- … of the gates. -/
theorem outs17 (t : Fin cfg0.N) :
    out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t)
      = plainBlk (iblk m c 0 t) (iblk m c 1 t) (iblk m c 2 t) 6144 2048 (by omega) := by
  unfold out0_A_17
  rw [View.read_writes_eq_canon _ _ _ (cover0_A_17 c _ _ _ _ _ _ _ _ _ _ _ _ _ _ _ _ _ _ _ _ _ _ _ _ _ _ _ _ _ _ _ _ _ _ _ _ _ _ _ _ _ _ _ _ _ _)]
  funext y
  refine View.canon_eq_of_allAt _ y _ (cover0_A_17 c _ _ _ _ _ _ _ _ _ _ _ _ _ _ _ _ _ _ _ _ _ _ _ _ _ _ _ _ _ _ _ _ _ _ _ _ _ _ _ _ _ _ _ _ _ _ y) ?_
  suffices h : View.PiecesOf (plainBlk (iblk m c 0 t) (iblk m c 1 t) (iblk m c 2 t) 6144 2048 (by omega))
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (iblk m c 0 t) (iblk m c 1 t) (iblk m c 2 t) (iblk m c 3 t) (iblk m c 4 t)).2.2.2.2.2.2.2.2.2.2.2.2.1 from
    fun p hp x hx => by rw [← hx]; exact h.mem p hp x
  unfold kernelRun0_A
  dsimp only
  sl_unfold_words
  simp only [View.readAt_eq_ld, (hs0_0 t).read_unread, (hs0_1 t).read_unread, (hs0_2 t).read_unread, (hs0_3 t).read_unread, (hs0_4 t).read_unread]
  exact ⟨fun y => chunk_piece (iblk m c 0 t) (iblk m c 1 t) (iblk m c 2 t) inb_S512x1024_S512x1024_0_0 inb_S1x1024_S1x1024_0_0 7680 6144 2048 1536
      inb_S1024x8192_S1024x512_0_7680 (by omega) inb_S512x2048_S512x512_0_1536 (by omega) y,
    fun y => chunk_piece (iblk m c 0 t) (iblk m c 1 t) (iblk m c 2 t) inb_S512x1024_S512x1024_0_0 inb_S1x1024_S1x1024_0_0 7168 6144 2048 1024
      inb_S1024x8192_S1024x512_0_7168 (by omega) inb_S512x2048_S512x512_0_1024 (by omega) y,
    fun y => chunk_piece (iblk m c 0 t) (iblk m c 1 t) (iblk m c 2 t) inb_S512x1024_S512x1024_0_0 inb_S1x1024_S1x1024_0_0 6656 6144 2048 512
      inb_S1024x8192_S1024x512_0_6656 (by omega) inb_S512x2048_S512x512_0_512 (by omega) y,
    fun y => chunk_piece (iblk m c 0 t) (iblk m c 1 t) (iblk m c 2 t) inb_S512x1024_S512x1024_0_0 inb_S1x1024_S1x1024_0_0 6144 6144 2048 0
      inb_S1024x8192_S1024x512_0_6144 (by omega) inb_S512x2048_S512x512_0_0 (by omega) y,
    trivial⟩

end Cert.ProjFinal

end
-- ==== Proof.ProjRef.lean ====
/- The input part's reference computes the arrays of `ProjSpec`: the projection, the turned heads and the scaled queries. -/
module

public import proofs.«01_k».proof.Proof.ProjSpec
public import proofs.«01_k».proof.Proof.Gen.Reference3Ideal.Read
public import Idealize.ShloMosaic.Lib.IdealHost
public import Idealize.ShloMosaic.PureOps.Ideal.Laws

@[expose] public section

noncomputable section

namespace Cert.ProjRef

open Cert.Reference3Ideal Cert.Reference3Ideal.Read Cert.Reference3Ideal.Gen Cert.Proj Cert.Post
open Idealize.ShloMosaic Idealize.ShloMosaic.ValueIdx

variable (x0 : Arr3 32 2048 1024) (x1 : Arr2 1024 8192) (x2 : Arr1 1024)

/-- The cosines of the positions' angles, as the reference computes them. -/
abbrev cosTable : Arr2 2048 64 := val_main_v13 (F := Ideal)
/-- The sines of the positions' angles. -/
abbrev sinTable : Arr2 2048 64 := val_main_v15 (F := Ideal)

theorem i1 {n0 : Nat} (i : (⟨1, ![n0]⟩ : Shape).Idx) (a : Fin n0) (h0 : (i 0).val = a.val) : i = ix1 a :=
  funext fun d => Fin.ext (match d with | ⟨0, _⟩ => h0)

theorem i2 {n0 n1 : Nat} (i : (⟨2, ![n0, n1]⟩ : Shape).Idx) (a : Fin n0) (b : Fin n1)
    (h0 : (i 0).val = a.val) (h1 : (i 1).val = b.val) : i = ix2 a b :=
  funext fun d => Fin.ext (match d with | ⟨0, _⟩ => h0 | ⟨1, _⟩ => h1)

theorem i3 {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun d => Fin.ext (match d with | ⟨0, _⟩ => h0 | ⟨1, _⟩ => h1 | ⟨2, _⟩ => h2)

theorem i4 {n0 n1 n2 n3 : Nat} (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) : i = ix4 a b c d :=
  funext fun e => Fin.ext (match e with | ⟨0, _⟩ => h0 | ⟨1, _⟩ => h1 | ⟨2, _⟩ => h2 | ⟨3, _⟩ => h3)

/-! ## The projection -/

/-- The normed token. -/
theorem normed (b : Fin 32) (l : Fin 2048) (j : Fin 1024) :
    val_main_v29 (F := Ideal) x0 x2 (ix3 b l j) = rms (fun k => x0 (ix3 b l k)) (fun k => x2 (ix1 k)) j := by
  have hs : (∑ k : Fin 1024, val_main_v17 (F := Ideal) x0 (idx_main_v18 (ix2 b l) k)) = ∑ k, x0 (ix3 b l k) * x0 (ix3 b l k) :=
    Finset.sum_congr rfl fun k _ => by rw [i3 (idx_main_v18 (ix2 b l) k) b l k rfl rfl rfl, val_main_v17_apply]; rfl
  rw [val_main_v29_apply, val_main_v26_apply, val_main_v25_apply, val_main_v28_apply, val_main_v27_apply, val_main_v24_apply, val_main_v23_apply,
    val_main_v22_apply, val_main_cst_3_apply, val_main_v21_apply, val_main_v20_apply, val_main_cst_2_apply, val_main_v19_apply,
    i2 (idx_main_v19 (idx_main_v25 (ix3 b l j))) b l rfl rfl, val_main_v18_apply, val_main_cst_1_apply, hs,
    i1 (idx_main_v27 (idx_main_v28 (ix3 b l j))) j rfl,
    show (FloatOps.ofBits (F := Ideal) .f32 0x00000000#32 : Ideal .f32) = (0 : EReal) from Ideal.ofBits_zero_f32, zero_add]
  rfl

/-- A column of the token's projection. -/
theorem projected (b : Fin 32) (l : Fin 2048) (n : Fin 8192) : val_main_v30 (F := Ideal) x0 x1 x2 (ix3 b l n) = z x0 x1 x2 b l n := by
  rw [val_main_v30_apply]
  unfold z column
  refine Finset.sum_congr rfl fun e _ => ?_
  rw [i3 (lidx_main_v30 (ix3 b l n) e) b l e rfl rfl rfl, i2 (ridx_main_v30 (ix3 b l n) e) e n rfl rfl, normed]

/-- The same column read at any index with these coordinates. -/
theorem projected_at (i : S32x2048x8192.Idx) (b : Fin 32) (l : Fin 2048) (n : Fin 8192) (h0 : (i 0).val = b.val) (h1 : (i 1).val = l.val)
    (h2 : (i 2).val = n.val) : val_main_v30 (F := Ideal) x0 x1 x2 i = z x0 x1 x2 b l n := by
  rw [i3 i b l n h0 h1 h2, projected]

/-! ## The turn and the scale -/

/-- The two halves of a turned head put together. -/
theorem joined {H : Nat} (A B : (⟨4, ![32, 2048, H, 64]⟩ : Shape).Idx → EReal)
    (h : Shape.Concatenates [(⟨4, ![32, 2048, H, 64]⟩ : Shape), ⟨4, ![32, 2048, H, 64]⟩] ⟨4, ![32, 2048, H, 128]⟩ 3)
    (u : Fin 128 → EReal) (cs sn : Fin 64 → EReal) (b : Fin 32) (l : Fin 2048) (k : Fin H)
    (hA : ∀ p : Fin 64, A (ix4 b l k p) = u ⟨p.val, by omega⟩ * cs p - u ⟨p.val + 64, by omega⟩ * sn p)
    (hB : ∀ p : Fin 64, B (ix4 b l k p) = u ⟨p.val, by omega⟩ * sn p + u ⟨p.val + 64, by omega⟩ * cs p) (d : Fin 128) :
    concatenate ⟨4, ![32, 2048, H, 128]⟩ 3 [⟨⟨4, ![32, 2048, H, 64]⟩, A⟩, ⟨⟨4, ![32, 2048, H, 64]⟩, B⟩] h (ix4 b l k d) = rot u cs sn d := by
  have hd : d.val < 128 := d.isLt
  unfold rot
  by_cases hl : d.val < 64
  · rw [dif_pos hl]
    refine (concatenate_apply_piece (t := ⟨4, ![32, 2048, H, 128]⟩) 3 _ _ (ix4 b l k d) 0 (by show 0 < 2; omega) _ A rfl rfl 0 rfl
      (ix4 b l k (⟨d.val, hl⟩ : Fin 64)) (fun a ha => ?_) (by show 0 + d.val = d.val; omega)).trans (hA _)
    match a with
    | ⟨0, _⟩ => rfl
    | ⟨1, _⟩ => rfl
    | ⟨2, _⟩ => rfl
    | ⟨3, _⟩ => exact absurd rfl ha
  · rw [dif_neg hl]
    refine (concatenate_apply_piece (t := ⟨4, ![32, 2048, H, 128]⟩) 3 _ _ (ix4 b l k d) 1 (by show 1 < 2; omega) _ B rfl rfl 64 rfl
      (ix4 b l k (⟨d.val - 64, by omega⟩ : Fin 64)) (fun a ha => ?_) (by show 64 + (d.val - 64) = d.val; omega)).trans ?_
    · match a with
      | ⟨0, _⟩ => rfl
      | ⟨1, _⟩ => rfl
      | ⟨2, _⟩ => rfl
      | ⟨3, _⟩ => exact absurd rfl ha
    · rw [hB]
      have e : (⟨d.val - 64 + 64, by omega⟩ : Fin 128) = d := Fin.ext (by show d.val - 64 + 64 = d.val; omega)
      show _ + u ⟨d.val - 64 + 64, _⟩ * _ = _
      rw [e]

theorem root : FloatOps.hostUnary (F := Ideal) .sqrt (FloatOps.ofBits (F := Ideal) .f32 0x43000000#32) = ((Real.sqrt 128 : ℝ) : EReal) := by
  have e : Ideal.ofBits .f32 0x43000000#32 = ((128 : ℝ) : EReal) := by
    simp [Ideal.ofBits, Ideal.ieee]
    rw [← EReal.coe_mul]
    norm_num
  show Ideal.sqrt (Ideal.ofBits .f32 0x43000000#32) = _
  rw [e]
  exact (Ideal.sqrt_coe 128).trans (if_neg (by norm_num))

theorem logTwo : FloatOps.hostUnary (F := Ideal) .log (FloatOps.ofBits (F := Ideal) .f32 0x40000000#32) = ((Real.log 2 : ℝ) : EReal) := by
  have e : Ideal.ofBits .f32 0x40000000#32 = ((2 : ℝ) : EReal) := by
    simp [Ideal.ofBits, Ideal.ieee]
    rw [← EReal.coe_mul]
    norm_num
  show Ideal.log (Ideal.ofBits .f32 0x40000000#32) = _
  rw [e, Ideal.log_coe, if_neg (by norm_num)]

/-- The two divisions of a query are its scale. -/
theorem scaled (q : EReal) : Ideal.div (Ideal.div q ((Real.sqrt 128 : ℝ) : EReal)) ((Real.log 2 : ℝ) : EReal) = q * scale := by
  have h2 : Real.log 2 ≠ 0 := (Real.log_pos (by norm_num)).ne'
  rw [Ideal.div_coe h2, Ideal.div_coe (by positivity), mul_assoc, ← EReal.coe_mul, one_div, one_div]
  rfl

/-! ## The queries of the banded attention -/

/-- An entry of an unturned head. -/
theorem qa_head (b : Fin 32) (l : Fin 2048) (k : Fin 8) (d : Fin 128) (j : S32x2048x8x128.Idx) (h0 : (j 0).val = b.val)
    (h1 : (j 1).val = l.val) (h2 : (j 2).val = k.val) (h3 : (j 3).val = d.val) :
    val_main_v38 (F := Ideal) x0 x1 x2 j
      = head x0 x1 x2 b l (0 + k.val * 128) (by have := k.isLt; omega) d := by
  have hb : b.val < 32 := b.isLt
  have hl : l.val < 2048 := l.isLt
  have hk : k.val < 8 := k.isLt
  have hd : d.val < 128 := d.isLt
  rw [val_main_v38_apply, val_main_v31_apply]
  refine projected_at x0 x1 x2 _ b l _ ?_ ?_ ?_
  · show ((((j 0).val * 2048 + (j 1).val) * 8 + (j 2).val) * 128 + (j 3).val) / 2097152 = b.val
    rw [h0, h1, h2, h3]; omega
  · show ((((j 0).val * 2048 + (j 1).val) * 8 + (j 2).val) * 128 + (j 3).val) / 1024 % 2048 = l.val
    rw [h0, h1, h2, h3]; omega
  · show ((((j 0).val * 2048 + (j 1).val) * 8 + (j 2).val) * 128 + (j 3).val) % 1024 = 0 + k.val * 128 + d.val
    rw [h0, h1, h2, h3]; omega

/-- An entry of a turned head. -/
theorem qa_turned (b : Fin 32) (l : Fin 2048) (k : Fin 8) (d : Fin 128) :
    val_main_v51 (F := Ideal) x0 x1 x2 (ix4 b l k d)
      = rot (head x0 x1 x2 b l (0 + k.val * 128) (by have := k.isLt; omega)) (fun p => cosTable (ix2 l p)) (fun p => sinTable (ix2 l p)) d := by
  have lo : ∀ p : Fin 64, val_main_v39 (F := Ideal) x0 x1 x2 (ix4 b l k p)
      = head x0 x1 x2 b l (0 + k.val * 128) (by have := k.isLt; omega) ⟨p.val, by omega⟩ := fun p => by
    rw [val_main_v39_apply]; exact qa_head x0 x1 x2 b l k _ _ rfl rfl rfl rfl
  have hi : ∀ p : Fin 64, val_main_v40 (F := Ideal) x0 x1 x2 (ix4 b l k p)
      = head x0 x1 x2 b l (0 + k.val * 128) (by have := k.isLt; omega) ⟨p.val + 64, by omega⟩ := fun p => by
    rw [val_main_v40_apply]; exact qa_head x0 x1 x2 b l k _ _ rfl rfl rfl (by show 64 + p.val = p.val + 64; omega)
  unfold val_main_v51
  refine joined _ _ _ _ _ _ b l k (fun p => ?_) (fun p => ?_) d
  · rw [val_main_v45_apply, val_main_v42_apply, val_main_v44_apply, lo, hi, val_main_v41_apply, val_main_v43_apply, val_main_v14_apply, val_main_v16_apply,
      i2 (idx_main_v14 (idx_main_v41 (ix4 b l k p))) l p rfl rfl, i2 (idx_main_v16 (idx_main_v43 (ix4 b l k p))) l p rfl rfl]
    rfl
  · rw [val_main_v50_apply, val_main_v47_apply, val_main_v49_apply, lo, hi, val_main_v46_apply, val_main_v48_apply, val_main_v14_apply, val_main_v16_apply,
      i2 (idx_main_v14 (idx_main_v48 (ix4 b l k p))) l p rfl rfl, i2 (idx_main_v16 (idx_main_v46 (ix4 b l k p))) l p rfl rfl]
    rfl

/-- The queries of the banded attention. -/
theorem qa_eq : val_main_v207 (F := Ideal) x0 x1 x2 = queryArr x0 x1 x2 cosTable sinTable 0 1024 (by omega) (by omega) := by
  funext i
  have h0 : (i 0).val < 65536 := (i 0).isLt
  have h1 : (i 1).val < 1024 := (i 1).isLt
  rw [val_main_v207_apply, val_main_v201_apply, val_main_v57_apply, val_main_v54_apply, val_main_v53_apply, val_main_v52_apply, val_main_cst_4_apply, val_main_v56_apply, val_main_v55_apply, val_main_cst_5_apply, root, logTwo, i4 (idx_main_v201 i) (seqOf (i 0)) (posOf (i 0)) (⟨(i 1).val / 128, by omega⟩ : Fin 8) (⟨(i 1).val % 128, by omega⟩ : Fin 128)
      (by show ((i 0).val * 1024 + (i 1).val) / 2097152 = (i 0).val / 2048; omega)
      (by show ((i 0).val * 1024 + (i 1).val) / 1024 % 2048 = (i 0).val % 2048; omega)
      (by show ((i 0).val * 1024 + (i 1).val) / 128 % 8 = (i 1).val / 128; omega)
      (by show ((i 0).val * 1024 + (i 1).val) % 128 = (i 1).val % 128; omega), qa_turned]
  exact scaled _

/-! ## The keys of the banded attention -/

/-- An entry of an unturned head. -/
theorem ka_head (b : Fin 32) (l : Fin 2048) (k : Fin 2) (d : Fin 128) (j : S32x2048x2x128.Idx) (h0 : (j 0).val = b.val)
    (h1 : (j 1).val = l.val) (h2 : (j 2).val = k.val) (h3 : (j 3).val = d.val) :
    val_main_v58 (F := Ideal) x0 x1 x2 j
      = head x0 x1 x2 b l (1024 + k.val * 128) (by have := k.isLt; omega) d := by
  have hb : b.val < 32 := b.isLt
  have hl : l.val < 2048 := l.isLt
  have hk : k.val < 2 := k.isLt
  have hd : d.val < 128 := d.isLt
  rw [val_main_v58_apply, val_main_v32_apply]
  refine projected_at x0 x1 x2 _ b l _ ?_ ?_ ?_
  · show ((((j 0).val * 2048 + (j 1).val) * 2 + (j 2).val) * 128 + (j 3).val) / 524288 = b.val
    rw [h0, h1, h2, h3]; omega
  · show ((((j 0).val * 2048 + (j 1).val) * 2 + (j 2).val) * 128 + (j 3).val) / 256 % 2048 = l.val
    rw [h0, h1, h2, h3]; omega
  · show 1024 + ((((j 0).val * 2048 + (j 1).val) * 2 + (j 2).val) * 128 + (j 3).val) % 256 = 1024 + k.val * 128 + d.val
    rw [h0, h1, h2, h3]; omega

/-- An entry of a turned head. -/
theorem ka_turned (b : Fin 32) (l : Fin 2048) (k : Fin 2) (d : Fin 128) :
    val_main_v71 (F := Ideal) x0 x1 x2 (ix4 b l k d)
      = rot (head x0 x1 x2 b l (1024 + k.val * 128) (by have := k.isLt; omega)) (fun p => cosTable (ix2 l p)) (fun p => sinTable (ix2 l p)) d := by
  have lo : ∀ p : Fin 64, val_main_v59 (F := Ideal) x0 x1 x2 (ix4 b l k p)
      = head x0 x1 x2 b l (1024 + k.val * 128) (by have := k.isLt; omega) ⟨p.val, by omega⟩ := fun p => by
    rw [val_main_v59_apply]; exact ka_head x0 x1 x2 b l k _ _ rfl rfl rfl rfl
  have hi : ∀ p : Fin 64, val_main_v60 (F := Ideal) x0 x1 x2 (ix4 b l k p)
      = head x0 x1 x2 b l (1024 + k.val * 128) (by have := k.isLt; omega) ⟨p.val + 64, by omega⟩ := fun p => by
    rw [val_main_v60_apply]; exact ka_head x0 x1 x2 b l k _ _ rfl rfl rfl (by show 64 + p.val = p.val + 64; omega)
  unfold val_main_v71
  refine joined _ _ _ _ _ _ b l k (fun p => ?_) (fun p => ?_) d
  · rw [val_main_v65_apply, val_main_v62_apply, val_main_v64_apply, lo, hi, val_main_v61_apply, val_main_v63_apply, val_main_v14_apply, val_main_v16_apply,
      i2 (idx_main_v14 (idx_main_v61 (ix4 b l k p))) l p rfl rfl, i2 (idx_main_v16 (idx_main_v63 (ix4 b l k p))) l p rfl rfl]
    rfl
  · rw [val_main_v70_apply, val_main_v67_apply, val_main_v69_apply, lo, hi, val_main_v66_apply, val_main_v68_apply, val_main_v14_apply, val_main_v16_apply,
      i2 (idx_main_v14 (idx_main_v68 (ix4 b l k p))) l p rfl rfl, i2 (idx_main_v16 (idx_main_v66 (ix4 b l k p))) l p rfl rfl]
    rfl

/-- The keys of the banded attention. -/
theorem ka_eq : val_main_v208 (F := Ideal) x0 x1 x2 = keyArr x0 x1 x2 cosTable sinTable 1024 256 (by omega) (by omega) := by
  funext i
  have h0 : (i 0).val < 65536 := (i 0).isLt
  have h1 : (i 1).val < 256 := (i 1).isLt
  rw [val_main_v208_apply, val_main_v202_apply, i4 (idx_main_v202 i) (seqOf (i 0)) (posOf (i 0)) (⟨(i 1).val / 128, by omega⟩ : Fin 2) (⟨(i 1).val % 128, by omega⟩ : Fin 128)
      (by show ((i 0).val * 256 + (i 1).val) / 524288 = (i 0).val / 2048; omega)
      (by show ((i 0).val * 256 + (i 1).val) / 256 % 2048 = (i 0).val % 2048; omega)
      (by show ((i 0).val * 256 + (i 1).val) / 128 % 2 = (i 1).val / 128; omega)
      (by show ((i 0).val * 256 + (i 1).val) % 128 = (i 1).val % 128; omega), ka_turned]
  rfl

/-- The values of the banded attention, the tokens last. -/
theorem va_eq : val_main_v209 (F := Ideal) x0 x1 x2 = valueArr x0 x1 x2 := by
  funext i
  rw [val_main_v209_apply, val_main_v72_apply, val_main_v33_apply]
  exact projected_at x0 x1 x2 _ (i 0) (i 2) _ rfl rfl rfl

/-! ## The queries of the undilated group -/

/-- An entry of an unturned head. -/
theorem q0_head (b : Fin 32) (l : Fin 2048) (k : Fin 4) (d : Fin 128) (j : S32x2048x4x128.Idx) (h0 : (j 0).val = b.val)
    (h1 : (j 1).val = l.val) (h2 : (j 2).val = k.val) (h3 : (j 3).val = d.val) :
    val_main_v73 (F := Ideal) x0 x1 x2 j
      = head x0 x1 x2 b l (1536 + k.val * 128) (by have := k.isLt; omega) d := by
  have hb : b.val < 32 := b.isLt
  have hl : l.val < 2048 := l.isLt
  have hk : k.val < 4 := k.isLt
  have hd : d.val < 128 := d.isLt
  rw [val_main_v73_apply, val_main_v34_apply]
  refine projected_at x0 x1 x2 _ b l _ ?_ ?_ ?_
  · show ((((j 0).val * 2048 + (j 1).val) * 4 + (j 2).val) * 128 + (j 3).val) / 1048576 = b.val
    rw [h0, h1, h2, h3]; omega
  · show ((((j 0).val * 2048 + (j 1).val) * 4 + (j 2).val) * 128 + (j 3).val) / 512 % 2048 = l.val
    rw [h0, h1, h2, h3]; omega
  · show 1536 + ((((j 0).val * 2048 + (j 1).val) * 4 + (j 2).val) * 128 + (j 3).val) % 512 = 1536 + k.val * 128 + d.val
    rw [h0, h1, h2, h3]; omega

/-- An entry of a turned head. -/
theorem q0_turned (b : Fin 32) (l : Fin 2048) (k : Fin 4) (d : Fin 128) :
    val_main_v86 (F := Ideal) x0 x1 x2 (ix4 b l k d)
      = rot (head x0 x1 x2 b l (1536 + k.val * 128) (by have := k.isLt; omega)) (fun p => cosTable (ix2 l p)) (fun p => sinTable (ix2 l p)) d := by
  have lo : ∀ p : Fin 64, val_main_v74 (F := Ideal) x0 x1 x2 (ix4 b l k p)
      = head x0 x1 x2 b l (1536 + k.val * 128) (by have := k.isLt; omega) ⟨p.val, by omega⟩ := fun p => by
    rw [val_main_v74_apply]; exact q0_head x0 x1 x2 b l k _ _ rfl rfl rfl rfl
  have hi : ∀ p : Fin 64, val_main_v75 (F := Ideal) x0 x1 x2 (ix4 b l k p)
      = head x0 x1 x2 b l (1536 + k.val * 128) (by have := k.isLt; omega) ⟨p.val + 64, by omega⟩ := fun p => by
    rw [val_main_v75_apply]; exact q0_head x0 x1 x2 b l k _ _ rfl rfl rfl (by show 64 + p.val = p.val + 64; omega)
  unfold val_main_v86
  refine joined _ _ _ _ _ _ b l k (fun p => ?_) (fun p => ?_) d
  · rw [val_main_v80_apply, val_main_v77_apply, val_main_v79_apply, lo, hi, val_main_v76_apply, val_main_v78_apply, val_main_v14_apply, val_main_v16_apply,
      i2 (idx_main_v14 (idx_main_v76 (ix4 b l k p))) l p rfl rfl, i2 (idx_main_v16 (idx_main_v78 (ix4 b l k p))) l p rfl rfl]
    rfl
  · rw [val_main_v85_apply, val_main_v82_apply, val_main_v84_apply, lo, hi, val_main_v81_apply, val_main_v83_apply, val_main_v14_apply, val_main_v16_apply,
      i2 (idx_main_v14 (idx_main_v83 (ix4 b l k p))) l p rfl rfl, i2 (idx_main_v16 (idx_main_v81 (ix4 b l k p))) l p rfl rfl]
    rfl

/-- The queries of the undilated group. -/
theorem q0_eq : val_main_v210 (F := Ideal) x0 x1 x2 = queryArr x0 x1 x2 cosTable sinTable 1536 512 (by omega) (by omega) := by
  funext i
  have h0 : (i 0).val < 65536 := (i 0).isLt
  have h1 : (i 1).val < 512 := (i 1).isLt
  rw [val_main_v210_apply, val_main_v203_apply, val_main_v92_apply, val_main_v89_apply, val_main_v88_apply, val_main_v87_apply, val_main_cst_6_apply, val_main_v91_apply, val_main_v90_apply, val_main_cst_7_apply, root, logTwo, i4 (idx_main_v203 i) (seqOf (i 0)) (posOf (i 0)) (⟨(i 1).val / 128, by omega⟩ : Fin 4) (⟨(i 1).val % 128, by omega⟩ : Fin 128)
      (by show ((i 0).val * 512 + (i 1).val) / 1048576 = (i 0).val / 2048; omega)
      (by show ((i 0).val * 512 + (i 1).val) / 512 % 2048 = (i 0).val % 2048; omega)
      (by show ((i 0).val * 512 + (i 1).val) / 128 % 4 = (i 1).val / 128; omega)
      (by show ((i 0).val * 512 + (i 1).val) % 128 = (i 1).val % 128; omega), q0_turned]
  exact scaled _

/-! ## The keys of the undilated group -/

/-- An entry of an unturned head. -/
theorem k0_head (b : Fin 32) (l : Fin 2048) (k : Fin 4) (d : Fin 128) (j : S32x2048x4x128.Idx) (h0 : (j 0).val = b.val)
    (h1 : (j 1).val = l.val) (h2 : (j 2).val = k.val) (h3 : (j 3).val = d.val) :
    val_main_v93 (F := Ideal) x0 x1 x2 j
      = head x0 x1 x2 b l (2048 + k.val * 128) (by have := k.isLt; omega) d := by
  have hb : b.val < 32 := b.isLt
  have hl : l.val < 2048 := l.isLt
  have hk : k.val < 4 := k.isLt
  have hd : d.val < 128 := d.isLt
  rw [val_main_v93_apply, val_main_v35_apply]
  refine projected_at x0 x1 x2 _ b l _ ?_ ?_ ?_
  · show ((((j 0).val * 2048 + (j 1).val) * 4 + (j 2).val) * 128 + (j 3).val) / 1048576 = b.val
    rw [h0, h1, h2, h3]; omega
  · show ((((j 0).val * 2048 + (j 1).val) * 4 + (j 2).val) * 128 + (j 3).val) / 512 % 2048 = l.val
    rw [h0, h1, h2, h3]; omega
  · show 2048 + ((((j 0).val * 2048 + (j 1).val) * 4 + (j 2).val) * 128 + (j 3).val) % 512 = 2048 + k.val * 128 + d.val
    rw [h0, h1, h2, h3]; omega

/-- An entry of a turned head. -/
theorem k0_turned (b : Fin 32) (l : Fin 2048) (k : Fin 4) (d : Fin 128) :
    val_main_v106 (F := Ideal) x0 x1 x2 (ix4 b l k d)
      = rot (head x0 x1 x2 b l (2048 + k.val * 128) (by have := k.isLt; omega)) (fun p => cosTable (ix2 l p)) (fun p => sinTable (ix2 l p)) d := by
  have lo : ∀ p : Fin 64, val_main_v94 (F := Ideal) x0 x1 x2 (ix4 b l k p)
      = head x0 x1 x2 b l (2048 + k.val * 128) (by have := k.isLt; omega) ⟨p.val, by omega⟩ := fun p => by
    rw [val_main_v94_apply]; exact k0_head x0 x1 x2 b l k _ _ rfl rfl rfl rfl
  have hi : ∀ p : Fin 64, val_main_v95 (F := Ideal) x0 x1 x2 (ix4 b l k p)
      = head x0 x1 x2 b l (2048 + k.val * 128) (by have := k.isLt; omega) ⟨p.val + 64, by omega⟩ := fun p => by
    rw [val_main_v95_apply]; exact k0_head x0 x1 x2 b l k _ _ rfl rfl rfl (by show 64 + p.val = p.val + 64; omega)
  unfold val_main_v106
  refine joined _ _ _ _ _ _ b l k (fun p => ?_) (fun p => ?_) d
  · rw [val_main_v100_apply, val_main_v97_apply, val_main_v99_apply, lo, hi, val_main_v96_apply, val_main_v98_apply, val_main_v14_apply, val_main_v16_apply,
      i2 (idx_main_v14 (idx_main_v96 (ix4 b l k p))) l p rfl rfl, i2 (idx_main_v16 (idx_main_v98 (ix4 b l k p))) l p rfl rfl]
    rfl
  · rw [val_main_v105_apply, val_main_v102_apply, val_main_v104_apply, lo, hi, val_main_v101_apply, val_main_v103_apply, val_main_v14_apply, val_main_v16_apply,
      i2 (idx_main_v14 (idx_main_v103 (ix4 b l k p))) l p rfl rfl, i2 (idx_main_v16 (idx_main_v101 (ix4 b l k p))) l p rfl rfl]
    rfl

/-- The keys of the undilated group. -/
theorem k0_eq : val_main_v211 (F := Ideal) x0 x1 x2 = keyArr x0 x1 x2 cosTable sinTable 2048 512 (by omega) (by omega) := by
  funext i
  have h0 : (i 0).val < 65536 := (i 0).isLt
  have h1 : (i 1).val < 512 := (i 1).isLt
  rw [val_main_v211_apply, val_main_v204_apply, i4 (idx_main_v204 i) (seqOf (i 0)) (posOf (i 0)) (⟨(i 1).val / 128, by omega⟩ : Fin 4) (⟨(i 1).val % 128, by omega⟩ : Fin 128)
      (by show ((i 0).val * 512 + (i 1).val) / 1048576 = (i 0).val / 2048; omega)
      (by show ((i 0).val * 512 + (i 1).val) / 512 % 2048 = (i 0).val % 2048; omega)
      (by show ((i 0).val * 512 + (i 1).val) / 128 % 4 = (i 1).val / 128; omega)
      (by show ((i 0).val * 512 + (i 1).val) % 128 = (i 1).val % 128; omega), k0_turned]
  rfl

/-- The values of the undilated group. -/
theorem v0_eq : val_main_v212 (F := Ideal) x0 x1 x2 = plainArr x0 x1 x2 2560 512 (by omega) := by
  funext i
  have h0 : (i 0).val < 65536 := (i 0).isLt
  have h1 : (i 1).val < 512 := (i 1).isLt
  rw [val_main_v212_apply, val_main_v205_apply, val_main_v36_apply]
  refine projected_at x0 x1 x2 _ (seqOf (i 0)) (posOf (i 0)) _ ?_ ?_ ?_
  · show ((i 0).val * 512 + (i 1).val) / 1048576 = (i 0).val / 2048; omega
  · show ((i 0).val * 512 + (i 1).val) / 512 % 2048 = (i 0).val % 2048; omega
  · show 2560 + ((i 0).val * 512 + (i 1).val) % 512 = 2560 + (i 1).val; omega

/-- The gates. -/
theorem gates_eq : val_main_v219 (F := Ideal) x0 x1 x2 = plainArr x0 x1 x2 6144 2048 (by omega) := by
  funext i
  have h0 : (i 0).val < 65536 := (i 0).isLt
  have h1 : (i 1).val < 2048 := (i 1).isLt
  rw [val_main_v219_apply, val_main_v206_apply, val_main_v37_apply]
  refine projected_at x0 x1 x2 _ (seqOf (i 0)) (posOf (i 0)) _ ?_ ?_ ?_
  · show ((i 0).val * 2048 + (i 1).val) / 4194304 = (i 0).val / 2048; omega
  · show ((i 0).val * 2048 + (i 1).val) / 2048 % 2048 = (i 0).val % 2048; omega
  · show 6144 + ((i 0).val * 2048 + (i 1).val) % 2048 = 6144 + (i 1).val; omega

/-! ## The dilated groups -/

/-- Where an entry of the residue classes modulo 4 comes from. -/
theorem fold4_idx (i : S32x4x512x512.Idx) (h3 : (i 3).val < 512) :
    idx_main_v130 (idx_main_v131 (idx_main_v132 i))
      = ix4 (i 0) (foldPos 4 512 (by omega) i) (⟨(i 3).val / 128, by omega⟩ : Fin 4) (⟨(i 3).val % 128, by omega⟩ : Fin 128) := by
  have h0 : (i 0).val < 32 := (i 0).isLt
  have h1 : (i 1).val < 4 := (i 1).isLt
  have h2 : (i 2).val < 512 := (i 2).isLt
  have e : idx_main_v132 i = ix5 (i 0) (i 1) (i 2) (⟨(i 3).val / 128, by omega⟩ : Fin 4) (⟨(i 3).val % 128, by omega⟩ : Fin 128) :=
    funext fun a => Fin.ext (match a with
      | ⟨0, _⟩ => by show ((((i 0).val * 4 + (i 1).val) * 512 + (i 2).val) * 512 + (i 3).val) / 1048576 = (i 0).val; omega
      | ⟨1, _⟩ => by show ((((i 0).val * 4 + (i 1).val) * 512 + (i 2).val) * 512 + (i 3).val) / 262144 % 4 = (i 1).val; omega
      | ⟨2, _⟩ => by show ((((i 0).val * 4 + (i 1).val) * 512 + (i 2).val) * 512 + (i 3).val) / 512 % 512 = (i 2).val; omega
      | ⟨3, _⟩ => by show ((((i 0).val * 4 + (i 1).val) * 512 + (i 2).val) * 512 + (i 3).val) / 128 % 4 = (i 3).val / 128; omega
      | ⟨4, _⟩ => by show ((((i 0).val * 4 + (i 1).val) * 512 + (i 2).val) * 512 + (i 3).val) % 128 = (i 3).val % 128; omega)
  rw [e]
  refine i4 _ _ _ _ _ ?_ ?_ ?_ ?_
  · show (((((i 0).val * 512 + (i 2).val) * 4 + (i 1).val) * 4 + (i 3).val / 128) * 128 + (i 3).val % 128) / 1048576 = (i 0).val; omega
  · show (((((i 0).val * 512 + (i 2).val) * 4 + (i 1).val) * 4 + (i 3).val / 128) * 128 + (i 3).val % 128) / 512 % 2048
      = (i 1).val + 4 * (i 2).val; omega
  · show (((((i 0).val * 512 + (i 2).val) * 4 + (i 1).val) * 4 + (i 3).val / 128) * 128 + (i 3).val % 128) / 128 % 4 = (i 3).val / 128; omega
  · show (((((i 0).val * 512 + (i 2).val) * 4 + (i 1).val) * 4 + (i 3).val / 128) * 128 + (i 3).val % 128) % 128 = (i 3).val % 128; omega

/-- Where an entry of the residue classes modulo 16 comes from. -/
theorem fold16_idx (i : S32x16x128x512.Idx) (h3 : (i 3).val < 512) :
    idx_main_v177 (idx_main_v178 (idx_main_v179 i))
      = ix4 (i 0) (foldPos 16 128 (by omega) i) (⟨(i 3).val / 128, by omega⟩ : Fin 4) (⟨(i 3).val % 128, by omega⟩ : Fin 128) := by
  have h0 : (i 0).val < 32 := (i 0).isLt
  have h1 : (i 1).val < 16 := (i 1).isLt
  have h2 : (i 2).val < 128 := (i 2).isLt
  have e : idx_main_v179 i = ix5 (i 0) (i 1) (i 2) (⟨(i 3).val / 128, by omega⟩ : Fin 4) (⟨(i 3).val % 128, by omega⟩ : Fin 128) :=
    funext fun a => Fin.ext (match a with
      | ⟨0, _⟩ => by show ((((i 0).val * 16 + (i 1).val) * 128 + (i 2).val) * 512 + (i 3).val) / 1048576 = (i 0).val; omega
      | ⟨1, _⟩ => by show ((((i 0).val * 16 + (i 1).val) * 128 + (i 2).val) * 512 + (i 3).val) / 65536 % 16 = (i 1).val; omega
      | ⟨2, _⟩ => by show ((((i 0).val * 16 + (i 1).val) * 128 + (i 2).val) * 512 + (i 3).val) / 512 % 128 = (i 2).val; omega
      | ⟨3, _⟩ => by show ((((i 0).val * 16 + (i 1).val) * 128 + (i 2).val) * 512 + (i 3).val) / 128 % 4 = (i 3).val / 128; omega
      | ⟨4, _⟩ => by show ((((i 0).val * 16 + (i 1).val) * 128 + (i 2).val) * 512 + (i 3).val) % 128 = (i 3).val % 128; omega)
  rw [e]
  refine i4 _ _ _ _ _ ?_ ?_ ?_ ?_
  · show (((((i 0).val * 128 + (i 2).val) * 16 + (i 1).val) * 4 + (i 3).val / 128) * 128 + (i 3).val % 128) / 1048576 = (i 0).val; omega
  · show (((((i 0).val * 128 + (i 2).val) * 16 + (i 1).val) * 4 + (i 3).val / 128) * 128 + (i 3).val % 128) / 512 % 2048
      = (i 1).val + 16 * (i 2).val; omega
  · show (((((i 0).val * 128 + (i 2).val) * 16 + (i 1).val) * 4 + (i 3).val / 128) * 128 + (i 3).val % 128) / 128 % 4 = (i 3).val / 128; omega
  · show (((((i 0).val * 128 + (i 2).val) * 16 + (i 1).val) * 4 + (i 3).val / 128) * 128 + (i 3).val % 128) % 128 = (i 3).val % 128; omega

/-! ## The queries of the first dilated group -/

/-- An entry of an unturned head. -/
theorem q1_head (b : Fin 32) (l : Fin 2048) (k : Fin 4) (d : Fin 128) (j : S32x2048x4x128.Idx) (h0 : (j 0).val = b.val)
    (h1 : (j 1).val = l.val) (h2 : (j 2).val = k.val) (h3 : (j 3).val = d.val) :
    val_main_v110 (F := Ideal) x0 x1 x2 j
      = head x0 x1 x2 b l (3072 + k.val * 128) (by have := k.isLt; omega) d := by
  have hb : b.val < 32 := b.isLt
  have hl : l.val < 2048 := l.isLt
  have hk : k.val < 4 := k.isLt
  have hd : d.val < 128 := d.isLt
  rw [val_main_v110_apply, val_main_v107_apply]
  refine projected_at x0 x1 x2 _ b l _ ?_ ?_ ?_
  · show ((((j 0).val * 2048 + (j 1).val) * 4 + (j 2).val) * 128 + (j 3).val) / 1048576 = b.val
    rw [h0, h1, h2, h3]; omega
  · show ((((j 0).val * 2048 + (j 1).val) * 4 + (j 2).val) * 128 + (j 3).val) / 512 % 2048 = l.val
    rw [h0, h1, h2, h3]; omega
  · show 3072 + ((((j 0).val * 2048 + (j 1).val) * 4 + (j 2).val) * 128 + (j 3).val) % 512 = 3072 + k.val * 128 + d.val
    rw [h0, h1, h2, h3]; omega

/-- An entry of a turned head. -/
theorem q1_turned (b : Fin 32) (l : Fin 2048) (k : Fin 4) (d : Fin 128) :
    val_main_v123 (F := Ideal) x0 x1 x2 (ix4 b l k d)
      = rot (head x0 x1 x2 b l (3072 + k.val * 128) (by have := k.isLt; omega)) (fun p => cosTable (ix2 l p)) (fun p => sinTable (ix2 l p)) d := by
  have lo : ∀ p : Fin 64, val_main_v111 (F := Ideal) x0 x1 x2 (ix4 b l k p)
      = head x0 x1 x2 b l (3072 + k.val * 128) (by have := k.isLt; omega) ⟨p.val, by omega⟩ := fun p => by
    rw [val_main_v111_apply]; exact q1_head x0 x1 x2 b l k _ _ rfl rfl rfl rfl
  have hi : ∀ p : Fin 64, val_main_v112 (F := Ideal) x0 x1 x2 (ix4 b l k p)
      = head x0 x1 x2 b l (3072 + k.val * 128) (by have := k.isLt; omega) ⟨p.val + 64, by omega⟩ := fun p => by
    rw [val_main_v112_apply]; exact q1_head x0 x1 x2 b l k _ _ rfl rfl rfl (by show 64 + p.val = p.val + 64; omega)
  unfold val_main_v123
  refine joined _ _ _ _ _ _ b l k (fun p => ?_) (fun p => ?_) d
  · rw [val_main_v117_apply, val_main_v114_apply, val_main_v116_apply, lo, hi, val_main_v113_apply, val_main_v115_apply, val_main_v14_apply, val_main_v16_apply,
      i2 (idx_main_v14 (idx_main_v113 (ix4 b l k p))) l p rfl rfl, i2 (idx_main_v16 (idx_main_v115 (ix4 b l k p))) l p rfl rfl]
    rfl
  · rw [val_main_v122_apply, val_main_v119_apply, val_main_v121_apply, lo, hi, val_main_v118_apply, val_main_v120_apply, val_main_v14_apply, val_main_v16_apply,
      i2 (idx_main_v14 (idx_main_v120 (ix4 b l k p))) l p rfl rfl, i2 (idx_main_v16 (idx_main_v118 (ix4 b l k p))) l p rfl rfl]
    rfl

/-- An entry of a scaled head. -/
theorem q1_scaled (b : Fin 32) (l : Fin 2048) (k : Fin 4) (d : Fin 128) :
    val_main_v129 (F := Ideal) x0 x1 x2 (ix4 b l k d)
      = rot (head x0 x1 x2 b l (3072 + k.val * 128) (by have := k.isLt; omega)) (fun p => cosTable (ix2 l p)) (fun p => sinTable (ix2 l p)) d * scale := by
  rw [val_main_v129_apply, val_main_v126_apply, val_main_v125_apply, val_main_v124_apply, val_main_cst_8_apply, val_main_v128_apply, val_main_v127_apply, val_main_cst_9_apply, root, logTwo, q1_turned]
  exact scaled _

/-- The queries of the first dilated group. -/
theorem q1_eq : val_main_v213 (F := Ideal) x0 x1 x2 = foldArr 4 512 (by omega) (queryArr x0 x1 x2 cosTable sinTable 3072 512 (by omega) (by omega)) := by
  funext i
  have h3 : (i 3).val < 512 := (i 3).isLt
  rw [val_main_v213_apply, val_main_v132_apply, val_main_v131_apply, val_main_v130_apply]
  refine (congrArg (val_main_v129 (F := Ideal) x0 x1 x2) (fold4_idx i h3)).trans ?_
  exact (q1_scaled x0 x1 x2 _ _ _ _).trans (congrArg (· * scale) (foldArr_key x0 x1 x2 cosTable sinTable 4 512 (by omega) 3072 (by omega) (by omega) i).symm)

/-! ## The keys of the first dilated group -/

/-- An entry of an unturned head. -/
theorem k1_head (b : Fin 32) (l : Fin 2048) (k : Fin 4) (d : Fin 128) (j : S32x2048x4x128.Idx) (h0 : (j 0).val = b.val)
    (h1 : (j 1).val = l.val) (h2 : (j 2).val = k.val) (h3 : (j 3).val = d.val) :
    val_main_v133 (F := Ideal) x0 x1 x2 j
      = head x0 x1 x2 b l (3584 + k.val * 128) (by have := k.isLt; omega) d := by
  have hb : b.val < 32 := b.isLt
  have hl : l.val < 2048 := l.isLt
  have hk : k.val < 4 := k.isLt
  have hd : d.val < 128 := d.isLt
  rw [val_main_v133_apply, val_main_v108_apply]
  refine projected_at x0 x1 x2 _ b l _ ?_ ?_ ?_
  · show ((((j 0).val * 2048 + (j 1).val) * 4 + (j 2).val) * 128 + (j 3).val) / 1048576 = b.val
    rw [h0, h1, h2, h3]; omega
  · show ((((j 0).val * 2048 + (j 1).val) * 4 + (j 2).val) * 128 + (j 3).val) / 512 % 2048 = l.val
    rw [h0, h1, h2, h3]; omega
  · show 3584 + ((((j 0).val * 2048 + (j 1).val) * 4 + (j 2).val) * 128 + (j 3).val) % 512 = 3584 + k.val * 128 + d.val
    rw [h0, h1, h2, h3]; omega

/-- An entry of a turned head. -/
theorem k1_turned (b : Fin 32) (l : Fin 2048) (k : Fin 4) (d : Fin 128) :
    val_main_v146 (F := Ideal) x0 x1 x2 (ix4 b l k d)
      = rot (head x0 x1 x2 b l (3584 + k.val * 128) (by have := k.isLt; omega)) (fun p => cosTable (ix2 l p)) (fun p => sinTable (ix2 l p)) d := by
  have lo : ∀ p : Fin 64, val_main_v134 (F := Ideal) x0 x1 x2 (ix4 b l k p)
      = head x0 x1 x2 b l (3584 + k.val * 128) (by have := k.isLt; omega) ⟨p.val, by omega⟩ := fun p => by
    rw [val_main_v134_apply]; exact k1_head x0 x1 x2 b l k _ _ rfl rfl rfl rfl
  have hi : ∀ p : Fin 64, val_main_v135 (F := Ideal) x0 x1 x2 (ix4 b l k p)
      = head x0 x1 x2 b l (3584 + k.val * 128) (by have := k.isLt; omega) ⟨p.val + 64, by omega⟩ := fun p => by
    rw [val_main_v135_apply]; exact k1_head x0 x1 x2 b l k _ _ rfl rfl rfl (by show 64 + p.val = p.val + 64; omega)
  unfold val_main_v146
  refine joined _ _ _ _ _ _ b l k (fun p => ?_) (fun p => ?_) d
  · rw [val_main_v140_apply, val_main_v137_apply, val_main_v139_apply, lo, hi, val_main_v136_apply, val_main_v138_apply, val_main_v14_apply, val_main_v16_apply,
      i2 (idx_main_v14 (idx_main_v136 (ix4 b l k p))) l p rfl rfl, i2 (idx_main_v16 (idx_main_v138 (ix4 b l k p))) l p rfl rfl]
    rfl
  · rw [val_main_v145_apply, val_main_v142_apply, val_main_v144_apply, lo, hi, val_main_v141_apply, val_main_v143_apply, val_main_v14_apply, val_main_v16_apply,
      i2 (idx_main_v14 (idx_main_v143 (ix4 b l k p))) l p rfl rfl, i2 (idx_main_v16 (idx_main_v141 (ix4 b l k p))) l p rfl rfl]
    rfl

/-- The keys of the first dilated group. -/
theorem k1_eq : val_main_v214 (F := Ideal) x0 x1 x2 = foldArr 4 512 (by omega) (keyArr x0 x1 x2 cosTable sinTable 3584 512 (by omega) (by omega)) := by
  funext i
  have h3 : (i 3).val < 512 := (i 3).isLt
  rw [val_main_v214_apply, val_main_v149_apply, val_main_v148_apply, val_main_v147_apply]
  refine (congrArg (val_main_v146 (F := Ideal) x0 x1 x2) (fold4_idx i h3)).trans ?_
  exact (k1_turned x0 x1 x2 _ _ _ _).trans (foldArr_key x0 x1 x2 cosTable sinTable 4 512 (by omega) 3584 (by omega) (by omega) i).symm

/-! ## The values of the first dilated group -/

/-- An entry of an unturned head. -/
theorem v1_head (b : Fin 32) (l : Fin 2048) (k : Fin 4) (d : Fin 128) (j : S32x2048x4x128.Idx) (h0 : (j 0).val = b.val)
    (h1 : (j 1).val = l.val) (h2 : (j 2).val = k.val) (h3 : (j 3).val = d.val) :
    val_main_v150 (F := Ideal) x0 x1 x2 j
      = head x0 x1 x2 b l (4096 + k.val * 128) (by have := k.isLt; omega) d := by
  have hb : b.val < 32 := b.isLt
  have hl : l.val < 2048 := l.isLt
  have hk : k.val < 4 := k.isLt
  have hd : d.val < 128 := d.isLt
  rw [val_main_v150_apply, val_main_v109_apply]
  refine projected_at x0 x1 x2 _ b l _ ?_ ?_ ?_
  · show ((((j 0).val * 2048 + (j 1).val) * 4 + (j 2).val) * 128 + (j 3).val) / 1048576 = b.val
    rw [h0, h1, h2, h3]; omega
  · show ((((j 0).val * 2048 + (j 1).val) * 4 + (j 2).val) * 128 + (j 3).val) / 512 % 2048 = l.val
    rw [h0, h1, h2, h3]; omega
  · show 4096 + ((((j 0).val * 2048 + (j 1).val) * 4 + (j 2).val) * 128 + (j 3).val) % 512 = 4096 + k.val * 128 + d.val
    rw [h0, h1, h2, h3]; omega

/-- The values of the first dilated group. -/
theorem v1_eq : val_main_v215 (F := Ideal) x0 x1 x2 = foldArr 4 512 (by omega) (plainArr x0 x1 x2 4096 512 (by omega)) := by
  funext i
  have h3 : (i 3).val < 512 := (i 3).isLt
  rw [val_main_v215_apply, val_main_v153_apply, val_main_v152_apply, val_main_v151_apply]
  refine (congrArg (val_main_v150 (F := Ideal) x0 x1 x2) (fold4_idx i h3)).trans ?_
  refine (v1_head x0 x1 x2 (i 0) (foldPos 4 512 (by omega) i) ⟨(i 3).val / 128, by omega⟩ ⟨(i 3).val % 128, by omega⟩ _ rfl rfl rfl rfl).trans
    (Eq.trans ?_ (foldArr_plain x0 x1 x2 4 512 (by omega) 4096 (by omega) i).symm)
  exact congrArg (z x0 x1 x2 (i 0) (foldPos 4 512 (by omega) i))
    (Fin.ext (by show 4096 + (i 3).val / 128 * 128 + (i 3).val % 128 = 4096 + (i 3).val; omega))

/-! ## The queries of the second dilated group -/

/-- An entry of an unturned head. -/
theorem q2_head (b : Fin 32) (l : Fin 2048) (k : Fin 4) (d : Fin 128) (j : S32x2048x4x128.Idx) (h0 : (j 0).val = b.val)
    (h1 : (j 1).val = l.val) (h2 : (j 2).val = k.val) (h3 : (j 3).val = d.val) :
    val_main_v157 (F := Ideal) x0 x1 x2 j
      = head x0 x1 x2 b l (4608 + k.val * 128) (by have := k.isLt; omega) d := by
  have hb : b.val < 32 := b.isLt
  have hl : l.val < 2048 := l.isLt
  have hk : k.val < 4 := k.isLt
  have hd : d.val < 128 := d.isLt
  rw [val_main_v157_apply, val_main_v154_apply]
  refine projected_at x0 x1 x2 _ b l _ ?_ ?_ ?_
  · show ((((j 0).val * 2048 + (j 1).val) * 4 + (j 2).val) * 128 + (j 3).val) / 1048576 = b.val
    rw [h0, h1, h2, h3]; omega
  · show ((((j 0).val * 2048 + (j 1).val) * 4 + (j 2).val) * 128 + (j 3).val) / 512 % 2048 = l.val
    rw [h0, h1, h2, h3]; omega
  · show 4608 + ((((j 0).val * 2048 + (j 1).val) * 4 + (j 2).val) * 128 + (j 3).val) % 512 = 4608 + k.val * 128 + d.val
    rw [h0, h1, h2, h3]; omega

/-- An entry of a turned head. -/
theorem q2_turned (b : Fin 32) (l : Fin 2048) (k : Fin 4) (d : Fin 128) :
    val_main_v170 (F := Ideal) x0 x1 x2 (ix4 b l k d)
      = rot (head x0 x1 x2 b l (4608 + k.val * 128) (by have := k.isLt; omega)) (fun p => cosTable (ix2 l p)) (fun p => sinTable (ix2 l p)) d := by
  have lo : ∀ p : Fin 64, val_main_v158 (F := Ideal) x0 x1 x2 (ix4 b l k p)
      = head x0 x1 x2 b l (4608 + k.val * 128) (by have := k.isLt; omega) ⟨p.val, by omega⟩ := fun p => by
    rw [val_main_v158_apply]; exact q2_head x0 x1 x2 b l k _ _ rfl rfl rfl rfl
  have hi : ∀ p : Fin 64, val_main_v159 (F := Ideal) x0 x1 x2 (ix4 b l k p)
      = head x0 x1 x2 b l (4608 + k.val * 128) (by have := k.isLt; omega) ⟨p.val + 64, by omega⟩ := fun p => by
    rw [val_main_v159_apply]; exact q2_head x0 x1 x2 b l k _ _ rfl rfl rfl (by show 64 + p.val = p.val + 64; omega)
  unfold val_main_v170
  refine joined _ _ _ _ _ _ b l k (fun p => ?_) (fun p => ?_) d
  · rw [val_main_v164_apply, val_main_v161_apply, val_main_v163_apply, lo, hi, val_main_v160_apply, val_main_v162_apply, val_main_v14_apply, val_main_v16_apply,
      i2 (idx_main_v14 (idx_main_v160 (ix4 b l k p))) l p rfl rfl, i2 (idx_main_v16 (idx_main_v162 (ix4 b l k p))) l p rfl rfl]
    rfl
  · rw [val_main_v169_apply, val_main_v166_apply, val_main_v168_apply, lo, hi, val_main_v165_apply, val_main_v167_apply, val_main_v14_apply, val_main_v16_apply,
      i2 (idx_main_v14 (idx_main_v167 (ix4 b l k p))) l p rfl rfl, i2 (idx_main_v16 (idx_main_v165 (ix4 b l k p))) l p rfl rfl]
    rfl

/-- An entry of a scaled head. -/
theorem q2_scaled (b : Fin 32) (l : Fin 2048) (k : Fin 4) (d : Fin 128) :
    val_main_v176 (F := Ideal) x0 x1 x2 (ix4 b l k d)
      = rot (head x0 x1 x2 b l (4608 + k.val * 128) (by have := k.isLt; omega)) (fun p => cosTable (ix2 l p)) (fun p => sinTable (ix2 l p)) d * scale := by
  rw [val_main_v176_apply, val_main_v173_apply, val_main_v172_apply, val_main_v171_apply, val_main_cst_10_apply, val_main_v175_apply, val_main_v174_apply, val_main_cst_11_apply, root, logTwo, q2_turned]
  exact scaled _

/-- The queries of the second dilated group. -/
theorem q2_eq : val_main_v216 (F := Ideal) x0 x1 x2 = foldArr 16 128 (by omega) (queryArr x0 x1 x2 cosTable sinTable 4608 512 (by omega) (by omega)) := by
  funext i
  have h3 : (i 3).val < 512 := (i 3).isLt
  rw [val_main_v216_apply, val_main_v179_apply, val_main_v178_apply, val_main_v177_apply]
  refine (congrArg (val_main_v176 (F := Ideal) x0 x1 x2) (fold16_idx i h3)).trans ?_
  exact (q2_scaled x0 x1 x2 _ _ _ _).trans (congrArg (· * scale) (foldArr_key x0 x1 x2 cosTable sinTable 16 128 (by omega) 4608 (by omega) (by omega) i).symm)

/-! ## The keys of the second dilated group -/

/-- An entry of an unturned head. -/
theorem k2_head (b : Fin 32) (l : Fin 2048) (k : Fin 4) (d : Fin 128) (j : S32x2048x4x128.Idx) (h0 : (j 0).val = b.val)
    (h1 : (j 1).val = l.val) (h2 : (j 2).val = k.val) (h3 : (j 3).val = d.val) :
    val_main_v180 (F := Ideal) x0 x1 x2 j
      = head x0 x1 x2 b l (5120 + k.val * 128) (by have := k.isLt; omega) d := by
  have hb : b.val < 32 := b.isLt
  have hl : l.val < 2048 := l.isLt
  have hk : k.val < 4 := k.isLt
  have hd : d.val < 128 := d.isLt
  rw [val_main_v180_apply, val_main_v155_apply]
  refine projected_at x0 x1 x2 _ b l _ ?_ ?_ ?_
  · show ((((j 0).val * 2048 + (j 1).val) * 4 + (j 2).val) * 128 + (j 3).val) / 1048576 = b.val
    rw [h0, h1, h2, h3]; omega
  · show ((((j 0).val * 2048 + (j 1).val) * 4 + (j 2).val) * 128 + (j 3).val) / 512 % 2048 = l.val
    rw [h0, h1, h2, h3]; omega
  · show 5120 + ((((j 0).val * 2048 + (j 1).val) * 4 + (j 2).val) * 128 + (j 3).val) % 512 = 5120 + k.val * 128 + d.val
    rw [h0, h1, h2, h3]; omega

/-- An entry of a turned head. -/
theorem k2_turned (b : Fin 32) (l : Fin 2048) (k : Fin 4) (d : Fin 128) :
    val_main_v193 (F := Ideal) x0 x1 x2 (ix4 b l k d)
      = rot (head x0 x1 x2 b l (5120 + k.val * 128) (by have := k.isLt; omega)) (fun p => cosTable (ix2 l p)) (fun p => sinTable (ix2 l p)) d := by
  have lo : ∀ p : Fin 64, val_main_v181 (F := Ideal) x0 x1 x2 (ix4 b l k p)
      = head x0 x1 x2 b l (5120 + k.val * 128) (by have := k.isLt; omega) ⟨p.val, by omega⟩ := fun p => by
    rw [val_main_v181_apply]; exact k2_head x0 x1 x2 b l k _ _ rfl rfl rfl rfl
  have hi : ∀ p : Fin 64, val_main_v182 (F := Ideal) x0 x1 x2 (ix4 b l k p)
      = head x0 x1 x2 b l (5120 + k.val * 128) (by have := k.isLt; omega) ⟨p.val + 64, by omega⟩ := fun p => by
    rw [val_main_v182_apply]; exact k2_head x0 x1 x2 b l k _ _ rfl rfl rfl (by show 64 + p.val = p.val + 64; omega)
  unfold val_main_v193
  refine joined _ _ _ _ _ _ b l k (fun p => ?_) (fun p => ?_) d
  · rw [val_main_v187_apply, val_main_v184_apply, val_main_v186_apply, lo, hi, val_main_v183_apply, val_main_v185_apply, val_main_v14_apply, val_main_v16_apply,
      i2 (idx_main_v14 (idx_main_v183 (ix4 b l k p))) l p rfl rfl, i2 (idx_main_v16 (idx_main_v185 (ix4 b l k p))) l p rfl rfl]
    rfl
  · rw [val_main_v192_apply, val_main_v189_apply, val_main_v191_apply, lo, hi, val_main_v188_apply, val_main_v190_apply, val_main_v14_apply, val_main_v16_apply,
      i2 (idx_main_v14 (idx_main_v190 (ix4 b l k p))) l p rfl rfl, i2 (idx_main_v16 (idx_main_v188 (ix4 b l k p))) l p rfl rfl]
    rfl

/-- The keys of the second dilated group. -/
theorem k2_eq : val_main_v217 (F := Ideal) x0 x1 x2 = foldArr 16 128 (by omega) (keyArr x0 x1 x2 cosTable sinTable 5120 512 (by omega) (by omega)) := by
  funext i
  have h3 : (i 3).val < 512 := (i 3).isLt
  rw [val_main_v217_apply, val_main_v196_apply, val_main_v195_apply, val_main_v194_apply]
  refine (congrArg (val_main_v193 (F := Ideal) x0 x1 x2) (fold16_idx i h3)).trans ?_
  exact (k2_turned x0 x1 x2 _ _ _ _).trans (foldArr_key x0 x1 x2 cosTable sinTable 16 128 (by omega) 5120 (by omega) (by omega) i).symm

/-! ## The values of the second dilated group -/

/-- An entry of an unturned head. -/
theorem v2_head (b : Fin 32) (l : Fin 2048) (k : Fin 4) (d : Fin 128) (j : S32x2048x4x128.Idx) (h0 : (j 0).val = b.val)
    (h1 : (j 1).val = l.val) (h2 : (j 2).val = k.val) (h3 : (j 3).val = d.val) :
    val_main_v197 (F := Ideal) x0 x1 x2 j
      = head x0 x1 x2 b l (5632 + k.val * 128) (by have := k.isLt; omega) d := by
  have hb : b.val < 32 := b.isLt
  have hl : l.val < 2048 := l.isLt
  have hk : k.val < 4 := k.isLt
  have hd : d.val < 128 := d.isLt
  rw [val_main_v197_apply, val_main_v156_apply]
  refine projected_at x0 x1 x2 _ b l _ ?_ ?_ ?_
  · show ((((j 0).val * 2048 + (j 1).val) * 4 + (j 2).val) * 128 + (j 3).val) / 1048576 = b.val
    rw [h0, h1, h2, h3]; omega
  · show ((((j 0).val * 2048 + (j 1).val) * 4 + (j 2).val) * 128 + (j 3).val) / 512 % 2048 = l.val
    rw [h0, h1, h2, h3]; omega
  · show 5632 + ((((j 0).val * 2048 + (j 1).val) * 4 + (j 2).val) * 128 + (j 3).val) % 512 = 5632 + k.val * 128 + d.val
    rw [h0, h1, h2, h3]; omega

/-- The values of the second dilated group. -/
theorem v2_eq : val_main_v218 (F := Ideal) x0 x1 x2 = foldArr 16 128 (by omega) (plainArr x0 x1 x2 5632 512 (by omega)) := by
  funext i
  have h3 : (i 3).val < 512 := (i 3).isLt
  rw [val_main_v218_apply, val_main_v200_apply, val_main_v199_apply, val_main_v198_apply]
  refine (congrArg (val_main_v197 (F := Ideal) x0 x1 x2) (fold16_idx i h3)).trans ?_
  refine (v2_head x0 x1 x2 (i 0) (foldPos 16 128 (by omega) i) ⟨(i 3).val / 128, by omega⟩ ⟨(i 3).val % 128, by omega⟩ _ rfl rfl rfl rfl).trans
    (Eq.trans ?_ (foldArr_plain x0 x1 x2 16 128 (by omega) 5632 (by omega) i).symm)
  exact congrArg (z x0 x1 x2 (i 0) (foldPos 16 128 (by omega) i))
    (Fin.ext (by show 5632 + (i 3).val / 128 * 128 + (i 3).val % 128 = 5632 + (i 3).val; omega))

end Cert.ProjRef

end
-- ==== Proof.ProjFinal.lean ====
/- What the input kernel's result arrays hold after the run: the blocks of every grid point are the rows of the arrays of `ProjSpec`
   they stand for, and the blocks cover the arrays. -/
module

public import proofs.«01_k».proof.Proof.ProjPieces
public import proofs.«01_k».proof.Proof.ProjRef
public import Idealize.ShloMosaic.Lib.StableHlo.Run

@[expose] public section

noncomputable section

namespace Cert.ProjFinal

open Cert.Kernel3Ideal Cert.Kernel3Ideal.Gen Cert.Kernel3Ideal.Value Cert.Proj Cert.Post Cert.ProjKernel Cert.ProjBlock
open Cert.ProjRef (cosTable sinTable)
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (c : Dev nD)

/-- The tokens' rows, the weights and the gains. -/
abbrev argX : Arr3 32 2048 1024 := m ((c : Thread nD τ).loc main_arg0)
abbrev argW : Arr2 1024 8192 := m ((c : Thread nD τ).loc main_arg1)
abbrev argG : Arr1 1024 := m ((c : Thread nD τ).loc main_arg2)

/-! ## The arrays the region finds: the arguments through the host's casts and reshapes, and the tables -/

theorem V_v20 : V m c main_v20 = shapeCast S65536x1024 (m ((c : Thread nD τ).loc main_arg0)) shapeCasts_S32x2048x1024_S65536x1024 := by
  simp only [V, hostOps0]; after_results_simp <;> rfl
theorem V_v18 : V m c main_v18 = shapeCast S1x1024 (m ((c : Thread nD τ).loc main_arg2)) shapeCasts_S1024_S1x1024 := by
  simp only [V, hostOps0]; after_results_simp <;> rfl
theorem V_v19 : V m c main_v19 = (truncf .bf16 (m ((c : Thread nD τ).loc main_arg1)) bitsLt_bf16_f32 : FVec Ideal S1024x8192 .bf16) := by
  simp only [V, hostOps0]; after_results_simp <;> rfl
theorem V_v15 : V m c main_v15 = concatenate S2048x128 1 [⟨S2048x64, cosTable⟩, ⟨S2048x64, cosTable⟩] concatenates_S2048x64_S2048x64_S2048x128_d1 := by
  simp only [V, hostOps0]; after_results_simp <;> rfl
theorem V_v17 : V m c main_v17 = concatenate S2048x128 1 [⟨S2048x64, (Host.negf (F := Ideal) (φ := .f32) sinTable)⟩, ⟨S2048x64, sinTable⟩]
    concatenates_S2048x64_S2048x64_S2048x128_d1 := by
  simp only [V, hostOps0]; after_results_simp <;> rfl

/-- Two half-width tables side by side, at an index. -/
theorem wide_apply (A B : S2048x64.Idx → EReal) (l : Fin 2048) (d : Fin 128) :
    concatenate S2048x128 1 [⟨S2048x64, A⟩, ⟨S2048x64, B⟩] concatenates_S2048x64_S2048x64_S2048x128_d1 (ix2 l d)
      = if d.val < 64 then A (ix2 l (plane d)) else B (ix2 l (plane d)) := by
  have hd : d.val < 128 := d.isLt
  by_cases h : d.val < 64
  · rw [if_pos h]
    refine concatenate_apply_piece (t := S2048x128) 1 _ _ (ix2 l d) 0 (by show 0 < 2; omega) S2048x64 A rfl rfl 0 rfl
      (ix2 l (plane d)) (fun a ha => ?_) (by show 0 + d.val % 64 = d.val; omega)
    match a with
    | ⟨0, _⟩ => rfl
    | ⟨1, _⟩ => exact absurd rfl ha
  · rw [if_neg h]
    refine concatenate_apply_piece (t := S2048x128) 1 _ _ (ix2 l d) 1 (by show 1 < 2; omega) S2048x64 B rfl rfl 64 rfl
      (ix2 l (plane d)) (fun a ha => ?_) (by show 64 + d.val % 64 = d.val; omega)
    match a with
    | ⟨0, _⟩ => rfl
    | ⟨1, _⟩ => exact absurd rfl ha

/-! ## The blocks at a grid point -/

/-- Where the windows stand: the tokens' windows move with the point, the tables' with the position in the sequence, the weights stay. -/
theorem idx_facts : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val % 4 ∧ win0_3.index t 1 = 0)
    ∧ (win0_4.index t 0 = t.val % 4 ∧ win0_4.index t 1 = 0) := by
  decide +kernel

/-- Where the results' windows stand. -/
theorem out_facts : ∀ t : Fin cfg0.N,
    (win0_5.index t 0 = t.val ∧ win0_5.index t 1 = 0) ∧ (win0_6.index t 0 = t.val ∧ win0_6.index t 1 = 0)
    ∧ (win0_8.index t 0 = t.val ∧ win0_8.index t 1 = 0) ∧ (win0_9.index t 0 = t.val ∧ win0_9.index t 1 = 0)
    ∧ (win0_10.index t 0 = t.val ∧ win0_10.index t 1 = 0) ∧ (win0_17.index t 0 = t.val ∧ win0_17.index t 1 = 0)
    ∧ (win0_7.index t 0 = t.val / 4 ∧ win0_7.index t 1 = 0 ∧ win0_7.index t 2 = t.val % 4) := by
  decide +kernel

/-- The token of row `r` of the block at point `t`. -/
def tok (t : Fin cfg0.N) (r : Fin 512) : Fin 65536 :=
  ⟨t.val * 512 + r.val, by have h : t.val < 128 := t.isLt; have := r.isLt; omega⟩

theorem flat_apply {α : Type} (v : S32x2048x1024.Idx → α) (n : Fin 65536) (k : Fin 1024) :
    shapeCast S65536x1024 v shapeCasts_S32x2048x1024_S65536x1024 (ix2 n k) = v (ix3 (seqOf n) (posOf n) k) :=
  shapeCast_apply v _ (ix2 n k) (ix3 (seqOf n) (posOf n) k) (by
    rw [Shape.rowMajor_val_three, Shape.rowMajor_val_two]
    show (n.val / 2048 * 2048 + n.val % 2048) * 1024 + k.val = n.val * 1024 + k.val
    rw [Nat.div_add_mod'])

theorem row_apply {α : Type} (v : S1024.Idx → α) (k : Fin 1024) :
    shapeCast S1x1024 v shapeCasts_S1024_S1x1024 (ix2 0 k) = v (ix1 k) :=
  shapeCast_apply v _ (ix2 0 k) (ix1 k) (by
    rw [Shape.rowMajor_val_one, Shape.rowMajor_val_two]
    show k.val = 0 * 1024 + k.val
    omega)

theorem blk0 (t : Fin cfg0.N) (r : Fin 512) (k : Fin 1024) :
    (iblk m c 0 t : Vec Ideal S512x1024 .f32) (ix2 r k) = argX m c (ix3 (seqOf (tok t r)) (posOf (tok t r)) k) := by
  obtain ⟨⟨e0, e1⟩, -⟩ := idx_facts t
  refine Eq.trans ?_ (flat_apply (m ((c : Thread nD τ).loc main_arg0)) (tok t r) k)
  rw [← V_v20 m c]
  refine congrArg (V m c main_v20) (funext fun a => Fin.ext ?_)
  match a with
  | ⟨0, _⟩ => show win0_0.index t 0 * 512 + 1 * r.val = t.val * 512 + r.val; rw [e0]; omega
  | ⟨1, _⟩ => show win0_0.index t 1 * 1024 + 1 * k.val = k.val; rw [e1]; omega

theorem blk1 (t : Fin cfg0.N) (k : Fin 1024) : (iblk m c 1 t : Vec Ideal S1x1024 .f32) (ix2 0 k) = argG m c (ix1 k) := by
  obtain ⟨-, ⟨e0, e1⟩, -⟩ := idx_facts t
  refine Eq.trans ?_ (row_apply (m ((c : Thread nD τ).loc main_arg2)) k)
  rw [← V_v18 m c]
  refine congrArg (V m c main_v18) (funext fun a => Fin.ext ?_)
  match a with
  | ⟨0, _⟩ => show win0_1.index t 0 * 1 + 1 * 0 = 0; rw [e0]
  | ⟨1, _⟩ => show win0_1.index t 1 * 1024 + 1 * k.val = k.val; rw [e1]; omega

theorem blk2 (t : Fin cfg0.N) (e : Fin 1024) (n : Fin 8192) :
    (iblk m c 2 t : Vec Ideal S1024x8192 .bf16) (ix2 e n) = (argW m c (ix2 e n) : EReal) := by
  obtain ⟨-, -, ⟨e0, e1⟩, -⟩ := idx_facts t
  refine Eq.trans (b := V m c main_v19 (ix2 e n)) (congrArg (V m c main_v19) (funext fun a => Fin.ext ?_)) (by rw [V_v19]; rfl)
  match a with
  | ⟨0, _⟩ => show win0_2.index t 0 * 1024 + 1 * e.val = e.val; rw [e0]; omega
  | ⟨1, _⟩ => show win0_2.index t 1 * 8192 + 1 * n.val = n.val; rw [e1]; omega

theorem blk3 (t : Fin cfg0.N) (r : Fin 512) (d : Fin 128) :
    (iblk m c 3 t : Vec Ideal S512x128 .f32) (ix2 r d) = cosTable (ix2 (posOf (tok t r)) (plane d)) := by
  obtain ⟨-, -, -, ⟨e0, e1⟩, -⟩ := idx_facts t
  have hr : r.val < 512 := r.isLt
  refine Eq.trans (b := V m c main_v15 (ix2 (posOf (tok t r)) d)) (congrArg (V m c main_v15) (funext fun a => Fin.ext ?_)) ?_
  · match a with
    | ⟨0, _⟩ => show win0_3.index t 0 * 512 + 1 * r.val = (t.val * 512 + r.val) % 2048; rw [e0]; omega
    | ⟨1, _⟩ => show win0_3.index t 1 * 128 + 1 * d.val = d.val; rw [e1]; omega
  · rw [V_v15]
    exact (wide_apply cosTable cosTable _ d).trans (ite_self _)

theorem blk4 (t : Fin cfg0.N) (r : Fin 512) (d : Fin 128) :
    (iblk m c 4 t : Vec Ideal S512x128 .f32) (ix2 r d)
      = if d.val < 64 then - sinTable (ix2 (posOf (tok t r)) (plane d)) else sinTable (ix2 (posOf (tok t r)) (plane d)) := by
  obtain ⟨-, -, -, -, ⟨e0, e1⟩⟩ := idx_facts t
  have hr : r.val < 512 := r.isLt
  refine Eq.trans (b := V m c main_v17 (ix2 (posOf (tok t r)) d)) (congrArg (V m c main_v17) (funext fun a => Fin.ext ?_)) ?_
  · match a with
    | ⟨0, _⟩ => show win0_4.index t 0 * 512 + 1 * r.val = (t.val * 512 + r.val) % 2048; rw [e0]; omega
    | ⟨1, _⟩ => show win0_4.index t 1 * 128 + 1 * d.val = d.val; rw [e1]; omega
  · rw [V_v17]
    exact wide_apply (Host.negf (F := Ideal) (φ := .f32) sinTable) sinTable _ d

/-! ## The blocks of the results -/

/-- An entry of the block's projection is the token's. -/
theorem entry_eq (t : Fin cfg0.N) (r : Fin 512) (n : Fin 8192) :
    entry (iblk m c 0 t) (iblk m c 1 t) (iblk m c 2 t) r n = z (argX m c) (argW m c) (argG m c) (seqOf (tok t r)) (posOf (tok t r)) n := by
  have e0 : (fun k => (iblk m c 0 t : Vec Ideal S512x1024 .f32) (ix2 r k)) = fun k => argX m c (ix3 (seqOf (tok t r)) (posOf (tok t r)) k) :=
    funext fun k => blk0 m c t r k
  have e1 : (fun k => (iblk m c 1 t : Vec Ideal S1x1024 .f32) (ix2 0 k)) = fun k => argG m c (ix1 k) := funext fun k => blk1 m c t k
  have e2 : (fun e => (iblk m c 2 t : Vec Ideal S1024x8192 .bf16) (ix2 e n)) = fun e => (argW m c (ix2 e n) : EReal) :=
    funext fun e => blk2 m c t e n
  unfold entry z
  rw [e0, e1, e2]

/-- A block of plain columns is its rows of the array. -/
theorem plainBlk_eq (base N : Nat) (hb : base + N ≤ 8192) (t : Fin cfg0.N) (r : Fin 512) (j : Fin N) :
    plainBlk (iblk m c 0 t) (iblk m c 1 t) (iblk m c 2 t) base N hb (ix2 r j)
      = plainArr (argX m c) (argW m c) (argG m c) base N hb (ix2 (tok t r) j) :=
  entry_eq m c t r _

/-- A block of turned heads is its rows of the array. -/
theorem keyBlk_eq (base N : Nat) (hb : base + N ≤ 8192) (hN : N % 128 = 0) (t : Fin cfg0.N) (r : Fin 512) (j : Fin N) :
    keyBlk (iblk m c 0 t) (iblk m c 1 t) (iblk m c 2 t) (iblk m c 3 t) (iblk m c 4 t) base N hb hN (ix2 r j)
      = keyArr (argX m c) (argW m c) (argG m c) cosTable sinTable base N hb hN (ix2 (tok t r) j) := by
  have hj : j.val < N := j.isLt
  have ho : (opposite (lane j.val)).val < 128 := (opposite (lane j.val)).isLt
  refine (keyBlk_at _ _ _ _ _ base N hb hN (ix2 r j) r (lane j.val) ⟨base + j.val / 128 * 128 + (lane j.val).val, by show base + j.val / 128 * 128 + j.val % 128 < 8192; omega⟩
    ⟨base + j.val / 128 * 128 + (opposite (lane j.val)).val, by omega⟩ rfl rfl
    (by show base + j.val / 128 * 128 + j.val % 128 = base + j.val; omega)
    (by show base + j.val / 128 * 128 + (opposite (lane j.val)).val = base + (j.val / 128 * 128 + (opposite (lane j.val)).val); omega)).trans ?_
  rw [entry_eq, entry_eq]
  exact rot_eq (head (argX m c) (argW m c) (argG m c) (seqOf (tok t r)) (posOf (tok t r)) (base + j.val / 128 * 128) (by omega))
    (fun p => cosTable (ix2 (posOf (tok t r)) p)) (fun p => sinTable (ix2 (posOf (tok t r)) p))
    (fun d => (iblk m c 3 t : Vec Ideal S512x128 .f32) (ix2 r d)) (fun d => (iblk m c 4 t : Vec Ideal S512x128 .f32) (ix2 r d))
    (fun d => blk3 m c t r d) (fun d => blk4 m c t r d) (lane j.val)

/-- A block of scaled queries is its rows of the array. -/
theorem queryBlk_eq (base N : Nat) (hb : base + N ≤ 8192) (hN : N % 128 = 0) (t : Fin cfg0.N) (r : Fin 512) (j : Fin N) :
    queryBlk (iblk m c 0 t) (iblk m c 1 t) (iblk m c 2 t) (iblk m c 3 t) (iblk m c 4 t) base N hb hN (ix2 r j)
      = queryArr (argX m c) (argW m c) (argG m c) cosTable sinTable base N hb hN (ix2 (tok t r) j) :=
  congrArg (· * scale) (keyBlk_eq m c base N hb hN t r j)

/-- The block of the banded attention's values is its columns of the array. -/
theorem valueBlk_eq (t : Fin cfg0.N) (k : Fin 256) (r : Fin 512) :
    valueBlk (iblk m c 0 t) (iblk m c 1 t) (iblk m c 2 t) (ix3 0 k r)
      = valueArr (argX m c) (argW m c) (argG m c) (ix3 (seqOf (tok t r)) k (posOf (tok t r))) :=
  entry_eq m c t r _

/-! ## The result arrays -/

/-- What a point writes back is its block of the banded attention's queries. -/
theorem flushed_5 (t : Fin cfg0.N) :
    (dats m 0 c).flushed 5 t = ((cfg0.win 5).blk t).view.read (Elt Ideal) (queryArr (argX m c) (argW m c) (argG m c) cosTable sinTable 0 1024 (by omega) (by omega)) := by
  rw [flushed5_A, outs5]
  funext y
  obtain ⟨⟨e0, e1⟩, -⟩ := out_facts t
  have hy0 : (y 0).val < 512 := (y 0).isLt
  have hy1 : (y 1).val < 1024 := (y 1).isLt
  refine Eq.trans (b := queryBlk (iblk m c 0 t) (iblk m c 1 t) (iblk m c 2 t) (iblk m c 3 t) (iblk m c 4 t) 0 1024 (by omega) (by omega) (ix2 (⟨(y 0).val, hy0⟩ : Fin 512) (⟨(y 1).val, hy1⟩ : Fin 1024)))
    (congrArg _ (funext fun a => Fin.ext ?_)) ?_
  · match a with
    | ⟨0, _⟩ => rfl
    | ⟨1, _⟩ => rfl
  · rw [queryBlk_eq]
    refine congrArg (queryArr (argX m c) (argW m c) (argG m c) cosTable sinTable 0 1024 (by omega) (by omega)) (funext fun a => Fin.ext ?_)
    match a with
    | ⟨0, _⟩ => show t.val * 512 + (y 0).val = win0_5.index t 0 * 512 + 1 * (y 0).val; rw [e0]; omega
    | ⟨1, _⟩ => show (y 1).val = win0_5.index t 1 * 1024 + 1 * (y 1).val; rw [e1]; omega

theorem cover_5 (i : S65536x1024.Idx) : ∃ t : Fin cfg0.N, (cfg0.win 5).flush t = true ∧ i ∈ ((cfg0.win 5).blk t).view.set := by
  have h0 : (i 0).val < 65536 := (i 0).isLt
  have h1 : (i 1).val < 1024 := (i 1).isLt
  have ht : (i 0).val / 512 < cfg0.N := by show (i 0).val / 512 < 128; omega
  refine ⟨⟨(i 0).val / 512, ht⟩, flush0_5 _, ?_⟩
  obtain ⟨⟨e0, e1⟩, -⟩ := out_facts (⟨(i 0).val / 512, ht⟩ : Fin cfg0.N)
  show i ∈ ((View.whole main_v21_0).slice (win0_5.rect (⟨(i 0).val / 512, ht⟩ : Fin cfg0.N))).set
  rw [View.set_slice_whole, Rect.mem_set_unit]
  intro a
  match a with
  | ⟨0, _⟩ =>
    show win0_5.index _ 0 * 512 ≤ (i 0).val ∧ (i 0).val < win0_5.index _ 0 * 512 + 512
    rw [e0]; show (i 0).val / 512 * 512 ≤ (i 0).val ∧ (i 0).val < (i 0).val / 512 * 512 + 512; omega
  | ⟨1, _⟩ =>
    show win0_5.index _ 1 * 1024 ≤ (i 1).val ∧ (i 1).val < win0_5.index _ 1 * 1024 + 1024
    rw [e1]; omega

/-- After the run: the banded attention's queries. -/
theorem final_5 : (dats m 0 c).arrAt 5 cfg0.N = queryArr (argX m c) (argW m c) (argG m c) cosTable sinTable 0 1024 (by omega) (by omega) :=
  (dats m 0 c).arrAt_eq_of_cover 5 _ (fun t _ => flushed_5 m c t) cover_5

/-- What a point writes back is its block of the banded attention's keys. -/
theorem flushed_6 (t : Fin cfg0.N) :
    (dats m 0 c).flushed 6 t = ((cfg0.win 6).blk t).view.read (Elt Ideal) (keyArr (argX m c) (argW m c) (argG m c) cosTable sinTable 1024 256 (by omega) (by omega)) := by
  rw [flushed6_A, outs6]
  funext y
  obtain ⟨-, ⟨e0, e1⟩, -⟩ := out_facts t
  have hy0 : (y 0).val < 512 := (y 0).isLt
  have hy1 : (y 1).val < 256 := (y 1).isLt
  refine Eq.trans (b := keyBlk (iblk m c 0 t) (iblk m c 1 t) (iblk m c 2 t) (iblk m c 3 t) (iblk m c 4 t) 1024 256 (by omega) (by omega) (ix2 (⟨(y 0).val, hy0⟩ : Fin 512) (⟨(y 1).val, hy1⟩ : Fin 256)))
    (congrArg _ (funext fun a => Fin.ext ?_)) ?_
  · match a with
    | ⟨0, _⟩ => rfl
    | ⟨1, _⟩ => rfl
  · rw [keyBlk_eq]
    refine congrArg (keyArr (argX m c) (argW m c) (argG m c) cosTable sinTable 1024 256 (by omega) (by omega)) (funext fun a => Fin.ext ?_)
    match a with
    | ⟨0, _⟩ => show t.val * 512 + (y 0).val = win0_6.index t 0 * 512 + 1 * (y 0).val; rw [e0]; omega
    | ⟨1, _⟩ => show (y 1).val = win0_6.index t 1 * 256 + 1 * (y 1).val; rw [e1]; omega

theorem cover_6 (i : S65536x256.Idx) : ∃ t : Fin cfg0.N, (cfg0.win 6).flush t = true ∧ i ∈ ((cfg0.win 6).blk t).view.set := by
  have h0 : (i 0).val < 65536 := (i 0).isLt
  have h1 : (i 1).val < 256 := (i 1).isLt
  have ht : (i 0).val / 512 < cfg0.N := by show (i 0).val / 512 < 128; omega
  refine ⟨⟨(i 0).val / 512, ht⟩, flush0_6 _, ?_⟩
  obtain ⟨-, ⟨e0, e1⟩, -⟩ := out_facts (⟨(i 0).val / 512, ht⟩ : Fin cfg0.N)
  show i ∈ ((View.whole main_v21_1).slice (win0_6.rect (⟨(i 0).val / 512, ht⟩ : Fin cfg0.N))).set
  rw [View.set_slice_whole, Rect.mem_set_unit]
  intro a
  match a with
  | ⟨0, _⟩ =>
    show win0_6.index _ 0 * 512 ≤ (i 0).val ∧ (i 0).val < win0_6.index _ 0 * 512 + 512
    rw [e0]; show (i 0).val / 512 * 512 ≤ (i 0).val ∧ (i 0).val < (i 0).val / 512 * 512 + 512; omega
  | ⟨1, _⟩ =>
    show win0_6.index _ 1 * 256 ≤ (i 1).val ∧ (i 1).val < win0_6.index _ 1 * 256 + 256
    rw [e1]; omega

/-- After the run: the banded attention's keys. -/
theorem final_6 : (dats m 0 c).arrAt 6 cfg0.N = keyArr (argX m c) (argW m c) (argG m c) cosTable sinTable 1024 256 (by omega) (by omega) :=
  (dats m 0 c).arrAt_eq_of_cover 6 _ (fun t _ => flushed_6 m c t) cover_6

/-- What a point writes back is its block of the undilated group's queries. -/
theorem flushed_8 (t : Fin cfg0.N) :
    (dats m 0 c).flushed 8 t = ((cfg0.win 8).blk t).view.read (Elt Ideal) (queryArr (argX m c) (argW m c) (argG m c) cosTable sinTable 1536 512 (by omega) (by omega)) := by
  rw [flushed8_A, outs8]
  funext y
  obtain ⟨-, -, ⟨e0, e1⟩, -⟩ := out_facts t
  have hy0 : (y 0).val < 512 := (y 0).isLt
  have hy1 : (y 1).val < 512 := (y 1).isLt
  refine Eq.trans (b := queryBlk (iblk m c 0 t) (iblk m c 1 t) (iblk m c 2 t) (iblk m c 3 t) (iblk m c 4 t) 1536 512 (by omega) (by omega) (ix2 (⟨(y 0).val, hy0⟩ : Fin 512) (⟨(y 1).val, hy1⟩ : Fin 512)))
    (congrArg _ (funext fun a => Fin.ext ?_)) ?_
  · match a with
    | ⟨0, _⟩ => rfl
    | ⟨1, _⟩ => rfl
  · rw [queryBlk_eq]
    refine congrArg (queryArr (argX m c) (argW m c) (argG m c) cosTable sinTable 1536 512 (by omega) (by omega)) (funext fun a => Fin.ext ?_)
    match a with
    | ⟨0, _⟩ => show t.val * 512 + (y 0).val = win0_8.index t 0 * 512 + 1 * (y 0).val; rw [e0]; omega
    | ⟨1, _⟩ => show (y 1).val = win0_8.index t 1 * 512 + 1 * (y 1).val; rw [e1]; omega

theorem cover_8 (i : S65536x512.Idx) : ∃ t : Fin cfg0.N, (cfg0.win 8).flush t = true ∧ i ∈ ((cfg0.win 8).blk t).view.set := by
  have h0 : (i 0).val < 65536 := (i 0).isLt
  have h1 : (i 1).val < 512 := (i 1).isLt
  have ht : (i 0).val / 512 < cfg0.N := by show (i 0).val / 512 < 128; omega
  refine ⟨⟨(i 0).val / 512, ht⟩, flush0_8 _, ?_⟩
  obtain ⟨-, -, ⟨e0, e1⟩, -⟩ := out_facts (⟨(i 0).val / 512, ht⟩ : Fin cfg0.N)
  show i ∈ ((View.whole main_v21_3).slice (win0_8.rect (⟨(i 0).val / 512, ht⟩ : Fin cfg0.N))).set
  rw [View.set_slice_whole, Rect.mem_set_unit]
  intro a
  match a with
  | ⟨0, _⟩ =>
    show win0_8.index _ 0 * 512 ≤ (i 0).val ∧ (i 0).val < win0_8.index _ 0 * 512 + 512
    rw [e0]; show (i 0).val / 512 * 512 ≤ (i 0).val ∧ (i 0).val < (i 0).val / 512 * 512 + 512; omega
  | ⟨1, _⟩ =>
    show win0_8.index _ 1 * 512 ≤ (i 1).val ∧ (i 1).val < win0_8.index _ 1 * 512 + 512
    rw [e1]; omega

/-- After the run: the undilated group's queries. -/
theorem final_8 : (dats m 0 c).arrAt 8 cfg0.N = queryArr (argX m c) (argW m c) (argG m c) cosTable sinTable 1536 512 (by omega) (by omega) :=
  (dats m 0 c).arrAt_eq_of_cover 8 _ (fun t _ => flushed_8 m c t) cover_8

/-- What a point writes back is its block of the undilated group's keys. -/
theorem flushed_9 (t : Fin cfg0.N) :
    (dats m 0 c).flushed 9 t = ((cfg0.win 9).blk t).view.read (Elt Ideal) (keyArr (argX m c) (argW m c) (argG m c) cosTable sinTable 2048 512 (by omega) (by omega)) := by
  rw [flushed9_A, outs9]
  funext y
  obtain ⟨-, -, -, ⟨e0, e1⟩, -⟩ := out_facts t
  have hy0 : (y 0).val < 512 := (y 0).isLt
  have hy1 : (y 1).val < 512 := (y 1).isLt
  refine Eq.trans (b := keyBlk (iblk m c 0 t) (iblk m c 1 t) (iblk m c 2 t) (iblk m c 3 t) (iblk m c 4 t) 2048 512 (by omega) (by omega) (ix2 (⟨(y 0).val, hy0⟩ : Fin 512) (⟨(y 1).val, hy1⟩ : Fin 512)))
    (congrArg _ (funext fun a => Fin.ext ?_)) ?_
  · match a with
    | ⟨0, _⟩ => rfl
    | ⟨1, _⟩ => rfl
  · rw [keyBlk_eq]
    refine congrArg (keyArr (argX m c) (argW m c) (argG m c) cosTable sinTable 2048 512 (by omega) (by omega)) (funext fun a => Fin.ext ?_)
    match a with
    | ⟨0, _⟩ => show t.val * 512 + (y 0).val = win0_9.index t 0 * 512 + 1 * (y 0).val; rw [e0]; omega
    | ⟨1, _⟩ => show (y 1).val = win0_9.index t 1 * 512 + 1 * (y 1).val; rw [e1]; omega

theorem cover_9 (i : S65536x512.Idx) : ∃ t : Fin cfg0.N, (cfg0.win 9).flush t = true ∧ i ∈ ((cfg0.win 9).blk t).view.set := by
  have h0 : (i 0).val < 65536 := (i 0).isLt
  have h1 : (i 1).val < 512 := (i 1).isLt
  have ht : (i 0).val / 512 < cfg0.N := by show (i 0).val / 512 < 128; omega
  refine ⟨⟨(i 0).val / 512, ht⟩, flush0_9 _, ?_⟩
  obtain ⟨-, -, -, ⟨e0, e1⟩, -⟩ := out_facts (⟨(i 0).val / 512, ht⟩ : Fin cfg0.N)
  show i ∈ ((View.whole main_v21_4).slice (win0_9.rect (⟨(i 0).val / 512, ht⟩ : Fin cfg0.N))).set
  rw [View.set_slice_whole, Rect.mem_set_unit]
  intro a
  match a with
  | ⟨0, _⟩ =>
    show win0_9.index _ 0 * 512 ≤ (i 0).val ∧ (i 0).val < win0_9.index _ 0 * 512 + 512
    rw [e0]; show (i 0).val / 512 * 512 ≤ (i 0).val ∧ (i 0).val < (i 0).val / 512 * 512 + 512; omega
  | ⟨1, _⟩ =>
    show win0_9.index _ 1 * 512 ≤ (i 1).val ∧ (i 1).val < win0_9.index _ 1 * 512 + 512
    rw [e1]; omega

/-- After the run: the undilated group's keys. -/
theorem final_9 : (dats m 0 c).arrAt 9 cfg0.N = keyArr (argX m c) (argW m c) (argG m c) cosTable sinTable 2048 512 (by omega) (by omega) :=
  (dats m 0 c).arrAt_eq_of_cover 9 _ (fun t _ => flushed_9 m c t) cover_9

/-- What a point writes back is its block of the undilated group's values. -/
theorem flushed_10 (t : Fin cfg0.N) :
    (dats m 0 c).flushed 10 t = ((cfg0.win 10).blk t).view.read (Elt Ideal) (plainArr (argX m c) (argW m c) (argG m c) 2560 512 (by omega)) := by
  rw [flushed10_A, outs10]
  funext y
  obtain ⟨-, -, -, -, ⟨e0, e1⟩, -⟩ := out_facts t
  have hy0 : (y 0).val < 512 := (y 0).isLt
  have hy1 : (y 1).val < 512 := (y 1).isLt
  refine Eq.trans (b := plainBlk (iblk m c 0 t) (iblk m c 1 t) (iblk m c 2 t) 2560 512 (by omega) (ix2 (⟨(y 0).val, hy0⟩ : Fin 512) (⟨(y 1).val, hy1⟩ : Fin 512)))
    (congrArg _ (funext fun a => Fin.ext ?_)) ?_
  · match a with
    | ⟨0, _⟩ => rfl
    | ⟨1, _⟩ => rfl
  · rw [plainBlk_eq]
    refine congrArg (plainArr (argX m c) (argW m c) (argG m c) 2560 512 (by omega)) (funext fun a => Fin.ext ?_)
    match a with
    | ⟨0, _⟩ => show t.val * 512 + (y 0).val = win0_10.index t 0 * 512 + 1 * (y 0).val; rw [e0]; omega
    | ⟨1, _⟩ => show (y 1).val = win0_10.index t 1 * 512 + 1 * (y 1).val; rw [e1]; omega

theorem cover_10 (i : S65536x512.Idx) : ∃ t : Fin cfg0.N, (cfg0.win 10).flush t = true ∧ i ∈ ((cfg0.win 10).blk t).view.set := by
  have h0 : (i 0).val < 65536 := (i 0).isLt
  have h1 : (i 1).val < 512 := (i 1).isLt
  have ht : (i 0).val / 512 < cfg0.N := by show (i 0).val / 512 < 128; omega
  refine ⟨⟨(i 0).val / 512, ht⟩, flush0_10 _, ?_⟩
  obtain ⟨-, -, -, -, ⟨e0, e1⟩, -⟩ := out_facts (⟨(i 0).val / 512, ht⟩ : Fin cfg0.N)
  show i ∈ ((View.whole main_v21_5).slice (win0_10.rect (⟨(i 0).val / 512, ht⟩ : Fin cfg0.N))).set
  rw [View.set_slice_whole, Rect.mem_set_unit]
  intro a
  match a with
  | ⟨0, _⟩ =>
    show win0_10.index _ 0 * 512 ≤ (i 0).val ∧ (i 0).val < win0_10.index _ 0 * 512 + 512
    rw [e0]; show (i 0).val / 512 * 512 ≤ (i 0).val ∧ (i 0).val < (i 0).val / 512 * 512 + 512; omega
  | ⟨1, _⟩ =>
    show win0_10.index _ 1 * 512 ≤ (i 1).val ∧ (i 1).val < win0_10.index _ 1 * 512 + 512
    rw [e1]; omega

/-- After the run: the undilated group's values. -/
theorem final_10 : (dats m 0 c).arrAt 10 cfg0.N = plainArr (argX m c) (argW m c) (argG m c) 2560 512 (by omega) :=
  (dats m 0 c).arrAt_eq_of_cover 10 _ (fun t _ => flushed_10 m c t) cover_10

/-- What a point writes back is its block of the gates. -/
theorem flushed_17 (t : Fin cfg0.N) :
    (dats m 0 c).flushed 17 t = ((cfg0.win 17).blk t).view.read (Elt Ideal) (plainArr (argX m c) (argW m c) (argG m c) 6144 2048 (by omega)) := by
  rw [flushed17_A, outs17]
  funext y
  obtain ⟨-, -, -, -, -, ⟨e0, e1⟩, -⟩ := out_facts t
  have hy0 : (y 0).val < 512 := (y 0).isLt
  have hy1 : (y 1).val < 2048 := (y 1).isLt
  refine Eq.trans (b := plainBlk (iblk m c 0 t) (iblk m c 1 t) (iblk m c 2 t) 6144 2048 (by omega) (ix2 (⟨(y 0).val, hy0⟩ : Fin 512) (⟨(y 1).val, hy1⟩ : Fin 2048)))
    (congrArg _ (funext fun a => Fin.ext ?_)) ?_
  · match a with
    | ⟨0, _⟩ => rfl
    | ⟨1, _⟩ => rfl
  · rw [plainBlk_eq]
    refine congrArg (plainArr (argX m c) (argW m c) (argG m c) 6144 2048 (by omega)) (funext fun a => Fin.ext ?_)
    match a with
    | ⟨0, _⟩ => show t.val * 512 + (y 0).val = win0_17.index t 0 * 512 + 1 * (y 0).val; rw [e0]; omega
    | ⟨1, _⟩ => show (y 1).val = win0_17.index t 1 * 2048 + 1 * (y 1).val; rw [e1]; omega

theorem cover_17 (i : S65536x2048.Idx) : ∃ t : Fin cfg0.N, (cfg0.win 17).flush t = true ∧ i ∈ ((cfg0.win 17).blk t).view.set := by
  have h0 : (i 0).val < 65536 := (i 0).isLt
  have h1 : (i 1).val < 2048 := (i 1).isLt
  have ht : (i 0).val / 512 < cfg0.N := by show (i 0).val / 512 < 128; omega
  refine ⟨⟨(i 0).val / 512, ht⟩, flush0_17 _, ?_⟩
  obtain ⟨-, -, -, -, -, ⟨e0, e1⟩, -⟩ := out_facts (⟨(i 0).val / 512, ht⟩ : Fin cfg0.N)
  show i ∈ ((View.whole main_v21_12).slice (win0_17.rect (⟨(i 0).val / 512, ht⟩ : Fin cfg0.N))).set
  rw [View.set_slice_whole, Rect.mem_set_unit]
  intro a
  match a with
  | ⟨0, _⟩ =>
    show win0_17.index _ 0 * 512 ≤ (i 0).val ∧ (i 0).val < win0_17.index _ 0 * 512 + 512
    rw [e0]; show (i 0).val / 512 * 512 ≤ (i 0).val ∧ (i 0).val < (i 0).val / 512 * 512 + 512; omega
  | ⟨1, _⟩ =>
    show win0_17.index _ 1 * 2048 ≤ (i 1).val ∧ (i 1).val < win0_17.index _ 1 * 2048 + 2048
    rw [e1]; omega

/-- After the run: the gates. -/
theorem final_17 : (dats m 0 c).arrAt 17 cfg0.N = plainArr (argX m c) (argW m c) (argG m c) 6144 2048 (by omega) :=
  (dats m 0 c).arrAt_eq_of_cover 17 _ (fun t _ => flushed_17 m c t) cover_17

/-- What a point writes back is its block of the banded attention's values. -/
theorem flushed_7 (t : Fin cfg0.N) :
    (dats m 0 c).flushed 7 t = ((cfg0.win 7).blk t).view.read (Elt Ideal) (valueArr (argX m c) (argW m c) (argG m c)) := by
  rw [flushed7_A, outs7]
  funext y
  obtain ⟨-, -, -, -, -, -, ⟨e0, e1, e2⟩⟩ := out_facts t
  have hy0 : (y 0).val < 1 := (y 0).isLt
  have hy1 : (y 1).val < 256 := (y 1).isLt
  have hy2 : (y 2).val < 512 := (y 2).isLt
  refine Eq.trans (b := valueBlk (iblk m c 0 t) (iblk m c 1 t) (iblk m c 2 t) (ix3 (0 : Fin 1) (⟨(y 1).val, hy1⟩ : Fin 256) (⟨(y 2).val, hy2⟩ : Fin 512)))
    (congrArg _ (funext fun a => Fin.ext ?_)) ?_
  · match a with
    | ⟨0, _⟩ => show (y 0).val = 0; omega
    | ⟨1, _⟩ => rfl
    | ⟨2, _⟩ => rfl
  · rw [valueBlk_eq]
    refine congrArg (valueArr (argX m c) (argW m c) (argG m c)) (funext fun a => Fin.ext ?_)
    match a with
    | ⟨0, _⟩ => show (t.val * 512 + (y 2).val) / 2048 = win0_7.index t 0 * 1 + 1 * (y 0).val; rw [e0]; omega
    | ⟨1, _⟩ => show (y 1).val = win0_7.index t 1 * 256 + 1 * (y 1).val; rw [e1]; omega
    | ⟨2, _⟩ => show (t.val * 512 + (y 2).val) % 2048 = win0_7.index t 2 * 512 + 1 * (y 2).val; rw [e2]; omega

theorem cover_7 (i : S32x256x2048.Idx) : ∃ t : Fin cfg0.N, (cfg0.win 7).flush t = true ∧ i ∈ ((cfg0.win 7).blk t).view.set := by
  have h0 : (i 0).val < 32 := (i 0).isLt
  have h1 : (i 1).val < 256 := (i 1).isLt
  have h2 : (i 2).val < 2048 := (i 2).isLt
  have ht : (i 0).val * 4 + (i 2).val / 512 < cfg0.N := by show (i 0).val * 4 + (i 2).val / 512 < 128; omega
  refine ⟨⟨(i 0).val * 4 + (i 2).val / 512, ht⟩, flush0_7 _, ?_⟩
  obtain ⟨-, -, -, -, -, -, ⟨e0, e1, e2⟩⟩ := out_facts (⟨(i 0).val * 4 + (i 2).val / 512, ht⟩ : Fin cfg0.N)
  show i ∈ ((View.whole main_v21_2).slice (win0_7.rect (⟨(i 0).val * 4 + (i 2).val / 512, ht⟩ : Fin cfg0.N))).set
  rw [View.set_slice_whole, Rect.mem_set_unit]
  intro a
  match a with
  | ⟨0, _⟩ =>
    show win0_7.index _ 0 * 1 ≤ (i 0).val ∧ (i 0).val < win0_7.index _ 0 * 1 + 1
    rw [e0]; show ((i 0).val * 4 + (i 2).val / 512) / 4 * 1 ≤ (i 0).val ∧ (i 0).val < ((i 0).val * 4 + (i 2).val / 512) / 4 * 1 + 1; omega
  | ⟨1, _⟩ =>
    show win0_7.index _ 1 * 256 ≤ (i 1).val ∧ (i 1).val < win0_7.index _ 1 * 256 + 256
    rw [e1]; omega
  | ⟨2, _⟩ =>
    show win0_7.index _ 2 * 512 ≤ (i 2).val ∧ (i 2).val < win0_7.index _ 2 * 512 + 512
    rw [e2]; show ((i 0).val * 4 + (i 2).val / 512) % 4 * 512 ≤ (i 2).val ∧ (i 2).val < ((i 0).val * 4 + (i 2).val / 512) % 4 * 512 + 512; omega

/-- After the run: the banded attention's values. -/
theorem final_7 : (dats m 0 c).arrAt 7 cfg0.N = valueArr (argX m c) (argW m c) (argG m c) :=
  (dats m 0 c).arrAt_eq_of_cover 7 _ (fun t _ => flushed_7 m c t) cover_7

end Cert.ProjFinal

end
-- ==== Proof.ProjFold.lean ====
/- The dilated groups' blocks: the rows of a 512-wide block sorted by their residue. The kernel stores a head in a scratch plane and
   reads the rows of one residue after the other; for dilation 16 it does so twice, by fours. -/
module

public import proofs.«01_k».proof.Proof.ProjBlock
public import Idealize.ShloMosaic.Lib.Pipeline.FrameBody

@[expose] public section

noncomputable section

namespace Cert.ProjBlock

open Cert.Kernel3Ideal Cert.Kernel3Ideal.Gen Cert.Proj Cert.ProjKernel
open Idealize.ShloMosaic Idealize.ShloMosaic.TcCoe Idealize.ShloMosaic.ValueIdx Idealize.SL.Sem

/-- The block with its rows sorted by their residue modulo 4. -/
def fold4 (B : S512x512.Idx → EReal) : S1x4x128x512.Idx → EReal :=
  fun i => B (ix2 ⟨(i 1).val + 4 * (i 2).val, by
    have h1 : (i 1).val < 4 := (i 1).isLt
    have h2 : (i 2).val < 128 := (i 2).isLt
    omega⟩ (i 3))

/-- The block with its rows sorted by their residue modulo 16. -/
def fold16 (B : S512x512.Idx → EReal) : S1x16x32x512.Idx → EReal :=
  fun i => B (ix2 ⟨(i 1).val + 16 * (i 2).val, by
    have h1 : (i 1).val < 16 := (i 1).isLt
    have h2 : (i 2).val < 32 := (i 2).isLt
    omega⟩ (i 3))

theorem split4 {a b c d : Nat} (y : (⟨4, ![a, b, c, d]⟩ : Shape).Idx) :
    ∃ (r : Fin a) (s : Fin b) (t : Fin c) (u : Fin d), y = ix4 r s t u :=
  ⟨⟨(y 0).val, (y 0).isLt⟩, ⟨(y 1).val, (y 1).isLt⟩, ⟨(y 2).val, (y 2).isLt⟩, ⟨(y 3).val, (y 3).isLt⟩,
    funext fun k => Fin.ext (match k with | ⟨0, _⟩ => rfl | ⟨1, _⟩ => rfl | ⟨2, _⟩ => rfl | ⟨3, _⟩ => rfl)⟩

theorem col_lt {q : Nat} (h : q + 128 ≤ 512) (d : Fin 128) : q + d.val < 512 := by have := d.isLt; omega
theorem row_lt {r : Nat} (h : r + 1 ≤ 4) (i : Fin 128) : r + 4 * i.val < 512 := by have := i.isLt; omega

/-- A load reads the last store where the two meet. -/
theorem read_last {sg : RefSig} {κ : Kind} {sp : Space} {s : Shape} {e : EltTy} (v : View sg κ sp s e) (r : Rect s)
    (w : r.shape.Idx → Elt Ideal e) (L : List (View.Piece (Elt Ideal) s e)) (B : LoadRect s) (j : B.shape.Idx) (x : r.shape.Idx)
    (h : B.idx j = r.emb x) : v.readCov (⟨r, w⟩ :: L) B j = w x := by
  rw [View.readCov_eq_canon']
  show View.canon _ (B.idx j) = w x
  rw [h]
  exact View.canon_cons_emb r w L x

/-! ## The payloads of the scratch stores and of the folded results -/

/-- A head as the scratch plane holds it. -/
def plane3 (T : FVec Ideal S512x128 .f32) : FVec Ideal S1x512x128 .f32 := shapeCast S1x512x128 T shapeCasts_S512x128_S1x512x128

/-- A quarter of the rows as the second scratch holds it. -/
def quarter (v : Vec Ideal S1x128x128 .f32) : FVec Ideal S1x1x128x128 .f32 :=
  shapeCast S1x1x128x128 (shapeCast S128x128 v shapeCasts_S1x128x128_S128x128) shapeCasts_S128x128_S1x1x128x128

/-- The rows of one residue modulo 4 as they are stored. -/
def out4 (v : Vec Ideal S1x128x128 .f32) : FVec Ideal S1x1x128x128 .bf16 :=
  shapeCast S1x1x128x128 (truncf .bf16 (shapeCast S128x128 v shapeCasts_S1x128x128_S128x128) bitsLt_bf16_f32) shapeCasts_S128x128_S1x1x128x128

/-- The rows of one residue modulo 16 as they are stored. -/
def out16 (v : Vec Ideal S1x1x32x128 .f32) : FVec Ideal S1x1x32x128 .bf16 :=
  shapeCast S1x1x32x128 (truncf .bf16 (shapeCast S32x128 v shapeCasts_S1x1x32x128_S32x128) bitsLt_bf16_f32) shapeCasts_S32x128_S1x1x32x128

theorem plane3_apply (T : FVec Ideal S512x128 .f32) (r : Fin 512) (d : Fin 128) : plane3 T (ix3 (0 : Fin 1) r d) = T (ix2 r d) :=
  shapeCast_apply T _ (ix3 (0 : Fin 1) r d) (ix2 r d) (by
    rw [Shape.rowMajor_val_two, Shape.rowMajor_val_three]
    show r.val * 128 + d.val = (0 * 512 + r.val) * 128 + d.val
    omega)

theorem quarter_apply (v : Vec Ideal S1x128x128 .f32) (i d : Fin 128) :
    quarter v (ix4 (0 : Fin 1) (0 : Fin 1) i d) = v (ix3 (0 : Fin 1) i d) := by
  refine (shapeCast_apply _ _ (ix4 (0 : Fin 1) (0 : Fin 1) i d) (ix2 i d) ?_).trans
    (shapeCast_apply v shapeCasts_S1x128x128_S128x128 (ix2 i d) (ix3 (0 : Fin 1) i d) ?_)
  · rw [Shape.rowMajor_val_two, Shape.rowMajor_val_four]
    show i.val * 128 + d.val = ((0 * 1 + 0) * 128 + i.val) * 128 + d.val
    omega
  · rw [Shape.rowMajor_val_two, Shape.rowMajor_val_three]
    show (0 * 128 + i.val) * 128 + d.val = i.val * 128 + d.val
    omega

theorem out4_apply (v : Vec Ideal S1x128x128 .f32) (i d : Fin 128) :
    (out4 v (ix4 (0 : Fin 1) (0 : Fin 1) i d) : EReal) = v (ix3 (0 : Fin 1) i d) :=
  quarter_apply v i d

theorem out16_apply (v : Vec Ideal S1x1x32x128 .f32) (i : Fin 32) (d : Fin 128) :
    (out16 v (ix4 (0 : Fin 1) (0 : Fin 1) i d) : EReal) = v (ix4 (0 : Fin 1) (0 : Fin 1) i d) := by
  refine (shapeCast_apply _ _ (ix4 (0 : Fin 1) (0 : Fin 1) i d) (ix2 i d) ?_).trans
    (shapeCast_apply v shapeCasts_S1x1x32x128_S32x128 (ix2 i d) (ix4 (0 : Fin 1) (0 : Fin 1) i d) ?_)
  · rw [Shape.rowMajor_val_two, Shape.rowMajor_val_four]
    show i.val * 128 + d.val = ((0 * 1 + 0) * 32 + i.val) * 128 + d.val
    omega
  · rw [Shape.rowMajor_val_two, Shape.rowMajor_val_four]
    show ((0 * 1 + 0) * 32 + i.val) * 128 + d.val = i.val * 128 + d.val
    omega

/-! ## The reads -/

section Reads

variable (w : FVec Ideal S1x512x128 .f32) (k r : Nat) (L : List (View.Piece (Elt Ideal) S4x512x128 .f32))
  (hp : ∀ a, (![k, 0, 0] : Fin 3 → Nat) a + (![1, 512, 128] : Fin 3 → Nat) a ≤ S4x512x128.size a)
  (hl : ∀ a, (![1, 128, 128] : Fin 3 → Nat) a = 0 ∨
    (![k, r, 0] : Fin 3 → Nat) a + (![1, 4, 1] : Fin 3 → Nat) a * ((![1, 128, 128] : Fin 3 → Nat) a - 1) < S4x512x128.size a)

theorem strided_idx (i d : Fin 128) (n : Fin 512) (hn : n.val = r + 4 * i.val) :
    LoadRect.idx (s := S4x512x128) { off := ![k, r, 0], size := ![1, 128, 128], stride := ![1, 4, 1], inb := hl } (ix3 (0 : Fin 1) i d)
      = (Rect.unit (s := S4x512x128) ![k, 0, 0] ![1, 512, 128] hp).emb (ix3 (0 : Fin 1) n d) := by
  funext a
  refine Fin.ext ?_
  match a with
  | ⟨0, _⟩ => rfl
  | ⟨1, _⟩ => show r + 4 * i.val = 0 + 1 * n.val; omega
  | ⟨2, _⟩ => rfl

/-- A read of the rows of residue `r` modulo 4 of the head stored last in plane `k`. -/
theorem strided_apply (i d : Fin 128) (n : Fin 512) (hn : n.val = r + 4 * i.val) :
    ((View.whole cc0_scratch0).readCov (⟨Rect.unit (s := S4x512x128) ![k, 0, 0] ![1, 512, 128] hp, w⟩ :: L)
      { off := ![k, r, 0], size := ![1, 128, 128], stride := ![1, 4, 1], inb := hl } : Vec Ideal S1x128x128 .f32) (ix3 (0 : Fin 1) i d)
      = w (ix3 (0 : Fin 1) n d) :=
  read_last (View.whole cc0_scratch0) (Rect.unit (s := S4x512x128) ![k, 0, 0] ![1, 512, 128] hp) w L
    { off := ![k, r, 0], size := ![1, 128, 128], stride := ![1, 4, 1], inb := hl } (ix3 (0 : Fin 1) i d) (ix3 (0 : Fin 1) n d)
    (strided_idx k r hp hl i d n hn)

variable (q : Nat) (B : S512x512.Idx → EReal) (hq3 : q + 128 ≤ 512)
  (hT : ∀ (n : Fin 512) (d : Fin 128), (w (ix3 (0 : Fin 1) n d) : EReal) = B (ix2 n ⟨q + d.val, col_lt hq3 d⟩))

include hT in
/-- A folded store for dilation 4 is its part of the folded block. -/
theorem fold4_store (hq : ∀ a, (![0, r, 0, q] : Fin 4 → Nat) a + (![1, 1, 128, 128] : Fin 4 → Nat) a ≤ S1x4x128x512.size a)
    (y : S1x1x128x128.Idx) :
    (shapeCast S1x1x128x128 (truncf .bf16 (shapeCast S128x128
        ((View.whole cc0_scratch0).readCov (⟨Rect.unit (s := S4x512x128) ![k, 0, 0] ![1, 512, 128] hp, w⟩ :: L)
          { off := ![k, r, 0], size := ![1, 128, 128], stride := ![1, 4, 1], inb := hl }) shapeCasts_S1x128x128_S128x128)
        bitsLt_bf16_f32 : FVec Ideal S128x128 .bf16) shapeCasts_S128x128_S1x1x128x128 y : EReal)
      = fold4 B ((Rect.unit (s := S1x4x128x512) ![0, r, 0, q] ![1, 1, 128, 128] hq).emb y) := by
  obtain ⟨u, v, i, d, rfl⟩ := split4 y
  have hr : r + 1 ≤ 4 := hq 1
  have hi : i.val < 128 := i.isLt
  obtain rfl : u = 0 := Subsingleton.elim _ _
  obtain rfl : v = 0 := Subsingleton.elim _ _
  refine ((out4_apply _ i d).trans (strided_apply w k r L hp hl i d ⟨r + 4 * i.val, by omega⟩ rfl)).trans ((hT _ _).trans ?_)
  refine congrArg B (funext fun a => Fin.ext ?_)
  match a with
  | ⟨0, _⟩ => show r + 4 * i.val = (r + 1 * 0) + 4 * (0 + 1 * i.val); omega
  | ⟨1, _⟩ => show q + d.val = q + 1 * d.val; omega

include hT in
/-- What the second scratch holds of a head: the rows of one residue modulo 4. -/
theorem quarter_store (i d : Fin 128) (hr : r + 1 ≤ 4) :
    (shapeCast S1x1x128x128 (shapeCast S128x128
        ((View.whole cc0_scratch0).readCov (⟨Rect.unit (s := S4x512x128) ![k, 0, 0] ![1, 512, 128] hp, w⟩ :: L)
          { off := ![k, r, 0], size := ![1, 128, 128], stride := ![1, 4, 1], inb := hl }) shapeCasts_S1x128x128_S128x128)
        shapeCasts_S128x128_S1x1x128x128 (ix4 (0 : Fin 1) (0 : Fin 1) i d) : EReal)
      = B (ix2 ⟨r + 4 * i.val, row_lt hr i⟩ ⟨q + d.val, col_lt hq3 d⟩) :=
  ((quarter_apply _ i d).trans (strided_apply w k r L hp hl i d ⟨r + 4 * i.val, by omega⟩ rfl)).trans (hT _ _)

end Reads

section Reads2

variable (w : FVec Ideal S1x1x128x128 .f32) (k r s : Nat) (M : List (View.Piece (Elt Ideal) S4x4x128x128 .f32))
  (hp2 : ∀ a, (![k, r, 0, 0] : Fin 4 → Nat) a + (![1, 1, 128, 128] : Fin 4 → Nat) a ≤ S4x4x128x128.size a)
  (hl2 : ∀ a, (![1, 1, 32, 128] : Fin 4 → Nat) a = 0 ∨
    (![k, r, s, 0] : Fin 4 → Nat) a + (![1, 1, 4, 1] : Fin 4 → Nat) a * ((![1, 1, 32, 128] : Fin 4 → Nat) a - 1) < S4x4x128x128.size a)

theorem strided2_idx (i : Fin 32) (d : Fin 128) (m : Fin 128) (hm : m.val = s + 4 * i.val) :
    LoadRect.idx (s := S4x4x128x128) { off := ![k, r, s, 0], size := ![1, 1, 32, 128], stride := ![1, 1, 4, 1], inb := hl2 }
        (ix4 (0 : Fin 1) (0 : Fin 1) i d)
      = (Rect.unit (s := S4x4x128x128) ![k, r, 0, 0] ![1, 1, 128, 128] hp2).emb (ix4 (0 : Fin 1) (0 : Fin 1) m d) := by
  funext a
  refine Fin.ext ?_
  match a with
  | ⟨0, _⟩ => rfl
  | ⟨1, _⟩ => rfl
  | ⟨2, _⟩ => show s + 4 * i.val = 0 + 1 * m.val; omega
  | ⟨3, _⟩ => rfl

/-- A read of every fourth row, from row `s` on, of the quarter stored last. -/
theorem strided2_apply (i : Fin 32) (d : Fin 128) (m : Fin 128) (hm : m.val = s + 4 * i.val) :
    ((View.whole cc0_scratch1).readCov (⟨Rect.unit (s := S4x4x128x128) ![k, r, 0, 0] ![1, 1, 128, 128] hp2, w⟩ :: M)
      { off := ![k, r, s, 0], size := ![1, 1, 32, 128], stride := ![1, 1, 4, 1], inb := hl2 } : Vec Ideal S1x1x32x128 .f32)
        (ix4 (0 : Fin 1) (0 : Fin 1) i d)
      = w (ix4 (0 : Fin 1) (0 : Fin 1) m d) :=
  read_last (View.whole cc0_scratch1) (Rect.unit (s := S4x4x128x128) ![k, r, 0, 0] ![1, 1, 128, 128] hp2) w M
    { off := ![k, r, s, 0], size := ![1, 1, 32, 128], stride := ![1, 1, 4, 1], inb := hl2 } (ix4 (0 : Fin 1) (0 : Fin 1) i d)
    (ix4 (0 : Fin 1) (0 : Fin 1) m d) (strided2_idx k r s hp2 hl2 i d m hm)

/-- A folded store for dilation 16 is its part of the folded block. -/
theorem fold16_store (c q : Nat) (B : S512x512.Idx → EReal) (hq3 : q + 128 ≤ 512) (hr : r + 1 ≤ 4) (hs : s + 1 ≤ 4) (hc : c = r + 4 * s)
    (hq : ∀ a, (![0, c, 0, q] : Fin 4 → Nat) a + (![1, 1, 32, 128] : Fin 4 → Nat) a ≤ S1x16x32x512.size a)
    (hT : ∀ (i d : Fin 128), (w (ix4 (0 : Fin 1) (0 : Fin 1) i d) : EReal) = B (ix2 ⟨r + 4 * i.val, row_lt hr i⟩ ⟨q + d.val, col_lt hq3 d⟩))
    (y : S1x1x32x128.Idx) :
    (shapeCast S1x1x32x128 (truncf .bf16 (shapeCast S32x128
        ((View.whole cc0_scratch1).readCov (⟨Rect.unit (s := S4x4x128x128) ![k, r, 0, 0] ![1, 1, 128, 128] hp2, w⟩ :: M)
          { off := ![k, r, s, 0], size := ![1, 1, 32, 128], stride := ![1, 1, 4, 1], inb := hl2 }) shapeCasts_S1x1x32x128_S32x128)
        bitsLt_bf16_f32 : FVec Ideal S32x128 .bf16) shapeCasts_S32x128_S1x1x32x128 y : EReal)
      = fold16 B ((Rect.unit (s := S1x16x32x512) ![0, c, 0, q] ![1, 1, 32, 128] hq).emb y) := by
  obtain ⟨u, v, i, d, rfl⟩ := split4 y
  have hi : i.val < 32 := i.isLt
  obtain rfl : u = 0 := Subsingleton.elim _ _
  obtain rfl : v = 0 := Subsingleton.elim _ _
  refine ((out16_apply _ i d).trans (strided2_apply w k r s M hp2 hl2 i d ⟨s + 4 * i.val, by omega⟩ rfl)).trans ((hT _ _).trans ?_)
  refine congrArg B (funext fun a => Fin.ext ?_)
  match a with
  | ⟨0, _⟩ => show r + 4 * (s + 4 * i.val) = (c + 1 * 0) + 16 * (0 + 1 * i.val); omega
  | ⟨1, _⟩ => show q + d.val = q + 1 * d.val; omega

end Reads2

/-! ## The heads of a group -/

theorem inb_head (q : Nat) (hq3 : q + 128 ≤ 512) (a : Fin 2) :
    (![0, q] : Fin 2 → Nat) a + S512x128.size a ≤ S512x512.size a := match a with
  | ⟨0, _⟩ => by show 0 + 512 ≤ 512; omega
  | ⟨1, _⟩ => hq3

theorem emb_head (q : Nat) (hq3 : q + 128 ≤ 512) (hq : ∀ a, (![0, q] : Fin 2 → Nat) a + S512x128.size a ≤ S512x512.size a)
    (n : Fin 512) (d : Fin 128) :
    (Rect.unit (s := S512x512) ![0, q] S512x128.size hq).emb (ix2 n d) = ix2 n ⟨q + d.val, col_lt hq3 d⟩ :=
  funext fun a => Fin.ext (match a with
    | ⟨0, _⟩ => by show 0 + 1 * n.val = n.val; omega
    | ⟨1, _⟩ => by show q + 1 * d.val = q + d.val; omega)

section Heads

variable (x0 : Vec Ideal S512x1024 .f32) (x1 : Vec Ideal S1x1024 .f32) (x2 : Vec Ideal S1024x8192 .bf16)
  (x3 x4 : Vec Ideal S512x128 .f32)
  (h0 : ∀ a, (![0, 0] : Fin 2 → Nat) a + S512x1024.size a ≤ S512x1024.size a)
  (h1 : ∀ a, (![0, 0] : Fin 2 → Nat) a + S1x1024.size a ≤ S1x1024.size a)
  (h3 : ∀ a, (![0, 0] : Fin 2 → Nat) a + S512x128.size a ≤ S512x128.size a)
  (o q : Nat) (hw : ∀ a, (![0, o] : Fin 2 → Nat) a + S1024x512.size a ≤ S1024x8192.size a)
  (hs : S512x512.Slices ![0, q] S512x128) (hb : o + 512 ≤ 8192) (hq3 : q + 128 ≤ 512)

/-- A head of plain columns. -/
abbrev plainHead : FVec Ideal S512x128 .f32 := extractStridedSlice S512x128 ![0, q] (part x0 x1 x2 h0 h1 o hw) hs

/-- A turned head. -/
abbrev keyHead : FVec Ideal S512x128 .f32 :=
  turned (plainHead x0 x1 x2 h0 h1 o q hw hs)
    (View.ld x3 (Rect.unit (s := S512x128) ![0, 0] S512x128.size h3)) (View.ld x4 (Rect.unit (s := S512x128) ![0, 0] S512x128.size h3))

/-- A turned and scaled head. -/
abbrev queryHead : FVec Ideal S512x128 .f32 :=
  mulf (keyHead x0 x1 x2 x3 x4 h0 h1 h3 o q hw hs) (broadcast S512x128 (Named.named κ "q_scale" 0x3E0293EE#32))

theorem plainHead_apply (n : Fin 512) (d : Fin 128) :
    (plainHead x0 x1 x2 h0 h1 o q hw hs (ix2 n d) : EReal) = plainBlk x0 x1 x2 o 512 hb (ix2 n ⟨q + d.val, col_lt hq3 d⟩) := by
  rw [← emb_head q hq3 (inb_head q hq3)]
  exact plain_piece x0 x1 x2 h0 h1 o q o 512 q hw hs hb (inb_head q hq3) rfl (ix2 n d)

theorem keyHead_apply (eq : q % 128 = 0) (n : Fin 512) (d : Fin 128) :
    (keyHead x0 x1 x2 x3 x4 h0 h1 h3 o q hw hs (ix2 n d) : EReal)
      = keyBlk x0 x1 x2 x3 x4 o 512 hb rfl (ix2 n ⟨q + d.val, col_lt hq3 d⟩) := by
  rw [← emb_head q hq3 (inb_head q hq3)]
  exact key_piece x0 x1 x2 x3 x4 h0 h1 h3 o q o 512 q hw hs hb rfl (inb_head q hq3) rfl eq (ix2 n d)

theorem queryHead_apply (eq : q % 128 = 0) (n : Fin 512) (d : Fin 128) :
    (queryHead x0 x1 x2 x3 x4 h0 h1 h3 o q hw hs (ix2 n d) : EReal)
      = queryBlk x0 x1 x2 x3 x4 o 512 hb rfl (ix2 n ⟨q + d.val, col_lt hq3 d⟩) := by
  rw [← emb_head q hq3 (inb_head q hq3)]
  exact query_piece x0 x1 x2 x3 x4 h0 h1 h3 o q o 512 q hw hs hb rfl (inb_head q hq3) rfl eq (ix2 n d)

end Heads

end Cert.ProjBlock

end
-- ==== Proof.ProjFold1.lean ====
/- What the input kernel leaves in the blocks of a dilated group at a grid point: the group of dilation 4. -/
module

public import proofs.«01_k».proof.Proof.ProjFold
public import Idealize.ShloMosaic.Lib.Pipeline.ValueKit.Tiles
public import Idealize.ShloMosaic.Lib.Pipeline.ReadBack
public import proofs.«01_k».proof.Proof.Gen.Kernel3Ideal.Value

@[expose] public section

noncomputable section

namespace Cert.ProjFinal

open Cert.Kernel3Ideal Cert.Kernel3Ideal.Gen Cert.Kernel3Ideal.Value Cert.Proj Cert.ProjKernel Cert.ProjBlock
open Idealize.ShloMosaic Idealize.ShloMosaic.TcCoe Idealize.ShloMosaic.ValueIdx Idealize.SL.Sem

variable (c : Dev nD)

set_option maxHeartbeats 4000000 in
/-- What the body leaves in the block of the first dilated group's queries. -/
theorem outs11 (t : Fin cfg0.N) (x0 : Vec Ideal S512x1024 .f32) (x1 : Vec Ideal S1x1024 .f32) (x2 : Vec Ideal S1024x8192 .bf16)
    (x3 x4 : Vec Ideal S512x128 .f32) :
    out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) x0 x1 x2 x3 x4
      = fold4 (queryBlk x0 x1 x2 x3 x4 3072 512 (by omega) (by omega)) := by
  unfold out0_A_11
  rw [View.read_writes_eq_canon _ _ _ (cover0_A_11 c _ _ _ _ _ _ _ _ _ _ _ _ _ _ _ _ _ _ _ _ _ _ _ _ _ _ _ _ _ _ _ _ _ _ _ _ _ _ _ _ _ _ _ _ _ _)]
  funext y
  refine View.canon_eq_of_allAt _ y _ (cover0_A_11 c _ _ _ _ _ _ _ _ _ _ _ _ _ _ _ _ _ _ _ _ _ _ _ _ _ _ _ _ _ _ _ _ _ _ _ _ _ _ _ _ _ _ _ _ _ _ y) ?_
  suffices h : View.PiecesOf (fold4 (queryBlk x0 x1 x2 x3 x4 3072 512 (by omega) (by omega)))
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) x0 x1 x2 x3 x4).2.2.2.2.2.2.1 from
    fun p hp x hx => by rw [← hx]; exact h.mem p hp x
  unfold kernelRun0_A
  dsimp only
  sl_unfold_words
  simp only [View.readAt_eq_ld, (hs0_0 t).read_unread, (hs0_1 t).read_unread, (hs0_2 t).read_unread, (hs0_3 t).read_unread, (hs0_4 t).read_unread]
  have T0 := queryHead_apply x0 x1 x2 x3 x4 inb_S512x1024_S512x1024_0_0 inb_S1x1024_S1x1024_0_0 inb_S512x128_S512x128_0_0 3072 0 inb_S1024x8192_S1024x512_0_3072 slices_S512x512_o0_0_S512x128 (by omega) (by omega) (by omega)
  have T1 := queryHead_apply x0 x1 x2 x3 x4 inb_S512x1024_S512x1024_0_0 inb_S1x1024_S1x1024_0_0 inb_S512x128_S512x128_0_0 3072 128 inb_S1024x8192_S1024x512_0_3072 slices_S512x512_o0_128_S512x128 (by omega) (by omega) (by omega)
  have T2 := queryHead_apply x0 x1 x2 x3 x4 inb_S512x1024_S512x1024_0_0 inb_S1x1024_S1x1024_0_0 inb_S512x128_S512x128_0_0 3072 256 inb_S1024x8192_S1024x512_0_3072 slices_S512x512_o0_256_S512x128 (by omega) (by omega) (by omega)
  have T3 := queryHead_apply x0 x1 x2 x3 x4 inb_S512x1024_S512x1024_0_0 inb_S1x1024_S1x1024_0_0 inb_S512x128_S512x128_0_0 3072 384 inb_S1024x8192_S1024x512_0_3072 slices_S512x512_o0_384_S512x128 (by omega) (by omega) (by omega)
  refine ⟨fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, trivial⟩
  · dsimp only
    refine fold4_store _ 3 3 _ _ _ 384 _ (by omega) ?_ inb_S1x4x128x512_S1x1x128x128_0_3_0_384 y
    exact fun n d => (plane3_apply (queryHead x0 x1 x2 x3 x4 inb_S512x1024_S512x1024_0_0 inb_S1x1024_S1x1024_0_0 inb_S512x128_S512x128_0_0 3072 384 inb_S1024x8192_S1024x512_0_3072 slices_S512x512_o0_384_S512x128) n d).trans (T3 n d)
  · dsimp only
    refine fold4_store _ 3 2 _ _ _ 384 _ (by omega) ?_ inb_S1x4x128x512_S1x1x128x128_0_2_0_384 y
    exact fun n d => (plane3_apply (queryHead x0 x1 x2 x3 x4 inb_S512x1024_S512x1024_0_0 inb_S1x1024_S1x1024_0_0 inb_S512x128_S512x128_0_0 3072 384 inb_S1024x8192_S1024x512_0_3072 slices_S512x512_o0_384_S512x128) n d).trans (T3 n d)
  · dsimp only
    refine fold4_store _ 3 1 _ _ _ 384 _ (by omega) ?_ inb_S1x4x128x512_S1x1x128x128_0_1_0_384 y
    exact fun n d => (plane3_apply (queryHead x0 x1 x2 x3 x4 inb_S512x1024_S512x1024_0_0 inb_S1x1024_S1x1024_0_0 inb_S512x128_S512x128_0_0 3072 384 inb_S1024x8192_S1024x512_0_3072 slices_S512x512_o0_384_S512x128) n d).trans (T3 n d)
  · dsimp only
    refine fold4_store _ 3 0 _ _ _ 384 _ (by omega) ?_ inb_S1x4x128x512_S1x1x128x128_0_0_0_384 y
    exact fun n d => (plane3_apply (queryHead x0 x1 x2 x3 x4 inb_S512x1024_S512x1024_0_0 inb_S1x1024_S1x1024_0_0 inb_S512x128_S512x128_0_0 3072 384 inb_S1024x8192_S1024x512_0_3072 slices_S512x512_o0_384_S512x128) n d).trans (T3 n d)
  · dsimp only
    refine fold4_store _ 2 3 _ _ _ 256 _ (by omega) ?_ inb_S1x4x128x512_S1x1x128x128_0_3_0_256 y
    exact fun n d => (plane3_apply (queryHead x0 x1 x2 x3 x4 inb_S512x1024_S512x1024_0_0 inb_S1x1024_S1x1024_0_0 inb_S512x128_S512x128_0_0 3072 256 inb_S1024x8192_S1024x512_0_3072 slices_S512x512_o0_256_S512x128) n d).trans (T2 n d)
  · dsimp only
    refine fold4_store _ 2 2 _ _ _ 256 _ (by omega) ?_ inb_S1x4x128x512_S1x1x128x128_0_2_0_256 y
    exact fun n d => (plane3_apply (queryHead x0 x1 x2 x3 x4 inb_S512x1024_S512x1024_0_0 inb_S1x1024_S1x1024_0_0 inb_S512x128_S512x128_0_0 3072 256 inb_S1024x8192_S1024x512_0_3072 slices_S512x512_o0_256_S512x128) n d).trans (T2 n d)
  · dsimp only
    refine fold4_store _ 2 1 _ _ _ 256 _ (by omega) ?_ inb_S1x4x128x512_S1x1x128x128_0_1_0_256 y
    exact fun n d => (plane3_apply (queryHead x0 x1 x2 x3 x4 inb_S512x1024_S512x1024_0_0 inb_S1x1024_S1x1024_0_0 inb_S512x128_S512x128_0_0 3072 256 inb_S1024x8192_S1024x512_0_3072 slices_S512x512_o0_256_S512x128) n d).trans (T2 n d)
  · dsimp only
    refine fold4_store _ 2 0 _ _ _ 256 _ (by omega) ?_ inb_S1x4x128x512_S1x1x128x128_0_0_0_256 y
    exact fun n d => (plane3_apply (queryHead x0 x1 x2 x3 x4 inb_S512x1024_S512x1024_0_0 inb_S1x1024_S1x1024_0_0 inb_S512x128_S512x128_0_0 3072 256 inb_S1024x8192_S1024x512_0_3072 slices_S512x512_o0_256_S512x128) n d).trans (T2 n d)
  · dsimp only
    refine fold4_store _ 1 3 _ _ _ 128 _ (by omega) ?_ inb_S1x4x128x512_S1x1x128x128_0_3_0_128 y
    exact fun n d => (plane3_apply (queryHead x0 x1 x2 x3 x4 inb_S512x1024_S512x1024_0_0 inb_S1x1024_S1x1024_0_0 inb_S512x128_S512x128_0_0 3072 128 inb_S1024x8192_S1024x512_0_3072 slices_S512x512_o0_128_S512x128) n d).trans (T1 n d)
  · dsimp only
    refine fold4_store _ 1 2 _ _ _ 128 _ (by omega) ?_ inb_S1x4x128x512_S1x1x128x128_0_2_0_128 y
    exact fun n d => (plane3_apply (queryHead x0 x1 x2 x3 x4 inb_S512x1024_S512x1024_0_0 inb_S1x1024_S1x1024_0_0 inb_S512x128_S512x128_0_0 3072 128 inb_S1024x8192_S1024x512_0_3072 slices_S512x512_o0_128_S512x128) n d).trans (T1 n d)
  · dsimp only
    refine fold4_store _ 1 1 _ _ _ 128 _ (by omega) ?_ inb_S1x4x128x512_S1x1x128x128_0_1_0_128 y
    exact fun n d => (plane3_apply (queryHead x0 x1 x2 x3 x4 inb_S512x1024_S512x1024_0_0 inb_S1x1024_S1x1024_0_0 inb_S512x128_S512x128_0_0 3072 128 inb_S1024x8192_S1024x512_0_3072 slices_S512x512_o0_128_S512x128) n d).trans (T1 n d)
  · dsimp only
    refine fold4_store _ 1 0 _ _ _ 128 _ (by omega) ?_ inb_S1x4x128x512_S1x1x128x128_0_0_0_128 y
    exact fun n d => (plane3_apply (queryHead x0 x1 x2 x3 x4 inb_S512x1024_S512x1024_0_0 inb_S1x1024_S1x1024_0_0 inb_S512x128_S512x128_0_0 3072 128 inb_S1024x8192_S1024x512_0_3072 slices_S512x512_o0_128_S512x128) n d).trans (T1 n d)
  · dsimp only
    refine fold4_store _ 0 3 _ _ _ 0 _ (by omega) ?_ inb_S1x4x128x512_S1x1x128x128_0_3_0_0 y
    exact fun n d => (plane3_apply (queryHead x0 x1 x2 x3 x4 inb_S512x1024_S512x1024_0_0 inb_S1x1024_S1x1024_0_0 inb_S512x128_S512x128_0_0 3072 0 inb_S1024x8192_S1024x512_0_3072 slices_S512x512_o0_0_S512x128) n d).trans (T0 n d)
  · dsimp only
    refine fold4_store _ 0 2 _ _ _ 0 _ (by omega) ?_ inb_S1x4x128x512_S1x1x128x128_0_2_0_0 y
    exact fun n d => (plane3_apply (queryHead x0 x1 x2 x3 x4 inb_S512x1024_S512x1024_0_0 inb_S1x1024_S1x1024_0_0 inb_S512x128_S512x128_0_0 3072 0 inb_S1024x8192_S1024x512_0_3072 slices_S512x512_o0_0_S512x128) n d).trans (T0 n d)
  · dsimp only
    refine fold4_store _ 0 1 _ _ _ 0 _ (by omega) ?_ inb_S1x4x128x512_S1x1x128x128_0_1_0_0 y
    exact fun n d => (plane3_apply (queryHead x0 x1 x2 x3 x4 inb_S512x1024_S512x1024_0_0 inb_S1x1024_S1x1024_0_0 inb_S512x128_S512x128_0_0 3072 0 inb_S1024x8192_S1024x512_0_3072 slices_S512x512_o0_0_S512x128) n d).trans (T0 n d)
  · dsimp only
    refine fold4_store _ 0 0 _ _ _ 0 _ (by omega) ?_ inb_S1x4x128x512_S1x1x128x128_0_0_0_0 y
    exact fun n d => (plane3_apply (queryHead x0 x1 x2 x3 x4 inb_S512x1024_S512x1024_0_0 inb_S1x1024_S1x1024_0_0 inb_S512x128_S512x128_0_0 3072 0 inb_S1024x8192_S1024x512_0_3072 slices_S512x512_o0_0_S512x128) n d).trans (T0 n d)

set_option maxHeartbeats 4000000 in
/-- … of its keys. -/
theorem outs12 (t : Fin cfg0.N) (x0 : Vec Ideal S512x1024 .f32) (x1 : Vec Ideal S1x1024 .f32) (x2 : Vec Ideal S1024x8192 .bf16)
    (x3 x4 : Vec Ideal S512x128 .f32) :
    out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) x0 x1 x2 x3 x4
      = fold4 (keyBlk x0 x1 x2 x3 x4 3584 512 (by omega) (by omega)) := by
  unfold out0_A_12
  rw [View.read_writes_eq_canon _ _ _ (cover0_A_12 c _ _ _ _ _ _ _ _ _ _ _ _ _ _ _ _ _ _ _ _ _ _ _ _ _ _ _ _ _ _ _ _ _ _ _ _ _ _ _ _ _ _ _ _ _ _)]
  funext y
  refine View.canon_eq_of_allAt _ y _ (cover0_A_12 c _ _ _ _ _ _ _ _ _ _ _ _ _ _ _ _ _ _ _ _ _ _ _ _ _ _ _ _ _ _ _ _ _ _ _ _ _ _ _ _ _ _ _ _ _ _ y) ?_
  suffices h : View.PiecesOf (fold4 (keyBlk x0 x1 x2 x3 x4 3584 512 (by omega) (by omega)))
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) x0 x1 x2 x3 x4).2.2.2.2.2.2.2.1 from
    fun p hp x hx => by rw [← hx]; exact h.mem p hp x
  unfold kernelRun0_A
  dsimp only
  sl_unfold_words
  simp only [View.readAt_eq_ld, (hs0_0 t).read_unread, (hs0_1 t).read_unread, (hs0_2 t).read_unread, (hs0_3 t).read_unread, (hs0_4 t).read_unread]
  have T0 := keyHead_apply x0 x1 x2 x3 x4 inb_S512x1024_S512x1024_0_0 inb_S1x1024_S1x1024_0_0 inb_S512x128_S512x128_0_0 3584 0 inb_S1024x8192_S1024x512_0_3584 slices_S512x512_o0_0_S512x128 (by omega) (by omega) (by omega)
  have T1 := keyHead_apply x0 x1 x2 x3 x4 inb_S512x1024_S512x1024_0_0 inb_S1x1024_S1x1024_0_0 inb_S512x128_S512x128_0_0 3584 128 inb_S1024x8192_S1024x512_0_3584 slices_S512x512_o0_128_S512x128 (by omega) (by omega) (by omega)
  have T2 := keyHead_apply x0 x1 x2 x3 x4 inb_S512x1024_S512x1024_0_0 inb_S1x1024_S1x1024_0_0 inb_S512x128_S512x128_0_0 3584 256 inb_S1024x8192_S1024x512_0_3584 slices_S512x512_o0_256_S512x128 (by omega) (by omega) (by omega)
  have T3 := keyHead_apply x0 x1 x2 x3 x4 inb_S512x1024_S512x1024_0_0 inb_S1x1024_S1x1024_0_0 inb_S512x128_S512x128_0_0 3584 384 inb_S1024x8192_S1024x512_0_3584 slices_S512x512_o0_384_S512x128 (by omega) (by omega) (by omega)
  refine ⟨fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, trivial⟩
  · dsimp only
    refine fold4_store _ 3 3 _ _ _ 384 _ (by omega) ?_ inb_S1x4x128x512_S1x1x128x128_0_3_0_384 y
    exact fun n d => (plane3_apply (keyHead x0 x1 x2 x3 x4 inb_S512x1024_S512x1024_0_0 inb_S1x1024_S1x1024_0_0 inb_S512x128_S512x128_0_0 3584 384 inb_S1024x8192_S1024x512_0_3584 slices_S512x512_o0_384_S512x128) n d).trans (T3 n d)
  · dsimp only
    refine fold4_store _ 3 2 _ _ _ 384 _ (by omega) ?_ inb_S1x4x128x512_S1x1x128x128_0_2_0_384 y
    exact fun n d => (plane3_apply (keyHead x0 x1 x2 x3 x4 inb_S512x1024_S512x1024_0_0 inb_S1x1024_S1x1024_0_0 inb_S512x128_S512x128_0_0 3584 384 inb_S1024x8192_S1024x512_0_3584 slices_S512x512_o0_384_S512x128) n d).trans (T3 n d)
  · dsimp only
    refine fold4_store _ 3 1 _ _ _ 384 _ (by omega) ?_ inb_S1x4x128x512_S1x1x128x128_0_1_0_384 y
    exact fun n d => (plane3_apply (keyHead x0 x1 x2 x3 x4 inb_S512x1024_S512x1024_0_0 inb_S1x1024_S1x1024_0_0 inb_S512x128_S512x128_0_0 3584 384 inb_S1024x8192_S1024x512_0_3584 slices_S512x512_o0_384_S512x128) n d).trans (T3 n d)
  · dsimp only
    refine fold4_store _ 3 0 _ _ _ 384 _ (by omega) ?_ inb_S1x4x128x512_S1x1x128x128_0_0_0_384 y
    exact fun n d => (plane3_apply (keyHead x0 x1 x2 x3 x4 inb_S512x1024_S512x1024_0_0 inb_S1x1024_S1x1024_0_0 inb_S512x128_S512x128_0_0 3584 384 inb_S1024x8192_S1024x512_0_3584 slices_S512x512_o0_384_S512x128) n d).trans (T3 n d)
  · dsimp only
    refine fold4_store _ 2 3 _ _ _ 256 _ (by omega) ?_ inb_S1x4x128x512_S1x1x128x128_0_3_0_256 y
    exact fun n d => (plane3_apply (keyHead x0 x1 x2 x3 x4 inb_S512x1024_S512x1024_0_0 inb_S1x1024_S1x1024_0_0 inb_S512x128_S512x128_0_0 3584 256 inb_S1024x8192_S1024x512_0_3584 slices_S512x512_o0_256_S512x128) n d).trans (T2 n d)
  · dsimp only
    refine fold4_store _ 2 2 _ _ _ 256 _ (by omega) ?_ inb_S1x4x128x512_S1x1x128x128_0_2_0_256 y
    exact fun n d => (plane3_apply (keyHead x0 x1 x2 x3 x4 inb_S512x1024_S512x1024_0_0 inb_S1x1024_S1x1024_0_0 inb_S512x128_S512x128_0_0 3584 256 inb_S1024x8192_S1024x512_0_3584 slices_S512x512_o0_256_S512x128) n d).trans (T2 n d)
  · dsimp only
    refine fold4_store _ 2 1 _ _ _ 256 _ (by omega) ?_ inb_S1x4x128x512_S1x1x128x128_0_1_0_256 y
    exact fun n d => (plane3_apply (keyHead x0 x1 x2 x3 x4 inb_S512x1024_S512x1024_0_0 inb_S1x1024_S1x1024_0_0 inb_S512x128_S512x128_0_0 3584 256 inb_S1024x8192_S1024x512_0_3584 slices_S512x512_o0_256_S512x128) n d).trans (T2 n d)
  · dsimp only
    refine fold4_store _ 2 0 _ _ _ 256 _ (by omega) ?_ inb_S1x4x128x512_S1x1x128x128_0_0_0_256 y
    exact fun n d => (plane3_apply (keyHead x0 x1 x2 x3 x4 inb_S512x1024_S512x1024_0_0 inb_S1x1024_S1x1024_0_0 inb_S512x128_S512x128_0_0 3584 256 inb_S1024x8192_S1024x512_0_3584 slices_S512x512_o0_256_S512x128) n d).trans (T2 n d)
  · dsimp only
    refine fold4_store _ 1 3 _ _ _ 128 _ (by omega) ?_ inb_S1x4x128x512_S1x1x128x128_0_3_0_128 y
    exact fun n d => (plane3_apply (keyHead x0 x1 x2 x3 x4 inb_S512x1024_S512x1024_0_0 inb_S1x1024_S1x1024_0_0 inb_S512x128_S512x128_0_0 3584 128 inb_S1024x8192_S1024x512_0_3584 slices_S512x512_o0_128_S512x128) n d).trans (T1 n d)
  · dsimp only
    refine fold4_store _ 1 2 _ _ _ 128 _ (by omega) ?_ inb_S1x4x128x512_S1x1x128x128_0_2_0_128 y
    exact fun n d => (plane3_apply (keyHead x0 x1 x2 x3 x4 inb_S512x1024_S512x1024_0_0 inb_S1x1024_S1x1024_0_0 inb_S512x128_S512x128_0_0 3584 128 inb_S1024x8192_S1024x512_0_3584 slices_S512x512_o0_128_S512x128) n d).trans (T1 n d)
  · dsimp only
    refine fold4_store _ 1 1 _ _ _ 128 _ (by omega) ?_ inb_S1x4x128x512_S1x1x128x128_0_1_0_128 y
    exact fun n d => (plane3_apply (keyHead x0 x1 x2 x3 x4 inb_S512x1024_S512x1024_0_0 inb_S1x1024_S1x1024_0_0 inb_S512x128_S512x128_0_0 3584 128 inb_S1024x8192_S1024x512_0_3584 slices_S512x512_o0_128_S512x128) n d).trans (T1 n d)
  · dsimp only
    refine fold4_store _ 1 0 _ _ _ 128 _ (by omega) ?_ inb_S1x4x128x512_S1x1x128x128_0_0_0_128 y
    exact fun n d => (plane3_apply (keyHead x0 x1 x2 x3 x4 inb_S512x1024_S512x1024_0_0 inb_S1x1024_S1x1024_0_0 inb_S512x128_S512x128_0_0 3584 128 inb_S1024x8192_S1024x512_0_3584 slices_S512x512_o0_128_S512x128) n d).trans (T1 n d)
  · dsimp only
    refine fold4_store _ 0 3 _ _ _ 0 _ (by omega) ?_ inb_S1x4x128x512_S1x1x128x128_0_3_0_0 y
    exact fun n d => (plane3_apply (keyHead x0 x1 x2 x3 x4 inb_S512x1024_S512x1024_0_0 inb_S1x1024_S1x1024_0_0 inb_S512x128_S512x128_0_0 3584 0 inb_S1024x8192_S1024x512_0_3584 slices_S512x512_o0_0_S512x128) n d).trans (T0 n d)
  · dsimp only
    refine fold4_store _ 0 2 _ _ _ 0 _ (by omega) ?_ inb_S1x4x128x512_S1x1x128x128_0_2_0_0 y
    exact fun n d => (plane3_apply (keyHead x0 x1 x2 x3 x4 inb_S512x1024_S512x1024_0_0 inb_S1x1024_S1x1024_0_0 inb_S512x128_S512x128_0_0 3584 0 inb_S1024x8192_S1024x512_0_3584 slices_S512x512_o0_0_S512x128) n d).trans (T0 n d)
  · dsimp only
    refine fold4_store _ 0 1 _ _ _ 0 _ (by omega) ?_ inb_S1x4x128x512_S1x1x128x128_0_1_0_0 y
    exact fun n d => (plane3_apply (keyHead x0 x1 x2 x3 x4 inb_S512x1024_S512x1024_0_0 inb_S1x1024_S1x1024_0_0 inb_S512x128_S512x128_0_0 3584 0 inb_S1024x8192_S1024x512_0_3584 slices_S512x512_o0_0_S512x128) n d).trans (T0 n d)
  · dsimp only
    refine fold4_store _ 0 0 _ _ _ 0 _ (by omega) ?_ inb_S1x4x128x512_S1x1x128x128_0_0_0_0 y
    exact fun n d => (plane3_apply (keyHead x0 x1 x2 x3 x4 inb_S512x1024_S512x1024_0_0 inb_S1x1024_S1x1024_0_0 inb_S512x128_S512x128_0_0 3584 0 inb_S1024x8192_S1024x512_0_3584 slices_S512x512_o0_0_S512x128) n d).trans (T0 n d)

set_option maxHeartbeats 4000000 in
/-- … of its values. -/
theorem outs13 (t : Fin cfg0.N) (x0 : Vec Ideal S512x1024 .f32) (x1 : Vec Ideal S1x1024 .f32) (x2 : Vec Ideal S1024x8192 .bf16)
    (x3 x4 : Vec Ideal S512x128 .f32) :
    out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) x0 x1 x2 x3 x4
      = fold4 (plainBlk x0 x1 x2 4096 512 (by omega)) := by
  unfold out0_A_13
  rw [View.read_writes_eq_canon _ _ _ (cover0_A_13 c _ _ _ _ _ _ _ _ _ _ _ _ _ _ _ _ _ _ _ _ _ _ _ _ _ _ _ _ _ _ _ _ _ _ _ _ _ _ _ _ _ _ _ _ _ _)]
  funext y
  refine View.canon_eq_of_allAt _ y _ (cover0_A_13 c _ _ _ _ _ _ _ _ _ _ _ _ _ _ _ _ _ _ _ _ _ _ _ _ _ _ _ _ _ _ _ _ _ _ _ _ _ _ _ _ _ _ _ _ _ _ y) ?_
  suffices h : View.PiecesOf (fold4 (plainBlk x0 x1 x2 4096 512 (by omega)))
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) x0 x1 x2 x3 x4).2.2.2.2.2.2.2.2.1 from
    fun p hp x hx => by rw [← hx]; exact h.mem p hp x
  unfold kernelRun0_A
  dsimp only
  sl_unfold_words
  simp only [View.readAt_eq_ld, (hs0_0 t).read_unread, (hs0_1 t).read_unread, (hs0_2 t).read_unread, (hs0_3 t).read_unread, (hs0_4 t).read_unread]
  have T0 := plainHead_apply x0 x1 x2 inb_S512x1024_S512x1024_0_0 inb_S1x1024_S1x1024_0_0 4096 0 inb_S1024x8192_S1024x512_0_4096 slices_S512x512_o0_0_S512x128 (by omega) (by omega)
  have T1 := plainHead_apply x0 x1 x2 inb_S512x1024_S512x1024_0_0 inb_S1x1024_S1x1024_0_0 4096 128 inb_S1024x8192_S1024x512_0_4096 slices_S512x512_o0_128_S512x128 (by omega) (by omega)
  have T2 := plainHead_apply x0 x1 x2 inb_S512x1024_S512x1024_0_0 inb_S1x1024_S1x1024_0_0 4096 256 inb_S1024x8192_S1024x512_0_4096 slices_S512x512_o0_256_S512x128 (by omega) (by omega)
  have T3 := plainHead_apply x0 x1 x2 inb_S512x1024_S512x1024_0_0 inb_S1x1024_S1x1024_0_0 4096 384 inb_S1024x8192_S1024x512_0_4096 slices_S512x512_o0_384_S512x128 (by omega) (by omega)
  refine ⟨fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, trivial⟩
  · dsimp only
    refine fold4_store _ 3 3 _ _ _ 384 _ (by omega) ?_ inb_S1x4x128x512_S1x1x128x128_0_3_0_384 y
    exact fun n d => (plane3_apply (plainHead x0 x1 x2 inb_S512x1024_S512x1024_0_0 inb_S1x1024_S1x1024_0_0 4096 384 inb_S1024x8192_S1024x512_0_4096 slices_S512x512_o0_384_S512x128) n d).trans (T3 n d)
  · dsimp only
    refine fold4_store _ 3 2 _ _ _ 384 _ (by omega) ?_ inb_S1x4x128x512_S1x1x128x128_0_2_0_384 y
    exact fun n d => (plane3_apply (plainHead x0 x1 x2 inb_S512x1024_S512x1024_0_0 inb_S1x1024_S1x1024_0_0 4096 384 inb_S1024x8192_S1024x512_0_4096 slices_S512x512_o0_384_S512x128) n d).trans (T3 n d)
  · dsimp only
    refine fold4_store _ 3 1 _ _ _ 384 _ (by omega) ?_ inb_S1x4x128x512_S1x1x128x128_0_1_0_384 y
    exact fun n d => (plane3_apply (plainHead x0 x1 x2 inb_S512x1024_S512x1024_0_0 inb_S1x1024_S1x1024_0_0 4096 384 inb_S1024x8192_S1024x512_0_4096 slices_S512x512_o0_384_S512x128) n d).trans (T3 n d)
  · dsimp only
    refine fold4_store _ 3 0 _ _ _ 384 _ (by omega) ?_ inb_S1x4x128x512_S1x1x128x128_0_0_0_384 y
    exact fun n d => (plane3_apply (plainHead x0 x1 x2 inb_S512x1024_S512x1024_0_0 inb_S1x1024_S1x1024_0_0 4096 384 inb_S1024x8192_S1024x512_0_4096 slices_S512x512_o0_384_S512x128) n d).trans (T3 n d)
  · dsimp only
    refine fold4_store _ 2 3 _ _ _ 256 _ (by omega) ?_ inb_S1x4x128x512_S1x1x128x128_0_3_0_256 y
    exact fun n d => (plane3_apply (plainHead x0 x1 x2 inb_S512x1024_S512x1024_0_0 inb_S1x1024_S1x1024_0_0 4096 256 inb_S1024x8192_S1024x512_0_4096 slices_S512x512_o0_256_S512x128) n d).trans (T2 n d)
  · dsimp only
    refine fold4_store _ 2 2 _ _ _ 256 _ (by omega) ?_ inb_S1x4x128x512_S1x1x128x128_0_2_0_256 y
    exact fun n d => (plane3_apply (plainHead x0 x1 x2 inb_S512x1024_S512x1024_0_0 inb_S1x1024_S1x1024_0_0 4096 256 inb_S1024x8192_S1024x512_0_4096 slices_S512x512_o0_256_S512x128) n d).trans (T2 n d)
  · dsimp only
    refine fold4_store _ 2 1 _ _ _ 256 _ (by omega) ?_ inb_S1x4x128x512_S1x1x128x128_0_1_0_256 y
    exact fun n d => (plane3_apply (plainHead x0 x1 x2 inb_S512x1024_S512x1024_0_0 inb_S1x1024_S1x1024_0_0 4096 256 inb_S1024x8192_S1024x512_0_4096 slices_S512x512_o0_256_S512x128) n d).trans (T2 n d)
  · dsimp only
    refine fold4_store _ 2 0 _ _ _ 256 _ (by omega) ?_ inb_S1x4x128x512_S1x1x128x128_0_0_0_256 y
    exact fun n d => (plane3_apply (plainHead x0 x1 x2 inb_S512x1024_S512x1024_0_0 inb_S1x1024_S1x1024_0_0 4096 256 inb_S1024x8192_S1024x512_0_4096 slices_S512x512_o0_256_S512x128) n d).trans (T2 n d)
  · dsimp only
    refine fold4_store _ 1 3 _ _ _ 128 _ (by omega) ?_ inb_S1x4x128x512_S1x1x128x128_0_3_0_128 y
    exact fun n d => (plane3_apply (plainHead x0 x1 x2 inb_S512x1024_S512x1024_0_0 inb_S1x1024_S1x1024_0_0 4096 128 inb_S1024x8192_S1024x512_0_4096 slices_S512x512_o0_128_S512x128) n d).trans (T1 n d)
  · dsimp only
    refine fold4_store _ 1 2 _ _ _ 128 _ (by omega) ?_ inb_S1x4x128x512_S1x1x128x128_0_2_0_128 y
    exact fun n d => (plane3_apply (plainHead x0 x1 x2 inb_S512x1024_S512x1024_0_0 inb_S1x1024_S1x1024_0_0 4096 128 inb_S1024x8192_S1024x512_0_4096 slices_S512x512_o0_128_S512x128) n d).trans (T1 n d)
  · dsimp only
    refine fold4_store _ 1 1 _ _ _ 128 _ (by omega) ?_ inb_S1x4x128x512_S1x1x128x128_0_1_0_128 y
    exact fun n d => (plane3_apply (plainHead x0 x1 x2 inb_S512x1024_S512x1024_0_0 inb_S1x1024_S1x1024_0_0 4096 128 inb_S1024x8192_S1024x512_0_4096 slices_S512x512_o0_128_S512x128) n d).trans (T1 n d)
  · dsimp only
    refine fold4_store _ 1 0 _ _ _ 128 _ (by omega) ?_ inb_S1x4x128x512_S1x1x128x128_0_0_0_128 y
    exact fun n d => (plane3_apply (plainHead x0 x1 x2 inb_S512x1024_S512x1024_0_0 inb_S1x1024_S1x1024_0_0 4096 128 inb_S1024x8192_S1024x512_0_4096 slices_S512x512_o0_128_S512x128) n d).trans (T1 n d)
  · dsimp only
    refine fold4_store _ 0 3 _ _ _ 0 _ (by omega) ?_ inb_S1x4x128x512_S1x1x128x128_0_3_0_0 y
    exact fun n d => (plane3_apply (plainHead x0 x1 x2 inb_S512x1024_S512x1024_0_0 inb_S1x1024_S1x1024_0_0 4096 0 inb_S1024x8192_S1024x512_0_4096 slices_S512x512_o0_0_S512x128) n d).trans (T0 n d)
  · dsimp only
    refine fold4_store _ 0 2 _ _ _ 0 _ (by omega) ?_ inb_S1x4x128x512_S1x1x128x128_0_2_0_0 y
    exact fun n d => (plane3_apply (plainHead x0 x1 x2 inb_S512x1024_S512x1024_0_0 inb_S1x1024_S1x1024_0_0 4096 0 inb_S1024x8192_S1024x512_0_4096 slices_S512x512_o0_0_S512x128) n d).trans (T0 n d)
  · dsimp only
    refine fold4_store _ 0 1 _ _ _ 0 _ (by omega) ?_ inb_S1x4x128x512_S1x1x128x128_0_1_0_0 y
    exact fun n d => (plane3_apply (plainHead x0 x1 x2 inb_S512x1024_S512x1024_0_0 inb_S1x1024_S1x1024_0_0 4096 0 inb_S1024x8192_S1024x512_0_4096 slices_S512x512_o0_0_S512x128) n d).trans (T0 n d)
  · dsimp only
    refine fold4_store _ 0 0 _ _ _ 0 _ (by omega) ?_ inb_S1x4x128x512_S1x1x128x128_0_0_0_0 y
    exact fun n d => (plane3_apply (plainHead x0 x1 x2 inb_S512x1024_S512x1024_0_0 inb_S1x1024_S1x1024_0_0 4096 0 inb_S1024x8192_S1024x512_0_4096 slices_S512x512_o0_0_S512x128) n d).trans (T0 n d)

end Cert.ProjFinal

end
-- ==== Proof.ProjFold2.lean ====
/- What the input kernel leaves in the blocks of a dilated group at a grid point: the queries for dilation 16. -/
module

public import proofs.«01_k».proof.Proof.ProjFold
public import Idealize.ShloMosaic.Lib.Pipeline.ValueKit.Tiles
public import Idealize.ShloMosaic.Lib.Pipeline.ReadBack
public import proofs.«01_k».proof.Proof.Gen.Kernel3Ideal.Value

@[expose] public section

noncomputable section

namespace Cert.ProjFinal

open Cert.Kernel3Ideal Cert.Kernel3Ideal.Gen Cert.Kernel3Ideal.Value Cert.Proj Cert.ProjKernel Cert.ProjBlock
open Idealize.ShloMosaic Idealize.ShloMosaic.TcCoe Idealize.ShloMosaic.ValueIdx Idealize.SL.Sem

variable (c : Dev nD)

set_option maxHeartbeats 4000000 in
/-- What the body leaves in the block of the second dilated group's queries. -/
theorem outs14 (t : Fin cfg0.N) (x0 : Vec Ideal S512x1024 .f32) (x1 : Vec Ideal S1x1024 .f32) (x2 : Vec Ideal S1024x8192 .bf16)
    (x3 x4 : Vec Ideal S512x128 .f32) :
    out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) x0 x1 x2 x3 x4
      = fold16 (queryBlk x0 x1 x2 x3 x4 4608 512 (by omega) (by omega)) := by
  unfold out0_A_14
  rw [View.read_writes_eq_canon _ _ _ (cover0_A_14 c _ _ _ _ _ _ _ _ _ _ _ _ _ _ _ _ _ _ _ _ _ _ _ _ _ _ _ _ _ _ _ _ _ _ _ _ _ _ _ _ _ _ _ _ _ _)]
  funext y
  refine View.canon_eq_of_allAt _ y _ (cover0_A_14 c _ _ _ _ _ _ _ _ _ _ _ _ _ _ _ _ _ _ _ _ _ _ _ _ _ _ _ _ _ _ _ _ _ _ _ _ _ _ _ _ _ _ _ _ _ _ y) ?_
  suffices h : View.PiecesOf (fold16 (queryBlk x0 x1 x2 x3 x4 4608 512 (by omega) (by omega)))
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) x0 x1 x2 x3 x4).2.2.2.2.2.2.2.2.2.1 from
    fun p hp x hx => by rw [← hx]; exact h.mem p hp x
  unfold kernelRun0_A
  dsimp only
  sl_unfold_words
  simp only [View.readAt_eq_ld, (hs0_0 t).read_unread, (hs0_1 t).read_unread, (hs0_2 t).read_unread, (hs0_3 t).read_unread, (hs0_4 t).read_unread]
  have T0 := queryHead_apply x0 x1 x2 x3 x4 inb_S512x1024_S512x1024_0_0 inb_S1x1024_S1x1024_0_0 inb_S512x128_S512x128_0_0 4608 0 inb_S1024x8192_S1024x512_0_4608 slices_S512x512_o0_0_S512x128 (by omega) (by omega) (by omega)
  have T1 := queryHead_apply x0 x1 x2 x3 x4 inb_S512x1024_S512x1024_0_0 inb_S1x1024_S1x1024_0_0 inb_S512x128_S512x128_0_0 4608 128 inb_S1024x8192_S1024x512_0_4608 slices_S512x512_o0_128_S512x128 (by omega) (by omega) (by omega)
  have T2 := queryHead_apply x0 x1 x2 x3 x4 inb_S512x1024_S512x1024_0_0 inb_S1x1024_S1x1024_0_0 inb_S512x128_S512x128_0_0 4608 256 inb_S1024x8192_S1024x512_0_4608 slices_S512x512_o0_256_S512x128 (by omega) (by omega) (by omega)
  have T3 := queryHead_apply x0 x1 x2 x3 x4 inb_S512x1024_S512x1024_0_0 inb_S1x1024_S1x1024_0_0 inb_S512x128_S512x128_0_0 4608 384 inb_S1024x8192_S1024x512_0_4608 slices_S512x512_o0_384_S512x128 (by omega) (by omega) (by omega)
  refine ⟨fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, trivial⟩
  · dsimp only
    refine fold16_store _ 3 3 3 _ _ _ 15 384 _ (by omega) (by omega) (by omega) (by omega)
      inb_S1x16x32x512_S1x1x32x128_0_15_0_384 ?_ y
    intro i d
    refine quarter_store _ 3 3 _ _ _ 384 _ (by omega) ?_ i d (by omega)
    exact fun n d => (plane3_apply (queryHead x0 x1 x2 x3 x4 inb_S512x1024_S512x1024_0_0 inb_S1x1024_S1x1024_0_0 inb_S512x128_S512x128_0_0 4608 384 inb_S1024x8192_S1024x512_0_4608 slices_S512x512_o0_384_S512x128) n d).trans (T3 n d)
  · dsimp only
    refine fold16_store _ 3 3 2 _ _ _ 11 384 _ (by omega) (by omega) (by omega) (by omega)
      inb_S1x16x32x512_S1x1x32x128_0_11_0_384 ?_ y
    intro i d
    refine quarter_store _ 3 3 _ _ _ 384 _ (by omega) ?_ i d (by omega)
    exact fun n d => (plane3_apply (queryHead x0 x1 x2 x3 x4 inb_S512x1024_S512x1024_0_0 inb_S1x1024_S1x1024_0_0 inb_S512x128_S512x128_0_0 4608 384 inb_S1024x8192_S1024x512_0_4608 slices_S512x512_o0_384_S512x128) n d).trans (T3 n d)
  · dsimp only
    refine fold16_store _ 3 3 1 _ _ _ 7 384 _ (by omega) (by omega) (by omega) (by omega)
      inb_S1x16x32x512_S1x1x32x128_0_7_0_384 ?_ y
    intro i d
    refine quarter_store _ 3 3 _ _ _ 384 _ (by omega) ?_ i d (by omega)
    exact fun n d => (plane3_apply (queryHead x0 x1 x2 x3 x4 inb_S512x1024_S512x1024_0_0 inb_S1x1024_S1x1024_0_0 inb_S512x128_S512x128_0_0 4608 384 inb_S1024x8192_S1024x512_0_4608 slices_S512x512_o0_384_S512x128) n d).trans (T3 n d)
  · dsimp only
    refine fold16_store _ 3 3 0 _ _ _ 3 384 _ (by omega) (by omega) (by omega) (by omega)
      inb_S1x16x32x512_S1x1x32x128_0_3_0_384 ?_ y
    intro i d
    refine quarter_store _ 3 3 _ _ _ 384 _ (by omega) ?_ i d (by omega)
    exact fun n d => (plane3_apply (queryHead x0 x1 x2 x3 x4 inb_S512x1024_S512x1024_0_0 inb_S1x1024_S1x1024_0_0 inb_S512x128_S512x128_0_0 4608 384 inb_S1024x8192_S1024x512_0_4608 slices_S512x512_o0_384_S512x128) n d).trans (T3 n d)
  · dsimp only
    refine fold16_store _ 3 2 3 _ _ _ 14 384 _ (by omega) (by omega) (by omega) (by omega)
      inb_S1x16x32x512_S1x1x32x128_0_14_0_384 ?_ y
    intro i d
    refine quarter_store _ 3 2 _ _ _ 384 _ (by omega) ?_ i d (by omega)
    exact fun n d => (plane3_apply (queryHead x0 x1 x2 x3 x4 inb_S512x1024_S512x1024_0_0 inb_S1x1024_S1x1024_0_0 inb_S512x128_S512x128_0_0 4608 384 inb_S1024x8192_S1024x512_0_4608 slices_S512x512_o0_384_S512x128) n d).trans (T3 n d)
  · dsimp only
    refine fold16_store _ 3 2 2 _ _ _ 10 384 _ (by omega) (by omega) (by omega) (by omega)
      inb_S1x16x32x512_S1x1x32x128_0_10_0_384 ?_ y
    intro i d
    refine quarter_store _ 3 2 _ _ _ 384 _ (by omega) ?_ i d (by omega)
    exact fun n d => (plane3_apply (queryHead x0 x1 x2 x3 x4 inb_S512x1024_S512x1024_0_0 inb_S1x1024_S1x1024_0_0 inb_S512x128_S512x128_0_0 4608 384 inb_S1024x8192_S1024x512_0_4608 slices_S512x512_o0_384_S512x128) n d).trans (T3 n d)
  · dsimp only
    refine fold16_store _ 3 2 1 _ _ _ 6 384 _ (by omega) (by omega) (by omega) (by omega)
      inb_S1x16x32x512_S1x1x32x128_0_6_0_384 ?_ y
    intro i d
    refine quarter_store _ 3 2 _ _ _ 384 _ (by omega) ?_ i d (by omega)
    exact fun n d => (plane3_apply (queryHead x0 x1 x2 x3 x4 inb_S512x1024_S512x1024_0_0 inb_S1x1024_S1x1024_0_0 inb_S512x128_S512x128_0_0 4608 384 inb_S1024x8192_S1024x512_0_4608 slices_S512x512_o0_384_S512x128) n d).trans (T3 n d)
  · dsimp only
    refine fold16_store _ 3 2 0 _ _ _ 2 384 _ (by omega) (by omega) (by omega) (by omega)
      inb_S1x16x32x512_S1x1x32x128_0_2_0_384 ?_ y
    intro i d
    refine quarter_store _ 3 2 _ _ _ 384 _ (by omega) ?_ i d (by omega)
    exact fun n d => (plane3_apply (queryHead x0 x1 x2 x3 x4 inb_S512x1024_S512x1024_0_0 inb_S1x1024_S1x1024_0_0 inb_S512x128_S512x128_0_0 4608 384 inb_S1024x8192_S1024x512_0_4608 slices_S512x512_o0_384_S512x128) n d).trans (T3 n d)
  · dsimp only
    refine fold16_store _ 3 1 3 _ _ _ 13 384 _ (by omega) (by omega) (by omega) (by omega)
      inb_S1x16x32x512_S1x1x32x128_0_13_0_384 ?_ y
    intro i d
    refine quarter_store _ 3 1 _ _ _ 384 _ (by omega) ?_ i d (by omega)
    exact fun n d => (plane3_apply (queryHead x0 x1 x2 x3 x4 inb_S512x1024_S512x1024_0_0 inb_S1x1024_S1x1024_0_0 inb_S512x128_S512x128_0_0 4608 384 inb_S1024x8192_S1024x512_0_4608 slices_S512x512_o0_384_S512x128) n d).trans (T3 n d)
  · dsimp only
    refine fold16_store _ 3 1 2 _ _ _ 9 384 _ (by omega) (by omega) (by omega) (by omega)
      inb_S1x16x32x512_S1x1x32x128_0_9_0_384 ?_ y
    intro i d
    refine quarter_store _ 3 1 _ _ _ 384 _ (by omega) ?_ i d (by omega)
    exact fun n d => (plane3_apply (queryHead x0 x1 x2 x3 x4 inb_S512x1024_S512x1024_0_0 inb_S1x1024_S1x1024_0_0 inb_S512x128_S512x128_0_0 4608 384 inb_S1024x8192_S1024x512_0_4608 slices_S512x512_o0_384_S512x128) n d).trans (T3 n d)
  · dsimp only
    refine fold16_store _ 3 1 1 _ _ _ 5 384 _ (by omega) (by omega) (by omega) (by omega)
      inb_S1x16x32x512_S1x1x32x128_0_5_0_384 ?_ y
    intro i d
    refine quarter_store _ 3 1 _ _ _ 384 _ (by omega) ?_ i d (by omega)
    exact fun n d => (plane3_apply (queryHead x0 x1 x2 x3 x4 inb_S512x1024_S512x1024_0_0 inb_S1x1024_S1x1024_0_0 inb_S512x128_S512x128_0_0 4608 384 inb_S1024x8192_S1024x512_0_4608 slices_S512x512_o0_384_S512x128) n d).trans (T3 n d)
  · dsimp only
    refine fold16_store _ 3 1 0 _ _ _ 1 384 _ (by omega) (by omega) (by omega) (by omega)
      inb_S1x16x32x512_S1x1x32x128_0_1_0_384 ?_ y
    intro i d
    refine quarter_store _ 3 1 _ _ _ 384 _ (by omega) ?_ i d (by omega)
    exact fun n d => (plane3_apply (queryHead x0 x1 x2 x3 x4 inb_S512x1024_S512x1024_0_0 inb_S1x1024_S1x1024_0_0 inb_S512x128_S512x128_0_0 4608 384 inb_S1024x8192_S1024x512_0_4608 slices_S512x512_o0_384_S512x128) n d).trans (T3 n d)
  · dsimp only
    refine fold16_store _ 3 0 3 _ _ _ 12 384 _ (by omega) (by omega) (by omega) (by omega)
      inb_S1x16x32x512_S1x1x32x128_0_12_0_384 ?_ y
    intro i d
    refine quarter_store _ 3 0 _ _ _ 384 _ (by omega) ?_ i d (by omega)
    exact fun n d => (plane3_apply (queryHead x0 x1 x2 x3 x4 inb_S512x1024_S512x1024_0_0 inb_S1x1024_S1x1024_0_0 inb_S512x128_S512x128_0_0 4608 384 inb_S1024x8192_S1024x512_0_4608 slices_S512x512_o0_384_S512x128) n d).trans (T3 n d)
  · dsimp only
    refine fold16_store _ 3 0 2 _ _ _ 8 384 _ (by omega) (by omega) (by omega) (by omega)
      inb_S1x16x32x512_S1x1x32x128_0_8_0_384 ?_ y
    intro i d
    refine quarter_store _ 3 0 _ _ _ 384 _ (by omega) ?_ i d (by omega)
    exact fun n d => (plane3_apply (queryHead x0 x1 x2 x3 x4 inb_S512x1024_S512x1024_0_0 inb_S1x1024_S1x1024_0_0 inb_S512x128_S512x128_0_0 4608 384 inb_S1024x8192_S1024x512_0_4608 slices_S512x512_o0_384_S512x128) n d).trans (T3 n d)
  · dsimp only
    refine fold16_store _ 3 0 1 _ _ _ 4 384 _ (by omega) (by omega) (by omega) (by omega)
      inb_S1x16x32x512_S1x1x32x128_0_4_0_384 ?_ y
    intro i d
    refine quarter_store _ 3 0 _ _ _ 384 _ (by omega) ?_ i d (by omega)
    exact fun n d => (plane3_apply (queryHead x0 x1 x2 x3 x4 inb_S512x1024_S512x1024_0_0 inb_S1x1024_S1x1024_0_0 inb_S512x128_S512x128_0_0 4608 384 inb_S1024x8192_S1024x512_0_4608 slices_S512x512_o0_384_S512x128) n d).trans (T3 n d)
  · dsimp only
    refine fold16_store _ 3 0 0 _ _ _ 0 384 _ (by omega) (by omega) (by omega) (by omega)
      inb_S1x16x32x512_S1x1x32x128_0_0_0_384 ?_ y
    intro i d
    refine quarter_store _ 3 0 _ _ _ 384 _ (by omega) ?_ i d (by omega)
    exact fun n d => (plane3_apply (queryHead x0 x1 x2 x3 x4 inb_S512x1024_S512x1024_0_0 inb_S1x1024_S1x1024_0_0 inb_S512x128_S512x128_0_0 4608 384 inb_S1024x8192_S1024x512_0_4608 slices_S512x512_o0_384_S512x128) n d).trans (T3 n d)
  · dsimp only
    refine fold16_store _ 2 3 3 _ _ _ 15 256 _ (by omega) (by omega) (by omega) (by omega)
      inb_S1x16x32x512_S1x1x32x128_0_15_0_256 ?_ y
    intro i d
    refine quarter_store _ 2 3 _ _ _ 256 _ (by omega) ?_ i d (by omega)
    exact fun n d => (plane3_apply (queryHead x0 x1 x2 x3 x4 inb_S512x1024_S512x1024_0_0 inb_S1x1024_S1x1024_0_0 inb_S512x128_S512x128_0_0 4608 256 inb_S1024x8192_S1024x512_0_4608 slices_S512x512_o0_256_S512x128) n d).trans (T2 n d)
  · dsimp only
    refine fold16_store _ 2 3 2 _ _ _ 11 256 _ (by omega) (by omega) (by omega) (by omega)
      inb_S1x16x32x512_S1x1x32x128_0_11_0_256 ?_ y
    intro i d
    refine quarter_store _ 2 3 _ _ _ 256 _ (by omega) ?_ i d (by omega)
    exact fun n d => (plane3_apply (queryHead x0 x1 x2 x3 x4 inb_S512x1024_S512x1024_0_0 inb_S1x1024_S1x1024_0_0 inb_S512x128_S512x128_0_0 4608 256 inb_S1024x8192_S1024x512_0_4608 slices_S512x512_o0_256_S512x128) n d).trans (T2 n d)
  · dsimp only
    refine fold16_store _ 2 3 1 _ _ _ 7 256 _ (by omega) (by omega) (by omega) (by omega)
      inb_S1x16x32x512_S1x1x32x128_0_7_0_256 ?_ y
    intro i d
    refine quarter_store _ 2 3 _ _ _ 256 _ (by omega) ?_ i d (by omega)
    exact fun n d => (plane3_apply (queryHead x0 x1 x2 x3 x4 inb_S512x1024_S512x1024_0_0 inb_S1x1024_S1x1024_0_0 inb_S512x128_S512x128_0_0 4608 256 inb_S1024x8192_S1024x512_0_4608 slices_S512x512_o0_256_S512x128) n d).trans (T2 n d)
  · dsimp only
    refine fold16_store _ 2 3 0 _ _ _ 3 256 _ (by omega) (by omega) (by omega) (by omega)
      inb_S1x16x32x512_S1x1x32x128_0_3_0_256 ?_ y
    intro i d
    refine quarter_store _ 2 3 _ _ _ 256 _ (by omega) ?_ i d (by omega)
    exact fun n d => (plane3_apply (queryHead x0 x1 x2 x3 x4 inb_S512x1024_S512x1024_0_0 inb_S1x1024_S1x1024_0_0 inb_S512x128_S512x128_0_0 4608 256 inb_S1024x8192_S1024x512_0_4608 slices_S512x512_o0_256_S512x128) n d).trans (T2 n d)
  · dsimp only
    refine fold16_store _ 2 2 3 _ _ _ 14 256 _ (by omega) (by omega) (by omega) (by omega)
      inb_S1x16x32x512_S1x1x32x128_0_14_0_256 ?_ y
    intro i d
    refine quarter_store _ 2 2 _ _ _ 256 _ (by omega) ?_ i d (by omega)
    exact fun n d => (plane3_apply (queryHead x0 x1 x2 x3 x4 inb_S512x1024_S512x1024_0_0 inb_S1x1024_S1x1024_0_0 inb_S512x128_S512x128_0_0 4608 256 inb_S1024x8192_S1024x512_0_4608 slices_S512x512_o0_256_S512x128) n d).trans (T2 n d)
  · dsimp only
    refine fold16_store _ 2 2 2 _ _ _ 10 256 _ (by omega) (by omega) (by omega) (by omega)
      inb_S1x16x32x512_S1x1x32x128_0_10_0_256 ?_ y
    intro i d
    refine quarter_store _ 2 2 _ _ _ 256 _ (by omega) ?_ i d (by omega)
    exact fun n d => (plane3_apply (queryHead x0 x1 x2 x3 x4 inb_S512x1024_S512x1024_0_0 inb_S1x1024_S1x1024_0_0 inb_S512x128_S512x128_0_0 4608 256 inb_S1024x8192_S1024x512_0_4608 slices_S512x512_o0_256_S512x128) n d).trans (T2 n d)
  · dsimp only
    refine fold16_store _ 2 2 1 _ _ _ 6 256 _ (by omega) (by omega) (by omega) (by omega)
      inb_S1x16x32x512_S1x1x32x128_0_6_0_256 ?_ y
    intro i d
    refine quarter_store _ 2 2 _ _ _ 256 _ (by omega) ?_ i d (by omega)
    exact fun n d => (plane3_apply (queryHead x0 x1 x2 x3 x4 inb_S512x1024_S512x1024_0_0 inb_S1x1024_S1x1024_0_0 inb_S512x128_S512x128_0_0 4608 256 inb_S1024x8192_S1024x512_0_4608 slices_S512x512_o0_256_S512x128) n d).trans (T2 n d)
  · dsimp only
    refine fold16_store _ 2 2 0 _ _ _ 2 256 _ (by omega) (by omega) (by omega) (by omega)
      inb_S1x16x32x512_S1x1x32x128_0_2_0_256 ?_ y
    intro i d
    refine quarter_store _ 2 2 _ _ _ 256 _ (by omega) ?_ i d (by omega)
    exact fun n d => (plane3_apply (queryHead x0 x1 x2 x3 x4 inb_S512x1024_S512x1024_0_0 inb_S1x1024_S1x1024_0_0 inb_S512x128_S512x128_0_0 4608 256 inb_S1024x8192_S1024x512_0_4608 slices_S512x512_o0_256_S512x128) n d).trans (T2 n d)
  · dsimp only
    refine fold16_store _ 2 1 3 _ _ _ 13 256 _ (by omega) (by omega) (by omega) (by omega)
      inb_S1x16x32x512_S1x1x32x128_0_13_0_256 ?_ y
    intro i d
    refine quarter_store _ 2 1 _ _ _ 256 _ (by omega) ?_ i d (by omega)
    exact fun n d => (plane3_apply (queryHead x0 x1 x2 x3 x4 inb_S512x1024_S512x1024_0_0 inb_S1x1024_S1x1024_0_0 inb_S512x128_S512x128_0_0 4608 256 inb_S1024x8192_S1024x512_0_4608 slices_S512x512_o0_256_S512x128) n d).trans (T2 n d)
  · dsimp only
    refine fold16_store _ 2 1 2 _ _ _ 9 256 _ (by omega) (by omega) (by omega) (by omega)
      inb_S1x16x32x512_S1x1x32x128_0_9_0_256 ?_ y
    intro i d
    refine quarter_store _ 2 1 _ _ _ 256 _ (by omega) ?_ i d (by omega)
    exact fun n d => (plane3_apply (queryHead x0 x1 x2 x3 x4 inb_S512x1024_S512x1024_0_0 inb_S1x1024_S1x1024_0_0 inb_S512x128_S512x128_0_0 4608 256 inb_S1024x8192_S1024x512_0_4608 slices_S512x512_o0_256_S512x128) n d).trans (T2 n d)
  · dsimp only
    refine fold16_store _ 2 1 1 _ _ _ 5 256 _ (by omega) (by omega) (by omega) (by omega)
      inb_S1x16x32x512_S1x1x32x128_0_5_0_256 ?_ y
    intro i d
    refine quarter_store _ 2 1 _ _ _ 256 _ (by omega) ?_ i d (by omega)
    exact fun n d => (plane3_apply (queryHead x0 x1 x2 x3 x4 inb_S512x1024_S512x1024_0_0 inb_S1x1024_S1x1024_0_0 inb_S512x128_S512x128_0_0 4608 256 inb_S1024x8192_S1024x512_0_4608 slices_S512x512_o0_256_S512x128) n d).trans (T2 n d)
  · dsimp only
    refine fold16_store _ 2 1 0 _ _ _ 1 256 _ (by omega) (by omega) (by omega) (by omega)
      inb_S1x16x32x512_S1x1x32x128_0_1_0_256 ?_ y
    intro i d
    refine quarter_store _ 2 1 _ _ _ 256 _ (by omega) ?_ i d (by omega)
    exact fun n d => (plane3_apply (queryHead x0 x1 x2 x3 x4 inb_S512x1024_S512x1024_0_0 inb_S1x1024_S1x1024_0_0 inb_S512x128_S512x128_0_0 4608 256 inb_S1024x8192_S1024x512_0_4608 slices_S512x512_o0_256_S512x128) n d).trans (T2 n d)
  · dsimp only
    refine fold16_store _ 2 0 3 _ _ _ 12 256 _ (by omega) (by omega) (by omega) (by omega)
      inb_S1x16x32x512_S1x1x32x128_0_12_0_256 ?_ y
    intro i d
    refine quarter_store _ 2 0 _ _ _ 256 _ (by omega) ?_ i d (by omega)
    exact fun n d => (plane3_apply (queryHead x0 x1 x2 x3 x4 inb_S512x1024_S512x1024_0_0 inb_S1x1024_S1x1024_0_0 inb_S512x128_S512x128_0_0 4608 256 inb_S1024x8192_S1024x512_0_4608 slices_S512x512_o0_256_S512x128) n d).trans (T2 n d)
  · dsimp only
    refine fold16_store _ 2 0 2 _ _ _ 8 256 _ (by omega) (by omega) (by omega) (by omega)
      inb_S1x16x32x512_S1x1x32x128_0_8_0_256 ?_ y
    intro i d
    refine quarter_store _ 2 0 _ _ _ 256 _ (by omega) ?_ i d (by omega)
    exact fun n d => (plane3_apply (queryHead x0 x1 x2 x3 x4 inb_S512x1024_S512x1024_0_0 inb_S1x1024_S1x1024_0_0 inb_S512x128_S512x128_0_0 4608 256 inb_S1024x8192_S1024x512_0_4608 slices_S512x512_o0_256_S512x128) n d).trans (T2 n d)
  · dsimp only
    refine fold16_store _ 2 0 1 _ _ _ 4 256 _ (by omega) (by omega) (by omega) (by omega)
      inb_S1x16x32x512_S1x1x32x128_0_4_0_256 ?_ y
    intro i d
    refine quarter_store _ 2 0 _ _ _ 256 _ (by omega) ?_ i d (by omega)
    exact fun n d => (plane3_apply (queryHead x0 x1 x2 x3 x4 inb_S512x1024_S512x1024_0_0 inb_S1x1024_S1x1024_0_0 inb_S512x128_S512x128_0_0 4608 256 inb_S1024x8192_S1024x512_0_4608 slices_S512x512_o0_256_S512x128) n d).trans (T2 n d)
  · dsimp only
    refine fold16_store _ 2 0 0 _ _ _ 0 256 _ (by omega) (by omega) (by omega) (by omega)
      inb_S1x16x32x512_S1x1x32x128_0_0_0_256 ?_ y
    intro i d
    refine quarter_store _ 2 0 _ _ _ 256 _ (by omega) ?_ i d (by omega)
    exact fun n d => (plane3_apply (queryHead x0 x1 x2 x3 x4 inb_S512x1024_S512x1024_0_0 inb_S1x1024_S1x1024_0_0 inb_S512x128_S512x128_0_0 4608 256 inb_S1024x8192_S1024x512_0_4608 slices_S512x512_o0_256_S512x128) n d).trans (T2 n d)
  · dsimp only
    refine fold16_store _ 1 3 3 _ _ _ 15 128 _ (by omega) (by omega) (by omega) (by omega)
      inb_S1x16x32x512_S1x1x32x128_0_15_0_128 ?_ y
    intro i d
    refine quarter_store _ 1 3 _ _ _ 128 _ (by omega) ?_ i d (by omega)
    exact fun n d => (plane3_apply (queryHead x0 x1 x2 x3 x4 inb_S512x1024_S512x1024_0_0 inb_S1x1024_S1x1024_0_0 inb_S512x128_S512x128_0_0 4608 128 inb_S1024x8192_S1024x512_0_4608 slices_S512x512_o0_128_S512x128) n d).trans (T1 n d)
  · dsimp only
    refine fold16_store _ 1 3 2 _ _ _ 11 128 _ (by omega) (by omega) (by omega) (by omega)
      inb_S1x16x32x512_S1x1x32x128_0_11_0_128 ?_ y
    intro i d
    refine quarter_store _ 1 3 _ _ _ 128 _ (by omega) ?_ i d (by omega)
    exact fun n d => (plane3_apply (queryHead x0 x1 x2 x3 x4 inb_S512x1024_S512x1024_0_0 inb_S1x1024_S1x1024_0_0 inb_S512x128_S512x128_0_0 4608 128 inb_S1024x8192_S1024x512_0_4608 slices_S512x512_o0_128_S512x128) n d).trans (T1 n d)
  · dsimp only
    refine fold16_store _ 1 3 1 _ _ _ 7 128 _ (by omega) (by omega) (by omega) (by omega)
      inb_S1x16x32x512_S1x1x32x128_0_7_0_128 ?_ y
    intro i d
    refine quarter_store _ 1 3 _ _ _ 128 _ (by omega) ?_ i d (by omega)
    exact fun n d => (plane3_apply (queryHead x0 x1 x2 x3 x4 inb_S512x1024_S512x1024_0_0 inb_S1x1024_S1x1024_0_0 inb_S512x128_S512x128_0_0 4608 128 inb_S1024x8192_S1024x512_0_4608 slices_S512x512_o0_128_S512x128) n d).trans (T1 n d)
  · dsimp only
    refine fold16_store _ 1 3 0 _ _ _ 3 128 _ (by omega) (by omega) (by omega) (by omega)
      inb_S1x16x32x512_S1x1x32x128_0_3_0_128 ?_ y
    intro i d
    refine quarter_store _ 1 3 _ _ _ 128 _ (by omega) ?_ i d (by omega)
    exact fun n d => (plane3_apply (queryHead x0 x1 x2 x3 x4 inb_S512x1024_S512x1024_0_0 inb_S1x1024_S1x1024_0_0 inb_S512x128_S512x128_0_0 4608 128 inb_S1024x8192_S1024x512_0_4608 slices_S512x512_o0_128_S512x128) n d).trans (T1 n d)
  · dsimp only
    refine fold16_store _ 1 2 3 _ _ _ 14 128 _ (by omega) (by omega) (by omega) (by omega)
      inb_S1x16x32x512_S1x1x32x128_0_14_0_128 ?_ y
    intro i d
    refine quarter_store _ 1 2 _ _ _ 128 _ (by omega) ?_ i d (by omega)
    exact fun n d => (plane3_apply (queryHead x0 x1 x2 x3 x4 inb_S512x1024_S512x1024_0_0 inb_S1x1024_S1x1024_0_0 inb_S512x128_S512x128_0_0 4608 128 inb_S1024x8192_S1024x512_0_4608 slices_S512x512_o0_128_S512x128) n d).trans (T1 n d)
  · dsimp only
    refine fold16_store _ 1 2 2 _ _ _ 10 128 _ (by omega) (by omega) (by omega) (by omega)
      inb_S1x16x32x512_S1x1x32x128_0_10_0_128 ?_ y
    intro i d
    refine quarter_store _ 1 2 _ _ _ 128 _ (by omega) ?_ i d (by omega)
    exact fun n d => (plane3_apply (queryHead x0 x1 x2 x3 x4 inb_S512x1024_S512x1024_0_0 inb_S1x1024_S1x1024_0_0 inb_S512x128_S512x128_0_0 4608 128 inb_S1024x8192_S1024x512_0_4608 slices_S512x512_o0_128_S512x128) n d).trans (T1 n d)
  · dsimp only
    refine fold16_store _ 1 2 1 _ _ _ 6 128 _ (by omega) (by omega) (by omega) (by omega)
      inb_S1x16x32x512_S1x1x32x128_0_6_0_128 ?_ y
    intro i d
    refine quarter_store _ 1 2 _ _ _ 128 _ (by omega) ?_ i d (by omega)
    exact fun n d => (plane3_apply (queryHead x0 x1 x2 x3 x4 inb_S512x1024_S512x1024_0_0 inb_S1x1024_S1x1024_0_0 inb_S512x128_S512x128_0_0 4608 128 inb_S1024x8192_S1024x512_0_4608 slices_S512x512_o0_128_S512x128) n d).trans (T1 n d)
  · dsimp only
    refine fold16_store _ 1 2 0 _ _ _ 2 128 _ (by omega) (by omega) (by omega) (by omega)
      inb_S1x16x32x512_S1x1x32x128_0_2_0_128 ?_ y
    intro i d
    refine quarter_store _ 1 2 _ _ _ 128 _ (by omega) ?_ i d (by omega)
    exact fun n d => (plane3_apply (queryHead x0 x1 x2 x3 x4 inb_S512x1024_S512x1024_0_0 inb_S1x1024_S1x1024_0_0 inb_S512x128_S512x128_0_0 4608 128 inb_S1024x8192_S1024x512_0_4608 slices_S512x512_o0_128_S512x128) n d).trans (T1 n d)
  · dsimp only
    refine fold16_store _ 1 1 3 _ _ _ 13 128 _ (by omega) (by omega) (by omega) (by omega)
      inb_S1x16x32x512_S1x1x32x128_0_13_0_128 ?_ y
    intro i d
    refine quarter_store _ 1 1 _ _ _ 128 _ (by omega) ?_ i d (by omega)
    exact fun n d => (plane3_apply (queryHead x0 x1 x2 x3 x4 inb_S512x1024_S512x1024_0_0 inb_S1x1024_S1x1024_0_0 inb_S512x128_S512x128_0_0 4608 128 inb_S1024x8192_S1024x512_0_4608 slices_S512x512_o0_128_S512x128) n d).trans (T1 n d)
  · dsimp only
    refine fold16_store _ 1 1 2 _ _ _ 9 128 _ (by omega) (by omega) (by omega) (by omega)
      inb_S1x16x32x512_S1x1x32x128_0_9_0_128 ?_ y
    intro i d
    refine quarter_store _ 1 1 _ _ _ 128 _ (by omega) ?_ i d (by omega)
    exact fun n d => (plane3_apply (queryHead x0 x1 x2 x3 x4 inb_S512x1024_S512x1024_0_0 inb_S1x1024_S1x1024_0_0 inb_S512x128_S512x128_0_0 4608 128 inb_S1024x8192_S1024x512_0_4608 slices_S512x512_o0_128_S512x128) n d).trans (T1 n d)
  · dsimp only
    refine fold16_store _ 1 1 1 _ _ _ 5 128 _ (by omega) (by omega) (by omega) (by omega)
      inb_S1x16x32x512_S1x1x32x128_0_5_0_128 ?_ y
    intro i d
    refine quarter_store _ 1 1 _ _ _ 128 _ (by omega) ?_ i d (by omega)
    exact fun n d => (plane3_apply (queryHead x0 x1 x2 x3 x4 inb_S512x1024_S512x1024_0_0 inb_S1x1024_S1x1024_0_0 inb_S512x128_S512x128_0_0 4608 128 inb_S1024x8192_S1024x512_0_4608 slices_S512x512_o0_128_S512x128) n d).trans (T1 n d)
  · dsimp only
    refine fold16_store _ 1 1 0 _ _ _ 1 128 _ (by omega) (by omega) (by omega) (by omega)
      inb_S1x16x32x512_S1x1x32x128_0_1_0_128 ?_ y
    intro i d
    refine quarter_store _ 1 1 _ _ _ 128 _ (by omega) ?_ i d (by omega)
    exact fun n d => (plane3_apply (queryHead x0 x1 x2 x3 x4 inb_S512x1024_S512x1024_0_0 inb_S1x1024_S1x1024_0_0 inb_S512x128_S512x128_0_0 4608 128 inb_S1024x8192_S1024x512_0_4608 slices_S512x512_o0_128_S512x128) n d).trans (T1 n d)
  · dsimp only
    refine fold16_store _ 1 0 3 _ _ _ 12 128 _ (by omega) (by omega) (by omega) (by omega)
      inb_S1x16x32x512_S1x1x32x128_0_12_0_128 ?_ y
    intro i d
    refine quarter_store _ 1 0 _ _ _ 128 _ (by omega) ?_ i d (by omega)
    exact fun n d => (plane3_apply (queryHead x0 x1 x2 x3 x4 inb_S512x1024_S512x1024_0_0 inb_S1x1024_S1x1024_0_0 inb_S512x128_S512x128_0_0 4608 128 inb_S1024x8192_S1024x512_0_4608 slices_S512x512_o0_128_S512x128) n d).trans (T1 n d)
  · dsimp only
    refine fold16_store _ 1 0 2 _ _ _ 8 128 _ (by omega) (by omega) (by omega) (by omega)
      inb_S1x16x32x512_S1x1x32x128_0_8_0_128 ?_ y
    intro i d
    refine quarter_store _ 1 0 _ _ _ 128 _ (by omega) ?_ i d (by omega)
    exact fun n d => (plane3_apply (queryHead x0 x1 x2 x3 x4 inb_S512x1024_S512x1024_0_0 inb_S1x1024_S1x1024_0_0 inb_S512x128_S512x128_0_0 4608 128 inb_S1024x8192_S1024x512_0_4608 slices_S512x512_o0_128_S512x128) n d).trans (T1 n d)
  · dsimp only
    refine fold16_store _ 1 0 1 _ _ _ 4 128 _ (by omega) (by omega) (by omega) (by omega)
      inb_S1x16x32x512_S1x1x32x128_0_4_0_128 ?_ y
    intro i d
    refine quarter_store _ 1 0 _ _ _ 128 _ (by omega) ?_ i d (by omega)
    exact fun n d => (plane3_apply (queryHead x0 x1 x2 x3 x4 inb_S512x1024_S512x1024_0_0 inb_S1x1024_S1x1024_0_0 inb_S512x128_S512x128_0_0 4608 128 inb_S1024x8192_S1024x512_0_4608 slices_S512x512_o0_128_S512x128) n d).trans (T1 n d)
  · dsimp only
    refine fold16_store _ 1 0 0 _ _ _ 0 128 _ (by omega) (by omega) (by omega) (by omega)
      inb_S1x16x32x512_S1x1x32x128_0_0_0_128 ?_ y
    intro i d
    refine quarter_store _ 1 0 _ _ _ 128 _ (by omega) ?_ i d (by omega)
    exact fun n d => (plane3_apply (queryHead x0 x1 x2 x3 x4 inb_S512x1024_S512x1024_0_0 inb_S1x1024_S1x1024_0_0 inb_S512x128_S512x128_0_0 4608 128 inb_S1024x8192_S1024x512_0_4608 slices_S512x512_o0_128_S512x128) n d).trans (T1 n d)
  · dsimp only
    refine fold16_store _ 0 3 3 _ _ _ 15 0 _ (by omega) (by omega) (by omega) (by omega)
      inb_S1x16x32x512_S1x1x32x128_0_15_0_0 ?_ y
    intro i d
    refine quarter_store _ 0 3 _ _ _ 0 _ (by omega) ?_ i d (by omega)
    exact fun n d => (plane3_apply (queryHead x0 x1 x2 x3 x4 inb_S512x1024_S512x1024_0_0 inb_S1x1024_S1x1024_0_0 inb_S512x128_S512x128_0_0 4608 0 inb_S1024x8192_S1024x512_0_4608 slices_S512x512_o0_0_S512x128) n d).trans (T0 n d)
  · dsimp only
    refine fold16_store _ 0 3 2 _ _ _ 11 0 _ (by omega) (by omega) (by omega) (by omega)
      inb_S1x16x32x512_S1x1x32x128_0_11_0_0 ?_ y
    intro i d
    refine quarter_store _ 0 3 _ _ _ 0 _ (by omega) ?_ i d (by omega)
    exact fun n d => (plane3_apply (queryHead x0 x1 x2 x3 x4 inb_S512x1024_S512x1024_0_0 inb_S1x1024_S1x1024_0_0 inb_S512x128_S512x128_0_0 4608 0 inb_S1024x8192_S1024x512_0_4608 slices_S512x512_o0_0_S512x128) n d).trans (T0 n d)
  · dsimp only
    refine fold16_store _ 0 3 1 _ _ _ 7 0 _ (by omega) (by omega) (by omega) (by omega)
      inb_S1x16x32x512_S1x1x32x128_0_7_0_0 ?_ y
    intro i d
    refine quarter_store _ 0 3 _ _ _ 0 _ (by omega) ?_ i d (by omega)
    exact fun n d => (plane3_apply (queryHead x0 x1 x2 x3 x4 inb_S512x1024_S512x1024_0_0 inb_S1x1024_S1x1024_0_0 inb_S512x128_S512x128_0_0 4608 0 inb_S1024x8192_S1024x512_0_4608 slices_S512x512_o0_0_S512x128) n d).trans (T0 n d)
  · dsimp only
    refine fold16_store _ 0 3 0 _ _ _ 3 0 _ (by omega) (by omega) (by omega) (by omega)
      inb_S1x16x32x512_S1x1x32x128_0_3_0_0 ?_ y
    intro i d
    refine quarter_store _ 0 3 _ _ _ 0 _ (by omega) ?_ i d (by omega)
    exact fun n d => (plane3_apply (queryHead x0 x1 x2 x3 x4 inb_S512x1024_S512x1024_0_0 inb_S1x1024_S1x1024_0_0 inb_S512x128_S512x128_0_0 4608 0 inb_S1024x8192_S1024x512_0_4608 slices_S512x512_o0_0_S512x128) n d).trans (T0 n d)
  · dsimp only
    refine fold16_store _ 0 2 3 _ _ _ 14 0 _ (by omega) (by omega) (by omega) (by omega)
      inb_S1x16x32x512_S1x1x32x128_0_14_0_0 ?_ y
    intro i d
    refine quarter_store _ 0 2 _ _ _ 0 _ (by omega) ?_ i d (by omega)
    exact fun n d => (plane3_apply (queryHead x0 x1 x2 x3 x4 inb_S512x1024_S512x1024_0_0 inb_S1x1024_S1x1024_0_0 inb_S512x128_S512x128_0_0 4608 0 inb_S1024x8192_S1024x512_0_4608 slices_S512x512_o0_0_S512x128) n d).trans (T0 n d)
  · dsimp only
    refine fold16_store _ 0 2 2 _ _ _ 10 0 _ (by omega) (by omega) (by omega) (by omega)
      inb_S1x16x32x512_S1x1x32x128_0_10_0_0 ?_ y
    intro i d
    refine quarter_store _ 0 2 _ _ _ 0 _ (by omega) ?_ i d (by omega)
    exact fun n d => (plane3_apply (queryHead x0 x1 x2 x3 x4 inb_S512x1024_S512x1024_0_0 inb_S1x1024_S1x1024_0_0 inb_S512x128_S512x128_0_0 4608 0 inb_S1024x8192_S1024x512_0_4608 slices_S512x512_o0_0_S512x128) n d).trans (T0 n d)
  · dsimp only
    refine fold16_store _ 0 2 1 _ _ _ 6 0 _ (by omega) (by omega) (by omega) (by omega)
      inb_S1x16x32x512_S1x1x32x128_0_6_0_0 ?_ y
    intro i d
    refine quarter_store _ 0 2 _ _ _ 0 _ (by omega) ?_ i d (by omega)
    exact fun n d => (plane3_apply (queryHead x0 x1 x2 x3 x4 inb_S512x1024_S512x1024_0_0 inb_S1x1024_S1x1024_0_0 inb_S512x128_S512x128_0_0 4608 0 inb_S1024x8192_S1024x512_0_4608 slices_S512x512_o0_0_S512x128) n d).trans (T0 n d)
  · dsimp only
    refine fold16_store _ 0 2 0 _ _ _ 2 0 _ (by omega) (by omega) (by omega) (by omega)
      inb_S1x16x32x512_S1x1x32x128_0_2_0_0 ?_ y
    intro i d
    refine quarter_store _ 0 2 _ _ _ 0 _ (by omega) ?_ i d (by omega)
    exact fun n d => (plane3_apply (queryHead x0 x1 x2 x3 x4 inb_S512x1024_S512x1024_0_0 inb_S1x1024_S1x1024_0_0 inb_S512x128_S512x128_0_0 4608 0 inb_S1024x8192_S1024x512_0_4608 slices_S512x512_o0_0_S512x128) n d).trans (T0 n d)
  · dsimp only
    refine fold16_store _ 0 1 3 _ _ _ 13 0 _ (by omega) (by omega) (by omega) (by omega)
      inb_S1x16x32x512_S1x1x32x128_0_13_0_0 ?_ y
    intro i d
    refine quarter_store _ 0 1 _ _ _ 0 _ (by omega) ?_ i d (by omega)
    exact fun n d => (plane3_apply (queryHead x0 x1 x2 x3 x4 inb_S512x1024_S512x1024_0_0 inb_S1x1024_S1x1024_0_0 inb_S512x128_S512x128_0_0 4608 0 inb_S1024x8192_S1024x512_0_4608 slices_S512x512_o0_0_S512x128) n d).trans (T0 n d)
  · dsimp only
    refine fold16_store _ 0 1 2 _ _ _ 9 0 _ (by omega) (by omega) (by omega) (by omega)
      inb_S1x16x32x512_S1x1x32x128_0_9_0_0 ?_ y
    intro i d
    refine quarter_store _ 0 1 _ _ _ 0 _ (by omega) ?_ i d (by omega)
    exact fun n d => (plane3_apply (queryHead x0 x1 x2 x3 x4 inb_S512x1024_S512x1024_0_0 inb_S1x1024_S1x1024_0_0 inb_S512x128_S512x128_0_0 4608 0 inb_S1024x8192_S1024x512_0_4608 slices_S512x512_o0_0_S512x128) n d).trans (T0 n d)
  · dsimp only
    refine fold16_store _ 0 1 1 _ _ _ 5 0 _ (by omega) (by omega) (by omega) (by omega)
      inb_S1x16x32x512_S1x1x32x128_0_5_0_0 ?_ y
    intro i d
    refine quarter_store _ 0 1 _ _ _ 0 _ (by omega) ?_ i d (by omega)
    exact fun n d => (plane3_apply (queryHead x0 x1 x2 x3 x4 inb_S512x1024_S512x1024_0_0 inb_S1x1024_S1x1024_0_0 inb_S512x128_S512x128_0_0 4608 0 inb_S1024x8192_S1024x512_0_4608 slices_S512x512_o0_0_S512x128) n d).trans (T0 n d)
  · dsimp only
    refine fold16_store _ 0 1 0 _ _ _ 1 0 _ (by omega) (by omega) (by omega) (by omega)
      inb_S1x16x32x512_S1x1x32x128_0_1_0_0 ?_ y
    intro i d
    refine quarter_store _ 0 1 _ _ _ 0 _ (by omega) ?_ i d (by omega)
    exact fun n d => (plane3_apply (queryHead x0 x1 x2 x3 x4 inb_S512x1024_S512x1024_0_0 inb_S1x1024_S1x1024_0_0 inb_S512x128_S512x128_0_0 4608 0 inb_S1024x8192_S1024x512_0_4608 slices_S512x512_o0_0_S512x128) n d).trans (T0 n d)
  · dsimp only
    refine fold16_store _ 0 0 3 _ _ _ 12 0 _ (by omega) (by omega) (by omega) (by omega)
      inb_S1x16x32x512_S1x1x32x128_0_12_0_0 ?_ y
    intro i d
    refine quarter_store _ 0 0 _ _ _ 0 _ (by omega) ?_ i d (by omega)
    exact fun n d => (plane3_apply (queryHead x0 x1 x2 x3 x4 inb_S512x1024_S512x1024_0_0 inb_S1x1024_S1x1024_0_0 inb_S512x128_S512x128_0_0 4608 0 inb_S1024x8192_S1024x512_0_4608 slices_S512x512_o0_0_S512x128) n d).trans (T0 n d)
  · dsimp only
    refine fold16_store _ 0 0 2 _ _ _ 8 0 _ (by omega) (by omega) (by omega) (by omega)
      inb_S1x16x32x512_S1x1x32x128_0_8_0_0 ?_ y
    intro i d
    refine quarter_store _ 0 0 _ _ _ 0 _ (by omega) ?_ i d (by omega)
    exact fun n d => (plane3_apply (queryHead x0 x1 x2 x3 x4 inb_S512x1024_S512x1024_0_0 inb_S1x1024_S1x1024_0_0 inb_S512x128_S512x128_0_0 4608 0 inb_S1024x8192_S1024x512_0_4608 slices_S512x512_o0_0_S512x128) n d).trans (T0 n d)
  · dsimp only
    refine fold16_store _ 0 0 1 _ _ _ 4 0 _ (by omega) (by omega) (by omega) (by omega)
      inb_S1x16x32x512_S1x1x32x128_0_4_0_0 ?_ y
    intro i d
    refine quarter_store _ 0 0 _ _ _ 0 _ (by omega) ?_ i d (by omega)
    exact fun n d => (plane3_apply (queryHead x0 x1 x2 x3 x4 inb_S512x1024_S512x1024_0_0 inb_S1x1024_S1x1024_0_0 inb_S512x128_S512x128_0_0 4608 0 inb_S1024x8192_S1024x512_0_4608 slices_S512x512_o0_0_S512x128) n d).trans (T0 n d)
  · dsimp only
    refine fold16_store _ 0 0 0 _ _ _ 0 0 _ (by omega) (by omega) (by omega) (by omega)
      inb_S1x16x32x512_S1x1x32x128_0_0_0_0 ?_ y
    intro i d
    refine quarter_store _ 0 0 _ _ _ 0 _ (by omega) ?_ i d (by omega)
    exact fun n d => (plane3_apply (queryHead x0 x1 x2 x3 x4 inb_S512x1024_S512x1024_0_0 inb_S1x1024_S1x1024_0_0 inb_S512x128_S512x128_0_0 4608 0 inb_S1024x8192_S1024x512_0_4608 slices_S512x512_o0_0_S512x128) n d).trans (T0 n d)

end Cert.ProjFinal

end
-- ==== Proof.ProjFold3.lean ====
/- What the input kernel leaves in the blocks of a dilated group at a grid point: the keys for dilation 16. -/
module

public import proofs.«01_k».proof.Proof.ProjFold
public import Idealize.ShloMosaic.Lib.Pipeline.ValueKit.Tiles
public import Idealize.ShloMosaic.Lib.Pipeline.ReadBack
public import proofs.«01_k».proof.Proof.Gen.Kernel3Ideal.Value

@[expose] public section

noncomputable section

namespace Cert.ProjFinal

open Cert.Kernel3Ideal Cert.Kernel3Ideal.Gen Cert.Kernel3Ideal.Value Cert.Proj Cert.ProjKernel Cert.ProjBlock
open Idealize.ShloMosaic Idealize.ShloMosaic.TcCoe Idealize.ShloMosaic.ValueIdx Idealize.SL.Sem

variable (c : Dev nD)

set_option maxHeartbeats 4000000 in
/-- What the body leaves in the block of the second dilated group's keys. -/
theorem outs15 (t : Fin cfg0.N) (x0 : Vec Ideal S512x1024 .f32) (x1 : Vec Ideal S1x1024 .f32) (x2 : Vec Ideal S1024x8192 .bf16)
    (x3 x4 : Vec Ideal S512x128 .f32) :
    out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) x0 x1 x2 x3 x4
      = fold16 (keyBlk x0 x1 x2 x3 x4 5120 512 (by omega) (by omega)) := by
  unfold out0_A_15
  rw [View.read_writes_eq_canon _ _ _ (cover0_A_15 c _ _ _ _ _ _ _ _ _ _ _ _ _ _ _ _ _ _ _ _ _ _ _ _ _ _ _ _ _ _ _ _ _ _ _ _ _ _ _ _ _ _ _ _ _ _)]
  funext y
  refine View.canon_eq_of_allAt _ y _ (cover0_A_15 c _ _ _ _ _ _ _ _ _ _ _ _ _ _ _ _ _ _ _ _ _ _ _ _ _ _ _ _ _ _ _ _ _ _ _ _ _ _ _ _ _ _ _ _ _ _ y) ?_
  suffices h : View.PiecesOf (fold16 (keyBlk x0 x1 x2 x3 x4 5120 512 (by omega) (by omega)))
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) x0 x1 x2 x3 x4).2.2.2.2.2.2.2.2.2.2.1 from
    fun p hp x hx => by rw [← hx]; exact h.mem p hp x
  unfold kernelRun0_A
  dsimp only
  sl_unfold_words
  simp only [View.readAt_eq_ld, (hs0_0 t).read_unread, (hs0_1 t).read_unread, (hs0_2 t).read_unread, (hs0_3 t).read_unread, (hs0_4 t).read_unread]
  have T0 := keyHead_apply x0 x1 x2 x3 x4 inb_S512x1024_S512x1024_0_0 inb_S1x1024_S1x1024_0_0 inb_S512x128_S512x128_0_0 5120 0 inb_S1024x8192_S1024x512_0_5120 slices_S512x512_o0_0_S512x128 (by omega) (by omega) (by omega)
  have T1 := keyHead_apply x0 x1 x2 x3 x4 inb_S512x1024_S512x1024_0_0 inb_S1x1024_S1x1024_0_0 inb_S512x128_S512x128_0_0 5120 128 inb_S1024x8192_S1024x512_0_5120 slices_S512x512_o0_128_S512x128 (by omega) (by omega) (by omega)
  have T2 := keyHead_apply x0 x1 x2 x3 x4 inb_S512x1024_S512x1024_0_0 inb_S1x1024_S1x1024_0_0 inb_S512x128_S512x128_0_0 5120 256 inb_S1024x8192_S1024x512_0_5120 slices_S512x512_o0_256_S512x128 (by omega) (by omega) (by omega)
  have T3 := keyHead_apply x0 x1 x2 x3 x4 inb_S512x1024_S512x1024_0_0 inb_S1x1024_S1x1024_0_0 inb_S512x128_S512x128_0_0 5120 384 inb_S1024x8192_S1024x512_0_5120 slices_S512x512_o0_384_S512x128 (by omega) (by omega) (by omega)
  refine ⟨fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, trivial⟩
  · dsimp only
    refine fold16_store _ 3 3 3 _ _ _ 15 384 _ (by omega) (by omega) (by omega) (by omega)
      inb_S1x16x32x512_S1x1x32x128_0_15_0_384 ?_ y
    intro i d
    refine quarter_store _ 3 3 _ _ _ 384 _ (by omega) ?_ i d (by omega)
    exact fun n d => (plane3_apply (keyHead x0 x1 x2 x3 x4 inb_S512x1024_S512x1024_0_0 inb_S1x1024_S1x1024_0_0 inb_S512x128_S512x128_0_0 5120 384 inb_S1024x8192_S1024x512_0_5120 slices_S512x512_o0_384_S512x128) n d).trans (T3 n d)
  · dsimp only
    refine fold16_store _ 3 3 2 _ _ _ 11 384 _ (by omega) (by omega) (by omega) (by omega)
      inb_S1x16x32x512_S1x1x32x128_0_11_0_384 ?_ y
    intro i d
    refine quarter_store _ 3 3 _ _ _ 384 _ (by omega) ?_ i d (by omega)
    exact fun n d => (plane3_apply (keyHead x0 x1 x2 x3 x4 inb_S512x1024_S512x1024_0_0 inb_S1x1024_S1x1024_0_0 inb_S512x128_S512x128_0_0 5120 384 inb_S1024x8192_S1024x512_0_5120 slices_S512x512_o0_384_S512x128) n d).trans (T3 n d)
  · dsimp only
    refine fold16_store _ 3 3 1 _ _ _ 7 384 _ (by omega) (by omega) (by omega) (by omega)
      inb_S1x16x32x512_S1x1x32x128_0_7_0_384 ?_ y
    intro i d
    refine quarter_store _ 3 3 _ _ _ 384 _ (by omega) ?_ i d (by omega)
    exact fun n d => (plane3_apply (keyHead x0 x1 x2 x3 x4 inb_S512x1024_S512x1024_0_0 inb_S1x1024_S1x1024_0_0 inb_S512x128_S512x128_0_0 5120 384 inb_S1024x8192_S1024x512_0_5120 slices_S512x512_o0_384_S512x128) n d).trans (T3 n d)
  · dsimp only
    refine fold16_store _ 3 3 0 _ _ _ 3 384 _ (by omega) (by omega) (by omega) (by omega)
      inb_S1x16x32x512_S1x1x32x128_0_3_0_384 ?_ y
    intro i d
    refine quarter_store _ 3 3 _ _ _ 384 _ (by omega) ?_ i d (by omega)
    exact fun n d => (plane3_apply (keyHead x0 x1 x2 x3 x4 inb_S512x1024_S512x1024_0_0 inb_S1x1024_S1x1024_0_0 inb_S512x128_S512x128_0_0 5120 384 inb_S1024x8192_S1024x512_0_5120 slices_S512x512_o0_384_S512x128) n d).trans (T3 n d)
  · dsimp only
    refine fold16_store _ 3 2 3 _ _ _ 14 384 _ (by omega) (by omega) (by omega) (by omega)
      inb_S1x16x32x512_S1x1x32x128_0_14_0_384 ?_ y
    intro i d
    refine quarter_store _ 3 2 _ _ _ 384 _ (by omega) ?_ i d (by omega)
    exact fun n d => (plane3_apply (keyHead x0 x1 x2 x3 x4 inb_S512x1024_S512x1024_0_0 inb_S1x1024_S1x1024_0_0 inb_S512x128_S512x128_0_0 5120 384 inb_S1024x8192_S1024x512_0_5120 slices_S512x512_o0_384_S512x128) n d).trans (T3 n d)
  · dsimp only
    refine fold16_store _ 3 2 2 _ _ _ 10 384 _ (by omega) (by omega) (by omega) (by omega)
      inb_S1x16x32x512_S1x1x32x128_0_10_0_384 ?_ y
    intro i d
    refine quarter_store _ 3 2 _ _ _ 384 _ (by omega) ?_ i d (by omega)
    exact fun n d => (plane3_apply (keyHead x0 x1 x2 x3 x4 inb_S512x1024_S512x1024_0_0 inb_S1x1024_S1x1024_0_0 inb_S512x128_S512x128_0_0 5120 384 inb_S1024x8192_S1024x512_0_5120 slices_S512x512_o0_384_S512x128) n d).trans (T3 n d)
  · dsimp only
    refine fold16_store _ 3 2 1 _ _ _ 6 384 _ (by omega) (by omega) (by omega) (by omega)
      inb_S1x16x32x512_S1x1x32x128_0_6_0_384 ?_ y
    intro i d
    refine quarter_store _ 3 2 _ _ _ 384 _ (by omega) ?_ i d (by omega)
    exact fun n d => (plane3_apply (keyHead x0 x1 x2 x3 x4 inb_S512x1024_S512x1024_0_0 inb_S1x1024_S1x1024_0_0 inb_S512x128_S512x128_0_0 5120 384 inb_S1024x8192_S1024x512_0_5120 slices_S512x512_o0_384_S512x128) n d).trans (T3 n d)
  · dsimp only
    refine fold16_store _ 3 2 0 _ _ _ 2 384 _ (by omega) (by omega) (by omega) (by omega)
      inb_S1x16x32x512_S1x1x32x128_0_2_0_384 ?_ y
    intro i d
    refine quarter_store _ 3 2 _ _ _ 384 _ (by omega) ?_ i d (by omega)
    exact fun n d => (plane3_apply (keyHead x0 x1 x2 x3 x4 inb_S512x1024_S512x1024_0_0 inb_S1x1024_S1x1024_0_0 inb_S512x128_S512x128_0_0 5120 384 inb_S1024x8192_S1024x512_0_5120 slices_S512x512_o0_384_S512x128) n d).trans (T3 n d)
  · dsimp only
    refine fold16_store _ 3 1 3 _ _ _ 13 384 _ (by omega) (by omega) (by omega) (by omega)
      inb_S1x16x32x512_S1x1x32x128_0_13_0_384 ?_ y
    intro i d
    refine quarter_store _ 3 1 _ _ _ 384 _ (by omega) ?_ i d (by omega)
    exact fun n d => (plane3_apply (keyHead x0 x1 x2 x3 x4 inb_S512x1024_S512x1024_0_0 inb_S1x1024_S1x1024_0_0 inb_S512x128_S512x128_0_0 5120 384 inb_S1024x8192_S1024x512_0_5120 slices_S512x512_o0_384_S512x128) n d).trans (T3 n d)
  · dsimp only
    refine fold16_store _ 3 1 2 _ _ _ 9 384 _ (by omega) (by omega) (by omega) (by omega)
      inb_S1x16x32x512_S1x1x32x128_0_9_0_384 ?_ y
    intro i d
    refine quarter_store _ 3 1 _ _ _ 384 _ (by omega) ?_ i d (by omega)
    exact fun n d => (plane3_apply (keyHead x0 x1 x2 x3 x4 inb_S512x1024_S512x1024_0_0 inb_S1x1024_S1x1024_0_0 inb_S512x128_S512x128_0_0 5120 384 inb_S1024x8192_S1024x512_0_5120 slices_S512x512_o0_384_S512x128) n d).trans (T3 n d)
  · dsimp only
    refine fold16_store _ 3 1 1 _ _ _ 5 384 _ (by omega) (by omega) (by omega) (by omega)
      inb_S1x16x32x512_S1x1x32x128_0_5_0_384 ?_ y
    intro i d
    refine quarter_store _ 3 1 _ _ _ 384 _ (by omega) ?_ i d (by omega)
    exact fun n d => (plane3_apply (keyHead x0 x1 x2 x3 x4 inb_S512x1024_S512x1024_0_0 inb_S1x1024_S1x1024_0_0 inb_S512x128_S512x128_0_0 5120 384 inb_S1024x8192_S1024x512_0_5120 slices_S512x512_o0_384_S512x128) n d).trans (T3 n d)
  · dsimp only
    refine fold16_store _ 3 1 0 _ _ _ 1 384 _ (by omega) (by omega) (by omega) (by omega)
      inb_S1x16x32x512_S1x1x32x128_0_1_0_384 ?_ y
    intro i d
    refine quarter_store _ 3 1 _ _ _ 384 _ (by omega) ?_ i d (by omega)
    exact fun n d => (plane3_apply (keyHead x0 x1 x2 x3 x4 inb_S512x1024_S512x1024_0_0 inb_S1x1024_S1x1024_0_0 inb_S512x128_S512x128_0_0 5120 384 inb_S1024x8192_S1024x512_0_5120 slices_S512x512_o0_384_S512x128) n d).trans (T3 n d)
  · dsimp only
    refine fold16_store _ 3 0 3 _ _ _ 12 384 _ (by omega) (by omega) (by omega) (by omega)
      inb_S1x16x32x512_S1x1x32x128_0_12_0_384 ?_ y
    intro i d
    refine quarter_store _ 3 0 _ _ _ 384 _ (by omega) ?_ i d (by omega)
    exact fun n d => (plane3_apply (keyHead x0 x1 x2 x3 x4 inb_S512x1024_S512x1024_0_0 inb_S1x1024_S1x1024_0_0 inb_S512x128_S512x128_0_0 5120 384 inb_S1024x8192_S1024x512_0_5120 slices_S512x512_o0_384_S512x128) n d).trans (T3 n d)
  · dsimp only
    refine fold16_store _ 3 0 2 _ _ _ 8 384 _ (by omega) (by omega) (by omega) (by omega)
      inb_S1x16x32x512_S1x1x32x128_0_8_0_384 ?_ y
    intro i d
    refine quarter_store _ 3 0 _ _ _ 384 _ (by omega) ?_ i d (by omega)
    exact fun n d => (plane3_apply (keyHead x0 x1 x2 x3 x4 inb_S512x1024_S512x1024_0_0 inb_S1x1024_S1x1024_0_0 inb_S512x128_S512x128_0_0 5120 384 inb_S1024x8192_S1024x512_0_5120 slices_S512x512_o0_384_S512x128) n d).trans (T3 n d)
  · dsimp only
    refine fold16_store _ 3 0 1 _ _ _ 4 384 _ (by omega) (by omega) (by omega) (by omega)
      inb_S1x16x32x512_S1x1x32x128_0_4_0_384 ?_ y
    intro i d
    refine quarter_store _ 3 0 _ _ _ 384 _ (by omega) ?_ i d (by omega)
    exact fun n d => (plane3_apply (keyHead x0 x1 x2 x3 x4 inb_S512x1024_S512x1024_0_0 inb_S1x1024_S1x1024_0_0 inb_S512x128_S512x128_0_0 5120 384 inb_S1024x8192_S1024x512_0_5120 slices_S512x512_o0_384_S512x128) n d).trans (T3 n d)
  · dsimp only
    refine fold16_store _ 3 0 0 _ _ _ 0 384 _ (by omega) (by omega) (by omega) (by omega)
      inb_S1x16x32x512_S1x1x32x128_0_0_0_384 ?_ y
    intro i d
    refine quarter_store _ 3 0 _ _ _ 384 _ (by omega) ?_ i d (by omega)
    exact fun n d => (plane3_apply (keyHead x0 x1 x2 x3 x4 inb_S512x1024_S512x1024_0_0 inb_S1x1024_S1x1024_0_0 inb_S512x128_S512x128_0_0 5120 384 inb_S1024x8192_S1024x512_0_5120 slices_S512x512_o0_384_S512x128) n d).trans (T3 n d)
  · dsimp only
    refine fold16_store _ 2 3 3 _ _ _ 15 256 _ (by omega) (by omega) (by omega) (by omega)
      inb_S1x16x32x512_S1x1x32x128_0_15_0_256 ?_ y
    intro i d
    refine quarter_store _ 2 3 _ _ _ 256 _ (by omega) ?_ i d (by omega)
    exact fun n d => (plane3_apply (keyHead x0 x1 x2 x3 x4 inb_S512x1024_S512x1024_0_0 inb_S1x1024_S1x1024_0_0 inb_S512x128_S512x128_0_0 5120 256 inb_S1024x8192_S1024x512_0_5120 slices_S512x512_o0_256_S512x128) n d).trans (T2 n d)
  · dsimp only
    refine fold16_store _ 2 3 2 _ _ _ 11 256 _ (by omega) (by omega) (by omega) (by omega)
      inb_S1x16x32x512_S1x1x32x128_0_11_0_256 ?_ y
    intro i d
    refine quarter_store _ 2 3 _ _ _ 256 _ (by omega) ?_ i d (by omega)
    exact fun n d => (plane3_apply (keyHead x0 x1 x2 x3 x4 inb_S512x1024_S512x1024_0_0 inb_S1x1024_S1x1024_0_0 inb_S512x128_S512x128_0_0 5120 256 inb_S1024x8192_S1024x512_0_5120 slices_S512x512_o0_256_S512x128) n d).trans (T2 n d)
  · dsimp only
    refine fold16_store _ 2 3 1 _ _ _ 7 256 _ (by omega) (by omega) (by omega) (by omega)
      inb_S1x16x32x512_S1x1x32x128_0_7_0_256 ?_ y
    intro i d
    refine quarter_store _ 2 3 _ _ _ 256 _ (by omega) ?_ i d (by omega)
    exact fun n d => (plane3_apply (keyHead x0 x1 x2 x3 x4 inb_S512x1024_S512x1024_0_0 inb_S1x1024_S1x1024_0_0 inb_S512x128_S512x128_0_0 5120 256 inb_S1024x8192_S1024x512_0_5120 slices_S512x512_o0_256_S512x128) n d).trans (T2 n d)
  · dsimp only
    refine fold16_store _ 2 3 0 _ _ _ 3 256 _ (by omega) (by omega) (by omega) (by omega)
      inb_S1x16x32x512_S1x1x32x128_0_3_0_256 ?_ y
    intro i d
    refine quarter_store _ 2 3 _ _ _ 256 _ (by omega) ?_ i d (by omega)
    exact fun n d => (plane3_apply (keyHead x0 x1 x2 x3 x4 inb_S512x1024_S512x1024_0_0 inb_S1x1024_S1x1024_0_0 inb_S512x128_S512x128_0_0 5120 256 inb_S1024x8192_S1024x512_0_5120 slices_S512x512_o0_256_S512x128) n d).trans (T2 n d)
  · dsimp only
    refine fold16_store _ 2 2 3 _ _ _ 14 256 _ (by omega) (by omega) (by omega) (by omega)
      inb_S1x16x32x512_S1x1x32x128_0_14_0_256 ?_ y
    intro i d
    refine quarter_store _ 2 2 _ _ _ 256 _ (by omega) ?_ i d (by omega)
    exact fun n d => (plane3_apply (keyHead x0 x1 x2 x3 x4 inb_S512x1024_S512x1024_0_0 inb_S1x1024_S1x1024_0_0 inb_S512x128_S512x128_0_0 5120 256 inb_S1024x8192_S1024x512_0_5120 slices_S512x512_o0_256_S512x128) n d).trans (T2 n d)
  · dsimp only
    refine fold16_store _ 2 2 2 _ _ _ 10 256 _ (by omega) (by omega) (by omega) (by omega)
      inb_S1x16x32x512_S1x1x32x128_0_10_0_256 ?_ y
    intro i d
    refine quarter_store _ 2 2 _ _ _ 256 _ (by omega) ?_ i d (by omega)
    exact fun n d => (plane3_apply (keyHead x0 x1 x2 x3 x4 inb_S512x1024_S512x1024_0_0 inb_S1x1024_S1x1024_0_0 inb_S512x128_S512x128_0_0 5120 256 inb_S1024x8192_S1024x512_0_5120 slices_S512x512_o0_256_S512x128) n d).trans (T2 n d)
  · dsimp only
    refine fold16_store _ 2 2 1 _ _ _ 6 256 _ (by omega) (by omega) (by omega) (by omega)
      inb_S1x16x32x512_S1x1x32x128_0_6_0_256 ?_ y
    intro i d
    refine quarter_store _ 2 2 _ _ _ 256 _ (by omega) ?_ i d (by omega)
    exact fun n d => (plane3_apply (keyHead x0 x1 x2 x3 x4 inb_S512x1024_S512x1024_0_0 inb_S1x1024_S1x1024_0_0 inb_S512x128_S512x128_0_0 5120 256 inb_S1024x8192_S1024x512_0_5120 slices_S512x512_o0_256_S512x128) n d).trans (T2 n d)
  · dsimp only
    refine fold16_store _ 2 2 0 _ _ _ 2 256 _ (by omega) (by omega) (by omega) (by omega)
      inb_S1x16x32x512_S1x1x32x128_0_2_0_256 ?_ y
    intro i d
    refine quarter_store _ 2 2 _ _ _ 256 _ (by omega) ?_ i d (by omega)
    exact fun n d => (plane3_apply (keyHead x0 x1 x2 x3 x4 inb_S512x1024_S512x1024_0_0 inb_S1x1024_S1x1024_0_0 inb_S512x128_S512x128_0_0 5120 256 inb_S1024x8192_S1024x512_0_5120 slices_S512x512_o0_256_S512x128) n d).trans (T2 n d)
  · dsimp only
    refine fold16_store _ 2 1 3 _ _ _ 13 256 _ (by omega) (by omega) (by omega) (by omega)
      inb_S1x16x32x512_S1x1x32x128_0_13_0_256 ?_ y
    intro i d
    refine quarter_store _ 2 1 _ _ _ 256 _ (by omega) ?_ i d (by omega)
    exact fun n d => (plane3_apply (keyHead x0 x1 x2 x3 x4 inb_S512x1024_S512x1024_0_0 inb_S1x1024_S1x1024_0_0 inb_S512x128_S512x128_0_0 5120 256 inb_S1024x8192_S1024x512_0_5120 slices_S512x512_o0_256_S512x128) n d).trans (T2 n d)
  · dsimp only
    refine fold16_store _ 2 1 2 _ _ _ 9 256 _ (by omega) (by omega) (by omega) (by omega)
      inb_S1x16x32x512_S1x1x32x128_0_9_0_256 ?_ y
    intro i d
    refine quarter_store _ 2 1 _ _ _ 256 _ (by omega) ?_ i d (by omega)
    exact fun n d => (plane3_apply (keyHead x0 x1 x2 x3 x4 inb_S512x1024_S512x1024_0_0 inb_S1x1024_S1x1024_0_0 inb_S512x128_S512x128_0_0 5120 256 inb_S1024x8192_S1024x512_0_5120 slices_S512x512_o0_256_S512x128) n d).trans (T2 n d)
  · dsimp only
    refine fold16_store _ 2 1 1 _ _ _ 5 256 _ (by omega) (by omega) (by omega) (by omega)
      inb_S1x16x32x512_S1x1x32x128_0_5_0_256 ?_ y
    intro i d
    refine quarter_store _ 2 1 _ _ _ 256 _ (by omega) ?_ i d (by omega)
    exact fun n d => (plane3_apply (keyHead x0 x1 x2 x3 x4 inb_S512x1024_S512x1024_0_0 inb_S1x1024_S1x1024_0_0 inb_S512x128_S512x128_0_0 5120 256 inb_S1024x8192_S1024x512_0_5120 slices_S512x512_o0_256_S512x128) n d).trans (T2 n d)
  · dsimp only
    refine fold16_store _ 2 1 0 _ _ _ 1 256 _ (by omega) (by omega) (by omega) (by omega)
      inb_S1x16x32x512_S1x1x32x128_0_1_0_256 ?_ y
    intro i d
    refine quarter_store _ 2 1 _ _ _ 256 _ (by omega) ?_ i d (by omega)
    exact fun n d => (plane3_apply (keyHead x0 x1 x2 x3 x4 inb_S512x1024_S512x1024_0_0 inb_S1x1024_S1x1024_0_0 inb_S512x128_S512x128_0_0 5120 256 inb_S1024x8192_S1024x512_0_5120 slices_S512x512_o0_256_S512x128) n d).trans (T2 n d)
  · dsimp only
    refine fold16_store _ 2 0 3 _ _ _ 12 256 _ (by omega) (by omega) (by omega) (by omega)
      inb_S1x16x32x512_S1x1x32x128_0_12_0_256 ?_ y
    intro i d
    refine quarter_store _ 2 0 _ _ _ 256 _ (by omega) ?_ i d (by omega)
    exact fun n d => (plane3_apply (keyHead x0 x1 x2 x3 x4 inb_S512x1024_S512x1024_0_0 inb_S1x1024_S1x1024_0_0 inb_S512x128_S512x128_0_0 5120 256 inb_S1024x8192_S1024x512_0_5120 slices_S512x512_o0_256_S512x128) n d).trans (T2 n d)
  · dsimp only
    refine fold16_store _ 2 0 2 _ _ _ 8 256 _ (by omega) (by omega) (by omega) (by omega)
      inb_S1x16x32x512_S1x1x32x128_0_8_0_256 ?_ y
    intro i d
    refine quarter_store _ 2 0 _ _ _ 256 _ (by omega) ?_ i d (by omega)
    exact fun n d => (plane3_apply (keyHead x0 x1 x2 x3 x4 inb_S512x1024_S512x1024_0_0 inb_S1x1024_S1x1024_0_0 inb_S512x128_S512x128_0_0 5120 256 inb_S1024x8192_S1024x512_0_5120 slices_S512x512_o0_256_S512x128) n d).trans (T2 n d)
  · dsimp only
    refine fold16_store _ 2 0 1 _ _ _ 4 256 _ (by omega) (by omega) (by omega) (by omega)
      inb_S1x16x32x512_S1x1x32x128_0_4_0_256 ?_ y
    intro i d
    refine quarter_store _ 2 0 _ _ _ 256 _ (by omega) ?_ i d (by omega)
    exact fun n d => (plane3_apply (keyHead x0 x1 x2 x3 x4 inb_S512x1024_S512x1024_0_0 inb_S1x1024_S1x1024_0_0 inb_S512x128_S512x128_0_0 5120 256 inb_S1024x8192_S1024x512_0_5120 slices_S512x512_o0_256_S512x128) n d).trans (T2 n d)
  · dsimp only
    refine fold16_store _ 2 0 0 _ _ _ 0 256 _ (by omega) (by omega) (by omega) (by omega)
      inb_S1x16x32x512_S1x1x32x128_0_0_0_256 ?_ y
    intro i d
    refine quarter_store _ 2 0 _ _ _ 256 _ (by omega) ?_ i d (by omega)
    exact fun n d => (plane3_apply (keyHead x0 x1 x2 x3 x4 inb_S512x1024_S512x1024_0_0 inb_S1x1024_S1x1024_0_0 inb_S512x128_S512x128_0_0 5120 256 inb_S1024x8192_S1024x512_0_5120 slices_S512x512_o0_256_S512x128) n d).trans (T2 n d)
  · dsimp only
    refine fold16_store _ 1 3 3 _ _ _ 15 128 _ (by omega) (by omega) (by omega) (by omega)
      inb_S1x16x32x512_S1x1x32x128_0_15_0_128 ?_ y
    intro i d
    refine quarter_store _ 1 3 _ _ _ 128 _ (by omega) ?_ i d (by omega)
    exact fun n d => (plane3_apply (keyHead x0 x1 x2 x3 x4 inb_S512x1024_S512x1024_0_0 inb_S1x1024_S1x1024_0_0 inb_S512x128_S512x128_0_0 5120 128 inb_S1024x8192_S1024x512_0_5120 slices_S512x512_o0_128_S512x128) n d).trans (T1 n d)
  · dsimp only
    refine fold16_store _ 1 3 2 _ _ _ 11 128 _ (by omega) (by omega) (by omega) (by omega)
      inb_S1x16x32x512_S1x1x32x128_0_11_0_128 ?_ y
    intro i d
    refine quarter_store _ 1 3 _ _ _ 128 _ (by omega) ?_ i d (by omega)
    exact fun n d => (plane3_apply (keyHead x0 x1 x2 x3 x4 inb_S512x1024_S512x1024_0_0 inb_S1x1024_S1x1024_0_0 inb_S512x128_S512x128_0_0 5120 128 inb_S1024x8192_S1024x512_0_5120 slices_S512x512_o0_128_S512x128) n d).trans (T1 n d)
  · dsimp only
    refine fold16_store _ 1 3 1 _ _ _ 7 128 _ (by omega) (by omega) (by omega) (by omega)
      inb_S1x16x32x512_S1x1x32x128_0_7_0_128 ?_ y
    intro i d
    refine quarter_store _ 1 3 _ _ _ 128 _ (by omega) ?_ i d (by omega)
    exact fun n d => (plane3_apply (keyHead x0 x1 x2 x3 x4 inb_S512x1024_S512x1024_0_0 inb_S1x1024_S1x1024_0_0 inb_S512x128_S512x128_0_0 5120 128 inb_S1024x8192_S1024x512_0_5120 slices_S512x512_o0_128_S512x128) n d).trans (T1 n d)
  · dsimp only
    refine fold16_store _ 1 3 0 _ _ _ 3 128 _ (by omega) (by omega) (by omega) (by omega)
      inb_S1x16x32x512_S1x1x32x128_0_3_0_128 ?_ y
    intro i d
    refine quarter_store _ 1 3 _ _ _ 128 _ (by omega) ?_ i d (by omega)
    exact fun n d => (plane3_apply (keyHead x0 x1 x2 x3 x4 inb_S512x1024_S512x1024_0_0 inb_S1x1024_S1x1024_0_0 inb_S512x128_S512x128_0_0 5120 128 inb_S1024x8192_S1024x512_0_5120 slices_S512x512_o0_128_S512x128) n d).trans (T1 n d)
  · dsimp only
    refine fold16_store _ 1 2 3 _ _ _ 14 128 _ (by omega) (by omega) (by omega) (by omega)
      inb_S1x16x32x512_S1x1x32x128_0_14_0_128 ?_ y
    intro i d
    refine quarter_store _ 1 2 _ _ _ 128 _ (by omega) ?_ i d (by omega)
    exact fun n d => (plane3_apply (keyHead x0 x1 x2 x3 x4 inb_S512x1024_S512x1024_0_0 inb_S1x1024_S1x1024_0_0 inb_S512x128_S512x128_0_0 5120 128 inb_S1024x8192_S1024x512_0_5120 slices_S512x512_o0_128_S512x128) n d).trans (T1 n d)
  · dsimp only
    refine fold16_store _ 1 2 2 _ _ _ 10 128 _ (by omega) (by omega) (by omega) (by omega)
      inb_S1x16x32x512_S1x1x32x128_0_10_0_128 ?_ y
    intro i d
    refine quarter_store _ 1 2 _ _ _ 128 _ (by omega) ?_ i d (by omega)
    exact fun n d => (plane3_apply (keyHead x0 x1 x2 x3 x4 inb_S512x1024_S512x1024_0_0 inb_S1x1024_S1x1024_0_0 inb_S512x128_S512x128_0_0 5120 128 inb_S1024x8192_S1024x512_0_5120 slices_S512x512_o0_128_S512x128) n d).trans (T1 n d)
  · dsimp only
    refine fold16_store _ 1 2 1 _ _ _ 6 128 _ (by omega) (by omega) (by omega) (by omega)
      inb_S1x16x32x512_S1x1x32x128_0_6_0_128 ?_ y
    intro i d
    refine quarter_store _ 1 2 _ _ _ 128 _ (by omega) ?_ i d (by omega)
    exact fun n d => (plane3_apply (keyHead x0 x1 x2 x3 x4 inb_S512x1024_S512x1024_0_0 inb_S1x1024_S1x1024_0_0 inb_S512x128_S512x128_0_0 5120 128 inb_S1024x8192_S1024x512_0_5120 slices_S512x512_o0_128_S512x128) n d).trans (T1 n d)
  · dsimp only
    refine fold16_store _ 1 2 0 _ _ _ 2 128 _ (by omega) (by omega) (by omega) (by omega)
      inb_S1x16x32x512_S1x1x32x128_0_2_0_128 ?_ y
    intro i d
    refine quarter_store _ 1 2 _ _ _ 128 _ (by omega) ?_ i d (by omega)
    exact fun n d => (plane3_apply (keyHead x0 x1 x2 x3 x4 inb_S512x1024_S512x1024_0_0 inb_S1x1024_S1x1024_0_0 inb_S512x128_S512x128_0_0 5120 128 inb_S1024x8192_S1024x512_0_5120 slices_S512x512_o0_128_S512x128) n d).trans (T1 n d)
  · dsimp only
    refine fold16_store _ 1 1 3 _ _ _ 13 128 _ (by omega) (by omega) (by omega) (by omega)
      inb_S1x16x32x512_S1x1x32x128_0_13_0_128 ?_ y
    intro i d
    refine quarter_store _ 1 1 _ _ _ 128 _ (by omega) ?_ i d (by omega)
    exact fun n d => (plane3_apply (keyHead x0 x1 x2 x3 x4 inb_S512x1024_S512x1024_0_0 inb_S1x1024_S1x1024_0_0 inb_S512x128_S512x128_0_0 5120 128 inb_S1024x8192_S1024x512_0_5120 slices_S512x512_o0_128_S512x128) n d).trans (T1 n d)
  · dsimp only
    refine fold16_store _ 1 1 2 _ _ _ 9 128 _ (by omega) (by omega) (by omega) (by omega)
      inb_S1x16x32x512_S1x1x32x128_0_9_0_128 ?_ y
    intro i d
    refine quarter_store _ 1 1 _ _ _ 128 _ (by omega) ?_ i d (by omega)
    exact fun n d => (plane3_apply (keyHead x0 x1 x2 x3 x4 inb_S512x1024_S512x1024_0_0 inb_S1x1024_S1x1024_0_0 inb_S512x128_S512x128_0_0 5120 128 inb_S1024x8192_S1024x512_0_5120 slices_S512x512_o0_128_S512x128) n d).trans (T1 n d)
  · dsimp only
    refine fold16_store _ 1 1 1 _ _ _ 5 128 _ (by omega) (by omega) (by omega) (by omega)
      inb_S1x16x32x512_S1x1x32x128_0_5_0_128 ?_ y
    intro i d
    refine quarter_store _ 1 1 _ _ _ 128 _ (by omega) ?_ i d (by omega)
    exact fun n d => (plane3_apply (keyHead x0 x1 x2 x3 x4 inb_S512x1024_S512x1024_0_0 inb_S1x1024_S1x1024_0_0 inb_S512x128_S512x128_0_0 5120 128 inb_S1024x8192_S1024x512_0_5120 slices_S512x512_o0_128_S512x128) n d).trans (T1 n d)
  · dsimp only
    refine fold16_store _ 1 1 0 _ _ _ 1 128 _ (by omega) (by omega) (by omega) (by omega)
      inb_S1x16x32x512_S1x1x32x128_0_1_0_128 ?_ y
    intro i d
    refine quarter_store _ 1 1 _ _ _ 128 _ (by omega) ?_ i d (by omega)
    exact fun n d => (plane3_apply (keyHead x0 x1 x2 x3 x4 inb_S512x1024_S512x1024_0_0 inb_S1x1024_S1x1024_0_0 inb_S512x128_S512x128_0_0 5120 128 inb_S1024x8192_S1024x512_0_5120 slices_S512x512_o0_128_S512x128) n d).trans (T1 n d)
  · dsimp only
    refine fold16_store _ 1 0 3 _ _ _ 12 128 _ (by omega) (by omega) (by omega) (by omega)
      inb_S1x16x32x512_S1x1x32x128_0_12_0_128 ?_ y
    intro i d
    refine quarter_store _ 1 0 _ _ _ 128 _ (by omega) ?_ i d (by omega)
    exact fun n d => (plane3_apply (keyHead x0 x1 x2 x3 x4 inb_S512x1024_S512x1024_0_0 inb_S1x1024_S1x1024_0_0 inb_S512x128_S512x128_0_0 5120 128 inb_S1024x8192_S1024x512_0_5120 slices_S512x512_o0_128_S512x128) n d).trans (T1 n d)
  · dsimp only
    refine fold16_store _ 1 0 2 _ _ _ 8 128 _ (by omega) (by omega) (by omega) (by omega)
      inb_S1x16x32x512_S1x1x32x128_0_8_0_128 ?_ y
    intro i d
    refine quarter_store _ 1 0 _ _ _ 128 _ (by omega) ?_ i d (by omega)
    exact fun n d => (plane3_apply (keyHead x0 x1 x2 x3 x4 inb_S512x1024_S512x1024_0_0 inb_S1x1024_S1x1024_0_0 inb_S512x128_S512x128_0_0 5120 128 inb_S1024x8192_S1024x512_0_5120 slices_S512x512_o0_128_S512x128) n d).trans (T1 n d)
  · dsimp only
    refine fold16_store _ 1 0 1 _ _ _ 4 128 _ (by omega) (by omega) (by omega) (by omega)
      inb_S1x16x32x512_S1x1x32x128_0_4_0_128 ?_ y
    intro i d
    refine quarter_store _ 1 0 _ _ _ 128 _ (by omega) ?_ i d (by omega)
    exact fun n d => (plane3_apply (keyHead x0 x1 x2 x3 x4 inb_S512x1024_S512x1024_0_0 inb_S1x1024_S1x1024_0_0 inb_S512x128_S512x128_0_0 5120 128 inb_S1024x8192_S1024x512_0_5120 slices_S512x512_o0_128_S512x128) n d).trans (T1 n d)
  · dsimp only
    refine fold16_store _ 1 0 0 _ _ _ 0 128 _ (by omega) (by omega) (by omega) (by omega)
      inb_S1x16x32x512_S1x1x32x128_0_0_0_128 ?_ y
    intro i d
    refine quarter_store _ 1 0 _ _ _ 128 _ (by omega) ?_ i d (by omega)
    exact fun n d => (plane3_apply (keyHead x0 x1 x2 x3 x4 inb_S512x1024_S512x1024_0_0 inb_S1x1024_S1x1024_0_0 inb_S512x128_S512x128_0_0 5120 128 inb_S1024x8192_S1024x512_0_5120 slices_S512x512_o0_128_S512x128) n d).trans (T1 n d)
  · dsimp only
    refine fold16_store _ 0 3 3 _ _ _ 15 0 _ (by omega) (by omega) (by omega) (by omega)
      inb_S1x16x32x512_S1x1x32x128_0_15_0_0 ?_ y
    intro i d
    refine quarter_store _ 0 3 _ _ _ 0 _ (by omega) ?_ i d (by omega)
    exact fun n d => (plane3_apply (keyHead x0 x1 x2 x3 x4 inb_S512x1024_S512x1024_0_0 inb_S1x1024_S1x1024_0_0 inb_S512x128_S512x128_0_0 5120 0 inb_S1024x8192_S1024x512_0_5120 slices_S512x512_o0_0_S512x128) n d).trans (T0 n d)
  · dsimp only
    refine fold16_store _ 0 3 2 _ _ _ 11 0 _ (by omega) (by omega) (by omega) (by omega)
      inb_S1x16x32x512_S1x1x32x128_0_11_0_0 ?_ y
    intro i d
    refine quarter_store _ 0 3 _ _ _ 0 _ (by omega) ?_ i d (by omega)
    exact fun n d => (plane3_apply (keyHead x0 x1 x2 x3 x4 inb_S512x1024_S512x1024_0_0 inb_S1x1024_S1x1024_0_0 inb_S512x128_S512x128_0_0 5120 0 inb_S1024x8192_S1024x512_0_5120 slices_S512x512_o0_0_S512x128) n d).trans (T0 n d)
  · dsimp only
    refine fold16_store _ 0 3 1 _ _ _ 7 0 _ (by omega) (by omega) (by omega) (by omega)
      inb_S1x16x32x512_S1x1x32x128_0_7_0_0 ?_ y
    intro i d
    refine quarter_store _ 0 3 _ _ _ 0 _ (by omega) ?_ i d (by omega)
    exact fun n d => (plane3_apply (keyHead x0 x1 x2 x3 x4 inb_S512x1024_S512x1024_0_0 inb_S1x1024_S1x1024_0_0 inb_S512x128_S512x128_0_0 5120 0 inb_S1024x8192_S1024x512_0_5120 slices_S512x512_o0_0_S512x128) n d).trans (T0 n d)
  · dsimp only
    refine fold16_store _ 0 3 0 _ _ _ 3 0 _ (by omega) (by omega) (by omega) (by omega)
      inb_S1x16x32x512_S1x1x32x128_0_3_0_0 ?_ y
    intro i d
    refine quarter_store _ 0 3 _ _ _ 0 _ (by omega) ?_ i d (by omega)
    exact fun n d => (plane3_apply (keyHead x0 x1 x2 x3 x4 inb_S512x1024_S512x1024_0_0 inb_S1x1024_S1x1024_0_0 inb_S512x128_S512x128_0_0 5120 0 inb_S1024x8192_S1024x512_0_5120 slices_S512x512_o0_0_S512x128) n d).trans (T0 n d)
  · dsimp only
    refine fold16_store _ 0 2 3 _ _ _ 14 0 _ (by omega) (by omega) (by omega) (by omega)
      inb_S1x16x32x512_S1x1x32x128_0_14_0_0 ?_ y
    intro i d
    refine quarter_store _ 0 2 _ _ _ 0 _ (by omega) ?_ i d (by omega)
    exact fun n d => (plane3_apply (keyHead x0 x1 x2 x3 x4 inb_S512x1024_S512x1024_0_0 inb_S1x1024_S1x1024_0_0 inb_S512x128_S512x128_0_0 5120 0 inb_S1024x8192_S1024x512_0_5120 slices_S512x512_o0_0_S512x128) n d).trans (T0 n d)
  · dsimp only
    refine fold16_store _ 0 2 2 _ _ _ 10 0 _ (by omega) (by omega) (by omega) (by omega)
      inb_S1x16x32x512_S1x1x32x128_0_10_0_0 ?_ y
    intro i d
    refine quarter_store _ 0 2 _ _ _ 0 _ (by omega) ?_ i d (by omega)
    exact fun n d => (plane3_apply (keyHead x0 x1 x2 x3 x4 inb_S512x1024_S512x1024_0_0 inb_S1x1024_S1x1024_0_0 inb_S512x128_S512x128_0_0 5120 0 inb_S1024x8192_S1024x512_0_5120 slices_S512x512_o0_0_S512x128) n d).trans (T0 n d)
  · dsimp only
    refine fold16_store _ 0 2 1 _ _ _ 6 0 _ (by omega) (by omega) (by omega) (by omega)
      inb_S1x16x32x512_S1x1x32x128_0_6_0_0 ?_ y
    intro i d
    refine quarter_store _ 0 2 _ _ _ 0 _ (by omega) ?_ i d (by omega)
    exact fun n d => (plane3_apply (keyHead x0 x1 x2 x3 x4 inb_S512x1024_S512x1024_0_0 inb_S1x1024_S1x1024_0_0 inb_S512x128_S512x128_0_0 5120 0 inb_S1024x8192_S1024x512_0_5120 slices_S512x512_o0_0_S512x128) n d).trans (T0 n d)
  · dsimp only
    refine fold16_store _ 0 2 0 _ _ _ 2 0 _ (by omega) (by omega) (by omega) (by omega)
      inb_S1x16x32x512_S1x1x32x128_0_2_0_0 ?_ y
    intro i d
    refine quarter_store _ 0 2 _ _ _ 0 _ (by omega) ?_ i d (by omega)
    exact fun n d => (plane3_apply (keyHead x0 x1 x2 x3 x4 inb_S512x1024_S512x1024_0_0 inb_S1x1024_S1x1024_0_0 inb_S512x128_S512x128_0_0 5120 0 inb_S1024x8192_S1024x512_0_5120 slices_S512x512_o0_0_S512x128) n d).trans (T0 n d)
  · dsimp only
    refine fold16_store _ 0 1 3 _ _ _ 13 0 _ (by omega) (by omega) (by omega) (by omega)
      inb_S1x16x32x512_S1x1x32x128_0_13_0_0 ?_ y
    intro i d
    refine quarter_store _ 0 1 _ _ _ 0 _ (by omega) ?_ i d (by omega)
    exact fun n d => (plane3_apply (keyHead x0 x1 x2 x3 x4 inb_S512x1024_S512x1024_0_0 inb_S1x1024_S1x1024_0_0 inb_S512x128_S512x128_0_0 5120 0 inb_S1024x8192_S1024x512_0_5120 slices_S512x512_o0_0_S512x128) n d).trans (T0 n d)
  · dsimp only
    refine fold16_store _ 0 1 2 _ _ _ 9 0 _ (by omega) (by omega) (by omega) (by omega)
      inb_S1x16x32x512_S1x1x32x128_0_9_0_0 ?_ y
    intro i d
    refine quarter_store _ 0 1 _ _ _ 0 _ (by omega) ?_ i d (by omega)
    exact fun n d => (plane3_apply (keyHead x0 x1 x2 x3 x4 inb_S512x1024_S512x1024_0_0 inb_S1x1024_S1x1024_0_0 inb_S512x128_S512x128_0_0 5120 0 inb_S1024x8192_S1024x512_0_5120 slices_S512x512_o0_0_S512x128) n d).trans (T0 n d)
  · dsimp only
    refine fold16_store _ 0 1 1 _ _ _ 5 0 _ (by omega) (by omega) (by omega) (by omega)
      inb_S1x16x32x512_S1x1x32x128_0_5_0_0 ?_ y
    intro i d
    refine quarter_store _ 0 1 _ _ _ 0 _ (by omega) ?_ i d (by omega)
    exact fun n d => (plane3_apply (keyHead x0 x1 x2 x3 x4 inb_S512x1024_S512x1024_0_0 inb_S1x1024_S1x1024_0_0 inb_S512x128_S512x128_0_0 5120 0 inb_S1024x8192_S1024x512_0_5120 slices_S512x512_o0_0_S512x128) n d).trans (T0 n d)
  · dsimp only
    refine fold16_store _ 0 1 0 _ _ _ 1 0 _ (by omega) (by omega) (by omega) (by omega)
      inb_S1x16x32x512_S1x1x32x128_0_1_0_0 ?_ y
    intro i d
    refine quarter_store _ 0 1 _ _ _ 0 _ (by omega) ?_ i d (by omega)
    exact fun n d => (plane3_apply (keyHead x0 x1 x2 x3 x4 inb_S512x1024_S512x1024_0_0 inb_S1x1024_S1x1024_0_0 inb_S512x128_S512x128_0_0 5120 0 inb_S1024x8192_S1024x512_0_5120 slices_S512x512_o0_0_S512x128) n d).trans (T0 n d)
  · dsimp only
    refine fold16_store _ 0 0 3 _ _ _ 12 0 _ (by omega) (by omega) (by omega) (by omega)
      inb_S1x16x32x512_S1x1x32x128_0_12_0_0 ?_ y
    intro i d
    refine quarter_store _ 0 0 _ _ _ 0 _ (by omega) ?_ i d (by omega)
    exact fun n d => (plane3_apply (keyHead x0 x1 x2 x3 x4 inb_S512x1024_S512x1024_0_0 inb_S1x1024_S1x1024_0_0 inb_S512x128_S512x128_0_0 5120 0 inb_S1024x8192_S1024x512_0_5120 slices_S512x512_o0_0_S512x128) n d).trans (T0 n d)
  · dsimp only
    refine fold16_store _ 0 0 2 _ _ _ 8 0 _ (by omega) (by omega) (by omega) (by omega)
      inb_S1x16x32x512_S1x1x32x128_0_8_0_0 ?_ y
    intro i d
    refine quarter_store _ 0 0 _ _ _ 0 _ (by omega) ?_ i d (by omega)
    exact fun n d => (plane3_apply (keyHead x0 x1 x2 x3 x4 inb_S512x1024_S512x1024_0_0 inb_S1x1024_S1x1024_0_0 inb_S512x128_S512x128_0_0 5120 0 inb_S1024x8192_S1024x512_0_5120 slices_S512x512_o0_0_S512x128) n d).trans (T0 n d)
  · dsimp only
    refine fold16_store _ 0 0 1 _ _ _ 4 0 _ (by omega) (by omega) (by omega) (by omega)
      inb_S1x16x32x512_S1x1x32x128_0_4_0_0 ?_ y
    intro i d
    refine quarter_store _ 0 0 _ _ _ 0 _ (by omega) ?_ i d (by omega)
    exact fun n d => (plane3_apply (keyHead x0 x1 x2 x3 x4 inb_S512x1024_S512x1024_0_0 inb_S1x1024_S1x1024_0_0 inb_S512x128_S512x128_0_0 5120 0 inb_S1024x8192_S1024x512_0_5120 slices_S512x512_o0_0_S512x128) n d).trans (T0 n d)
  · dsimp only
    refine fold16_store _ 0 0 0 _ _ _ 0 0 _ (by omega) (by omega) (by omega) (by omega)
      inb_S1x16x32x512_S1x1x32x128_0_0_0_0 ?_ y
    intro i d
    refine quarter_store _ 0 0 _ _ _ 0 _ (by omega) ?_ i d (by omega)
    exact fun n d => (plane3_apply (keyHead x0 x1 x2 x3 x4 inb_S512x1024_S512x1024_0_0 inb_S1x1024_S1x1024_0_0 inb_S512x128_S512x128_0_0 5120 0 inb_S1024x8192_S1024x512_0_5120 slices_S512x512_o0_0_S512x128) n d).trans (T0 n d)

end Cert.ProjFinal

end
-- ==== Proof.ProjFold4.lean ====
/- What the input kernel leaves in the blocks of a dilated group at a grid point: the values for dilation 16. -/
module

public import proofs.«01_k».proof.Proof.ProjFold
public import Idealize.ShloMosaic.Lib.Pipeline.ValueKit.Tiles
public import Idealize.ShloMosaic.Lib.Pipeline.ReadBack
public import proofs.«01_k».proof.Proof.Gen.Kernel3Ideal.Value

@[expose] public section

noncomputable section

namespace Cert.ProjFinal

open Cert.Kernel3Ideal Cert.Kernel3Ideal.Gen Cert.Kernel3Ideal.Value Cert.Proj Cert.ProjKernel Cert.ProjBlock
open Idealize.ShloMosaic Idealize.ShloMosaic.TcCoe Idealize.ShloMosaic.ValueIdx Idealize.SL.Sem

variable (c : Dev nD)

set_option maxHeartbeats 4000000 in
/-- What the body leaves in the block of the second dilated group's values. -/
theorem outs16 (t : Fin cfg0.N) (x0 : Vec Ideal S512x1024 .f32) (x1 : Vec Ideal S1x1024 .f32) (x2 : Vec Ideal S1024x8192 .bf16)
    (x3 x4 : Vec Ideal S512x128 .f32) :
    out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) x0 x1 x2 x3 x4
      = fold16 (plainBlk x0 x1 x2 5632 512 (by omega)) := by
  unfold out0_A_16
  rw [View.read_writes_eq_canon _ _ _ (cover0_A_16 c _ _ _ _ _ _ _ _ _ _ _ _ _ _ _ _ _ _ _ _ _ _ _ _ _ _ _ _ _ _ _ _ _ _ _ _ _ _ _ _ _ _ _ _ _ _)]
  funext y
  refine View.canon_eq_of_allAt _ y _ (cover0_A_16 c _ _ _ _ _ _ _ _ _ _ _ _ _ _ _ _ _ _ _ _ _ _ _ _ _ _ _ _ _ _ _ _ _ _ _ _ _ _ _ _ _ _ _ _ _ _ y) ?_
  suffices h : View.PiecesOf (fold16 (plainBlk x0 x1 x2 5632 512 (by omega)))
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) x0 x1 x2 x3 x4).2.2.2.2.2.2.2.2.2.2.2.1 from
    fun p hp x hx => by rw [← hx]; exact h.mem p hp x
  unfold kernelRun0_A
  dsimp only
  sl_unfold_words
  simp only [View.readAt_eq_ld, (hs0_0 t).read_unread, (hs0_1 t).read_unread, (hs0_2 t).read_unread, (hs0_3 t).read_unread, (hs0_4 t).read_unread]
  have T0 := plainHead_apply x0 x1 x2 inb_S512x1024_S512x1024_0_0 inb_S1x1024_S1x1024_0_0 5632 0 inb_S1024x8192_S1024x512_0_5632 slices_S512x512_o0_0_S512x128 (by omega) (by omega)
  have T1 := plainHead_apply x0 x1 x2 inb_S512x1024_S512x1024_0_0 inb_S1x1024_S1x1024_0_0 5632 128 inb_S1024x8192_S1024x512_0_5632 slices_S512x512_o0_128_S512x128 (by omega) (by omega)
  have T2 := plainHead_apply x0 x1 x2 inb_S512x1024_S512x1024_0_0 inb_S1x1024_S1x1024_0_0 5632 256 inb_S1024x8192_S1024x512_0_5632 slices_S512x512_o0_256_S512x128 (by omega) (by omega)
  have T3 := plainHead_apply x0 x1 x2 inb_S512x1024_S512x1024_0_0 inb_S1x1024_S1x1024_0_0 5632 384 inb_S1024x8192_S1024x512_0_5632 slices_S512x512_o0_384_S512x128 (by omega) (by omega)
  refine ⟨fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, trivial⟩
  · dsimp only
    refine fold16_store _ 3 3 3 _ _ _ 15 384 _ (by omega) (by omega) (by omega) (by omega)
      inb_S1x16x32x512_S1x1x32x128_0_15_0_384 ?_ y
    intro i d
    refine quarter_store _ 3 3 _ _ _ 384 _ (by omega) ?_ i d (by omega)
    exact fun n d => (plane3_apply (plainHead x0 x1 x2 inb_S512x1024_S512x1024_0_0 inb_S1x1024_S1x1024_0_0 5632 384 inb_S1024x8192_S1024x512_0_5632 slices_S512x512_o0_384_S512x128) n d).trans (T3 n d)
  · dsimp only
    refine fold16_store _ 3 3 2 _ _ _ 11 384 _ (by omega) (by omega) (by omega) (by omega)
      inb_S1x16x32x512_S1x1x32x128_0_11_0_384 ?_ y
    intro i d
    refine quarter_store _ 3 3 _ _ _ 384 _ (by omega) ?_ i d (by omega)
    exact fun n d => (plane3_apply (plainHead x0 x1 x2 inb_S512x1024_S512x1024_0_0 inb_S1x1024_S1x1024_0_0 5632 384 inb_S1024x8192_S1024x512_0_5632 slices_S512x512_o0_384_S512x128) n d).trans (T3 n d)
  · dsimp only
    refine fold16_store _ 3 3 1 _ _ _ 7 384 _ (by omega) (by omega) (by omega) (by omega)
      inb_S1x16x32x512_S1x1x32x128_0_7_0_384 ?_ y
    intro i d
    refine quarter_store _ 3 3 _ _ _ 384 _ (by omega) ?_ i d (by omega)
    exact fun n d => (plane3_apply (plainHead x0 x1 x2 inb_S512x1024_S512x1024_0_0 inb_S1x1024_S1x1024_0_0 5632 384 inb_S1024x8192_S1024x512_0_5632 slices_S512x512_o0_384_S512x128) n d).trans (T3 n d)
  · dsimp only
    refine fold16_store _ 3 3 0 _ _ _ 3 384 _ (by omega) (by omega) (by omega) (by omega)
      inb_S1x16x32x512_S1x1x32x128_0_3_0_384 ?_ y
    intro i d
    refine quarter_store _ 3 3 _ _ _ 384 _ (by omega) ?_ i d (by omega)
    exact fun n d => (plane3_apply (plainHead x0 x1 x2 inb_S512x1024_S512x1024_0_0 inb_S1x1024_S1x1024_0_0 5632 384 inb_S1024x8192_S1024x512_0_5632 slices_S512x512_o0_384_S512x128) n d).trans (T3 n d)
  · dsimp only
    refine fold16_store _ 3 2 3 _ _ _ 14 384 _ (by omega) (by omega) (by omega) (by omega)
      inb_S1x16x32x512_S1x1x32x128_0_14_0_384 ?_ y
    intro i d
    refine quarter_store _ 3 2 _ _ _ 384 _ (by omega) ?_ i d (by omega)
    exact fun n d => (plane3_apply (plainHead x0 x1 x2 inb_S512x1024_S512x1024_0_0 inb_S1x1024_S1x1024_0_0 5632 384 inb_S1024x8192_S1024x512_0_5632 slices_S512x512_o0_384_S512x128) n d).trans (T3 n d)
  · dsimp only
    refine fold16_store _ 3 2 2 _ _ _ 10 384 _ (by omega) (by omega) (by omega) (by omega)
      inb_S1x16x32x512_S1x1x32x128_0_10_0_384 ?_ y
    intro i d
    refine quarter_store _ 3 2 _ _ _ 384 _ (by omega) ?_ i d (by omega)
    exact fun n d => (plane3_apply (plainHead x0 x1 x2 inb_S512x1024_S512x1024_0_0 inb_S1x1024_S1x1024_0_0 5632 384 inb_S1024x8192_S1024x512_0_5632 slices_S512x512_o0_384_S512x128) n d).trans (T3 n d)
  · dsimp only
    refine fold16_store _ 3 2 1 _ _ _ 6 384 _ (by omega) (by omega) (by omega) (by omega)
      inb_S1x16x32x512_S1x1x32x128_0_6_0_384 ?_ y
    intro i d
    refine quarter_store _ 3 2 _ _ _ 384 _ (by omega) ?_ i d (by omega)
    exact fun n d => (plane3_apply (plainHead x0 x1 x2 inb_S512x1024_S512x1024_0_0 inb_S1x1024_S1x1024_0_0 5632 384 inb_S1024x8192_S1024x512_0_5632 slices_S512x512_o0_384_S512x128) n d).trans (T3 n d)
  · dsimp only
    refine fold16_store _ 3 2 0 _ _ _ 2 384 _ (by omega) (by omega) (by omega) (by omega)
      inb_S1x16x32x512_S1x1x32x128_0_2_0_384 ?_ y
    intro i d
    refine quarter_store _ 3 2 _ _ _ 384 _ (by omega) ?_ i d (by omega)
    exact fun n d => (plane3_apply (plainHead x0 x1 x2 inb_S512x1024_S512x1024_0_0 inb_S1x1024_S1x1024_0_0 5632 384 inb_S1024x8192_S1024x512_0_5632 slices_S512x512_o0_384_S512x128) n d).trans (T3 n d)
  · dsimp only
    refine fold16_store _ 3 1 3 _ _ _ 13 384 _ (by omega) (by omega) (by omega) (by omega)
      inb_S1x16x32x512_S1x1x32x128_0_13_0_384 ?_ y
    intro i d
    refine quarter_store _ 3 1 _ _ _ 384 _ (by omega) ?_ i d (by omega)
    exact fun n d => (plane3_apply (plainHead x0 x1 x2 inb_S512x1024_S512x1024_0_0 inb_S1x1024_S1x1024_0_0 5632 384 inb_S1024x8192_S1024x512_0_5632 slices_S512x512_o0_384_S512x128) n d).trans (T3 n d)
  · dsimp only
    refine fold16_store _ 3 1 2 _ _ _ 9 384 _ (by omega) (by omega) (by omega) (by omega)
      inb_S1x16x32x512_S1x1x32x128_0_9_0_384 ?_ y
    intro i d
    refine quarter_store _ 3 1 _ _ _ 384 _ (by omega) ?_ i d (by omega)
    exact fun n d => (plane3_apply (plainHead x0 x1 x2 inb_S512x1024_S512x1024_0_0 inb_S1x1024_S1x1024_0_0 5632 384 inb_S1024x8192_S1024x512_0_5632 slices_S512x512_o0_384_S512x128) n d).trans (T3 n d)
  · dsimp only
    refine fold16_store _ 3 1 1 _ _ _ 5 384 _ (by omega) (by omega) (by omega) (by omega)
      inb_S1x16x32x512_S1x1x32x128_0_5_0_384 ?_ y
    intro i d
    refine quarter_store _ 3 1 _ _ _ 384 _ (by omega) ?_ i d (by omega)
    exact fun n d => (plane3_apply (plainHead x0 x1 x2 inb_S512x1024_S512x1024_0_0 inb_S1x1024_S1x1024_0_0 5632 384 inb_S1024x8192_S1024x512_0_5632 slices_S512x512_o0_384_S512x128) n d).trans (T3 n d)
  · dsimp only
    refine fold16_store _ 3 1 0 _ _ _ 1 384 _ (by omega) (by omega) (by omega) (by omega)
      inb_S1x16x32x512_S1x1x32x128_0_1_0_384 ?_ y
    intro i d
    refine quarter_store _ 3 1 _ _ _ 384 _ (by omega) ?_ i d (by omega)
    exact fun n d => (plane3_apply (plainHead x0 x1 x2 inb_S512x1024_S512x1024_0_0 inb_S1x1024_S1x1024_0_0 5632 384 inb_S1024x8192_S1024x512_0_5632 slices_S512x512_o0_384_S512x128) n d).trans (T3 n d)
  · dsimp only
    refine fold16_store _ 3 0 3 _ _ _ 12 384 _ (by omega) (by omega) (by omega) (by omega)
      inb_S1x16x32x512_S1x1x32x128_0_12_0_384 ?_ y
    intro i d
    refine quarter_store _ 3 0 _ _ _ 384 _ (by omega) ?_ i d (by omega)
    exact fun n d => (plane3_apply (plainHead x0 x1 x2 inb_S512x1024_S512x1024_0_0 inb_S1x1024_S1x1024_0_0 5632 384 inb_S1024x8192_S1024x512_0_5632 slices_S512x512_o0_384_S512x128) n d).trans (T3 n d)
  · dsimp only
    refine fold16_store _ 3 0 2 _ _ _ 8 384 _ (by omega) (by omega) (by omega) (by omega)
      inb_S1x16x32x512_S1x1x32x128_0_8_0_384 ?_ y
    intro i d
    refine quarter_store _ 3 0 _ _ _ 384 _ (by omega) ?_ i d (by omega)
    exact fun n d => (plane3_apply (plainHead x0 x1 x2 inb_S512x1024_S512x1024_0_0 inb_S1x1024_S1x1024_0_0 5632 384 inb_S1024x8192_S1024x512_0_5632 slices_S512x512_o0_384_S512x128) n d).trans (T3 n d)
  · dsimp only
    refine fold16_store _ 3 0 1 _ _ _ 4 384 _ (by omega) (by omega) (by omega) (by omega)
      inb_S1x16x32x512_S1x1x32x128_0_4_0_384 ?_ y
    intro i d
    refine quarter_store _ 3 0 _ _ _ 384 _ (by omega) ?_ i d (by omega)
    exact fun n d => (plane3_apply (plainHead x0 x1 x2 inb_S512x1024_S512x1024_0_0 inb_S1x1024_S1x1024_0_0 5632 384 inb_S1024x8192_S1024x512_0_5632 slices_S512x512_o0_384_S512x128) n d).trans (T3 n d)
  · dsimp only
    refine fold16_store _ 3 0 0 _ _ _ 0 384 _ (by omega) (by omega) (by omega) (by omega)
      inb_S1x16x32x512_S1x1x32x128_0_0_0_384 ?_ y
    intro i d
    refine quarter_store _ 3 0 _ _ _ 384 _ (by omega) ?_ i d (by omega)
    exact fun n d => (plane3_apply (plainHead x0 x1 x2 inb_S512x1024_S512x1024_0_0 inb_S1x1024_S1x1024_0_0 5632 384 inb_S1024x8192_S1024x512_0_5632 slices_S512x512_o0_384_S512x128) n d).trans (T3 n d)
  · dsimp only
    refine fold16_store _ 2 3 3 _ _ _ 15 256 _ (by omega) (by omega) (by omega) (by omega)
      inb_S1x16x32x512_S1x1x32x128_0_15_0_256 ?_ y
    intro i d
    refine quarter_store _ 2 3 _ _ _ 256 _ (by omega) ?_ i d (by omega)
    exact fun n d => (plane3_apply (plainHead x0 x1 x2 inb_S512x1024_S512x1024_0_0 inb_S1x1024_S1x1024_0_0 5632 256 inb_S1024x8192_S1024x512_0_5632 slices_S512x512_o0_256_S512x128) n d).trans (T2 n d)
  · dsimp only
    refine fold16_store _ 2 3 2 _ _ _ 11 256 _ (by omega) (by omega) (by omega) (by omega)
      inb_S1x16x32x512_S1x1x32x128_0_11_0_256 ?_ y
    intro i d
    refine quarter_store _ 2 3 _ _ _ 256 _ (by omega) ?_ i d (by omega)
    exact fun n d => (plane3_apply (plainHead x0 x1 x2 inb_S512x1024_S512x1024_0_0 inb_S1x1024_S1x1024_0_0 5632 256 inb_S1024x8192_S1024x512_0_5632 slices_S512x512_o0_256_S512x128) n d).trans (T2 n d)
  · dsimp only
    refine fold16_store _ 2 3 1 _ _ _ 7 256 _ (by omega) (by omega) (by omega) (by omega)
      inb_S1x16x32x512_S1x1x32x128_0_7_0_256 ?_ y
    intro i d
    refine quarter_store _ 2 3 _ _ _ 256 _ (by omega) ?_ i d (by omega)
    exact fun n d => (plane3_apply (plainHead x0 x1 x2 inb_S512x1024_S512x1024_0_0 inb_S1x1024_S1x1024_0_0 5632 256 inb_S1024x8192_S1024x512_0_5632 slices_S512x512_o0_256_S512x128) n d).trans (T2 n d)
  · dsimp only
    refine fold16_store _ 2 3 0 _ _ _ 3 256 _ (by omega) (by omega) (by omega) (by omega)
      inb_S1x16x32x512_S1x1x32x128_0_3_0_256 ?_ y
    intro i d
    refine quarter_store _ 2 3 _ _ _ 256 _ (by omega) ?_ i d (by omega)
    exact fun n d => (plane3_apply (plainHead x0 x1 x2 inb_S512x1024_S512x1024_0_0 inb_S1x1024_S1x1024_0_0 5632 256 inb_S1024x8192_S1024x512_0_5632 slices_S512x512_o0_256_S512x128) n d).trans (T2 n d)
  · dsimp only
    refine fold16_store _ 2 2 3 _ _ _ 14 256 _ (by omega) (by omega) (by omega) (by omega)
      inb_S1x16x32x512_S1x1x32x128_0_14_0_256 ?_ y
    intro i d
    refine quarter_store _ 2 2 _ _ _ 256 _ (by omega) ?_ i d (by omega)
    exact fun n d => (plane3_apply (plainHead x0 x1 x2 inb_S512x1024_S512x1024_0_0 inb_S1x1024_S1x1024_0_0 5632 256 inb_S1024x8192_S1024x512_0_5632 slices_S512x512_o0_256_S512x128) n d).trans (T2 n d)
  · dsimp only
    refine fold16_store _ 2 2 2 _ _ _ 10 256 _ (by omega) (by omega) (by omega) (by omega)
      inb_S1x16x32x512_S1x1x32x128_0_10_0_256 ?_ y
    intro i d
    refine quarter_store _ 2 2 _ _ _ 256 _ (by omega) ?_ i d (by omega)
    exact fun n d => (plane3_apply (plainHead x0 x1 x2 inb_S512x1024_S512x1024_0_0 inb_S1x1024_S1x1024_0_0 5632 256 inb_S1024x8192_S1024x512_0_5632 slices_S512x512_o0_256_S512x128) n d).trans (T2 n d)
  · dsimp only
    refine fold16_store _ 2 2 1 _ _ _ 6 256 _ (by omega) (by omega) (by omega) (by omega)
      inb_S1x16x32x512_S1x1x32x128_0_6_0_256 ?_ y
    intro i d
    refine quarter_store _ 2 2 _ _ _ 256 _ (by omega) ?_ i d (by omega)
    exact fun n d => (plane3_apply (plainHead x0 x1 x2 inb_S512x1024_S512x1024_0_0 inb_S1x1024_S1x1024_0_0 5632 256 inb_S1024x8192_S1024x512_0_5632 slices_S512x512_o0_256_S512x128) n d).trans (T2 n d)
  · dsimp only
    refine fold16_store _ 2 2 0 _ _ _ 2 256 _ (by omega) (by omega) (by omega) (by omega)
      inb_S1x16x32x512_S1x1x32x128_0_2_0_256 ?_ y
    intro i d
    refine quarter_store _ 2 2 _ _ _ 256 _ (by omega) ?_ i d (by omega)
    exact fun n d => (plane3_apply (plainHead x0 x1 x2 inb_S512x1024_S512x1024_0_0 inb_S1x1024_S1x1024_0_0 5632 256 inb_S1024x8192_S1024x512_0_5632 slices_S512x512_o0_256_S512x128) n d).trans (T2 n d)
  · dsimp only
    refine fold16_store _ 2 1 3 _ _ _ 13 256 _ (by omega) (by omega) (by omega) (by omega)
      inb_S1x16x32x512_S1x1x32x128_0_13_0_256 ?_ y
    intro i d
    refine quarter_store _ 2 1 _ _ _ 256 _ (by omega) ?_ i d (by omega)
    exact fun n d => (plane3_apply (plainHead x0 x1 x2 inb_S512x1024_S512x1024_0_0 inb_S1x1024_S1x1024_0_0 5632 256 inb_S1024x8192_S1024x512_0_5632 slices_S512x512_o0_256_S512x128) n d).trans (T2 n d)
  · dsimp only
    refine fold16_store _ 2 1 2 _ _ _ 9 256 _ (by omega) (by omega) (by omega) (by omega)
      inb_S1x16x32x512_S1x1x32x128_0_9_0_256 ?_ y
    intro i d
    refine quarter_store _ 2 1 _ _ _ 256 _ (by omega) ?_ i d (by omega)
    exact fun n d => (plane3_apply (plainHead x0 x1 x2 inb_S512x1024_S512x1024_0_0 inb_S1x1024_S1x1024_0_0 5632 256 inb_S1024x8192_S1024x512_0_5632 slices_S512x512_o0_256_S512x128) n d).trans (T2 n d)
  · dsimp only
    refine fold16_store _ 2 1 1 _ _ _ 5 256 _ (by omega) (by omega) (by omega) (by omega)
      inb_S1x16x32x512_S1x1x32x128_0_5_0_256 ?_ y
    intro i d
    refine quarter_store _ 2 1 _ _ _ 256 _ (by omega) ?_ i d (by omega)
    exact fun n d => (plane3_apply (plainHead x0 x1 x2 inb_S512x1024_S512x1024_0_0 inb_S1x1024_S1x1024_0_0 5632 256 inb_S1024x8192_S1024x512_0_5632 slices_S512x512_o0_256_S512x128) n d).trans (T2 n d)
  · dsimp only
    refine fold16_store _ 2 1 0 _ _ _ 1 256 _ (by omega) (by omega) (by omega) (by omega)
      inb_S1x16x32x512_S1x1x32x128_0_1_0_256 ?_ y
    intro i d
    refine quarter_store _ 2 1 _ _ _ 256 _ (by omega) ?_ i d (by omega)
    exact fun n d => (plane3_apply (plainHead x0 x1 x2 inb_S512x1024_S512x1024_0_0 inb_S1x1024_S1x1024_0_0 5632 256 inb_S1024x8192_S1024x512_0_5632 slices_S512x512_o0_256_S512x128) n d).trans (T2 n d)
  · dsimp only
    refine fold16_store _ 2 0 3 _ _ _ 12 256 _ (by omega) (by omega) (by omega) (by omega)
      inb_S1x16x32x512_S1x1x32x128_0_12_0_256 ?_ y
    intro i d
    refine quarter_store _ 2 0 _ _ _ 256 _ (by omega) ?_ i d (by omega)
    exact fun n d => (plane3_apply (plainHead x0 x1 x2 inb_S512x1024_S512x1024_0_0 inb_S1x1024_S1x1024_0_0 5632 256 inb_S1024x8192_S1024x512_0_5632 slices_S512x512_o0_256_S512x128) n d).trans (T2 n d)
  · dsimp only
    refine fold16_store _ 2 0 2 _ _ _ 8 256 _ (by omega) (by omega) (by omega) (by omega)
      inb_S1x16x32x512_S1x1x32x128_0_8_0_256 ?_ y
    intro i d
    refine quarter_store _ 2 0 _ _ _ 256 _ (by omega) ?_ i d (by omega)
    exact fun n d => (plane3_apply (plainHead x0 x1 x2 inb_S512x1024_S512x1024_0_0 inb_S1x1024_S1x1024_0_0 5632 256 inb_S1024x8192_S1024x512_0_5632 slices_S512x512_o0_256_S512x128) n d).trans (T2 n d)
  · dsimp only
    refine fold16_store _ 2 0 1 _ _ _ 4 256 _ (by omega) (by omega) (by omega) (by omega)
      inb_S1x16x32x512_S1x1x32x128_0_4_0_256 ?_ y
    intro i d
    refine quarter_store _ 2 0 _ _ _ 256 _ (by omega) ?_ i d (by omega)
    exact fun n d => (plane3_apply (plainHead x0 x1 x2 inb_S512x1024_S512x1024_0_0 inb_S1x1024_S1x1024_0_0 5632 256 inb_S1024x8192_S1024x512_0_5632 slices_S512x512_o0_256_S512x128) n d).trans (T2 n d)
  · dsimp only
    refine fold16_store _ 2 0 0 _ _ _ 0 256 _ (by omega) (by omega) (by omega) (by omega)
      inb_S1x16x32x512_S1x1x32x128_0_0_0_256 ?_ y
    intro i d
    refine quarter_store _ 2 0 _ _ _ 256 _ (by omega) ?_ i d (by omega)
    exact fun n d => (plane3_apply (plainHead x0 x1 x2 inb_S512x1024_S512x1024_0_0 inb_S1x1024_S1x1024_0_0 5632 256 inb_S1024x8192_S1024x512_0_5632 slices_S512x512_o0_256_S512x128) n d).trans (T2 n d)
  · dsimp only
    refine fold16_store _ 1 3 3 _ _ _ 15 128 _ (by omega) (by omega) (by omega) (by omega)
      inb_S1x16x32x512_S1x1x32x128_0_15_0_128 ?_ y
    intro i d
    refine quarter_store _ 1 3 _ _ _ 128 _ (by omega) ?_ i d (by omega)
    exact fun n d => (plane3_apply (plainHead x0 x1 x2 inb_S512x1024_S512x1024_0_0 inb_S1x1024_S1x1024_0_0 5632 128 inb_S1024x8192_S1024x512_0_5632 slices_S512x512_o0_128_S512x128) n d).trans (T1 n d)
  · dsimp only
    refine fold16_store _ 1 3 2 _ _ _ 11 128 _ (by omega) (by omega) (by omega) (by omega)
      inb_S1x16x32x512_S1x1x32x128_0_11_0_128 ?_ y
    intro i d
    refine quarter_store _ 1 3 _ _ _ 128 _ (by omega) ?_ i d (by omega)
    exact fun n d => (plane3_apply (plainHead x0 x1 x2 inb_S512x1024_S512x1024_0_0 inb_S1x1024_S1x1024_0_0 5632 128 inb_S1024x8192_S1024x512_0_5632 slices_S512x512_o0_128_S512x128) n d).trans (T1 n d)
  · dsimp only
    refine fold16_store _ 1 3 1 _ _ _ 7 128 _ (by omega) (by omega) (by omega) (by omega)
      inb_S1x16x32x512_S1x1x32x128_0_7_0_128 ?_ y
    intro i d
    refine quarter_store _ 1 3 _ _ _ 128 _ (by omega) ?_ i d (by omega)
    exact fun n d => (plane3_apply (plainHead x0 x1 x2 inb_S512x1024_S512x1024_0_0 inb_S1x1024_S1x1024_0_0 5632 128 inb_S1024x8192_S1024x512_0_5632 slices_S512x512_o0_128_S512x128) n d).trans (T1 n d)
  · dsimp only
    refine fold16_store _ 1 3 0 _ _ _ 3 128 _ (by omega) (by omega) (by omega) (by omega)
      inb_S1x16x32x512_S1x1x32x128_0_3_0_128 ?_ y
    intro i d
    refine quarter_store _ 1 3 _ _ _ 128 _ (by omega) ?_ i d (by omega)
    exact fun n d => (plane3_apply (plainHead x0 x1 x2 inb_S512x1024_S512x1024_0_0 inb_S1x1024_S1x1024_0_0 5632 128 inb_S1024x8192_S1024x512_0_5632 slices_S512x512_o0_128_S512x128) n d).trans (T1 n d)
  · dsimp only
    refine fold16_store _ 1 2 3 _ _ _ 14 128 _ (by omega) (by omega) (by omega) (by omega)
      inb_S1x16x32x512_S1x1x32x128_0_14_0_128 ?_ y
    intro i d
    refine quarter_store _ 1 2 _ _ _ 128 _ (by omega) ?_ i d (by omega)
    exact fun n d => (plane3_apply (plainHead x0 x1 x2 inb_S512x1024_S512x1024_0_0 inb_S1x1024_S1x1024_0_0 5632 128 inb_S1024x8192_S1024x512_0_5632 slices_S512x512_o0_128_S512x128) n d).trans (T1 n d)
  · dsimp only
    refine fold16_store _ 1 2 2 _ _ _ 10 128 _ (by omega) (by omega) (by omega) (by omega)
      inb_S1x16x32x512_S1x1x32x128_0_10_0_128 ?_ y
    intro i d
    refine quarter_store _ 1 2 _ _ _ 128 _ (by omega) ?_ i d (by omega)
    exact fun n d => (plane3_apply (plainHead x0 x1 x2 inb_S512x1024_S512x1024_0_0 inb_S1x1024_S1x1024_0_0 5632 128 inb_S1024x8192_S1024x512_0_5632 slices_S512x512_o0_128_S512x128) n d).trans (T1 n d)
  · dsimp only
    refine fold16_store _ 1 2 1 _ _ _ 6 128 _ (by omega) (by omega) (by omega) (by omega)
      inb_S1x16x32x512_S1x1x32x128_0_6_0_128 ?_ y
    intro i d
    refine quarter_store _ 1 2 _ _ _ 128 _ (by omega) ?_ i d (by omega)
    exact fun n d => (plane3_apply (plainHead x0 x1 x2 inb_S512x1024_S512x1024_0_0 inb_S1x1024_S1x1024_0_0 5632 128 inb_S1024x8192_S1024x512_0_5632 slices_S512x512_o0_128_S512x128) n d).trans (T1 n d)
  · dsimp only
    refine fold16_store _ 1 2 0 _ _ _ 2 128 _ (by omega) (by omega) (by omega) (by omega)
      inb_S1x16x32x512_S1x1x32x128_0_2_0_128 ?_ y
    intro i d
    refine quarter_store _ 1 2 _ _ _ 128 _ (by omega) ?_ i d (by omega)
    exact fun n d => (plane3_apply (plainHead x0 x1 x2 inb_S512x1024_S512x1024_0_0 inb_S1x1024_S1x1024_0_0 5632 128 inb_S1024x8192_S1024x512_0_5632 slices_S512x512_o0_128_S512x128) n d).trans (T1 n d)
  · dsimp only
    refine fold16_store _ 1 1 3 _ _ _ 13 128 _ (by omega) (by omega) (by omega) (by omega)
      inb_S1x16x32x512_S1x1x32x128_0_13_0_128 ?_ y
    intro i d
    refine quarter_store _ 1 1 _ _ _ 128 _ (by omega) ?_ i d (by omega)
    exact fun n d => (plane3_apply (plainHead x0 x1 x2 inb_S512x1024_S512x1024_0_0 inb_S1x1024_S1x1024_0_0 5632 128 inb_S1024x8192_S1024x512_0_5632 slices_S512x512_o0_128_S512x128) n d).trans (T1 n d)
  · dsimp only
    refine fold16_store _ 1 1 2 _ _ _ 9 128 _ (by omega) (by omega) (by omega) (by omega)
      inb_S1x16x32x512_S1x1x32x128_0_9_0_128 ?_ y
    intro i d
    refine quarter_store _ 1 1 _ _ _ 128 _ (by omega) ?_ i d (by omega)
    exact fun n d => (plane3_apply (plainHead x0 x1 x2 inb_S512x1024_S512x1024_0_0 inb_S1x1024_S1x1024_0_0 5632 128 inb_S1024x8192_S1024x512_0_5632 slices_S512x512_o0_128_S512x128) n d).trans (T1 n d)
  · dsimp only
    refine fold16_store _ 1 1 1 _ _ _ 5 128 _ (by omega) (by omega) (by omega) (by omega)
      inb_S1x16x32x512_S1x1x32x128_0_5_0_128 ?_ y
    intro i d
    refine quarter_store _ 1 1 _ _ _ 128 _ (by omega) ?_ i d (by omega)
    exact fun n d => (plane3_apply (plainHead x0 x1 x2 inb_S512x1024_S512x1024_0_0 inb_S1x1024_S1x1024_0_0 5632 128 inb_S1024x8192_S1024x512_0_5632 slices_S512x512_o0_128_S512x128) n d).trans (T1 n d)
  · dsimp only
    refine fold16_store _ 1 1 0 _ _ _ 1 128 _ (by omega) (by omega) (by omega) (by omega)
      inb_S1x16x32x512_S1x1x32x128_0_1_0_128 ?_ y
    intro i d
    refine quarter_store _ 1 1 _ _ _ 128 _ (by omega) ?_ i d (by omega)
    exact fun n d => (plane3_apply (plainHead x0 x1 x2 inb_S512x1024_S512x1024_0_0 inb_S1x1024_S1x1024_0_0 5632 128 inb_S1024x8192_S1024x512_0_5632 slices_S512x512_o0_128_S512x128) n d).trans (T1 n d)
  · dsimp only
    refine fold16_store _ 1 0 3 _ _ _ 12 128 _ (by omega) (by omega) (by omega) (by omega)
      inb_S1x16x32x512_S1x1x32x128_0_12_0_128 ?_ y
    intro i d
    refine quarter_store _ 1 0 _ _ _ 128 _ (by omega) ?_ i d (by omega)
    exact fun n d => (plane3_apply (plainHead x0 x1 x2 inb_S512x1024_S512x1024_0_0 inb_S1x1024_S1x1024_0_0 5632 128 inb_S1024x8192_S1024x512_0_5632 slices_S512x512_o0_128_S512x128) n d).trans (T1 n d)
  · dsimp only
    refine fold16_store _ 1 0 2 _ _ _ 8 128 _ (by omega) (by omega) (by omega) (by omega)
      inb_S1x16x32x512_S1x1x32x128_0_8_0_128 ?_ y
    intro i d
    refine quarter_store _ 1 0 _ _ _ 128 _ (by omega) ?_ i d (by omega)
    exact fun n d => (plane3_apply (plainHead x0 x1 x2 inb_S512x1024_S512x1024_0_0 inb_S1x1024_S1x1024_0_0 5632 128 inb_S1024x8192_S1024x512_0_5632 slices_S512x512_o0_128_S512x128) n d).trans (T1 n d)
  · dsimp only
    refine fold16_store _ 1 0 1 _ _ _ 4 128 _ (by omega) (by omega) (by omega) (by omega)
      inb_S1x16x32x512_S1x1x32x128_0_4_0_128 ?_ y
    intro i d
    refine quarter_store _ 1 0 _ _ _ 128 _ (by omega) ?_ i d (by omega)
    exact fun n d => (plane3_apply (plainHead x0 x1 x2 inb_S512x1024_S512x1024_0_0 inb_S1x1024_S1x1024_0_0 5632 128 inb_S1024x8192_S1024x512_0_5632 slices_S512x512_o0_128_S512x128) n d).trans (T1 n d)
  · dsimp only
    refine fold16_store _ 1 0 0 _ _ _ 0 128 _ (by omega) (by omega) (by omega) (by omega)
      inb_S1x16x32x512_S1x1x32x128_0_0_0_128 ?_ y
    intro i d
    refine quarter_store _ 1 0 _ _ _ 128 _ (by omega) ?_ i d (by omega)
    exact fun n d => (plane3_apply (plainHead x0 x1 x2 inb_S512x1024_S512x1024_0_0 inb_S1x1024_S1x1024_0_0 5632 128 inb_S1024x8192_S1024x512_0_5632 slices_S512x512_o0_128_S512x128) n d).trans (T1 n d)
  · dsimp only
    refine fold16_store _ 0 3 3 _ _ _ 15 0 _ (by omega) (by omega) (by omega) (by omega)
      inb_S1x16x32x512_S1x1x32x128_0_15_0_0 ?_ y
    intro i d
    refine quarter_store _ 0 3 _ _ _ 0 _ (by omega) ?_ i d (by omega)
    exact fun n d => (plane3_apply (plainHead x0 x1 x2 inb_S512x1024_S512x1024_0_0 inb_S1x1024_S1x1024_0_0 5632 0 inb_S1024x8192_S1024x512_0_5632 slices_S512x512_o0_0_S512x128) n d).trans (T0 n d)
  · dsimp only
    refine fold16_store _ 0 3 2 _ _ _ 11 0 _ (by omega) (by omega) (by omega) (by omega)
      inb_S1x16x32x512_S1x1x32x128_0_11_0_0 ?_ y
    intro i d
    refine quarter_store _ 0 3 _ _ _ 0 _ (by omega) ?_ i d (by omega)
    exact fun n d => (plane3_apply (plainHead x0 x1 x2 inb_S512x1024_S512x1024_0_0 inb_S1x1024_S1x1024_0_0 5632 0 inb_S1024x8192_S1024x512_0_5632 slices_S512x512_o0_0_S512x128) n d).trans (T0 n d)
  · dsimp only
    refine fold16_store _ 0 3 1 _ _ _ 7 0 _ (by omega) (by omega) (by omega) (by omega)
      inb_S1x16x32x512_S1x1x32x128_0_7_0_0 ?_ y
    intro i d
    refine quarter_store _ 0 3 _ _ _ 0 _ (by omega) ?_ i d (by omega)
    exact fun n d => (plane3_apply (plainHead x0 x1 x2 inb_S512x1024_S512x1024_0_0 inb_S1x1024_S1x1024_0_0 5632 0 inb_S1024x8192_S1024x512_0_5632 slices_S512x512_o0_0_S512x128) n d).trans (T0 n d)
  · dsimp only
    refine fold16_store _ 0 3 0 _ _ _ 3 0 _ (by omega) (by omega) (by omega) (by omega)
      inb_S1x16x32x512_S1x1x32x128_0_3_0_0 ?_ y
    intro i d
    refine quarter_store _ 0 3 _ _ _ 0 _ (by omega) ?_ i d (by omega)
    exact fun n d => (plane3_apply (plainHead x0 x1 x2 inb_S512x1024_S512x1024_0_0 inb_S1x1024_S1x1024_0_0 5632 0 inb_S1024x8192_S1024x512_0_5632 slices_S512x512_o0_0_S512x128) n d).trans (T0 n d)
  · dsimp only
    refine fold16_store _ 0 2 3 _ _ _ 14 0 _ (by omega) (by omega) (by omega) (by omega)
      inb_S1x16x32x512_S1x1x32x128_0_14_0_0 ?_ y
    intro i d
    refine quarter_store _ 0 2 _ _ _ 0 _ (by omega) ?_ i d (by omega)
    exact fun n d => (plane3_apply (plainHead x0 x1 x2 inb_S512x1024_S512x1024_0_0 inb_S1x1024_S1x1024_0_0 5632 0 inb_S1024x8192_S1024x512_0_5632 slices_S512x512_o0_0_S512x128) n d).trans (T0 n d)
  · dsimp only
    refine fold16_store _ 0 2 2 _ _ _ 10 0 _ (by omega) (by omega) (by omega) (by omega)
      inb_S1x16x32x512_S1x1x32x128_0_10_0_0 ?_ y
    intro i d
    refine quarter_store _ 0 2 _ _ _ 0 _ (by omega) ?_ i d (by omega)
    exact fun n d => (plane3_apply (plainHead x0 x1 x2 inb_S512x1024_S512x1024_0_0 inb_S1x1024_S1x1024_0_0 5632 0 inb_S1024x8192_S1024x512_0_5632 slices_S512x512_o0_0_S512x128) n d).trans (T0 n d)
  · dsimp only
    refine fold16_store _ 0 2 1 _ _ _ 6 0 _ (by omega) (by omega) (by omega) (by omega)
      inb_S1x16x32x512_S1x1x32x128_0_6_0_0 ?_ y
    intro i d
    refine quarter_store _ 0 2 _ _ _ 0 _ (by omega) ?_ i d (by omega)
    exact fun n d => (plane3_apply (plainHead x0 x1 x2 inb_S512x1024_S512x1024_0_0 inb_S1x1024_S1x1024_0_0 5632 0 inb_S1024x8192_S1024x512_0_5632 slices_S512x512_o0_0_S512x128) n d).trans (T0 n d)
  · dsimp only
    refine fold16_store _ 0 2 0 _ _ _ 2 0 _ (by omega) (by omega) (by omega) (by omega)
      inb_S1x16x32x512_S1x1x32x128_0_2_0_0 ?_ y
    intro i d
    refine quarter_store _ 0 2 _ _ _ 0 _ (by omega) ?_ i d (by omega)
    exact fun n d => (plane3_apply (plainHead x0 x1 x2 inb_S512x1024_S512x1024_0_0 inb_S1x1024_S1x1024_0_0 5632 0 inb_S1024x8192_S1024x512_0_5632 slices_S512x512_o0_0_S512x128) n d).trans (T0 n d)
  · dsimp only
    refine fold16_store _ 0 1 3 _ _ _ 13 0 _ (by omega) (by omega) (by omega) (by omega)
      inb_S1x16x32x512_S1x1x32x128_0_13_0_0 ?_ y
    intro i d
    refine quarter_store _ 0 1 _ _ _ 0 _ (by omega) ?_ i d (by omega)
    exact fun n d => (plane3_apply (plainHead x0 x1 x2 inb_S512x1024_S512x1024_0_0 inb_S1x1024_S1x1024_0_0 5632 0 inb_S1024x8192_S1024x512_0_5632 slices_S512x512_o0_0_S512x128) n d).trans (T0 n d)
  · dsimp only
    refine fold16_store _ 0 1 2 _ _ _ 9 0 _ (by omega) (by omega) (by omega) (by omega)
      inb_S1x16x32x512_S1x1x32x128_0_9_0_0 ?_ y
    intro i d
    refine quarter_store _ 0 1 _ _ _ 0 _ (by omega) ?_ i d (by omega)
    exact fun n d => (plane3_apply (plainHead x0 x1 x2 inb_S512x1024_S512x1024_0_0 inb_S1x1024_S1x1024_0_0 5632 0 inb_S1024x8192_S1024x512_0_5632 slices_S512x512_o0_0_S512x128) n d).trans (T0 n d)
  · dsimp only
    refine fold16_store _ 0 1 1 _ _ _ 5 0 _ (by omega) (by omega) (by omega) (by omega)
      inb_S1x16x32x512_S1x1x32x128_0_5_0_0 ?_ y
    intro i d
    refine quarter_store _ 0 1 _ _ _ 0 _ (by omega) ?_ i d (by omega)
    exact fun n d => (plane3_apply (plainHead x0 x1 x2 inb_S512x1024_S512x1024_0_0 inb_S1x1024_S1x1024_0_0 5632 0 inb_S1024x8192_S1024x512_0_5632 slices_S512x512_o0_0_S512x128) n d).trans (T0 n d)
  · dsimp only
    refine fold16_store _ 0 1 0 _ _ _ 1 0 _ (by omega) (by omega) (by omega) (by omega)
      inb_S1x16x32x512_S1x1x32x128_0_1_0_0 ?_ y
    intro i d
    refine quarter_store _ 0 1 _ _ _ 0 _ (by omega) ?_ i d (by omega)
    exact fun n d => (plane3_apply (plainHead x0 x1 x2 inb_S512x1024_S512x1024_0_0 inb_S1x1024_S1x1024_0_0 5632 0 inb_S1024x8192_S1024x512_0_5632 slices_S512x512_o0_0_S512x128) n d).trans (T0 n d)
  · dsimp only
    refine fold16_store _ 0 0 3 _ _ _ 12 0 _ (by omega) (by omega) (by omega) (by omega)
      inb_S1x16x32x512_S1x1x32x128_0_12_0_0 ?_ y
    intro i d
    refine quarter_store _ 0 0 _ _ _ 0 _ (by omega) ?_ i d (by omega)
    exact fun n d => (plane3_apply (plainHead x0 x1 x2 inb_S512x1024_S512x1024_0_0 inb_S1x1024_S1x1024_0_0 5632 0 inb_S1024x8192_S1024x512_0_5632 slices_S512x512_o0_0_S512x128) n d).trans (T0 n d)
  · dsimp only
    refine fold16_store _ 0 0 2 _ _ _ 8 0 _ (by omega) (by omega) (by omega) (by omega)
      inb_S1x16x32x512_S1x1x32x128_0_8_0_0 ?_ y
    intro i d
    refine quarter_store _ 0 0 _ _ _ 0 _ (by omega) ?_ i d (by omega)
    exact fun n d => (plane3_apply (plainHead x0 x1 x2 inb_S512x1024_S512x1024_0_0 inb_S1x1024_S1x1024_0_0 5632 0 inb_S1024x8192_S1024x512_0_5632 slices_S512x512_o0_0_S512x128) n d).trans (T0 n d)
  · dsimp only
    refine fold16_store _ 0 0 1 _ _ _ 4 0 _ (by omega) (by omega) (by omega) (by omega)
      inb_S1x16x32x512_S1x1x32x128_0_4_0_0 ?_ y
    intro i d
    refine quarter_store _ 0 0 _ _ _ 0 _ (by omega) ?_ i d (by omega)
    exact fun n d => (plane3_apply (plainHead x0 x1 x2 inb_S512x1024_S512x1024_0_0 inb_S1x1024_S1x1024_0_0 5632 0 inb_S1024x8192_S1024x512_0_5632 slices_S512x512_o0_0_S512x128) n d).trans (T0 n d)
  · dsimp only
    refine fold16_store _ 0 0 0 _ _ _ 0 0 _ (by omega) (by omega) (by omega) (by omega)
      inb_S1x16x32x512_S1x1x32x128_0_0_0_0 ?_ y
    intro i d
    refine quarter_store _ 0 0 _ _ _ 0 _ (by omega) ?_ i d (by omega)
    exact fun n d => (plane3_apply (plainHead x0 x1 x2 inb_S512x1024_S512x1024_0_0 inb_S1x1024_S1x1024_0_0 5632 0 inb_S1024x8192_S1024x512_0_5632 slices_S512x512_o0_0_S512x128) n d).trans (T0 n d)

end Cert.ProjFinal

end
-- ==== Proof.ProjFoldFinal.lean ====
/- What the arrays of the dilated groups hold after the run: the folded blocks of a sequence's four grid points lie one after the other
   in every residue class. -/
module

public import proofs.«01_k».proof.Proof.ProjFinal
public import proofs.«01_k».proof.Proof.ProjFold1
public import proofs.«01_k».proof.Proof.ProjFold2
public import proofs.«01_k».proof.Proof.ProjFold3
public import proofs.«01_k».proof.Proof.ProjFold4

@[expose] public section

noncomputable section

namespace Cert.ProjFinal

open Cert.Kernel3Ideal Cert.Kernel3Ideal.Gen Cert.Kernel3Ideal.Value Cert.Proj Cert.Post Cert.ProjKernel Cert.ProjBlock
open Cert.ProjRef (cosTable sinTable)
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (c : Dev nD)

/-- Where the dilated groups' windows stand: at the sequence and at the quarter of every residue class. -/
theorem fold_facts : ∀ t : Fin cfg0.N,
    (win0_11.index t 0 = t.val / 4 ∧ win0_11.index t 1 = 0 ∧ win0_11.index t 2 = t.val % 4 ∧ win0_11.index t 3 = 0)
    ∧ (win0_12.index t 0 = t.val / 4 ∧ win0_12.index t 1 = 0 ∧ win0_12.index t 2 = t.val % 4 ∧ win0_12.index t 3 = 0)
    ∧ (win0_13.index t 0 = t.val / 4 ∧ win0_13.index t 1 = 0 ∧ win0_13.index t 2 = t.val % 4 ∧ win0_13.index t 3 = 0)
    ∧ (win0_14.index t 0 = t.val / 4 ∧ win0_14.index t 1 = 0 ∧ win0_14.index t 2 = t.val % 4 ∧ win0_14.index t 3 = 0)
    ∧ (win0_15.index t 0 = t.val / 4 ∧ win0_15.index t 1 = 0 ∧ win0_15.index t 2 = t.val % 4 ∧ win0_15.index t 3 = 0)
    ∧ (win0_16.index t 0 = t.val / 4 ∧ win0_16.index t 1 = 0 ∧ win0_16.index t 2 = t.val % 4 ∧ win0_16.index t 3 = 0) := by
  decide +kernel

/-- A block's rows sorted by their residue are a quarter of the residue classes of its sequence. -/
theorem fold4_eq (t : Fin cfg0.N) (B : S512x512.Idx → EReal) (A : Arr2 65536 512)
    (hB : ∀ (r j : Fin 512), B (ix2 r j) = A (ix2 (tok t r) j)) (a : Fin 4) (n : Fin 128) (j : Fin 512) :
    fold4 B (ix4 (0 : Fin 1) a n j)
      = foldArr 4 512 (by omega) A (ix4 (⟨t.val / 4, by have h : t.val < 128 := t.isLt; omega⟩ : Fin 32) a
          (⟨t.val % 4 * 128 + n.val, by have := n.isLt; omega⟩ : Fin 512) j) := by
  have ha : a.val < 4 := a.isLt
  have hn : n.val < 128 := n.isLt
  refine (hB ⟨a.val + 4 * n.val, by omega⟩ j).trans (congrArg A (funext fun d => Fin.ext ?_))
  match d with
  | ⟨0, _⟩ =>
    show t.val * 512 + (a.val + 4 * n.val) = t.val / 4 * 2048 + (a.val + 4 * (t.val % 4 * 128 + n.val))
    omega
  | ⟨1, _⟩ => rfl

/-- A block's rows sorted by their residue are a quarter of the residue classes of its sequence. -/
theorem fold16_eq (t : Fin cfg0.N) (B : S512x512.Idx → EReal) (A : Arr2 65536 512)
    (hB : ∀ (r j : Fin 512), B (ix2 r j) = A (ix2 (tok t r) j)) (a : Fin 16) (n : Fin 32) (j : Fin 512) :
    fold16 B (ix4 (0 : Fin 1) a n j)
      = foldArr 16 128 (by omega) A (ix4 (⟨t.val / 4, by have h : t.val < 128 := t.isLt; omega⟩ : Fin 32) a
          (⟨t.val % 4 * 32 + n.val, by have := n.isLt; omega⟩ : Fin 128) j) := by
  have ha : a.val < 16 := a.isLt
  have hn : n.val < 32 := n.isLt
  refine (hB ⟨a.val + 16 * n.val, by omega⟩ j).trans (congrArg A (funext fun d => Fin.ext ?_))
  match d with
  | ⟨0, _⟩ =>
    show t.val * 512 + (a.val + 16 * n.val) = t.val / 4 * 2048 + (a.val + 16 * (t.val % 4 * 32 + n.val))
    omega
  | ⟨1, _⟩ => rfl

/-- What a point writes back is its block of the first dilated group's queries. -/
theorem flushed_11 (t : Fin cfg0.N) :
    (dats m 0 c).flushed 11 t = ((cfg0.win 11).blk t).view.read (Elt Ideal) (foldArr 4 512 (by omega) (queryArr (argX m c) (argW m c) (argG m c) cosTable sinTable 3072 512 (by omega) (by omega))) := by
  rw [flushed11_A, outs11]
  funext y
  obtain ⟨⟨e0, e1, e2, e3⟩, -⟩ := fold_facts t
  have hy0 : (y 0).val < 1 := (y 0).isLt
  have hy1 : (y 1).val < 4 := (y 1).isLt
  have hy2 : (y 2).val < 128 := (y 2).isLt
  have hy3 : (y 3).val < 512 := (y 3).isLt
  refine Eq.trans (b := fold4 (queryBlk (iblk m c 0 t) (iblk m c 1 t) (iblk m c 2 t) (iblk m c 3 t) (iblk m c 4 t) 3072 512 (by omega) (by omega))
      (ix4 (0 : Fin 1) (⟨(y 1).val, hy1⟩ : Fin 4) (⟨(y 2).val, hy2⟩ : Fin 128) (⟨(y 3).val, hy3⟩ : Fin 512)))
    (congrArg _ (funext fun a => Fin.ext ?_)) ?_
  · match a with
    | ⟨0, _⟩ => show (y 0).val = 0; omega
    | ⟨1, _⟩ => rfl
    | ⟨2, _⟩ => rfl
    | ⟨3, _⟩ => rfl
  · refine (fold4_eq t _ (queryArr (argX m c) (argW m c) (argG m c) cosTable sinTable 3072 512 (by omega) (by omega)) (queryBlk_eq m c 3072 512 (by omega) (by omega) t) _ _ _).trans ?_
    refine congrArg (foldArr 4 512 (by omega) (queryArr (argX m c) (argW m c) (argG m c) cosTable sinTable 3072 512 (by omega) (by omega))) (funext fun a => Fin.ext ?_)
    match a with
    | ⟨0, _⟩ => show t.val / 4 = win0_11.index t 0 * 1 + 1 * (y 0).val; rw [e0]; omega
    | ⟨1, _⟩ => show (y 1).val = win0_11.index t 1 * 4 + 1 * (y 1).val; rw [e1]; omega
    | ⟨2, _⟩ => show t.val % 4 * 128 + (y 2).val = win0_11.index t 2 * 128 + 1 * (y 2).val; rw [e2]; omega
    | ⟨3, _⟩ => show (y 3).val = win0_11.index t 3 * 512 + 1 * (y 3).val; rw [e3]; omega

theorem cover_11 (i : S32x4x512x512.Idx) : ∃ t : Fin cfg0.N, (cfg0.win 11).flush t = true ∧ i ∈ ((cfg0.win 11).blk t).view.set := by
  have h0 : (i 0).val < 32 := (i 0).isLt
  have h1 : (i 1).val < 4 := (i 1).isLt
  have h2 : (i 2).val < 512 := (i 2).isLt
  have h3 : (i 3).val < 512 := (i 3).isLt
  have ht : (i 0).val * 4 + (i 2).val / 128 < cfg0.N := by show (i 0).val * 4 + (i 2).val / 128 < 128; omega
  refine ⟨⟨(i 0).val * 4 + (i 2).val / 128, ht⟩, flush0_11 _, ?_⟩
  obtain ⟨⟨e0, e1, e2, e3⟩, -⟩ := fold_facts (⟨(i 0).val * 4 + (i 2).val / 128, ht⟩ : Fin cfg0.N)
  show i ∈ ((View.whole main_v21_6).slice (win0_11.rect (⟨(i 0).val * 4 + (i 2).val / 128, ht⟩ : Fin cfg0.N))).set
  rw [View.set_slice_whole, Rect.mem_set_unit]
  intro a
  match a with
  | ⟨0, _⟩ =>
    show win0_11.index _ 0 * 1 ≤ (i 0).val ∧ (i 0).val < win0_11.index _ 0 * 1 + 1
    rw [e0]; show ((i 0).val * 4 + (i 2).val / 128) / 4 * 1 ≤ (i 0).val ∧ (i 0).val < ((i 0).val * 4 + (i 2).val / 128) / 4 * 1 + 1; omega
  | ⟨1, _⟩ =>
    show win0_11.index _ 1 * 4 ≤ (i 1).val ∧ (i 1).val < win0_11.index _ 1 * 4 + 4
    rw [e1]; omega
  | ⟨2, _⟩ =>
    show win0_11.index _ 2 * 128 ≤ (i 2).val ∧ (i 2).val < win0_11.index _ 2 * 128 + 128
    rw [e2]; show ((i 0).val * 4 + (i 2).val / 128) % 4 * 128 ≤ (i 2).val ∧ (i 2).val < ((i 0).val * 4 + (i 2).val / 128) % 4 * 128 + 128; omega
  | ⟨3, _⟩ =>
    show win0_11.index _ 3 * 512 ≤ (i 3).val ∧ (i 3).val < win0_11.index _ 3 * 512 + 512
    rw [e3]; omega

/-- After the run: the first dilated group's queries. -/
theorem final_11 : (dats m 0 c).arrAt 11 cfg0.N = foldArr 4 512 (by omega) (queryArr (argX m c) (argW m c) (argG m c) cosTable sinTable 3072 512 (by omega) (by omega)) :=
  (dats m 0 c).arrAt_eq_of_cover 11 _ (fun t _ => flushed_11 m c t) cover_11

/-- What a point writes back is its block of the first dilated group's keys. -/
theorem flushed_12 (t : Fin cfg0.N) :
    (dats m 0 c).flushed 12 t = ((cfg0.win 12).blk t).view.read (Elt Ideal) (foldArr 4 512 (by omega) (keyArr (argX m c) (argW m c) (argG m c) cosTable sinTable 3584 512 (by omega) (by omega))) := by
  rw [flushed12_A, outs12]
  funext y
  obtain ⟨-, ⟨e0, e1, e2, e3⟩, -⟩ := fold_facts t
  have hy0 : (y 0).val < 1 := (y 0).isLt
  have hy1 : (y 1).val < 4 := (y 1).isLt
  have hy2 : (y 2).val < 128 := (y 2).isLt
  have hy3 : (y 3).val < 512 := (y 3).isLt
  refine Eq.trans (b := fold4 (keyBlk (iblk m c 0 t) (iblk m c 1 t) (iblk m c 2 t) (iblk m c 3 t) (iblk m c 4 t) 3584 512 (by omega) (by omega))
      (ix4 (0 : Fin 1) (⟨(y 1).val, hy1⟩ : Fin 4) (⟨(y 2).val, hy2⟩ : Fin 128) (⟨(y 3).val, hy3⟩ : Fin 512)))
    (congrArg _ (funext fun a => Fin.ext ?_)) ?_
  · match a with
    | ⟨0, _⟩ => show (y 0).val = 0; omega
    | ⟨1, _⟩ => rfl
    | ⟨2, _⟩ => rfl
    | ⟨3, _⟩ => rfl
  · refine (fold4_eq t _ (keyArr (argX m c) (argW m c) (argG m c) cosTable sinTable 3584 512 (by omega) (by omega)) (keyBlk_eq m c 3584 512 (by omega) (by omega) t) _ _ _).trans ?_
    refine congrArg (foldArr 4 512 (by omega) (keyArr (argX m c) (argW m c) (argG m c) cosTable sinTable 3584 512 (by omega) (by omega))) (funext fun a => Fin.ext ?_)
    match a with
    | ⟨0, _⟩ => show t.val / 4 = win0_12.index t 0 * 1 + 1 * (y 0).val; rw [e0]; omega
    | ⟨1, _⟩ => show (y 1).val = win0_12.index t 1 * 4 + 1 * (y 1).val; rw [e1]; omega
    | ⟨2, _⟩ => show t.val % 4 * 128 + (y 2).val = win0_12.index t 2 * 128 + 1 * (y 2).val; rw [e2]; omega
    | ⟨3, _⟩ => show (y 3).val = win0_12.index t 3 * 512 + 1 * (y 3).val; rw [e3]; omega

theorem cover_12 (i : S32x4x512x512.Idx) : ∃ t : Fin cfg0.N, (cfg0.win 12).flush t = true ∧ i ∈ ((cfg0.win 12).blk t).view.set := by
  have h0 : (i 0).val < 32 := (i 0).isLt
  have h1 : (i 1).val < 4 := (i 1).isLt
  have h2 : (i 2).val < 512 := (i 2).isLt
  have h3 : (i 3).val < 512 := (i 3).isLt
  have ht : (i 0).val * 4 + (i 2).val / 128 < cfg0.N := by show (i 0).val * 4 + (i 2).val / 128 < 128; omega
  refine ⟨⟨(i 0).val * 4 + (i 2).val / 128, ht⟩, flush0_12 _, ?_⟩
  obtain ⟨-, ⟨e0, e1, e2, e3⟩, -⟩ := fold_facts (⟨(i 0).val * 4 + (i 2).val / 128, ht⟩ : Fin cfg0.N)
  show i ∈ ((View.whole main_v21_7).slice (win0_12.rect (⟨(i 0).val * 4 + (i 2).val / 128, ht⟩ : Fin cfg0.N))).set
  rw [View.set_slice_whole, Rect.mem_set_unit]
  intro a
  match a with
  | ⟨0, _⟩ =>
    show win0_12.index _ 0 * 1 ≤ (i 0).val ∧ (i 0).val < win0_12.index _ 0 * 1 + 1
    rw [e0]; show ((i 0).val * 4 + (i 2).val / 128) / 4 * 1 ≤ (i 0).val ∧ (i 0).val < ((i 0).val * 4 + (i 2).val / 128) / 4 * 1 + 1; omega
  | ⟨1, _⟩ =>
    show win0_12.index _ 1 * 4 ≤ (i 1).val ∧ (i 1).val < win0_12.index _ 1 * 4 + 4
    rw [e1]; omega
  | ⟨2, _⟩ =>
    show win0_12.index _ 2 * 128 ≤ (i 2).val ∧ (i 2).val < win0_12.index _ 2 * 128 + 128
    rw [e2]; show ((i 0).val * 4 + (i 2).val / 128) % 4 * 128 ≤ (i 2).val ∧ (i 2).val < ((i 0).val * 4 + (i 2).val / 128) % 4 * 128 + 128; omega
  | ⟨3, _⟩ =>
    show win0_12.index _ 3 * 512 ≤ (i 3).val ∧ (i 3).val < win0_12.index _ 3 * 512 + 512
    rw [e3]; omega

/-- After the run: the first dilated group's keys. -/
theorem final_12 : (dats m 0 c).arrAt 12 cfg0.N = foldArr 4 512 (by omega) (keyArr (argX m c) (argW m c) (argG m c) cosTable sinTable 3584 512 (by omega) (by omega)) :=
  (dats m 0 c).arrAt_eq_of_cover 12 _ (fun t _ => flushed_12 m c t) cover_12

/-- What a point writes back is its block of the first dilated group's values. -/
theorem flushed_13 (t : Fin cfg0.N) :
    (dats m 0 c).flushed 13 t = ((cfg0.win 13).blk t).view.read (Elt Ideal) (foldArr 4 512 (by omega) (plainArr (argX m c) (argW m c) (argG m c) 4096 512 (by omega))) := by
  rw [flushed13_A, outs13]
  funext y
  obtain ⟨-, -, ⟨e0, e1, e2, e3⟩, -⟩ := fold_facts t
  have hy0 : (y 0).val < 1 := (y 0).isLt
  have hy1 : (y 1).val < 4 := (y 1).isLt
  have hy2 : (y 2).val < 128 := (y 2).isLt
  have hy3 : (y 3).val < 512 := (y 3).isLt
  refine Eq.trans (b := fold4 (plainBlk (iblk m c 0 t) (iblk m c 1 t) (iblk m c 2 t) 4096 512 (by omega))
      (ix4 (0 : Fin 1) (⟨(y 1).val, hy1⟩ : Fin 4) (⟨(y 2).val, hy2⟩ : Fin 128) (⟨(y 3).val, hy3⟩ : Fin 512)))
    (congrArg _ (funext fun a => Fin.ext ?_)) ?_
  · match a with
    | ⟨0, _⟩ => show (y 0).val = 0; omega
    | ⟨1, _⟩ => rfl
    | ⟨2, _⟩ => rfl
    | ⟨3, _⟩ => rfl
  · refine (fold4_eq t _ (plainArr (argX m c) (argW m c) (argG m c) 4096 512 (by omega)) (plainBlk_eq m c 4096 512 (by omega) t) _ _ _).trans ?_
    refine congrArg (foldArr 4 512 (by omega) (plainArr (argX m c) (argW m c) (argG m c) 4096 512 (by omega))) (funext fun a => Fin.ext ?_)
    match a with
    | ⟨0, _⟩ => show t.val / 4 = win0_13.index t 0 * 1 + 1 * (y 0).val; rw [e0]; omega
    | ⟨1, _⟩ => show (y 1).val = win0_13.index t 1 * 4 + 1 * (y 1).val; rw [e1]; omega
    | ⟨2, _⟩ => show t.val % 4 * 128 + (y 2).val = win0_13.index t 2 * 128 + 1 * (y 2).val; rw [e2]; omega
    | ⟨3, _⟩ => show (y 3).val = win0_13.index t 3 * 512 + 1 * (y 3).val; rw [e3]; omega

theorem cover_13 (i : S32x4x512x512.Idx) : ∃ t : Fin cfg0.N, (cfg0.win 13).flush t = true ∧ i ∈ ((cfg0.win 13).blk t).view.set := by
  have h0 : (i 0).val < 32 := (i 0).isLt
  have h1 : (i 1).val < 4 := (i 1).isLt
  have h2 : (i 2).val < 512 := (i 2).isLt
  have h3 : (i 3).val < 512 := (i 3).isLt
  have ht : (i 0).val * 4 + (i 2).val / 128 < cfg0.N := by show (i 0).val * 4 + (i 2).val / 128 < 128; omega
  refine ⟨⟨(i 0).val * 4 + (i 2).val / 128, ht⟩, flush0_13 _, ?_⟩
  obtain ⟨-, -, ⟨e0, e1, e2, e3⟩, -⟩ := fold_facts (⟨(i 0).val * 4 + (i 2).val / 128, ht⟩ : Fin cfg0.N)
  show i ∈ ((View.whole main_v21_8).slice (win0_13.rect (⟨(i 0).val * 4 + (i 2).val / 128, ht⟩ : Fin cfg0.N))).set
  rw [View.set_slice_whole, Rect.mem_set_unit]
  intro a
  match a with
  | ⟨0, _⟩ =>
    show win0_13.index _ 0 * 1 ≤ (i 0).val ∧ (i 0).val < win0_13.index _ 0 * 1 + 1
    rw [e0]; show ((i 0).val * 4 + (i 2).val / 128) / 4 * 1 ≤ (i 0).val ∧ (i 0).val < ((i 0).val * 4 + (i 2).val / 128) / 4 * 1 + 1; omega
  | ⟨1, _⟩ =>
    show win0_13.index _ 1 * 4 ≤ (i 1).val ∧ (i 1).val < win0_13.index _ 1 * 4 + 4
    rw [e1]; omega
  | ⟨2, _⟩ =>
    show win0_13.index _ 2 * 128 ≤ (i 2).val ∧ (i 2).val < win0_13.index _ 2 * 128 + 128
    rw [e2]; show ((i 0).val * 4 + (i 2).val / 128) % 4 * 128 ≤ (i 2).val ∧ (i 2).val < ((i 0).val * 4 + (i 2).val / 128) % 4 * 128 + 128; omega
  | ⟨3, _⟩ =>
    show win0_13.index _ 3 * 512 ≤ (i 3).val ∧ (i 3).val < win0_13.index _ 3 * 512 + 512
    rw [e3]; omega

/-- After the run: the first dilated group's values. -/
theorem final_13 : (dats m 0 c).arrAt 13 cfg0.N = foldArr 4 512 (by omega) (plainArr (argX m c) (argW m c) (argG m c) 4096 512 (by omega)) :=
  (dats m 0 c).arrAt_eq_of_cover 13 _ (fun t _ => flushed_13 m c t) cover_13

/-- What a point writes back is its block of the second dilated group's queries. -/
theorem flushed_14 (t : Fin cfg0.N) :
    (dats m 0 c).flushed 14 t = ((cfg0.win 14).blk t).view.read (Elt Ideal) (foldArr 16 128 (by omega) (queryArr (argX m c) (argW m c) (argG m c) cosTable sinTable 4608 512 (by omega) (by omega))) := by
  rw [flushed14_A, outs14]
  funext y
  obtain ⟨-, -, -, ⟨e0, e1, e2, e3⟩, -⟩ := fold_facts t
  have hy0 : (y 0).val < 1 := (y 0).isLt
  have hy1 : (y 1).val < 16 := (y 1).isLt
  have hy2 : (y 2).val < 32 := (y 2).isLt
  have hy3 : (y 3).val < 512 := (y 3).isLt
  refine Eq.trans (b := fold16 (queryBlk (iblk m c 0 t) (iblk m c 1 t) (iblk m c 2 t) (iblk m c 3 t) (iblk m c 4 t) 4608 512 (by omega) (by omega))
      (ix4 (0 : Fin 1) (⟨(y 1).val, hy1⟩ : Fin 16) (⟨(y 2).val, hy2⟩ : Fin 32) (⟨(y 3).val, hy3⟩ : Fin 512)))
    (congrArg _ (funext fun a => Fin.ext ?_)) ?_
  · match a with
    | ⟨0, _⟩ => show (y 0).val = 0; omega
    | ⟨1, _⟩ => rfl
    | ⟨2, _⟩ => rfl
    | ⟨3, _⟩ => rfl
  · refine (fold16_eq t _ (queryArr (argX m c) (argW m c) (argG m c) cosTable sinTable 4608 512 (by omega) (by omega)) (queryBlk_eq m c 4608 512 (by omega) (by omega) t) _ _ _).trans ?_
    refine congrArg (foldArr 16 128 (by omega) (queryArr (argX m c) (argW m c) (argG m c) cosTable sinTable 4608 512 (by omega) (by omega))) (funext fun a => Fin.ext ?_)
    match a with
    | ⟨0, _⟩ => show t.val / 4 = win0_14.index t 0 * 1 + 1 * (y 0).val; rw [e0]; omega
    | ⟨1, _⟩ => show (y 1).val = win0_14.index t 1 * 16 + 1 * (y 1).val; rw [e1]; omega
    | ⟨2, _⟩ => show t.val % 4 * 32 + (y 2).val = win0_14.index t 2 * 32 + 1 * (y 2).val; rw [e2]; omega
    | ⟨3, _⟩ => show (y 3).val = win0_14.index t 3 * 512 + 1 * (y 3).val; rw [e3]; omega

theorem cover_14 (i : S32x16x128x512.Idx) : ∃ t : Fin cfg0.N, (cfg0.win 14).flush t = true ∧ i ∈ ((cfg0.win 14).blk t).view.set := by
  have h0 : (i 0).val < 32 := (i 0).isLt
  have h1 : (i 1).val < 16 := (i 1).isLt
  have h2 : (i 2).val < 128 := (i 2).isLt
  have h3 : (i 3).val < 512 := (i 3).isLt
  have ht : (i 0).val * 4 + (i 2).val / 32 < cfg0.N := by show (i 0).val * 4 + (i 2).val / 32 < 128; omega
  refine ⟨⟨(i 0).val * 4 + (i 2).val / 32, ht⟩, flush0_14 _, ?_⟩
  obtain ⟨-, -, -, ⟨e0, e1, e2, e3⟩, -⟩ := fold_facts (⟨(i 0).val * 4 + (i 2).val / 32, ht⟩ : Fin cfg0.N)
  show i ∈ ((View.whole main_v21_9).slice (win0_14.rect (⟨(i 0).val * 4 + (i 2).val / 32, ht⟩ : Fin cfg0.N))).set
  rw [View.set_slice_whole, Rect.mem_set_unit]
  intro a
  match a with
  | ⟨0, _⟩ =>
    show win0_14.index _ 0 * 1 ≤ (i 0).val ∧ (i 0).val < win0_14.index _ 0 * 1 + 1
    rw [e0]; show ((i 0).val * 4 + (i 2).val / 32) / 4 * 1 ≤ (i 0).val ∧ (i 0).val < ((i 0).val * 4 + (i 2).val / 32) / 4 * 1 + 1; omega
  | ⟨1, _⟩ =>
    show win0_14.index _ 1 * 16 ≤ (i 1).val ∧ (i 1).val < win0_14.index _ 1 * 16 + 16
    rw [e1]; omega
  | ⟨2, _⟩ =>
    show win0_14.index _ 2 * 32 ≤ (i 2).val ∧ (i 2).val < win0_14.index _ 2 * 32 + 32
    rw [e2]; show ((i 0).val * 4 + (i 2).val / 32) % 4 * 32 ≤ (i 2).val ∧ (i 2).val < ((i 0).val * 4 + (i 2).val / 32) % 4 * 32 + 32; omega
  | ⟨3, _⟩ =>
    show win0_14.index _ 3 * 512 ≤ (i 3).val ∧ (i 3).val < win0_14.index _ 3 * 512 + 512
    rw [e3]; omega

/-- After the run: the second dilated group's queries. -/
theorem final_14 : (dats m 0 c).arrAt 14 cfg0.N = foldArr 16 128 (by omega) (queryArr (argX m c) (argW m c) (argG m c) cosTable sinTable 4608 512 (by omega) (by omega)) :=
  (dats m 0 c).arrAt_eq_of_cover 14 _ (fun t _ => flushed_14 m c t) cover_14

/-- What a point writes back is its block of the second dilated group's keys. -/
theorem flushed_15 (t : Fin cfg0.N) :
    (dats m 0 c).flushed 15 t = ((cfg0.win 15).blk t).view.read (Elt Ideal) (foldArr 16 128 (by omega) (keyArr (argX m c) (argW m c) (argG m c) cosTable sinTable 5120 512 (by omega) (by omega))) := by
  rw [flushed15_A, outs15]
  funext y
  obtain ⟨-, -, -, -, ⟨e0, e1, e2, e3⟩, -⟩ := fold_facts t
  have hy0 : (y 0).val < 1 := (y 0).isLt
  have hy1 : (y 1).val < 16 := (y 1).isLt
  have hy2 : (y 2).val < 32 := (y 2).isLt
  have hy3 : (y 3).val < 512 := (y 3).isLt
  refine Eq.trans (b := fold16 (keyBlk (iblk m c 0 t) (iblk m c 1 t) (iblk m c 2 t) (iblk m c 3 t) (iblk m c 4 t) 5120 512 (by omega) (by omega))
      (ix4 (0 : Fin 1) (⟨(y 1).val, hy1⟩ : Fin 16) (⟨(y 2).val, hy2⟩ : Fin 32) (⟨(y 3).val, hy3⟩ : Fin 512)))
    (congrArg _ (funext fun a => Fin.ext ?_)) ?_
  · match a with
    | ⟨0, _⟩ => show (y 0).val = 0; omega
    | ⟨1, _⟩ => rfl
    | ⟨2, _⟩ => rfl
    | ⟨3, _⟩ => rfl
  · refine (fold16_eq t _ (keyArr (argX m c) (argW m c) (argG m c) cosTable sinTable 5120 512 (by omega) (by omega)) (keyBlk_eq m c 5120 512 (by omega) (by omega) t) _ _ _).trans ?_
    refine congrArg (foldArr 16 128 (by omega) (keyArr (argX m c) (argW m c) (argG m c) cosTable sinTable 5120 512 (by omega) (by omega))) (funext fun a => Fin.ext ?_)
    match a with
    | ⟨0, _⟩ => show t.val / 4 = win0_15.index t 0 * 1 + 1 * (y 0).val; rw [e0]; omega
    | ⟨1, _⟩ => show (y 1).val = win0_15.index t 1 * 16 + 1 * (y 1).val; rw [e1]; omega
    | ⟨2, _⟩ => show t.val % 4 * 32 + (y 2).val = win0_15.index t 2 * 32 + 1 * (y 2).val; rw [e2]; omega
    | ⟨3, _⟩ => show (y 3).val = win0_15.index t 3 * 512 + 1 * (y 3).val; rw [e3]; omega

theorem cover_15 (i : S32x16x128x512.Idx) : ∃ t : Fin cfg0.N, (cfg0.win 15).flush t = true ∧ i ∈ ((cfg0.win 15).blk t).view.set := by
  have h0 : (i 0).val < 32 := (i 0).isLt
  have h1 : (i 1).val < 16 := (i 1).isLt
  have h2 : (i 2).val < 128 := (i 2).isLt
  have h3 : (i 3).val < 512 := (i 3).isLt
  have ht : (i 0).val * 4 + (i 2).val / 32 < cfg0.N := by show (i 0).val * 4 + (i 2).val / 32 < 128; omega
  refine ⟨⟨(i 0).val * 4 + (i 2).val / 32, ht⟩, flush0_15 _, ?_⟩
  obtain ⟨-, -, -, -, ⟨e0, e1, e2, e3⟩, -⟩ := fold_facts (⟨(i 0).val * 4 + (i 2).val / 32, ht⟩ : Fin cfg0.N)
  show i ∈ ((View.whole main_v21_10).slice (win0_15.rect (⟨(i 0).val * 4 + (i 2).val / 32, ht⟩ : Fin cfg0.N))).set
  rw [View.set_slice_whole, Rect.mem_set_unit]
  intro a
  match a with
  | ⟨0, _⟩ =>
    show win0_15.index _ 0 * 1 ≤ (i 0).val ∧ (i 0).val < win0_15.index _ 0 * 1 + 1
    rw [e0]; show ((i 0).val * 4 + (i 2).val / 32) / 4 * 1 ≤ (i 0).val ∧ (i 0).val < ((i 0).val * 4 + (i 2).val / 32) / 4 * 1 + 1; omega
  | ⟨1, _⟩ =>
    show win0_15.index _ 1 * 16 ≤ (i 1).val ∧ (i 1).val < win0_15.index _ 1 * 16 + 16
    rw [e1]; omega
  | ⟨2, _⟩ =>
    show win0_15.index _ 2 * 32 ≤ (i 2).val ∧ (i 2).val < win0_15.index _ 2 * 32 + 32
    rw [e2]; show ((i 0).val * 4 + (i 2).val / 32) % 4 * 32 ≤ (i 2).val ∧ (i 2).val < ((i 0).val * 4 + (i 2).val / 32) % 4 * 32 + 32; omega
  | ⟨3, _⟩ =>
    show win0_15.index _ 3 * 512 ≤ (i 3).val ∧ (i 3).val < win0_15.index _ 3 * 512 + 512
    rw [e3]; omega

/-- After the run: the second dilated group's keys. -/
theorem final_15 : (dats m 0 c).arrAt 15 cfg0.N = foldArr 16 128 (by omega) (keyArr (argX m c) (argW m c) (argG m c) cosTable sinTable 5120 512 (by omega) (by omega)) :=
  (dats m 0 c).arrAt_eq_of_cover 15 _ (fun t _ => flushed_15 m c t) cover_15

/-- What a point writes back is its block of the second dilated group's values. -/
theorem flushed_16 (t : Fin cfg0.N) :
    (dats m 0 c).flushed 16 t = ((cfg0.win 16).blk t).view.read (Elt Ideal) (foldArr 16 128 (by omega) (plainArr (argX m c) (argW m c) (argG m c) 5632 512 (by omega))) := by
  rw [flushed16_A, outs16]
  funext y
  obtain ⟨-, -, -, -, -, ⟨e0, e1, e2, e3⟩⟩ := fold_facts t
  have hy0 : (y 0).val < 1 := (y 0).isLt
  have hy1 : (y 1).val < 16 := (y 1).isLt
  have hy2 : (y 2).val < 32 := (y 2).isLt
  have hy3 : (y 3).val < 512 := (y 3).isLt
  refine Eq.trans (b := fold16 (plainBlk (iblk m c 0 t) (iblk m c 1 t) (iblk m c 2 t) 5632 512 (by omega))
      (ix4 (0 : Fin 1) (⟨(y 1).val, hy1⟩ : Fin 16) (⟨(y 2).val, hy2⟩ : Fin 32) (⟨(y 3).val, hy3⟩ : Fin 512)))
    (congrArg _ (funext fun a => Fin.ext ?_)) ?_
  · match a with
    | ⟨0, _⟩ => show (y 0).val = 0; omega
    | ⟨1, _⟩ => rfl
    | ⟨2, _⟩ => rfl
    | ⟨3, _⟩ => rfl
  · refine (fold16_eq t _ (plainArr (argX m c) (argW m c) (argG m c) 5632 512 (by omega)) (plainBlk_eq m c 5632 512 (by omega) t) _ _ _).trans ?_
    refine congrArg (foldArr 16 128 (by omega) (plainArr (argX m c) (argW m c) (argG m c) 5632 512 (by omega))) (funext fun a => Fin.ext ?_)
    match a with
    | ⟨0, _⟩ => show t.val / 4 = win0_16.index t 0 * 1 + 1 * (y 0).val; rw [e0]; omega
    | ⟨1, _⟩ => show (y 1).val = win0_16.index t 1 * 16 + 1 * (y 1).val; rw [e1]; omega
    | ⟨2, _⟩ => show t.val % 4 * 32 + (y 2).val = win0_16.index t 2 * 32 + 1 * (y 2).val; rw [e2]; omega
    | ⟨3, _⟩ => show (y 3).val = win0_16.index t 3 * 512 + 1 * (y 3).val; rw [e3]; omega

theorem cover_16 (i : S32x16x128x512.Idx) : ∃ t : Fin cfg0.N, (cfg0.win 16).flush t = true ∧ i ∈ ((cfg0.win 16).blk t).view.set := by
  have h0 : (i 0).val < 32 := (i 0).isLt
  have h1 : (i 1).val < 16 := (i 1).isLt
  have h2 : (i 2).val < 128 := (i 2).isLt
  have h3 : (i 3).val < 512 := (i 3).isLt
  have ht : (i 0).val * 4 + (i 2).val / 32 < cfg0.N := by show (i 0).val * 4 + (i 2).val / 32 < 128; omega
  refine ⟨⟨(i 0).val * 4 + (i 2).val / 32, ht⟩, flush0_16 _, ?_⟩
  obtain ⟨-, -, -, -, -, ⟨e0, e1, e2, e3⟩⟩ := fold_facts (⟨(i 0).val * 4 + (i 2).val / 32, ht⟩ : Fin cfg0.N)
  show i ∈ ((View.whole main_v21_11).slice (win0_16.rect (⟨(i 0).val * 4 + (i 2).val / 32, ht⟩ : Fin cfg0.N))).set
  rw [View.set_slice_whole, Rect.mem_set_unit]
  intro a
  match a with
  | ⟨0, _⟩ =>
    show win0_16.index _ 0 * 1 ≤ (i 0).val ∧ (i 0).val < win0_16.index _ 0 * 1 + 1
    rw [e0]; show ((i 0).val * 4 + (i 2).val / 32) / 4 * 1 ≤ (i 0).val ∧ (i 0).val < ((i 0).val * 4 + (i 2).val / 32) / 4 * 1 + 1; omega
  | ⟨1, _⟩ =>
    show win0_16.index _ 1 * 16 ≤ (i 1).val ∧ (i 1).val < win0_16.index _ 1 * 16 + 16
    rw [e1]; omega
  | ⟨2, _⟩ =>
    show win0_16.index _ 2 * 32 ≤ (i 2).val ∧ (i 2).val < win0_16.index _ 2 * 32 + 32
    rw [e2]; show ((i 0).val * 4 + (i 2).val / 32) % 4 * 32 ≤ (i 2).val ∧ (i 2).val < ((i 0).val * 4 + (i 2).val / 32) % 4 * 32 + 32; omega
  | ⟨3, _⟩ =>
    show win0_16.index _ 3 * 512 ≤ (i 3).val ∧ (i 3).val < win0_16.index _ 3 * 512 + 512
    rw [e3]; omega

/-- After the run: the second dilated group's values. -/
theorem final_16 : (dats m 0 c).arrAt 16 cfg0.N = foldArr 16 128 (by omega) (plainArr (argX m c) (argW m c) (argG m c) 5632 512 (by omega)) :=
  (dats m 0 c).arrAt_eq_of_cover 16 _ (fun t _ => flushed_16 m c t) cover_16

end Cert.ProjFinal

end
-- ==== Proof.ProjClaim.lean ====
/- The input part's claims: the kernel and the reference run from any memory, leave their arguments and the semaphores as they
   were, and end with the same arrays. -/
module

public import proofs.«01_k».proof.Defs
public import proofs.«01_k».proof.Proof.ProjFoldFinal
public import proofs.«01_k».proof.Proof.Gen.Kernel3.Frame

@[expose] public section

noncomputable section

namespace Cert.ProjClaim

open Idealize.ShloMosaic Idealize.ShloMosaic.TcCoe Idealize.SL.Sem

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => ((h c).2.2.2.2.2.2.2.2.2.2.2.2.2), sem_eq_zero_of_no_sems (by decide) r.2⟩)
    (Cert.Reference3Ideal.Value.run (F := Ideal) m ρ)
theorem preserves : Cert.preserves_Kernel3_Kernel3Ideal :=
  IdealRules.named_const.statement Cert.Kernel3Ideal.κ "q_scale" .f32 0x3E0293EE#32 (((Real.sqrt 128)⁻¹ * (Real.log 2)⁻¹ : ℝ) : EReal) rfl

/-- THE EQUATION: kernel and reference end with the same arrays. -/
theorem equal : Cert.algebraic_Kernel3Ideal_Reference3Ideal := by
  intro m ρ m' ρ' _ hag
  refine ⟨fun c => Cert.Proj.queryArr (Cert.ProjFinal.argX m c) (Cert.ProjFinal.argW m c) (Cert.ProjFinal.argG m c) Cert.ProjRef.cosTable Cert.ProjRef.sinTable 0 1024 (by omega) (by omega),
    fun c => Cert.Proj.keyArr (Cert.ProjFinal.argX m c) (Cert.ProjFinal.argW m c) (Cert.ProjFinal.argG m c) Cert.ProjRef.cosTable Cert.ProjRef.sinTable 1024 256 (by omega) (by omega),
    fun c => Cert.Proj.valueArr (Cert.ProjFinal.argX m c) (Cert.ProjFinal.argW m c) (Cert.ProjFinal.argG m c),
    fun c => Cert.Proj.queryArr (Cert.ProjFinal.argX m c) (Cert.ProjFinal.argW m c) (Cert.ProjFinal.argG m c) Cert.ProjRef.cosTable Cert.ProjRef.sinTable 1536 512 (by omega) (by omega),
    fun c => Cert.Proj.keyArr (Cert.ProjFinal.argX m c) (Cert.ProjFinal.argW m c) (Cert.ProjFinal.argG m c) Cert.ProjRef.cosTable Cert.ProjRef.sinTable 2048 512 (by omega) (by omega),
    fun c => Cert.Proj.plainArr (Cert.ProjFinal.argX m c) (Cert.ProjFinal.argW m c) (Cert.ProjFinal.argG m c) 2560 512 (by omega),
    fun c => Cert.Proj.foldArr 4 512 (by omega) (Cert.Proj.queryArr (Cert.ProjFinal.argX m c) (Cert.ProjFinal.argW m c) (Cert.ProjFinal.argG m c) Cert.ProjRef.cosTable Cert.ProjRef.sinTable 3072 512 (by omega) (by omega)),
    fun c => Cert.Proj.foldArr 4 512 (by omega) (Cert.Proj.keyArr (Cert.ProjFinal.argX m c) (Cert.ProjFinal.argW m c) (Cert.ProjFinal.argG m c) Cert.ProjRef.cosTable Cert.ProjRef.sinTable 3584 512 (by omega) (by omega)),
    fun c => Cert.Proj.foldArr 4 512 (by omega) (Cert.Proj.plainArr (Cert.ProjFinal.argX m c) (Cert.ProjFinal.argW m c) (Cert.ProjFinal.argG m c) 4096 512 (by omega)),
    fun c => Cert.Proj.foldArr 16 128 (by omega) (Cert.Proj.queryArr (Cert.ProjFinal.argX m c) (Cert.ProjFinal.argW m c) (Cert.ProjFinal.argG m c) Cert.ProjRef.cosTable Cert.ProjRef.sinTable 4608 512 (by omega) (by omega)),
    fun c => Cert.Proj.foldArr 16 128 (by omega) (Cert.Proj.keyArr (Cert.ProjFinal.argX m c) (Cert.ProjFinal.argW m c) (Cert.ProjFinal.argG m c) Cert.ProjRef.cosTable Cert.ProjRef.sinTable 5120 512 (by omega) (by omega)),
    fun c => Cert.Proj.foldArr 16 128 (by omega) (Cert.Proj.plainArr (Cert.ProjFinal.argX m c) (Cert.ProjFinal.argW m c) (Cert.ProjFinal.argG m c) 5632 512 (by omega)),
    fun c => Cert.Proj.plainArr (Cert.ProjFinal.argX m c) (Cert.ProjFinal.argW m c) (Cert.ProjFinal.argG m c) 6144 2048 (by omega),
    (θ_run _ _ _).mono (fun _ h c => ⟨((h c).1).trans (Cert.ProjFinal.final_5 m c),
      ((h c).2.1).trans (Cert.ProjFinal.final_6 m c),
      ((h c).2.2.1).trans (Cert.ProjFinal.final_7 m c),
      ((h c).2.2.2.1).trans (Cert.ProjFinal.final_8 m c),
      ((h c).2.2.2.2.1).trans (Cert.ProjFinal.final_9 m c),
      ((h c).2.2.2.2.2.1).trans (Cert.ProjFinal.final_10 m c),
      ((h c).2.2.2.2.2.2.1).trans (Cert.ProjFinal.final_11 m c),
      ((h c).2.2.2.2.2.2.2.1).trans (Cert.ProjFinal.final_12 m c),
      ((h c).2.2.2.2.2.2.2.2.1).trans (Cert.ProjFinal.final_13 m c),
      ((h c).2.2.2.2.2.2.2.2.2.1).trans (Cert.ProjFinal.final_14 m c),
      ((h c).2.2.2.2.2.2.2.2.2.2.1).trans (Cert.ProjFinal.final_15 m c),
      ((h c).2.2.2.2.2.2.2.2.2.2.2.1).trans (Cert.ProjFinal.final_16 m c),
      ((h c).2.2.2.2.2.2.2.2.2.2.2.2.1).trans (Cert.ProjFinal.final_17 m c),
      (h c).2.2.2.2.2.2.2.2.2.2.2.2.2⟩) (Cert.Kernel3Ideal.Value.run_blocks m ρ),
    (θ_run _ _ _).mono (fun _ h c => ⟨((h c).1).trans ?_,
      ((h c).2.1).trans ?_,
      ((h c).2.2.1).trans ?_,
      ((h c).2.2.2.1).trans ?_,
      ((h c).2.2.2.2.1).trans ?_,
      ((h c).2.2.2.2.2.1).trans ?_,
      ((h c).2.2.2.2.2.2.1).trans ?_,
      ((h c).2.2.2.2.2.2.2.1).trans ?_,
      ((h c).2.2.2.2.2.2.2.2.1).trans ?_,
      ((h c).2.2.2.2.2.2.2.2.2.1).trans ?_,
      ((h c).2.2.2.2.2.2.2.2.2.2.1).trans ?_,
      ((h c).2.2.2.2.2.2.2.2.2.2.2.1).trans ?_,
      ((h c).2.2.2.2.2.2.2.2.2.2.2.2.1).trans ?_,
      (h c).2.2.2.2.2.2.2.2.2.2.2.2.2⟩) (Cert.Reference3Ideal.Value.run m' ρ')⟩
  all_goals obtain ⟨h0, h1, h2⟩ := hag c
  · rw [Cert.Reference3Ideal.Read.val_main_v207_eq]
    show Cert.Reference3Ideal.Read.val_main_v207 (F := Ideal) (m' ((c : Thread Cert.Reference3Ideal.nD Cert.Reference3Ideal.τ).loc Cert.Reference3Ideal.main_arg0))
      (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2)) = _
    rw [h0, h1, h2]
    exact Cert.ProjRef.qa_eq _ _ _
  · rw [Cert.Reference3Ideal.Read.val_main_v208_eq]
    show Cert.Reference3Ideal.Read.val_main_v208 (F := Ideal) (m' ((c : Thread Cert.Reference3Ideal.nD Cert.Reference3Ideal.τ).loc Cert.Reference3Ideal.main_arg0))
      (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2)) = _
    rw [h0, h1, h2]
    exact Cert.ProjRef.ka_eq _ _ _
  · rw [Cert.Reference3Ideal.Read.val_main_v209_eq]
    show Cert.Reference3Ideal.Read.val_main_v209 (F := Ideal) (m' ((c : Thread Cert.Reference3Ideal.nD Cert.Reference3Ideal.τ).loc Cert.Reference3Ideal.main_arg0))
      (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2)) = _
    rw [h0, h1, h2]
    exact Cert.ProjRef.va_eq _ _ _
  · rw [Cert.Reference3Ideal.Read.val_main_v210_eq]
    show Cert.Reference3Ideal.Read.val_main_v210 (F := Ideal) (m' ((c : Thread Cert.Reference3Ideal.nD Cert.Reference3Ideal.τ).loc Cert.Reference3Ideal.main_arg0))
      (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2)) = _
    rw [h0, h1, h2]
    exact Cert.ProjRef.q0_eq _ _ _
  · rw [Cert.Reference3Ideal.Read.val_main_v211_eq]
    show Cert.Reference3Ideal.Read.val_main_v211 (F := Ideal) (m' ((c : Thread Cert.Reference3Ideal.nD Cert.Reference3Ideal.τ).loc Cert.Reference3Ideal.main_arg0))
      (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2)) = _
    rw [h0, h1, h2]
    exact Cert.ProjRef.k0_eq _ _ _
  · rw [Cert.Reference3Ideal.Read.val_main_v212_eq]
    show Cert.Reference3Ideal.Read.val_main_v212 (F := Ideal) (m' ((c : Thread Cert.Reference3Ideal.nD Cert.Reference3Ideal.τ).loc Cert.Reference3Ideal.main_arg0))
      (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2)) = _
    rw [h0, h1, h2]
    exact Cert.ProjRef.v0_eq _ _ _
  · rw [Cert.Reference3Ideal.Read.val_main_v213_eq]
    show Cert.Reference3Ideal.Read.val_main_v213 (F := Ideal) (m' ((c : Thread Cert.Reference3Ideal.nD Cert.Reference3Ideal.τ).loc Cert.Reference3Ideal.main_arg0))
      (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2)) = _
    rw [h0, h1, h2]
    exact Cert.ProjRef.q1_eq _ _ _
  · rw [Cert.Reference3Ideal.Read.val_main_v214_eq]
    show Cert.Reference3Ideal.Read.val_main_v214 (F := Ideal) (m' ((c : Thread Cert.Reference3Ideal.nD Cert.Reference3Ideal.τ).loc Cert.Reference3Ideal.main_arg0))
      (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2)) = _
    rw [h0, h1, h2]
    exact Cert.ProjRef.k1_eq _ _ _
  · rw [Cert.Reference3Ideal.Read.val_main_v215_eq]
    show Cert.Reference3Ideal.Read.val_main_v215 (F := Ideal) (m' ((c : Thread Cert.Reference3Ideal.nD Cert.Reference3Ideal.τ).loc Cert.Reference3Ideal.main_arg0))
      (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2)) = _
    rw [h0, h1, h2]
    exact Cert.ProjRef.v1_eq _ _ _
  · rw [Cert.Reference3Ideal.Read.val_main_v216_eq]
    show Cert.Reference3Ideal.Read.val_main_v216 (F := Ideal) (m' ((c : Thread Cert.Reference3Ideal.nD Cert.Reference3Ideal.τ).loc Cert.Reference3Ideal.main_arg0))
      (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2)) = _
    rw [h0, h1, h2]
    exact Cert.ProjRef.q2_eq _ _ _
  · rw [Cert.Reference3Ideal.Read.val_main_v217_eq]
    show Cert.Reference3Ideal.Read.val_main_v217 (F := Ideal) (m' ((c : Thread Cert.Reference3Ideal.nD Cert.Reference3Ideal.τ).loc Cert.Reference3Ideal.main_arg0))
      (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2)) = _
    rw [h0, h1, h2]
    exact Cert.ProjRef.k2_eq _ _ _
  · rw [Cert.Reference3Ideal.Read.val_main_v218_eq]
    show Cert.Reference3Ideal.Read.val_main_v218 (F := Ideal) (m' ((c : Thread Cert.Reference3Ideal.nD Cert.Reference3Ideal.τ).loc Cert.Reference3Ideal.main_arg0))
      (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2)) = _
    rw [h0, h1, h2]
    exact Cert.ProjRef.v2_eq _ _ _
  · rw [Cert.Reference3Ideal.Read.val_main_v219_eq]
    show Cert.Reference3Ideal.Read.val_main_v219 (F := Ideal) (m' ((c : Thread Cert.Reference3Ideal.nD Cert.Reference3Ideal.τ).loc Cert.Reference3Ideal.main_arg0))
      (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2)) = _
    rw [h0, h1, h2]
    exact Cert.ProjRef.gates_eq _ _ _

end Cert.ProjClaim

end
-- ==== Proof.lean ====
/- The certificate's claim from its parts: the banded attention's claims (`AttnClaim`), the output part's (`PostClaim`) and the input
   part's (`ProjClaim`). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.AttnClaim
public import proofs.«01_k».proof.Proof.PostClaim
public import proofs.«01_k».proof.Proof.ProjClaim

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.AttnClaim.factsPre,
  Cert.AttnClaim.frame_p, Cert.AttnClaim.frame_pi, fun m ρ _ => Cert.AttnClaim.frame_pi m ρ trivial,
  Cert.AttnClaim.frame_ri, fun m ρ _ => Cert.AttnClaim.frame_ri m ρ trivial,
  Cert.PostClaim.frame_p, Cert.PostClaim.frame_pi, Cert.PostClaim.frame_ri,
  Cert.ProjClaim.frame_p, Cert.ProjClaim.frame_pi, Cert.ProjClaim.frame_ri,
  Cert.AttnClaim.preserves, Cert.AttnClaim.equal, Cert.PostClaim.preserves, Cert.PostClaim.equal,
  Cert.ProjClaim.preserves, Cert.ProjClaim.equal⟩

end Cert.Proof

end
